-- ==== Defs.lean ====
def Pre_InxBwd (m : (ℓ : Loc Cert.InxBwd.nD Cert.InxBwd.τ Cert.InxBwd.sig) → Buf (Elt Bits) ℓ) : Prop :=
  True

def Pre_InxBwdIdeal (m : (ℓ : Loc Cert.InxBwdIdeal.nD Cert.InxBwdIdeal.τ Cert.InxBwdIdeal.sig) → Buf (Elt Ideal) ℓ) : Prop :=
  True

def Pre_InxBwdIdeal_inx_finite [hPre_inx_finite : Cert.Pre_inx_finite.Facts] (m : (ℓ : Loc Cert.InxBwdIdeal.nD Cert.InxBwdIdeal.τ Cert.InxBwdIdeal.sig) → Buf (Elt Ideal) ℓ) : Prop :=
  ∀ c : Dev Cert.InxBwdIdeal.nD,
    (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.2.2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.2.2.2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.2.2.2.2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.2.2.2.2.2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.2.2.2.2.2.2.1 = (fun _ => 1#1)
    ∧ (Cert.Pre_inx_finite.fn (F := Ideal) (m ((c.tc : Thread Cert.InxBwdIdeal.nD Cert.InxBwdIdeal.τ).loc Cert.InxBwdIdeal.main_arg0)) (m ((c.tc : Thread Cert.InxBwdIdeal.nD Cert.InxBwdIdeal.τ).loc Cert.InxBwdIdeal.main_arg1)) (m ((c.tc : Thread Cert.InxBwdIdeal.nD Cert.InxBwdIdeal.τ).loc Cert.InxBwdIdeal.main_arg2)) (m ((c.tc : Thread Cert.InxBwdIdeal.nD Cert.InxBwdIdeal.τ).loc Cert.InxBwdIdeal.main_arg3)) (m ((c.tc : Thread Cert.InxBwdIdeal.nD Cert.InxBwdIdeal.τ).loc Cert.InxBwdIdeal.main_arg4)) (m ((c.tc : Thread Cert.InxBwdIdeal.nD Cert.InxBwdIdeal.τ).loc Cert.InxBwdIdeal.main_arg5)) (m ((c.tc : Thread Cert.InxBwdIdeal.nD Cert.InxBwdIdeal.τ).loc Cert.InxBwdIdeal.main_arg6)) (m ((c.tc : Thread Cert.InxBwdIdeal.nD Cert.InxBwdIdeal.τ).loc Cert.InxBwdIdeal.main_arg7)) (m ((c.tc : Thread Cert.InxBwdIdeal.nD Cert.InxBwdIdeal.τ).loc Cert.InxBwdIdeal.main_arg8)) (m ((c.tc : Thread Cert.InxBwdIdeal.nD Cert.InxBwdIdeal.τ).loc Cert.InxBwdIdeal.main_arg9)) (m ((c.tc : Thread Cert.InxBwdIdeal.nD Cert.InxBwdIdeal.τ).loc Cert.InxBwdIdeal.main_arg10))).2.2.2.2.2.2.2.2.2 = (fun _ => 1#1)

def Pre_InxRefIdeal (m : (ℓ : Loc Cert.InxRefIdeal.nD Cert.InxRefIdeal.τ Cert.InxRefIdeal.sig) → Buf (Elt Ideal) ℓ) : Prop :=
  True

def Pre_InxRefIdeal_inx_finite [hPre_inx_finite : Cert.Pre_inx_finite.Facts] (m : (ℓ : Loc Cert.InxRefIdeal.nD Cert.InxRefIdeal.τ Cert.InxRefIdeal.sig) → Buf (Elt Ideal) ℓ) : Prop :=
  ∀ c : Dev Cert.InxRefIdeal.nD,
    (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.2.2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.2.2.2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.2.2.2.2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.2.2.2.2.2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.2.2.2.2.2.2.1 = (fun _ => 1#1)
    ∧ (Cert.Pre_inx_finite.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7)) (m ((c.tc : Thread Cert.InxRefIdeal.nD Cert.InxRefIdeal.τ).loc Cert.InxRefIdeal.main_arg8)) (m ((c.tc : Thread Cert.InxRefIdeal.nD Cert.InxRefIdeal.τ).loc Cert.InxRefIdeal.main_arg9)) (m ((c.tc : Thread Cert.InxRefIdeal.nD Cert.InxRefIdeal.τ).loc Cert.InxRefIdeal.main_arg10))).2.2.2.2.2.2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_mla_finite [hPre_mla_finite : Cert.Pre_mla_finite.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.2.2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9)) (m ((c.tc : Thread Cert.MlaBwdIdeal.nD Cert.MlaBwdIdeal.τ).loc Cert.MlaBwdIdeal.main_arg10)) (m ((c.tc : Thread Cert.MlaBwdIdeal.nD Cert.MlaBwdIdeal.τ).loc Cert.MlaBwdIdeal.main_arg11))).2.2.2.2.2.2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.2.2.2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10)) (m ((c.tc : Thread Cert.MlaRefIdeal.nD Cert.MlaRefIdeal.τ).loc Cert.MlaRefIdeal.main_arg11))).2.2.2.2.2.2.2.2.2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_finite [hPre_pool_finite : Cert.Pre_pool_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.2.1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_finite [hPre_tail_finite : Cert.Pre_tail_finite.Facts] (m : (ℓ : Loc Cert.TailIdeal.nD Cert.TailIdeal.τ Cert.TailIdeal.sig) → Buf (Elt Ideal) ℓ) : Prop :=
  ∀ c : Dev Cert.TailIdeal.nD,
    (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))).2.2.2.2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_tail_finite [hPre_tail_finite : Cert.Pre_tail_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9))).2.2.2.2.2.2.2.2.2 = (fun _ => 1#1)

def quiescent_InxBwd [hInxBwd : Cert.InxBwd.Facts] : Prop :=
  ∀ (m : (ℓ : Loc Cert.InxBwd.nD Cert.InxBwd.τ Cert.InxBwd.sig) → Buf (Elt Bits) ℓ) (g : Dev Cert.InxBwd.nD → PrngReg), Pre_InxBwd m →
    θ_run (Cert.InxBwd.defs (F := Bits)) (onTc (τ := Cert.InxBwd.τ) (Cert.InxBwd.main (F := Bits))) ⟨m, fun _ => 0, g⟩ (fun r => (∀ c : Dev Cert.InxBwd.nD,
      r.2.mem ((c.tc : Thread Cert.InxBwd.nD Cert.InxBwd.τ).loc Cert.InxBwd.main_arg0) = m ((c.tc : Thread Cert.InxBwd.nD Cert.InxBwd.τ).loc Cert.InxBwd.main_arg0)
      ∧ r.2.mem ((c.tc : Thread Cert.InxBwd.nD Cert.InxBwd.τ).loc Cert.InxBwd.main_arg1) = m ((c.tc : Thread Cert.InxBwd.nD Cert.InxBwd.τ).loc Cert.InxBwd.main_arg1)
      ∧ r.2.mem ((c.tc : Thread Cert.InxBwd.nD Cert.InxBwd.τ).loc Cert.InxBwd.main_arg2) = m ((c.tc : Thread Cert.InxBwd.nD Cert.InxBwd.τ).loc Cert.InxBwd.main_arg2)
      ∧ r.2.mem ((c.tc : Thread Cert.InxBwd.nD Cert.InxBwd.τ).loc Cert.InxBwd.main_arg3) = m ((c.tc : Thread Cert.InxBwd.nD Cert.InxBwd.τ).loc Cert.InxBwd.main_arg3)
      ∧ r.2.mem ((c.tc : Thread Cert.InxBwd.nD Cert.InxBwd.τ).loc Cert.InxBwd.main_arg4) = m ((c.tc : Thread Cert.InxBwd.nD Cert.InxBwd.τ).loc Cert.InxBwd.main_arg4)
      ∧ r.2.mem ((c.tc : Thread Cert.InxBwd.nD Cert.InxBwd.τ).loc Cert.InxBwd.main_arg5) = m ((c.tc : Thread Cert.InxBwd.nD Cert.InxBwd.τ).loc Cert.InxBwd.main_arg5)
      ∧ r.2.mem ((c.tc : Thread Cert.InxBwd.nD Cert.InxBwd.τ).loc Cert.InxBwd.main_arg6) = m ((c.tc : Thread Cert.InxBwd.nD Cert.InxBwd.τ).loc Cert.InxBwd.main_arg6)
      ∧ r.2.mem ((c.tc : Thread Cert.InxBwd.nD Cert.InxBwd.τ).loc Cert.InxBwd.main_arg7) = m ((c.tc : Thread Cert.InxBwd.nD Cert.InxBwd.τ).loc Cert.InxBwd.main_arg7)
      ∧ r.2.mem ((c.tc : Thread Cert.InxBwd.nD Cert.InxBwd.τ).loc Cert.InxBwd.main_arg8) = m ((c.tc : Thread Cert.InxBwd.nD Cert.InxBwd.τ).loc Cert.InxBwd.main_arg8)
      ∧ r.2.mem ((c.tc : Thread Cert.InxBwd.nD Cert.InxBwd.τ).loc Cert.InxBwd.main_arg9) = m ((c.tc : Thread Cert.InxBwd.nD Cert.InxBwd.τ).loc Cert.InxBwd.main_arg9)
      ∧ r.2.mem ((c.tc : Thread Cert.InxBwd.nD Cert.InxBwd.τ).loc Cert.InxBwd.main_arg10) = m ((c.tc : Thread Cert.InxBwd.nD Cert.InxBwd.τ).loc Cert.InxBwd.main_arg10))
      ∧ r.2.sem = fun _ => 0)

def quiescent_InxBwdIdeal [hInxBwdIdeal : Cert.InxBwdIdeal.Facts] : Prop :=
  ∀ (m : (ℓ : Loc Cert.InxBwdIdeal.nD Cert.InxBwdIdeal.τ Cert.InxBwdIdeal.sig) → Buf (Elt Ideal) ℓ) (g : Dev Cert.InxBwdIdeal.nD → PrngReg), Pre_InxBwdIdeal m →
    θ_run (Cert.InxBwdIdeal.defs (F := Ideal)) (onTc (τ := Cert.InxBwdIdeal.τ) (Cert.InxBwdIdeal.main (F := Ideal))) ⟨m, fun _ => 0, g⟩ (fun r => (∀ c : Dev Cert.InxBwdIdeal.nD,
      r.2.mem ((c.tc : Thread Cert.InxBwdIdeal.nD Cert.InxBwdIdeal.τ).loc Cert.InxBwdIdeal.main_arg0) = m ((c.tc : Thread Cert.InxBwdIdeal.nD Cert.InxBwdIdeal.τ).loc Cert.InxBwdIdeal.main_arg0)
      ∧ r.2.mem ((c.tc : Thread Cert.InxBwdIdeal.nD Cert.InxBwdIdeal.τ).loc Cert.InxBwdIdeal.main_arg1) = m ((c.tc : Thread Cert.InxBwdIdeal.nD Cert.InxBwdIdeal.τ).loc Cert.InxBwdIdeal.main_arg1)
      ∧ r.2.mem ((c.tc : Thread Cert.InxBwdIdeal.nD Cert.InxBwdIdeal.τ).loc Cert.InxBwdIdeal.main_arg2) = m ((c.tc : Thread Cert.InxBwdIdeal.nD Cert.InxBwdIdeal.τ).loc Cert.InxBwdIdeal.main_arg2)
      ∧ r.2.mem ((c.tc : Thread Cert.InxBwdIdeal.nD Cert.InxBwdIdeal.τ).loc Cert.InxBwdIdeal.main_arg3) = m ((c.tc : Thread Cert.InxBwdIdeal.nD Cert.InxBwdIdeal.τ).loc Cert.InxBwdIdeal.main_arg3)
      ∧ r.2.mem ((c.tc : Thread Cert.InxBwdIdeal.nD Cert.InxBwdIdeal.τ).loc Cert.InxBwdIdeal.main_arg4) = m ((c.tc : Thread Cert.InxBwdIdeal.nD Cert.InxBwdIdeal.τ).loc Cert.InxBwdIdeal.main_arg4)
      ∧ r.2.mem ((c.tc : Thread Cert.InxBwdIdeal.nD Cert.InxBwdIdeal.τ).loc Cert.InxBwdIdeal.main_arg5) = m ((c.tc : Thread Cert.InxBwdIdeal.nD Cert.InxBwdIdeal.τ).loc Cert.InxBwdIdeal.main_arg5)
      ∧ r.2.mem ((c.tc : Thread Cert.InxBwdIdeal.nD Cert.InxBwdIdeal.τ).loc Cert.InxBwdIdeal.main_arg6) = m ((c.tc : Thread Cert.InxBwdIdeal.nD Cert.InxBwdIdeal.τ).loc Cert.InxBwdIdeal.main_arg6)
      ∧ r.2.mem ((c.tc : Thread Cert.InxBwdIdeal.nD Cert.InxBwdIdeal.τ).loc Cert.InxBwdIdeal.main_arg7) = m ((c.tc : Thread Cert.InxBwdIdeal.nD Cert.InxBwdIdeal.τ).loc Cert.InxBwdIdeal.main_arg7)
      ∧ r.2.mem ((c.tc : Thread Cert.InxBwdIdeal.nD Cert.InxBwdIdeal.τ).loc Cert.InxBwdIdeal.main_arg8) = m ((c.tc : Thread Cert.InxBwdIdeal.nD Cert.InxBwdIdeal.τ).loc Cert.InxBwdIdeal.main_arg8)
      ∧ r.2.mem ((c.tc : Thread Cert.InxBwdIdeal.nD Cert.InxBwdIdeal.τ).loc Cert.InxBwdIdeal.main_arg9) = m ((c.tc : Thread Cert.InxBwdIdeal.nD Cert.InxBwdIdeal.τ).loc Cert.InxBwdIdeal.main_arg9)
      ∧ r.2.mem ((c.tc : Thread Cert.InxBwdIdeal.nD Cert.InxBwdIdeal.τ).loc Cert.InxBwdIdeal.main_arg10) = m ((c.tc : Thread Cert.InxBwdIdeal.nD Cert.InxBwdIdeal.τ).loc Cert.InxBwdIdeal.main_arg10))
      ∧ r.2.sem = fun _ => 0)

def quiescent_InxBwdIdeal_pre_inx_finite [hInxBwdIdeal : Cert.InxBwdIdeal.Facts] [hPre_inx_finite : Cert.Pre_inx_finite.Facts] : Prop :=
  ∀ (m : (ℓ : Loc Cert.InxBwdIdeal.nD Cert.InxBwdIdeal.τ Cert.InxBwdIdeal.sig) → Buf (Elt Ideal) ℓ) (g : Dev Cert.InxBwdIdeal.nD → PrngReg), Pre_InxBwdIdeal_inx_finite m →
    θ_run (Cert.InxBwdIdeal.defs (F := Ideal)) (onTc (τ := Cert.InxBwdIdeal.τ) (Cert.InxBwdIdeal.main (F := Ideal))) ⟨m, fun _ => 0, g⟩ (fun r => (∀ c : Dev Cert.InxBwdIdeal.nD,
      r.2.mem ((c.tc : Thread Cert.InxBwdIdeal.nD Cert.InxBwdIdeal.τ).loc Cert.InxBwdIdeal.main_arg0) = m ((c.tc : Thread Cert.InxBwdIdeal.nD Cert.InxBwdIdeal.τ).loc Cert.InxBwdIdeal.main_arg0)
      ∧ r.2.mem ((c.tc : Thread Cert.InxBwdIdeal.nD Cert.InxBwdIdeal.τ).loc Cert.InxBwdIdeal.main_arg1) = m ((c.tc : Thread Cert.InxBwdIdeal.nD Cert.InxBwdIdeal.τ).loc Cert.InxBwdIdeal.main_arg1)
      ∧ r.2.mem ((c.tc : Thread Cert.InxBwdIdeal.nD Cert.InxBwdIdeal.τ).loc Cert.InxBwdIdeal.main_arg2) = m ((c.tc : Thread Cert.InxBwdIdeal.nD Cert.InxBwdIdeal.τ).loc Cert.InxBwdIdeal.main_arg2)
      ∧ r.2.mem ((c.tc : Thread Cert.InxBwdIdeal.nD Cert.InxBwdIdeal.τ).loc Cert.InxBwdIdeal.main_arg3) = m ((c.tc : Thread Cert.InxBwdIdeal.nD Cert.InxBwdIdeal.τ).loc Cert.InxBwdIdeal.main_arg3)
      ∧ r.2.mem ((c.tc : Thread Cert.InxBwdIdeal.nD Cert.InxBwdIdeal.τ).loc Cert.InxBwdIdeal.main_arg4) = m ((c.tc : Thread Cert.InxBwdIdeal.nD Cert.InxBwdIdeal.τ).loc Cert.InxBwdIdeal.main_arg4)
      ∧ r.2.mem ((c.tc : Thread Cert.InxBwdIdeal.nD Cert.InxBwdIdeal.τ).loc Cert.InxBwdIdeal.main_arg5) = m ((c.tc : Thread Cert.InxBwdIdeal.nD Cert.InxBwdIdeal.τ).loc Cert.InxBwdIdeal.main_arg5)
      ∧ r.2.mem ((c.tc : Thread Cert.InxBwdIdeal.nD Cert.InxBwdIdeal.τ).loc Cert.InxBwdIdeal.main_arg6) = m ((c.tc : Thread Cert.InxBwdIdeal.nD Cert.InxBwdIdeal.τ).loc Cert.InxBwdIdeal.main_arg6)
      ∧ r.2.mem ((c.tc : Thread Cert.InxBwdIdeal.nD Cert.InxBwdIdeal.τ).loc Cert.InxBwdIdeal.main_arg7) = m ((c.tc : Thread Cert.InxBwdIdeal.nD Cert.InxBwdIdeal.τ).loc Cert.InxBwdIdeal.main_arg7)
      ∧ r.2.mem ((c.tc : Thread Cert.InxBwdIdeal.nD Cert.InxBwdIdeal.τ).loc Cert.InxBwdIdeal.main_arg8) = m ((c.tc : Thread Cert.InxBwdIdeal.nD Cert.InxBwdIdeal.τ).loc Cert.InxBwdIdeal.main_arg8)
      ∧ r.2.mem ((c.tc : Thread Cert.InxBwdIdeal.nD Cert.InxBwdIdeal.τ).loc Cert.InxBwdIdeal.main_arg9) = m ((c.tc : Thread Cert.InxBwdIdeal.nD Cert.InxBwdIdeal.τ).loc Cert.InxBwdIdeal.main_arg9)
      ∧ r.2.mem ((c.tc : Thread Cert.InxBwdIdeal.nD Cert.InxBwdIdeal.τ).loc Cert.InxBwdIdeal.main_arg10) = m ((c.tc : Thread Cert.InxBwdIdeal.nD Cert.InxBwdIdeal.τ).loc Cert.InxBwdIdeal.main_arg10))
      ∧ r.2.sem = fun _ => 0)

def quiescent_InxRefIdeal [hInxRefIdeal : Cert.InxRefIdeal.Facts] : Prop :=
  ∀ (m : (ℓ : Loc Cert.InxRefIdeal.nD Cert.InxRefIdeal.τ Cert.InxRefIdeal.sig) → Buf (Elt Ideal) ℓ) (g : Dev Cert.InxRefIdeal.nD → PrngReg), Pre_InxRefIdeal m →
    θ_run (Cert.InxRefIdeal.defs (F := Ideal)) (onTc (τ := Cert.InxRefIdeal.τ) (Cert.InxRefIdeal.main (F := Ideal))) ⟨m, fun _ => 0, g⟩ (fun r => (∀ c : Dev Cert.InxRefIdeal.nD,
      r.2.mem ((c.tc : Thread Cert.InxRefIdeal.nD Cert.InxRefIdeal.τ).loc Cert.InxRefIdeal.main_arg0) = m ((c.tc : Thread Cert.InxRefIdeal.nD Cert.InxRefIdeal.τ).loc Cert.InxRefIdeal.main_arg0)
      ∧ r.2.mem ((c.tc : Thread Cert.InxRefIdeal.nD Cert.InxRefIdeal.τ).loc Cert.InxRefIdeal.main_arg1) = m ((c.tc : Thread Cert.InxRefIdeal.nD Cert.InxRefIdeal.τ).loc Cert.InxRefIdeal.main_arg1)
      ∧ r.2.mem ((c.tc : Thread Cert.InxRefIdeal.nD Cert.InxRefIdeal.τ).loc Cert.InxRefIdeal.main_arg2) = m ((c.tc : Thread Cert.InxRefIdeal.nD Cert.InxRefIdeal.τ).loc Cert.InxRefIdeal.main_arg2)
      ∧ r.2.mem ((c.tc : Thread Cert.InxRefIdeal.nD Cert.InxRefIdeal.τ).loc Cert.InxRefIdeal.main_arg3) = m ((c.tc : Thread Cert.InxRefIdeal.nD Cert.InxRefIdeal.τ).loc Cert.InxRefIdeal.main_arg3)
      ∧ r.2.mem ((c.tc : Thread Cert.InxRefIdeal.nD Cert.InxRefIdeal.τ).loc Cert.InxRefIdeal.main_arg4) = m ((c.tc : Thread Cert.InxRefIdeal.nD Cert.InxRefIdeal.τ).loc Cert.InxRefIdeal.main_arg4)
      ∧ r.2.mem ((c.tc : Thread Cert.InxRefIdeal.nD Cert.InxRefIdeal.τ).loc Cert.InxRefIdeal.main_arg5) = m ((c.tc : Thread Cert.InxRefIdeal.nD Cert.InxRefIdeal.τ).loc Cert.InxRefIdeal.main_arg5)
      ∧ r.2.mem ((c.tc : Thread Cert.InxRefIdeal.nD Cert.InxRefIdeal.τ).loc Cert.InxRefIdeal.main_arg6) = m ((c.tc : Thread Cert.InxRefIdeal.nD Cert.InxRefIdeal.τ).loc Cert.InxRefIdeal.main_arg6)
      ∧ r.2.mem ((c.tc : Thread Cert.InxRefIdeal.nD Cert.InxRefIdeal.τ).loc Cert.InxRefIdeal.main_arg7) = m ((c.tc : Thread Cert.InxRefIdeal.nD Cert.InxRefIdeal.τ).loc Cert.InxRefIdeal.main_arg7)
      ∧ r.2.mem ((c.tc : Thread Cert.InxRefIdeal.nD Cert.InxRefIdeal.τ).loc Cert.InxRefIdeal.main_arg8) = m ((c.tc : Thread Cert.InxRefIdeal.nD Cert.InxRefIdeal.τ).loc Cert.InxRefIdeal.main_arg8)
      ∧ r.2.mem ((c.tc : Thread Cert.InxRefIdeal.nD Cert.InxRefIdeal.τ).loc Cert.InxRefIdeal.main_arg9) = m ((c.tc : Thread Cert.InxRefIdeal.nD Cert.InxRefIdeal.τ).loc Cert.InxRefIdeal.main_arg9)
      ∧ r.2.mem ((c.tc : Thread Cert.InxRefIdeal.nD Cert.InxRefIdeal.τ).loc Cert.InxRefIdeal.main_arg10) = m ((c.tc : Thread Cert.InxRefIdeal.nD Cert.InxRefIdeal.τ).loc Cert.InxRefIdeal.main_arg10))
      ∧ r.2.sem = fun _ => 0)

def quiescent_InxRefIdeal_pre_inx_finite [hInxRefIdeal : Cert.InxRefIdeal.Facts] [hPre_inx_finite : Cert.Pre_inx_finite.Facts] : Prop :=
  ∀ (m : (ℓ : Loc Cert.InxRefIdeal.nD Cert.InxRefIdeal.τ Cert.InxRefIdeal.sig) → Buf (Elt Ideal) ℓ) (g : Dev Cert.InxRefIdeal.nD → PrngReg), Pre_InxRefIdeal_inx_finite m →
    θ_run (Cert.InxRefIdeal.defs (F := Ideal)) (onTc (τ := Cert.InxRefIdeal.τ) (Cert.InxRefIdeal.main (F := Ideal))) ⟨m, fun _ => 0, g⟩ (fun r => (∀ c : Dev Cert.InxRefIdeal.nD,
      r.2.mem ((c.tc : Thread Cert.InxRefIdeal.nD Cert.InxRefIdeal.τ).loc Cert.InxRefIdeal.main_arg0) = m ((c.tc : Thread Cert.InxRefIdeal.nD Cert.InxRefIdeal.τ).loc Cert.InxRefIdeal.main_arg0)
      ∧ r.2.mem ((c.tc : Thread Cert.InxRefIdeal.nD Cert.InxRefIdeal.τ).loc Cert.InxRefIdeal.main_arg1) = m ((c.tc : Thread Cert.InxRefIdeal.nD Cert.InxRefIdeal.τ).loc Cert.InxRefIdeal.main_arg1)
      ∧ r.2.mem ((c.tc : Thread Cert.InxRefIdeal.nD Cert.InxRefIdeal.τ).loc Cert.InxRefIdeal.main_arg2) = m ((c.tc : Thread Cert.InxRefIdeal.nD Cert.InxRefIdeal.τ).loc Cert.InxRefIdeal.main_arg2)
      ∧ r.2.mem ((c.tc : Thread Cert.InxRefIdeal.nD Cert.InxRefIdeal.τ).loc Cert.InxRefIdeal.main_arg3) = m ((c.tc : Thread Cert.InxRefIdeal.nD Cert.InxRefIdeal.τ).loc Cert.InxRefIdeal.main_arg3)
      ∧ r.2.mem ((c.tc : Thread Cert.InxRefIdeal.nD Cert.InxRefIdeal.τ).loc Cert.InxRefIdeal.main_arg4) = m ((c.tc : Thread Cert.InxRefIdeal.nD Cert.InxRefIdeal.τ).loc Cert.InxRefIdeal.main_arg4)
      ∧ r.2.mem ((c.tc : Thread Cert.InxRefIdeal.nD Cert.InxRefIdeal.τ).loc Cert.InxRefIdeal.main_arg5) = m ((c.tc : Thread Cert.InxRefIdeal.nD Cert.InxRefIdeal.τ).loc Cert.InxRefIdeal.main_arg5)
      ∧ r.2.mem ((c.tc : Thread Cert.InxRefIdeal.nD Cert.InxRefIdeal.τ).loc Cert.InxRefIdeal.main_arg6) = m ((c.tc : Thread Cert.InxRefIdeal.nD Cert.InxRefIdeal.τ).loc Cert.InxRefIdeal.main_arg6)
      ∧ r.2.mem ((c.tc : Thread Cert.InxRefIdeal.nD Cert.InxRefIdeal.τ).loc Cert.InxRefIdeal.main_arg7) = m ((c.tc : Thread Cert.InxRefIdeal.nD Cert.InxRefIdeal.τ).loc Cert.InxRefIdeal.main_arg7)
      ∧ r.2.mem ((c.tc : Thread Cert.InxRefIdeal.nD Cert.InxRefIdeal.τ).loc Cert.InxRefIdeal.main_arg8) = m ((c.tc : Thread Cert.InxRefIdeal.nD Cert.InxRefIdeal.τ).loc Cert.InxRefIdeal.main_arg8)
      ∧ r.2.mem ((c.tc : Thread Cert.InxRefIdeal.nD Cert.InxRefIdeal.τ).loc Cert.InxRefIdeal.main_arg9) = m ((c.tc : Thread Cert.InxRefIdeal.nD Cert.InxRefIdeal.τ).loc Cert.InxRefIdeal.main_arg9)
      ∧ r.2.mem ((c.tc : Thread Cert.InxRefIdeal.nD Cert.InxRefIdeal.τ).loc Cert.InxRefIdeal.main_arg10) = m ((c.tc : Thread Cert.InxRefIdeal.nD Cert.InxRefIdeal.τ).loc Cert.InxRefIdeal.main_arg10))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5)
      ∧ r.2.mem ((c.tc : Thread Cert.MlaBwd.nD Cert.MlaBwd.τ).loc Cert.MlaBwd.main_arg6) = m ((c.tc : Thread Cert.MlaBwd.nD Cert.MlaBwd.τ).loc Cert.MlaBwd.main_arg6)
      ∧ r.2.mem ((c.tc : Thread Cert.MlaBwd.nD Cert.MlaBwd.τ).loc Cert.MlaBwd.main_arg7) = m ((c.tc : Thread Cert.MlaBwd.nD Cert.MlaBwd.τ).loc Cert.MlaBwd.main_arg7)
      ∧ r.2.mem ((c.tc : Thread Cert.MlaBwd.nD Cert.MlaBwd.τ).loc Cert.MlaBwd.main_arg8) = m ((c.tc : Thread Cert.MlaBwd.nD Cert.MlaBwd.τ).loc Cert.MlaBwd.main_arg8)
      ∧ r.2.mem ((c.tc : Thread Cert.MlaBwd.nD Cert.MlaBwd.τ).loc Cert.MlaBwd.main_arg9) = m ((c.tc : Thread Cert.MlaBwd.nD Cert.MlaBwd.τ).loc Cert.MlaBwd.main_arg9)
      ∧ r.2.mem ((c.tc : Thread Cert.MlaBwd.nD Cert.MlaBwd.τ).loc Cert.MlaBwd.main_arg10) = m ((c.tc : Thread Cert.MlaBwd.nD Cert.MlaBwd.τ).loc Cert.MlaBwd.main_arg10)
      ∧ r.2.mem ((c.tc : Thread Cert.MlaBwd.nD Cert.MlaBwd.τ).loc Cert.MlaBwd.main_arg11) = m ((c.tc : Thread Cert.MlaBwd.nD Cert.MlaBwd.τ).loc Cert.MlaBwd.main_arg11))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9)
      ∧ r.2.mem ((c.tc : Thread Cert.MlaBwdIdeal.nD Cert.MlaBwdIdeal.τ).loc Cert.MlaBwdIdeal.main_arg10) = m ((c.tc : Thread Cert.MlaBwdIdeal.nD Cert.MlaBwdIdeal.τ).loc Cert.MlaBwdIdeal.main_arg10)
      ∧ r.2.mem ((c.tc : Thread Cert.MlaBwdIdeal.nD Cert.MlaBwdIdeal.τ).loc Cert.MlaBwdIdeal.main_arg11) = m ((c.tc : Thread Cert.MlaBwdIdeal.nD Cert.MlaBwdIdeal.τ).loc Cert.MlaBwdIdeal.main_arg11))
      ∧ r.2.sem = fun _ => 0)

def quiescent_MlaBwdIdeal_pre_mla_finite [hMlaBwdIdeal : Cert.MlaBwdIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_mla_finite m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9)
      ∧ r.2.mem ((c.tc : Thread Cert.MlaBwdIdeal.nD Cert.MlaBwdIdeal.τ).loc Cert.MlaBwdIdeal.main_arg10) = m ((c.tc : Thread Cert.MlaBwdIdeal.nD Cert.MlaBwdIdeal.τ).loc Cert.MlaBwdIdeal.main_arg10)
      ∧ r.2.mem ((c.tc : Thread Cert.MlaBwdIdeal.nD Cert.MlaBwdIdeal.τ).loc Cert.MlaBwdIdeal.main_arg11) = m ((c.tc : Thread Cert.MlaBwdIdeal.nD Cert.MlaBwdIdeal.τ).loc Cert.MlaBwdIdeal.main_arg11))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10)
      ∧ r.2.mem ((c.tc : Thread Cert.MlaRefIdeal.nD Cert.MlaRefIdeal.τ).loc Cert.MlaRefIdeal.main_arg11) = m ((c.tc : Thread Cert.MlaRefIdeal.nD Cert.MlaRefIdeal.τ).loc Cert.MlaRefIdeal.main_arg11))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10)
      ∧ r.2.mem ((c.tc : Thread Cert.MlaRefIdeal.nD Cert.MlaRefIdeal.τ).loc Cert.MlaRefIdeal.main_arg11) = m ((c.tc : Thread Cert.MlaRefIdeal.nD Cert.MlaRefIdeal.τ).loc Cert.MlaRefIdeal.main_arg11))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdIdeal_pre_pool_finite [hPoolBwdIdeal : Cert.PoolBwdIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailIdeal_pre_tail_finite [hTailIdeal : Cert.TailIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_TailRefIdeal_pre_tail_finite [hTailRefIdeal : Cert.TailRefIdeal.Facts] [hPre_tail_finite : Cert.Pre_tail_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_tail_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def preserves_InxBwd_InxBwdIdeal : Prop :=
  True

def algebraic_InxBwdIdeal_InxRefIdeal_pre_inx_finite [hInxBwdIdeal : Cert.InxBwdIdeal.Facts] [hInxRefIdeal : Cert.InxRefIdeal.Facts] [hPre_inx_finite : Cert.Pre_inx_finite.Facts] : Prop :=
  ∀ (m : (ℓ : Loc Cert.InxBwdIdeal.nD Cert.InxBwdIdeal.τ Cert.InxBwdIdeal.sig) → Buf (Elt Ideal) ℓ) (g : Dev Cert.InxBwdIdeal.nD → PrngReg)
    (m' : (ℓ : Loc Cert.InxRefIdeal.nD Cert.InxRefIdeal.τ Cert.InxRefIdeal.sig) → Buf (Elt Ideal) ℓ) (g' : Dev Cert.InxRefIdeal.nD → PrngReg), Pre_InxBwdIdeal_inx_finite m →
    (∀ c : Dev Cert.InxBwdIdeal.nD,
      m' ((c.tc : Thread Cert.InxRefIdeal.nD Cert.InxRefIdeal.τ).loc Cert.InxRefIdeal.main_arg0) = m ((c.tc : Thread Cert.InxBwdIdeal.nD Cert.InxBwdIdeal.τ).loc Cert.InxBwdIdeal.main_arg0)
      ∧ m' ((c.tc : Thread Cert.InxRefIdeal.nD Cert.InxRefIdeal.τ).loc Cert.InxRefIdeal.main_arg1) = m ((c.tc : Thread Cert.InxBwdIdeal.nD Cert.InxBwdIdeal.τ).loc Cert.InxBwdIdeal.main_arg1)
      ∧ m' ((c.tc : Thread Cert.InxRefIdeal.nD Cert.InxRefIdeal.τ).loc Cert.InxRefIdeal.main_arg2) = m ((c.tc : Thread Cert.InxBwdIdeal.nD Cert.InxBwdIdeal.τ).loc Cert.InxBwdIdeal.main_arg2)
      ∧ m' ((c.tc : Thread Cert.InxRefIdeal.nD Cert.InxRefIdeal.τ).loc Cert.InxRefIdeal.main_arg3) = m ((c.tc : Thread Cert.InxBwdIdeal.nD Cert.InxBwdIdeal.τ).loc Cert.InxBwdIdeal.main_arg3)
      ∧ m' ((c.tc : Thread Cert.InxRefIdeal.nD Cert.InxRefIdeal.τ).loc Cert.InxRefIdeal.main_arg4) = m ((c.tc : Thread Cert.InxBwdIdeal.nD Cert.InxBwdIdeal.τ).loc Cert.InxBwdIdeal.main_arg4)
      ∧ m' ((c.tc : Thread Cert.InxRefIdeal.nD Cert.InxRefIdeal.τ).loc Cert.InxRefIdeal.main_arg5) = m ((c.tc : Thread Cert.InxBwdIdeal.nD Cert.InxBwdIdeal.τ).loc Cert.InxBwdIdeal.main_arg5)
      ∧ m' ((c.tc : Thread Cert.InxRefIdeal.nD Cert.InxRefIdeal.τ).loc Cert.InxRefIdeal.main_arg6) = m ((c.tc : Thread Cert.InxBwdIdeal.nD Cert.InxBwdIdeal.τ).loc Cert.InxBwdIdeal.main_arg6)
      ∧ m' ((c.tc : Thread Cert.InxRefIdeal.nD Cert.InxRefIdeal.τ).loc Cert.InxRefIdeal.main_arg7) = m ((c.tc : Thread Cert.InxBwdIdeal.nD Cert.InxBwdIdeal.τ).loc Cert.InxBwdIdeal.main_arg7)
      ∧ m' ((c.tc : Thread Cert.InxRefIdeal.nD Cert.InxRefIdeal.τ).loc Cert.InxRefIdeal.main_arg8) = m ((c.tc : Thread Cert.InxBwdIdeal.nD Cert.InxBwdIdeal.τ).loc Cert.InxBwdIdeal.main_arg8)
      ∧ m' ((c.tc : Thread Cert.InxRefIdeal.nD Cert.InxRefIdeal.τ).loc Cert.InxRefIdeal.main_arg9) = m ((c.tc : Thread Cert.InxBwdIdeal.nD Cert.InxBwdIdeal.τ).loc Cert.InxBwdIdeal.main_arg9)
      ∧ m' ((c.tc : Thread Cert.InxRefIdeal.nD Cert.InxRefIdeal.τ).loc Cert.InxRefIdeal.main_arg10) = m ((c.tc : Thread Cert.InxBwdIdeal.nD Cert.InxBwdIdeal.τ).loc Cert.InxBwdIdeal.main_arg10)) →
    ∃ (v0 : (c : Dev Cert.InxBwdIdeal.nD) → Buf (Elt Ideal) ((c.tc : Thread Cert.InxBwdIdeal.nD Cert.InxBwdIdeal.τ).loc Cert.InxBwdIdeal.main_v12_0)) (v1 : (c : Dev Cert.InxBwdIdeal.nD) → Buf (Elt Ideal) ((c.tc : Thread Cert.InxBwdIdeal.nD Cert.InxBwdIdeal.τ).loc Cert.InxBwdIdeal.main_v12_1)),
      θ_run (Cert.InxBwdIdeal.defs (F := Ideal)) (onTc (τ := Cert.InxBwdIdeal.τ) (Cert.InxBwdIdeal.main (F := Ideal))) ⟨m, fun _ => 0, g⟩ (fun r => ∀ c : Dev Cert.InxBwdIdeal.nD,
          r.2.mem ((c.tc : Thread Cert.InxBwdIdeal.nD Cert.InxBwdIdeal.τ).loc Cert.InxBwdIdeal.main_v12_0) = v0 c
          ∧ r.2.mem ((c.tc : Thread Cert.InxBwdIdeal.nD Cert.InxBwdIdeal.τ).loc Cert.InxBwdIdeal.main_v12_1) = v1 c
          ∧ r.2.mem ((c.tc : Thread Cert.InxBwdIdeal.nD Cert.InxBwdIdeal.τ).loc Cert.InxBwdIdeal.main_arg0) = m ((c.tc : Thread Cert.InxBwdIdeal.nD Cert.InxBwdIdeal.τ).loc Cert.InxBwdIdeal.main_arg0)
          ∧ r.2.mem ((c.tc : Thread Cert.InxBwdIdeal.nD Cert.InxBwdIdeal.τ).loc Cert.InxBwdIdeal.main_arg1) = m ((c.tc : Thread Cert.InxBwdIdeal.nD Cert.InxBwdIdeal.τ).loc Cert.InxBwdIdeal.main_arg1)
          ∧ r.2.mem ((c.tc : Thread Cert.InxBwdIdeal.nD Cert.InxBwdIdeal.τ).loc Cert.InxBwdIdeal.main_arg2) = m ((c.tc : Thread Cert.InxBwdIdeal.nD Cert.InxBwdIdeal.τ).loc Cert.InxBwdIdeal.main_arg2)
          ∧ r.2.mem ((c.tc : Thread Cert.InxBwdIdeal.nD Cert.InxBwdIdeal.τ).loc Cert.InxBwdIdeal.main_arg3) = m ((c.tc : Thread Cert.InxBwdIdeal.nD Cert.InxBwdIdeal.τ).loc Cert.InxBwdIdeal.main_arg3)
          ∧ r.2.mem ((c.tc : Thread Cert.InxBwdIdeal.nD Cert.InxBwdIdeal.τ).loc Cert.InxBwdIdeal.main_arg4) = m ((c.tc : Thread Cert.InxBwdIdeal.nD Cert.InxBwdIdeal.τ).loc Cert.InxBwdIdeal.main_arg4)
          ∧ r.2.mem ((c.tc : Thread Cert.InxBwdIdeal.nD Cert.InxBwdIdeal.τ).loc Cert.InxBwdIdeal.main_arg5) = m ((c.tc : Thread Cert.InxBwdIdeal.nD Cert.InxBwdIdeal.τ).loc Cert.InxBwdIdeal.main_arg5)
          ∧ r.2.mem ((c.tc : Thread Cert.InxBwdIdeal.nD Cert.InxBwdIdeal.τ).loc Cert.InxBwdIdeal.main_arg6) = m ((c.tc : Thread Cert.InxBwdIdeal.nD Cert.InxBwdIdeal.τ).loc Cert.InxBwdIdeal.main_arg6)
          ∧ r.2.mem ((c.tc : Thread Cert.InxBwdIdeal.nD Cert.InxBwdIdeal.τ).loc Cert.InxBwdIdeal.main_arg7) = m ((c.tc : Thread Cert.InxBwdIdeal.nD Cert.InxBwdIdeal.τ).loc Cert.InxBwdIdeal.main_arg7)
          ∧ r.2.mem ((c.tc : Thread Cert.InxBwdIdeal.nD Cert.InxBwdIdeal.τ).loc Cert.InxBwdIdeal.main_arg8) = m ((c.tc : Thread Cert.InxBwdIdeal.nD Cert.InxBwdIdeal.τ).loc Cert.InxBwdIdeal.main_arg8)
          ∧ r.2.mem ((c.tc : Thread Cert.InxBwdIdeal.nD Cert.InxBwdIdeal.τ).loc Cert.InxBwdIdeal.main_arg9) = m ((c.tc : Thread Cert.InxBwdIdeal.nD Cert.InxBwdIdeal.τ).loc Cert.InxBwdIdeal.main_arg9)
          ∧ r.2.mem ((c.tc : Thread Cert.InxBwdIdeal.nD Cert.InxBwdIdeal.τ).loc Cert.InxBwdIdeal.main_arg10) = m ((c.tc : Thread Cert.InxBwdIdeal.nD Cert.InxBwdIdeal.τ).loc Cert.InxBwdIdeal.main_arg10))
      ∧ θ_run (Cert.InxRefIdeal.defs (F := Ideal)) (onTc (τ := Cert.InxRefIdeal.τ) (Cert.InxRefIdeal.main (F := Ideal))) ⟨m', fun _ => 0, g'⟩ (fun r => ∀ c : Dev Cert.InxRefIdeal.nD,
          r.2.mem ((c.tc : Thread Cert.InxRefIdeal.nD Cert.InxRefIdeal.τ).loc Cert.InxRefIdeal.main_v63) = v0 c
          ∧ r.2.mem ((c.tc : Thread Cert.InxRefIdeal.nD Cert.InxRefIdeal.τ).loc Cert.InxRefIdeal.main_v64) = v1 c
          ∧ r.2.mem ((c.tc : Thread Cert.InxRefIdeal.nD Cert.InxRefIdeal.τ).loc Cert.InxRefIdeal.main_arg0) = m' ((c.tc : Thread Cert.InxRefIdeal.nD Cert.InxRefIdeal.τ).loc Cert.InxRefIdeal.main_arg0)
          ∧ r.2.mem ((c.tc : Thread Cert.InxRefIdeal.nD Cert.InxRefIdeal.τ).loc Cert.InxRefIdeal.main_arg1) = m' ((c.tc : Thread Cert.InxRefIdeal.nD Cert.InxRefIdeal.τ).loc Cert.InxRefIdeal.main_arg1)
          ∧ r.2.mem ((c.tc : Thread Cert.InxRefIdeal.nD Cert.InxRefIdeal.τ).loc Cert.InxRefIdeal.main_arg2) = m' ((c.tc : Thread Cert.InxRefIdeal.nD Cert.InxRefIdeal.τ).loc Cert.InxRefIdeal.main_arg2)
          ∧ r.2.mem ((c.tc : Thread Cert.InxRefIdeal.nD Cert.InxRefIdeal.τ).loc Cert.InxRefIdeal.main_arg3) = m' ((c.tc : Thread Cert.InxRefIdeal.nD Cert.InxRefIdeal.τ).loc Cert.InxRefIdeal.main_arg3)
          ∧ r.2.mem ((c.tc : Thread Cert.InxRefIdeal.nD Cert.InxRefIdeal.τ).loc Cert.InxRefIdeal.main_arg4) = m' ((c.tc : Thread Cert.InxRefIdeal.nD Cert.InxRefIdeal.τ).loc Cert.InxRefIdeal.main_arg4)
          ∧ r.2.mem ((c.tc : Thread Cert.InxRefIdeal.nD Cert.InxRefIdeal.τ).loc Cert.InxRefIdeal.main_arg5) = m' ((c.tc : Thread Cert.InxRefIdeal.nD Cert.InxRefIdeal.τ).loc Cert.InxRefIdeal.main_arg5)
          ∧ r.2.mem ((c.tc : Thread Cert.InxRefIdeal.nD Cert.InxRefIdeal.τ).loc Cert.InxRefIdeal.main_arg6) = m' ((c.tc : Thread Cert.InxRefIdeal.nD Cert.InxRefIdeal.τ).loc Cert.InxRefIdeal.main_arg6)
          ∧ r.2.mem ((c.tc : Thread Cert.InxRefIdeal.nD Cert.InxRefIdeal.τ).loc Cert.InxRefIdeal.main_arg7) = m' ((c.tc : Thread Cert.InxRefIdeal.nD Cert.InxRefIdeal.τ).loc Cert.InxRefIdeal.main_arg7)
          ∧ r.2.mem ((c.tc : Thread Cert.InxRefIdeal.nD Cert.InxRefIdeal.τ).loc Cert.InxRefIdeal.main_arg8) = m' ((c.tc : Thread Cert.InxRefIdeal.nD Cert.InxRefIdeal.τ).loc Cert.InxRefIdeal.main_arg8)
          ∧ r.2.mem ((c.tc : Thread Cert.InxRefIdeal.nD Cert.InxRefIdeal.τ).loc Cert.InxRefIdeal.main_arg9) = m' ((c.tc : Thread Cert.InxRefIdeal.nD Cert.InxRefIdeal.τ).loc Cert.InxRefIdeal.main_arg9)
          ∧ r.2.mem ((c.tc : Thread Cert.InxRefIdeal.nD Cert.InxRefIdeal.τ).loc Cert.InxRefIdeal.main_arg10) = m' ((c.tc : Thread Cert.InxRefIdeal.nD Cert.InxRefIdeal.τ).loc Cert.InxRefIdeal.main_arg10))

def preserves_AttnBwd_AttnBwdIdeal : Prop :=
  IdealRules.named_const.Statement Cert.AttnBwdIdeal.κ "ln2" .f32 0x3F317218#32 ((Real.log 2 : ℝ) : EReal)

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)
      ∧ m' ((c.tc : Thread Cert.AttnRefIdeal.nD Cert.AttnRefIdeal.τ).loc Cert.AttnRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v54_0)) (v1 : (c : Dev Cert.AttnBwdIdeal.nD) → Buf (Elt Ideal) ((c.tc : Thread Cert.AttnBwdIdeal.nD Cert.AttnBwdIdeal.τ).loc Cert.AttnBwdIdeal.main_v54_1)) (v2 : (c : Dev Cert.AttnBwdIdeal.nD) → Buf (Elt Ideal) ((c.tc : Thread Cert.AttnBwdIdeal.nD Cert.AttnBwdIdeal.τ).loc Cert.AttnBwdIdeal.main_v54_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v54_0) = v0 c
          ∧ r.2.mem ((c.tc : Thread Cert.AttnBwdIdeal.nD Cert.AttnBwdIdeal.τ).loc Cert.AttnBwdIdeal.main_v54_1) = v1 c
          ∧ r.2.mem ((c.tc : Thread Cert.AttnBwdIdeal.nD Cert.AttnBwdIdeal.τ).loc Cert.AttnBwdIdeal.main_v54_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v82) = v0 c
          ∧ r.2.mem ((c.tc : Thread Cert.AttnRefIdeal.nD Cert.AttnRefIdeal.τ).loc Cert.AttnRefIdeal.main_v83) = v1 c
          ∧ r.2.mem ((c.tc : Thread Cert.AttnRefIdeal.nD Cert.AttnRefIdeal.τ).loc Cert.AttnRefIdeal.main_v81) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_MlaBwd_MlaBwdIdeal : Prop :=
  True

def algebraic_MlaBwdIdeal_MlaRefIdeal_pre_mla_finite [hMlaBwdIdeal : Cert.MlaBwdIdeal.Facts] [hMlaRefIdeal : Cert.MlaRefIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaBwdIdeal_mla_finite m →
    (∀ c : Dev Cert.MlaBwdIdeal.nD,
      m' ((c.tc : Thread Cert.MlaRefIdeal.nD Cert.MlaRefIdeal.τ).loc Cert.MlaRefIdeal.main_arg0) = m ((c.tc : Thread Cert.MlaBwdIdeal.nD Cert.MlaBwdIdeal.τ).loc Cert.MlaBwdIdeal.main_arg0)
      ∧ m' ((c.tc : Thread Cert.MlaRefIdeal.nD Cert.MlaRefIdeal.τ).loc Cert.MlaRefIdeal.main_arg1) = m ((c.tc : Thread Cert.MlaBwdIdeal.nD Cert.MlaBwdIdeal.τ).loc Cert.MlaBwdIdeal.main_arg1)
      ∧ m' ((c.tc : Thread Cert.MlaRefIdeal.nD Cert.MlaRefIdeal.τ).loc Cert.MlaRefIdeal.main_arg2) = m ((c.tc : Thread Cert.MlaBwdIdeal.nD Cert.MlaBwdIdeal.τ).loc Cert.MlaBwdIdeal.main_arg2)
      ∧ m' ((c.tc : Thread Cert.MlaRefIdeal.nD Cert.MlaRefIdeal.τ).loc Cert.MlaRefIdeal.main_arg3) = m ((c.tc : Thread Cert.MlaBwdIdeal.nD Cert.MlaBwdIdeal.τ).loc Cert.MlaBwdIdeal.main_arg3)
      ∧ m' ((c.tc : Thread Cert.MlaRefIdeal.nD Cert.MlaRefIdeal.τ).loc Cert.MlaRefIdeal.main_arg4) = m ((c.tc : Thread Cert.MlaBwdIdeal.nD Cert.MlaBwdIdeal.τ).loc Cert.MlaBwdIdeal.main_arg4)
      ∧ m' ((c.tc : Thread Cert.MlaRefIdeal.nD Cert.MlaRefIdeal.τ).loc Cert.MlaRefIdeal.main_arg5) = m ((c.tc : Thread Cert.MlaBwdIdeal.nD Cert.MlaBwdIdeal.τ).loc Cert.MlaBwdIdeal.main_arg5)
      ∧ m' ((c.tc : Thread Cert.MlaRefIdeal.nD Cert.MlaRefIdeal.τ).loc Cert.MlaRefIdeal.main_arg6) = m ((c.tc : Thread Cert.MlaBwdIdeal.nD Cert.MlaBwdIdeal.τ).loc Cert.MlaBwdIdeal.main_arg6)
      ∧ m' ((c.tc : Thread Cert.MlaRefIdeal.nD Cert.MlaRefIdeal.τ).loc Cert.MlaRefIdeal.main_arg7) = m ((c.tc : Thread Cert.MlaBwdIdeal.nD Cert.MlaBwdIdeal.τ).loc Cert.MlaBwdIdeal.main_arg7)
      ∧ m' ((c.tc : Thread Cert.MlaRefIdeal.nD Cert.MlaRefIdeal.τ).loc Cert.MlaRefIdeal.main_arg8) = m ((c.tc : Thread Cert.MlaBwdIdeal.nD Cert.MlaBwdIdeal.τ).loc Cert.MlaBwdIdeal.main_arg8)
      ∧ m' ((c.tc : Thread Cert.MlaRefIdeal.nD Cert.MlaRefIdeal.τ).loc Cert.MlaRefIdeal.main_arg9) = m ((c.tc : Thread Cert.MlaBwdIdeal.nD Cert.MlaBwdIdeal.τ).loc Cert.MlaBwdIdeal.main_arg9)
      ∧ m' ((c.tc : Thread Cert.MlaRefIdeal.nD Cert.MlaRefIdeal.τ).loc Cert.MlaRefIdeal.main_arg10) = m ((c.tc : Thread Cert.MlaBwdIdeal.nD Cert.MlaBwdIdeal.τ).loc Cert.MlaBwdIdeal.main_arg10)
      ∧ m' ((c.tc : Thread Cert.MlaRefIdeal.nD Cert.MlaRefIdeal.τ).loc Cert.MlaRefIdeal.main_arg11) = m ((c.tc : Thread Cert.MlaBwdIdeal.nD Cert.MlaBwdIdeal.τ).loc Cert.MlaBwdIdeal.main_arg11)) →
    ∃ (v0 : (c : Dev Cert.MlaBwdIdeal.nD) → Buf (Elt Ideal) ((c.tc : Thread Cert.MlaBwdIdeal.nD Cert.MlaBwdIdeal.τ).loc Cert.MlaBwdIdeal.main_v44_0)) (v1 : (c : Dev Cert.MlaBwdIdeal.nD) → Buf (Elt Ideal) ((c.tc : Thread Cert.MlaBwdIdeal.nD Cert.MlaBwdIdeal.τ).loc Cert.MlaBwdIdeal.main_v44_1)) (v2 : (c : Dev Cert.MlaBwdIdeal.nD) → Buf (Elt Ideal) ((c.tc : Thread Cert.MlaBwdIdeal.nD Cert.MlaBwdIdeal.τ).loc Cert.MlaBwdIdeal.main_v44_2)) (v3 : (c : Dev Cert.MlaBwdIdeal.nD) → Buf (Elt Ideal) ((c.tc : Thread Cert.MlaBwdIdeal.nD Cert.MlaBwdIdeal.τ).loc Cert.MlaBwdIdeal.main_v44_3)) (v4 : (c : Dev Cert.MlaBwdIdeal.nD) → Buf (Elt Ideal) ((c.tc : Thread Cert.MlaBwdIdeal.nD Cert.MlaBwdIdeal.τ).loc Cert.MlaBwdIdeal.main_v44_4)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v44_0) = v0 c
          ∧ r.2.mem ((c.tc : Thread Cert.MlaBwdIdeal.nD Cert.MlaBwdIdeal.τ).loc Cert.MlaBwdIdeal.main_v44_1) = v1 c
          ∧ r.2.mem ((c.tc : Thread Cert.MlaBwdIdeal.nD Cert.MlaBwdIdeal.τ).loc Cert.MlaBwdIdeal.main_v44_2) = v2 c
          ∧ r.2.mem ((c.tc : Thread Cert.MlaBwdIdeal.nD Cert.MlaBwdIdeal.τ).loc Cert.MlaBwdIdeal.main_v44_3) = v3 c
          ∧ r.2.mem ((c.tc : Thread Cert.MlaBwdIdeal.nD Cert.MlaBwdIdeal.τ).loc Cert.MlaBwdIdeal.main_v44_4) = v4 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
          ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
          ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
          ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
          ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
          ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9)
          ∧ r.2.mem ((c.tc : Thread Cert.MlaBwdIdeal.nD Cert.MlaBwdIdeal.τ).loc Cert.MlaBwdIdeal.main_arg10) = m ((c.tc : Thread Cert.MlaBwdIdeal.nD Cert.MlaBwdIdeal.τ).loc Cert.MlaBwdIdeal.main_arg10)
          ∧ r.2.mem ((c.tc : Thread Cert.MlaBwdIdeal.nD Cert.MlaBwdIdeal.τ).loc Cert.MlaBwdIdeal.main_arg11) = m ((c.tc : Thread Cert.MlaBwdIdeal.nD Cert.MlaBwdIdeal.τ).loc Cert.MlaBwdIdeal.main_arg11))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v179) = v0 c
          ∧ r.2.mem ((c.tc : Thread Cert.MlaRefIdeal.nD Cert.MlaRefIdeal.τ).loc Cert.MlaRefIdeal.main_v183) = v1 c
          ∧ r.2.mem ((c.tc : Thread Cert.MlaRefIdeal.nD Cert.MlaRefIdeal.τ).loc Cert.MlaRefIdeal.main_v185) = v2 c
          ∧ r.2.mem ((c.tc : Thread Cert.MlaRefIdeal.nD Cert.MlaRefIdeal.τ).loc Cert.MlaRefIdeal.main_v186) = v3 c
          ∧ r.2.mem ((c.tc : Thread Cert.MlaRefIdeal.nD Cert.MlaRefIdeal.τ).loc Cert.MlaRefIdeal.main_v187) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9)
          ∧ r.2.mem ((c.tc : Thread Cert.MlaRefIdeal.nD Cert.MlaRefIdeal.τ).loc Cert.MlaRefIdeal.main_arg10) = m' ((c.tc : Thread Cert.MlaRefIdeal.nD Cert.MlaRefIdeal.τ).loc Cert.MlaRefIdeal.main_arg10)
          ∧ r.2.mem ((c.tc : Thread Cert.MlaRefIdeal.nD Cert.MlaRefIdeal.τ).loc Cert.MlaRefIdeal.main_arg11) = m' ((c.tc : Thread Cert.MlaRefIdeal.nD Cert.MlaRefIdeal.τ).loc Cert.MlaRefIdeal.main_arg11))

def preserves_PoolBwd_PoolBwdIdeal : Prop :=
  True

def algebraic_PoolBwdIdeal_PoolRefIdeal_pre_pool_finite [hPoolBwdIdeal : Cert.PoolBwdIdeal.Facts] [hPoolRefIdeal : Cert.PoolRefIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_pool_finite m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)
      ∧ m' ((c.tc : Thread Cert.PoolRefIdeal.nD Cert.PoolRefIdeal.τ).loc Cert.PoolRefIdeal.main_arg1) = m ((c.tc : Thread Cert.PoolBwdIdeal.nD Cert.PoolBwdIdeal.τ).loc Cert.PoolBwdIdeal.main_arg1)
      ∧ m' ((c.tc : Thread Cert.PoolRefIdeal.nD Cert.PoolRefIdeal.τ).loc Cert.PoolRefIdeal.main_arg2) = m ((c.tc : Thread Cert.PoolBwdIdeal.nD Cert.PoolBwdIdeal.τ).loc Cert.PoolBwdIdeal.main_arg2)
      ∧ m' ((c.tc : Thread Cert.PoolRefIdeal.nD Cert.PoolRefIdeal.τ).loc Cert.PoolRefIdeal.main_arg3) = m ((c.tc : Thread Cert.PoolBwdIdeal.nD Cert.PoolBwdIdeal.τ).loc Cert.PoolBwdIdeal.main_arg3)
      ∧ m' ((c.tc : Thread Cert.PoolRefIdeal.nD Cert.PoolRefIdeal.τ).loc Cert.PoolRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v1_0)) (v1 : (c : Dev Cert.PoolBwdIdeal.nD) → Buf (Elt Ideal) ((c.tc : Thread Cert.PoolBwdIdeal.nD Cert.PoolBwdIdeal.τ).loc Cert.PoolBwdIdeal.main_v1_1)) (v2 : (c : Dev Cert.PoolBwdIdeal.nD) → Buf (Elt Ideal) ((c.tc : Thread Cert.PoolBwdIdeal.nD Cert.PoolBwdIdeal.τ).loc Cert.PoolBwdIdeal.main_v1_2)) (v3 : (c : Dev Cert.PoolBwdIdeal.nD) → Buf (Elt Ideal) ((c.tc : Thread Cert.PoolBwdIdeal.nD Cert.PoolBwdIdeal.τ).loc Cert.PoolBwdIdeal.main_v1_3)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v1_0) = v0 c
          ∧ r.2.mem ((c.tc : Thread Cert.PoolBwdIdeal.nD Cert.PoolBwdIdeal.τ).loc Cert.PoolBwdIdeal.main_v1_1) = v1 c
          ∧ r.2.mem ((c.tc : Thread Cert.PoolBwdIdeal.nD Cert.PoolBwdIdeal.τ).loc Cert.PoolBwdIdeal.main_v1_2) = v2 c
          ∧ r.2.mem ((c.tc : Thread Cert.PoolBwdIdeal.nD Cert.PoolBwdIdeal.τ).loc Cert.PoolBwdIdeal.main_v1_3) = v3 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v172) = v0 c
          ∧ r.2.mem ((c.tc : Thread Cert.PoolRefIdeal.nD Cert.PoolRefIdeal.τ).loc Cert.PoolRefIdeal.main_v174) = v1 c
          ∧ r.2.mem ((c.tc : Thread Cert.PoolRefIdeal.nD Cert.PoolRefIdeal.τ).loc Cert.PoolRefIdeal.main_v156) = v2 c
          ∧ r.2.mem ((c.tc : Thread Cert.PoolRefIdeal.nD Cert.PoolRefIdeal.τ).loc Cert.PoolRefIdeal.main_v175) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_Tail_TailIdeal : Prop :=
  True

def algebraic_TailIdeal_TailRefIdeal_pre_tail_finite [hTailIdeal : Cert.TailIdeal.Facts] [hTailRefIdeal : Cert.TailRefIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_tail_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v8_0)) (v1 : (c : Dev Cert.TailIdeal.nD) → Buf (Elt Ideal) ((c.tc : Thread Cert.TailIdeal.nD Cert.TailIdeal.τ).loc Cert.TailIdeal.main_v8_1)) (v2 : (c : Dev Cert.TailIdeal.nD) → Buf (Elt Ideal) ((c.tc : Thread Cert.TailIdeal.nD Cert.TailIdeal.τ).loc Cert.TailIdeal.main_v8_2)) (v3 : (c : Dev Cert.TailIdeal.nD) → Buf (Elt Ideal) ((c.tc : Thread Cert.TailIdeal.nD Cert.TailIdeal.τ).loc Cert.TailIdeal.main_v8_3)) (v4 : (c : Dev Cert.TailIdeal.nD) → Buf (Elt Ideal) ((c.tc : Thread Cert.TailIdeal.nD Cert.TailIdeal.τ).loc Cert.TailIdeal.main_v8_4)) (v5 : (c : Dev Cert.TailIdeal.nD) → Buf (Elt Ideal) ((c.tc : Thread Cert.TailIdeal.nD Cert.TailIdeal.τ).loc Cert.TailIdeal.main_v8_5)) (v6 : (c : Dev Cert.TailIdeal.nD) → Buf (Elt Ideal) ((c.tc : Thread Cert.TailIdeal.nD Cert.TailIdeal.τ).loc Cert.TailIdeal.main_v8_6)) (v7 : (c : Dev Cert.TailIdeal.nD) → Buf (Elt Ideal) ((c.tc : Thread Cert.TailIdeal.nD Cert.TailIdeal.τ).loc Cert.TailIdeal.main_v8_7)) (v8 : (c : Dev Cert.TailIdeal.nD) → Buf (Elt Ideal) ((c.tc : Thread Cert.TailIdeal.nD Cert.TailIdeal.τ).loc Cert.TailIdeal.main_v8_8)) (v9 : (c : Dev Cert.TailIdeal.nD) → Buf (Elt Ideal) ((c.tc : Thread Cert.TailIdeal.nD Cert.TailIdeal.τ).loc Cert.TailIdeal.main_v8_9)) (v10 : (c : Dev Cert.TailIdeal.nD) → Buf (Elt Ideal) ((c.tc : Thread Cert.TailIdeal.nD Cert.TailIdeal.τ).loc Cert.TailIdeal.main_v8_10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v8_0) = v0 c
          ∧ r.2.mem ((c.tc : Thread Cert.TailIdeal.nD Cert.TailIdeal.τ).loc Cert.TailIdeal.main_v8_1) = v1 c
          ∧ r.2.mem ((c.tc : Thread Cert.TailIdeal.nD Cert.TailIdeal.τ).loc Cert.TailIdeal.main_v8_2) = v2 c
          ∧ r.2.mem ((c.tc : Thread Cert.TailIdeal.nD Cert.TailIdeal.τ).loc Cert.TailIdeal.main_v8_3) = v3 c
          ∧ r.2.mem ((c.tc : Thread Cert.TailIdeal.nD Cert.TailIdeal.τ).loc Cert.TailIdeal.main_v8_4) = v4 c
          ∧ r.2.mem ((c.tc : Thread Cert.TailIdeal.nD Cert.TailIdeal.τ).loc Cert.TailIdeal.main_v8_5) = v5 c
          ∧ r.2.mem ((c.tc : Thread Cert.TailIdeal.nD Cert.TailIdeal.τ).loc Cert.TailIdeal.main_v8_6) = v6 c
          ∧ r.2.mem ((c.tc : Thread Cert.TailIdeal.nD Cert.TailIdeal.τ).loc Cert.TailIdeal.main_v8_7) = v7 c
          ∧ r.2.mem ((c.tc : Thread Cert.TailIdeal.nD Cert.TailIdeal.τ).loc Cert.TailIdeal.main_v8_8) = v8 c
          ∧ r.2.mem ((c.tc : Thread Cert.TailIdeal.nD Cert.TailIdeal.τ).loc Cert.TailIdeal.main_v8_9) = v9 c
          ∧ r.2.mem ((c.tc : Thread Cert.TailIdeal.nD Cert.TailIdeal.τ).loc Cert.TailIdeal.main_v8_10) = v10 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v105) = v0 c
          ∧ r.2.mem ((c.tc : Thread Cert.TailRefIdeal.nD Cert.TailRefIdeal.τ).loc Cert.TailRefIdeal.main_v106) = v1 c
          ∧ r.2.mem ((c.tc : Thread Cert.TailRefIdeal.nD Cert.TailRefIdeal.τ).loc Cert.TailRefIdeal.main_v108) = v2 c
          ∧ r.2.mem ((c.tc : Thread Cert.TailRefIdeal.nD Cert.TailRefIdeal.τ).loc Cert.TailRefIdeal.main_v109) = v3 c
          ∧ r.2.mem ((c.tc : Thread Cert.TailRefIdeal.nD Cert.TailRefIdeal.τ).loc Cert.TailRefIdeal.main_v111) = v4 c
          ∧ r.2.mem ((c.tc : Thread Cert.TailRefIdeal.nD Cert.TailRefIdeal.τ).loc Cert.TailRefIdeal.main_v113) = v5 c
          ∧ r.2.mem ((c.tc : Thread Cert.TailRefIdeal.nD Cert.TailRefIdeal.τ).loc Cert.TailRefIdeal.main_v114) = v6 c
          ∧ r.2.mem ((c.tc : Thread Cert.TailRefIdeal.nD Cert.TailRefIdeal.τ).loc Cert.TailRefIdeal.main_v116) = v7 c
          ∧ r.2.mem ((c.tc : Thread Cert.TailRefIdeal.nD Cert.TailRefIdeal.τ).loc Cert.TailRefIdeal.main_v119) = v8 c
          ∧ r.2.mem ((c.tc : Thread Cert.TailRefIdeal.nD Cert.TailRefIdeal.τ).loc Cert.TailRefIdeal.main_v122) = v9 c
          ∧ r.2.mem ((c.tc : Thread Cert.TailRefIdeal.nD Cert.TailRefIdeal.τ).loc Cert.TailRefIdeal.main_v123) = v10 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def Claim : Prop :=
  ∃ (hInxBwd : Cert.InxBwd.Facts) (hInxBwdIdeal : Cert.InxBwdIdeal.Facts) (hInxRefIdeal : Cert.InxRefIdeal.Facts) (hAttnBwd : Cert.AttnBwd.Facts) (hAttnBwdIdeal : Cert.AttnBwdIdeal.Facts) (hAttnRefIdeal : Cert.AttnRefIdeal.Facts) (hMlaBwd : Cert.MlaBwd.Facts) (hMlaBwdIdeal : Cert.MlaBwdIdeal.Facts) (hMlaRefIdeal : Cert.MlaRefIdeal.Facts) (hPoolBwd : Cert.PoolBwd.Facts) (hPoolBwdIdeal : Cert.PoolBwdIdeal.Facts) (hPoolRefIdeal : Cert.PoolRefIdeal.Facts) (hTail : Cert.Tail.Facts) (hTailIdeal : Cert.TailIdeal.Facts) (hTailRefIdeal : Cert.TailRefIdeal.Facts) (hPre_inx_finite : Cert.Pre_inx_finite.Facts) (hPre_attn_finite : Cert.Pre_attn_finite.Facts) (hPre_mla_finite : Cert.Pre_mla_finite.Facts) (hPre_pool_finite : Cert.Pre_pool_finite.Facts) (hPre_tail_finite : Cert.Pre_tail_finite.Facts),
    quiescent_InxBwd (hInxBwd := hInxBwd)
    ∧ quiescent_InxBwdIdeal (hInxBwdIdeal := hInxBwdIdeal)
    ∧ quiescent_InxBwdIdeal_pre_inx_finite (hInxBwdIdeal := hInxBwdIdeal) (hPre_inx_finite := hPre_inx_finite)
    ∧ quiescent_InxRefIdeal (hInxRefIdeal := hInxRefIdeal)
    ∧ quiescent_InxRefIdeal_pre_inx_finite (hInxRefIdeal := hInxRefIdeal) (hPre_inx_finite := hPre_inx_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_MlaBwd (hMlaBwd := hMlaBwd)
    ∧ quiescent_MlaBwdIdeal (hMlaBwdIdeal := hMlaBwdIdeal)
    ∧ quiescent_MlaBwdIdeal_pre_mla_finite (hMlaBwdIdeal := hMlaBwdIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_PoolBwd (hPoolBwd := hPoolBwd)
    ∧ quiescent_PoolBwdIdeal (hPoolBwdIdeal := hPoolBwdIdeal)
    ∧ quiescent_PoolBwdIdeal_pre_pool_finite (hPoolBwdIdeal := hPoolBwdIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Tail (hTail := hTail)
    ∧ quiescent_TailIdeal (hTailIdeal := hTailIdeal)
    ∧ quiescent_TailIdeal_pre_tail_finite (hTailIdeal := hTailIdeal) (hPre_tail_finite := hPre_tail_finite)
    ∧ quiescent_TailRefIdeal (hTailRefIdeal := hTailRefIdeal)
    ∧ quiescent_TailRefIdeal_pre_tail_finite (hTailRefIdeal := hTailRefIdeal) (hPre_tail_finite := hPre_tail_finite)
    ∧ preserves_InxBwd_InxBwdIdeal
    ∧ algebraic_InxBwdIdeal_InxRefIdeal_pre_inx_finite (hInxBwdIdeal := hInxBwdIdeal) (hInxRefIdeal := hInxRefIdeal) (hPre_inx_finite := hPre_inx_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_MlaBwd_MlaBwdIdeal
    ∧ algebraic_MlaBwdIdeal_MlaRefIdeal_pre_mla_finite (hMlaBwdIdeal := hMlaBwdIdeal) (hMlaRefIdeal := hMlaRefIdeal) (hPre_mla_finite := hPre_mla_finite)
    ∧ preserves_PoolBwd_PoolBwdIdeal
    ∧ algebraic_PoolBwdIdeal_PoolRefIdeal_pre_pool_finite (hPoolBwdIdeal := hPoolBwdIdeal) (hPoolRefIdeal := hPoolRefIdeal) (hPre_pool_finite := hPre_pool_finite)
    ∧ preserves_Tail_TailIdeal
    ∧ algebraic_TailIdeal_TailRefIdeal_pre_tail_finite (hTailIdeal := hTailIdeal) (hTailRefIdeal := hTailRefIdeal) (hPre_tail_finite := hPre_tail_finite)
-- ==== Pre_attn_finite.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  bcast_S_S4096x8x32 : S_.BroadcastsInDim S4096x8x32 (![] : Fin 0 → Fin S4096x8x32.rank)
  bcast_S_S4096x32 : S_.BroadcastsInDim S4096x32 (![] : Fin 0 → Fin S4096x32.rank)

variable [Facts]

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x8x64 .f32) : IVec S4096x8x64 1 × IVec S4096x8x32 1 × IVec S4096x8x64 1 × IVec S4096x32 1 × IVec S4096x8x64 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x32 .f32 := Host.absf main_arg1
  let main_cst_0 : FVec F S_ .f32 := constant S_ .f32 0x7F800000#32
  let main_v4 : FVec F S4096x8x32 .f32 := broadcastInDim S4096x8x32 ![] bcast_S_S4096x8x32 main_cst_0
  let main_v5 : IVec S4096x8x32 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  let main_v15 : FVec F S4096x8x64 .f32 := Host.absf main_arg5
  let main_cst_4 : FVec F S_ .f32 := constant S_ .f32 0x7F800000#32
  let main_v16 : FVec F S4096x8x64 .f32 := broadcastInDim S4096x8x64 ![] bcast_S_S4096x8x64 main_cst_4
  let main_v17 : IVec S4096x8x64 1 := cmpf .olt main_v15 main_v16
  (main_v2, main_v5, main_v8, main_v11, main_v14, main_v17)
-- ==== Pre_inx_finite.lean ====
abbrev S4096x384 : Shape := ⟨2, ![4096, 384]⟩
abbrev S4096x256 : Shape := ⟨2, ![4096, 256]⟩
abbrev S4096x32 : Shape := ⟨2, ![4096, 32]⟩
abbrev S4096x512 : Shape := ⟨2, ![4096, 512]⟩
abbrev S4096x2048 : Shape := ⟨2, ![4096, 2048]⟩
abbrev S4096x1024 : Shape := ⟨2, ![4096, 1024]⟩
abbrev S1024 : Shape := ⟨1, ![1024]⟩
abbrev S1024x4256 : Shape := ⟨2, ![1024, 4256]⟩
abbrev S_ : Shape := ⟨0, ![]⟩

class Facts : Prop where
  bcast_S_S4096x384 : S_.BroadcastsInDim S4096x384 (![] : Fin 0 → Fin S4096x384.rank)
  bcast_S_S4096x256 : S_.BroadcastsInDim S4096x256 (![] : Fin 0 → Fin S4096x256.rank)
  bcast_S_S4096x32 : S_.BroadcastsInDim S4096x32 (![] : Fin 0 → Fin S4096x32.rank)
  bcast_S_S4096x512 : S_.BroadcastsInDim S4096x512 (![] : Fin 0 → Fin S4096x512.rank)
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S1024 : S_.BroadcastsInDim S1024 (![] : Fin 0 → Fin S1024.rank)
  bcast_S_S1024x4256 : S_.BroadcastsInDim S1024x4256 (![] : Fin 0 → Fin S1024x4256.rank)

variable [Facts]

def fn_part1 {F : FTy → Type} [FloatOps F] (main_arg6 : FVec F S4096x2048 .bf16) (main_arg7 : FVec F S4096x1024 .f32) (main_arg9 : FVec F S1024 .f32) (main_arg10 : FVec F S1024x4256 .f32) (main_v2 : IVec S4096x384 1) (main_v5 : IVec S4096x256 1) (main_v8 : IVec S4096x32 1) (main_v11 : IVec S4096x512 1) (main_v14 : IVec S4096x512 1) (main_v17 : IVec S4096x512 1) : IVec S4096x384 1 × IVec S4096x256 1 × IVec S4096x32 1 × IVec S4096x512 1 × IVec S4096x512 1 × IVec S4096x512 1 × IVec S4096x2048 1 × IVec S4096x1024 1 × IVec S1024 1 × IVec S1024x4256 1 :=
  let main_v18 : FVec F S4096x2048 .bf16 := Host.absf main_arg6
  let main_cst_5 : FVec F S_ .bf16 := constant S_ .bf16 0x7F80#16
  let main_v19 : FVec F S4096x2048 .bf16 := broadcastInDim S4096x2048 ![] bcast_S_S4096x2048 main_cst_5
  let main_v20 : IVec S4096x2048 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_v24 : FVec F S1024 .f32 := Host.absf main_arg9
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1024x4256 .f32 := Host.absf main_arg10
  let main_cst_8 : FVec F S_ .f32 := constant S_ .f32 0x7F800000#32
  let main_v28 : FVec F S1024x4256 .f32 := broadcastInDim S1024x4256 ![] bcast_S_S1024x4256 main_cst_8
  let main_v29 : IVec S1024x4256 1 := cmpf .olt main_v27 main_v28
  (main_v2, main_v5, main_v8, main_v11, main_v14, main_v17, main_v20, main_v23, main_v26, main_v29)

def fn {F : FTy → Type} [FloatOps F] (main_arg0 : FVec F S4096x384 .bf16) (main_arg1 : FVec F S4096x256 .bf16) (main_arg2 : FVec F S4096x32 .bf16) (main_arg3 : FVec F S4096x512 .bf16) (main_arg4 : FVec F S4096x512 .bf16) (main_arg5 : FVec F S4096x512 .bf16) (main_arg6 : FVec F S4096x2048 .bf16) (main_arg7 : FVec F S4096x1024 .f32) (main_arg8 : FVec F S4096x1024 .f32) (main_arg9 : FVec F S1024 .f32) (main_arg10 : FVec F S1024x4256 .f32) : IVec S4096x384 1 × IVec S4096x256 1 × IVec S4096x32 1 × IVec S4096x512 1 × IVec S4096x512 1 × IVec S4096x512 1 × IVec S4096x2048 1 × IVec S4096x1024 1 × IVec S1024 1 × IVec S1024x4256 1 :=
  let main_v0 : FVec F S4096x384 .bf16 := Host.absf main_arg0
  let main_cst : FVec F S_ .bf16 := constant S_ .bf16 0x7F80#16
  let main_v1 : FVec F S4096x384 .bf16 := broadcastInDim S4096x384 ![] bcast_S_S4096x384 main_cst
  let main_v2 : IVec S4096x384 1 := cmpf .olt main_v0 main_v1
  let main_v3 : FVec F S4096x256 .bf16 := Host.absf main_arg1
  let main_cst_0 : FVec F S_ .bf16 := constant S_ .bf16 0x7F80#16
  let main_v4 : FVec F S4096x256 .bf16 := broadcastInDim S4096x256 ![] bcast_S_S4096x256 main_cst_0
  let main_v5 : IVec S4096x256 1 := cmpf .olt main_v3 main_v4
  let main_v6 : FVec F S4096x32 .bf16 := Host.absf main_arg2
  let main_cst_1 : FVec F S_ .bf16 := constant S_ .bf16 0x7F80#16
  let main_v7 : FVec F S4096x32 .bf16 := broadcastInDim S4096x32 ![] bcast_S_S4096x32 main_cst_1
  let main_v8 : IVec S4096x32 1 := cmpf .olt main_v6 main_v7
  let main_v9 : FVec F S4096x512 .bf16 := Host.absf main_arg3
  let main_cst_2 : FVec F S_ .bf16 := constant S_ .bf16 0x7F80#16
  let main_v10 : FVec F S4096x512 .bf16 := broadcastInDim S4096x512 ![] bcast_S_S4096x512 main_cst_2
  let main_v11 : IVec S4096x512 1 := cmpf .olt main_v9 main_v10
  let main_v12 : FVec F S4096x512 .bf16 := Host.absf main_arg4
  let main_cst_3 : FVec F S_ .bf16 := constant S_ .bf16 0x7F80#16
  let main_v13 : FVec F S4096x512 .bf16 := broadcastInDim S4096x512 ![] bcast_S_S4096x512 main_cst_3
  let main_v14 : IVec S4096x512 1 := cmpf .olt main_v12 main_v13
  let main_v15 : FVec F S4096x512 .bf16 := Host.absf main_arg5
  let main_cst_4 : FVec F S_ .bf16 := constant S_ .bf16 0x7F80#16
  let main_v16 : FVec F S4096x512 .bf16 := broadcastInDim S4096x512 ![] bcast_S_S4096x512 main_cst_4
  let main_v17 : IVec S4096x512 1 := cmpf .olt main_v15 main_v16
  fn_part1 (F := F) main_arg6 main_arg7 main_arg9 main_arg10 main_v2 main_v5 main_v8 main_v11 main_v14 main_v17
-- ==== Pre_mla_finite.lean ====
abbrev S4096x8x64 : Shape := ⟨3, ![4096, 8, 64]⟩
abbrev S4096x8x32 : Shape := ⟨3, ![4096, 8, 32]⟩
abbrev S2x4096x32 : Shape := ⟨3, ![2, 4096, 32]⟩
abbrev S4096x384 : Shape := ⟨2, ![4096, 384]⟩
abbrev S4096x256 : Shape := ⟨2, ![4096, 256]⟩
abbrev S4096x32 : Shape := ⟨2, ![4096, 32]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S_ : Shape := ⟨0, ![]⟩

class Facts : Prop where
  bcast_S_S4096x8x64 : S_.BroadcastsInDim S4096x8x64 (![] : Fin 0 → Fin S4096x8x64.rank)
  bcast_S_S4096x8x32 : S_.BroadcastsInDim S4096x8x32 (![] : Fin 0 → Fin S4096x8x32.rank)
  bcast_S_S2x4096x32 : S_.BroadcastsInDim S2x4096x32 (![] : Fin 0 → Fin S2x4096x32.rank)
  bcast_S_S4096x384 : S_.BroadcastsInDim S4096x384 (![] : Fin 0 → Fin S4096x384.rank)
  bcast_S_S4096x256 : S_.BroadcastsInDim S4096x256 (![] : Fin 0 → Fin S4096x256.rank)
  bcast_S_S384 : S_.BroadcastsInDim S384 (![] : Fin 0 → Fin S384.rank)
  bcast_S_S384x8x96 : S_.BroadcastsInDim S384x8x96 (![] : Fin 0 → Fin S384x8x96.rank)
  bcast_S_S256 : S_.BroadcastsInDim S256 (![] : Fin 0 → Fin S256.rank)
  bcast_S_S256x8x128 : S_.BroadcastsInDim S256x8x128 (![] : Fin 0 → Fin S256x8x128.rank)

variable [Facts]

def fn_part1 {F : FTy → Type} [FloatOps F] (main_arg6 : FVec F S4096x256 .f32) (main_arg8 : FVec F S384 .f32) (main_arg9 : FVec F S384x8x96 .f32) (main_arg10 : FVec F S256 .f32) (main_arg11 : FVec F S256x8x128 .f32) (main_v2 : IVec S4096x8x64 1) (main_v5 : IVec S4096x8x32 1) (main_v8 : IVec S4096x8x64 1) (main_v11 : IVec S4096x8x64 1) (main_v14 : IVec S2x4096x32 1) (main_v17 : IVec S4096x384 1) : IVec S4096x8x64 1 × IVec S4096x8x32 1 × IVec S4096x8x64 1 × IVec S4096x8x64 1 × IVec S2x4096x32 1 × IVec S4096x384 1 × IVec S4096x256 1 × IVec S384 1 × IVec S384x8x96 1 × IVec S256 1 × IVec S256x8x128 1 :=
  let main_v18 : FVec F S4096x256 .f32 := Host.absf main_arg6
  let main_cst_5 : FVec F S_ .f32 := constant S_ .f32 0x7F800000#32
  let main_v19 : FVec F S4096x256 .f32 := broadcastInDim S4096x256 ![] bcast_S_S4096x256 main_cst_5
  let main_v20 : IVec S4096x256 1 := cmpf .olt main_v18 main_v19
  let main_v21 : FVec F S384 .f32 := Host.absf main_arg8
  let main_cst_6 : FVec F S_ .f32 := constant S_ .f32 0x7F800000#32
  let main_v22 : FVec F S384 .f32 := broadcastInDim S384 ![] bcast_S_S384 main_cst_6
  let main_v23 : IVec S384 1 := cmpf .olt main_v21 main_v22
  let main_v24 : FVec F S384x8x96 .f32 := Host.absf main_arg9
  let main_cst_7 : FVec F S_ .f32 := constant S_ .f32 0x7F800000#32
  let main_v25 : FVec F S384x8x96 .f32 := broadcastInDim S384x8x96 ![] bcast_S_S384x8x96 main_cst_7
  let main_v26 : IVec S384x8x96 1 := cmpf .olt main_v24 main_v25
  let main_v27 : FVec F S256 .f32 := Host.absf main_arg10
  let main_cst_8 : FVec F S_ .f32 := constant S_ .f32 0x7F800000#32
  let main_v28 : FVec F S256 .f32 := broadcastInDim S256 ![] bcast_S_S256 main_cst_8
  let main_v29 : IVec S256 1 := cmpf .olt main_v27 main_v28
  let main_v30 : FVec F S256x8x128 .f32 := Host.absf main_arg11
  let main_cst_9 : FVec F S_ .f32 := constant S_ .f32 0x7F800000#32
  let main_v31 : FVec F S256x8x128 .f32 := broadcastInDim S256x8x128 ![] bcast_S_S256x8x128 main_cst_9
  let main_v32 : IVec S256x8x128 1 := cmpf .olt main_v30 main_v31
  (main_v2, main_v5, main_v8, main_v11, main_v14, main_v17, main_v20, main_v23, main_v26, main_v29, main_v32)

def fn {F : FTy → Type} [FloatOps F] (main_arg0 : FVec F S4096x8x64 .bf16) (main_arg1 : FVec F S4096x8x32 .bf16) (main_arg2 : FVec F S4096x8x64 .bf16) (main_arg3 : FVec F S4096x8x64 .bf16) (main_arg4 : FVec F S2x4096x32 .f32) (main_arg5 : FVec F S4096x384 .f32) (main_arg6 : FVec F S4096x256 .f32) (main_arg7 : FVec F S4096x32 .f32) (main_arg8 : FVec F S384 .f32) (main_arg9 : FVec F S384x8x96 .f32) (main_arg10 : FVec F S256 .f32) (main_arg11 : FVec F S256x8x128 .f32) : IVec S4096x8x64 1 × IVec S4096x8x32 1 × IVec S4096x8x64 1 × IVec S4096x8x64 1 × IVec S2x4096x32 1 × IVec S4096x384 1 × IVec S4096x256 1 × IVec S384 1 × IVec S384x8x96 1 × IVec S256 1 × IVec S256x8x128 1 :=
  let main_v0 : FVec F S4096x8x64 .bf16 := Host.absf main_arg0
  let main_cst : FVec F S_ .bf16 := constant S_ .bf16 0x7F80#16
  let main_v1 : FVec F S4096x8x64 .bf16 := broadcastInDim S4096x8x64 ![] bcast_S_S4096x8x64 main_cst
  let main_v2 : IVec S4096x8x64 1 := cmpf .olt main_v0 main_v1
  let main_v3 : FVec F S4096x8x32 .bf16 := Host.absf main_arg1
  let main_cst_0 : FVec F S_ .bf16 := constant S_ .bf16 0x7F80#16
  let main_v4 : FVec F S4096x8x32 .bf16 := broadcastInDim S4096x8x32 ![] bcast_S_S4096x8x32 main_cst_0
  let main_v5 : IVec S4096x8x32 1 := cmpf .olt main_v3 main_v4
  let main_v6 : FVec F S4096x8x64 .bf16 := Host.absf main_arg2
  let main_cst_1 : FVec F S_ .bf16 := constant S_ .bf16 0x7F80#16
  let main_v7 : FVec F S4096x8x64 .bf16 := broadcastInDim S4096x8x64 ![] bcast_S_S4096x8x64 main_cst_1
  let main_v8 : IVec S4096x8x64 1 := cmpf .olt main_v6 main_v7
  let main_v9 : FVec F S4096x8x64 .bf16 := Host.absf main_arg3
  let main_cst_2 : FVec F S_ .bf16 := constant S_ .bf16 0x7F80#16
  let main_v10 : FVec F S4096x8x64 .bf16 := broadcastInDim S4096x8x64 ![] bcast_S_S4096x8x64 main_cst_2
  let main_v11 : IVec S4096x8x64 1 := cmpf .olt main_v9 main_v10
  let main_v12 : FVec F S2x4096x32 .f32 := Host.absf main_arg4
  let main_cst_3 : FVec F S_ .f32 := constant S_ .f32 0x7F800000#32
  let main_v13 : FVec F S2x4096x32 .f32 := broadcastInDim S2x4096x32 ![] bcast_S_S2x4096x32 main_cst_3
  let main_v14 : IVec S2x4096x32 1 := cmpf .olt main_v12 main_v13
  let main_v15 : FVec F S4096x384 .f32 := Host.absf main_arg5
  let main_cst_4 : FVec F S_ .f32 := constant S_ .f32 0x7F800000#32
  let main_v16 : FVec F S4096x384 .f32 := broadcastInDim S4096x384 ![] bcast_S_S4096x384 main_cst_4
  let main_v17 : IVec S4096x384 1 := cmpf .olt main_v15 main_v16
  fn_part1 (F := F) main_arg6 main_arg8 main_arg9 main_arg10 main_arg11 main_v2 main_v5 main_v8 main_v11 main_v14 main_v17
-- ==== Pre_pool_finite.lean ====
abbrev S4096x512 : Shape := ⟨2, ![4096, 512]⟩
abbrev S4x128x128 : Shape := ⟨3, ![4, 128, 128]⟩
abbrev S512 : Shape := ⟨1, ![512]⟩
abbrev S_ : Shape := ⟨0, ![]⟩

class Facts : Prop where
  bcast_S_S4096x512 : S_.BroadcastsInDim S4096x512 (![] : Fin 0 → Fin S4096x512.rank)
  bcast_S_S4x128x128 : S_.BroadcastsInDim S4x128x128 (![] : Fin 0 → Fin S4x128x128.rank)
  bcast_S_S512 : S_.BroadcastsInDim S512 (![] : Fin 0 → Fin S512.rank)

variable [Facts]

def fn {F : FTy → Type} [FloatOps F] (main_arg0 : FVec F S4096x512 .f32) (main_arg1 : FVec F S4096x512 .f32) (main_arg2 : FVec F S4096x512 .f32) (main_arg3 : FVec F S4x128x128 .f32) (main_arg4 : FVec F S512 .f32) : IVec S4096x512 1 × IVec S4096x512 1 × IVec S4096x512 1 × IVec S4x128x128 1 × IVec S512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  (main_v2, main_v5, main_v8, main_v11, main_v14)
-- ==== Pre_tail_finite.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x2048 : S_.BroadcastsInDim S4096x2048 (![] : Fin 0 → Fin S4096x2048.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg6 : FVec F S512x1024 .f32) (main_arg7 : FVec F S512x1024 .f32) (main_arg8 : FVec F S1024x1024 .f32) (main_arg9 : FVec F S1024 .f32) (main_v2 : IVec S4096x1024 1) (main_v5 : IVec S4096x1024 1) (main_v8 : IVec S4096x512 1) (main_v11 : IVec S4096x512 1) (main_v14 : IVec S4096x512 1) (main_v17 : IVec S4096x2048 1) : IVec S4096x1024 1 × IVec S4096x1024 1 × IVec S4096x512 1 × IVec S4096x512 1 × IVec S4096x512 1 × IVec S4096x2048 1 × IVec S512x1024 1 × IVec S512x1024 1 × IVec S1024x1024 1 × IVec S1024 1 :=
  let main_v18 : FVec F S512x1024 .f32 := Host.absf main_arg6
  let main_cst_5 : FVec F S_ .f32 := constant S_ .f32 0x7F800000#32
  let main_v19 : FVec F S512x1024 .f32 := broadcastInDim S512x1024 ![] bcast_S_S512x1024 main_cst_5
  let main_v20 : IVec S512x1024 1 := cmpf .olt main_v18 main_v19
  let main_v21 : FVec F S512x1024 .f32 := Host.absf main_arg7
  let main_cst_6 : FVec F S_ .f32 := constant S_ .f32 0x7F800000#32
  let main_v22 : FVec F S512x1024 .f32 := broadcastInDim S512x1024 ![] bcast_S_S512x1024 main_cst_6
  let main_v23 : IVec S512x1024 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S4096x1024 .f32) (main_arg2 : FVec F S4096x512 .f32) (main_arg3 : FVec F S4096x512 .f32) (main_arg4 : FVec F S4096x512 .bf16) (main_arg5 : FVec F S4096x2048 .f32) (main_arg6 : FVec F S512x1024 .f32) (main_arg7 : FVec F S512x1024 .f32) (main_arg8 : FVec F S1024x1024 .f32) (main_arg9 : FVec F S1024 .f32) : IVec S4096x1024 1 × IVec S4096x1024 1 × IVec S4096x512 1 × IVec S4096x512 1 × IVec S4096x512 1 × IVec S4096x2048 1 × IVec S512x1024 1 × IVec S512x1024 1 × IVec S1024x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .bf16 := Host.absf main_arg4
  let main_cst_3 : FVec F S_ .bf16 := constant S_ .bf16 0x7F80#16
  let main_v13 : FVec F S4096x512 .bf16 := broadcastInDim S4096x512 ![] bcast_S_S4096x512 main_cst_3
  let main_v14 : IVec S4096x512 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  fn_part1 (F := F) main_arg6 main_arg7 main_arg8 main_arg9 main_v2 main_v5 main_v8 main_v11 main_v14 main_v17
-- ==== InxBwd.lean ====
abbrev S4096x384 : Shape := ⟨2, ![4096, 384]⟩
abbrev S4096x256 : Shape := ⟨2, ![4096, 256]⟩
abbrev S4096x32 : Shape := ⟨2, ![4096, 32]⟩
abbrev S4096x512 : Shape := ⟨2, ![4096, 512]⟩
abbrev S4096x2048 : Shape := ⟨2, ![4096, 2048]⟩
abbrev S4096x1024 : Shape := ⟨2, ![4096, 1024]⟩
abbrev S1024 : Shape := ⟨1, ![1024]⟩
abbrev S1024x4256 : Shape := ⟨2, ![1024, 4256]⟩
abbrev S_ : Shape := ⟨0, ![]⟩
abbrev S4096x64 : Shape := ⟨2, ![4096, 64]⟩
abbrev S4096x768 : Shape := ⟨2, ![4096, 768]⟩
abbrev S1x1024 : Shape := ⟨2, ![1, 1024]⟩
abbrev S4256x1024 : Shape := ⟨2, ![4256, 1024]⟩
abbrev S640x1024 : Shape := ⟨2, ![640, 1024]⟩
abbrev S64x1024 : Shape := ⟨2, ![64, 1024]⟩
abbrev S32x1024 : Shape := ⟨2, ![32, 1024]⟩
abbrev S3584x1024 : Shape := ⟨2, ![3584, 1024]⟩
abbrev S4352x1024 : Shape := ⟨2, ![4352, 1024]⟩
abbrev S8x128 : Shape := ⟨2, ![8, 128]⟩
abbrev S256x2048 : Shape := ⟨2, ![256, 2048]⟩
abbrev S256x512 : Shape := ⟨2, ![256, 512]⟩
abbrev S256x768 : Shape := ⟨2, ![256, 768]⟩
abbrev S256x1024 : Shape := ⟨2, ![256, 1024]⟩
abbrev S2048x1024 : Shape := ⟨2, ![2048, 1024]⟩
abbrev S512x1024 : Shape := ⟨2, ![512, 1024]⟩
abbrev S768x1024 : Shape := ⟨2, ![768, 1024]⟩
abbrev S256 : Shape := ⟨1, ![256]⟩
abbrev S256x1 : Shape := ⟨2, ![256, 1]⟩
abbrev S1x128 : Shape := ⟨2, ![1, 128]⟩

abbrev nBuf : Space → Nat
  | .hbm => 29
  | .vmem => 20
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S4096x32, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S1024x4256, .f32⟩
  | .hbm, ⟨11, _⟩ => ⟨S_, .bf16⟩
  | .hbm, ⟨12, _⟩ => ⟨S4096x64, .bf16⟩
  | .hbm, ⟨13, _⟩ => ⟨S_, .bf16⟩
  | .hbm, ⟨14, _⟩ => ⟨S4096x32, .bf16⟩
  | .hbm, ⟨15, _⟩ => ⟨S4096x768, .bf16⟩
  | .hbm, ⟨16, _⟩ => ⟨S1x1024, .f32⟩
  | .hbm, ⟨17, _⟩ => ⟨S4256x1024, .f32⟩
  | .hbm, ⟨18, _⟩ => ⟨S4256x1024, .bf16⟩
  | .hbm, ⟨19, _⟩ => ⟨S640x1024, .bf16⟩
  | .hbm, ⟨20, _⟩ => ⟨S_, .bf16⟩
  | .hbm, ⟨21, _⟩ => ⟨S64x1024, .bf16⟩
  | .hbm, ⟨22, _⟩ => ⟨S32x1024, .bf16⟩
  | .hbm, ⟨23, _⟩ => ⟨S_, .bf16⟩
  | .hbm, ⟨24, _⟩ => ⟨S32x1024, .bf16⟩
  | .hbm, ⟨25, _⟩ => ⟨S3584x1024, .bf16⟩
  | .hbm, ⟨26, _⟩ => ⟨S4352x1024, .bf16⟩
  | .hbm, ⟨27, _⟩ => ⟨S4096x1024, .f32⟩
  | .hbm, ⟨28, _⟩ => ⟨S8x128, .f32⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x768, .bf16⟩
  | .local _ .vmem, ⟨9, _⟩ => ⟨S256x768, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S4352x1024, .bf16⟩
  | .local _ .vmem, ⟨16, _⟩ => ⟨S256x1024, .f32⟩
  | .local _ .vmem, ⟨17, _⟩ => ⟨S256x1024, .f32⟩
  | .local _ .vmem, ⟨18, _⟩ => ⟨S8x128, .f32⟩
  | .local _ .vmem, ⟨19, _⟩ => ⟨S1x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v64 : BitVec 1 := Scalar.cmpi .eq arg0 c15_i32
  let v65 : BitVec 32 := Scalar.extui v64
  let c0_i32_38 : BitVec 32 := 0#32
  let v66 : BitVec 1 := Scalar.cmpi .ne v65 c0_i32_38
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4352x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InxRefIdeal.lean ====
abbrev S4096x384 : Shape := ⟨2, ![4096, 384]⟩
abbrev S4096x256 : Shape := ⟨2, ![4096, 256]⟩
abbrev S4096x32 : Shape := ⟨2, ![4096, 32]⟩
abbrev S4096x512 : Shape := ⟨2, ![4096, 512]⟩
abbrev S4096x2048 : Shape := ⟨2, ![4096, 2048]⟩
abbrev S4096x1024 : Shape := ⟨2, ![4096, 1024]⟩
abbrev S1024 : Shape := ⟨1, ![1024]⟩
abbrev S1024x4256 : Shape := ⟨2, ![1024, 4256]⟩
abbrev S1x4096x384 : Shape := ⟨3, ![1, 4096, 384]⟩
abbrev S1x4096x256 : Shape := ⟨3, ![1, 4096, 256]⟩
abbrev S1x4096x32 : Shape := ⟨3, ![1, 4096, 32]⟩
abbrev S1x4096x512 : Shape := ⟨3, ![1, 4096, 512]⟩
abbrev S1x4096x2048 : Shape := ⟨3, ![1, 4096, 2048]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4256 : Shape := ⟨3, ![1, 4096, 4256]⟩
abbrev S1x1024 : Shape := ⟨2, ![1, 1024]⟩
abbrev S4096 : Shape := ⟨1, ![4096]⟩
abbrev S8x128 : Shape := ⟨2, ![8, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S4096x32, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S1024x4256, .f32⟩
  | .hbm, ⟨11, _⟩ => ⟨S1x4096x384, .bf16⟩
  | .hbm, ⟨12, _⟩ => ⟨S1x4096x384, .f32⟩
  | .hbm, ⟨13, _⟩ => ⟨S1x4096x256, .bf16⟩
  | .hbm, ⟨14, _⟩ => ⟨S1x4096x256, .f32⟩
  | .hbm, ⟨15, _⟩ => ⟨S1x4096x32, .bf16⟩
  | .hbm, ⟨16, _⟩ => ⟨S1x4096x32, .f32⟩
  | .hbm, ⟨17, _⟩ => ⟨S1x4096x512, .bf16⟩
  | .hbm, ⟨18, _⟩ => ⟨S1x4096x512, .f32⟩
  | .hbm, ⟨19, _⟩ => ⟨S1x4096x512, .bf16⟩
  | .hbm, ⟨20, _⟩ => ⟨S1x4096x512, .f32⟩
  | .hbm, ⟨21, _⟩ => ⟨S1x4096x512, .bf16⟩
  | .hbm, ⟨22, _⟩ => ⟨S1x4096x512, .f32⟩
  | .hbm, ⟨23, _⟩ => ⟨S1x4096x2048, .bf16⟩
  | .hbm, ⟨24, _⟩ => ⟨S1x4096x2048, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S1x4096x1, .f32⟩
  | .hbm, ⟨37, _⟩ => ⟨S1x4096x1, .f32⟩
  | .hbm, ⟨38, _⟩ => ⟨S_, .f32⟩
  | .hbm, ⟨39, _⟩ => ⟨S1x4096x1, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x1x1024, .f32⟩
  | .hbm, ⟨44, _⟩ => ⟨S1x4096x1024, .f32⟩
  | .hbm, ⟨45, _⟩ => ⟨S1x4096x1024, .f32⟩
  | .hbm, ⟨46, _⟩ => ⟨S1x4096x4256, .f32⟩
  | .hbm, ⟨47, _⟩ => ⟨S1x4096x384, .f32⟩
  | .hbm, ⟨48, _⟩ => ⟨S1x4096x256, .f32⟩
  | .hbm, ⟨49, _⟩ => ⟨S1x4096x32, .f32⟩
  | .hbm, ⟨50, _⟩ => ⟨S1x4096x512, .f32⟩
  | .hbm, ⟨51, _⟩ => ⟨S1x4096x512, .f32⟩
  | .hbm, ⟨52, _⟩ => ⟨S1x4096x512, .f32⟩
  | .hbm, ⟨53, _⟩ => ⟨S1x4096x2048, .f32⟩
  | .hbm, ⟨54, _⟩ => ⟨S1x4096x4256, .f32⟩
  | .hbm, ⟨55, _⟩ => ⟨S1x4096x1024, .f32⟩
  | .hbm, ⟨56, _⟩ => ⟨S1x4096x1024, .f32⟩
  | .hbm, ⟨57, _⟩ => ⟨S_, .f32⟩
  | .hbm, ⟨58, _⟩ => ⟨S1x1024, .f32⟩
  | .hbm, ⟨59, _⟩ => ⟨S1x1x1024, .f32⟩
  | .hbm, ⟨60, _⟩ => ⟨S1x4096x1024, .f32⟩
  | .hbm, ⟨61, _⟩ => ⟨S1x4096x1024, .f32⟩
  | .hbm, ⟨62, _⟩ => ⟨S_, .f32⟩
  | .hbm, ⟨63, _⟩ => ⟨S1024, .f32⟩
  | .hbm, ⟨64, _⟩ => ⟨S1x4096x1024, .f32⟩
  | .hbm, ⟨65, _⟩ => ⟨S_, .f32⟩
  | .hbm, ⟨66, _⟩ => ⟨S1x4096, .f32⟩
  | .hbm, ⟨67, _⟩ => ⟨S1x4096x1, .f32⟩
  | .hbm, ⟨68, _⟩ => ⟨S1x4096x1024, .f32⟩
  | .hbm, ⟨69, _⟩ => ⟨S1x4096x1024, .f32⟩
  | .hbm, ⟨70, _⟩ => ⟨S1x4096x1, .f32⟩
  | .hbm, ⟨71, _⟩ => ⟨S_, .f32⟩
  | .hbm, ⟨72, _⟩ => ⟨S1x4096x1, .f32⟩
  | .hbm, ⟨73, _⟩ => ⟨S1x4096x1, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S4096x1024, .f32⟩
  | .hbm, ⟨83, _⟩ => ⟨S4096x1024, .f32⟩
  | .hbm, ⟨84, _⟩ => ⟨S8x128, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== AttnBwd.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩
abbrev S4096x8x128 : Shape := ⟨3, ![4096, 8, 128]⟩
abbrev S4096x1x32 : Shape := ⟨3, ![4096, 1, 32]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096 : Shape := ⟨2, ![8, 4096]⟩
abbrev S8x1x4096 : Shape := ⟨3, ![8, 1, 4096]⟩
abbrev S8x128x4096 : Shape := ⟨3, ![8, 128, 4096]⟩
abbrev S8x64x4096 : Shape := ⟨3, ![8, 64, 4096]⟩
abbrev S4096x1024 : Shape := ⟨2, ![4096, 1024]⟩
abbrev S4x2x4096 : Shape := ⟨3, ![4, 2, 4096]⟩
abbrev S2x4096x128 : Shape := ⟨3, ![2, 4096, 128]⟩
abbrev S4096x512 : Shape := ⟨2, ![4096, 512]⟩
abbrev S512x512 : Shape := ⟨2, ![512, 512]⟩
abbrev S2x2x4096 : Shape := ⟨3, ![2, 2, 4096]⟩
abbrev S1x512x128 : Shape := ⟨3, ![1, 512, 128]⟩
abbrev S512x4096 : Shape := ⟨2, ![512, 4096]⟩
abbrev S512x128 : Shape := ⟨2, ![512, 128]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 92
  | .vmem => 19
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S_, .f32⟩
  | .hbm, ⟨7, _⟩ => ⟨S4096x8x32, .f32⟩
  | .hbm, ⟨8, _⟩ => ⟨S4096x8x128, .f32⟩
  | .hbm, ⟨9, _⟩ => ⟨S4096x1x32, .f32⟩
  | .hbm, ⟨10, _⟩ => ⟨S4096x8x32, .f32⟩
  | .hbm, ⟨11, _⟩ => ⟨S4096x8x128, .f32⟩
  | .hbm, ⟨12, _⟩ => ⟨S_, .f32⟩
  | .hbm, ⟨13, _⟩ => ⟨S4096x8x64, .f32⟩
  | .hbm, ⟨14, _⟩ => ⟨S4096x8x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8x128, .f32⟩
  | .hbm, ⟨20, _⟩ => ⟨S4096x8x128, .f32⟩
  | .hbm, ⟨21, _⟩ => ⟨S4096x8x128, .bf16⟩
  | .hbm, ⟨22, _⟩ => ⟨S4096x8x128, .bf16⟩
  | .hbm, ⟨23, _⟩ => ⟨S4096x8x128, .bf16⟩
  | .hbm, ⟨24, _⟩ => ⟨S8x4096x4096, .f32⟩
  | .hbm, ⟨25, _⟩ => ⟨S4096, .i32⟩
  | .hbm, ⟨26, _⟩ => ⟨S_, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S1x4096, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S1x4096x4096, .i1⟩
  | .hbm, ⟨50, _⟩ => ⟨S_, .f32⟩
  | .hbm, ⟨51, _⟩ => ⟨S_, .f32⟩
  | .hbm, ⟨52, _⟩ => ⟨S8x4096x4096, .i1⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x1x4096, .f32⟩
  | .hbm, ⟨58, _⟩ => ⟨S_, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .bf16⟩
  | .hbm, ⟨66, _⟩ => ⟨S8x128x4096, .f32⟩
  | .hbm, ⟨67, _⟩ => ⟨S8x1x4096, .f32⟩
  | .hbm, ⟨68, _⟩ => ⟨S8x128x4096, .f32⟩
  | .hbm, ⟨69, _⟩ => ⟨S8x128x4096, .f32⟩
  | .hbm, ⟨70, _⟩ => ⟨S8x64x4096, .f32⟩
  | .hbm, ⟨71, _⟩ => ⟨S8x1x4096, .f32⟩
  | .hbm, ⟨72, _⟩ => ⟨S8x1x4096, .f32⟩
  | .hbm, ⟨73, _⟩ => ⟨S8x1x4096, .f32⟩
  | .hbm, ⟨74, _⟩ => ⟨S8x1x4096, .f32⟩
  | .hbm, ⟨75, _⟩ => ⟨S_, .f32⟩
  | .hbm, ⟨76, _⟩ => ⟨S4096x8x64, .f32⟩
  | .hbm, ⟨77, _⟩ => ⟨S4096x8x128, .f32⟩
  | .hbm, ⟨78, _⟩ => ⟨S4096x8x128, .bf16⟩
  | .hbm, ⟨79, _⟩ => ⟨S8x64x4096, .f32⟩
  | .hbm, ⟨80, _⟩ => ⟨S8x64x4096, .f32⟩
  | .hbm, ⟨81, _⟩ => ⟨S_, .f32⟩
  | .hbm, ⟨82, _⟩ => ⟨S8x4096, .f32⟩
  | .hbm, ⟨83, _⟩ => ⟨S4096x1024, .bf16⟩
  | .hbm, ⟨84, _⟩ => ⟨S4096x1024, .bf16⟩
  | .hbm, ⟨85, _⟩ => ⟨S4096x1024, .bf16⟩
  | .hbm, ⟨86, _⟩ => ⟨S4096x1024, .bf16⟩
  | .hbm, ⟨87, _⟩ => ⟨S4x2x4096, .f32⟩
  | .hbm, ⟨88, _⟩ => ⟨S4x2x4096, .f32⟩
  | .hbm, ⟨89, _⟩ => ⟨S4096x1024, .bf16⟩
  | .hbm, ⟨90, _⟩ => ⟨S4096x1024, .bf16⟩
  | .hbm, ⟨91, _⟩ => ⟨S2x4096x128, .f32⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S4096x512, .bf16⟩
  | .local _ .vmem, ⟨7, _⟩ => ⟨S4096x512, .bf16⟩
  | .local _ .vmem, ⟨8, _⟩ => ⟨S2x2x4096, .f32⟩
  | .local _ .vmem, ⟨9, _⟩ => ⟨S2x2x4096, .f32⟩
  | .local _ .vmem, ⟨10, _⟩ => ⟨S2x2x4096, .f32⟩
  | .local _ .vmem, ⟨11, _⟩ => ⟨S2x2x4096, .f32⟩
  | .local _ .vmem, ⟨12, _⟩ => ⟨S4096x512, .bf16⟩
  | .local _ .vmem, ⟨13, _⟩ => ⟨S4096x512, .bf16⟩
  | .local _ .vmem, ⟨14, _⟩ => ⟨S512x512, .bf16⟩
  | .local _ .vmem, ⟨15, _⟩ => ⟨S512x512, .bf16⟩
  | .local _ .vmem, ⟨16, _⟩ => ⟨S1x512x128, .f32⟩
  | .local _ .vmem, ⟨17, _⟩ => ⟨S1x512x128, .f32⟩
  | .local _ .vmem, ⟨18, _⟩ => ⟨S512x4096, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_7 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54_0 : Ref sig .tc := ⟨.hbm, 89, rfl⟩
abbrev main_v54_1 : Ref sig .tc := ⟨.hbm, 90, rfl⟩
abbrev main_v54_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v78 : BitVec 32 := Scalar.muli arg1 c512_i32
  v78
def k0_off1 (i : grid0.Coords) : Fin 2 → Nat :=
  let arg1 : BitVec 32 := BitVec.ofNat 32 (i 1).val
  let c512_i32 : BitVec 32 := 512#32
  let v78 : BitVec 32 := Scalar.muli arg1 c512_i32
  let v79 : BitVec 32 := v78
  let v80 : Index := Scalar.indexCast v79
  let c0_26 : Index := 0#32
  ![v80.toNat, 0]
def k0_off2 (i : grid0.Coords) : Fin 2 → Nat :=
  let arg1 : BitVec 32 := BitVec.ofNat 32 (i 1).val
  let c512_i32 : BitVec 32 := 512#32
  let v78 : BitVec 32 := Scalar.muli arg1 c512_i32
  let v79 : BitVec 32 := v78
  let v83 : Index := Scalar.indexCast v79
  let c128_27 : Index := 128#32
  ![v83.toNat, 128]
def k0_off3 (i : grid0.Coords) : Fin 2 → Nat :=
  let arg1 : BitVec 32 := BitVec.ofNat 32 (i 1).val
  let c512_i32 : BitVec 32 := 512#32
  let v78 : BitVec 32 := Scalar.muli arg1 c512_i32
  let v79 : BitVec 32 := v78
  let v86 : Index := Scalar.indexCast v79
  let c256_28 : Index := 256#32
  ![v86.toNat, 256]
def k0_off4 (i : grid0.Coords) : Fin 2 → Nat :=
  let arg1 : BitVec 32 := BitVec.ofNat 32 (i 1).val
  let c512_i32 : BitVec 32 := 512#32
  let v78 : BitVec 32 := Scalar.muli arg1 c512_i32
  let v79 : BitVec 32 := v78
  let v89 : Index := Scalar.indexCast v79
  let c384_29 : Index := 384#32
  ![v89.toNat, 384]
def k0_off5 (i : grid0.Coords) : Fin 3 → Nat :=
  let c0_42 : Index := 0#32
  let c0_43 : Index := 0#32
  let arg1 : BitVec 32 := BitVec.ofNat 32 (i 1).val
  let c512_i32 : BitVec 32 := 512#32
  let v78 : BitVec 32 := Scalar.muli arg1 c512_i32
  let v79 : BitVec 32 := v78
  let v112 : Index := Scalar.indexCast v79
  ![0, 0, v112.toNat]
def k0_off6 (i : grid0.Coords) : Fin 3 → Nat :=
  let c0_44 : Index := 0#32
  let c1 : Index := 1#32
  let arg1 : BitVec 32 := BitVec.ofNat 32 (i 1).val
  let c512_i32 : BitVec 32 := 512#32
  let v78 : BitVec 32 := Scalar.muli arg1 c512_i32
  let v79 : BitVec 32 := v78
  let v118 : Index := Scalar.indexCast v79
  ![0, 1, v118.toNat]
def k0_off7 (i : grid0.Coords) : Fin 3 → Nat :=
  let c1_45 : Index := 1#32
  let c0_46 : Index := 0#32
  let arg1 : BitVec 32 := BitVec.ofNat 32 (i 1).val
  let c512_i32 : BitVec 32 := 512#32
  let v78 : BitVec 32 := Scalar.muli arg1 c512_i32
  let v79 : BitVec 32 := v78
  let v124 : Index := Scalar.indexCast v79
  ![1, 0, v124.toNat]
def k0_off8 (i : grid0.Coords) : Fin 3 → Nat :=
  let c1_47 : Index := 1#32
  let c1_48 : Index := 1#32
  let arg1 : BitVec 32 := BitVec.ofNat 32 (i 1).val
  let c512_i32 : BitVec 32 := 512#32
  let v78 : BitVec 32 := Scalar.muli arg1 c512_i32
  let v79 : BitVec 32 := v78
  let v130 : Index := Scalar.indexCast v79
  ![1, 1, v130.toNat]
def k0_off9 (i : grid0.Coords) : Fin 2 → Nat :=
  let c0_69 : Index := 0#32
  let arg1 : BitVec 32 := BitVec.ofNat 32 (i 1).val
  let c512_i32 : BitVec 32 := 512#32
  let v78 : BitVec 32 := Scalar.muli arg1 c512_i32
  let v79 : BitVec 32 := v78
  let v184 : Index := Scalar.indexCast v79
  ![0, v184.toNat]
def k0_off10 (i : grid0.Coords) : Fin 2 → Nat :=
  let c128_72 : Index := 128#32
  let arg1 : BitVec 32 := BitVec.ofNat 32 (i 1).val
  let c512_i32 : BitVec 32 := 512#32
  let v78 : BitVec 32 := Scalar.muli arg1 c512_i32
  let v79 : BitVec 32 := v78
  let v192 : Index := Scalar.indexCast v79
  ![128, v192.toNat]
def k0_off11 (i : grid0.Coords) : Fin 2 → Nat :=
  let c256_75 : Index := 256#32
  let arg1 : BitVec 32 := BitVec.ofNat 32 (i 1).val
  let c512_i32 : BitVec 32 := 512#32
  let v78 : BitVec 32 := Scalar.muli arg1 c512_i32
  let v79 : BitVec 32 := v78
  let v200 : Index := Scalar.indexCast v79
  ![256, v200.toNat]
def k0_off12 (i : grid0.Coords) : Fin 2 → Nat :=
  let c384_78 : Index := 384#32
  let arg1 : BitVec 32 := BitVec.ofNat 32 (i 1).val
  let c512_i32 : BitVec 32 := 512#32
  let v78 : BitVec 32 := Scalar.muli arg1 c512_i32
  let v79 : BitVec 32 := v78
  let v208 : Index := Scalar.indexCast v79
  ![384, v208.toNat]
@[reducible] def k0_t1_loop (i : grid0.Coords) : Scf.Loop 32 :=
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_83 : BitVec 32 := 1#32
  ⟨v224, v229, c1_i32_83⟩
def k0_mult2 (i : grid0.Coords) (k0_t1 : Fin (k0_t1_loop i).trips) : BitVec 32 :=
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  v276
def k0_off13 (i : grid0.Coords) (k0_t1 : Fin (k0_t1_loop i).trips) : Fin 2 → Nat :=
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v278 : Index := Scalar.indexCast v277
  let c0_108 : Index := 0#32
  ![v278.toNat, 0]
def k0_off14 (i : grid0.Coords) (k0_t1 : Fin (k0_t1_loop i).trips) : Fin 2 → Nat :=
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v281 : Index := Scalar.indexCast v277
  let c128_109 : Index := 128#32
  ![v281.toNat, 128]
def k0_off15 (i : grid0.Coords) (k0_t1 : Fin (k0_t1_loop i).trips) : Fin 2 → Nat :=
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v284 : Index := Scalar.indexCast v277
  let c256_110 : Index := 256#32
  ![v284.toNat, 256]
def k0_off16 (i : grid0.Coords) (k0_t1 : Fin (k0_t1_loop i).trips) : Fin 2 → Nat :=
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v287 : Index := Scalar.indexCast v277
  let c384_111 : Index := 384#32
  ![v287.toNat, 384]
def k0_off17 (i : grid0.Coords) (k0_t1 : Fin (k0_t1_loop i).trips) : Fin 3 → Nat :=
  let c0_124 : Index := 0#32
  let c0_125 : Index := 0#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v310 : Index := Scalar.indexCast v277
  ![0, 0, v310.toNat]
def k0_off18 (i : grid0.Coords) (k0_t1 : Fin (k0_t1_loop i).trips) : Fin 3 → Nat :=
  let c0_126 : Index := 0#32
  let c1_127 : Index := 1#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v316 : Index := Scalar.indexCast v277
  ![0, 1, v316.toNat]
def k0_off19 (i : grid0.Coords) (k0_t1 : Fin (k0_t1_loop i).trips) : Fin 3 → Nat :=
  let c1_128 : Index := 1#32
  let c0_129 : Index := 0#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v322 : Index := Scalar.indexCast v277
  ![1, 0, v322.toNat]
def k0_off20 (i : grid0.Coords) (k0_t1 : Fin (k0_t1_loop i).trips) : Fin 3 → Nat :=
  let c1_130 : Index := 1#32
  let c1_131 : Index := 1#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v328 : Index := Scalar.indexCast v277
  ![1, 1, v328.toNat]
def k0_off21 (i : grid0.Coords) (k0_t1 : Fin (k0_t1_loop i).trips) : Fin 2 → Nat :=
  let c0_148 : Index := 0#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v374 : Index := Scalar.indexCast v277
  ![0, v374.toNat]
def k0_off22 (i : grid0.Coords) (k0_t1 : Fin (k0_t1_loop i).trips) : Fin 2 → Nat :=
  let c128_151 : Index := 128#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v382 : Index := Scalar.indexCast v277
  ![128, v382.toNat]
def k0_off23 (i : grid0.Coords) (k0_t1 : Fin (k0_t1_loop i).trips) : Fin 2 → Nat :=
  let c256_154 : Index := 256#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v390 : Index := Scalar.indexCast v277
  ![256, v390.toNat]
def k0_off24 (i : grid0.Coords) (k0_t1 : Fin (k0_t1_loop i).trips) : Fin 2 → Nat :=
  let c384_157 : Index := 384#32
  let arg1 : BitVec 32 := BitVec.ofNat 32 (i 1).val
  let c1_i32_81 : BitVec 32 := 1#32
  let v224 : BitVec 32 := Scalar.addi arg1 c1_i32_81
  let c1_i32_83 : BitVec 32 := 1#32
  let arg12 : BitVec 32 := Scf.iv v224 c1_i32_83 k0_t1
  let c512_i32_107 : BitVec 32 := 512#32
  let v276 : BitVec 32 := Scalar.muli arg12 c512_i32_107
  let v277 : BitVec 32 := v276
  let v398 : Index := Scalar.indexCast v277
  ![384, v398.toNat]
@[reducible] def k0_t2_loop (i : grid0.Coords) : Scf.Loop 32 :=
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let v226 : BitVec 32 := Scalar.addi v224 v225
  let c1_i32_84 : BitVec 32 := 1#32
  ⟨v229, v226, c1_i32_84⟩
def k0_mult3 (i : grid0.Coords) (k0_t2 : Fin (k0_t2_loop i).trips) : BitVec 32 :=
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  v276
def k0_off25 (i : grid0.Coords) (k0_t2 : Fin (k0_t2_loop i).trips) : Fin 2 → Nat :=
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v278 : Index := Scalar.indexCast v277
  let c0_108 : Index := 0#32
  ![v278.toNat, 0]
def k0_off26 (i : grid0.Coords) (k0_t2 : Fin (k0_t2_loop i).trips) : Fin 2 → Nat :=
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v281 : Index := Scalar.indexCast v277
  let c128_109 : Index := 128#32
  ![v281.toNat, 128]
def k0_off27 (i : grid0.Coords) (k0_t2 : Fin (k0_t2_loop i).trips) : Fin 2 → Nat :=
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v284 : Index := Scalar.indexCast v277
  let c256_110 : Index := 256#32
  ![v284.toNat, 256]
def k0_off28 (i : grid0.Coords) (k0_t2 : Fin (k0_t2_loop i).trips) : Fin 2 → Nat :=
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v287 : Index := Scalar.indexCast v277
  let c384_111 : Index := 384#32
  ![v287.toNat, 384]
def k0_off29 (i : grid0.Coords) (k0_t2 : Fin (k0_t2_loop i).trips) : Fin 3 → Nat :=
  let c0_124 : Index := 0#32
  let c0_125 : Index := 0#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v310 : Index := Scalar.indexCast v277
  ![0, 0, v310.toNat]
def k0_off30 (i : grid0.Coords) (k0_t2 : Fin (k0_t2_loop i).trips) : Fin 3 → Nat :=
  let c0_126 : Index := 0#32
  let c1_127 : Index := 1#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v316 : Index := Scalar.indexCast v277
  ![0, 1, v316.toNat]
def k0_off31 (i : grid0.Coords) (k0_t2 : Fin (k0_t2_loop i).trips) : Fin 3 → Nat :=
  let c1_128 : Index := 1#32
  let c0_129 : Index := 0#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v322 : Index := Scalar.indexCast v277
  ![1, 0, v322.toNat]
def k0_off32 (i : grid0.Coords) (k0_t2 : Fin (k0_t2_loop i).trips) : Fin 3 → Nat :=
  let c1_130 : Index := 1#32
  let c1_131 : Index := 1#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v328 : Index := Scalar.indexCast v277
  ![1, 1, v328.toNat]
def k0_off33 (i : grid0.Coords) (k0_t2 : Fin (k0_t2_loop i).trips) : Fin 2 → Nat :=
  let c0_148 : Index := 0#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v374 : Index := Scalar.indexCast v277
  ![0, v374.toNat]
def k0_off34 (i : grid0.Coords) (k0_t2 : Fin (k0_t2_loop i).trips) : Fin 2 → Nat :=
  let c128_151 : Index := 128#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v382 : Index := Scalar.indexCast v277
  ![128, v382.toNat]
def k0_off35 (i : grid0.Coords) (k0_t2 : Fin (k0_t2_loop i).trips) : Fin 2 → Nat :=
  let c256_154 : Index := 256#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v390 : Index := Scalar.indexCast v277
  ![256, v390.toNat]
def k0_off36 (i : grid0.Coords) (k0_t2 : Fin (k0_t2_loop i).trips) : Fin 2 → Nat :=
  let c384_157 : Index := 384#32
  let arg1 : BitVec 32 := BitVec.ofNat 32 (i 1).val
  let c1_i32_81 : BitVec 32 := 1#32
  let v224 : BitVec 32 := Scalar.addi arg1 c1_i32_81
  let c8_i32 : BitVec 32 := 8#32
  let v225 : BitVec 32 := Scalar.subi c8_i32 v224
  let c1_i32_82 : BitVec 32 := 1#32
  let v227 : BitVec 32 := Scalar.divsi v225 c1_i32_82
  let v228 : BitVec 32 := Scalar.muli v227 c1_i32_82
  let v229 : BitVec 32 := Scalar.addi v224 v228
  let c1_i32_84 : BitVec 32 := 1#32
  let arg12 : BitVec 32 := Scf.iv v229 c1_i32_84 k0_t2
  let c512_i32_107 : BitVec 32 := 512#32
  let v276 : BitVec 32 := Scalar.muli arg12 c512_i32_107
  let v277 : BitVec 32 := v276
  let v398 : Index := Scalar.indexCast v277
  ![384, v398.toNat]
def k0_cond2 (i : grid0.Coords) : BitVec 1 :=
  let arg1 : BitVec 32 := BitVec.ofNat 32 (i 1).val
  let c7_i32 : BitVec 32 := 7#32
  let v273 : BitVec 1 := Scalar.cmpi .eq arg1 c7_i32
  let v274 : BitVec 32 := Scalar.extui v273
  let c0_i32_106 : BitVec 32 := 0#32
  let v275 : BitVec 1 := Scalar.cmpi .ne v274 c0_i32_106
  v275

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "ln2" => some ((Real.log 2 : ℝ) : EReal)
  | _ => none
-- ==== AttnRefIdeal.lean ====
abbrev S4096x8x64 : Shape := ⟨3, ![4096, 8, 64]⟩
abbrev S4096x8x32 : Shape := ⟨3, ![4096, 8, 32]⟩
abbrev S4096x32 : Shape := ⟨2, ![4096, 32]⟩
abbrev S1x4096x32 : Shape := ⟨3, ![1, 4096, 32]⟩
abbrev S8x4096x32 : Shape := ⟨3, ![8, 4096, 32]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x64 : Shape := ⟨3, ![8, 4096, 64]⟩
abbrev S4096x8x128 : Shape := ⟨3, ![4096, 8, 128]⟩
abbrev S4096x1024 : Shape := ⟨2, ![4096, 1024]⟩
abbrev S2x4096x64 : Shape := ⟨3, ![2, 4096, 64]⟩
abbrev S2x4x4096x32 : Shape := ⟨4, ![2, 4, 4096, 32]⟩
abbrev S2x4096x32 : Shape := ⟨3, ![2, 4096, 32]⟩
abbrev S2x4096x128 : Shape := ⟨3, ![2, 4096, 128]⟩

abbrev nBuf : Space → Nat
  | .hbm => 133
  | .vmem => 0
  | .smem => 0
  | _ => 0

abbrev hbmTy0_0 (i : Nat) : BufTy := match i % 128 with
  | 0 => ⟨S4096x8x64, .f32⟩
  | 1 => ⟨S4096x8x32, .f32⟩
  | 2 => ⟨S4096x8x64, .f32⟩
  | 3 => ⟨S4096x32, .f32⟩
  | 4 => ⟨S4096x8x64, .f32⟩
  | 5 => ⟨S4096x8x64, .f32⟩
  | 6 => ⟨S1x4096x32, .f32⟩
  | 7 => ⟨S8x4096x32, .f32⟩
  | 8 => ⟨S8x4096x4096, .f32⟩
  | 9 => ⟨S8x4096x4096, .f32⟩
  | 10 => ⟨S8x4096x4096, .f32⟩
  | 11 => ⟨S_, .f32⟩
  | 12 => ⟨S8x4096x4096, .f32⟩
  | 13 => ⟨S8x4096x4096, .f32⟩
  | 14 => ⟨S4096, .i32⟩
  | 15 => ⟨S_, .i32⟩
  | 16 => ⟨S_, .i32⟩
  | 17 => ⟨S4096, .i32⟩
  | 18 => ⟨S4096, .i32⟩
  | 19 => ⟨S4096, .i32⟩
  | 20 => ⟨S_, .i32⟩
  | 21 => ⟨S4096, .i32⟩
  | 22 => ⟨S4096, .i1⟩
  | 23 => ⟨S4096, .i32⟩
  | 24 => ⟨S4096, .i32⟩
  | 25 => ⟨S_, .i32⟩
  | 26 => ⟨S4096, .i32⟩
  | 27 => ⟨S4096, .i1⟩
  | 28 => ⟨S4096, .i1⟩
  | 29 => ⟨S_, .i32⟩
  | 30 => ⟨S4096, .i32⟩
  | 31 => ⟨S4096, .i32⟩
  | 32 => ⟨S4096, .i32⟩
  | 33 => ⟨S1x4096, .i32⟩
  | 34 => ⟨S4096x1, .i32⟩
  | 35 => ⟨S4096x4096, .i32⟩
  | 36 => ⟨S4096x4096, .i32⟩
  | 37 => ⟨S4096x4096, .i1⟩
  | 38 => ⟨S1x4096x4096, .i1⟩
  | 39 => ⟨S_, .f32⟩
  | 40 => ⟨S_, .f32⟩
  | 41 => ⟨S8x4096x4096, .i1⟩
  | 42 => ⟨S8x4096x4096, .f32⟩
  | 43 => ⟨S8x4096x4096, .f32⟩
  | 44 => ⟨S_, .f32⟩
  | 45 => ⟨S8x4096x4096, .f32⟩
  | 46 => ⟨S_, .f32⟩
  | 47 => ⟨S8x4096, .f32⟩
  | 48 => ⟨S8x4096x1, .f32⟩
  | 49 => ⟨S8x4096x4096, .f32⟩
  | 50 => ⟨S8x4096x4096, .i1⟩
  | 51 => ⟨S8x4096x4096, .f32⟩
  | 52 => ⟨S_, .f32⟩
  | 53 => ⟨S8x4096, .f32⟩
  | 54 => ⟨S_, .f32⟩
  | 55 => ⟨S8x4096, .f32⟩
  | 56 => ⟨S8x4096, .f32⟩
  | 57 => ⟨S_, .f32⟩
  | 58 => ⟨S8x4096, .f32⟩
  | 59 => ⟨S8x4096, .i1⟩
  | 60 => ⟨S_, .f32⟩
  | 61 => ⟨S8x4096, .f32⟩
  | 62 => ⟨S8x4096, .i1⟩
  | 63 => ⟨S_, .f32⟩
  | 64 => ⟨S8x4096, .f32⟩
  | 65 => ⟨S_, .f32⟩
  | 66 => ⟨S8x4096, .f32⟩
  | 67 => ⟨S_, .f32⟩
  | 68 => ⟨S8x4096, .f32⟩
  | 69 => ⟨S8x4096, .f32⟩
  | 70 => ⟨S8x4096, .f32⟩
  | 71 => ⟨S8x4096x1, .f32⟩
  | 72 => ⟨S8x4096x4096, .f32⟩
  | 73 => ⟨S8x4096x4096, .f32⟩
  | 74 => ⟨S8x4096x4096, .f32⟩
  | 75 => ⟨S_, .f32⟩
  | 76 => ⟨S8x4096, .f32⟩
  | 77 => ⟨S8x4096x1, .f32⟩
  | 78 => ⟨S8x4096x4096, .f32⟩
  | 79 => ⟨S8x4096x4096, .f32⟩
  | 80 => ⟨S8x4096x1, .f32⟩
  | 81 => ⟨S_, .f32⟩
  | 82 => ⟨S8x4096x1, .f32⟩
  | 83 => ⟨S8x4096x1, .f32⟩
  | 84 => ⟨S8x64x4096, .f32⟩
  | 85 => ⟨S4096x8x64, .f32⟩
  | 86 => ⟨S8x64x4096, .f32⟩
  | 87 => ⟨S8x4096x4096, .f32⟩
  | 88 => ⟨S8x64x4096, .f32⟩
  | 89 => ⟨S4096x8x64, .f32⟩
  | 90 => ⟨S8x4096x4096, .f32⟩
  | 91 => ⟨S8x4096x4096, .f32⟩
  | 92 => ⟨S8x4096x4096, .f32⟩
  | 93 => ⟨S_, .f32⟩
  | 94 => ⟨S8x4096, .f32⟩
  | 95 => ⟨S8x4096x1, .f32⟩
  | 96 => ⟨S8x4096x1, .f32⟩
  | 97 => ⟨S8x4096x4096, .f32⟩
  | 98 => ⟨S8x4096x4096, .f32⟩
  | 99 => ⟨S_, .f32⟩
  | 100 => ⟨S8x4096, .f32⟩
  | 101 => ⟨S8x4096x4096, .f32⟩
  | 102 => ⟨S8x4096x4096, .f32⟩
  | 103 => ⟨S8x4096x4096, .f32⟩
  | 104 => ⟨S_, .f32⟩
  | 105 => ⟨S8x4096x4096, .f32⟩
  | 106 => ⟨S8x4096x4096, .f32⟩
  | 107 => ⟨S_, .f32⟩
  | 108 => ⟨S8x4096x4096, .f32⟩
  | 109 => ⟨S8x4096x4096, .f32⟩
  | 110 => ⟨S8x4096x32, .f32⟩
  | 111 => ⟨S8x4096x32, .f32⟩
  | 112 => ⟨S4096x8x32, .f32⟩
  | 113 => ⟨S8x4096x64, .f32⟩
  | 114 => ⟨S4096x8x64, .f32⟩
  | 115 => ⟨S8x4096x64, .f32⟩
  | 116 => ⟨S4096x8x64, .f32⟩
  | 117 => ⟨S_, .f32⟩
  | 118 => ⟨S4096x8x32, .f32⟩
  | 119 => ⟨S4096x8x128, .f32⟩
  | 120 => ⟨S4096x1024, .f32⟩
  | 121 => ⟨S4096x8x128, .f32⟩
  | 122 => ⟨S4096x1024, .f32⟩
  | 123 => ⟨S_, .f32⟩
  | 124 => ⟨S2x4096x64, .f32⟩
  | 125 => ⟨S2x4x4096x32, .f32⟩
  | 126 => ⟨S_, .f32⟩
  | 127 => ⟨S2x4096x32, .f32⟩
  | _ => ⟨S4096x8x64, .f32⟩

abbrev hbmTy0_1 (i : Nat) : BufTy := match i % 128 with
  | 0 => ⟨S_, .f32⟩
  | 1 => ⟨S2x4096x32, .f32⟩
  | 2 => ⟨S2x4096x128, .f32⟩
  | 3 => ⟨S4096x1024, .bf16⟩
  | 4 => ⟨S4096x1024, .bf16⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_call1_v0 : Ref sig .tc := ⟨.hbm, 40, rfl⟩
abbrev main_v15_1 : Ref sig .tc := ⟨.hbm, 41, rfl⟩
abbrev main_call1_v2 : Ref sig .tc := ⟨.hbm, 42, rfl⟩
abbrev main_v15_0 : Ref sig .tc := ⟨.hbm, 43, rfl⟩
abbrev main_call1_cst : Ref sig .tc := ⟨.hbm, 44, rfl⟩
abbrev main_v15_2 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_11 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_12 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_call2_cst : Ref sig .tc := ⟨.hbm, 104, rfl⟩
abbrev main_call2_v0 : Ref sig .tc := ⟨.hbm, 105, rfl⟩
abbrev main_v62 : Ref sig .tc := ⟨.hbm, 106, rfl⟩
abbrev main_cst_13 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_14 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_15 : Ref sig .tc := ⟨.hbm, 123, rfl⟩
abbrev main_v77 : Ref sig .tc := ⟨.hbm, 124, rfl⟩
abbrev main_v78 : Ref sig .tc := ⟨.hbm, 125, rfl⟩
abbrev main_cst_16 : Ref sig .tc := ⟨.hbm, 126, rfl⟩
abbrev main_v79 : Ref sig .tc := ⟨.hbm, 127, rfl⟩
abbrev main_cst_17 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩

abbrev nD : Nat := 1
abbrev τ : Topo := Topo.v7x

variable {F : FTy → Type} [FloatOps F]
-- ==== MlaBwd.lean ====
abbrev S4096x8x64 : Shape := ⟨3, ![4096, 8, 64]⟩
abbrev S4096x8x32 : Shape := ⟨3, ![4096, 8, 32]⟩
abbrev S2x4096x32 : Shape := ⟨3, ![2, 4096, 32]⟩
abbrev S4096x384 : Shape := ⟨2, ![4096, 384]⟩
abbrev S4096x256 : Shape := ⟨2, ![4096, 256]⟩
abbrev S4096x32 : Shape := ⟨2, ![4096, 32]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S_ : Shape := ⟨0, ![]⟩
abbrev S4096x8x128 : Shape := ⟨3, ![4096, 8, 128]⟩
abbrev S4096x1024 : Shape := ⟨2, ![4096, 1024]⟩
abbrev S2x4096x64 : Shape := ⟨3, ![2, 4096, 64]⟩
abbrev S2x4096x128 : Shape := ⟨3, ![2, 4096, 128]⟩
abbrev S4096x64 : Shape := ⟨2, ![4096, 64]⟩
abbrev S4096x768 : Shape := ⟨2, ![4096, 768]⟩
abbrev S384x8x32 : Shape := ⟨3, ![384, 8, 32]⟩
abbrev S384x8x128 : Shape := ⟨3, ![384, 8, 128]⟩
abbrev S384x1024 : Shape := ⟨2, ![384, 1024]⟩
abbrev S256x1024 : Shape := ⟨2, ![256, 1024]⟩
abbrev S1x256 : Shape := ⟨2, ![1, 256]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x128 : Shape := ⟨2, ![4096, 128]⟩
abbrev S1x384 : Shape := ⟨2, ![1, 384]⟩
abbrev S512x1024 : Shape := ⟨2, ![512, 1024]⟩
abbrev S2x512x128 : Shape := ⟨3, ![2, 512, 128]⟩
abbrev S512x768 : Shape := ⟨2, ![512, 768]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩

abbrev nBuf : Space → Nat
  | .hbm => 77
  | .vmem => 26
  | .smem => 0
  | _ => 0

abbrev bufTy : (tb : Table) → Fin (tcTables nBuf tb) → BufTy
  | .hbm, ⟨0, _⟩ => ⟨S4096x8x64, .bf16⟩
  | .hbm, ⟨1, _⟩ => ⟨S4096x8x32, .bf16⟩
  | .hbm, ⟨2, _⟩ => ⟨S4096x8x64, .bf16⟩
  | .hbm, ⟨3, _⟩ => ⟨S4096x8x64, .bf16⟩
  | .hbm, ⟨4, _⟩ => ⟨S2x4096x32, .f32⟩
  | .hbm, ⟨5, _⟩ => ⟨S4096x384, .f32⟩
  | .hbm, ⟨6, _⟩ => ⟨S4096x256, .f32⟩
  | .hbm, ⟨7, _⟩ => ⟨S4096x32, .f32⟩
  | .hbm, ⟨8, _⟩ => ⟨S384, .f32⟩
  | .hbm, ⟨9, _⟩ => ⟨S384x8x96, .f32⟩
  | .hbm, ⟨10, _⟩ => ⟨S256, .f32⟩
  | .hbm, ⟨11, _⟩ => ⟨S256x8x128, .f32⟩
  | .hbm, ⟨12, _⟩ => ⟨S_, .bf16⟩
  | .hbm, ⟨13, _⟩ => ⟨S4096x8x32, .bf16⟩
  | .hbm, ⟨14, _⟩ => ⟨S4096x8x128, .bf16⟩
  | .hbm, ⟨15, _⟩ => ⟨S4096x1024, .bf16⟩
  | .hbm, ⟨16, _⟩ => ⟨S4096x8x128, .bf16⟩
  | .hbm, ⟨17, _⟩ => ⟨S4096x1024, .bf16⟩
  | .hbm, ⟨18, _⟩ => ⟨S_, .f32⟩
  | .hbm, ⟨19, _⟩ => ⟨S2x4096x64, .f32⟩
  | .hbm, ⟨20, _⟩ => ⟨S_, .f32⟩
  | .hbm, ⟨21, _⟩ => ⟨S2x4096x32, .f32⟩
  | .hbm, ⟨22, _⟩ => ⟨S2x4096x128, .f32⟩
  | .hbm, ⟨23, _⟩ => ⟨S_, .f32⟩
  | .hbm, ⟨24, _⟩ => ⟨S4096x64, .f32⟩
  | .hbm, ⟨25, _⟩ => ⟨S_, .f32⟩
  | .hbm, ⟨26, _⟩ => ⟨S4096x32, .f32⟩
  | .hbm, ⟨27, _⟩ => ⟨S4096x768, .f32⟩
  | .hbm, ⟨28, _⟩ => ⟨S384x8x96, .bf16⟩
  | .hbm, ⟨29, _⟩ => ⟨S_, .bf16⟩
  | .hbm, ⟨30, _⟩ => ⟨S384x8x32, .bf16⟩
  | .hbm, ⟨31, _⟩ => ⟨S384x8x128, .bf16⟩
  | .hbm, ⟨32, _⟩ => ⟨S384x1024, .bf16⟩
  | .hbm, ⟨33, _⟩ => ⟨S256x8x128, .bf16⟩
  | .hbm, ⟨34, _⟩ => ⟨S256x1024, .bf16⟩
  | .hbm, ⟨35, _⟩ => ⟨S1x256, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S4096, .f32⟩
  | .hbm, ⟨45, _⟩ => ⟨S4096x1, .f32⟩
  | .hbm, ⟨46, _⟩ => ⟨S1x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S_, .f32⟩
  | .hbm, ⟨53, _⟩ => ⟨S4096x64, .f32⟩
  | .hbm, ⟨54, _⟩ => ⟨S_, .f32⟩
  | .hbm, ⟨55, _⟩ => ⟨S4096x32, .f32⟩
  | .hbm, ⟨56, _⟩ => ⟨S4096x128, .f32⟩
  | .hbm, ⟨57, _⟩ => ⟨S_, .f32⟩
  | .hbm, ⟨58, _⟩ => ⟨S4096x64, .f32⟩
  | .hbm, ⟨59, _⟩ => ⟨S4096x16, .f32⟩
  | .hbm, ⟨60, _⟩ => ⟨S_, .f32⟩
  | .hbm, ⟨61, _⟩ => ⟨S4096x16, .f32⟩
  | .hbm, ⟨62, _⟩ => ⟨S_, .f32⟩
  | .hbm, ⟨63, _⟩ => ⟨S4096x32, .f32⟩
  | .hbm, ⟨64, _⟩ => ⟨S4096x128, .f32⟩
  | .hbm, ⟨65, _⟩ => ⟨S_, .f32⟩
  | .hbm, ⟨66, _⟩ => ⟨S4096x64, .f32⟩
  | .hbm, ⟨67, _⟩ => ⟨S_, .f32⟩
  | .hbm, ⟨68, _⟩ => ⟨S4096x16, .f32⟩
  | .hbm, ⟨69, _⟩ => ⟨S_, .f32⟩
  | .hbm, ⟨70, _⟩ => ⟨S4096x32, .f32⟩
  | .hbm, ⟨71, _⟩ => ⟨S4096x128, .f32⟩
  | .hbm, ⟨72, _⟩ => ⟨S4096x768, .bf16⟩
  | .hbm, ⟨73, _⟩ => ⟨S384x1024, .bf16⟩
  | .hbm, ⟨74, _⟩ => ⟨S256x1024, .bf16⟩
  | .hbm, ⟨75, _⟩ => ⟨S1x384, .f32⟩
  | .hbm, ⟨76, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2x512x128, .f32⟩
  | .local _ .vmem, ⟨5, _⟩ => ⟨S2x512x128, .f32⟩
  | .local _ .vmem, ⟨6, _⟩ => ⟨S512x768, .f32⟩
  | .local _ .vmem, ⟨7, _⟩ => ⟨S512x768, .f32⟩
  | .local _ .vmem, ⟨8, _⟩ => ⟨S384, .f32⟩
  | .local _ .vmem, ⟨9, _⟩ => ⟨S384x1024, .bf16⟩
  | .local _ .vmem, ⟨10, _⟩ => ⟨S1x256, .f32⟩
  | .local _ .vmem, ⟨11, _⟩ => ⟨S256x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x768, .bf16⟩
  | .local _ .vmem, ⟨19, _⟩ => ⟨S512x768, .bf16⟩
  | .local _ .vmem, ⟨20, _⟩ => ⟨S384x1024, .bf16⟩
  | .local _ .vmem, ⟨21, _⟩ => ⟨S256x1024, .bf16⟩
  | .local _ .vmem, ⟨22, _⟩ => ⟨S1x384, .f32⟩
  | .local _ .vmem, ⟨23, _⟩ => ⟨S1x256, .f32⟩
  | .local _ .vmem, ⟨24, _⟩ => ⟨S384x1024, .f32⟩
  | .local _ .vmem, ⟨25, _⟩ => ⟨S256x1024, .f32⟩
  | _, _ => ⟨S4096x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_cst_14 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_v44_2 : Ref sig .tc := ⟨.hbm, 74, rfl⟩
abbrev main_v44_3 : Ref sig .tc := ⟨.hbm, 75, rfl⟩
abbrev main_v44_4 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v157 : BitVec 1 := Scalar.cmpi .eq arg0 c7_i32
  let v158 : BitVec 32 := Scalar.extui v157
  let c0_i32_70 : BitVec 32 := 0#32
  let v159 : BitVec 1 := Scalar.cmpi .ne v158 c0_i32_70
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlaRefIdeal.lean ====
abbrev S4096x8x64 : Shape := ⟨3, ![4096, 8, 64]⟩
abbrev S4096x8x32 : Shape := ⟨3, ![4096, 8, 32]⟩
abbrev S2x4096x32 : Shape := ⟨3, ![2, 4096, 32]⟩
abbrev S4096x384 : Shape := ⟨2, ![4096, 384]⟩
abbrev S4096x256 : Shape := ⟨2, ![4096, 256]⟩
abbrev S4096x32 : Shape := ⟨2, ![4096, 32]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S1x4096x8x64 : Shape := ⟨4, ![1, 4096, 8, 64]⟩
abbrev S1x4096x8x32 : Shape := ⟨4, ![1, 4096, 8, 32]⟩
abbrev S1x4096x32 : Shape := ⟨3, ![1, 4096, 32]⟩
abbrev S1x4096x384 : Shape := ⟨3, ![1, 4096, 384]⟩
abbrev S1x4096x256 : Shape := ⟨3, ![1, 4096, 256]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096 : Shape := ⟨2, ![1, 4096]⟩
abbrev S1x4096x1 : Shape := ⟨3, ![1, 4096, 1]⟩
abbrev S1x1x384 : Shape := ⟨3, ![1, 1, 384]⟩
abbrev S1x4096x8x96 : Shape := ⟨4, ![1, 4096, 8, 96]⟩
abbrev S1x4096x1x16 : Shape := ⟨4, ![1, 4096, 1, 16]⟩
abbrev S1x4096x8x16 : Shape := ⟨4, ![1, 4096, 8, 16]⟩
abbrev S1x1x256 : Shape := ⟨3, ![1, 1, 256]⟩
abbrev S1x4096x8x128 : Shape := ⟨4, ![1, 4096, 8, 128]⟩
abbrev S1x4096x16 : Shape := ⟨3, ![1, 4096, 16]⟩
abbrev S8x128x256 : Shape := ⟨3, ![8, 128, 256]⟩
abbrev S1x256 : Shape := ⟨2, ![1, 256]⟩
abbrev S8x96x384 : Shape := ⟨3, ![8, 96, 384]⟩
abbrev S1x384 : Shape := ⟨2, ![1, 384]⟩
abbrev S4096x64 : Shape := ⟨2, ![4096, 64]⟩
abbrev S4096x768 : Shape := ⟨2, ![4096, 768]⟩
abbrev S384x8x32 : Shape := ⟨3, ![384, 8, 32]⟩
abbrev S384x8x128 : Shape := ⟨3, ![384, 8, 128]⟩
abbrev S384x1024 : Shape := ⟨2, ![384, 1024]⟩
abbrev S256x1024 : Shape := ⟨2, ![256, 1024]⟩

abbrev nBuf : Space → Nat
  | .hbm => 227
  | .vmem => 0
  | .smem => 0
  | _ => 0

abbrev hbmTy0_0 (i : Nat) : BufTy := match i % 128 with
  | 0 => ⟨S4096x8x64, .bf16⟩
  | 1 => ⟨S4096x8x32, .bf16⟩
  | 2 => ⟨S4096x8x64, .bf16⟩
  | 3 => ⟨S4096x8x64, .bf16⟩
  | 4 => ⟨S2x4096x32, .f32⟩
  | 5 => ⟨S4096x384, .f32⟩
  | 6 => ⟨S4096x256, .f32⟩
  | 7 => ⟨S4096x32, .f32⟩
  | 8 => ⟨S384, .f32⟩
  | 9 => ⟨S384x8x96, .f32⟩
  | 10 => ⟨S256, .f32⟩
  | 11 => ⟨S256x8x128, .f32⟩
  | 12 => ⟨S1x4096x8x64, .bf16⟩
  | 13 => ⟨S1x4096x8x64, .f32⟩
  | 14 => ⟨S1x4096x8x32, .bf16⟩
  | 15 => ⟨S1x4096x8x32, .f32⟩
  | 16 => ⟨S1x4096x8x64, .bf16⟩
  | 17 => ⟨S1x4096x8x64, .f32⟩
  | 18 => ⟨S1x4096x8x64, .bf16⟩
  | 19 => ⟨S1x4096x8x64, .f32⟩
  | 20 => ⟨S1x4096x32, .f32⟩
  | 21 => ⟨S4096x32, .f32⟩
  | 22 => ⟨S1x4096x32, .f32⟩
  | 23 => ⟨S4096x32, .f32⟩
  | 24 => ⟨S4096x32, .f32⟩
  | 25 => ⟨S1x4096x32, .f32⟩
  | 26 => ⟨S1x4096x384, .f32⟩
  | 27 => ⟨S1x4096x256, .f32⟩
  | 28 => ⟨S1x4096x32, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S4096, .f32⟩
  | 38 => ⟨S4096x1, .f32⟩
  | 39 => ⟨S1x16, .f32⟩
  | 40 => ⟨S4096x16, .f32⟩
  | 41 => ⟨S4096x16, .f32⟩
  | 42 => ⟨S4096x16, .f32⟩
  | 43 => ⟨S4096x16, .f32⟩
  | 44 => ⟨S4096x16, .f32⟩
  | 45 => ⟨S1x4096x384, .f32⟩
  | 46 => ⟨S_, .f32⟩
  | 47 => ⟨S1x4096, .f32⟩
  | 48 => ⟨S1x4096x1, .f32⟩
  | 49 => ⟨S_, .f32⟩
  | 50 => ⟨S1x4096x1, .f32⟩
  | 51 => ⟨S1x4096x1, .f32⟩
  | 52 => ⟨S_, .f32⟩
  | 53 => ⟨S1x4096x1, .f32⟩
  | 54 => ⟨S1x4096x1, .f32⟩
  | 55 => ⟨S1x4096x1, .f32⟩
  | 56 => ⟨S1x4096x1, .f32⟩
  | 57 => ⟨S_, .f32⟩
  | 58 => ⟨S1x4096x1, .f32⟩
  | 59 => ⟨S1x4096x1, .f32⟩
  | 60 => ⟨S1x4096x384, .f32⟩
  | 61 => ⟨S1x4096x384, .f32⟩
  | 62 => ⟨S1x1x384, .f32⟩
  | 63 => ⟨S1x4096x384, .f32⟩
  | 64 => ⟨S1x4096x384, .f32⟩
  | 65 => ⟨S1x4096x8x96, .f32⟩
  | 66 => ⟨S1x4096x8x64, .f32⟩
  | 67 => ⟨S1x4096x8x32, .f32⟩
  | 68 => ⟨S1x4096x1x16, .f32⟩
  | 69 => ⟨S1x4096x1x16, .f32⟩
  | 70 => ⟨S1x4096x8x16, .f32⟩
  | 71 => ⟨S1x4096x8x16, .f32⟩
  | 72 => ⟨S1x4096x8x16, .f32⟩
  | 73 => ⟨S1x4096x8x16, .f32⟩
  | 74 => ⟨S1x4096x8x16, .f32⟩
  | 75 => ⟨S1x4096x8x16, .f32⟩
  | 76 => ⟨S1x4096x8x16, .f32⟩
  | 77 => ⟨S1x4096x8x16, .f32⟩
  | 78 => ⟨S1x4096x8x16, .f32⟩
  | 79 => ⟨S1x4096x8x16, .f32⟩
  | 80 => ⟨S1x4096x8x16, .f32⟩
  | 81 => ⟨S1x4096x8x16, .f32⟩
  | 82 => ⟨S1x4096x8x32, .f32⟩
  | 83 => ⟨S1x4096x256, .f32⟩
  | 84 => ⟨S_, .f32⟩
  | 85 => ⟨S1x4096, .f32⟩
  | 86 => ⟨S1x4096x1, .f32⟩
  | 87 => ⟨S_, .f32⟩
  | 88 => ⟨S1x4096x1, .f32⟩
  | 89 => ⟨S1x4096x1, .f32⟩
  | 90 => ⟨S_, .f32⟩
  | 91 => ⟨S1x4096x1, .f32⟩
  | 92 => ⟨S1x4096x1, .f32⟩
  | 93 => ⟨S1x4096x1, .f32⟩
  | 94 => ⟨S1x4096x1, .f32⟩
  | 95 => ⟨S_, .f32⟩
  | 96 => ⟨S1x4096x1, .f32⟩
  | 97 => ⟨S1x4096x1, .f32⟩
  | 98 => ⟨S1x4096x256, .f32⟩
  | 99 => ⟨S1x4096x256, .f32⟩
  | 100 => ⟨S1x1x256, .f32⟩
  | 101 => ⟨S1x4096x256, .f32⟩
  | 102 => ⟨S1x4096x256, .f32⟩
  | 103 => ⟨S1x4096x8x128, .f32⟩
  | 104 => ⟨S1x4096x8x64, .f32⟩
  | 105 => ⟨S1x4096x8x64, .f32⟩
  | 106 => ⟨S1x4096x16, .f32⟩
  | 107 => ⟨S1x4096x16, .f32⟩
  | 108 => ⟨S1x4096x16, .f32⟩
  | 109 => ⟨S1x4096x16, .f32⟩
  | 110 => ⟨S1x4096x16, .f32⟩
  | 111 => ⟨S1x4096x16, .f32⟩
  | 112 => ⟨S1x4096x16, .f32⟩
  | 113 => ⟨S1x4096x16, .f32⟩
  | 114 => ⟨S1x4096x16, .f32⟩
  | 115 => ⟨S1x4096x16, .f32⟩
  | 116 => ⟨S1x4096x32, .f32⟩
  | 117 => ⟨S1x4096x16, .f32⟩
  | 118 => ⟨S1x4096x16, .f32⟩
  | 119 => ⟨S1x4096x16, .f32⟩
  | 120 => ⟨S1x4096x16, .f32⟩
  | 121 => ⟨S1x4096x16, .f32⟩
  | 122 => ⟨S1x4096x16, .f32⟩
  | 123 => ⟨S1x4096x16, .f32⟩
  | 124 => ⟨S1x4096x16, .f32⟩
  | 125 => ⟨S1x4096x16, .f32⟩
  | 126 => ⟨S1x4096x32, .f32⟩
  | 127 => ⟨S_, .f32⟩
  | _ => ⟨S4096x8x64, .bf16⟩

abbrev hbmTy0_1 (i : Nat) : BufTy := match i % 128 with
  | 0 => ⟨S1x4096x8x128, .f32⟩
  | 1 => ⟨S_, .f32⟩
  | 2 => ⟨S1x4096x8x128, .f32⟩
  | 3 => ⟨S1x4096x8x128, .f32⟩
  | 4 => ⟨S8x128x256, .f32⟩
  | 5 => ⟨S256x8x128, .f32⟩
  | 6 => ⟨S1x4096x256, .f32⟩
  | 7 => ⟨S1x4096x256, .f32⟩
  | 8 => ⟨S_, .f32⟩
  | 9 => ⟨S1x256, .f32⟩
  | 10 => ⟨S1x1x256, .f32⟩
  | 11 => ⟨S1x4096x256, .f32⟩
  | 12 => ⟨S1x4096x256, .f32⟩
  | 13 => ⟨S_, .f32⟩
  | 14 => ⟨S256, .f32⟩
  | 15 => ⟨S1x4096x256, .f32⟩
  | 16 => ⟨S_, .f32⟩
  | 17 => ⟨S1x4096, .f32⟩
  | 18 => ⟨S1x4096x1, .f32⟩
  | 19 => ⟨S1x4096x256, .f32⟩
  | 20 => ⟨S1x4096x256, .f32⟩
  | 21 => ⟨S1x4096x1, .f32⟩
  | 22 => ⟨S_, .f32⟩
  | 23 => ⟨S1x4096x1, .f32⟩
  | 24 => ⟨S1x4096x1, .f32⟩
  | 25 => ⟨S_, .f32⟩
  | 26 => ⟨S4096, .f32⟩
  | 27 => ⟨S1x4096, .f32⟩
  | 28 => ⟨S1x4096x256, .f32⟩
  | 29 => ⟨S1x4096x256, .f32⟩
  | 30 => ⟨S1x4096x256, .f32⟩
  | 31 => ⟨S1x4096x256, .f32⟩
  | 32 => ⟨S1x4096x256, .f32⟩
  | 33 => ⟨S1x4096x8x16, .f32⟩
  | 34 => ⟨S1x4096x8x16, .f32⟩
  | 35 => ⟨S1x4096x8x16, .f32⟩
  | 36 => ⟨S1x4096x8x16, .f32⟩
  | 37 => ⟨S1x4096x8x16, .f32⟩
  | 38 => ⟨S1x4096x8x16, .f32⟩
  | 39 => ⟨S1x4096x8x16, .f32⟩
  | 40 => ⟨S1x4096x8x16, .f32⟩
  | 41 => ⟨S1x4096x8x16, .f32⟩
  | 42 => ⟨S1x4096x8x16, .f32⟩
  | 43 => ⟨S1x4096x8x16, .f32⟩
  | 44 => ⟨S1x4096x8x16, .f32⟩
  | 45 => ⟨S1x4096x8x16, .f32⟩
  | 46 => ⟨S1x4096x8x32, .f32⟩
  | 47 => ⟨S_, .f32⟩
  | 48 => ⟨S1x4096x8x96, .f32⟩
  | 49 => ⟨S_, .f32⟩
  | 50 => ⟨S1x4096x8x96, .f32⟩
  | 51 => ⟨S1x4096x8x96, .f32⟩
  | 52 => ⟨S8x96x384, .f32⟩
  | 53 => ⟨S384x8x96, .f32⟩
  | 54 => ⟨S1x4096x384, .f32⟩
  | 55 => ⟨S1x4096x384, .f32⟩
  | 56 => ⟨S_, .f32⟩
  | 57 => ⟨S1x384, .f32⟩
  | 58 => ⟨S1x1x384, .f32⟩
  | 59 => ⟨S1x4096x384, .f32⟩
  | 60 => ⟨S1x4096x384, .f32⟩
  | 61 => ⟨S_, .f32⟩
  | 62 => ⟨S384, .f32⟩
  | 63 => ⟨S1x4096x384, .f32⟩
  | 64 => ⟨S_, .f32⟩
  | 65 => ⟨S1x4096, .f32⟩
  | 66 => ⟨S1x4096x1, .f32⟩
  | 67 => ⟨S1x4096x384, .f32⟩
  | 68 => ⟨S1x4096x384, .f32⟩
  | 69 => ⟨S1x4096x1, .f32⟩
  | 70 => ⟨S_, .f32⟩
  | 71 => ⟨S1x4096x1, .f32⟩
  | 72 => ⟨S1x4096x1, .f32⟩
  | 73 => ⟨S_, .f32⟩
  | 74 => ⟨S4096, .f32⟩
  | 75 => ⟨S1x4096, .f32⟩
  | 76 => ⟨S1x4096x384, .f32⟩
  | 77 => ⟨S1x4096x384, .f32⟩
  | 78 => ⟨S1x4096x384, .f32⟩
  | 79 => ⟨S1x4096x384, .f32⟩
  | 80 => ⟨S1x4096x384, .f32⟩
  | 81 => ⟨S4096x384, .f32⟩
  | 82 => ⟨S4096x256, .f32⟩
  | 83 => ⟨S_, .f32⟩
  | 84 => ⟨S4096x64, .f32⟩
  | 85 => ⟨S4096x32, .f32⟩
  | 86 => ⟨S_, .f32⟩
  | 87 => ⟨S4096x32, .f32⟩
  | 88 => ⟨S4096x768, .f32⟩
  | 89 => ⟨S4096x768, .bf16⟩
  | 90 => ⟨S_, .f32⟩
  | 91 => ⟨S384x8x32, .f32⟩
  | 92 => ⟨S384x8x128, .f32⟩
  | 93 => ⟨S384x1024, .f32⟩
  | 94 => ⟨S384x1024, .bf16⟩
  | 95 => ⟨S256x1024, .f32⟩
  | 96 => ⟨S256x1024, .bf16⟩
  | 97 => ⟨S1x384, .f32⟩
  | 98 => ⟨S1x256, .f32⟩
  | _ => ⟨S4096x8x64, .bf16⟩

abbrev hbmTy (i : Nat) : BufTy := match i / 128 with
  | 0 => hbmTy0_0 i
  | 1 => hbmTy0_1 i
  | _ => ⟨S4096x8x64, .bf16⟩

abbrev bufTy : (tb : Table) → Fin (tcTables nBuf tb) → BufTy
  | .hbm, ⟨i, _⟩ => hbmTy i
  | _, _ => ⟨S4096x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_8 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_9 : Ref sig .tc := ⟨.hbm, 127, rfl⟩
abbrev main_v105 : Ref sig .tc := ⟨.hbm, 128, rfl⟩
abbrev main_cst_10 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_11 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_12 : Ref sig .tc := ⟨.hbm, 141, rfl⟩
abbrev main_v116 : Ref sig .tc := ⟨.hbm, 142, rfl⟩
abbrev main_v117 : Ref sig .tc := ⟨.hbm, 143, rfl⟩
abbrev main_cst_13 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_14 : Ref sig .tc := ⟨.hbm, 150, rfl⟩
abbrev main_v123 : Ref sig .tc := ⟨.hbm, 151, rfl⟩
abbrev main_v124 : Ref sig .tc := ⟨.hbm, 152, rfl⟩
abbrev main_cst_15 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_16 : Ref sig .tc := ⟨.hbm, 175, rfl⟩
abbrev main_v146 : Ref sig .tc := ⟨.hbm, 176, rfl⟩
abbrev main_cst_17 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_18 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_19 : Ref sig .tc := ⟨.hbm, 189, rfl⟩
abbrev main_v157 : Ref sig .tc := ⟨.hbm, 190, rfl⟩
abbrev main_v158 : Ref sig .tc := ⟨.hbm, 191, rfl⟩
abbrev main_cst_20 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_cst_21 : Ref sig .tc := ⟨.hbm, 198, rfl⟩
abbrev main_v164 : Ref sig .tc := ⟨.hbm, 199, rfl⟩
abbrev main_v165 : Ref sig .tc := ⟨.hbm, 200, rfl⟩
abbrev main_cst_22 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_23 : Ref sig .tc := ⟨.hbm, 211, rfl⟩
abbrev main_v175 : Ref sig .tc := ⟨.hbm, 212, rfl⟩
abbrev main_v176 : Ref sig .tc := ⟨.hbm, 213, rfl⟩
abbrev main_cst_24 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_cst_25 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩

abbrev nD : Nat := 1
abbrev τ : Topo := Topo.v7x

variable {F : FTy → Type} [FloatOps F]
-- ==== PoolBwd.lean ====
abbrev S4096x512 : Shape := ⟨2, ![4096, 512]⟩
abbrev S4x128x128 : Shape := ⟨3, ![4, 128, 128]⟩
abbrev S512 : Shape := ⟨1, ![512]⟩
abbrev S1x512 : Shape := ⟨2, ![1, 512]⟩
abbrev S4096x128 : Shape := ⟨2, ![4096, 128]⟩
abbrev S1x128x128 : Shape := ⟨3, ![1, 128, 128]⟩
abbrev S1x128 : Shape := ⟨2, ![1, 128]⟩
abbrev S16x128 : Shape := ⟨2, ![16, 128]⟩
abbrev S4080x128 : Shape := ⟨2, ![4080, 128]⟩
abbrev S128x128 : Shape := ⟨2, ![128, 128]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4x128x128, .f32⟩
  | .hbm, ⟨4, _⟩ => ⟨S512, .f32⟩
  | .hbm, ⟨5, _⟩ => ⟨S1x512, .f32⟩
  | .hbm, ⟨6, _⟩ => ⟨S4096x512, .bf16⟩
  | .hbm, ⟨7, _⟩ => ⟨S4096x512, .bf16⟩
  | .hbm, ⟨8, _⟩ => ⟨S4x128x128, .f32⟩
  | .hbm, ⟨9, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S1x128x128, .f32⟩
  | .local _ .vmem, ⟨15, _⟩ => ⟨S1x128x128, .f32⟩
  | .local _ .vmem, ⟨16, _⟩ => ⟨S1x128, .f32⟩
  | .local _ .vmem, ⟨17, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PoolRefIdeal.lean ====
abbrev S4096x512 : Shape := ⟨2, ![4096, 512]⟩
abbrev S4x128x128 : Shape := ⟨3, ![4, 128, 128]⟩
abbrev S512 : Shape := ⟨1, ![512]⟩
abbrev S1x4096x512 : Shape := ⟨3, ![1, 4096, 512]⟩
abbrev S_ : Shape := ⟨0, ![]⟩
abbrev S4096 : Shape := ⟨1, ![4096]⟩
abbrev S1x4096x128 : Shape := ⟨3, ![1, 4096, 128]⟩
abbrev S1x2x128 : Shape := ⟨3, ![1, 2, 128]⟩
abbrev S1x4094x128 : Shape := ⟨3, ![1, 4094, 128]⟩
abbrev S1x4096x1 : Shape := ⟨3, ![1, 4096, 1]⟩
abbrev S1x128x128 : Shape := ⟨3, ![1, 128, 128]⟩
abbrev S128x128 : Shape := ⟨2, ![128, 128]⟩
abbrev S1x4x128 : Shape := ⟨3, ![1, 4, 128]⟩
abbrev S1x4092x128 : Shape := ⟨3, ![1, 4092, 128]⟩
abbrev S1x8x128 : Shape := ⟨3, ![1, 8, 128]⟩
abbrev S1x4088x128 : Shape := ⟨3, ![1, 4088, 128]⟩
abbrev S1x16x128 : Shape := ⟨3, ![1, 16, 128]⟩
abbrev S1x4080x128 : Shape := ⟨3, ![1, 4080, 128]⟩
abbrev S1x1x512 : Shape := ⟨3, ![1, 1, 512]⟩
abbrev S1x512 : Shape := ⟨2, ![1, 512]⟩

abbrev nBuf : Space → Nat
  | .hbm => 234
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4x128x128, .f32⟩
  | 4 => ⟨S512, .f32⟩
  | 5 => ⟨S1x4096x512, .f32⟩
  | 6 => ⟨S1x4096x512, .f32⟩
  | 7 => ⟨S_, .f32⟩
  | 8 => ⟨S_, .f32⟩
  | 9 => ⟨S1x4096x512, .f32⟩
  | 10 => ⟨S4096, .i32⟩
  | 11 => ⟨S1x4096x128, .f32⟩
  | 12 => ⟨S_, .f32⟩
  | 13 => ⟨S1x2x128, .f32⟩
  | 14 => ⟨S1x4094x128, .f32⟩
  | 15 => ⟨S1x4096x128, .f32⟩
  | 16 => ⟨S_, .f32⟩
  | 17 => ⟨S1x2x128, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S1x4096x1, .f32⟩
  | 26 => ⟨S1x4096x128, .f32⟩
  | 27 => ⟨S1x4096x128, .f32⟩
  | 28 => ⟨S1x4096x128, .f32⟩
  | 29 => ⟨S1x4096x128, .f32⟩
  | 30 => ⟨S1x4096x128, .f32⟩
  | 31 => ⟨S1x128x128, .f32⟩
  | 32 => ⟨S128x128, .f32⟩
  | 33 => ⟨S1x4096x128, .f32⟩
  | 34 => ⟨S1x4096x128, .f32⟩
  | 35 => ⟨S_, .f32⟩
  | 36 => ⟨S1x4x128, .f32⟩
  | 37 => ⟨S1x4092x128, .f32⟩
  | 38 => ⟨S1x4096x128, .f32⟩
  | 39 => ⟨S_, .f32⟩
  | 40 => ⟨S1x4x128, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S1x4096x1, .f32⟩
  | 49 => ⟨S1x4096x128, .f32⟩
  | 50 => ⟨S1x4096x128, .f32⟩
  | 51 => ⟨S1x4096x128, .f32⟩
  | 52 => ⟨S1x4096x128, .f32⟩
  | 53 => ⟨S1x4096x128, .f32⟩
  | 54 => ⟨S1x128x128, .f32⟩
  | 55 => ⟨S128x128, .f32⟩
  | 56 => ⟨S1x4096x128, .f32⟩
  | 57 => ⟨S1x4096x128, .f32⟩
  | 58 => ⟨S_, .f32⟩
  | 59 => ⟨S1x8x128, .f32⟩
  | 60 => ⟨S1x4088x128, .f32⟩
  | 61 => ⟨S1x4096x128, .f32⟩
  | 62 => ⟨S_, .f32⟩
  | 63 => ⟨S1x8x128, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S1x4096x1, .f32⟩
  | 72 => ⟨S1x4096x128, .f32⟩
  | 73 => ⟨S1x4096x128, .f32⟩
  | 74 => ⟨S1x4096x128, .f32⟩
  | 75 => ⟨S1x4096x128, .f32⟩
  | 76 => ⟨S1x4096x128, .f32⟩
  | 77 => ⟨S1x128x128, .f32⟩
  | 78 => ⟨S128x128, .f32⟩
  | 79 => ⟨S1x4096x128, .f32⟩
  | 80 => ⟨S1x4096x128, .f32⟩
  | 81 => ⟨S_, .f32⟩
  | 82 => ⟨S1x16x128, .f32⟩
  | 83 => ⟨S1x4080x128, .f32⟩
  | 84 => ⟨S1x4096x128, .f32⟩
  | 85 => ⟨S_, .f32⟩
  | 86 => ⟨S1x16x128, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S1x4096x1, .f32⟩
  | 95 => ⟨S1x4096x128, .f32⟩
  | 96 => ⟨S1x4096x128, .f32⟩
  | 97 => ⟨S1x4096x128, .f32⟩
  | 98 => ⟨S1x4096x128, .f32⟩
  | 99 => ⟨S1x4096x128, .f32⟩
  | 100 => ⟨S1x128x128, .f32⟩
  | 101 => ⟨S128x128, .f32⟩
  | 102 => ⟨S1x4096x128, .f32⟩
  | 103 => ⟨S1x4096x512, .f32⟩
  | 104 => ⟨S1x1x512, .f32⟩
  | 105 => ⟨S1x4096x512, .f32⟩
  | 106 => ⟨S1x4096x512, .f32⟩
  | 107 => ⟨S1x4096x512, .f32⟩
  | 108 => ⟨S1x4096x512, .f32⟩
  | 109 => ⟨S_, .f32⟩
  | 110 => ⟨S1x4096x512, .f32⟩
  | 111 => ⟨S1x4096x512, .f32⟩
  | 112 => ⟨S_, .f32⟩
  | 113 => ⟨S1x4096x512, .f32⟩
  | 114 => ⟨S1x4096x512, .f32⟩
  | 115 => ⟨S_, .f32⟩
  | 116 => ⟨S1x4096x512, .f32⟩
  | 117 => ⟨S1x4096x512, .f32⟩
  | 118 => ⟨S1x4096x512, .f32⟩
  | 119 => ⟨S1x4096x512, .f32⟩
  | 120 => ⟨S1x4096x512, .f32⟩
  | 121 => ⟨S1x4096x512, .f32⟩
  | 122 => ⟨S1x4096x512, .f32⟩
  | 123 => ⟨S1x4096x512, .f32⟩
  | 124 => ⟨S1x4096x512, .f32⟩
  | 125 => ⟨S1x4096x512, .f32⟩
  | 126 => ⟨S1x4096x512, .f32⟩
  | 127 => ⟨S1x4096x512, .f32⟩
  | _ => ⟨S4096x512, .f32⟩

abbrev hbmTy0_1 (i : Nat) : BufTy := match i % 128 with
  | 0 => ⟨S1x4096x512, .f32⟩
  | 1 => ⟨S_, .f32⟩
  | 2 => ⟨S1x512, .f32⟩
  | 3 => ⟨S1x1x512, .f32⟩
  | 4 => ⟨S1x4096x512, .f32⟩
  | 5 => ⟨S1x4096x512, .f32⟩
  | 6 => ⟨S_, .f32⟩
  | 7 => ⟨S512, .f32⟩
  | 8 => ⟨S1x4096x128, .f32⟩
  | 9 => ⟨S1x4096x128, .f32⟩
  | 10 => ⟨S1x4096x128, .f32⟩
  | 11 => ⟨S1x4096x128, .f32⟩
  | 12 => ⟨S128x128, .f32⟩
  | 13 => ⟨S128x128, .f32⟩
  | 14 => ⟨S1x4096x128, .f32⟩
  | 15 => ⟨S1x128x128, .f32⟩
  | 16 => ⟨S_, .f32⟩
  | 17 => ⟨S4x128x128, .f32⟩
  | 18 => ⟨S1x4096x128, .f32⟩
  | 19 => ⟨S_, .f32⟩
  | 20 => ⟨S1x4096x512, .f32⟩
  | 21 => ⟨S1x4096x128, .f32⟩
  | 22 => ⟨S1x4096x128, .f32⟩
  | 23 => ⟨S1x4096x128, .f32⟩
  | 24 => ⟨S1x16x128, .f32⟩
  | 25 => ⟨S1x4080x128, .f32⟩
  | 26 => ⟨S_, .f32⟩
  | 27 => ⟨S1x4096x128, .f32⟩
  | 28 => ⟨S1x4096x128, .f32⟩
  | 29 => ⟨S_, .f32⟩
  | 30 => ⟨S1x4096x512, .f32⟩
  | 31 => ⟨S128x128, .f32⟩
  | 32 => ⟨S128x128, .f32⟩
  | 33 => ⟨S1x4096x128, .f32⟩
  | 34 => ⟨S1x128x128, .f32⟩
  | 35 => ⟨S_, .f32⟩
  | 36 => ⟨S4x128x128, .f32⟩
  | 37 => ⟨S4x128x128, .f32⟩
  | 38 => ⟨S1x4096x128, .f32⟩
  | 39 => ⟨S_, .f32⟩
  | 40 => ⟨S1x4096x512, .f32⟩
  | 41 => ⟨S1x4096x512, .f32⟩
  | 42 => ⟨S1x4096x128, .f32⟩
  | 43 => ⟨S1x4096x128, .f32⟩
  | 44 => ⟨S1x4096x128, .f32⟩
  | 45 => ⟨S1x8x128, .f32⟩
  | 46 => ⟨S1x4088x128, .f32⟩
  | 47 => ⟨S_, .f32⟩
  | 48 => ⟨S1x4096x128, .f32⟩
  | 49 => ⟨S1x4096x128, .f32⟩
  | 50 => ⟨S_, .f32⟩
  | 51 => ⟨S1x4096x512, .f32⟩
  | 52 => ⟨S1x4096x512, .f32⟩
  | 53 => ⟨S128x128, .f32⟩
  | 54 => ⟨S128x128, .f32⟩
  | 55 => ⟨S1x4096x128, .f32⟩
  | 56 => ⟨S1x128x128, .f32⟩
  | 57 => ⟨S_, .f32⟩
  | 58 => ⟨S4x128x128, .f32⟩
  | 59 => ⟨S4x128x128, .f32⟩
  | 60 => ⟨S1x4096x128, .f32⟩
  | 61 => ⟨S_, .f32⟩
  | 62 => ⟨S1x4096x512, .f32⟩
  | 63 => ⟨S1x4096x512, .f32⟩
  | 64 => ⟨S1x4096x128, .f32⟩
  | 65 => ⟨S1x4096x128, .f32⟩
  | 66 => ⟨S1x4096x128, .f32⟩
  | 67 => ⟨S1x4x128, .f32⟩
  | 68 => ⟨S1x4092x128, .f32⟩
  | 69 => ⟨S_, .f32⟩
  | 70 => ⟨S1x4096x128, .f32⟩
  | 71 => ⟨S1x4096x128, .f32⟩
  | 72 => ⟨S_, .f32⟩
  | 73 => ⟨S1x4096x512, .f32⟩
  | 74 => ⟨S1x4096x512, .f32⟩
  | 75 => ⟨S128x128, .f32⟩
  | 76 => ⟨S128x128, .f32⟩
  | 77 => ⟨S1x4096x128, .f32⟩
  | 78 => ⟨S1x128x128, .f32⟩
  | 79 => ⟨S_, .f32⟩
  | 80 => ⟨S4x128x128, .f32⟩
  | 81 => ⟨S4x128x128, .f32⟩
  | 82 => ⟨S1x4096x128, .f32⟩
  | 83 => ⟨S_, .f32⟩
  | 84 => ⟨S1x4096x512, .f32⟩
  | 85 => ⟨S1x4096x512, .f32⟩
  | 86 => ⟨S1x4096x128, .f32⟩
  | 87 => ⟨S1x4096x128, .f32⟩
  | 88 => ⟨S1x4096x128, .f32⟩
  | 89 => ⟨S1x2x128, .f32⟩
  | 90 => ⟨S1x4094x128, .f32⟩
  | 91 => ⟨S_, .f32⟩
  | 92 => ⟨S1x4096x128, .f32⟩
  | 93 => ⟨S1x4096x128, .f32⟩
  | 94 => ⟨S_, .f32⟩
  | 95 => ⟨S1x4096x512, .f32⟩
  | 96 => ⟨S1x4096x512, .f32⟩
  | 97 => ⟨S_, .f32⟩
  | 98 => ⟨S_, .f32⟩
  | 99 => ⟨S1x4096x512, .f32⟩
  | 100 => ⟨S1x4096x512, .f32⟩
  | 101 => ⟨S4096x512, .f32⟩
  | 102 => ⟨S4096x512, .bf16⟩
  | 103 => ⟨S4096x512, .f32⟩
  | 104 => ⟨S4096x512, .bf16⟩
  | 105 => ⟨S1x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_c_12 : Ref sig .tc := ⟨.hbm, 87, rfl⟩
abbrev main_v66 : Ref sig .tc := ⟨.hbm, 88, rfl⟩
abbrev main_v67 : Ref sig .tc := ⟨.hbm, 89, rfl⟩
abbrev main_c_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_v84_2 : Ref sig .tc := ⟨.hbm, 114, rfl⟩
abbrev main_call1_cst_1 : Ref sig .tc := ⟨.hbm, 115, rfl⟩
abbrev main_call1_v6 : Ref sig .tc := ⟨.hbm, 116, rfl⟩
abbrev main_call1_v7 : Ref sig .tc := ⟨.hbm, 117, rfl⟩
abbrev main_v84_1 : Ref sig .tc := ⟨.hbm, 118, rfl⟩
abbrev main_v84_0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v89 : Ref sig .tc := ⟨.hbm, 127, rfl⟩
abbrev main_v90 : Ref sig .tc := ⟨.hbm, 128, rfl⟩
abbrev main_cst_14 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_15 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_16 : Ref sig .tc := ⟨.hbm, 144, rfl⟩
abbrev main_v104 : Ref sig .tc := ⟨.hbm, 145, rfl⟩
abbrev main_v105 : Ref sig .tc := ⟨.hbm, 146, rfl⟩
abbrev main_cst_17 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_18 : Ref sig .tc := ⟨.hbm, 154, rfl⟩
abbrev main_v112 : Ref sig .tc := ⟨.hbm, 155, rfl⟩
abbrev main_v113 : Ref sig .tc := ⟨.hbm, 156, rfl⟩
abbrev main_cst_19 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_20 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_21 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_22 : Ref sig .tc := ⟨.hbm, 175, rfl⟩
abbrev main_v129 : Ref sig .tc := ⟨.hbm, 176, rfl⟩
abbrev main_v130 : Ref sig .tc := ⟨.hbm, 177, rfl⟩
abbrev main_cst_23 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_24 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_25 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_26 : Ref sig .tc := ⟨.hbm, 197, rfl⟩
abbrev main_v147 : Ref sig .tc := ⟨.hbm, 198, rfl⟩
abbrev main_v148 : Ref sig .tc := ⟨.hbm, 199, rfl⟩
abbrev main_cst_27 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_28 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_29 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_30 : Ref sig .tc := ⟨.hbm, 219, rfl⟩
abbrev main_v165 : Ref sig .tc := ⟨.hbm, 220, rfl⟩
abbrev main_v166 : Ref sig .tc := ⟨.hbm, 221, rfl⟩
abbrev main_cst_31 : Ref sig .tc := ⟨.hbm, 222, rfl⟩
abbrev main_v167 : Ref sig .tc := ⟨.hbm, 223, rfl⟩
abbrev main_v168 : Ref sig .tc := ⟨.hbm, 224, rfl⟩
abbrev main_call3_call0_cst : Ref sig .tc := ⟨.hbm, 225, rfl⟩
abbrev main_call3_call0_v0 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩

abbrev nD : Nat := 1
abbrev τ : Topo := Topo.v7x

variable {F : FTy → Type} [FloatOps F]
-- ==== Tail.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S512x8x128 : Shape := ⟨3, ![512, 8, 128]⟩
abbrev S8x512x128 : Shape := ⟨3, ![8, 512, 128]⟩
abbrev S1x1024 : Shape := ⟨2, ![1, 1024]⟩
abbrev S8x128 : Shape := ⟨2, ![8, 128]⟩
abbrev S4x2x4096 : Shape := ⟨3, ![4, 2, 4096]⟩
abbrev S8x128x1024 : Shape := ⟨3, ![8, 128, 1024]⟩
abbrev S256x1024 : Shape := ⟨2, ![256, 1024]⟩
abbrev S256x512 : Shape := ⟨2, ![256, 512]⟩
abbrev S256x2048 : Shape := ⟨2, ![256, 2048]⟩
abbrev S4x2x256 : Shape := ⟨3, ![4, 2, 256]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩
abbrev S128x1024 : Shape := ⟨2, ![128, 1024]⟩
abbrev S1x128x1024 : Shape := ⟨3, ![1, 128, 1024]⟩

abbrev nBuf : Space → Nat
  | .hbm => 29
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x512, .bf16⟩
  | .hbm, ⟨5, _⟩ => ⟨S4096x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x8x128, .bf16⟩
  | .hbm, ⟨12, _⟩ => ⟨S8x512x128, .bf16⟩
  | .hbm, ⟨13, _⟩ => ⟨S512x1024, .bf16⟩
  | .hbm, ⟨14, _⟩ => ⟨S512x8x128, .bf16⟩
  | .hbm, ⟨15, _⟩ => ⟨S8x512x128, .bf16⟩
  | .hbm, ⟨16, _⟩ => ⟨S1024x1024, .bf16⟩
  | .hbm, ⟨17, _⟩ => ⟨S1x1024, .f32⟩
  | .hbm, ⟨18, _⟩ => ⟨S8x128, .f32⟩
  | .hbm, ⟨19, _⟩ => ⟨S4096x1024, .f32⟩
  | .hbm, ⟨20, _⟩ => ⟨S4096x2048, .bf16⟩
  | .hbm, ⟨21, _⟩ => ⟨S4096x1024, .bf16⟩
  | .hbm, ⟨22, _⟩ => ⟨S4096x512, .bf16⟩
  | .hbm, ⟨23, _⟩ => ⟨S4x2x4096, .f32⟩
  | .hbm, ⟨24, _⟩ => ⟨S4096x512, .f32⟩
  | .hbm, ⟨25, _⟩ => ⟨S8x128x1024, .bf16⟩
  | .hbm, ⟨26, _⟩ => ⟨S8x512x128, .bf16⟩
  | .hbm, ⟨27, _⟩ => ⟨S8x512x128, .bf16⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x2048, .f32⟩
  | .local _ .vmem, ⟨11, _⟩ => ⟨S256x2048, .f32⟩
  | .local _ .vmem, ⟨12, _⟩ => ⟨S8x512x128, .bf16⟩
  | .local _ .vmem, ⟨13, _⟩ => ⟨S8x512x128, .bf16⟩
  | .local _ .vmem, ⟨14, _⟩ => ⟨S1024x1024, .bf16⟩
  | .local _ .vmem, ⟨15, _⟩ => ⟨S1x1024, .f32⟩
  | .local _ .vmem, ⟨16, _⟩ => ⟨S8x128, .f32⟩
  | .local _ .vmem, ⟨17, _⟩ => ⟨S256x1024, .f32⟩
  | .local _ .vmem, ⟨18, _⟩ => ⟨S256x1024, .f32⟩
  | .local _ .vmem, ⟨19, _⟩ => ⟨S256x2048, .bf16⟩
  | .local _ .vmem, ⟨20, _⟩ => ⟨S256x2048, .bf16⟩
  | .local _ .vmem, ⟨21, _⟩ => ⟨S256x1024, .bf16⟩
  | .local _ .vmem, ⟨22, _⟩ => ⟨S256x1024, .bf16⟩
  | .local _ .vmem, ⟨23, _⟩ => ⟨S256x512, .bf16⟩
  | .local _ .vmem, ⟨24, _⟩ => ⟨S256x512, .bf16⟩
  | .local _ .vmem, ⟨25, _⟩ => ⟨S4x2x256, .f32⟩
  | .local _ .vmem, ⟨26, _⟩ => ⟨S4x2x256, .f32⟩
  | .local _ .vmem, ⟨27, _⟩ => ⟨S256x512, .f32⟩
  | .local _ .vmem, ⟨28, _⟩ => ⟨S256x512, .f32⟩
  | .local _ .vmem, ⟨29, _⟩ => ⟨S8x128x1024, .bf16⟩
  | .local _ .vmem, ⟨30, _⟩ => ⟨S8x512x128, .bf16⟩
  | .local _ .vmem, ⟨31, _⟩ => ⟨S8x512x128, .bf16⟩
  | .local _ .vmem, ⟨32, _⟩ => ⟨S1x1024, .f32⟩
  | .local _ .vmem, ⟨33, _⟩ => ⟨S1024x1024, .f32⟩
  | .local _ .vmem, ⟨34, _⟩ => ⟨S512x1024, .f32⟩
  | .local _ .vmem, ⟨35, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_v8_8 : Ref sig .tc := ⟨.hbm, 26, rfl⟩
abbrev main_v8_9 : Ref sig .tc := ⟨.hbm, 27, rfl⟩
abbrev main_v8_10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v295 : BitVec 1 := Scalar.cmpi .eq arg0 c15_i32
  let v296 : BitVec 32 := Scalar.extui v295
  let c0_i32_167 : BitVec 32 := 0#32
  let v297 : BitVec 1 := Scalar.cmpi .ne v296 c0_i32_167
  v297

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== TailRefIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S1x4096x1024 : Shape := ⟨3, ![1, 4096, 1024]⟩
abbrev S1x4096x512 : Shape := ⟨3, ![1, 4096, 512]⟩
abbrev S1x4096x2048 : Shape := ⟨3, ![1, 4096, 2048]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S1024x512 : Shape := ⟨2, ![1024, 512]⟩
abbrev S4096x8x64 : Shape := ⟨3, ![4096, 8, 64]⟩
abbrev S4096x8x128 : Shape := ⟨3, ![4096, 8, 128]⟩
abbrev S4096x8 : Shape := ⟨2, ![4096, 8]⟩
abbrev S8x128 : Shape := ⟨2, ![8, 128]⟩
abbrev S8x4096 : Shape := ⟨2, ![8, 4096]⟩
abbrev S4x2x4096 : Shape := ⟨3, ![4, 2, 4096]⟩
abbrev S8x128x1024 : Shape := ⟨3, ![8, 128, 1024]⟩
abbrev S512x8x128 : Shape := ⟨3, ![512, 8, 128]⟩
abbrev S8x512x128 : Shape := ⟨3, ![8, 512, 128]⟩

abbrev nBuf : Space → Nat
  | .hbm => 171
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S4096x512, .f32⟩
  | 4 => ⟨S4096x512, .bf16⟩
  | 5 => ⟨S4096x2048, .f32⟩
  | 6 => ⟨S512x1024, .f32⟩
  | 7 => ⟨S512x1024, .f32⟩
  | 8 => ⟨S1024x1024, .f32⟩
  | 9 => ⟨S1024, .f32⟩
  | 10 => ⟨S1x4096x1024, .f32⟩
  | 11 => ⟨S1x4096x512, .f32⟩
  | 12 => ⟨S1x4096x512, .f32⟩
  | 13 => ⟨S1x4096x512, .bf16⟩
  | 14 => ⟨S1x4096x512, .f32⟩
  | 15 => ⟨S1x4096x2048, .f32⟩
  | 16 => ⟨S1x4096x1024, .f32⟩
  | 17 => ⟨S1x4096x512, .f32⟩
  | 18 => ⟨S1x4096x512, .f32⟩
  | 19 => ⟨S_, .f32⟩
  | 20 => ⟨S1x4096x512, .f32⟩
  | 21 => ⟨S1x4096x512, .f32⟩
  | 22 => ⟨S_, .f32⟩
  | 23 => ⟨S1x4096x512, .f32⟩
  | 24 => ⟨S1x4096x512, .f32⟩
  | 25 => ⟨S_, .f32⟩
  | 26 => ⟨S1x4096x512, .f32⟩
  | 27 => ⟨S1x4096x512, .f32⟩
  | 28 => ⟨S1x4096x512, .f32⟩
  | 29 => ⟨S1x4096x512, .f32⟩
  | 30 => ⟨S1x4096x512, .f32⟩
  | 31 => ⟨S1x4096x1024, .f32⟩
  | 32 => ⟨S1x4096x1024, .f32⟩
  | 33 => ⟨S1x4096x2048, .f32⟩
  | 34 => ⟨S1x4096x2048, .f32⟩
  | 35 => ⟨S_, .f32⟩
  | 36 => ⟨S1x4096x2048, .f32⟩
  | 37 => ⟨S1x4096x2048, .f32⟩
  | 38 => ⟨S_, .f32⟩
  | 39 => ⟨S1x4096x2048, .f32⟩
  | 40 => ⟨S1x4096x2048, .f32⟩
  | 41 => ⟨S_, .f32⟩
  | 42 => ⟨S1x4096x2048, .f32⟩
  | 43 => ⟨S1x4096x2048, .f32⟩
  | 44 => ⟨S1x4096x2048, .f32⟩
  | 45 => ⟨S1x4096x1024, .f32⟩
  | 46 => ⟨S1x4096x1024, .f32⟩
  | 47 => ⟨S1x4096x1024, .f32⟩
  | 48 => ⟨S1x4096x1024, .f32⟩
  | 49 => ⟨S1x4096x1024, .f32⟩
  | 50 => ⟨S1x4096x1024, .f32⟩
  | 51 => ⟨S1x4096x1024, .f32⟩
  | 52 => ⟨S1x4096x1024, .f32⟩
  | 53 => ⟨S_, .f32⟩
  | 54 => ⟨S1x4096, .f32⟩
  | 55 => ⟨S1x4096x1, .f32⟩
  | 56 => ⟨S_, .f32⟩
  | 57 => ⟨S1x4096x1, .f32⟩
  | 58 => ⟨S1x4096x1, .f32⟩
  | 59 => ⟨S_, .f32⟩
  | 60 => ⟨S1x4096x1, .f32⟩
  | 61 => ⟨S1x4096x1, .f32⟩
  | 62 => ⟨S1x4096x1, .f32⟩
  | 63 => ⟨S1x4096x1, .f32⟩
  | 64 => ⟨S_, .f32⟩
  | 65 => ⟨S1x4096x1, .f32⟩
  | 66 => ⟨S1x4096x1, .f32⟩
  | 67 => ⟨S1x4096x1024, .f32⟩
  | 68 => ⟨S1x4096x1024, .f32⟩
  | 69 => ⟨S1x1x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S_, .f32⟩
  | 75 => ⟨S1x4096x1024, .f32⟩
  | 76 => ⟨S1x4096x1024, .f32⟩
  | 77 => ⟨S_, .f32⟩
  | 78 => ⟨S1x4096, .f32⟩
  | 79 => ⟨S_, .f32⟩
  | 80 => ⟨S1x4096, .f32⟩
  | 81 => ⟨S1x4096, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S1x4096, .f32⟩
  | 90 => ⟨S_, .f32⟩
  | 91 => ⟨S1x4096, .f32⟩
  | 92 => ⟨S1x4096, .f32⟩
  | 93 => ⟨S1x4096x1024, .f32⟩
  | 94 => ⟨S1x4096x1024, .f32⟩
  | 95 => ⟨S1x4096x1024, .f32⟩
  | 96 => ⟨S_, .f32⟩
  | 97 => ⟨S1x1024, .f32⟩
  | 98 => ⟨S1x1x1024, .f32⟩
  | 99 => ⟨S1x4096x1024, .f32⟩
  | 100 => ⟨S1x4096x1024, .f32⟩
  | 101 => ⟨S_, .f32⟩
  | 102 => ⟨S1024, .f32⟩
  | 103 => ⟨S1x4096x1024, .f32⟩
  | 104 => ⟨S_, .f32⟩
  | 105 => ⟨S1x4096, .f32⟩
  | 106 => ⟨S1x4096x1, .f32⟩
  | 107 => ⟨S1x4096x1024, .f32⟩
  | 108 => ⟨S1x4096x1024, .f32⟩
  | 109 => ⟨S1x4096x1, .f32⟩
  | 110 => ⟨S_, .f32⟩
  | 111 => ⟨S1x4096x1, .f32⟩
  | 112 => ⟨S1x4096x1, .f32⟩
  | 113 => ⟨S_, .f32⟩
  | 114 => ⟨S4096, .f32⟩
  | 115 => ⟨S1x4096, .f32⟩
  | 116 => ⟨S1x4096x1024, .f32⟩
  | 117 => ⟨S1x4096x1024, .f32⟩
  | 118 => ⟨S1x4096x1024, .f32⟩
  | 119 => ⟨S1x4096x1024, .f32⟩
  | 120 => ⟨S1x4096x1024, .f32⟩
  | 121 => ⟨S1024x1024, .f32⟩
  | 122 => ⟨S1024x1024, .f32⟩
  | 123 => ⟨S1x4096x1024, .f32⟩
  | 124 => ⟨S1x4096x1024, .f32⟩
  | 125 => ⟨S1x4096x1024, .f32⟩
  | 126 => ⟨S1x4096x1024, .f32⟩
  | 127 => ⟨S1x4096x1024, .f32⟩
  | _ => ⟨S4096x1024, .f32⟩

abbrev hbmTy0_1 (i : Nat) : BufTy := match i % 128 with
  | 0 => ⟨S1x4096x2048, .f32⟩
  | 1 => ⟨S1x4096x2048, .f32⟩
  | 2 => ⟨S1024x512, .f32⟩
  | 3 => ⟨S512x1024, .f32⟩
  | 4 => ⟨S1x4096x512, .f32⟩
  | 5 => ⟨S1024x512, .f32⟩
  | 6 => ⟨S512x1024, .f32⟩
  | 7 => ⟨S1x4096x512, .f32⟩
  | 8 => ⟨S1x4096x512, .f32⟩
  | 9 => ⟨S1x4096x512, .f32⟩
  | 10 => ⟨S1x4096x512, .f32⟩
  | 11 => ⟨S1x4096x512, .f32⟩
  | 12 => ⟨S1x4096x512, .f32⟩
  | 13 => ⟨S1x4096x512, .f32⟩
  | 14 => ⟨S4096x512, .f32⟩
  | 15 => ⟨S4096x8x64, .f32⟩
  | 16 => ⟨S_, .f32⟩
  | 17 => ⟨S4096x8x64, .f32⟩
  | 18 => ⟨S4096x8x128, .f32⟩
  | 19 => ⟨S4096x1024, .f32⟩
  | 20 => ⟨S4096x8x64, .f32⟩
  | 21 => ⟨S4096x8x64, .f32⟩
  | 22 => ⟨S_, .f32⟩
  | 23 => ⟨S4096x8, .f32⟩
  | 24 => ⟨S8x128, .f32⟩
  | 25 => ⟨S4096x1024, .f32⟩
  | 26 => ⟨S4096x2048, .f32⟩
  | 27 => ⟨S4096x2048, .bf16⟩
  | 28 => ⟨S4096x1024, .bf16⟩
  | 29 => ⟨S4096x512, .f32⟩
  | 30 => ⟨S4096x512, .bf16⟩
  | 31 => ⟨S8x4096, .f32⟩
  | 32 => ⟨S4x2x4096, .f32⟩
  | 33 => ⟨S4096x512, .f32⟩
  | 34 => ⟨S8x128x1024, .f32⟩
  | 35 => ⟨S8x128x1024, .bf16⟩
  | 36 => ⟨S512x8x128, .f32⟩
  | 37 => ⟨S8x512x128, .f32⟩
  | 38 => ⟨S8x512x128, .bf16⟩
  | 39 => ⟨S512x8x128, .f32⟩
  | 40 => ⟨S8x512x128, .f32⟩
  | 41 => ⟨S8x512x128, .bf16⟩
  | 42 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v7_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v7_1 : Ref sig .tc := ⟨.hbm, 28, rfl⟩
abbrev main_v7_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_cst_4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_cst_11 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_cst_13 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_14 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_15 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_17 : Ref sig .tc := ⟨.hbm, 110, rfl⟩
abbrev main_v70 : Ref sig .tc := ⟨.hbm, 111, rfl⟩
abbrev main_v71 : Ref sig .tc := ⟨.hbm, 112, rfl⟩
abbrev main_cst_18 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_19 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_20 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩

abbrev nD : Nat := 1
abbrev τ : Topo := Topo.v7x

variable {F : FTy → Type} [FloatOps F]
-- ==== Proof.Lift.lean ====
/- Extended reals that are real numbers: the float operations at `Ideal` on them are the operations of the reals. -/
module

public import Idealize.ShloMosaic.PureOps.Ideal.Laws
public import Idealize.ShloMosaic.Lib.Pipeline.ValueKit
public import Mathlib.Analysis.SpecialFunctions.Log.Basic
public import Mathlib.Tactic.FieldSimp
public import Mathlib.Tactic.Ring
public import Mathlib.Tactic.Positivity
public import Mathlib.Tactic.Linarith

@[expose] public section

noncomputable section

open Idealize.ShloMosaic
open scoped BigOperators

namespace Cert.Lift

/-- A finite sum of real numbers, taken in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe {a : ℝ} (ha : 0 < a) : Ideal.rsqrt (a : EReal) = (((Real.sqrt a)⁻¹ : ℝ) : EReal) := by
  show (if a < 0 then ⊥ else if a = 0 then ⊤ else _) = _
  rw [if_neg ha.le.not_gt, if_neg ha.ne']

theorem exp_coe (a : ℝ) : Ideal.exp (a : EReal) = ((Real.exp a : ℝ) : EReal) := rfl
theorem exp2_coe (a : ℝ) : Ideal.exp2 (a : EReal) = ((Real.rpow 2 a : ℝ) : EReal) := rfl
theorem tanh_coe (a : ℝ) : Ideal.tanh (a : EReal) = ((Real.tanh a : ℝ) : EReal) := rfl

theorem log_coe {a : ℝ} (ha : 0 < a) : Ideal.log (a : EReal) = ((Real.log a : ℝ) : EReal) := by
  show (if a ≤ 0 then ⊥ else _) = _
  rw [if_neg ha.not_ge]

theorem logistic_coe (a : ℝ) : Ideal.logistic (a : EReal) = ((1 / (1 + Real.exp (-a)) : ℝ) : EReal) := by
  unfold Ideal.logistic
  rw [← EReal.coe_neg, exp_coe, ← EReal.coe_one, ← EReal.coe_add, div_coe _ (by positivity)]

/-- An extended real whose absolute value lies below infinity is a real number. -/
theorem exists_coe {x : EReal} (h : max x (-x) < ⊤) : ∃ r : ℝ, x = (r : EReal) := by
  induction x with
  | bot => simp at h
  | top => simp at h
  | coe r => exact ⟨r, rfl⟩

/-- An array of such elements is an array of real numbers. -/
theorem exists_coe_fun {ι : Type*} {f : ι → EReal} (h : ∀ i, max (f i) (-f i) < ⊤) :
    ∃ g : ι → ℝ, f = fun i => (g i : EReal) :=
  ⟨fun i => (exists_coe (h i)).choose, funext fun i => (exists_coe (h i)).choose_spec⟩

/-! ### The constants of the programs -/

theorem lit_1024 : Ideal.ofBits .f32 0x44800000#32 = ((1024 : ℝ) : EReal) := by
  show Ideal.ieee 8 23 (0x44800000#32) = _
  simp [Ideal.ieee]
  rw [← EReal.coe_mul]
  norm_num

/-- The norm's small constant. -/
def eps : ℝ := 8796093 * (2 : ℝ) ^ (-43 : ℤ)

theorem eps_pos : 0 < eps := by unfold eps; positivity

theorem lit_eps : Ideal.ofBits .f32 0x358637BD#32 = ((eps : ℝ) : EReal) := by
  show Ideal.ieee 8 23 (0x358637BD#32) = _
  simp [Ideal.ieee, eps]

theorem lit_neg_half : Ideal.ofBits .f32 0xBF000000#32 = ((-(1/2) : ℝ) : EReal) := by
  show Ideal.ieee 8 23 (0xBF000000#32) = _
  simp [Ideal.ieee]
  rw [← EReal.coe_mul]
  norm_num

theorem lit_inf : Ideal.ofBits .f32 0x7F800000#32 = ⊤ := by
  show Ideal.ieee 8 23 (0x7F800000#32) = _
  simp [Ideal.ieee]

/-! ### Host sums over several axes of which all but one have extent one -/

/-- A host sum in which only the element at `i₀` reduces to `j`. -/
theorem hostReduceAdd_one {s t : Shape} {axes : List (Fin s.rank)} (h : s.ReducesTo axes t) (v : s.Idx → EReal) (c : EReal)
    (j : t.Idx) (i₀ : s.Idx) (hi : ∀ i, h.drop i = j ↔ i = i₀) : Ideal.hostReduceAdd h v c j = c + v i₀ := by
  unfold Ideal.hostReduceAdd
  rw [show Finset.univ.filter (fun i => h.drop i = j) = {i₀} from by ext i; simp [hi i], Finset.sum_singleton]

theorem hostReduceAdd_mid {n : ℕ} (h : (⟨3, ![1, n, 1]⟩ : Shape).ReducesTo [0, 2] ⟨1, ![n]⟩)
    (v : (⟨3, ![1, n, 1]⟩ : Shape).Idx → EReal) (c : EReal) (a : Fin n) :
    Ideal.hostReduceAdd h v c (ix1 a) = c + v (ix3 0 a 0) := by
  refine hostReduceAdd_one h v c _ _ fun i => ⟨fun e => ?_, ?_⟩
  · funext b; apply Fin.ext
    match b with
    | ⟨0, _⟩ => have : (i 0).val < 1 := (i 0).isLt; show (i 0).val = 0; omega
    | ⟨1, _⟩ => exact congrArg Fin.val (congrFun e 0)
    | ⟨2, _⟩ => have : (i 2).val < 1 := (i 2).isLt; show (i 2).val = 0; omega
  · rintro rfl
    funext b; apply Fin.ext
    match b with
    | ⟨0, _⟩ => rfl

theorem hostReduceAdd_last {n : ℕ} (h : (⟨3, ![1, 1, n]⟩ : Shape).ReducesTo [0, 1] ⟨1, ![n]⟩)
    (v : (⟨3, ![1, 1, n]⟩ : Shape).Idx → EReal) (c : EReal) (a : Fin n) :
    Ideal.hostReduceAdd h v c (ix1 a) = c + v (ix3 0 0 a) := by
  refine hostReduceAdd_one h v c _ _ fun i => ⟨fun e => ?_, ?_⟩
  · funext b; apply Fin.ext
    match b with
    | ⟨0, _⟩ => have : (i 0).val < 1 := (i 0).isLt; show (i 0).val = 0; omega
    | ⟨1, _⟩ => have : (i 1).val < 1 := (i 1).isLt; show (i 1).val = 0; omega
    | ⟨2, _⟩ => exact congrArg Fin.val (congrFun e 0)
  · rintro rfl
    funext b; apply Fin.ext
    match b with
    | ⟨0, _⟩ => rfl

/-! ### The gradient of a norm's row -/

/-- A row's mean square plus the norm's small constant is positive. -/
theorem ms_pos {n : ℕ} (x : Fin n → ℝ) {N : ℝ} (hN : 0 < N) : 0 < (∑ i, x i * x i) / N + eps := by
  have h : 0 ≤ (∑ i, x i * x i) / N := div_nonneg (Finset.sum_nonneg fun i _ => mul_self_nonneg _) hN.le
  have := eps_pos
  linarith

/-- The reciprocal of a norm's row: one over the root of its mean square. -/
def rinv {n : ℕ} (x : Fin n → ℝ) (N : ℝ) : ℝ := (Real.sqrt ((∑ i, x i * x i) / N + eps))⁻¹

theorem rsqrt_row {n : ℕ} (x : Fin n → ℝ) {N : ℝ} (hN : 0 < N) :
    Ideal.rsqrt (((∑ i, x i * x i) / N + eps : ℝ) : EReal) = ((rinv x N : ℝ) : EReal) := rsqrt_coe (ms_pos x hN)

theorem rinv_sq {n : ℕ} (x : Fin n → ℝ) {N : ℝ} (hN : 0 < N) : rinv x N * rinv x N = ((∑ i, x i * x i) / N + eps)⁻¹ := by
  unfold rinv
  rw [← mul_inv, Real.mul_self_sqrt (ms_pos x hN).le]

/-- The gradient of a norm's row in the kernel's form, one row sum over the normed row, is the chain rule's: through the
    product, and through the mean square by way of the reciprocal root. -/
theorem rms_row {n : ℕ} (x u : Fin n → ℝ) {N : ℝ} (hN : 0 < N) (k : Fin n) :
    rinv x N * (u k - x k * rinv x N * ((∑ i, u i * (x i * rinv x N)) / N))
      = u k * rinv x N + x k * ((∑ i, x i * u i) * (-(1/2) * (rinv x N / ((∑ i, x i * x i) / N + eps))) / N)
        + (∑ i, x i * u i) * (-(1/2) * (rinv x N / ((∑ i, x i * x i) / N + eps))) / N * x k := by
  have hr := rinv_sq x hN
  have hs : ∑ i, u i * (x i * rinv x N) = (∑ i, x i * u i) * rinv x N := by
    rw [Finset.sum_mul]; exact Finset.sum_congr rfl fun i _ => by ring
  rw [hs, div_eq_mul_inv (rinv x N), ← hr]
  ring

/-- A sum over `n = a + b` indices is the sum over the first `a` plus the sum over the other `b`. -/
theorem sum_split {M : Type*} [AddCommMonoid M] (a b : ℕ) {n : ℕ} (h : n = a + b) (f : Fin n → M) :
    ∑ i, f i = ∑ i : Fin a, f ⟨i.val, by omega⟩ + ∑ i : Fin b, f ⟨a + i.val, by omega⟩ := by
  subst h
  exact Fin.sum_univ_add f

/-- Every entry is a real number. -/
def IsReal {ι : Type*} (x : ι → EReal) : Prop := ∃ f : ι → ℝ, ∀ i, x i = ((f i : ℝ) : EReal)

theorem lit_inf16 : Ideal.ofBits .bf16 0x7F80#16 = ⊤ := by
  show Ideal.ieee 8 7 (0x7F80#16) = _
  simp [Ideal.ieee]

/-- An array found below infinity in absolute value, element by element, holds real numbers. -/
theorem isReal_of_olt {s : Shape} {φ : FTy} (b : BitVec φ.bits) (hb : Ideal.ofBits φ b = ⊤) (x : FVec Ideal s φ)
    (h : (⟨0, ![]⟩ : Shape).BroadcastsInDim s (![] : Fin 0 → Fin s.rank)) (e : cmpf .olt (Host.absf x) (broadcastInDim s ![] h (constant ⟨0, ![]⟩ φ b)) = fun _ => 1#1) : IsReal x := by
  have key : ∀ i, max (x i) (-x i) < (⊤ : EReal) := fun i => by
    have h2 : Ideal.cmp .olt (max (x i) (-x i)) (Ideal.ofBits φ b) = 1#1 := congrFun e i
    rw [hb] at h2
    by_contra hc
    simp [Ideal.cmp, hc] at h2
  exact ⟨fun i => (exists_coe (key i)).choose, fun i => (exists_coe (key i)).choose_spec⟩

end Cert.Lift

end
-- ==== Proof.InxRef.lean ====
module

public import proofs.«01_k».proof.Proof.Lift
public import proofs.«01_k».proof.Proof.Gen.InxRefIdeal.Read
public import Idealize.ShloMosaic.Lib.Pipeline.ValueKit
public import Idealize.ShloMosaic.Lib.Pipeline.ReadBack
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open scoped BigOperators

namespace Cert.Inx
open Cert.InxRefIdeal Cert.InxRefIdeal.Gen Cert.InxRefIdeal.Read
open Cert.Lift

section Ref
variable (x0 : FVec Ideal S4096x384 .bf16) (x1 : FVec Ideal S4096x256 .bf16) (x2 : FVec Ideal S4096x32 .bf16)
  (x3 x4 x5 : FVec Ideal S4096x512 .bf16) (x6 : FVec Ideal S4096x2048 .bf16) (x7 x8 : FVec Ideal S4096x1024 .f32)
  (x9 : FVec Ideal S1024 .f32) (x10 : FVec Ideal S1024x4256 .f32)

theorem ref_gx (X U : Fin 4096 → Fin 1024 → ℝ) (N : Fin 1024 → ℝ) (hx : ∀ a k, x7 (ix2 a k) = ((X a k : ℝ) : EReal))
    (hu : ∀ a k, (val_main_v40 (F := Ideal) x0 x1 x2 x3 x4 x5 x6 x10 : FVec Ideal S1x4096x1024 .f32) (ix3 0 a k) = ((U a k : ℝ) : EReal)) (hn : ∀ k,
    x9 (ix1 k) = ((N k : ℝ) : EReal))
    (a : Fin 4096) (k : Fin 1024) :
    (val_main_v63 (F := Ideal) x0 x1 x2 x3 x4 x5 x6 x7 x8 x9 x10 : FVec Ideal S4096x1024 .f32) (ix2 a k) = ((
      (fun j => U a j * N j) k * rinv (X a) 1024 + X a k * ((∑ i, X a i * (fun j => U a j * N j) i) * (-(1 / 2) * (rinv (X a) 1024 / ((∑ i, X a i * X a i) / 1024 + eps))) / 1024)
       + (∑ i, X a i * (fun j => U a j * N j) i) * (-(1 / 2) * (rinv (X a) 1024 / ((∑ i, X a i * X a i) / 1024 + eps))) / 1024 * X a k : ℝ) : EReal) + x8 (ix2 a k) := by
  pointwise [val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46, val_main_v45,
    val_main_v44, val_main_v22]
  simp only [hostReduceAdd_mid, hostReduceAdd_last]
  pointwise [val_main_v25, val_main_v24, val_main_v23, val_main_v22, val_main_v21, val_main_v20, val_main_v19, val_main_v18, val_main_v17,
    val_main_v16, val_main_v15, val_main_v14, val_main_v44, val_main_v28, val_main_cst, val_main_cst_0, val_main_cst_1, val_main_cst_2,
    val_main_cst_5, val_main_cst_6, val_main_cst_7]
  simp only [hx, hu, hn, lit_1024, lit_eps, lit_neg_half, ← EReal.coe_mul, coe_sum, ← EReal.coe_add,
    div_coe _ (by norm_num : (1024 : ℝ) ≠ 0), rsqrt_row (X a) (by norm_num : (0 : ℝ) < 1024),
    div_coe _ (ms_pos (X a) (by norm_num : (0 : ℝ) < 1024)).ne']

theorem ref_gn (j : Fin 8) (l : Fin 128) :
    (val_main_v64 (F := Ideal) x0 x1 x2 x3 x4 x5 x6 x7 x10 : FVec Ideal S8x128 .f32) (ix2 j l) =
      ∑ a : Fin 4096, x7 (ix2 a ⟨j.val * 128 + l.val, by omega⟩) * Ideal.rsqrt
        (Ideal.div (∑ i, x7 (ix2 a i) * x7 (ix2 a i)) (Ideal.ofBits .f32 0x44800000#32) + Ideal.ofBits .f32 0x358637BD#32) *
        (val_main_v40 (F := Ideal) x0 x1 x2 x3 x4 x5 x6 x10 : FVec Ideal S1x4096x1024 .f32) (ix3 0 a ⟨j.val * 128 + l.val, by omega⟩) := by
  pointwise [val_main_v64, val_main_v50, val_main_v49, val_main_v48, val_main_v47, val_main_v46]
  simp only [hostReduceAdd_mid, hostReduceAdd_last]
  pointwise [val_main_v27, val_main_v26, val_main_v25, val_main_v24, val_main_v23, val_main_v22, val_main_v21, val_main_v20, val_main_v19,
    val_main_v18, val_main_v17, val_main_v16, val_main_v15, val_main_v14, val_main_v43, val_main_v42, val_main_v41, val_main_cst, val_main_cst_0,
    val_main_cst_1, val_main_cst_3, val_main_cst_4]

theorem ref_dhn (a : Fin 4096) (k : Fin 1024) :
    (val_main_v40 (F := Ideal) x0 x1 x2 x3 x4 x5 x6 x10 : FVec Ideal S1x4096x1024 .f32) (ix3 0 a k) =
      ∑ x : Fin 384, x0 (ix2 a x) * x10 (ix2 k ⟨x.val, by omega⟩) + (∑ x : Fin 256, x1 (ix2 a x) * x10 (ix2 k ⟨384 + x.val, by omega⟩)
      + (∑ x : Fin 32, x2 (ix2 a x) * x10 (ix2 k ⟨640 + x.val, by omega⟩) + (∑ x : Fin 512, x3 (ix2 a x) * x10 (ix2 k ⟨672 + x.val, by omega⟩)
      + (∑ x : Fin 512, x4 (ix2 a x) * x10 (ix2 k ⟨1184 + x.val, by omega⟩) + (∑ x : Fin 512, x5 (ix2 a x) * x10 (ix2 k ⟨1696 + x.val, by omega⟩)
      + ∑ x : Fin 2048, x6 (ix2 a x) * x10 (ix2 k ⟨2208 + x.val, by omega⟩)))))) := by
  pointwise [val_main_v40, val_main_v39]
  rw [sum_split 384 3872 (n := 4256) rfl, sum_split 256 3616 (n := 3872) rfl, sum_split 32 3584 (n := 3616) rfl, sum_split 512 3072 (n := 3584) rfl,
    sum_split 512 2560 (n := 3072) rfl, sum_split 512 2048 (n := 2560) rfl]
  refine congrArg₂ _ (Finset.sum_congr rfl fun x _ => ?_) (congrArg₂ _ (Finset.sum_congr rfl fun x _ => ?_)
    (congrArg₂ _ (Finset.sum_congr rfl fun x _ => ?_) (congrArg₂ _ (Finset.sum_congr rfl fun x _ => ?_)
    (congrArg₂ _ (Finset.sum_congr rfl fun x _ => ?_) (congrArg₂ _ (Finset.sum_congr rfl fun x _ => ?_) (Finset.sum_congr rfl fun x _ => ?_))))))
  all_goals
    have hx := x.isLt
    dsimp only
    refine congrArg₂ _ ?_ (by blk_ext)
    repeat first | rw [dif_pos (by omega)] | rw [dif_neg (by omega)]
    pointwise [val_main_v1, val_main_v3, val_main_v5, val_main_v7, val_main_v9, val_main_v11, val_main_v13, val_main_v0, val_main_v2, val_main_v4,
    val_main_v6, val_main_v8, val_main_v10, val_main_v12]
    try blk_ext

/-- Over finite arguments the cotangent of the normed input is finite. -/
theorem dhn_real (h0 : IsReal x0) (h1 : IsReal x1) (h2 : IsReal x2) (h3 : IsReal x3) (h4 : IsReal x4) (h5 : IsReal x5) (h6 : IsReal x6) (h10 : IsReal x10) :
    ∃ U : Fin 4096 → Fin 1024 → ℝ, ∀ a k, (val_main_v40 (F := Ideal) x0 x1 x2 x3 x4 x5 x6 x10 : FVec Ideal S1x4096x1024 .f32) (ix3 0 a k) = ((U a k : ℝ) : EReal) := by
  obtain ⟨f0, h0⟩ := h0
  obtain ⟨f1, h1⟩ := h1
  obtain ⟨f2, h2⟩ := h2
  obtain ⟨f3, h3⟩ := h3
  obtain ⟨f4, h4⟩ := h4
  obtain ⟨f5, h5⟩ := h5
  obtain ⟨f6, h6⟩ := h6
  obtain ⟨f10, h10⟩ := h10
  have h : ∀ (a : Fin 4096) (k : Fin 1024), ∃ u : ℝ, (val_main_v40 (F := Ideal) x0 x1 x2 x3 x4 x5 x6 x10 : FVec Ideal S1x4096x1024 .f32) (ix3 0 a k) = (u : EReal) := by
    intro a k
    rw [ref_dhn]
    simp only [h0, h1, h2, h3, h4, h5, h6, h10, ← EReal.coe_mul, coe_sum, ← EReal.coe_add]
    exact ⟨_, rfl⟩
  choose U hU using h
  exact ⟨U, hU⟩
end Ref
end Cert.Inx
end
-- ==== Proof.Inx.lean ====
module

public import proofs.«01_k».proof.Proof.Lift
public import proofs.«01_k».proof.Proof.Gen.InxBwdIdeal.Value
public import proofs.«01_k».proof.Proof.InxRef
public import Idealize.ShloMosaic.Lib.Pipeline.ValueKit
public import Idealize.ShloMosaic.Lib.Pipeline.ReadBack
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open scoped BigOperators

namespace Cert.Inx
open Cert.InxBwdIdeal Cert.InxBwdIdeal.Gen Cert.Lift

theorem piece {κ : Kind} {sp : Space} (v : View sig κ sp S1x1024 .f32) (P : FVec Ideal S1x1024 .f32) (j o : ℕ) (ho : o = j * 128) (inb : ∀ a, (![j, 0] : Fin 2 → ℕ) a + S1x128.size a ≤ S8x128.size a)
    (inb' : ∀ a, (![0, o] : Fin 2 → ℕ) a + S1x128.size a ≤ S1x1024.size a) (x : (Rect.unit (s := S8x128) ![j, 0] S1x128.size inb).shape.Idx) (h) :
    (v.readCov (Val := Elt Ideal) [⟨Rect.unit ![0, 0] S1x1024.size inb_S1x1024_S1x1024_0_0, P⟩]
      (Rect.unit (s := S1x1024) ![0, o] S1x128.size inb').toLoadRect : FVec Ideal S1x128 .f32) x =
    P (ix2 0 ⟨((Rect.unit (s := S8x128) ![j, 0] S1x128.size inb).emb x 0).val * 128 + ((Rect.unit (s := S8x128) ![j, 0] S1x128.size inb).emb x 1).val, h⟩) := by
  have e := View.readCov_fill (Val := Elt Ideal) (s := S1x1024) (e := .f32) v (off := ![0, 0]) inb_S1x1024_S1x1024_0_0 P [] (Rect.unit ![0, o] S1x128.size inb') (by decide)
  refine (congrFun e x).trans ?_
  refine View.ld_unit_apply_of (Val := Elt Ideal) (S := S1x1024) (e := .f32) P ![0, o] S1x128.size inb' x _ fun a => ?_
  have e0 := Rect.idx_unit_val (s := S8x128) ![j, 0] S1x128.size inb x 0
  have e1 := Rect.idx_unit_val (s := S8x128) ![j, 0] S1x128.size inb x 1
  have x0 : (x 0).val < 1 := (x 0).isLt
  fin_cases a
  · show 0 = 0 + (x 0).val
    omega
  · show ((Rect.unit (s := S8x128) ![j, 0] S1x128.size inb).idx x 0).val * 128 + ((Rect.unit (s := S8x128) ![j, 0] S1x128.size inb).idx x 1).val = o + (x 1).val
    rw [e0, e1]
    show (j + (x 0).val) * 128 + (0 + (x 1).val) = _
    omega

theorem packed {κ : Kind} {sp : Space} (v : View sig κ sp S1x1024 .f32) (P : FVec Ideal S1x1024 .f32) (Q : FVec Ideal S8x128 .f32) (j : Fin 8) (l : Fin 128) :
    (View.canon (Val := Elt Ideal) (s := S8x128) (e := .f32) [⟨Rect.unit ![7, 0] ![1, 128] inb_S8x128_S1x128_7_0, v.readCov [⟨Rect.unit ![0, 0] ![1, 1024] inb_S1x1024_S1x1024_0_0, P⟩] (Rect.unit ![0, 896] ![1, 128] inb_S1x1024_S1x128_0_896).toLoadRect⟩,
    ⟨Rect.unit ![6, 0] ![1, 128] inb_S8x128_S1x128_6_0, v.readCov [⟨Rect.unit ![0, 0] ![1, 1024] inb_S1x1024_S1x1024_0_0, P⟩] (Rect.unit ![0, 768] ![1, 128] inb_S1x1024_S1x128_0_768).toLoadRect⟩,
    ⟨Rect.unit ![5, 0] ![1, 128] inb_S8x128_S1x128_5_0, v.readCov [⟨Rect.unit ![0, 0] ![1, 1024] inb_S1x1024_S1x1024_0_0, P⟩] (Rect.unit ![0, 640] ![1, 128] inb_S1x1024_S1x128_0_640).toLoadRect⟩,
    ⟨Rect.unit ![4, 0] ![1, 128] inb_S8x128_S1x128_4_0, v.readCov [⟨Rect.unit ![0, 0] ![1, 1024] inb_S1x1024_S1x1024_0_0, P⟩] (Rect.unit ![0, 512] ![1, 128] inb_S1x1024_S1x128_0_512).toLoadRect⟩,
    ⟨Rect.unit ![3, 0] ![1, 128] inb_S8x128_S1x128_3_0, v.readCov [⟨Rect.unit ![0, 0] ![1, 1024] inb_S1x1024_S1x1024_0_0, P⟩] (Rect.unit ![0, 384] ![1, 128] inb_S1x1024_S1x128_0_384).toLoadRect⟩,
    ⟨Rect.unit ![2, 0] ![1, 128] inb_S8x128_S1x128_2_0, v.readCov [⟨Rect.unit ![0, 0] ![1, 1024] inb_S1x1024_S1x1024_0_0, P⟩] (Rect.unit ![0, 256] ![1, 128] inb_S1x1024_S1x128_0_256).toLoadRect⟩,
    ⟨Rect.unit ![1, 0] ![1, 128] inb_S8x128_S1x128_1_0, v.readCov [⟨Rect.unit ![0, 0] ![1, 1024] inb_S1x1024_S1x1024_0_0, P⟩] (Rect.unit ![0, 128] ![1, 128] inb_S1x1024_S1x128_0_128).toLoadRect⟩,
    ⟨Rect.unit ![0, 0] ![1, 128] inb_S8x128_S1x128_0_0, v.readCov [⟨Rect.unit ![0, 0] ![1, 1024] inb_S1x1024_S1x1024_0_0, P⟩] (Rect.unit ![0, 0] ![1, 128] inb_S1x1024_S1x128_0_0).toLoadRect⟩,
    ⟨Rect.unit ![0, 0] ![8, 128] inb_S8x128_S8x128_0_0, Q⟩] : FVec Ideal S8x128 .f32) (ix2 j l) = P (ix2 0 ⟨j.val * 128 + l.val, by omega⟩) := by
  refine View.canon_append_of_piecesOf (Val := Elt Ideal) (s := S8x128) (e := .f32) (fun y => P (ix2 0 ⟨(y 0).val * 128 + (y 1).val, by have h0 : (y 0).val < 8 := (y 0).isLt; have h1 : (y 1).val < 128 := (y 1).isLt; omega⟩)) [_] [_, _, _, _, _, _, _, _] ?_ (ix2 j l) ?_
  · refine ⟨?_, ?_, ?_, ?_, ?_, ?_, ?_, ?_, trivial⟩
    · exact fun x => piece v P 7 _ rfl inb_S8x128_S1x128_7_0 _ x _
    · exact fun x => piece v P 6 _ rfl inb_S8x128_S1x128_6_0 _ x _
    · exact fun x => piece v P 5 _ rfl inb_S8x128_S1x128_5_0 _ x _
    · exact fun x => piece v P 4 _ rfl inb_S8x128_S1x128_4_0 _ x _
    · exact fun x => piece v P 3 _ rfl inb_S8x128_S1x128_3_0 _ x _
    · exact fun x => piece v P 2 _ rfl inb_S8x128_S1x128_2_0 _ x _
    · exact fun x => piece v P 1 _ rfl inb_S8x128_S1x128_1_0 _ x _
    · exact fun x => piece v P 0 _ rfl inb_S8x128_S1x128_0_0 _ x _
  · simp only [List.mem_cons, List.not_mem_nil, or_false, exists_eq_or_imp, exists_eq_left, Rect.mem_set_unit]
    fin_cases j <;> simp [Fin.forall_fin_two] <;> trace_state
variable (m : (ℓ : Loc nD τ sig) → Buf (Elt Ideal) ℓ)

/-- The first five projections' cotangents side by side with the padding columns of the version. -/
def dfr (a : FVec Ideal S4096x384 .bf16) (b : FVec Ideal S4096x256 .bf16) (d : FVec Ideal S4096x32 .bf16) : FVec Ideal S4096x768 .bf16 :=
  concatenate S4096x768 1 [⟨S4096x384, a⟩, ⟨S4096x256, b⟩, ⟨S4096x64, broadcastInDim S4096x64 ![] bcast_S_S4096x64 (constant S_ .bf16 0x0000#16)⟩, ⟨S4096x32, d⟩,
    ⟨S4096x32, broadcastInDim S4096x32 ![] bcast_S_S4096x32 (constant S_ .bf16 0x0000#16)⟩] concatenates_S4096x384_S4096x256_S4096x64_S4096x32_S4096x32_S4096x768_d1

/-- The weight transposed, with rows of zeros where the version pads the columns. -/
def wpad (w : FVec Ideal S1024x4256 .f32) : FVec Ideal S4352x1024 .bf16 :=
  let v := truncf .bf16 (transpose S4256x1024 [1, 0] w transposes_S1024x4256_S4256x1024_1_0) bitsLt_bf16_f32
  concatenate S4352x1024 0 [⟨S640x1024, extractStridedSlice S640x1024 ![0, 0] v slices_S4256x1024_S640x1024_0_0⟩,
    ⟨S64x1024, broadcastInDim S64x1024 ![] bcast_S_S64x1024 (constant S_ .bf16 0x0000#16)⟩,
    ⟨S32x1024, extractStridedSlice S32x1024 ![640, 0] v slices_S4256x1024_S32x1024_640_0⟩,
    ⟨S32x1024, broadcastInDim S32x1024 ![] bcast_S_S32x1024 (constant S_ .bf16 0x0000#16)⟩,
    ⟨S3584x1024, extractStridedSlice S3584x1024 ![672, 0] v slices_S4256x1024_S3584x1024_672_0⟩] concatenates_S640x1024_S64x1024_S32x1024_S32x1024_S3584x1024_S4352x1024_d0

theorem V_dfr (c : Dev nD) : V m c main_v2 = dfr (m ((c : Thread nD τ).loc main_arg0)) (m ((c : Thread nD τ).loc main_arg1)) (m ((c : Thread nD τ).loc main_arg2)) := rfl
theorem V_wpad (c : Dev nD) : V m c main_v11 = wpad (m ((c : Thread nD τ).loc main_arg10)) := rfl

theorem dfr_apply (a : FVec Ideal S4096x384 .bf16) (b : FVec Ideal S4096x256 .bf16) (d : FVec Ideal S4096x32 .bf16) (r : Fin 4096) (k : Fin 768) :
    dfr a b d (ix2 r k) = if h : k.val < 384 then a (ix2 r ⟨k.val, h⟩) else if h : k.val - 384 < 256 then b (ix2 r ⟨k.val - 384, h⟩)
      else if h : k.val - 384 - 256 < 64 then 0 else if h : k.val - 384 - 256 - 64 < 32 then d (ix2 r ⟨k.val - 384 - 256 - 64, h⟩) else 0 := by
  pointwise [dfr]

theorem wpad_lo (w : FVec Ideal S1024x4256 .f32) (r : Fin 4352) (k : Fin 1024) (h : r.val < 640) : wpad w (ix2 r k) = w (ix2 k ⟨r.val, by omega⟩) := by
  pointwise [wpad]
  rw [dif_pos h]
theorem wpad_kr (w : FVec Ideal S1024x4256 .f32) (r : Fin 4352) (k : Fin 1024) (h : 704 ≤ r.val) (h' : r.val < 736) :
    wpad w (ix2 r k) = w (ix2 k ⟨r.val - 64, by omega⟩) := by
  pointwise [wpad]
  rw [dif_neg (by omega), dif_neg (by omega), dif_pos (by omega)]
  blk_ext
theorem wpad_hi (w : FVec Ideal S1024x4256 .f32) (r : Fin 4352) (k : Fin 1024) (h : 768 ≤ r.val) :
    wpad w (ix2 r k) = w (ix2 k ⟨r.val - 96, by omega⟩) := by
  pointwise [wpad]
  rw [dif_neg (by omega), dif_neg (by omega), dif_neg (by omega), dif_neg (by omega)]
  blk_ext

section
variable (x0 : FVec Ideal S4096x384 .bf16) (x1 : FVec Ideal S4096x256 .bf16) (x2 : FVec Ideal S4096x32 .bf16)
  (x3 x4 x5 : FVec Ideal S4096x512 .bf16) (x6 : FVec Ideal S4096x2048 .bf16) (x10 : FVec Ideal S1024x4256 .f32)

theorem add_seven (a b c d e f g : EReal) : g + d + e + f + (a + (b + c)) = a + (b + (c + (d + (e + (f + g))))) := by abel

theorem ker_dhn (v3 : FVec Ideal S256x2048 .bf16) (v4 : FVec Ideal S2048x1024 .bf16) (v7 v12 v17 : FVec Ideal S256x512 .bf16) (v8 v13 v18 : FVec Ideal S512x1024 .bf16)
    (v22 : FVec Ideal S256x768 .bf16) (v24 : FVec Ideal S768x1024 .bf16) (a : Fin 4096) (r : Fin 256) (k : Fin 1024)
    (h3 : ∀ x, v3 (ix2 r x) = x6 (ix2 a x)) (h4 : ∀ x, v4 (ix2 x k) = wpad x10 (ix2 ⟨2304 + x.val, by omega⟩ k))
    (h7 : ∀ x, v7 (ix2 r x) = x3 (ix2 a x)) (h8 : ∀ x, v8 (ix2 x k) = wpad x10 (ix2 ⟨768 + x.val, by omega⟩ k))
    (h12 : ∀ x, v12 (ix2 r x) = x4 (ix2 a x)) (h13 : ∀ x, v13 (ix2 x k) = wpad x10 (ix2 ⟨1280 + x.val, by omega⟩ k))
    (h17 : ∀ x, v17 (ix2 r x) = x5 (ix2 a x)) (h18 : ∀ x, v18 (ix2 x k) = wpad x10 (ix2 ⟨1792 + x.val, by omega⟩ k))
    (h22 : ∀ x, v22 (ix2 r x) = dfr x0 x1 x2 (ix2 a x)) (h24 : ∀ x, v24 (ix2 x k) = wpad x10 (ix2 ⟨x.val, by omega⟩ k)) :
    (k0_pay3 (F := Ideal) v3 v4 v7 v8 v12 v13 v17 v18 v22 v24 : FVec Ideal S256x1024 .f32) (ix2 r k) =
      (Cert.InxRefIdeal.Read.val_main_v40 (F := Ideal) x0 x1 x2 x3 x4 x5 x6 x10 : FVec Ideal ⟨3, ![1, 4096, 1024]⟩ .f32) (ix3 0 a k) := by
  rw [ref_dhn]
  pointwise [k0_pay3]
  simp only [h3, h4, h7, h8, h12, h13, h17, h18, h22, h24]
  have e1 : ∀ x : Fin 384, dfr x0 x1 x2 (ix2 a ⟨x.val, by omega⟩) * wpad x10 (ix2 ⟨x.val, by omega⟩ k) = x0 (ix2 a x) * x10 (ix2 k ⟨x.val, by omega⟩) := fun x => by
    rw [wpad_lo _ _ _ (by dsimp only; omega), dfr_apply, dif_pos x.isLt]
  have e2 : ∀ x : Fin 256, dfr x0 x1 x2 (ix2 a ⟨384 + x.val, by omega⟩) * wpad x10 (ix2 ⟨384 + x.val, by omega⟩ k) = x1 (ix2 a x) * x10 (ix2 k ⟨384 + x.val, by omega⟩) := fun x => by
    rw [wpad_lo _ _ _ (by dsimp only; omega), dfr_apply, dif_neg (by dsimp only; omega), dif_pos (by dsimp only; omega)]
    refine congrArg₂ _ ?_ rfl
    blk_ext
  have e3 : ∀ x : Fin 64, dfr x0 x1 x2 (ix2 a ⟨384 + (256 + x.val), by omega⟩) * wpad x10 (ix2 ⟨384 + (256 + x.val), by omega⟩ k) = 0 := fun x => by
    rw [dfr_apply, dif_neg (by dsimp only; omega), dif_neg (by dsimp only; omega), dif_pos (by dsimp only; omega), zero_mul]
  have e4 : ∀ x : Fin 32, dfr x0 x1 x2 (ix2 a ⟨384 + (256 + (64 + x.val)), by omega⟩) * wpad x10 (ix2 ⟨384 + (256 + (64 + x.val)), by omega⟩ k)
      = x2 (ix2 a x) * x10 (ix2 k ⟨640 + x.val, by omega⟩) := fun x => by
    rw [wpad_kr _ _ _ (by dsimp only; omega) (by dsimp only; omega), dfr_apply, dif_neg (by dsimp only; omega), dif_neg (by dsimp only; omega), dif_neg (by dsimp only; omega), dif_pos (by dsimp only; omega)]
    refine congrArg₂ _ ?_ ?_ <;> blk_ext
  have e5 : ∀ x : Fin 32, dfr x0 x1 x2 (ix2 a ⟨384 + (256 + (64 + (32 + x.val))), by omega⟩) * wpad x10 (ix2 ⟨384 + (256 + (64 + (32 + x.val))), by omega⟩ k) = 0 := fun x => by
    rw [dfr_apply, dif_neg (by dsimp only; omega), dif_neg (by dsimp only; omega), dif_neg (by dsimp only; omega), dif_neg (by dsimp only; omega), zero_mul]
  have s2 : ∑ x : Fin 2048, x6 (ix2 a x) * wpad x10 (ix2 ⟨2304 + x.val, by omega⟩ k) = ∑ x : Fin 2048, x6 (ix2 a x) * x10 (ix2 k ⟨2208 + x.val, by omega⟩) :=
    Finset.sum_congr rfl fun x _ => congrArg _ ((wpad_hi _ _ _ (by dsimp only; omega)).trans (by blk_ext))
  have s3 : ∑ x : Fin 512, x3 (ix2 a x) * wpad x10 (ix2 ⟨768 + x.val, by omega⟩ k) = ∑ x : Fin 512, x3 (ix2 a x) * x10 (ix2 k ⟨672 + x.val, by omega⟩) :=
    Finset.sum_congr rfl fun x _ => congrArg _ ((wpad_hi _ _ _ (by dsimp only; omega)).trans (by blk_ext))
  have s4 : ∑ x : Fin 512, x4 (ix2 a x) * wpad x10 (ix2 ⟨1280 + x.val, by omega⟩ k) = ∑ x : Fin 512, x4 (ix2 a x) * x10 (ix2 k ⟨1184 + x.val, by omega⟩) :=
    Finset.sum_congr rfl fun x _ => congrArg _ ((wpad_hi _ _ _ (by dsimp only; omega)).trans (by blk_ext))
  have s5 : ∑ x : Fin 512, x5 (ix2 a x) * wpad x10 (ix2 ⟨1792 + x.val, by omega⟩ k) = ∑ x : Fin 512, x5 (ix2 a x) * x10 (ix2 k ⟨1696 + x.val, by omega⟩) :=
    Finset.sum_congr rfl fun x _ => congrArg _ ((wpad_hi _ _ _ (by dsimp only; omega)).trans (by blk_ext))
  have s1 : ∑ x : Fin 768, dfr x0 x1 x2 (ix2 a x) * wpad x10 (ix2 ⟨x.val, by omega⟩ k) =
      ∑ x : Fin 384, x0 (ix2 a x) * x10 (ix2 k ⟨x.val, by omega⟩) + (∑ x : Fin 256, x1 (ix2 a x) * x10 (ix2 k ⟨384 + x.val, by omega⟩)
      + ∑ x : Fin 32, x2 (ix2 a x) * x10 (ix2 k ⟨640 + x.val, by omega⟩)) := by
    rw [sum_split 384 384 (n := 768) rfl]
    refine congrArg₂ _ (Finset.sum_congr rfl fun x _ => e1 x) ?_
    rw [sum_split 256 128 (n := 384) rfl]
    refine congrArg₂ _ (Finset.sum_congr rfl fun x _ => e2 x) ?_
    rw [sum_split 64 64 (n := 128) rfl, Finset.sum_eq_zero fun x _ => e3 x, zero_add, sum_split 32 32 (n := 64) rfl]
    exact (congrArg₂ _ (Finset.sum_congr rfl fun x _ => e4 x) (Finset.sum_eq_zero fun x _ => e5 x)).trans (add_zero _)
  rw [s1, s2, s3, s4, s5]
  exact add_seven _ _ _ _ _ _ _
end

theorem ker_gx (v27 v28 v61 : FVec Ideal S256x1024 .f32) (v29 : FVec Ideal S1x1024 .f32) (r : Fin 256) (x u n : Fin 1024 → ℝ)
    (hx : ∀ k, v28 (ix2 r k) = ((x k : ℝ) : EReal)) (hu : ∀ k, v27 (ix2 r k) = ((u k : ℝ) : EReal)) (hn : ∀ k, v29 (ix2 0 k) = ((n k : ℝ) : EReal)) (k : Fin 1024) :
    k0_pay7 v27 v28 v29 v61 (ix2 r k) = ((rinv x 1024 * ((fun j => u j * n j) k - x k * rinv x 1024 * ((∑ i, (fun j => u j * n j) i * (x i * rinv x 1024)) / 1024)) : ℝ) : EReal)
      + v61 (ix2 r k) := by
  pointwise [k0_pay7, k0_pay5, k0_pay4]
  simp only [hx, hu, hn, lit_1024, lit_eps, lit_neg_half, ← EReal.coe_mul, coe_sum, ← EReal.coe_add, ← EReal.coe_sub, div_coe _ (by norm_num : (1024 : ℝ) ≠ 0),
    rsqrt_row x (by norm_num : (0 : ℝ) < 1024)]

theorem ker_gn (v27 v28 : FVec Ideal S256x1024 .f32) (v56 : FVec Ideal S1x1024 .f32) (k : Fin 1024) :
    k0_pay6 v27 v28 v56 (ix2 0 k) = v56 (ix2 0 k) + ∑ r : Fin 256, v28 (ix2 r k) * Ideal.rsqrt
        (Ideal.div (∑ i, v28 (ix2 r i) * v28 (ix2 r i)) (Ideal.ofBits .f32 0x44800000#32) + Ideal.ofBits .f32 0x358637BD#32) * v27 (ix2 r k) := by
  pointwise [k0_pay6, k0_pay4, k0_pay5]
  exact congrArg _ (Finset.sum_congr rfl fun r _ => mul_comm _ _)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] ∧ win0_10.index t = ![0, 0] :=
  (by decide +kernel : ∀ t : Fin grid0.N, _)

/-- Row `r` of grid point `t`'s block, in the whole array. -/
def row (t : Fin cfg0.N) (r : Fin 256) : Fin 4096 := ⟨t.val * 256 + r.val, by have := t.isLt; have h : cfg0.N = 16 := N_0; omega⟩

/-- The cotangent of the normed input at point `t`, as the body computes it. -/
abbrev D (c : Dev nD) (t : Fin cfg0.N) : FVec Ideal S256x1024 .f32 :=
  k0_pay3 (F := Ideal) (iblk m c 0 t)
        (View.ld (iblk m c 8 t) (Rect.unit ![2304, 0] ![2048, 1024] inb_S4352x1024_S2048x1024_2304_0)) (iblk m c 1 t)
        (View.ld (iblk m c 8 t) (Rect.unit ![768, 0] ![512, 1024] inb_S4352x1024_S512x1024_768_0)) (iblk m c 2 t)
        (View.ld (iblk m c 8 t) (Rect.unit ![1280, 0] ![512, 1024] inb_S4352x1024_S512x1024_1280_0)) (iblk m c 3 t)
        (View.ld (iblk m c 8 t) (Rect.unit ![1792, 0] ![512, 1024] inb_S4352x1024_S512x1024_1792_0)) (iblk m c 4 t)
        (View.ld (iblk m c 8 t) (Rect.unit ![0, 0] ![768, 1024] inb_S4352x1024_S768x1024_0_0))

/-- The reference's cotangent of the normed input, of the kernel's own arguments. -/
abbrev R (c : Dev nD) : FVec Ideal ⟨3, ![1, 4096, 1024]⟩ .f32 :=
  Cert.InxRefIdeal.Read.val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg10))

theorem blk_w (c : Dev nD) (t : Fin cfg0.N) (r : Fin 4352) (k : Fin 1024) : (iblk m c 8 t : FVec Ideal S4352x1024 .bf16) (ix2 r k) =
    wpad (m ((c : Thread nD τ).loc main_arg10)) (ix2 r k) := by
  refine Eq.trans (b := (V m c main_v11 : FVec Ideal S4352x1024 .bf16) (ix2 r k)) ?_ (congrFun (V_wpad m c) _)
  blk_point [iblk, idx t]

theorem ld_w (c : Dev nD) (t : Fin cfg0.N) (o n : ℕ) (inb) (x : Fin n) (k : Fin 1024) (h : o + x.val < 4352) :
    (View.ld (Val := Elt Ideal) (S := S4352x1024) (e' := .bf16) (iblk m c 8 t) (Rect.unit ![o, 0] ![n, 1024] inb) : FVec Ideal ⟨2, ![n, 1024]⟩ .bf16) (ix2 x k) =
      wpad (m ((c : Thread nD τ).loc main_arg10)) (ix2 ⟨o + x.val, h⟩ k) := by
  refine (View.ld_unit_apply_of (Val := Elt Ideal) (S := S4352x1024) (e := .bf16) (iblk m c 8 t) ![o, 0] ![n, 1024] inb (ix2 x k) (ix2 ⟨o + x.val, h⟩ k) fun a => ?_).trans (blk_w m c t _ k)
  fin_cases a
  · rfl
  · exact (Nat.zero_add _).symm

theorem blk_dfr (c : Dev nD) (t : Fin cfg0.N) (r : Fin 256) (k : Fin 768) : (iblk m c 4 t : FVec Ideal S256x768 .bf16) (ix2 r k) =
    dfr (m ((c : Thread nD τ).loc main_arg0)) (m ((c : Thread nD τ).loc main_arg1)) (m ((c : Thread nD τ).loc main_arg2)) (ix2 (row t r) k) := by
  refine Eq.trans (b := (V m c main_v2 : FVec Ideal S4096x768 .bf16) (ix2 (row t r) k)) ?_ (congrFun (V_dfr m c) _)
  blk_point [iblk, idx t, row]

theorem D_eq (c : Dev nD) (t : Fin cfg0.N) (r : Fin 256) (k : Fin 1024) : D m c t (ix2 r k) = R m c (ix3 0 (row t r) k) := by
  refine ker_dhn _ _ _ _ _ _ _ _ _ _ _ _ _ _ _ _ _ _ (row t r) r k ?_ (fun x => ld_w m c t 2304 2048 _ x k _) ?_ (fun x => ld_w m c t 768 512 _ x k _) ?_
    (fun x => ld_w m c t 1280 512 _ x k _) ?_ (fun x => ld_w m c t 1792 512 _ x k _) (fun x => blk_dfr m c t r x)
    (fun x => (ld_w m c t 0 768 _ x k (by omega)).trans (congrArg (fun i => wpad (m ((c : Thread nD τ).loc main_arg10)) (ix2 i k)) (Fin.ext (Nat.zero_add _)))) <;> intro x <;> blk_point [iblk, V, idx t, row]

section Final
open Cert.InxRefIdeal.Read (val_main_v63 val_main_v64)

/-- The input's gradient, as the reference has it. -/
abbrev GX (c : Dev nD) : FVec Ideal S4096x1024 .f32 :=
  val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10))
/-- The norm weight's gradient, as the reference has it. -/
abbrev GN (c : Dev nD) : FVec Ideal S8x128 .f32 :=
  val_main_v64 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg10))

theorem gx_point (c : Dev nD) (t : Fin cfg0.N) (X U : Fin 4096 → Fin 1024 → ℝ) (n : Fin 1024 → ℝ)
    (hx : ∀ a k, (m ((c : Thread nD τ).loc main_arg7) : FVec Ideal S4096x1024 .f32) (ix2 a k) = ((X a k : ℝ) : EReal)) (hu : ∀ a k, R m c (ix3 0 a k) = ((U a k : ℝ) : EReal))
    (hn : ∀ k, (m ((c : Thread nD τ).loc main_arg9) : FVec Ideal S1024 .f32) (ix1 k) = ((n k : ℝ) : EReal)) (r : Fin 256) (k : Fin 1024) :
    (k0_pay7 (F := Ideal) (D m c t) (iblk m c 5 t) (iblk m c 7 t) (iblk m c 6 t) : FVec Ideal S256x1024 .f32) (ix2 r k) = GX m c (ix2 (row t r) k) := by
  have e5 : ∀ r k, (iblk m c 5 t : FVec Ideal S256x1024 .f32) (ix2 r k) = (m ((c : Thread nD τ).loc main_arg7) : FVec Ideal S4096x1024 .f32) (ix2 (row t r) k) :=
    fun r k => by blk_point [iblk, V, idx t, row]
  have e6 : (iblk m c 6 t : FVec Ideal S256x1024 .f32) (ix2 r k) = (m ((c : Thread nD τ).loc main_arg8) : FVec Ideal S4096x1024 .f32) (ix2 (row t r) k) := by
    blk_point [iblk, V, idx t, row]
  have e7 : ∀ k, (iblk m c 7 t : FVec Ideal S1x1024 .f32) (ix2 0 k) = (m ((c : Thread nD τ).loc main_arg9) : FVec Ideal S1024 .f32) (ix1 k) := fun k => by
    blk_point [iblk, V, idx t]
  refine (ker_gx _ _ _ _ r (X (row t r)) (U (row t r)) n (fun k => (e5 r k).trans (hx _ _)) (fun k => (D_eq m c t r k).trans (hu _ _)) (fun k => (e7 k).trans (hn k)) k).trans ?_
  refine Eq.trans ?_ (ref_gx _ _ _ _ _ _ _ _ _ _ _ X U n hx hu hn (row t r) k).symm
  rw [e6, rms_row (X (row t r)) (fun j => U (row t r) j * n j) (by norm_num : (0 : ℝ) < 1024) k]

theorem final_gx (c : Dev nD) (X U : Fin 4096 → Fin 1024 → ℝ) (n : Fin 1024 → ℝ)
    (hx : ∀ a k, (m ((c : Thread nD τ).loc main_arg7) : FVec Ideal S4096x1024 .f32) (ix2 a k) = ((X a k : ℝ) : EReal)) (hu : ∀ a k, R m c (ix3 0 a k) = ((U a k : ℝ) : EReal))
    (hn : ∀ k, (m ((c : Thread nD τ).loc main_arg9) : FVec Ideal S1024 .f32) (ix1 k) = ((n k : ℝ) : EReal)) :
    (dats m 0 c).arrAt 9 (cfgs 0).N = GX m c := by
  refine (dats m 0 c).arrAt_eq_of_covers 9 _ (by decide +kernel) fun t _ y => ?_
  have key : ∀ y : S256x1024.Idx, (k0_pay7 (F := Ideal) (D m c t) (iblk m c 5 t) (iblk m c 7 t) (iblk m c 6 t) : FVec Ideal S256x1024 .f32) y =
      GX m c (((View.whole main_v12_0).slice (win0_9.rect t)).emb y) := fun y => by
    idx_vars y
    refine (gx_point m c t X U n hx hu hn _ _).trans ?_
    blk_ext [idx t, row]
  blk_simp
  rw [after0_9]
  by_cases h0 : t.val % 16 = 0
  · rw [outsAt0_A m c t h0 (by omega)]
    frame_out
    exact key y
  by_cases h1 : t.val % 16 = 15
  · rw [outsAt0_C m c t h0 h1]
    frame_out
    exact key y
  · rw [outsAt0_B m c t h0 h1]
    frame_out
    exact key y

/-- Row `a`'s contribution to the norm weight's gradient. -/
def gnTerm (x : FVec Ideal S4096x1024 .f32) (u : FVec Ideal ⟨3, ![1, 4096, 1024]⟩ .f32) (a : Fin 4096) (k : Fin 1024) : EReal :=
  x (ix2 a k) * Ideal.rsqrt (Ideal.div (∑ i, x (ix2 a i) * x (ix2 a i)) (Ideal.ofBits .f32 0x44800000#32) + Ideal.ofBits .f32 0x358637BD#32) * u (ix3 0 a k)
abbrev term (c : Dev nD) : Fin 4096 → Fin 1024 → EReal := gnTerm (m ((c : Thread nD τ).loc main_arg7)) (R m c)

theorem acc_point (c : Dev nD) (t : Fin cfg0.N) (v : FVec Ideal S1x1024 .f32) (k : Fin 1024) :
    (k0_pay6 (F := Ideal) (D m c t) (iblk m c 5 t) v : FVec Ideal S1x1024 .f32) (ix2 0 k) = v (ix2 0 k) + ∑ r : Fin 256, term m c (row t r) k := by
  have e5 : ∀ r k, (iblk m c 5 t : FVec Ideal S256x1024 .f32) (ix2 r k) = (m ((c : Thread nD τ).loc main_arg7) : FVec Ideal S4096x1024 .f32) (ix2 (row t r) k) :=
    fun r k => by blk_point [iblk, V, idx t, row]
  refine (ker_gn _ _ _ _).trans (congrArg _ (Finset.sum_congr rfl fun r _ => ?_))
  simp only [e5, D_eq, term, gnTerm]

theorem acc_last (c : Dev nD) (t : Fin cfg0.N) (ht : t.val + 1 = cfg0.N) (k : Fin 1024) :
    ((outsAt0 m c t.val t.isLt).2.2 : FVec Ideal S1x1024 .f32) (ix2 0 k) = ∑ a, term m c a k := by
  refine (Pipeline.eq_sum_fin_of_reset_step_apply_last (fun n h (k : Fin 1024) => ((outsAt0 m c n h).2.2 : FVec Ideal S1x1024 .f32) (ix2 0 k)) 16 (fun _ => 0)
    (fun t k => ∑ r : Fin 256, term m c (row t r) k) (fun t h0 k => ?_) (fun t h0 k => ?_) (le_of_eq N_0) t ht k).trans ?_
  · rw [outsAt0_A m c t h0 (by omega)]
    frame_out
    refine (acc_point m c t _ k).trans ?_
    pointwise [k0_pay2]
  · by_cases h1 : t.val % 16 = 15
    · rw [outsAt0_C m c t h0 h1]
      frame_out
      refine (acc_point m c t _ k).trans ?_
      rw [read_unread_whole]
    · rw [outsAt0_B m c t h0 h1]
      frame_out
      refine (acc_point m c t _ k).trans ?_
      rw [read_unread_whole]
  · refine (zero_add _).trans ?_
    exact Fin.sum_mul_add_congr (S := cfg0.N) (n := 256) (L := 4096) (F := fun t r => term m c (row t r) k) (f := fun a => term m c a k) (fun t r hl => rfl) (congrArg (· * 256) N_0).symm

theorem final_gn (c : Dev nD) : (dats m 0 c).arrAt 10 (cfgs 0).N = GN m c := by
  refine (dats m 0 c).arrAt_eq_of_covers 10 _ (by decide +kernel) fun t hf y => ?_
  have ht : t.val = 15 := (by decide +kernel : ∀ t : Fin grid0.N, (cfg0.win 10).flush t = true → t.val = 15) t hf
  have key : ∀ (j : Fin 8) (l : Fin 128), ((outsAt0 m c t.val t.isLt).2.1 : FVec Ideal S8x128 .f32) (ix2 j l) = GN m c (ix2 j l) := fun j l => by
    refine Eq.trans ?_ ((acc_last m c t (by rw [ht]; rfl) ⟨j.val * 128 + l.val, by omega⟩).trans (ref_gn _ _ _ _ _ _ _ _ _ j l).symm)
    rw [outsAt0_C m c t (by omega) (by omega)]
    frame_out
    exact packed _ _ _ j l
  have key' : ∀ y : S8x128.Idx, ((outsAt0 m c t.val t.isLt).2.1 : FVec Ideal S8x128 .f32) y = GN m c ((win0_10.blk t).view.emb y) := fun y => by
    idx_vars y
    refine (key _ _).trans ?_
    blk_ext [idx t]
  blk_simp
  rw [after0_10]
  exact key' y
end Final
end Cert.Inx
end
-- ==== Proof.InxClaim.lean ====
/- The claim on the input projection's gradient: finite arguments give both programs the same two results. -/
module

public import proofs.«01_k».proof.Defs
public import proofs.«01_k».proof.Proof.Inx
public import proofs.«01_k».proof.Proof.Gen.InxRefIdeal.Run
public import proofs.«01_k».proof.Proof.Gen.Pre_inx_finite
public import Idealize.ShloMosaic.Lib.Claim

@[expose] public section

set_option maxRecDepth 16384

noncomputable section

open Idealize.ShloMosaic Idealize.ShloMosaic.TcCoe Idealize.SL.Sem
open Cert.Lift

namespace Cert.Inx

open Cert.InxBwdIdeal Cert.InxBwdIdeal.Gen

theorem gx_of_pre {m : (ℓ : Loc nD τ sig) → Buf (Elt Ideal) ℓ} (h : Cert.Pre_InxBwdIdeal_inx_finite m) (c : Dev nD) :
    (dats m 0 c).arrAt 9 (cfgs 0).N = GX m c := by
  obtain ⟨h0, h1, h2, h3, h4, h5, h6, h7, h9, h10⟩ := h c
  obtain ⟨X, hX⟩ := isReal_of_olt _ lit_inf _ _ h7
  obtain ⟨n, hn⟩ := isReal_of_olt _ lit_inf _ _ h9
  obtain ⟨U, hU⟩ := dhn_real _ _ _ _ _ _ _ _ (isReal_of_olt _ lit_inf16 _ _ h0) (isReal_of_olt _ lit_inf16 _ _ h1) (isReal_of_olt _ lit_inf16 _ _ h2) (isReal_of_olt _ lit_inf16 _ _ h3)
    (isReal_of_olt _ lit_inf16 _ _ h4) (isReal_of_olt _ lit_inf16 _ _ h5) (isReal_of_olt _ lit_inf16 _ _ h6) (isReal_of_olt _ lit_inf _ _ h10)
  exact final_gx m c (fun a k => X (ix2 a k)) U (fun k => n (ix1 k)) (fun a k => hX _) hU (fun k => hn _)

set_option maxHeartbeats 2000000 in
theorem algebraic : Cert.algebraic_InxBwdIdeal_InxRefIdeal_pre_inx_finite := by
  pair_intro
  · run_from Cert.InxBwdIdeal.Gen.run_main m g
  · refine (θ_run _ _ _).mono (fun r h c => ?_) (Cert.InxRefIdeal.Value.run m' g')
    obtain ⟨a0, a1, a2, a3, a4, a5, a6, a7, a8, a9, a10⟩ := hagree c
    refine ⟨(h c).1.trans ?_, (h c).2.1.trans ?_, (h c).2.2⟩
    · refine (Cert.InxRefIdeal.Read.val_main_v63_eq m' c).trans (Eq.trans ?_ (gx_of_pre hpre c).symm)
      unfold GX
      congr 1
    · refine (Cert.InxRefIdeal.Read.val_main_v64_eq (F := Ideal) (m' ((c.tc : Thread Cert.InxRefIdeal.nD Cert.InxRefIdeal.τ).loc Cert.InxRefIdeal.main_arg0)) (m' ((c.tc : Thread Cert.InxRefIdeal.nD Cert.InxRefIdeal.τ).loc Cert.InxRefIdeal.main_arg1)) (m' ((c.tc : Thread Cert.InxRefIdeal.nD Cert.InxRefIdeal.τ).loc Cert.InxRefIdeal.main_arg2)) (m' ((c.tc : Thread Cert.InxRefIdeal.nD Cert.InxRefIdeal.τ).loc Cert.InxRefIdeal.main_arg3)) (m' ((c.tc : Thread Cert.InxRefIdeal.nD Cert.InxRefIdeal.τ).loc Cert.InxRefIdeal.main_arg4)) (m' ((c.tc : Thread Cert.InxRefIdeal.nD Cert.InxRefIdeal.τ).loc Cert.InxRefIdeal.main_arg5)) (m' ((c.tc : Thread Cert.InxRefIdeal.nD Cert.InxRefIdeal.τ).loc Cert.InxRefIdeal.main_arg6)) (m' ((c.tc : Thread Cert.InxRefIdeal.nD Cert.InxRefIdeal.τ).loc Cert.InxRefIdeal.main_arg7)) (m' ((c.tc : Thread Cert.InxRefIdeal.nD Cert.InxRefIdeal.τ).loc Cert.InxRefIdeal.main_arg10))).trans (Eq.trans ?_ (final_gn m c).symm)
      unfold GN
      congr 1

end Cert.Inx
end
-- ==== Proof.AttnBodyIdeal.lean ====
module

public import proofs.«01_k».proof.Proof.Gen.AttnBwdIdeal.Loops
public import proofs.«01_k».proof.Proof.Gen.AttnBwdIdeal.Skeleton
public import proofs.«01_k».proof.Proof.Gen.AttnBwdIdeal.Frame
public import Idealize.ShloMosaic.Lib.LoopRemainder

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first key block of a head group: the scratch is set to zero. -/
abbrev cond0_0 (i : grid0.Coords) : Prop :=
  Scalar.cmpi .ne (Scalar.extui (Scalar.cmpi .eq (BitVec.ofNat 32 (i 1).val) 0#32)) 0#32 = 1#1
/-- The last key block of a head group: the scratch is written out. -/
abbrev cond0_1 (i : grid0.Coords) : Prop := k0_cond2 i = 1#1

variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S2x2x4096 .f32) (harg6 : arg6.IsWhole) (arg7 : Memref sig .tc .vmem S2x2x4096 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S1x512x128 .f32) (harg10 : arg10.IsWhole) (arg11 : Memref sig .tc .vmem S512x4096 .f32) (harg11 : arg11.IsWhole)
variable (x0 : Vec F S4096x512 .bf16) (x1 : Vec F S512x512 .bf16) (x2 : Vec F S512x512 .bf16) (x3 : Vec F S4096x512 .bf16) (x4 : Vec F S2x2x4096 .f32) (x5 : Vec F S2x2x4096 .f32)

set_option maxHeartbeats 4000000 in
/-- The body at the first key block of a head group. -/
noncomputable def runA (hc0 : cond0_0 i) (hc1 : ¬cond0_1 i) :
    Σ' (L7 : List (View.Piece (Elt F) S512x512 .bf16)), Σ' (L8 : List (View.Piece (Elt F) S1x512x128 .f32)), { SC : BufTy.Contents (Elt F) arg11.view.ty //
      ∀ (xs : Vec F S512x4096 .f32) (xi : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f (L7)) ∗ (∃ f, arg10.view.loc (c : Thread nD τ) ↦[arg10.view.set]{fullShare} arg10.view.writes (Elt F) f (L8)) ∗ (arg11.view.loc (c : Thread nD τ) ↦[arg11.view.set]{fullShare} (SC))) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun xs xi E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexact HS0

set_option maxHeartbeats 4000000 in
/-- The body at a key block that is neither the first nor the last of its head group. -/
noncomputable def runB (hc0 : ¬cond0_0 i) (hc1 : ¬cond0_1 i) :
    Σ' (L7 : Vec F S512x4096 .f32 → List (View.Piece (Elt F) S512x512 .bf16)), Σ' (L8 : Vec F S512x4096 .f32 → List (View.Piece (Elt F) S1x512x128 .f32)), { SC : Vec F S512x4096 .f32 → BufTy.Contents (Elt F) arg11.view.ty //
      ∀ (xs : Vec F S512x4096 .f32) (xi : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f (L7 xs)) ∗ (∃ f, arg10.view.loc (c : Thread nD τ) ↦[arg10.view.set]{fullShare} arg10.view.writes (Elt F) f (L8 xs)) ∗ (arg11.view.loc (c : Thread nD τ) ↦[arg11.view.set]{fullShare} (SC xs))) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun xs xi E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexact HS0

set_option maxHeartbeats 4000000 in
/-- The body at the last key block of a head group. -/
noncomputable def runC (hc0 : ¬cond0_0 i) (hc1 : cond0_1 i) :
    Σ' (L6 : Vec F S512x4096 .f32 → List (View.Piece (Elt F) S4096x512 .bf16)), Σ' (L7 : Vec F S512x4096 .f32 → List (View.Piece (Elt F) S512x512 .bf16)), Σ' (L8 : Vec F S512x4096 .f32 → List (View.Piece (Elt F) S1x512x128 .f32)), { SC : Vec F S512x4096 .f32 → BufTy.Contents (Elt F) arg11.view.ty //
      ∀ (xs : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f (L6 xs)) ∗ (∃ f, arg9.view.loc (c : Thread nD τ) ↦[arg9.view.set]{fullShare} arg9.view.writes (Elt F) f (L7 xs)) ∗ (∃ f, arg10.view.loc (c : Thread nD τ) ↦[arg10.view.set]{fullShare} arg10.view.writes (Elt F) f (L8 xs)) ∗ (arg11.view.loc (c : Thread nD τ) ↦[arg11.view.set]{fullShare} (SC xs))) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, ?_, fun xs E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexact HS0

end Cert.AttnBwdIdeal.Gen

end
-- ==== Proof.AttnFrameIdeal.lean ====
module

public import proofs.«01_k».proof.Proof.Gen.AttnBwdIdeal.Loops
public import proofs.«01_k».proof.Proof.Gen.AttnBwdIdeal.Skeleton
public import proofs.«01_k».proof.Proof.Gen.AttnBwdIdeal.Frame
public import Idealize.ShloMosaic.Lib.Claim
public import proofs.«01_k».proof.Proof.AttnBodyIdeal

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The pipeline's proof data -/

abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x2x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x2x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x128 .f32 := win0_8.stage (cfg0.slots t 8)
abbrev hs0_8 (t : Fin cfg0.N) : (ms0_8 t).IsWhole := hstage0_8 ((cfg0.slots t 8).cast nbuf0_8)
/-- The scratch the kernel carries between points. -/
abbrev scM0 : Memref sig .tc .vmem S512x4096 .f32 := Memref.whole cc0_scratch0
abbrev VO6 : View sig .tc .vmem S4096x512 .bf16 := (Memref.whole cc0_stg6_0 : Memref sig .tc .vmem S4096x512 .bf16).view
abbrev VO7 : View sig .tc .vmem S512x512 .bf16 := (Memref.whole cc0_stg7_0 : Memref sig .tc .vmem S512x512 .bf16).view
abbrev VO8 : View sig .tc .vmem S1x512x128 .f32 := (Memref.whole cc0_stg8_0 : Memref sig .tc .vmem S1x512x128 .f32).view

theorem PhiA0_eq (c : Dev nD) :
    (Pipeline.ΦA spec0 c : sProp 𝕄)
      = iprop(iprop((∃ d, owns (c : Thread nD τ) scM0 fullShare d)) ∗ (∃ r, prngReg c r)) := by
  unfold Pipeline.ΦA; rw [scopedRest0_eq]; simp only [scM0, owns_whole]; try rfl

theorem hcond0_0 : ∀ t : Fin cfg0.N, cond0_0 (grid0.coords t) ↔ t.val % 8 = 0 := by decide +kernel
theorem hcond0_1 : ∀ t : Fin cfg0.N, cond0_1 (grid0.coords t) ↔ t.val % 8 = 7 := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

variable (m : (ℓ : Loc nD τ sig) → Buf (Elt F) ℓ) (ρ : Dev nD → PrngReg)

abbrev ptA (c : Dev nD) (t : Fin cfg0.N) (h0 : t.val % 8 = 0) (h1 : ¬t.val % 8 = 7) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (iblk m c 5 t) ((hcond0_0 t).mpr h0) (fun h => h1 ((hcond0_1 t).mp h))
theorem coverA_7 (c : Dev nD) (t : Fin cfg0.N) (h0 : t.val % 8 = 0) (h1 : ¬t.val % 8 = 7) (y : S512x512.Idx) :
    ∃ pc ∈ (ptA m c t h0 h1).1, y ∈ pc.1.set :=
  View.cover_of_tiledL ((ptA m c t h0 h1).1) S512x128.size (by sl_kernel_rfl) y
theorem coverA_8 (c : Dev nD) (t : Fin cfg0.N) (h0 : t.val % 8 = 0) (h1 : ¬t.val % 8 = 7) (y : S1x512x128.Idx) :
    ∃ pc ∈ (ptA m c t h0 h1).2.1, y ∈ pc.1.set :=
  View.cover_of_tiledL ((ptA m c t h0 h1).2.1) S1x512x128.size (by sl_kernel_rfl) y

abbrev ptB (c : Dev nD) (t : Fin cfg0.N) (h0 : ¬t.val % 8 = 0) (h1 : ¬t.val % 8 = 7) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (iblk m c 5 t) (fun h => h0 ((hcond0_0 t).mp h)) (fun h => h1 ((hcond0_1 t).mp h))
theorem coverB_7 (c : Dev nD) (t : Fin cfg0.N) (h0 : ¬t.val % 8 = 0) (h1 : ¬t.val % 8 = 7) (xs : Vec F S512x4096 .f32) (y : S512x512.Idx) :
    ∃ pc ∈ (ptB m c t h0 h1).1 xs, y ∈ pc.1.set :=
  View.cover_of_tiledL ((ptB m c t h0 h1).1 xs) S512x128.size (by sl_kernel_rfl) y
theorem coverB_8 (c : Dev nD) (t : Fin cfg0.N) (h0 : ¬t.val % 8 = 0) (h1 : ¬t.val % 8 = 7) (xs : Vec F S512x4096 .f32) (y : S1x512x128.Idx) :
    ∃ pc ∈ (ptB m c t h0 h1).2.1 xs, y ∈ pc.1.set :=
  View.cover_of_tiledL ((ptB m c t h0 h1).2.1 xs) S1x512x128.size (by sl_kernel_rfl) y

abbrev ptC (c : Dev nD) (t : Fin cfg0.N) (h0 : ¬t.val % 8 = 0) (h1 : t.val % 8 = 7) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (iblk m c 0 t) (iblk m c 1 t) (iblk m c 2 t) (iblk m c 3 t) (iblk m c 4 t) (iblk m c 5 t) (fun h => h0 ((hcond0_0 t).mp h)) ((hcond0_1 t).mpr h1)
theorem coverC_7 (c : Dev nD) (t : Fin cfg0.N) (h0 : ¬t.val % 8 = 0) (h1 : t.val % 8 = 7) (xs : Vec F S512x4096 .f32) (y : S512x512.Idx) :
    ∃ pc ∈ (ptC m c t h0 h1).2.1 xs, y ∈ pc.1.set :=
  View.cover_of_tiledL ((ptC m c t h0 h1).2.1 xs) S512x128.size (by sl_kernel_rfl) y
theorem coverC_8 (c : Dev nD) (t : Fin cfg0.N) (h0 : ¬t.val % 8 = 0) (h1 : t.val % 8 = 7) (xs : Vec F S512x4096 .f32) (y : S1x512x128.Idx) :
    ∃ pc ∈ (ptC m c t h0 h1).2.2.1 xs, y ∈ pc.1.set :=
  View.cover_of_tiledL ((ptC m c t h0 h1).2.2.1 xs) S1x512x128.size (by sl_kernel_rfl) y
theorem coverC_6 (c : Dev nD) (t : Fin cfg0.N) (h0 : ¬t.val % 8 = 0) (h1 : t.val % 8 = 7) (xs : Vec F S512x4096 .f32) (y : S4096x512.Idx) :
    ∃ pc ∈ (ptC m c t h0 h1).1 xs, y ∈ pc.1.set :=
  View.cover_of_tiledL ((ptC m c t h0 h1).1 xs) S4096x512.size (by sl_kernel_rfl) y

/-- What the body at point `t` leaves: the three outputs' blocks and the scratch, over what the scratch held. -/
def point (c : Dev nD) (t : Fin cfg0.N) (xs : Vec F S512x4096 .f32) :
    Vec F S4096x512 .bf16 × Vec F S512x512 .bf16 × Vec F S1x512x128 .f32 × Vec F S512x4096 .f32 :=
  if h0 : t.val % 8 = 0 then
    (VO6.read (Elt F) VO6.junk, VO7.read (Elt F) (VO7.writes (Elt F) VO7.junk ((ptA m c t h0 (by omega)).1)),
      VO8.read (Elt F) (VO8.writes (Elt F) VO8.junk ((ptA m c t h0 (by omega)).2.1)), scM0.view.read (Elt F) (ptA m c t h0 (by omega)).2.2.1)
  else if h1 : t.val % 8 = 7 then
    (VO6.read (Elt F) (VO6.writes (Elt F) VO6.junk ((ptC m c t h0 h1).1 xs)), VO7.read (Elt F) (VO7.writes (Elt F) VO7.junk ((ptC m c t h0 h1).2.1 xs)),
      VO8.read (Elt F) (VO8.writes (Elt F) VO8.junk ((ptC m c t h0 h1).2.2.1 xs)), scM0.view.read (Elt F) ((ptC m c t h0 h1).2.2.2.1 xs))
  else
    (VO6.read (Elt F) VO6.junk, VO7.read (Elt F) (VO7.writes (Elt F) VO7.junk ((ptB m c t h0 h1).1 xs)),
      VO8.read (Elt F) (VO8.writes (Elt F) VO8.junk ((ptB m c t h0 h1).2.1 xs)), scM0.view.read (Elt F) ((ptB m c t h0 h1).2.2.1 xs))

theorem point_A (c : Dev nD) (t : Fin cfg0.N) (xs : Vec F S512x4096 .f32) (h0 : t.val % 8 = 0) (h1 : ¬t.val % 8 = 7) :
    point m c t xs = (VO6.read (Elt F) VO6.junk, VO7.read (Elt F) (VO7.writes (Elt F) VO7.junk ((ptA m c t h0 h1).1)),
      VO8.read (Elt F) (VO8.writes (Elt F) VO8.junk ((ptA m c t h0 h1).2.1)), scM0.view.read (Elt F) (ptA m c t h0 h1).2.2.1) := dif_pos h0
theorem point_C (c : Dev nD) (t : Fin cfg0.N) (xs : Vec F S512x4096 .f32) (h0 : ¬t.val % 8 = 0) (h1 : t.val % 8 = 7) :
    point m c t xs = (VO6.read (Elt F) (VO6.writes (Elt F) VO6.junk ((ptC m c t h0 h1).1 xs)), VO7.read (Elt F) (VO7.writes (Elt F) VO7.junk ((ptC m c t h0 h1).2.1 xs)),
      VO8.read (Elt F) (VO8.writes (Elt F) VO8.junk ((ptC m c t h0 h1).2.2.1 xs)), scM0.view.read (Elt F) ((ptC m c t h0 h1).2.2.2.1 xs)) :=
  (dif_neg h0).trans (dif_pos h1)
theorem point_B (c : Dev nD) (t : Fin cfg0.N) (xs : Vec F S512x4096 .f32) (h0 : ¬t.val % 8 = 0) (h1 : ¬t.val % 8 = 7) :
    point m c t xs = (VO6.read (Elt F) VO6.junk, VO7.read (Elt F) (VO7.writes (Elt F) VO7.junk ((ptB m c t h0 h1).1 xs)),
      VO8.read (Elt F) (VO8.writes (Elt F) VO8.junk ((ptB m c t h0 h1).2.1 xs)), scM0.view.read (Elt F) ((ptB m c t h0 h1).2.2.1 xs)) :=
  (dif_neg h0).trans (dif_neg h1)

/-- The outputs' blocks and the scratch after each point. -/
def outsAt0 (c : Dev nD) : (n : ℕ) → n < cfg0.N →
    Vec F S4096x512 .bf16 × Vec F S512x512 .bf16 × Vec F S1x512x128 .f32 × Vec F S512x4096 .f32
  | 0, hn => point m c ⟨0, hn⟩ k0_pay92
  | n + 1, hn => point m c ⟨n + 1, hn⟩ (outsAt0 c n (Nat.lt_of_succ_lt hn)).2.2.2

/-- The scratch as point `t` finds it. -/
def scrAt (c : Dev nD) (t : Fin cfg0.N) : Vec F S512x4096 .f32 :=
  if h : t.val = 0 then k0_pay92 else (outsAt0 m c (t.val - 1) (by have := t.isLt; omega)).2.2.2

theorem outsAt0_eq (c : Dev nD) (t : Fin cfg0.N) : outsAt0 m c t.val t.isLt = point m c t (scrAt m c t) := by
  obtain ⟨n, hn⟩ := t
  cases n <;> rfl

/-- The invariant between points: the scratch at what the point before left. -/
def PhiS (c : Dev nD) : (n : ℕ) → n ≤ cfg0.N → sProp 𝕄
  | 0, _ => Pipeline.ΦA spec0 c
  | n + 1, hn => iprop(iprop(owns (c : Thread nD τ) scM0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window stored at every point keeps what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 7 t rfl, after0_7]
  rw [leaves_live m c 8 t rfl, after0_8]
  rw [outsAt0_eq]
  by_cases h0 : t.val % 8 = 0
  · have h1 : ¬t.val % 8 = 7 := by omega
    by_cases hz : t.val = 0
    · rw [PhiS_zero m c _ _ hz, PhiA0_eq]
      rw [Dat.leavesExact_idle (dats m 0 c) 6 t (idleAt0_6 t (fun h => h1 ((hcond0_1 t).mp h))) (noFlush0_6 t (fun h => h1 ((hcond0_1 t).mp h)))]
      rw [point_A m c t _ h0 h1]; dsimp only
      iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((ptA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]
      · unfold owns; iexists _; isplitr
        swap; · iexact H7
        ipureintro; exact View.read_writes_of_cover _ _ _ _ _ (coverA_7 m c t h0 h1)
      unfold owns; iexists _; isplitr
      swap; · iexact H8
      ipureintro; exact View.read_writes_of_cover _ _ _ _ _ (coverA_8 m c t h0 h1)
    · rw [PhiS_pos m c _ _ hz]
      rw [Dat.leavesExact_idle (dats m 0 c) 6 t (idleAt0_6 t (fun h => h1 ((hcond0_1 t).mp h))) (noFlush0_6 t (fun h => h1 ((hcond0_1 t).mp h)))]
      rw [point_A m c t _ h0 h1]; dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((ptA m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]
      · unfold owns; iexists _; isplitr
        swap; · iexact H7
        ipureintro; exact View.read_writes_of_cover _ _ _ _ _ (coverA_7 m c t h0 h1)
      unfold owns; iexists _; isplitr
      swap; · iexact H8
      ipureintro; exact View.read_writes_of_cover _ _ _ _ _ (coverA_8 m c t h0 h1)
  · have hz : t.val ≠ 0 := by omega
    by_cases h1 : t.val % 8 = 7
    · rw [PhiS_pos m c _ _ hz]
      rw [show (outsAt0 m c (t.val - 1) (by have := t.isLt; omega)).2.2.2 = scrAt m c t from by unfold scrAt; rw [dif_neg hz]]
      rw [leaves_live m c 6 t (liveAt0_6 t ((hcond0_1 t).mpr h1)), after0_6, outsAt0_eq]
      rw [point_C m c t _ h0 h1]; dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((ptC m c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverC_6 m c t h0 h1 _)
      isplitl [H7]
      · unfold owns; iexists _; isplitr
        swap; · iexact H7
        ipureintro; exact View.read_writes_of_cover _ _ _ _ _ (coverC_7 m c t h0 h1 _)
      unfold owns; iexists _; isplitr
      swap; · iexact H8
      ipureintro; exact View.read_writes_of_cover _ _ _ _ _ (coverC_8 m c t h0 h1 _)
    · rw [PhiS_pos m c _ _ hz]
      rw [show (outsAt0 m c (t.val - 1) (by have := t.isLt; omega)).2.2.2 = scrAt m c t from by unfold scrAt; rw [dif_neg hz]]
      rw [Dat.leavesExact_idle (dats m 0 c) 6 t (idleAt0_6 t (fun h => h1 ((hcond0_1 t).mp h))) (noFlush0_6 t (fun h => h1 ((hcond0_1 t).mp h)))]
      rw [point_B m c t _ h0 h1]; dsimp only
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((ptB m c t h0 h1).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]
      · unfold owns; iexists _; isplitr
        swap; · iexact H7
        ipureintro; exact View.read_writes_of_cover _ _ _ _ _ (coverB_7 m c t h0 h1 _)
      unfold owns; iexists _; isplitr
      swap; · iexact H8
      ipureintro; exact View.read_writes_of_cover _ _ _ _ _ (coverB_8 m c t h0 h1 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_refl _) from rfl,
    PhiS_pos m c _ _ (by rw [Fin.val_last]; have : cfg0.N = 16 := N_0; omega), PhiA0_eq]
  iintro ⟨HS0, Hg⟩
  isplitl [HS0]
  · iexists _; iexact HS0
  iexact Hg

set_option backward.isDefEq.respectTransparency.types false in
/-- Every run ends with the arrays at what the proof data says, and no semaphore left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.AttnBwdIdeal.Gen

end
-- ==== Proof.AttnStep.lean ====
module

public import proofs.«01_k».proof.Proof.Lift
public import proofs.«01_k».proof.Proof.AttnFrameIdeal
public import Idealize.ShloMosaic.Lib.Pipeline.ValueKit
public import Idealize.ShloMosaic.Lib.Pipeline.ReadBack
public import Idealize.ShloMosaic.Lib.WordCmp
public import Idealize.ShloMosaic.Lib.Tactic.CleanTypes
public import Idealize.ShloMosaic.Lib.Tactic.Stretches

@[expose] public section

set_option maxRecDepth 16384

noncomputable section

namespace Cert.AttnBwdIdeal.Gen

open Idealize.ShloMosaic Idealize.ShloMosaic.TcCoe Idealize.SL.Sem
open Cert.Lift
open scoped BigOperators

/-! The pieces of one step on one head: a block of 512 keys against a block of 512 queries. -/

/-- The probabilities: two to the scores less the row's saved logarithm. -/
def gP (k q : FVec Ideal S512x128 .bf16) (l : FVec Ideal S1x1x512 .f32) : FVec Ideal S512x512 .f32 :=
  exp2 (subf (matmul dot_S512x128_S512x128_S512x512_1_1_0_0_n_n none k (shapeCast S512x128 q shapeCasts_S512x128_S512x128) (constant S512x512 .f32 0x00000000#32))
    (broadcastTo S512x512 (shapeCast S1x512 l shapeCasts_S1x1x512_S1x512) broadcasts_S1x512_S512x512))
/-- The probabilities under a mask. -/
def gM (μ : IVec S512x512 1) (p : FVec Ideal S512x512 .f32) : FVec Ideal S512x512 .f32 :=
  select μ p (broadcast S512x512 (Scalar.ofBits .f32 0x00000000#32))
/-- The scores' gradient. -/
def gS (p : FVec Ideal S512x512 .f32) (v o : FVec Ideal S512x128 .bf16) (d : FVec Ideal S1x1x512 .f32) : FVec Ideal S512x512 .bf16 :=
  truncf .bf16 (mulf p (subf (matmul dot_S512x128_S512x128_S512x512_1_1_0_0_n_n none v (shapeCast S512x128 o shapeCasts_S512x128_S512x128) (constant S512x512 .f32 0x00000000#32))
    (broadcastTo S512x512 (shapeCast S1x512 d shapeCasts_S1x1x512_S1x512) broadcasts_S1x512_S512x512))) bitsLt_bf16_f32
/-- Rows weighted by a block: the gradients of the keys and of the values. -/
def gW (p : FVec Ideal S512x512 .bf16) (o : FVec Ideal S512x128 .bf16) : FVec Ideal S512x128 .f32 :=
  matmul dot_S512x512_S512x128_S512x128_1_0_0_1_n_n none p (shapeCast S512x128 o shapeCasts_S512x128_S512x128) (constant S512x128 .f32 0x00000000#32)
/-- The addend to the queries' gradient. -/
def gQ (kt : FVec Ideal S128x512 .bf16) (p : FVec Ideal S512x512 .bf16) : FVec Ideal S128x512 .f32 :=
  matmul dot_S128x512_S512x512_S128x512_1_0_0_1_n_n none kt p (constant S128x512 .f32 0x00000000#32)

section Read
variable (k q v o : FVec Ideal S512x128 .bf16) (l d : FVec Ideal S1x1x512 .f32) (p : FVec Ideal S512x512 .f32) (b : FVec Ideal S512x512 .bf16)
  (K Q : Fin 512 → Fin 128 → ℝ) (L : Fin 512 → ℝ) (P : Fin 512 → Fin 512 → ℝ)

theorem gP_real (hk : ∀ r x, k (ix2 r x) = ((K r x : ℝ) : EReal)) (hq : ∀ r x, q (ix2 r x) = ((Q r x : ℝ) : EReal)) (hl : ∀ s, l (ix3 0 0 s) = ((L s : ℝ) : EReal)) (r s : Fin 512) :
    gP k q l (ix2 r s) = ((Real.rpow 2 (∑ x, K r x * Q s x - L s) : ℝ) : EReal) := by
  pointwise [gP]
  simp only [hk, hq, hl, ← EReal.coe_mul, coe_sum, ← EReal.coe_sub]
  rfl

theorem gM_real (μ : IVec S512x512 1) (hp : ∀ r s, p (ix2 r s) = ((P r s : ℝ) : EReal)) (B : Fin 512 → Fin 512 → Prop) [∀ r s, Decidable (B r s)]
    (hμ : ∀ r s, μ (ix2 r s) = 1#1 ↔ B r s) (r s : Fin 512) : gM μ p (ix2 r s) = (((if B r s then P r s else 0) : ℝ) : EReal) := by
  pointwise [gM]
  unfold Scalar.select
  by_cases h : B r s
  · exact (if_pos ((hμ r s).2 h)).trans ((hp r s).trans (by rw [if_pos h]))
  · exact (if_neg fun e => h ((hμ r s).1 e)).trans (by rw [if_neg h, EReal.coe_zero])

theorem gS_real (hp : ∀ r s, p (ix2 r s) = ((P r s : ℝ) : EReal)) (hk : ∀ r x, k (ix2 r x) = ((K r x : ℝ) : EReal)) (hq : ∀ r x, q (ix2 r x) = ((Q r x : ℝ) : EReal))
    (hl : ∀ s, l (ix3 0 0 s) = ((L s : ℝ) : EReal)) (r s : Fin 512) :
    gS p k q l (ix2 r s) = ((P r s * (∑ x, K r x * Q s x - L s) : ℝ) : EReal) := by
  pointwise [gS]
  simp only [hp, hk, hq, hl, ← EReal.coe_mul, coe_sum, ← EReal.coe_sub]

theorem gW_real (hb : ∀ r s, b (ix2 r s) = ((P r s : ℝ) : EReal)) (hq : ∀ r x, q (ix2 r x) = ((Q r x : ℝ) : EReal)) (r : Fin 512) (x : Fin 128) :
    gW b q (ix2 r x) = ((∑ s, P r s * Q s x : ℝ) : EReal) := by
  pointwise [gW]
  simp only [hb, hq, ← EReal.coe_mul, coe_sum]

theorem gQ_real (kt : FVec Ideal S128x512 .bf16) (hk : ∀ r x, kt (ix2 x r) = ((K r x : ℝ) : EReal)) (hb : ∀ r s, b (ix2 r s) = ((P r s : ℝ) : EReal)) (x : Fin 128) (s : Fin 512) :
    gQ kt b (ix2 x s) = ((∑ r, K r x * P r s : ℝ) : EReal) := by
  pointwise [gQ]
  simp only [hb, hk, ← EReal.coe_mul, coe_sum]
end Read

/-- The chunk of a row, as the mask computes it. -/
theorem chunk_word (n : Fin 512) : Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  revert n
  decide +kernel

theorem add_zero_word (x : BitVec 32) : IntOp.addi x 0#32 = x := BitVec.add_zero x

/-- The first step's mask. -/
theorem mask_iff (r s : Fin 512) : k0_pay79 k0_pay75 (iota .tc S512x512 32 [0] iota_S512x512_d0_w32) k0_pay76 k0_pay77 k0_pay78 (ix2 r s) = 1#1 ↔ r.val / 64 ≤ s.val / 64 := by
  pointwise [k0_pay79, k0_pay75, k0_pay76, k0_pay77, k0_pay78]
  rw [add_zero_word, chunk_word, chunk_word]
  exact WordCmp.cmpi_sle_ofNat_eq_one_iff (by omega) (by omega)

section Trip
variable (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S2x2x4096 .f32) (harg6 : arg6.IsWhole) (arg7 : Memref sig .tc .vmem S2x2x4096 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S1x512x128 .f32) (harg10 : arg10.IsWhole) (arg11 : Memref sig .tc .vmem S512x4096 .f32) (harg11 : arg11.IsWhole) (arg1 : BitVec 32) (v53 : IVec S512x128 32) (v55 : FVec Ideal S512x128 .bf16) (v57 : FVec Ideal S512x128 .bf16) (v59 : FVec Ideal S512x128 .bf16) (v61 : FVec Ideal S512x128 .bf16) (v63 : FVec Ideal S512x128 .bf16) (v65 : FVec Ideal S512x128 .bf16) (v67 : FVec Ideal S512x128 .bf16) (v69 : FVec Ideal S512x128 .bf16) (v70 : FVec Ideal S128x512 .bf16) (v71 : FVec Ideal S128x512 .bf16) (v72 : FVec Ideal S128x512 .bf16) (v73 : FVec Ideal S128x512 .bf16) (v77 : FVec Ideal S512x128 .f32) (v79 : BitVec 32) (v171 : FVec Ideal S512x512 .bf16) (v173 : FVec Ideal S512x128 .f32) (v175 : FVec Ideal S512x128 .f32) (v177 : FVec Ideal S512x128 .f32) (v179 : FVec Ideal S512x128 .f32) (v180 : FVec Ideal S512x128 .f32) (v181 : FVec Ideal S512x128 .f32) (v182 : FVec Ideal S512x128 .f32) (v183 : FVec Ideal S512x128 .f32) (v203 : FVec Ideal S128x512 .f32) (v224 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty)

/-- A block of queries as the loop reads it. -/
abbrev rq (a : Memref sig .tc .vmem S4096x512 .bf16) (X : BufTy.Contents (Elt Ideal) a.view.ty) (o : Fin 2 → ℕ) (h : ∀ a, o a + S512x128.size a ≤ S4096x512.size a) : FVec Ideal S512x128 .bf16 :=
  a.view.readAt (Elt Ideal) (Rect.unit (s := S4096x512) o S512x128.size h).toLoadRect X
/-- A row of the saved statistics as the loop reads it. -/
abbrev rl (a : Memref sig .tc .vmem S2x2x4096 .f32) (X : BufTy.Contents (Elt Ideal) a.view.ty) (o : Fin 3 → ℕ) (h : ∀ a, o a + S1x1x512.size a ≤ S2x2x4096.size a) : FVec Ideal S1x1x512 .f32 :=
  a.view.readAt (Elt Ideal) (Rect.unit (s := S2x2x4096) o S1x1x512.size h).toLoadRect X
/-- A block of the accumulator as the loop reads it. -/
abbrev ra (a : Memref sig .tc .vmem S512x4096 .f32) (X : BufTy.Contents (Elt Ideal) a.view.ty) (o : Fin 2 → ℕ) (h : ∀ a, o a + S128x512.size a ≤ S512x4096.size a) : FVec Ideal S128x512 .f32 :=
  a.view.readAt (Elt Ideal) (Rect.unit (s := S512x4096) o S128x512.size h).toLoadRect X
/-- A block of the accumulator with an addend. -/
def ga (x y : FVec Ideal S128x512 .f32) : FVec Ideal S128x512 .f32 := shapeCast S128x512 (addf x y) shapeCasts_S128x512_S128x512

/-- A trip's carried values. -/
theorem tripR_eq (c : Dev nD) (k : Fin (k0_t1_loop i).trips) (acc) (f : BufTy.Contents (Elt Ideal) arg11.view.ty) :
    tripR_k0_t1 (F := Ideal) Variants.none c none i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 k acc f =
      (addf acc.1 (gW (gS (gP v55 (rq arg2 X_arg2 (k0_off13 i k) (k0_off13_inb i k)) (rl arg6 X_arg6 (k0_off17 i k) (k0_off17_inb i k))) v63 (rq arg5 X_arg5 (k0_off13 i k) (k0_off13_inb i k)) (rl arg7 X_arg7 (k0_off17 i k) (k0_off17_inb i k))) (rq arg2 X_arg2 (k0_off13 i k) (k0_off13_inb i k))),
        addf acc.2.1 (gW (truncf .bf16 (gP v55 (rq arg2 X_arg2 (k0_off13 i k) (k0_off13_inb i k)) (rl arg6 X_arg6 (k0_off17 i k) (k0_off17_inb i k))) bitsLt_bf16_f32) (rq arg5 X_arg5 (k0_off13 i k) (k0_off13_inb i k))),
        addf acc.2.2.1 (gW (gS (gP v57 (rq arg2 X_arg2 (k0_off14 i k) (k0_off14_inb i k)) (rl arg6 X_arg6 (k0_off18 i k) (k0_off18_inb i k))) v65 (rq arg5 X_arg5 (k0_off14 i k) (k0_off14_inb i k)) (rl arg7 X_arg7 (k0_off18 i k) (k0_off18_inb i k))) (rq arg2 X_arg2 (k0_off14 i k) (k0_off14_inb i k))),
        addf acc.2.2.2.1 (gW (truncf .bf16 (gP v57 (rq arg2 X_arg2 (k0_off14 i k) (k0_off14_inb i k)) (rl arg6 X_arg6 (k0_off18 i k) (k0_off18_inb i k))) bitsLt_bf16_f32) (rq arg5 X_arg5 (k0_off14 i k) (k0_off14_inb i k))),
        addf acc.2.2.2.2.1 (gW (gS (gP v59 (rq arg2 X_arg2 (k0_off15 i k) (k0_off15_inb i k)) (rl arg6 X_arg6 (k0_off19 i k) (k0_off19_inb i k))) v67 (rq arg5 X_arg5 (k0_off15 i k) (k0_off15_inb i k)) (rl arg7 X_arg7 (k0_off19 i k) (k0_off19_inb i k))) (rq arg2 X_arg2 (k0_off15 i k) (k0_off15_inb i k))),
        addf acc.2.2.2.2.2.1 (gW (truncf .bf16 (gP v59 (rq arg2 X_arg2 (k0_off15 i k) (k0_off15_inb i k)) (rl arg6 X_arg6 (k0_off19 i k) (k0_off19_inb i k))) bitsLt_bf16_f32) (rq arg5 X_arg5 (k0_off15 i k) (k0_off15_inb i k))),
        addf acc.2.2.2.2.2.2.1 (gW (gS (gP v61 (rq arg2 X_arg2 (k0_off16 i k) (k0_off16_inb i k)) (rl arg6 X_arg6 (k0_off20 i k) (k0_off20_inb i k))) v69 (rq arg5 X_arg5 (k0_off16 i k) (k0_off16_inb i k)) (rl arg7 X_arg7 (k0_off20 i k) (k0_off20_inb i k))) (rq arg2 X_arg2 (k0_off16 i k) (k0_off16_inb i k))),
        addf acc.2.2.2.2.2.2.2 (gW (truncf .bf16 (gP v61 (rq arg2 X_arg2 (k0_off16 i k) (k0_off16_inb i k)) (rl arg6 X_arg6 (k0_off20 i k) (k0_off20_inb i k))) bitsLt_bf16_f32) (rq arg5 X_arg5 (k0_off16 i k) (k0_off16_inb i k)))) := by
  unfold tripR_k0_t1 trip_k0_t1
  dsimp only
  sl_open_run
  sl_open_pay
  sl_open_pay
  dsimp only
  rfl

/-- A trip's writes to the accumulator. -/
theorem tripL_eq (c : Dev nD) (k : Fin (k0_t1_loop i).trips) (acc) (f : BufTy.Contents (Elt Ideal) arg11.view.ty) :
    tripL_k0_t1 (F := Ideal) Variants.none c none i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 k acc f =
      [⟨Rect.unit (k0_off24 i k) S128x512.size (k0_off24_inb i k), ga (ra arg11 f (k0_off24 i k) (k0_off24_inb i k)) (gQ v73 (gS (gP v61 (rq arg2 X_arg2 (k0_off16 i k) (k0_off16_inb i k)) (rl arg6 X_arg6 (k0_off20 i k) (k0_off20_inb i k))) v69 (rq arg5 X_arg5 (k0_off16 i k) (k0_off16_inb i k)) (rl arg7 X_arg7 (k0_off20 i k) (k0_off20_inb i k))))⟩,
        ⟨Rect.unit (k0_off23 i k) S128x512.size (k0_off23_inb i k), ga (ra arg11 f (k0_off23 i k) (k0_off23_inb i k)) (gQ v72 (gS (gP v59 (rq arg2 X_arg2 (k0_off15 i k) (k0_off15_inb i k)) (rl arg6 X_arg6 (k0_off19 i k) (k0_off19_inb i k))) v67 (rq arg5 X_arg5 (k0_off15 i k) (k0_off15_inb i k)) (rl arg7 X_arg7 (k0_off19 i k) (k0_off19_inb i k))))⟩,
        ⟨Rect.unit (k0_off22 i k) S128x512.size (k0_off22_inb i k), ga (ra arg11 f (k0_off22 i k) (k0_off22_inb i k)) (gQ v71 (gS (gP v57 (rq arg2 X_arg2 (k0_off14 i k) (k0_off14_inb i k)) (rl arg6 X_arg6 (k0_off18 i k) (k0_off18_inb i k))) v65 (rq arg5 X_arg5 (k0_off14 i k) (k0_off14_inb i k)) (rl arg7 X_arg7 (k0_off18 i k) (k0_off18_inb i k))))⟩,
        ⟨Rect.unit (k0_off21 i k) S128x512.size (k0_off21_inb i k), ga (ra arg11 f (k0_off21 i k) (k0_off21_inb i k)) (gQ v70 (gS (gP v55 (rq arg2 X_arg2 (k0_off13 i k) (k0_off13_inb i k)) (rl arg6 X_arg6 (k0_off17 i k) (k0_off17_inb i k))) v63 (rq arg5 X_arg5 (k0_off13 i k) (k0_off13_inb i k)) (rl arg7 X_arg7 (k0_off17 i k) (k0_off17_inb i k))))⟩] := by
  unfold tripL_k0_t1 trip_k0_t1
  dsimp only
  sl_open_run
  sl_open_pay
  sl_open_pay
  dsimp only
  rfl
end Trip

end Cert.AttnBwdIdeal.Gen
-- ==== Proof.AttnReal.lean ====
module

public import proofs.«01_k».proof.Proof.AttnStep
public import Idealize.ShloMosaic.Lib.Pipeline.ValueKit
public import Idealize.ShloMosaic.Lib.Pipeline.ReadBack
public import Idealize.ShloMosaic.Lib.Tactic.CleanTypes
public import Idealize.ShloMosaic.Lib.WritesUnit

@[expose] public section

set_option maxRecDepth 16384

noncomputable section

namespace Cert.AttnBwdIdeal.Gen

open Idealize.ShloMosaic Idealize.ShloMosaic.TcCoe Idealize.SL.Sem
open Cert.Lift
open scoped BigOperators

/-! The real values: per head of a group, over all rows of queries and one block of 512 keys. -/

/-- One key block's operands: keys, values, queries, the output's cotangent, each row's saved logarithm and its sum of
    probability times gradient, and the first key. -/
structure HD where
  k : Fin 4 → Fin 512 → Fin 128 → ℝ
  v : Fin 4 → Fin 512 → Fin 128 → ℝ
  q : Fin 4 → ℕ → Fin 128 → ℝ
  o : Fin 4 → ℕ → Fin 128 → ℝ
  l : Fin 4 → ℕ → ℝ
  d : Fin 4 → ℕ → ℝ
  e0 : ℕ

namespace HD
variable (H : HD)
/-- The probability of key `r` for query `ρ`. -/
def p (n : Fin 4) (r : Fin 512) (ρ : ℕ) : ℝ :=
  if (H.e0 + r.val) / 64 ≤ ρ / 64 then Real.rpow 2 (∑ x, H.k n r x * H.q n ρ x - H.l n ρ) else 0
/-- The score's gradient. -/
def s (n : Fin 4) (r : Fin 512) (ρ : ℕ) : ℝ := H.p n r ρ * (∑ x, H.v n r x * H.o n ρ x - H.d n ρ)
/-- The keys' gradient from the queries before `e`. -/
def dk (n : Fin 4) (e : ℕ) (r : Fin 512) (x : Fin 128) : ℝ := ∑ ρ ∈ Finset.Ico H.e0 e, H.s n r ρ * H.q n ρ x
/-- The values' gradient from the queries before `e`. -/
def dv (n : Fin 4) (e : ℕ) (r : Fin 512) (x : Fin 128) : ℝ := ∑ ρ ∈ Finset.Ico H.e0 e, H.p n r ρ * H.o n ρ x
/-- The block's addend to the queries' gradient, done up to the query before `e`. -/
def dq (n : Fin 4) (e : ℕ) (x : Fin 128) (ρ : ℕ) : ℝ := if H.e0 ≤ ρ ∧ ρ < e then ∑ r, H.k n r x * H.s n r ρ else 0
end HD

theorem ico_step (f : ℕ → ℝ) {a e : ℕ} (h : a ≤ e) : ∑ ρ ∈ Finset.Ico a (e + 512), f ρ = ∑ ρ ∈ Finset.Ico a e, f ρ + ∑ s : Fin 512, f (e + s.val) := by
  rw [← Finset.sum_Ico_consecutive f h (Nat.le_add_right e 512), Finset.sum_Ico_eq_sum_range f e (e + 512), Nat.add_sub_cancel_left, ← Fin.sum_univ_eq_sum_range (fun s => f (e + s))]

section Step
variable (H : HD) (n : Fin 4) (e : ℕ) (P : FVec Ideal S512x512 .f32) (k v q o : FVec Ideal S512x128 .bf16) (l d : FVec Ideal S1x1x512 .f32)

theorem p_loop (he : H.e0 + 512 ≤ e) (hk : ∀ r x, k (ix2 r x) = ((H.k n r x : ℝ) : EReal)) (hq : ∀ s x, q (ix2 s x) = ((H.q n (e + s.val) x : ℝ) : EReal))
    (hl : ∀ s, l (ix3 0 0 s) = ((H.l n (e + s.val) : ℝ) : EReal)) (r s : Fin 512) : gP k q l (ix2 r s) = ((H.p n r (e + s.val) : ℝ) : EReal) := by
  rw [gP_real k q l (H.k n) (fun s => H.q n (e + s.val)) (fun s => H.l n (e + s.val)) hk hq hl, HD.p, if_pos (by have := r.isLt; omega)]

theorem p_first (h64 : 64 ∣ H.e0) (hk : ∀ r x, k (ix2 r x) = ((H.k n r x : ℝ) : EReal)) (hq : ∀ s x, q (ix2 s x) = ((H.q n (H.e0 + s.val) x : ℝ) : EReal))
    (hl : ∀ s, l (ix3 0 0 s) = ((H.l n (H.e0 + s.val) : ℝ) : EReal)) (r s : Fin 512) :
    gM (k0_pay79 k0_pay75 (iota .tc S512x512 32 [0] iota_S512x512_d0_w32) k0_pay76 k0_pay77 k0_pay78) (gP k q l) (ix2 r s) = ((H.p n r (H.e0 + s.val) : ℝ) : EReal) := by
  have hb : ∀ r s : Fin 512, (r.val / 64 ≤ s.val / 64) ↔ (H.e0 + r.val) / 64 ≤ (H.e0 + s.val) / 64 := fun r s => by omega
  rw [gM_real (gP k q l) _ _ (gP_real k q l (H.k n) (fun s => H.q n (H.e0 + s.val)) (fun s => H.l n (H.e0 + s.val)) hk hq hl) (fun r s => (H.e0 + r.val) / 64 ≤ (H.e0 + s.val) / 64)
    (fun r s => (mask_iff r s).trans (hb r s)), HD.p]

theorem s_step (hP : ∀ r s, P (ix2 r s) = ((H.p n r (e + s.val) : ℝ) : EReal)) (hv : ∀ r x, v (ix2 r x) = ((H.v n r x : ℝ) : EReal))
    (ho : ∀ s x, o (ix2 s x) = ((H.o n (e + s.val) x : ℝ) : EReal)) (hd : ∀ s, d (ix3 0 0 s) = ((H.d n (e + s.val) : ℝ) : EReal)) (r s : Fin 512) :
    gS P v o d (ix2 r s) = ((H.s n r (e + s.val) : ℝ) : EReal) :=
  gS_real v o d P (H.v n) (fun s => H.o n (e + s.val)) (fun s => H.d n (e + s.val)) (fun r s => H.p n r (e + s.val)) hP hv ho hd r s

theorem dk_step (he : H.e0 ≤ e) (S : FVec Ideal S512x512 .bf16) (hS : ∀ r s, S (ix2 r s) = ((H.s n r (e + s.val) : ℝ) : EReal)) (hq : ∀ s x, q (ix2 s x) = ((H.q n (e + s.val) x : ℝ) : EReal))
    (a : FVec Ideal S512x128 .f32) (ha : ∀ r x, a (ix2 r x) = ((H.dk n e r x : ℝ) : EReal)) (r : Fin 512) (x : Fin 128) :
    addf a (gW S q) (ix2 r x) = ((H.dk n (e + 512) r x : ℝ) : EReal) := by
  rw [HD.dk, ico_step _ he, EReal.coe_add]
  exact congrArg₂ _ (ha r x) (gW_real q S (fun s => H.q n (e + s.val)) (fun r s => H.s n r (e + s.val)) hS hq r x)

theorem dv_step (he : H.e0 ≤ e) (hP : ∀ r s, P (ix2 r s) = ((H.p n r (e + s.val) : ℝ) : EReal)) (ho : ∀ s x, o (ix2 s x) = ((H.o n (e + s.val) x : ℝ) : EReal))
    (a : FVec Ideal S512x128 .f32) (ha : ∀ r x, a (ix2 r x) = ((H.dv n e r x : ℝ) : EReal)) (r : Fin 512) (x : Fin 128) :
    addf a (gW (truncf .bf16 P bitsLt_bf16_f32) o) (ix2 r x) = ((H.dv n (e + 512) r x : ℝ) : EReal) := by
  rw [HD.dv, ico_step _ he, EReal.coe_add]
  exact congrArg₂ _ (ha r x) (gW_real o (truncf .bf16 P bitsLt_bf16_f32) (fun s => H.o n (e + s.val)) (fun r s => H.p n r (e + s.val)) hP ho r x)
end Step

/-! Reading the blocks and the written accumulator. -/

theorem rq_read (a : Memref sig .tc .vmem S4096x512 .bf16) (X : BufTy.Contents (Elt Ideal) a.view.ty) (o : Fin 2 → ℕ) (h) (e c : ℕ) (ho : o = ![e, c]) (n : Fin 4) (hc : c = 128 * n.val)
    (G : Fin 4 → ℕ → Fin 128 → ℝ) (hX : ∀ (n : Fin 4) (ρ : Fin 4096) (x : Fin 128), (a.view.read (Elt Ideal) X : FVec Ideal S4096x512 .bf16) (ix2 ρ ⟨128 * n.val + x.val, by omega⟩) = ((G n ρ.val x : ℝ) : EReal))
    (s : Fin 512) (x : Fin 128) : rq a X o h (ix2 s x) = ((G n (e + s.val) x : ℝ) : EReal) := by
  subst ho hc
  have hb : e + s.val < 4096 := by have := h 0; have := s.isLt; simp at *; omega
  refine Eq.trans ?_ (hX n ⟨e + s.val, hb⟩ x)
  rw [rq, View.readAt_eq_ld]
  refine View.ld_unit_apply_of (Val := Elt Ideal) (S := S4096x512) (e := .bf16) _ _ _ h (ix2 s x) _ fun b => ?_
  fin_cases b <;> rfl

theorem rl_read (a : Memref sig .tc .vmem S2x2x4096 .f32) (X : BufTy.Contents (Elt Ideal) a.view.ty) (o : Fin 3 → ℕ) (h) (e c c' : ℕ) (ho : o = ![c, c', e]) (n : Fin 4) (hc : c = n.val / 2) (hc' : c' = n.val % 2)
    (G : Fin 4 → ℕ → ℝ) (hX : ∀ (n : Fin 4) (ρ : Fin 4096), (a.view.read (Elt Ideal) X : FVec Ideal S2x2x4096 .f32) (ix3 ⟨n.val / 2, by omega⟩ ⟨n.val % 2, by omega⟩ ρ) = ((G n ρ.val : ℝ) : EReal))
    (s : Fin 512) : rl a X o h (ix3 0 0 s) = ((G n (e + s.val) : ℝ) : EReal) := by
  subst ho hc hc'
  have hb : e + s.val < 4096 := by have := h 2; have := s.isLt; simp at *; omega
  refine Eq.trans ?_ (hX n ⟨e + s.val, hb⟩)
  rw [rl, View.readAt_eq_ld]
  refine View.ld_unit_apply_of (Val := Elt Ideal) (S := S2x2x4096) (e := .f32) _ _ _ h (ix3 0 0 s) _ fun b => ?_
  fin_cases b <;> rfl

section Acc
variable (a : Memref sig .tc .vmem S512x4096 .f32) (X : BufTy.Contents (Elt Ideal) a.view.ty) (o0 o1 o2 o3 : Fin 2 → ℕ)
  (h0 : ∀ b, o0 b + S128x512.size b ≤ S512x4096.size b) (h1 : ∀ b, o1 b + S128x512.size b ≤ S512x4096.size b)
  (h2 : ∀ b, o2 b + S128x512.size b ≤ S512x4096.size b) (h3 : ∀ b, o3 b + S128x512.size b ≤ S512x4096.size b) (e : ℕ)

/-- The accumulator's entry of head `n`'s lane `x` and query `ρ`. -/
abbrev accAt (X : BufTy.Contents (Elt Ideal) a.view.ty) (n : Fin 4) (x : Fin 128) (ρ : Fin 4096) : EReal :=
  (a.view.read (Elt Ideal) X : FVec Ideal S512x4096 .f32) (ix2 ⟨128 * n.val + x.val, by omega⟩ ρ)

theorem ra_read (o : Fin 2 → ℕ) (h) (c : ℕ) (ho : o = ![c, e]) (n : Fin 4) (hc : c = 128 * n.val) (x : Fin 128) (s : Fin 512) (ρ : Fin 4096) (hρ : ρ.val = e + s.val) :
    ra a X o h (ix2 x s) = accAt a X n x ρ := by
  subst ho hc
  rw [ra, View.readAt_eq_ld]
  refine View.ld_unit_apply_of (Val := Elt Ideal) (S := S512x4096) (e := .f32) _ _ _ h (ix2 x s) _ fun b => ?_
  fin_cases b
  · rfl
  · exact hρ

theorem hit (o : Fin 2 → ℕ) (h : ∀ b, o b + S128x512.size b ≤ S512x4096.size b) (c : ℕ) (ho : o = ![c, e]) (w : FVec Ideal S128x512 .f32) (L : List (View.Piece (Elt Ideal) S512x4096 .f32)) (n : Fin 4) (hc : 128 * n.val = c)
    (x : Fin 128) (s : Fin 512) (ρ : Fin 4096) (hρ : ρ.val = e + s.val) : accAt a (a.view.writes (Elt Ideal) X (⟨Rect.unit o S128x512.size h, w⟩ :: L)) n x ρ = w (ix2 x s) := by
  refine View.read_writes_cons_unit_of_mem (Val := Elt Ideal) (v := a.view) X h w L _ (ix2 x s) ho fun b => ?_
  subst hc
  fin_cases b
  · rfl
  · exact hρ

theorem miss (o : Fin 2 → ℕ) (h : ∀ b, o b + S128x512.size b ≤ S512x4096.size b) (c : ℕ) (ho : o = ![c, e]) (w : FVec Ideal S128x512 .f32) (L : List (View.Piece (Elt Ideal) S512x4096 .f32)) (n : Fin 4) (hc : 128 * n.val + 128 ≤ c)
    (x : Fin 128) (ρ : Fin 4096) : accAt a (a.view.writes (Elt Ideal) X (⟨Rect.unit o S128x512.size h, w⟩ :: L)) n x ρ = accAt a (a.view.writes (Elt Ideal) X L) n x ρ :=
  View.read_writes_cons_unit_of_not_mem _ _ _ _ _ _ ho 0 (.inl (show 128 * n.val + x.val < c by omega))

theorem writes_in (ho0 : o0 = ![0, e]) (ho1 : o1 = ![128, e]) (ho2 : o2 = ![256, e]) (ho3 : o3 = ![384, e]) (w0 w1 w2 w3 : FVec Ideal S128x512 .f32) (T : List (View.Piece (Elt Ideal) S512x4096 .f32)) (n : Fin 4) (x : Fin 128) (s : Fin 512) (ρ : Fin 4096) (hρ : ρ.val = e + s.val) :
    accAt a (a.view.writes (Elt Ideal) X (⟨Rect.unit o3 S128x512.size h3, w3⟩ :: ⟨Rect.unit o2 S128x512.size h2, w2⟩ :: ⟨Rect.unit o1 S128x512.size h1, w1⟩ :: ⟨Rect.unit o0 S128x512.size h0, w0⟩ :: T)) n x ρ
      = (![w0, w1, w2, w3] : Fin 4 → FVec Ideal S128x512 .f32) n (ix2 x s) := by
  match n with
  | 0 => exact (miss a X e o3 h3 _ ho3 _ _ 0 (by decide) x ρ).trans ((miss a X e o2 h2 _ ho2 _ _ 0 (by decide) x ρ).trans ((miss a X e o1 h1 _ ho1 _ _ 0 (by decide) x ρ).trans (hit a X e o0 h0 _ ho0 w0 _ 0 rfl x s ρ hρ)))
  | 1 => exact (miss a X e o3 h3 _ ho3 _ _ 1 (by decide) x ρ).trans ((miss a X e o2 h2 _ ho2 _ _ 1 (by decide) x ρ).trans (hit a X e o1 h1 _ ho1 w1 _ 1 rfl x s ρ hρ))
  | 2 => exact (miss a X e o3 h3 _ ho3 _ _ 2 (by decide) x ρ).trans (hit a X e o2 h2 _ ho2 w2 _ 2 rfl x s ρ hρ)
  | 3 => exact hit a X e o3 h3 _ ho3 w3 _ 3 rfl x s ρ hρ

theorem writes_out (c0 c1 c2 c3 : ℕ) (ho0 : o0 = ![c0, e]) (ho1 : o1 = ![c1, e]) (ho2 : o2 = ![c2, e]) (ho3 : o3 = ![c3, e]) (w0 w1 w2 w3 : FVec Ideal S128x512 .f32) (T : List (View.Piece (Elt Ideal) S512x4096 .f32)) (n : Fin 4) (x : Fin 128) (ρ : Fin 4096) (hρ : ρ.val < e ∨ e + 512 ≤ ρ.val) :
    accAt a (a.view.writes (Elt Ideal) X (⟨Rect.unit o3 S128x512.size h3, w3⟩ :: ⟨Rect.unit o2 S128x512.size h2, w2⟩ :: ⟨Rect.unit o1 S128x512.size h1, w1⟩ :: ⟨Rect.unit o0 S128x512.size h0, w0⟩ :: T)) n x ρ
      = accAt a (a.view.writes (Elt Ideal) X T) n x ρ :=
  (View.read_writes_cons_unit_of_not_mem _ _ _ _ _ _ ho3 1 hρ).trans ((View.read_writes_cons_unit_of_not_mem _ _ _ _ _ _ ho2 1 hρ).trans
    ((View.read_writes_cons_unit_of_not_mem _ _ _ _ _ _ ho1 1 hρ).trans (View.read_writes_cons_unit_of_not_mem _ _ _ _ _ _ ho0 1 hρ)))
end Acc

theorem ga_step (H : HD) (n : Fin 4) (e : ℕ) (he : H.e0 ≤ e) (kt : FVec Ideal S128x512 .bf16) (hkt : ∀ r x, kt (ix2 x r) = ((H.k n r x : ℝ) : EReal)) (S : FVec Ideal S512x512 .bf16)
    (hS : ∀ r s, S (ix2 r s) = ((H.s n r (e + s.val) : ℝ) : EReal)) (x : Fin 128) (s : Fin 512) (y : FVec Ideal S128x512 .f32) (A : ℝ) (hy : y (ix2 x s) = ((A + H.dq n e x (e + s.val) : ℝ) : EReal)) :
    ga y (gQ kt S) (ix2 x s) = ((A + H.dq n (e + 512) x (e + s.val) : ℝ) : EReal) := by
  have hz : H.dq n e x (e + s.val) = 0 := by rw [HD.dq, if_neg (by omega)]
  have hq : H.dq n (e + 512) x (e + s.val) = ∑ r, H.k n r x * H.s n r (e + s.val) := by rw [HD.dq, if_pos (by omega)]
  rw [hz, add_zero] at hy
  pointwise [ga]
  rw [hy, gQ_real S (H.k n) (fun r s => H.s n r (e + s.val)) kt hkt hS, hq, EReal.coe_add]

end Cert.AttnBwdIdeal.Gen
-- ==== Proof.AttnLoop.lean ====
module

public import proofs.«01_k».proof.Proof.AttnReal
public import Idealize.ShloMosaic.Lib.Pipeline.ValueKit
public import Idealize.ShloMosaic.Lib.Pipeline.ReadBack
public import Idealize.ShloMosaic.Lib.Tactic.CleanTypes
public import Idealize.ShloMosaic.Lib.WritesUnit

@[expose] public section

set_option maxRecDepth 16384

noncomputable section

namespace Cert.AttnBwdIdeal.Gen

open Idealize.ShloMosaic Idealize.ShloMosaic.TcCoe Idealize.SL.Sem
open Cert.Lift
open scoped BigOperators

/-! A loop trip, and the whole loop, on the real values. -/

/-- What a key block's operands hold. -/
structure Heads (H : HD) (v55 v57 v59 v61 v63 v65 v67 v69 : FVec Ideal S512x128 .bf16) (v70 v71 v72 v73 : FVec Ideal S128x512 .bf16) : Prop where
  k0 : ∀ r x, v55 (ix2 r x) = ((H.k 0 r x : ℝ) : EReal)
  v0 : ∀ r x, v63 (ix2 r x) = ((H.v 0 r x : ℝ) : EReal)
  t0 : ∀ r x, v70 (ix2 x r) = ((H.k 0 r x : ℝ) : EReal)
  k1 : ∀ r x, v57 (ix2 r x) = ((H.k 1 r x : ℝ) : EReal)
  v1 : ∀ r x, v65 (ix2 r x) = ((H.v 1 r x : ℝ) : EReal)
  t1 : ∀ r x, v71 (ix2 x r) = ((H.k 1 r x : ℝ) : EReal)
  k2 : ∀ r x, v59 (ix2 r x) = ((H.k 2 r x : ℝ) : EReal)
  v2 : ∀ r x, v67 (ix2 r x) = ((H.v 2 r x : ℝ) : EReal)
  t2 : ∀ r x, v72 (ix2 x r) = ((H.k 2 r x : ℝ) : EReal)
  k3 : ∀ r x, v61 (ix2 r x) = ((H.k 3 r x : ℝ) : EReal)
  v3 : ∀ r x, v69 (ix2 r x) = ((H.v 3 r x : ℝ) : EReal)
  t3 : ∀ r x, v73 (ix2 x r) = ((H.k 3 r x : ℝ) : EReal)

/-- What the arrays over all queries hold. -/
structure Rows (H : HD) (arg2 arg5 : Memref sig .tc .vmem S4096x512 .bf16) (arg6 arg7 : Memref sig .tc .vmem S2x2x4096 .f32) (X_arg2 : BufTy.Contents (Elt Ideal) arg2.view.ty)
    (X_arg5 : BufTy.Contents (Elt Ideal) arg5.view.ty) (X_arg6 : BufTy.Contents (Elt Ideal) arg6.view.ty) (X_arg7 : BufTy.Contents (Elt Ideal) arg7.view.ty) : Prop where
  q : ∀ (n : Fin 4) (ρ : Fin 4096) (x : Fin 128), (arg2.view.read (Elt Ideal) X_arg2 : FVec Ideal S4096x512 .bf16) (ix2 ρ ⟨128 * n.val + x.val, by omega⟩) = ((H.q n ρ.val x : ℝ) : EReal)
  o : ∀ (n : Fin 4) (ρ : Fin 4096) (x : Fin 128), (arg5.view.read (Elt Ideal) X_arg5 : FVec Ideal S4096x512 .bf16) (ix2 ρ ⟨128 * n.val + x.val, by omega⟩) = ((H.o n ρ.val x : ℝ) : EReal)
  l : ∀ (n : Fin 4) (ρ : Fin 4096), (arg6.view.read (Elt Ideal) X_arg6 : FVec Ideal S2x2x4096 .f32) (ix3 ⟨n.val / 2, by omega⟩ ⟨n.val % 2, by omega⟩ ρ) = ((H.l n ρ.val : ℝ) : EReal)
  d : ∀ (n : Fin 4) (ρ : Fin 4096), (arg7.view.read (Elt Ideal) X_arg7 : FVec Ideal S2x2x4096 .f32) (ix3 ⟨n.val / 2, by omega⟩ ⟨n.val % 2, by omega⟩ ρ) = ((H.d n ρ.val : ℝ) : EReal)

/-- Where a trip on the queries from `e` on reads and writes. -/
structure Offs (i : grid0.Coords) (k : Fin (k0_t1_loop i).trips) (e : ℕ) : Prop where
  q0 : k0_off13 i k = ![e, 0]
  l0 : k0_off17 i k = ![0, 0, e]
  a0 : k0_off21 i k = ![0, e]
  q1 : k0_off14 i k = ![e, 128]
  l1 : k0_off18 i k = ![0, 1, e]
  a1 : k0_off22 i k = ![128, e]
  q2 : k0_off15 i k = ![e, 256]
  l2 : k0_off19 i k = ![1, 0, e]
  a2 : k0_off23 i k = ![256, e]
  q3 : k0_off16 i k = ![e, 384]
  l3 : k0_off20 i k = ![1, 1, e]
  a3 : k0_off24 i k = ![384, e]

/-- The carried gradients and the accumulator once the queries before `e` are done. -/
structure Inv (H : HD) (a : Memref sig .tc .vmem S512x4096 .f32) (A : Fin 4 → Fin 128 → ℕ → ℝ) (e : ℕ) (acc : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32) (X : BufTy.Contents (Elt Ideal) a.view.ty) : Prop where
  k0 : ∀ r x, acc.1 (ix2 r x) = ((H.dk 0 e r x : ℝ) : EReal)
  v0 : ∀ r x, acc.2.1 (ix2 r x) = ((H.dv 0 e r x : ℝ) : EReal)
  k1 : ∀ r x, acc.2.2.1 (ix2 r x) = ((H.dk 1 e r x : ℝ) : EReal)
  v1 : ∀ r x, acc.2.2.2.1 (ix2 r x) = ((H.dv 1 e r x : ℝ) : EReal)
  k2 : ∀ r x, acc.2.2.2.2.1 (ix2 r x) = ((H.dk 2 e r x : ℝ) : EReal)
  v2 : ∀ r x, acc.2.2.2.2.2.1 (ix2 r x) = ((H.dv 2 e r x : ℝ) : EReal)
  k3 : ∀ r x, acc.2.2.2.2.2.2.1 (ix2 r x) = ((H.dk 3 e r x : ℝ) : EReal)
  v3 : ∀ r x, acc.2.2.2.2.2.2.2 (ix2 r x) = ((H.dv 3 e r x : ℝ) : EReal)
  m : ∀ (n : Fin 4) (x : Fin 128) (ρ : Fin 4096), accAt a X n x ρ = ((A n x ρ.val + H.dq n e x ρ.val : ℝ) : EReal)

theorem dq_out (H : HD) (n : Fin 4) (e : ℕ) (x : Fin 128) (ρ : ℕ) (h : ρ < e ∨ e + 512 ≤ ρ) : H.dq n (e + 512) x ρ = H.dq n e x ρ := by
  unfold HD.dq
  refine if_congr ?_ rfl rfl
  omega

section Loop
variable (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S2x2x4096 .f32) (harg6 : arg6.IsWhole) (arg7 : Memref sig .tc .vmem S2x2x4096 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S1x512x128 .f32) (harg10 : arg10.IsWhole) (arg11 : Memref sig .tc .vmem S512x4096 .f32) (harg11 : arg11.IsWhole) (arg1 : BitVec 32) (v53 : IVec S512x128 32) (v55 : FVec Ideal S512x128 .bf16) (v57 : FVec Ideal S512x128 .bf16) (v59 : FVec Ideal S512x128 .bf16) (v61 : FVec Ideal S512x128 .bf16) (v63 : FVec Ideal S512x128 .bf16) (v65 : FVec Ideal S512x128 .bf16) (v67 : FVec Ideal S512x128 .bf16) (v69 : FVec Ideal S512x128 .bf16) (v70 : FVec Ideal S128x512 .bf16) (v71 : FVec Ideal S128x512 .bf16) (v72 : FVec Ideal S128x512 .bf16) (v73 : FVec Ideal S128x512 .bf16) (v77 : FVec Ideal S512x128 .f32) (v79 : BitVec 32) (v171 : FVec Ideal S512x512 .bf16) (v173 : FVec Ideal S512x128 .f32) (v175 : FVec Ideal S512x128 .f32) (v177 : FVec Ideal S512x128 .f32) (v179 : FVec Ideal S512x128 .f32) (v180 : FVec Ideal S512x128 .f32) (v181 : FVec Ideal S512x128 .f32) (v182 : FVec Ideal S512x128 .f32) (v183 : FVec Ideal S512x128 .f32) (v203 : FVec Ideal S128x512 .f32) (v224 : BitVec 32) (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty)
variable (H : HD) (A : Fin 4 → Fin 128 → ℕ → ℝ)

theorem trip_inv (c : Dev nD) (hK : Heads H v55 v57 v59 v61 v63 v65 v67 v69 v70 v71 v72 v73) (hR : Rows H arg2 arg5 arg6 arg7 X_arg2 X_arg5 X_arg6 X_arg7)
    (k : Fin (k0_t1_loop i).trips) (e : ℕ) (hO : Offs i k e) (he : H.e0 + 512 ≤ e) (acc) (f : BufTy.Contents (Elt Ideal) arg11.view.ty) (hI : Inv H arg11 A e acc f) :
    Inv H arg11 A (e + 512) (tripR_k0_t1 (F := Ideal) Variants.none c none i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 k acc f)
      (arg11.view.writes (Elt Ideal) f (tripL_k0_t1 (F := Ideal) Variants.none c none i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 k acc f)) := by
  have he' : H.e0 ≤ e := by omega
  rw [tripR_eq, tripL_eq]
  have q0 := rq_read arg2 X_arg2 _ (k0_off13_inb i k) e _ hO.q0 0 rfl H.q hR.q
  have o0 := rq_read arg5 X_arg5 _ (k0_off13_inb i k) e _ hO.q0 0 rfl H.o hR.o
  have p0 := p_loop H 0 e _ _ _ he hK.k0 q0 (rl_read arg6 X_arg6 _ (k0_off17_inb i k) e _ _ hO.l0 0 rfl rfl H.l hR.l)
  have s0 := s_step H 0 e _ _ _ _ p0 hK.v0 o0 (rl_read arg7 X_arg7 _ (k0_off17_inb i k) e _ _ hO.l0 0 rfl rfl H.d hR.d)
  have q1 := rq_read arg2 X_arg2 _ (k0_off14_inb i k) e _ hO.q1 1 rfl H.q hR.q
  have o1 := rq_read arg5 X_arg5 _ (k0_off14_inb i k) e _ hO.q1 1 rfl H.o hR.o
  have p1 := p_loop H 1 e _ _ _ he hK.k1 q1 (rl_read arg6 X_arg6 _ (k0_off18_inb i k) e _ _ hO.l1 1 rfl rfl H.l hR.l)
  have s1 := s_step H 1 e _ _ _ _ p1 hK.v1 o1 (rl_read arg7 X_arg7 _ (k0_off18_inb i k) e _ _ hO.l1 1 rfl rfl H.d hR.d)
  have q2 := rq_read arg2 X_arg2 _ (k0_off15_inb i k) e _ hO.q2 2 rfl H.q hR.q
  have o2 := rq_read arg5 X_arg5 _ (k0_off15_inb i k) e _ hO.q2 2 rfl H.o hR.o
  have p2 := p_loop H 2 e _ _ _ he hK.k2 q2 (rl_read arg6 X_arg6 _ (k0_off19_inb i k) e _ _ hO.l2 2 rfl rfl H.l hR.l)
  have s2 := s_step H 2 e _ _ _ _ p2 hK.v2 o2 (rl_read arg7 X_arg7 _ (k0_off19_inb i k) e _ _ hO.l2 2 rfl rfl H.d hR.d)
  have q3 := rq_read arg2 X_arg2 _ (k0_off16_inb i k) e _ hO.q3 3 rfl H.q hR.q
  have o3 := rq_read arg5 X_arg5 _ (k0_off16_inb i k) e _ hO.q3 3 rfl H.o hR.o
  have p3 := p_loop H 3 e _ _ _ he hK.k3 q3 (rl_read arg6 X_arg6 _ (k0_off20_inb i k) e _ _ hO.l3 3 rfl rfl H.l hR.l)
  have s3 := s_step H 3 e _ _ _ _ p3 hK.v3 o3 (rl_read arg7 X_arg7 _ (k0_off20_inb i k) e _ _ hO.l3 3 rfl rfl H.d hR.d)
  constructor
  · exact dk_step H 0 e _ he' _ s0 q0 _ hI.k0
  · exact dv_step H 0 e _ _ he' p0 o0 _ hI.v0
  · exact dk_step H 1 e _ he' _ s1 q1 _ hI.k1
  · exact dv_step H 1 e _ _ he' p1 o1 _ hI.v1
  · exact dk_step H 2 e _ he' _ s2 q2 _ hI.k2
  · exact dv_step H 2 e _ _ he' p2 o2 _ hI.v2
  · exact dk_step H 3 e _ he' _ s3 q3 _ hI.k3
  · exact dv_step H 3 e _ _ he' p3 o3 _ hI.v3
  · intro n x ρ
    by_cases h : e ≤ ρ.val ∧ ρ.val < e + 512
    · obtain ⟨s, hs⟩ : ∃ s : Fin 512, ρ.val = e + s.val := ⟨⟨ρ.val - e, by omega⟩, by dsimp only; omega⟩
      refine (writes_in arg11 f _ _ _ _ _ _ _ _ e hO.a0 hO.a1 hO.a2 hO.a3 _ _ _ _ [] n x s ρ hs).trans ?_
      match n with
      | 0 => exact (ga_step H 0 e he' _ hK.t0 _ s0 x s _ (A 0 x (e + s.val)) ((ra_read arg11 f e _ (k0_off21_inb i k) _ hO.a0 0 rfl x s ρ hs).trans ((hI.m 0 x ρ).trans (by rw [hs])))).trans (by rw [hs])
      | 1 => exact (ga_step H 1 e he' _ hK.t1 _ s1 x s _ (A 1 x (e + s.val)) ((ra_read arg11 f e _ (k0_off22_inb i k) _ hO.a1 1 rfl x s ρ hs).trans ((hI.m 1 x ρ).trans (by rw [hs])))).trans (by rw [hs])
      | 2 => exact (ga_step H 2 e he' _ hK.t2 _ s2 x s _ (A 2 x (e + s.val)) ((ra_read arg11 f e _ (k0_off23_inb i k) _ hO.a2 2 rfl x s ρ hs).trans ((hI.m 2 x ρ).trans (by rw [hs])))).trans (by rw [hs])
      | 3 => exact (ga_step H 3 e he' _ hK.t3 _ s3 x s _ (A 3 x (e + s.val)) ((ra_read arg11 f e _ (k0_off24_inb i k) _ hO.a3 3 rfl x s ρ hs).trans ((hI.m 3 x ρ).trans (by rw [hs])))).trans (by rw [hs])
    · refine (writes_out arg11 f _ _ _ _ _ _ _ _ e _ _ _ _ hO.a0 hO.a1 hO.a2 hO.a3 _ _ _ _ [] n x ρ (by omega)).trans ?_
      rw [dq_out H n e x ρ.val (by omega)]
      exact hI.m n x ρ

theorem loop_inv (c : Dev nD) (hK : Heads H v55 v57 v59 v61 v63 v65 v67 v69 v70 v71 v72 v73) (hR : Rows H arg2 arg5 arg6 arg7 X_arg2 X_arg5 X_arg6 X_arg7)
    (hO : ∀ k : Fin (k0_t1_loop i).trips, Offs i k (H.e0 + 512 + 512 * k.val)) (G : BufTy.Contents (Elt Ideal) arg11.view.ty) (init) (hI : Inv H arg11 A (H.e0 + 512) init G) (k : ℕ) (hk : k ≤ (k0_t1_loop i).trips) :
    Inv H arg11 A (H.e0 + 512 + 512 * k) (st_k0_t1 (F := Ideal) Variants.none c none i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 G init k).1
      (arg11.view.writes (Elt Ideal) G (st_k0_t1 (F := Ideal) Variants.none c none i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 G init k).2) := by
  induction k with
  | zero => exact hI
  | succ k ih =>
    have h := st_k0_t1_succ (F := Ideal) Variants.none c none i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 G init ⟨k, hk⟩
    dsimp only at h
    rw [h]
    dsimp only
    rw [View.writes_append, Nat.mul_succ, ← Nat.add_assoc]
    exact trip_inv i arg2 harg2 arg3 harg3 arg4 harg4 arg5 harg5 arg6 harg6 arg7 harg7 arg8 harg8 arg9 harg9 arg10 harg10 arg11 harg11 arg1 v53 v55 v57 v59 v61 v63 v65 v67 v69 v70 v71 v72 v73 v77 v79 v171 v173 v175 v177 v179 v180 v181 v182 v183 v203 v224 X_arg2 X_arg5 X_arg6 X_arg7 H A c hK hR ⟨k, hk⟩ _ (hO ⟨k, hk⟩) (by omega) _ _ (ih (by omega))
end Loop

end Cert.AttnBwdIdeal.Gen
-- ==== Proof.AttnRun.lean ====
module

public import proofs.«01_k».proof.Proof.AttnLoop
public import Idealize.ShloMosaic.Lib.Pipeline.ValueKit
public import Idealize.ShloMosaic.Lib.Pipeline.ReadBack
public import Idealize.ShloMosaic.Lib.Tactic.CleanTypes
public import Idealize.ShloMosaic.Lib.WritesUnit
public import Idealize.ShloMosaic.Lib.Tactic.Stretches

@[expose] public section

set_option maxRecDepth 16384

noncomputable section

namespace Cert.AttnBwdIdeal.Gen

open Idealize.ShloMosaic Idealize.ShloMosaic.TcCoe Idealize.SL.Sem
open Cert.Lift
open scoped BigOperators

/-! The first step, and a whole grid point. -/

/-- Where the first step reads and writes. -/
structure FOffs (i : grid0.Coords) (e : ℕ) : Prop where
  q0 : k0_off1 i = ![e, 0]
  l0 : k0_off5 i = ![0, 0, e]
  a0 : k0_off9 i = ![0, e]
  q1 : k0_off2 i = ![e, 128]
  l1 : k0_off6 i = ![0, 1, e]
  a1 : k0_off10 i = ![128, e]
  q2 : k0_off3 i = ![e, 256]
  l2 : k0_off7 i = ![1, 0, e]
  a2 : k0_off11 i = ![256, e]
  q3 : k0_off4 i = ![e, 384]
  l3 : k0_off8 i = ![1, 1, e]
  a3 : k0_off12 i = ![384, e]

/-- The carried values before the first step are zero. -/
theorem zero_acc (r : Fin 512) (x : Fin 128) : (k0_pay93 (F := Ideal)) (ix2 r x) = ((0 : ℝ) : EReal) := by
  pointwise [k0_pay93]
  rfl

section First
variable (i : grid0.Coords) (arg2 arg5 : Memref sig .tc .vmem S4096x512 .bf16) (arg6 arg7 : Memref sig .tc .vmem S2x2x4096 .f32) (X_arg2 : BufTy.Contents (Elt Ideal) arg2.view.ty)
    (X_arg5 : BufTy.Contents (Elt Ideal) arg5.view.ty) (X_arg6 : BufTy.Contents (Elt Ideal) arg6.view.ty) (X_arg7 : BufTy.Contents (Elt Ideal) arg7.view.ty) (arg11 : Memref sig .tc .vmem S512x4096 .f32)
    (v55 v57 v59 v61 v63 v65 v67 v69 : FVec Ideal S512x128 .bf16) (v70 v71 v72 v73 : FVec Ideal S128x512 .bf16)

theorem first_inv (H : HD) (A : Fin 4 → Fin 128 → ℕ → ℝ) (h64 : 64 ∣ H.e0) (hK : Heads H v55 v57 v59 v61 v63 v65 v67 v69 v70 v71 v72 v73) (hR : Rows H arg2 arg5 arg6 arg7 X_arg2 X_arg5 X_arg6 X_arg7) (hO : FOffs i H.e0)
    (X0 : BufTy.Contents (Elt Ideal) arg11.view.ty) (hX : ∀ (n : Fin 4) (x : Fin 128) (ρ : Fin 4096), accAt arg11 X0 n x ρ = ((A n x ρ.val : ℝ) : EReal)) (y0 y1 y2 y3 : FVec Ideal S128x512 .f32) (T : List (View.Piece (Elt Ideal) S512x4096 .f32)) (f : BufTy.Contents (Elt Ideal) arg11.view.ty) (hT : arg11.view.writes (Elt Ideal) f T = X0)
    (hy0 : ∀ x (s : Fin 512), y0 (ix2 x s) = ((A 0 x (H.e0 + s.val) : ℝ) : EReal))
    (hy1 : ∀ x (s : Fin 512), y1 (ix2 x s) = ((A 1 x (H.e0 + s.val) : ℝ) : EReal))
    (hy2 : ∀ x (s : Fin 512), y2 (ix2 x s) = ((A 2 x (H.e0 + s.val) : ℝ) : EReal))
    (hy3 : ∀ x (s : Fin 512), y3 (ix2 x s) = ((A 3 x (H.e0 + s.val) : ℝ) : EReal)) :
    Inv H arg11 A (H.e0 + 512) (addf k0_pay93 (gW (gS (gM (k0_pay79 k0_pay75 (iota .tc S512x512 32 [0] iota_S512x512_d0_w32) k0_pay76 k0_pay77 k0_pay78) (gP v55 (rq arg2 X_arg2 (k0_off1 i) (k0_off1_inb i)) (rl arg6 X_arg6 (k0_off5 i) (k0_off5_inb i)))) v63 (rq arg5 X_arg5 (k0_off1 i) (k0_off1_inb i)) (rl arg7 X_arg7 (k0_off5 i) (k0_off5_inb i))) (rq arg2 X_arg2 (k0_off1 i) (k0_off1_inb i))), addf k0_pay93 (gW (truncf .bf16 (gM (k0_pay79 k0_pay75 (iota .tc S512x512 32 [0] iota_S512x512_d0_w32) k0_pay76 k0_pay77 k0_pay78) (gP v55 (rq arg2 X_arg2 (k0_off1 i) (k0_off1_inb i)) (rl arg6 X_arg6 (k0_off5 i) (k0_off5_inb i)))) bitsLt_bf16_f32) (rq arg5 X_arg5 (k0_off1 i) (k0_off1_inb i))),
      addf k0_pay93 (gW (gS (gM (k0_pay79 k0_pay75 (iota .tc S512x512 32 [0] iota_S512x512_d0_w32) k0_pay76 k0_pay77 k0_pay78) (gP v57 (rq arg2 X_arg2 (k0_off2 i) (k0_off2_inb i)) (rl arg6 X_arg6 (k0_off6 i) (k0_off6_inb i)))) v65 (rq arg5 X_arg5 (k0_off2 i) (k0_off2_inb i)) (rl arg7 X_arg7 (k0_off6 i) (k0_off6_inb i))) (rq arg2 X_arg2 (k0_off2 i) (k0_off2_inb i))), addf k0_pay93 (gW (truncf .bf16 (gM (k0_pay79 k0_pay75 (iota .tc S512x512 32 [0] iota_S512x512_d0_w32) k0_pay76 k0_pay77 k0_pay78) (gP v57 (rq arg2 X_arg2 (k0_off2 i) (k0_off2_inb i)) (rl arg6 X_arg6 (k0_off6 i) (k0_off6_inb i)))) bitsLt_bf16_f32) (rq arg5 X_arg5 (k0_off2 i) (k0_off2_inb i))),
      addf k0_pay93 (gW (gS (gM (k0_pay79 k0_pay75 (iota .tc S512x512 32 [0] iota_S512x512_d0_w32) k0_pay76 k0_pay77 k0_pay78) (gP v59 (rq arg2 X_arg2 (k0_off3 i) (k0_off3_inb i)) (rl arg6 X_arg6 (k0_off7 i) (k0_off7_inb i)))) v67 (rq arg5 X_arg5 (k0_off3 i) (k0_off3_inb i)) (rl arg7 X_arg7 (k0_off7 i) (k0_off7_inb i))) (rq arg2 X_arg2 (k0_off3 i) (k0_off3_inb i))), addf k0_pay93 (gW (truncf .bf16 (gM (k0_pay79 k0_pay75 (iota .tc S512x512 32 [0] iota_S512x512_d0_w32) k0_pay76 k0_pay77 k0_pay78) (gP v59 (rq arg2 X_arg2 (k0_off3 i) (k0_off3_inb i)) (rl arg6 X_arg6 (k0_off7 i) (k0_off7_inb i)))) bitsLt_bf16_f32) (rq arg5 X_arg5 (k0_off3 i) (k0_off3_inb i))),
      addf k0_pay93 (gW (gS (gM (k0_pay79 k0_pay75 (iota .tc S512x512 32 [0] iota_S512x512_d0_w32) k0_pay76 k0_pay77 k0_pay78) (gP v61 (rq arg2 X_arg2 (k0_off4 i) (k0_off4_inb i)) (rl arg6 X_arg6 (k0_off8 i) (k0_off8_inb i)))) v69 (rq arg5 X_arg5 (k0_off4 i) (k0_off4_inb i)) (rl arg7 X_arg7 (k0_off8 i) (k0_off8_inb i))) (rq arg2 X_arg2 (k0_off4 i) (k0_off4_inb i))), addf k0_pay93 (gW (truncf .bf16 (gM (k0_pay79 k0_pay75 (iota .tc S512x512 32 [0] iota_S512x512_d0_w32) k0_pay76 k0_pay77 k0_pay78) (gP v61 (rq arg2 X_arg2 (k0_off4 i) (k0_off4_inb i)) (rl arg6 X_arg6 (k0_off8 i) (k0_off8_inb i)))) bitsLt_bf16_f32) (rq arg5 X_arg5 (k0_off4 i) (k0_off4_inb i))))
      (arg11.view.writes (Elt Ideal) f (⟨Rect.unit (k0_off12 i) S128x512.size (k0_off12_inb i), ga y3 (gQ v73 (gS (gM (k0_pay79 k0_pay75 (iota .tc S512x512 32 [0] iota_S512x512_d0_w32) k0_pay76 k0_pay77 k0_pay78) (gP v61 (rq arg2 X_arg2 (k0_off4 i) (k0_off4_inb i)) (rl arg6 X_arg6 (k0_off8 i) (k0_off8_inb i)))) v69 (rq arg5 X_arg5 (k0_off4 i) (k0_off4_inb i)) (rl arg7 X_arg7 (k0_off8 i) (k0_off8_inb i))))⟩ ::
      ⟨Rect.unit (k0_off11 i) S128x512.size (k0_off11_inb i), ga y2 (gQ v72 (gS (gM (k0_pay79 k0_pay75 (iota .tc S512x512 32 [0] iota_S512x512_d0_w32) k0_pay76 k0_pay77 k0_pay78) (gP v59 (rq arg2 X_arg2 (k0_off3 i) (k0_off3_inb i)) (rl arg6 X_arg6 (k0_off7 i) (k0_off7_inb i)))) v67 (rq arg5 X_arg5 (k0_off3 i) (k0_off3_inb i)) (rl arg7 X_arg7 (k0_off7 i) (k0_off7_inb i))))⟩ ::
      ⟨Rect.unit (k0_off10 i) S128x512.size (k0_off10_inb i), ga y1 (gQ v71 (gS (gM (k0_pay79 k0_pay75 (iota .tc S512x512 32 [0] iota_S512x512_d0_w32) k0_pay76 k0_pay77 k0_pay78) (gP v57 (rq arg2 X_arg2 (k0_off2 i) (k0_off2_inb i)) (rl arg6 X_arg6 (k0_off6 i) (k0_off6_inb i)))) v65 (rq arg5 X_arg5 (k0_off2 i) (k0_off2_inb i)) (rl arg7 X_arg7 (k0_off6 i) (k0_off6_inb i))))⟩ ::
      ⟨Rect.unit (k0_off9 i) S128x512.size (k0_off9_inb i), ga y0 (gQ v70 (gS (gM (k0_pay79 k0_pay75 (iota .tc S512x512 32 [0] iota_S512x512_d0_w32) k0_pay76 k0_pay77 k0_pay78) (gP v55 (rq arg2 X_arg2 (k0_off1 i) (k0_off1_inb i)) (rl arg6 X_arg6 (k0_off5 i) (k0_off5_inb i)))) v63 (rq arg5 X_arg5 (k0_off1 i) (k0_off1_inb i)) (rl arg7 X_arg7 (k0_off5 i) (k0_off5_inb i))))⟩ :: T)) := by
  have zk : ∀ n r x, (k0_pay93 (F := Ideal)) (ix2 r x) = ((H.dk n H.e0 r x : ℝ) : EReal) := fun n r x => by rw [zero_acc, HD.dk, Finset.Ico_self, Finset.sum_empty]
  have zv : ∀ n r x, (k0_pay93 (F := Ideal)) (ix2 r x) = ((H.dv n H.e0 r x : ℝ) : EReal) := fun n r x => by rw [zero_acc, HD.dv, Finset.Ico_self, Finset.sum_empty]
  have zq : ∀ n x ρ, H.dq n H.e0 x ρ = 0 := fun n x ρ => by rw [HD.dq, if_neg (by omega)]
  have q0 := rq_read arg2 X_arg2 _ (k0_off1_inb i) H.e0 _ hO.q0 0 rfl H.q hR.q
  have o0 := rq_read arg5 X_arg5 _ (k0_off1_inb i) H.e0 _ hO.q0 0 rfl H.o hR.o
  have p0 := p_first H 0 _ _ _ h64 hK.k0 q0 (rl_read arg6 X_arg6 _ (k0_off5_inb i) H.e0 _ _ hO.l0 0 rfl rfl H.l hR.l)
  have s0 := s_step H 0 H.e0 _ _ _ _ p0 hK.v0 o0 (rl_read arg7 X_arg7 _ (k0_off5_inb i) H.e0 _ _ hO.l0 0 rfl rfl H.d hR.d)
  have q1 := rq_read arg2 X_arg2 _ (k0_off2_inb i) H.e0 _ hO.q1 1 rfl H.q hR.q
  have o1 := rq_read arg5 X_arg5 _ (k0_off2_inb i) H.e0 _ hO.q1 1 rfl H.o hR.o
  have p1 := p_first H 1 _ _ _ h64 hK.k1 q1 (rl_read arg6 X_arg6 _ (k0_off6_inb i) H.e0 _ _ hO.l1 1 rfl rfl H.l hR.l)
  have s1 := s_step H 1 H.e0 _ _ _ _ p1 hK.v1 o1 (rl_read arg7 X_arg7 _ (k0_off6_inb i) H.e0 _ _ hO.l1 1 rfl rfl H.d hR.d)
  have q2 := rq_read arg2 X_arg2 _ (k0_off3_inb i) H.e0 _ hO.q2 2 rfl H.q hR.q
  have o2 := rq_read arg5 X_arg5 _ (k0_off3_inb i) H.e0 _ hO.q2 2 rfl H.o hR.o
  have p2 := p_first H 2 _ _ _ h64 hK.k2 q2 (rl_read arg6 X_arg6 _ (k0_off7_inb i) H.e0 _ _ hO.l2 2 rfl rfl H.l hR.l)
  have s2 := s_step H 2 H.e0 _ _ _ _ p2 hK.v2 o2 (rl_read arg7 X_arg7 _ (k0_off7_inb i) H.e0 _ _ hO.l2 2 rfl rfl H.d hR.d)
  have q3 := rq_read arg2 X_arg2 _ (k0_off4_inb i) H.e0 _ hO.q3 3 rfl H.q hR.q
  have o3 := rq_read arg5 X_arg5 _ (k0_off4_inb i) H.e0 _ hO.q3 3 rfl H.o hR.o
  have p3 := p_first H 3 _ _ _ h64 hK.k3 q3 (rl_read arg6 X_arg6 _ (k0_off8_inb i) H.e0 _ _ hO.l3 3 rfl rfl H.l hR.l)
  have s3 := s_step H 3 H.e0 _ _ _ _ p3 hK.v3 o3 (rl_read arg7 X_arg7 _ (k0_off8_inb i) H.e0 _ _ hO.l3 3 rfl rfl H.d hR.d)
  constructor
  · exact dk_step H 0 H.e0 _ le_rfl _ s0 q0 _ (zk 0)
  · exact dv_step H 0 H.e0 _ _ le_rfl p0 o0 _ (zv 0)
  · exact dk_step H 1 H.e0 _ le_rfl _ s1 q1 _ (zk 1)
  · exact dv_step H 1 H.e0 _ _ le_rfl p1 o1 _ (zv 1)
  · exact dk_step H 2 H.e0 _ le_rfl _ s2 q2 _ (zk 2)
  · exact dv_step H 2 H.e0 _ _ le_rfl p2 o2 _ (zv 2)
  · exact dk_step H 3 H.e0 _ le_rfl _ s3 q3 _ (zk 3)
  · exact dv_step H 3 H.e0 _ _ le_rfl p3 o3 _ (zv 3)
  · intro n x ρ
    by_cases h : H.e0 ≤ ρ.val ∧ ρ.val < H.e0 + 512
    · obtain ⟨s, hs⟩ : ∃ s : Fin 512, ρ.val = H.e0 + s.val := ⟨⟨ρ.val - H.e0, by omega⟩, by dsimp only; omega⟩
      refine (writes_in arg11 f _ _ _ _ _ _ _ _ H.e0 hO.a0 hO.a1 hO.a2 hO.a3 _ _ _ _ T n x s ρ hs).trans ?_
      match n with
      | 0 => exact (ga_step H 0 H.e0 le_rfl _ hK.t0 _ s0 x s _ (A 0 x (H.e0 + s.val)) ((hy0 x s).trans (by rw [zq, add_zero]))).trans (by rw [hs])
      | 1 => exact (ga_step H 1 H.e0 le_rfl _ hK.t1 _ s1 x s _ (A 1 x (H.e0 + s.val)) ((hy1 x s).trans (by rw [zq, add_zero]))).trans (by rw [hs])
      | 2 => exact (ga_step H 2 H.e0 le_rfl _ hK.t2 _ s2 x s _ (A 2 x (H.e0 + s.val)) ((hy2 x s).trans (by rw [zq, add_zero]))).trans (by rw [hs])
      | 3 => exact (ga_step H 3 H.e0 le_rfl _ hK.t3 _ s3 x s _ (A 3 x (H.e0 + s.val)) ((hy3 x s).trans (by rw [zq, add_zero]))).trans (by rw [hs])
    · refine (writes_out arg11 f _ _ _ _ _ _ _ _ H.e0 _ _ _ _ hO.a0 hO.a1 hO.a2 hO.a3 _ _ _ _ T n x ρ (by omega)).trans ?_
      rw [dq_out H n H.e0 x ρ.val (by omega), zq, add_zero, hT]
      exact hX n x ρ
end First

/-- A head's keys or values, as the body reads them. -/
abbrev rk (a : Memref sig .tc .vmem S512x512 .bf16) (X : BufTy.Contents (Elt Ideal) a.view.ty) (c : ℕ) (h : ∀ b, (![0, c] : Fin 2 → ℕ) b + S512x128.size b ≤ S512x512.size b) : FVec Ideal S512x128 .bf16 :=
  shapeCast S512x128 (a.view.readAt (Elt Ideal) (Rect.unit (s := S512x512) ![0, c] S512x128.size h).toLoadRect X) shapeCasts_S512x128_S512x128
/-- A head's keys, transposed. -/
abbrev rt (k : FVec Ideal S512x128 .bf16) : FVec Ideal S128x512 .bf16 := transpose S128x512 [1, 0] k transposes_S512x128_p1_0_S128x512

theorem rt_read (k : FVec Ideal S512x128 .bf16) (r : Fin 512) (x : Fin 128) : rt k (ix2 x r) = k (ix2 r x) := by
  pointwise [rt]
theorem rk_read (a : Memref sig .tc .vmem S512x512 .bf16) (ha : a.IsWhole) (X : Vec Ideal S512x512 .bf16) (c : ℕ) (h) (r : Fin 512) (x : Fin 128) (hc : c + x.val < 512) :
    rk a (ha.unread X) c h (ix2 r x) = X (ix2 r ⟨c + x.val, hc⟩) := by
  pointwise [rk]
  rw [View.readAt_eq_ld]
  refine (View.ld_unit_apply_of (Val := Elt Ideal) (S := S512x512) (e := .bf16) _ _ _ h (ix2 r x) (ix2 r ⟨c + x.val, hc⟩) fun b => ?_).trans (congrFun (ha.read_unread X) _)
  fin_cases b
  · exact (Nat.zero_add _).symm
  · rfl

/-- What the key block's arrays hold. -/
structure Keys (H : HD) (x1 x2 : Vec Ideal S512x512 .bf16) : Prop where
  k0 : ∀ (r : Fin 512) (x : Fin 128), x1 (ix2 r ⟨0 + x.val, by omega⟩) = ((H.k 0 r x : ℝ) : EReal)
  v0 : ∀ (r : Fin 512) (x : Fin 128), x2 (ix2 r ⟨0 + x.val, by omega⟩) = ((H.v 0 r x : ℝ) : EReal)
  k1 : ∀ (r : Fin 512) (x : Fin 128), x1 (ix2 r ⟨128 + x.val, by omega⟩) = ((H.k 1 r x : ℝ) : EReal)
  v1 : ∀ (r : Fin 512) (x : Fin 128), x2 (ix2 r ⟨128 + x.val, by omega⟩) = ((H.v 1 r x : ℝ) : EReal)
  k2 : ∀ (r : Fin 512) (x : Fin 128), x1 (ix2 r ⟨256 + x.val, by omega⟩) = ((H.k 2 r x : ℝ) : EReal)
  v2 : ∀ (r : Fin 512) (x : Fin 128), x2 (ix2 r ⟨256 + x.val, by omega⟩) = ((H.v 2 r x : ℝ) : EReal)
  k3 : ∀ (r : Fin 512) (x : Fin 128), x1 (ix2 r ⟨384 + x.val, by omega⟩) = ((H.k 3 r x : ℝ) : EReal)
  v3 : ∀ (r : Fin 512) (x : Fin 128), x2 (ix2 r ⟨384 + x.val, by omega⟩) = ((H.v 3 r x : ℝ) : EReal)

/-- The written keys' and values' gradients, of the loop's result. -/
abbrev L7of (acc : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32) : List (View.Piece (Elt Ideal) S512x512 .bf16) :=
  [⟨Rect.unit (s := S512x512) ![0, 384] S512x128.size inb_S512x512_S512x128_0_384, k0_pay4 (iota .tc S512x128 32 [1] iota_S512x128_d1_w32) acc.2.2.2.2.2.2.1 acc.2.2.2.2.2.2.2⟩,
   ⟨Rect.unit (s := S512x512) ![0, 256] S512x128.size inb_S512x512_S512x128_0_256, k0_pay2 (iota .tc S512x128 32 [1] iota_S512x128_d1_w32) acc.2.2.2.2.1 acc.2.2.2.2.2.1⟩,
   ⟨Rect.unit (s := S512x512) ![0, 128] S512x128.size inb_S512x512_S512x128_0_128, k0_pay161 (iota .tc S512x128 32 [1] iota_S512x128_d1_w32) acc.2.2.1 acc.2.2.2.1⟩,
   ⟨Rect.unit (s := S512x512) ![0, 0] S512x128.size inb_S512x512_S512x128_0_0, k0_pay159 (iota .tc S512x128 32 [1] iota_S512x128_d1_w32) acc.1 acc.2.1⟩]
/-- The written rotary key's gradient. -/
abbrev L8of (acc : FVec Ideal S512x128 .f32 × FVec Ideal S512x128 .f32 × FVec Ideal S512x128 .f32 × FVec Ideal S512x128 .f32 × FVec Ideal S512x128 .f32 × FVec Ideal S512x128 .f32 × FVec Ideal S512x128 .f32 × FVec Ideal S512x128 .f32) : List (View.Piece (Elt Ideal) S1x512x128 .f32) :=
  [⟨Rect.unit (s := S1x512x128) ![0, 0, 0] S1x512x128.size inb_S1x512x128_S1x512x128_0_0_0, k0_pay5 (iota .tc S512x128 32 [1] iota_S512x128_d1_w32) acc.2.2.2.2.1 acc.2.2.2.2.2.2.1 (k0_pay162 acc.1 acc.2.2.1)⟩]
/-- The written queries' gradient, of the accumulator. -/
abbrev L6of (a : Memref sig .tc .vmem S512x4096 .f32) (X : BufTy.Contents (Elt Ideal) a.view.ty) : List (View.Piece (Elt Ideal) S4096x512 .bf16) :=
  [⟨Rect.unit (s := S4096x512) ![0, 0] S4096x512.size inb_S4096x512_S4096x512_0_0, k0_pay6 (a.view.readAt (Elt Ideal) (Rect.unit (s := S512x4096) ![0, 0] S512x4096.size inb_S512x4096_S512x4096_0_0).toLoadRect X)⟩]

section Run
variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S2x2x4096 .f32) (harg6 : arg6.IsWhole) (arg7 : Memref sig .tc .vmem S2x2x4096 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S1x512x128 .f32) (harg10 : arg10.IsWhole) (arg11 : Memref sig .tc .vmem S512x4096 .f32) (harg11 : arg11.IsWhole)
variable (x0 : Vec Ideal S4096x512 .bf16) (x1 : Vec Ideal S512x512 .bf16) (x2 : Vec Ideal S512x512 .bf16) (x3 : Vec Ideal S4096x512 .bf16) (x4 : Vec Ideal S2x2x4096 .f32) (x5 : Vec Ideal S2x2x4096 .f32)

theorem heads_of (H : HD) (hk : Keys H x1 x2) : Heads H (rk arg3 (harg3.unread x1) 0 inb_S512x512_S512x128_0_0) (rk arg3 (harg3.unread x1) 128 inb_S512x512_S512x128_0_128) (rk arg3 (harg3.unread x1) 256 inb_S512x512_S512x128_0_256) (rk arg3 (harg3.unread x1) 384 inb_S512x512_S512x128_0_384) (rk arg4 (harg4.unread x2) 0 inb_S512x512_S512x128_0_0) (rk arg4 (harg4.unread x2) 128 inb_S512x512_S512x128_0_128) (rk arg4 (harg4.unread x2) 256 inb_S512x512_S512x128_0_256) (rk arg4 (harg4.unread x2) 384 inb_S512x512_S512x128_0_384) (rt (rk arg3 (harg3.unread x1) 0 inb_S512x512_S512x128_0_0)) (rt (rk arg3 (harg3.unread x1) 128 inb_S512x512_S512x128_0_128)) (rt (rk arg3 (harg3.unread x1) 256 inb_S512x512_S512x128_0_256)) (rt (rk arg3 (harg3.unread x1) 384 inb_S512x512_S512x128_0_384)) where
  k0 := fun r x => (rk_read arg3 harg3 x1 0 inb_S512x512_S512x128_0_0 r x (by omega)).trans (hk.k0 r x)
  k1 := fun r x => (rk_read arg3 harg3 x1 128 inb_S512x512_S512x128_0_128 r x (by omega)).trans (hk.k1 r x)
  k2 := fun r x => (rk_read arg3 harg3 x1 256 inb_S512x512_S512x128_0_256 r x (by omega)).trans (hk.k2 r x)
  k3 := fun r x => (rk_read arg3 harg3 x1 384 inb_S512x512_S512x128_0_384 r x (by omega)).trans (hk.k3 r x)
  v0 := fun r x => (rk_read arg4 harg4 x2 0 inb_S512x512_S512x128_0_0 r x (by omega)).trans (hk.v0 r x)
  v1 := fun r x => (rk_read arg4 harg4 x2 128 inb_S512x512_S512x128_0_128 r x (by omega)).trans (hk.v1 r x)
  v2 := fun r x => (rk_read arg4 harg4 x2 256 inb_S512x512_S512x128_0_256 r x (by omega)).trans (hk.v2 r x)
  v3 := fun r x => (rk_read arg4 harg4 x2 384 inb_S512x512_S512x128_0_384 r x (by omega)).trans (hk.v3 r x)
  t0 := fun r x => (rt_read _ r x).trans ((rk_read arg3 harg3 x1 0 inb_S512x512_S512x128_0_0 r x (by omega)).trans (hk.k0 r x))
  t1 := fun r x => (rt_read _ r x).trans ((rk_read arg3 harg3 x1 128 inb_S512x512_S512x128_0_128 r x (by omega)).trans (hk.k1 r x))
  t2 := fun r x => (rt_read _ r x).trans ((rk_read arg3 harg3 x1 256 inb_S512x512_S512x128_0_256 r x (by omega)).trans (hk.k2 r x))
  t3 := fun r x => (rt_read _ r x).trans ((rk_read arg3 harg3 x1 384 inb_S512x512_S512x128_0_384 r x (by omega)).trans (hk.k3 r x))

/-- The accumulator just after its reset. -/
abbrev Z92 (a : Memref sig .tc .vmem S512x4096 .f32) : BufTy.Contents (Elt Ideal) a.view.ty :=
  a.view.writes (Elt Ideal) a.view.junk [⟨Rect.unit (s := S512x4096) ![0, 0] S512x4096.size inb_S512x4096_S512x4096_0_0, (k0_pay92 (F := Ideal))⟩]
theorem zero_read (a : Memref sig .tc .vmem S512x4096 .f32) (r : Fin 512) (ρ : Fin 4096) : (a.view.read (Elt Ideal) (Z92 a) : FVec Ideal S512x4096 .f32) (ix2 r ρ) = ((0 : ℝ) : EReal) := by
  refine (View.read_writes_cons_unit_of_mem (Val := Elt Ideal) (v := a.view) a.view.junk inb_S512x4096_S512x4096_0_0 (k0_pay92 (F := Ideal)) [] (ix2 r ρ) (ix2 r ρ) rfl fun b => ?_).trans ?_
  · fin_cases b <;> exact (Nat.zero_add _).symm
  · pointwise [k0_pay92]
    rfl

/-- A head's rows of the accumulator are not touched by an earlier head's write. -/
theorem skip_lt (a : Memref sig .tc .vmem S512x4096 .f32) (X : BufTy.Contents (Elt Ideal) a.view.ty) (e : ℕ) (o : Fin 2 → ℕ) (h : ∀ b, o b + S128x512.size b ≤ S512x4096.size b) (c : ℕ) (ho : o = ![c, e]) (w : FVec Ideal S128x512 .f32)
    (L : List (View.Piece (Elt Ideal) S512x4096 .f32)) (n : Fin 4) (hc : c + 128 ≤ 128 * n.val) (x : Fin 128) (ρ : Fin 4096) :
    accAt a (a.view.writes (Elt Ideal) X (⟨Rect.unit o S128x512.size h, w⟩ :: L)) n x ρ = accAt a (a.view.writes (Elt Ideal) X L) n x ρ :=
  View.read_writes_cons_unit_of_not_mem _ _ _ _ _ _ ho 0 (.inr (show c + 128 ≤ 128 * n.val + x.val by omega))

theorem runB_inv (hc0 : ¬cond0_0 i) (hc1 : ¬cond0_1 i) (H : HD) (A : Fin 4 → Fin 128 → ℕ → ℝ) (h64 : 64 ∣ H.e0) (hk : Keys H x1 x2) (hR : Rows H arg2 arg5 arg6 arg7 (harg2.unread x0) (harg5.unread x3) (harg6.unread x4) (harg7.unread x5))
    (hO : FOffs i H.e0) (hL : ∀ k : Fin (k0_t1_loop i).trips, Offs i k (H.e0 + 512 + 512 * k.val)) (hT : H.e0 + 512 + 512 * (k0_t1_loop i).trips = 4096) (xs : Vec Ideal S512x4096 .f32) (hs : ∀ (n : Fin 4) (x : Fin 128) (ρ : Fin 4096), xs (ix2 ⟨128 * n.val + x.val, by omega⟩ ρ) = ((A n x ρ.val : ℝ) : EReal)) :
    ∃ acc, (runB (F := Ideal) c i arg2 harg2 arg3 harg3 arg4 harg4 arg5 harg5 arg6 harg6 arg7 harg7 arg8 harg8 arg9 harg9 arg10 harg10 arg11 harg11 x0 x1 x2 x3 x4 x5 hc0 hc1).1 xs = L7of acc ∧ (runB (F := Ideal) c i arg2 harg2 arg3 harg3 arg4 harg4 arg5 harg5 arg6 harg6 arg7 harg7 arg8 harg8 arg9 harg9 arg10 harg10 arg11 harg11 x0 x1 x2 x3 x4 x5 hc0 hc1).2.1 xs = L8of acc ∧ Inv H arg11 A 4096 acc ((runB (F := Ideal) c i arg2 harg2 arg3 harg3 arg4 harg4 arg5 harg5 arg6 harg6 arg7 harg7 arg8 harg8 arg9 harg9 arg10 harg10 arg11 harg11 x0 x1 x2 x3 x4 x5 hc0 hc1).2.2.1 xs) := by
  have hK := heads_of arg3 harg3 arg4 harg4 x1 x2 H hk
  have hX : ∀ (n : Fin 4) (x : Fin 128) (ρ : Fin 4096), accAt arg11 (harg11.unread xs) n x ρ = ((A n x ρ.val : ℝ) : EReal) := fun n x ρ => (congrFun (harg11.read_unread xs) _).trans (hs n x ρ)
  have hy0 := fun (x : Fin 128) (s : Fin 512) => (ra_read arg11 (harg11.unread xs) H.e0 (k0_off9 i) (k0_off9_inb i) 0 hO.a0 0 rfl x s ⟨H.e0 + s.val, by omega⟩ rfl).trans (hX 0 x ⟨H.e0 + s.val, by omega⟩)
  have hy1 := fun (x : Fin 128) (s : Fin 512) => (ra_read arg11 (harg11.unread xs) H.e0 (k0_off10 i) (k0_off10_inb i) 128 hO.a1 1 rfl x s ⟨H.e0 + s.val, by omega⟩ rfl).trans (hX 1 x ⟨H.e0 + s.val, by omega⟩)
  have hy2 := fun (x : Fin 128) (s : Fin 512) => (ra_read arg11 (harg11.unread xs) H.e0 (k0_off11 i) (k0_off11_inb i) 256 hO.a2 2 rfl x s ⟨H.e0 + s.val, by omega⟩ rfl).trans (hX 2 x ⟨H.e0 + s.val, by omega⟩)
  have hy3 := fun (x : Fin 128) (s : Fin 512) => (ra_read arg11 (harg11.unread xs) H.e0 (k0_off12 i) (k0_off12_inb i) 384 hO.a3 3 rfl x s ⟨H.e0 + s.val, by omega⟩ rfl).trans (hX 3 x ⟨H.e0 + s.val, by omega⟩)
  unfold runB
  dsimp only
  sl_open_run
  generalize hst : st_k0_t1 (F := Ideal) Variants.none c none i arg2 harg2 arg3 harg3 arg4 harg4 arg5 harg5 arg6 harg6 arg7 harg7 arg8 harg8 arg9 harg9 arg10 harg10 arg11 harg11 _ _ _ _ _ _ _ _ _ _ _ _ _ _ _ _ _ _ _ _ _ _ _ _ _ _ _ _ _ _ _ _ _ _ = st
  refine ⟨st.1, rfl, rfl, ?_⟩
  rw [View.writes_append, ← hT, ← hst]
  refine loop_inv i arg2 harg2 arg3 harg3 arg4 harg4 arg5 harg5 arg6 harg6 arg7 harg7 arg8 harg8 arg9 harg9 arg10 harg10 arg11 harg11 _ _ _ _ _ _ _ _ _ _ _ _ _ _ _ _ _ _ _ _ _ _ _ _ _ _ _ _ _ _ _ H A c hK hR hL _ _ ?_ _ le_rfl
  sl_open_pay
  sl_open_pay
  dsimp only
  exact first_inv i arg2 arg5 arg6 arg7 _ _ _ _ arg11 _ _ _ _ _ _ _ _ _ _ _ _ H A h64 hK hR hO (harg11.unread xs) hX _ _ _ _ [] _ rfl hy0 hy1 hy2 hy3

theorem runC_inv (hc0 : ¬cond0_0 i) (hc1 : cond0_1 i) (H : HD) (A : Fin 4 → Fin 128 → ℕ → ℝ) (h64 : 64 ∣ H.e0) (hk : Keys H x1 x2) (hR : Rows H arg2 arg5 arg6 arg7 (harg2.unread x0) (harg5.unread x3) (harg6.unread x4) (harg7.unread x5))
    (hO : FOffs i H.e0) (hL : ∀ k : Fin (k0_t1_loop i).trips, Offs i k (H.e0 + 512 + 512 * k.val)) (hT : H.e0 + 512 + 512 * (k0_t1_loop i).trips = 4096) (xs : Vec Ideal S512x4096 .f32) (hs : ∀ (n : Fin 4) (x : Fin 128) (ρ : Fin 4096), xs (ix2 ⟨128 * n.val + x.val, by omega⟩ ρ) = ((A n x ρ.val : ℝ) : EReal)) :
    ∃ acc, (runC (F := Ideal) c i arg2 harg2 arg3 harg3 arg4 harg4 arg5 harg5 arg6 harg6 arg7 harg7 arg8 harg8 arg9 harg9 arg10 harg10 arg11 harg11 x0 x1 x2 x3 x4 x5 hc0 hc1).2.1 xs = L7of acc ∧ (runC (F := Ideal) c i arg2 harg2 arg3 harg3 arg4 harg4 arg5 harg5 arg6 harg6 arg7 harg7 arg8 harg8 arg9 harg9 arg10 harg10 arg11 harg11 x0 x1 x2 x3 x4 x5 hc0 hc1).2.2.1 xs = L8of acc ∧ Inv H arg11 A 4096 acc ((runC (F := Ideal) c i arg2 harg2 arg3 harg3 arg4 harg4 arg5 harg5 arg6 harg6 arg7 harg7 arg8 harg8 arg9 harg9 arg10 harg10 arg11 harg11 x0 x1 x2 x3 x4 x5 hc0 hc1).2.2.2.1 xs) ∧ (runC (F := Ideal) c i arg2 harg2 arg3 harg3 arg4 harg4 arg5 harg5 arg6 harg6 arg7 harg7 arg8 harg8 arg9 harg9 arg10 harg10 arg11 harg11 x0 x1 x2 x3 x4 x5 hc0 hc1).1 xs = L6of arg11 ((runC (F := Ideal) c i arg2 harg2 arg3 harg3 arg4 harg4 arg5 harg5 arg6 harg6 arg7 harg7 arg8 harg8 arg9 harg9 arg10 harg10 arg11 harg11 x0 x1 x2 x3 x4 x5 hc0 hc1).2.2.2.1 xs) := by
  have hK := heads_of arg3 harg3 arg4 harg4 x1 x2 H hk
  have hX : ∀ (n : Fin 4) (x : Fin 128) (ρ : Fin 4096), accAt arg11 (harg11.unread xs) n x ρ = ((A n x ρ.val : ℝ) : EReal) := fun n x ρ => (congrFun (harg11.read_unread xs) _).trans (hs n x ρ)
  have hy0 := fun (x : Fin 128) (s : Fin 512) => (ra_read arg11 (harg11.unread xs) H.e0 (k0_off9 i) (k0_off9_inb i) 0 hO.a0 0 rfl x s ⟨H.e0 + s.val, by omega⟩ rfl).trans (hX 0 x ⟨H.e0 + s.val, by omega⟩)
  have hy1 := fun (x : Fin 128) (s : Fin 512) => (ra_read arg11 (harg11.unread xs) H.e0 (k0_off10 i) (k0_off10_inb i) 128 hO.a1 1 rfl x s ⟨H.e0 + s.val, by omega⟩ rfl).trans (hX 1 x ⟨H.e0 + s.val, by omega⟩)
  have hy2 := fun (x : Fin 128) (s : Fin 512) => (ra_read arg11 (harg11.unread xs) H.e0 (k0_off11 i) (k0_off11_inb i) 256 hO.a2 2 rfl x s ⟨H.e0 + s.val, by omega⟩ rfl).trans (hX 2 x ⟨H.e0 + s.val, by omega⟩)
  have hy3 := fun (x : Fin 128) (s : Fin 512) => (ra_read arg11 (harg11.unread xs) H.e0 (k0_off12 i) (k0_off12_inb i) 384 hO.a3 3 rfl x s ⟨H.e0 + s.val, by omega⟩ rfl).trans (hX 3 x ⟨H.e0 + s.val, by omega⟩)
  unfold runC
  dsimp only
  sl_open_run
  generalize hst : st_k0_t1 (F := Ideal) Variants.none c none i arg2 harg2 arg3 harg3 arg4 harg4 arg5 harg5 arg6 harg6 arg7 harg7 arg8 harg8 arg9 harg9 arg10 harg10 arg11 harg11 _ _ _ _ _ _ _ _ _ _ _ _ _ _ _ _ _ _ _ _ _ _ _ _ _ _ _ _ _ _ _ _ _ _ = st
  refine ⟨st.1, rfl, rfl, ?_, rfl⟩
  rw [View.writes_append, ← hT, ← hst]
  refine loop_inv i arg2 harg2 arg3 harg3 arg4 harg4 arg5 harg5 arg6 harg6 arg7 harg7 arg8 harg8 arg9 harg9 arg10 harg10 arg11 harg11 _ _ _ _ _ _ _ _ _ _ _ _ _ _ _ _ _ _ _ _ _ _ _ _ _ _ _ _ _ _ _ H A c hK hR hL _ _ ?_ _ le_rfl
  sl_open_pay
  sl_open_pay
  dsimp only
  exact first_inv i arg2 arg5 arg6 arg7 _ _ _ _ arg11 _ _ _ _ _ _ _ _ _ _ _ _ H A h64 hK hR hO (harg11.unread xs) hX _ _ _ _ [] _ rfl hy0 hy1 hy2 hy3

theorem runA_inv (hc0 : cond0_0 i) (hc1 : ¬cond0_1 i) (H : HD) (h64 : 64 ∣ H.e0) (hk : Keys H x1 x2) (hR : Rows H arg2 arg5 arg6 arg7 (harg2.unread x0) (harg5.unread x3) (harg6.unread x4) (harg7.unread x5))
    (hO : FOffs i H.e0) (hL : ∀ k : Fin (k0_t1_loop i).trips, Offs i k (H.e0 + 512 + 512 * k.val)) (hT : H.e0 + 512 + 512 * (k0_t1_loop i).trips = 4096) :
    ∃ acc, (runA (F := Ideal) c i arg2 harg2 arg3 harg3 arg4 harg4 arg5 harg5 arg6 harg6 arg7 harg7 arg8 harg8 arg9 harg9 arg10 harg10 arg11 harg11 x0 x1 x2 x3 x4 x5 hc0 hc1).1 = L7of acc ∧ (runA (F := Ideal) c i arg2 harg2 arg3 harg3 arg4 harg4 arg5 harg5 arg6 harg6 arg7 harg7 arg8 harg8 arg9 harg9 arg10 harg10 arg11 harg11 x0 x1 x2 x3 x4 x5 hc0 hc1).2.1 = L8of acc ∧ Inv H arg11 (fun _ _ _ => 0) 4096 acc ((runA (F := Ideal) c i arg2 harg2 arg3 harg3 arg4 harg4 arg5 harg5 arg6 harg6 arg7 harg7 arg8 harg8 arg9 harg9 arg10 harg10 arg11 harg11 x0 x1 x2 x3 x4 x5 hc0 hc1).2.2.1) := by
  have hK := heads_of arg3 harg3 arg4 harg4 x1 x2 H hk
  have hX : ∀ (n : Fin 4) (x : Fin 128) (ρ : Fin 4096), accAt arg11 (Z92 arg11) n x ρ = ((0 : ℝ) : EReal) := fun n x ρ => zero_read arg11 _ _
  unfold runA
  dsimp only
  sl_open_run
  generalize hst : st_k0_t1 (F := Ideal) Variants.none c none i arg2 harg2 arg3 harg3 arg4 harg4 arg5 harg5 arg6 harg6 arg7 harg7 arg8 harg8 arg9 harg9 arg10 harg10 arg11 harg11 _ _ _ _ _ _ _ _ _ _ _ _ _ _ _ _ _ _ _ _ _ _ _ _ _ _ _ _ _ _ _ _ _ _ = st
  refine ⟨st.1, rfl, rfl, ?_⟩
  rw [View.writes_append, ← hT, ← hst]
  refine loop_inv i arg2 harg2 arg3 harg3 arg4 harg4 arg5 harg5 arg6 harg6 arg7 harg7 arg8 harg8 arg9 harg9 arg10 harg10 arg11 harg11 _ _ _ _ _ _ _ _ _ _ _ _ _ _ _ _ _ _ _ _ _ _ _ _ _ _ _ _ _ _ _ H (fun _ _ _ => 0) c hK hR hL _ _ ?_ _ le_rfl
  sl_open_pay
  sl_open_pay
  dsimp only
  refine first_inv i arg2 arg5 arg6 arg7 _ _ _ _ arg11 _ _ _ _ _ _ _ _ _ _ _ _ H (fun _ _ _ => 0) h64 hK hR hO (Z92 arg11) hX _ _ _ _ [_] _ rfl ?_ ?_ ?_ ?_
  · exact fun x s => (ra_read arg11 _ H.e0 _ (k0_off9_inb i) 0 hO.a0 0 rfl x s ⟨H.e0 + s.val, by omega⟩ rfl).trans (hX 0 x ⟨H.e0 + s.val, by omega⟩)
  · exact fun x s => (ra_read arg11 _ H.e0 _ (k0_off10_inb i) 128 hO.a1 1 rfl x s ⟨H.e0 + s.val, by omega⟩ rfl).trans ((skip_lt arg11 _ H.e0 _ _ 0 hO.a0 _ _ 1 (by decide) x _).trans (hX 1 x ⟨H.e0 + s.val, by omega⟩))
  · exact fun x s => (ra_read arg11 _ H.e0 _ (k0_off11_inb i) 256 hO.a2 2 rfl x s ⟨H.e0 + s.val, by omega⟩ rfl).trans ((skip_lt arg11 _ H.e0 _ _ 128 hO.a1 _ _ 2 (by decide) x _).trans ((skip_lt arg11 _ H.e0 _ _ 0 hO.a0 _ _ 2 (by decide) x _).trans (hX 2 x ⟨H.e0 + s.val, by omega⟩)))
  · exact fun x s => (ra_read arg11 _ H.e0 _ (k0_off12_inb i) 384 hO.a3 3 rfl x s ⟨H.e0 + s.val, by omega⟩ rfl).trans ((skip_lt arg11 _ H.e0 _ _ 256 hO.a2 _ _ 3 (by decide) x _).trans ((skip_lt arg11 _ H.e0 _ _ 128 hO.a1 _ _ 3 (by decide) x _).trans ((skip_lt arg11 _ H.e0 _ _ 0 hO.a0 _ _ 3 (by decide) x _).trans (hX 3 x ⟨H.e0 + s.val, by omega⟩))))

end Run

end Cert.AttnBwdIdeal.Gen
-- ==== Proof.AttnPoint.lean ====
module

public import proofs.«01_k».proof.Proof.AttnRun
public import proofs.«01_k».proof.Proof.AttnFrameIdeal
public import Idealize.ShloMosaic.Lib.Pipeline.ValueKit
public import Idealize.ShloMosaic.Lib.Pipeline.ReadBack
public import Idealize.ShloMosaic.Lib.Tactic.CleanTypes
public import Idealize.ShloMosaic.Lib.WritesUnit
public import Idealize.ShloMosaic.Lib.Tactic.Stretches

@[expose] public section

set_option maxRecDepth 16384

noncomputable section

namespace Cert.AttnBwdIdeal.Gen

open Idealize.ShloMosaic Idealize.ShloMosaic.TcCoe Idealize.SL.Sem
open Cert.Lift
open scoped BigOperators

/-! What a grid point writes, as reals. -/

theorem k0_trips : ∀ t : Fin cfg0.N, (k0_t1_loop (grid0.coords t)).trips = 7 - t.val % 8 := by decide +kernel
theorem first_offs : ∀ t : Fin cfg0.N, FOffs (grid0.coords t) (512 * (t.val % 8)) := fun t =>
  ⟨(by decide +kernel : ∀ t : Fin cfg0.N, k0_off1 (grid0.coords t) = ![512 * (t.val % 8), 0]) t, (by decide +kernel : ∀ t : Fin cfg0.N, k0_off5 (grid0.coords t) = ![0, 0, 512 * (t.val % 8)]) t, (by decide +kernel : ∀ t : Fin cfg0.N, k0_off9 (grid0.coords t) = ![0, 512 * (t.val % 8)]) t,
   (by decide +kernel : ∀ t : Fin cfg0.N, k0_off2 (grid0.coords t) = ![512 * (t.val % 8), 128]) t, (by decide +kernel : ∀ t : Fin cfg0.N, k0_off6 (grid0.coords t) = ![0, 1, 512 * (t.val % 8)]) t, (by decide +kernel : ∀ t : Fin cfg0.N, k0_off10 (grid0.coords t) = ![128, 512 * (t.val % 8)]) t,
   (by decide +kernel : ∀ t : Fin cfg0.N, k0_off3 (grid0.coords t) = ![512 * (t.val % 8), 256]) t, (by decide +kernel : ∀ t : Fin cfg0.N, k0_off7 (grid0.coords t) = ![1, 0, 512 * (t.val % 8)]) t, (by decide +kernel : ∀ t : Fin cfg0.N, k0_off11 (grid0.coords t) = ![256, 512 * (t.val % 8)]) t,
   (by decide +kernel : ∀ t : Fin cfg0.N, k0_off4 (grid0.coords t) = ![512 * (t.val % 8), 384]) t, (by decide +kernel : ∀ t : Fin cfg0.N, k0_off8 (grid0.coords t) = ![1, 1, 512 * (t.val % 8)]) t, (by decide +kernel : ∀ t : Fin cfg0.N, k0_off12 (grid0.coords t) = ![384, 512 * (t.val % 8)]) t⟩

theorem loop_offs_all : ∀ (t : Fin cfg0.N) (k : Fin (k0_t1_loop (grid0.coords t)).trips),
    (k0_off13 (grid0.coords t) k = ![512 * (t.val % 8) + 512 + 512 * k.val, 0] ∧ k0_off14 (grid0.coords t) k = ![512 * (t.val % 8) + 512 + 512 * k.val, 128] ∧ k0_off15 (grid0.coords t) k = ![512 * (t.val % 8) + 512 + 512 * k.val, 256] ∧ k0_off16 (grid0.coords t) k = ![512 * (t.val % 8) + 512 + 512 * k.val, 384])
    ∧ (k0_off17 (grid0.coords t) k = ![0, 0, 512 * (t.val % 8) + 512 + 512 * k.val] ∧ k0_off18 (grid0.coords t) k = ![0, 1, 512 * (t.val % 8) + 512 + 512 * k.val] ∧ k0_off19 (grid0.coords t) k = ![1, 0, 512 * (t.val % 8) + 512 + 512 * k.val] ∧ k0_off20 (grid0.coords t) k = ![1, 1, 512 * (t.val % 8) + 512 + 512 * k.val])
    ∧ (k0_off21 (grid0.coords t) k = ![0, 512 * (t.val % 8) + 512 + 512 * k.val] ∧ k0_off22 (grid0.coords t) k = ![128, 512 * (t.val % 8) + 512 + 512 * k.val] ∧ k0_off23 (grid0.coords t) k = ![256, 512 * (t.val % 8) + 512 + 512 * k.val] ∧ k0_off24 (grid0.coords t) k = ![384, 512 * (t.val % 8) + 512 + 512 * k.val]) := by decide +kernel

theorem loop_offs (t : Fin cfg0.N) (k : Fin (k0_t1_loop (grid0.coords t)).trips) : Offs (grid0.coords t) k (512 * (t.val % 8) + 512 + 512 * k.val) := by
  obtain ⟨⟨q0, q1, q2, q3⟩, ⟨l0, l1, l2, l3⟩, a0, a1, a2, a3⟩ := loop_offs_all t k
  exact ⟨q0, l0, a0, q1, l1, a1, q2, l2, a2, q3, l3, a3⟩

/-- The score scale's word. -/
def w : ℝ := 13698540 * (2 : ℝ) ^ (-27 : ℤ)
theorem lit_w : (Ideal.ofBits .f32 0x3DD105EC#32 : EReal) = ((w : ℝ) : EReal) := by
  show Ideal.ieee 8 23 (0x3DD105EC#32) = _
  simp [Ideal.ieee, w]
def ln2 : ℝ := Real.log 2
theorem named_ln2 : (Named.named κ "ln2" 0x3F317218#32 : Ideal .f32) = ((ln2 : ℝ) : EReal) := IdealRules.named_const.ideal_named_scalar _ _ _ _ rfl

theorem lane_lt (x : Fin 128) : IntOp.cmpi CmpIPredicate.slt (BitVec.ofNat 32 x.val) 64#32 = if x.val < 64 then 1#1 else 0#1 := by revert x; decide +kernel
theorem lane_in (x : Fin 128) : IntOp.andi (IntOp.cmpi CmpIPredicate.sge (BitVec.ofNat 32 x.val) 64#32) (IntOp.cmpi CmpIPredicate.slt (BitVec.ofNat 32 x.val) 96#32) = if 64 ≤ x.val ∧ x.val < 96 then 1#1 else 0#1 := by revert x; decide +kernel
theorem pick (p : Prop) [Decidable p] (a b : EReal) : (Scalar.select (if p then 1#1 else 0#1) a b : EReal) = if p then a else b := by
  by_cases h : p
  · rw [if_pos h, if_pos h]; exact if_pos rfl
  · rw [if_neg h, if_neg h]; exact if_neg (by decide)

theorem keys_piece (a b : FVec Ideal S512x128 .f32) (α β : Fin 512 → Fin 128 → ℝ) (ha : ∀ r x, a (ix2 r x) = ((α r x : ℝ) : EReal)) (hb : ∀ r x, b (ix2 r x) = ((β r x : ℝ) : EReal)) (r : Fin 512) (x : Fin 128) :
    k0_pay159 (iota .tc S512x128 32 [1] iota_S512x128_d1_w32) a b (ix2 r x) = (((if x.val < 64 then α r x * ln2 else β r x) : ℝ) : EReal) := by
  pointwise [k0_pay159, k0_pay158]
  refine (congrArg (fun c => (Scalar.select c _ _ : EReal)) (lane_lt x)).trans ((pick _ _ _).trans ?_)
  split_ifs
  · rw [ha]; exact (congrArg _ named_ln2).trans (EReal.coe_mul _ _).symm
  · exact hb r x
theorem rope_piece (a0 a1 a2 a3 : FVec Ideal S512x128 .f32) (α : Fin 4 → Fin 512 → Fin 128 → ℝ) (h0 : ∀ r x, a0 (ix2 r x) = ((α 0 r x : ℝ) : EReal)) (h1 : ∀ r x, a1 (ix2 r x) = ((α 1 r x : ℝ) : EReal))
    (h2 : ∀ r x, a2 (ix2 r x) = ((α 2 r x : ℝ) : EReal)) (h3 : ∀ r x, a3 (ix2 r x) = ((α 3 r x : ℝ) : EReal)) (r : Fin 512) (x : Fin 128) :
    k0_pay5 (iota .tc S512x128 32 [1] iota_S512x128_d1_w32) a2 a3 (k0_pay162 a0 a1) (ix3 0 r x) = (((if 64 ≤ x.val ∧ x.val < 96 then ∑ n, α n r x * ln2 else 0) : ℝ) : EReal) := by
  pointwise [k0_pay5, k0_pay162, k0_pay158, k0_pay160, k0_pay1, k0_pay3]
  refine (congrArg (fun c => (Scalar.select c _ _ : EReal)) (lane_in x)).trans ((pick _ _ _).trans ?_)
  split_ifs
  · rw [h0, h1, h2, h3, named_ln2, Fin.sum_univ_four]
    simp only [← EReal.coe_mul, ← EReal.coe_add]
  · rfl
theorem query_piece (X : FVec Ideal S512x4096 .f32) (α : Fin 512 → Fin 4096 → ℝ) (h : ∀ r x, X (ix2 r x) = ((α r x : ℝ) : EReal)) (r : Fin 512) (ρ : Fin 4096) :
    (k0_pay6 X : FVec Ideal S4096x512 .bf16) (ix2 ρ r) = ((α r ρ * w : ℝ) : EReal) := by
  pointwise [k0_pay6]
  rw [lit_w, h, ← EReal.coe_mul]

theorem hit7 (v : View sig .tc .vmem S512x512 .bf16) (f : BufTy.Contents (Elt Ideal) v.ty) (c : ℕ) (h : ∀ b, (![0, c] : Fin 2 → ℕ) b + S512x128.size b ≤ S512x512.size b) (u : FVec Ideal S512x128 .bf16)
    (L : List (View.Piece (Elt Ideal) S512x512 .bf16)) (n : Fin 4) (hc : 128 * n.val = c) (r : Fin 512) (x : Fin 128) :
    (v.read (Elt Ideal) (v.writes (Elt Ideal) f (⟨Rect.unit (s := S512x512) ![0, c] S512x128.size h, u⟩ :: L)) : FVec Ideal S512x512 .bf16) (ix2 r ⟨128 * n.val + x.val, by omega⟩) = u (ix2 r x) := by
  refine View.read_writes_cons_unit_of_mem (Val := Elt Ideal) (v := v) f h u L _ (ix2 r x) rfl fun b => ?_
  subst hc
  fin_cases b
  · exact (Nat.zero_add _).symm
  · rfl
theorem miss7 (v : View sig .tc .vmem S512x512 .bf16) (f : BufTy.Contents (Elt Ideal) v.ty) (c : ℕ) (h : ∀ b, (![0, c] : Fin 2 → ℕ) b + S512x128.size b ≤ S512x512.size b) (u : FVec Ideal S512x128 .bf16)
    (L : List (View.Piece (Elt Ideal) S512x512 .bf16)) (n : Fin 4) (hc : 128 * n.val + 128 ≤ c) (r : Fin 512) (x : Fin 128) :
    (v.read (Elt Ideal) (v.writes (Elt Ideal) f (⟨Rect.unit (s := S512x512) ![0, c] S512x128.size h, u⟩ :: L)) : FVec Ideal S512x512 .bf16) (ix2 r ⟨128 * n.val + x.val, by omega⟩)
      = (v.read (Elt Ideal) (v.writes (Elt Ideal) f L) : FVec Ideal S512x512 .bf16) (ix2 r ⟨128 * n.val + x.val, by omega⟩) :=
  View.read_writes_cons_unit_of_not_mem _ _ _ _ _ _ rfl 1 (.inl (show 128 * n.val + x.val < c by omega))

theorem L7_read (v : View sig .tc .vmem S512x512 .bf16) (f : BufTy.Contents (Elt Ideal) v.ty) (H : HD) (a A X acc) (hI : Inv H a A 4096 acc X) (n : Fin 4) (r : Fin 512) (x : Fin 128) :
    (v.read (Elt Ideal) (v.writes (Elt Ideal) f (L7of acc)) : FVec Ideal S512x512 .bf16) (ix2 r ⟨128 * n.val + x.val, by omega⟩) = (((if x.val < 64 then H.dk n 4096 r x * ln2 else H.dv n 4096 r x) : ℝ) : EReal) := by
  match n with
  | 0 => exact (miss7 v f 384 _ _ _ 0 (by decide) r x).trans ((miss7 v f 256 _ _ _ 0 (by decide) r x).trans ((miss7 v f 128 _ _ _ 0 (by decide) r x).trans ((hit7 v f 0 _ _ _ 0 rfl r x).trans (keys_piece _ _ (H.dk 0 4096) (H.dv 0 4096) hI.k0 hI.v0 r x))))
  | 1 => exact (miss7 v f 384 _ _ _ 1 (by decide) r x).trans ((miss7 v f 256 _ _ _ 1 (by decide) r x).trans ((hit7 v f 128 _ _ _ 1 rfl r x).trans (keys_piece _ _ (H.dk 1 4096) (H.dv 1 4096) hI.k1 hI.v1 r x)))
  | 2 => exact (miss7 v f 384 _ _ _ 2 (by decide) r x).trans ((hit7 v f 256 _ _ _ 2 rfl r x).trans (keys_piece _ _ (H.dk 2 4096) (H.dv 2 4096) hI.k2 hI.v2 r x))
  | 3 => exact (hit7 v f 384 _ _ _ 3 rfl r x).trans (keys_piece _ _ (H.dk 3 4096) (H.dv 3 4096) hI.k3 hI.v3 r x)

theorem L8_read (v : View sig .tc .vmem S1x512x128 .f32) (f : BufTy.Contents (Elt Ideal) v.ty) (H : HD) (a A X acc) (hI : Inv H a A 4096 acc X) (r : Fin 512) (x : Fin 128) :
    (v.read (Elt Ideal) (v.writes (Elt Ideal) f (L8of acc)) : FVec Ideal S1x512x128 .f32) (ix3 0 r x) = (((if 64 ≤ x.val ∧ x.val < 96 then ∑ n, H.dk n 4096 r x * ln2 else 0) : ℝ) : EReal) := by
  refine (View.read_writes_cons_unit_of_mem (Val := Elt Ideal) (v := v) f inb_S1x512x128_S1x512x128_0_0_0 _ [] (ix3 0 r x) (ix3 0 r x) rfl fun b => ?_).trans (rope_piece _ _ _ _ (fun n => H.dk n 4096) hI.k0 hI.k1 hI.k2 hI.k3 r x)
  fin_cases b <;> exact (Nat.zero_add _).symm

theorem L6_read (v : View sig .tc .vmem S4096x512 .bf16) (f : BufTy.Contents (Elt Ideal) v.ty) (a : Memref sig .tc .vmem S512x4096 .f32) (X : BufTy.Contents (Elt Ideal) a.view.ty) (α : Fin 4 → Fin 128 → ℕ → ℝ)
    (h : ∀ (n : Fin 4) (x : Fin 128) (ρ : Fin 4096), accAt a X n x ρ = ((α n x ρ.val : ℝ) : EReal)) (n : Fin 4) (x : Fin 128) (ρ : Fin 4096) :
    (v.read (Elt Ideal) (v.writes (Elt Ideal) f (L6of a X)) : FVec Ideal S4096x512 .bf16) (ix2 ρ ⟨128 * n.val + x.val, by omega⟩) = ((α n x ρ.val * w : ℝ) : EReal) := by
  refine (View.read_writes_cons_unit_of_mem (Val := Elt Ideal) (v := v) f inb_S4096x512_S4096x512_0_0 _ [] (ix2 ρ ⟨128 * n.val + x.val, by omega⟩) (ix2 ρ ⟨128 * n.val + x.val, by omega⟩) rfl fun b => ?_).trans ?_
  · fin_cases b <;> exact (Nat.zero_add _).symm
  · pointwise [k0_pay6]
    rw [lit_w, View.readAt_eq_ld]
    refine (congrArg (· * ((w : ℝ) : EReal)) ((View.ld_unit_apply_of (Val := Elt Ideal) (S := S512x4096) (e := .f32) _ _ _ inb_S512x4096_S512x4096_0_0 _ (ix2 ⟨128 * n.val + x.val, by omega⟩ ρ) fun b => ?_).trans (h n x ρ))).trans (EReal.coe_mul _ _).symm
    fin_cases b <;> exact (Nat.zero_add _).symm

end Cert.AttnBwdIdeal.Gen
-- ==== Proof.AttnGrid.lean ====
module

public import proofs.«01_k».proof.Proof.AttnPoint
public import proofs.«01_k».proof.Proof.AttnFrameIdeal
public import Idealize.ShloMosaic.Lib.Pipeline.ValueKit
public import Idealize.ShloMosaic.Lib.Pipeline.ReadBack
public import Idealize.ShloMosaic.Lib.Tactic.CleanTypes
public import Idealize.ShloMosaic.Lib.Pipeline.ValueKit
public import Idealize.ShloMosaic.Lib.Pipeline.ReadBack
public import Idealize.ShloMosaic.Lib.WritesUnit
public import Idealize.ShloMosaic.Lib.Tactic.Stretches

@[expose] public section

set_option maxRecDepth 16384

noncomputable section

namespace Cert.AttnBwdIdeal.Gen

open Idealize.ShloMosaic Idealize.ShloMosaic.TcCoe Idealize.SL.Sem
open Cert.Lift
open scoped BigOperators

/-! The whole grid. -/

/-- The reals the kernel's arrays hold, by head and position. -/
structure Data where
  k : ℕ → ℕ → Fin 128 → ℝ
  v : ℕ → ℕ → Fin 128 → ℝ
  q : ℕ → ℕ → Fin 128 → ℝ
  o : ℕ → ℕ → Fin 128 → ℝ
  l : ℕ → ℕ → ℝ
  d : ℕ → ℕ → ℝ

/-- Point `t`'s share of them: four heads, and 512 keys. -/
def Data.hd (D : Data) (t : ℕ) : HD where
  k n r x := D.k (4 * (t / 8) + n.val) (512 * (t % 8) + r.val) x
  v n r x := D.v (4 * (t / 8) + n.val) (512 * (t % 8) + r.val) x
  q n ρ x := D.q (4 * (t / 8) + n.val) ρ x
  o n ρ x := D.o (4 * (t / 8) + n.val) ρ x
  l n ρ := D.l (4 * (t / 8) + n.val) ρ
  d n ρ := D.d (4 * (t / 8) + n.val) ρ
  e0 := 512 * (t % 8)

theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![t.val / 8, 0, 0] ∧ win0_5.index t = ![t.val / 8, 0, 0]
    ∧ win0_6.index t = ![0, t.val / 8] ∧ win0_7.index t = ![t.val % 8, t.val / 8] ∧ win0_8.index t = ![t.val / 8, t.val % 8, 0] :=
  (by decide +kernel : ∀ t : Fin grid0.N, _)

theorem lt16 (t : Fin cfg0.N) : t.val < 16 := lt_of_lt_of_eq t.isLt N_0

section Grid
variable (m : (ℓ : Loc nD τ sig) → Buf (Elt Ideal) ℓ) (c : Dev nD)

/-- What the arrays the host prepares hold. -/
structure Host (D : Data) : Prop where
  q : ∀ (ρ : Fin 4096) (h : ℕ) (x : Fin 128) (hh : h < 8), (V m c main_v48 : FVec Ideal S4096x1024 .bf16) (ix2 ρ ⟨128 * h + x.val, by omega⟩) = ((D.q h ρ.val x : ℝ) : EReal)
  k : ∀ (ρ : Fin 4096) (h : ℕ) (x : Fin 128) (hh : h < 8), (V m c main_v49 : FVec Ideal S4096x1024 .bf16) (ix2 ρ ⟨128 * h + x.val, by omega⟩) = ((D.k h ρ.val x : ℝ) : EReal)
  v : ∀ (ρ : Fin 4096) (h : ℕ) (x : Fin 128) (hh : h < 8), (V m c main_v50 : FVec Ideal S4096x1024 .bf16) (ix2 ρ ⟨128 * h + x.val, by omega⟩) = ((D.v h ρ.val x : ℝ) : EReal)
  o : ∀ (ρ : Fin 4096) (h : ℕ) (x : Fin 128) (hh : h < 8), (V m c main_v51 : FVec Ideal S4096x1024 .bf16) (ix2 ρ ⟨128 * h + x.val, by omega⟩) = ((D.o h ρ.val x : ℝ) : EReal)
  l : ∀ (ρ : Fin 4096) (h : ℕ) (hh : h < 8), (V m c main_v52 : FVec Ideal S4x2x4096 .f32) (ix3 ⟨h / 2, by omega⟩ ⟨h % 2, by omega⟩ ρ) = ((D.l h ρ.val : ℝ) : EReal)
  d : ∀ (ρ : Fin 4096) (h : ℕ) (hh : h < 8), (V m c main_v53 : FVec Ideal S4x2x4096 .f32) (ix3 ⟨h / 2, by omega⟩ ⟨h % 2, by omega⟩ ρ) = ((D.d h ρ.val : ℝ) : EReal)

theorem blk_keys (D : Data) (hD : Host m c D) (t : Fin cfg0.N) (n : Fin 4) (r : Fin 512) (x : Fin 128) :
    (iblk m c 1 t : FVec Ideal S512x512 .bf16) (ix2 r ⟨128 * n.val + x.val, by omega⟩) = (((D.hd t.val).k n r x : ℝ) : EReal) := by
  have ht := lt16 t
  refine Eq.trans ?_ (hD.k ⟨512 * (t.val % 8) + r.val, by omega⟩ (4 * (t.val / 8) + n.val) x (by omega))
  blk_point [iblk, idx t]
theorem blk_vals (D : Data) (hD : Host m c D) (t : Fin cfg0.N) (n : Fin 4) (r : Fin 512) (x : Fin 128) :
    (iblk m c 2 t : FVec Ideal S512x512 .bf16) (ix2 r ⟨128 * n.val + x.val, by omega⟩) = (((D.hd t.val).v n r x : ℝ) : EReal) := by
  have ht := lt16 t
  refine Eq.trans ?_ (hD.v ⟨512 * (t.val % 8) + r.val, by omega⟩ (4 * (t.val / 8) + n.val) x (by omega))
  blk_point [iblk, idx t]
theorem blk_quer (D : Data) (hD : Host m c D) (t : Fin cfg0.N) (n : Fin 4) (ρ : Fin 4096) (x : Fin 128) :
    (iblk m c 0 t : FVec Ideal S4096x512 .bf16) (ix2 ρ ⟨128 * n.val + x.val, by omega⟩) = (((D.hd t.val).q n ρ.val x : ℝ) : EReal) := by
  have ht := lt16 t
  refine Eq.trans ?_ (hD.q ρ (4 * (t.val / 8) + n.val) x (by omega))
  blk_point [iblk, idx t]
theorem blk_outs (D : Data) (hD : Host m c D) (t : Fin cfg0.N) (n : Fin 4) (ρ : Fin 4096) (x : Fin 128) :
    (iblk m c 3 t : FVec Ideal S4096x512 .bf16) (ix2 ρ ⟨128 * n.val + x.val, by omega⟩) = (((D.hd t.val).o n ρ.val x : ℝ) : EReal) := by
  have ht := lt16 t
  refine Eq.trans ?_ (hD.o ρ (4 * (t.val / 8) + n.val) x (by omega))
  blk_point [iblk, idx t]
theorem geo_lse (t : Fin cfg0.N) (W : FVec Ideal S4x2x4096 .f32) (a : Fin 2) (b : Fin 2) (ρ : Fin 4096) (h : 2 * (t.val / 8) + a.val < 4) :
    (((cfg0.win 4).blk t).view.read (Elt Ideal) W : FVec Ideal S2x2x4096 .f32) (ix3 a b ρ) = W (ix3 ⟨2 * (t.val / 8) + a.val, h⟩ b ρ) := by
  refine congrArg W ?_
  blk_ext [idx t]
theorem raw_lse (t : Fin cfg0.N) (a : Fin 2) (b : Fin 2) (ρ : Fin 4096) (h : 2 * (t.val / 8) + a.val < 4) :
    (iblk m c 4 t : FVec Ideal S2x2x4096 .f32) (ix3 a b ρ) = (V m c main_v52 : FVec Ideal S4x2x4096 .f32) (ix3 ⟨2 * (t.val / 8) + a.val, h⟩ b ρ) :=
  geo_lse t (V m c main_v52) a b ρ h
theorem blk_lse (D : Data) (hD : Host m c D) (t : Fin cfg0.N) (n : Fin 4) (ρ : Fin 4096) :
    (iblk m c 4 t : FVec Ideal S2x2x4096 .f32) (ix3 ⟨n.val / 2, by omega⟩ ⟨n.val % 2, by omega⟩ ρ) = (((D.hd t.val).l n ρ.val : ℝ) : EReal) := by
  have ht := lt16 t
  refine (raw_lse m c t _ _ ρ (by dsimp only; omega)).trans (Eq.trans (congrArg₂ (fun a b => (V m c main_v52 : FVec Ideal S4x2x4096 .f32) (ix3 a b ρ)) ?_ ?_) (hD.l ρ (4 * (t.val / 8) + n.val) (by omega)))
  · exact Fin.ext (by dsimp only; omega)
  · exact Fin.ext (by dsimp only; omega)

theorem geo_cap (t : Fin cfg0.N) (W : FVec Ideal S4x2x4096 .f32) (a : Fin 2) (b : Fin 2) (ρ : Fin 4096) (h : 2 * (t.val / 8) + a.val < 4) :
    (((cfg0.win 5).blk t).view.read (Elt Ideal) W : FVec Ideal S2x2x4096 .f32) (ix3 a b ρ) = W (ix3 ⟨2 * (t.val / 8) + a.val, h⟩ b ρ) := by
  refine congrArg W ?_
  blk_ext [idx t]
theorem raw_cap (t : Fin cfg0.N) (a : Fin 2) (b : Fin 2) (ρ : Fin 4096) (h : 2 * (t.val / 8) + a.val < 4) :
    (iblk m c 5 t : FVec Ideal S2x2x4096 .f32) (ix3 a b ρ) = (V m c main_v53 : FVec Ideal S4x2x4096 .f32) (ix3 ⟨2 * (t.val / 8) + a.val, h⟩ b ρ) :=
  geo_cap t (V m c main_v53) a b ρ h
theorem blk_cap (D : Data) (hD : Host m c D) (t : Fin cfg0.N) (n : Fin 4) (ρ : Fin 4096) :
    (iblk m c 5 t : FVec Ideal S2x2x4096 .f32) (ix3 ⟨n.val / 2, by omega⟩ ⟨n.val % 2, by omega⟩ ρ) = (((D.hd t.val).d n ρ.val : ℝ) : EReal) := by
  have ht := lt16 t
  refine (raw_cap m c t _ _ ρ (by dsimp only; omega)).trans (Eq.trans (congrArg₂ (fun a b => (V m c main_v53 : FVec Ideal S4x2x4096 .f32) (ix3 a b ρ)) ?_ ?_) (hD.d ρ (4 * (t.val / 8) + n.val) (by omega)))
  · exact Fin.ext (by dsimp only; omega)
  · exact Fin.ext (by dsimp only; omega)

theorem keys_of (D : Data) (hD : Host m c D) (t : Fin cfg0.N) : Keys (D.hd t.val) (iblk m c 1 t) (iblk m c 2 t) where
  k0 := blk_keys m c D hD t 0
  k1 := blk_keys m c D hD t 1
  k2 := blk_keys m c D hD t 2
  k3 := blk_keys m c D hD t 3
  v0 := blk_vals m c D hD t 0
  v1 := blk_vals m c D hD t 1
  v2 := blk_vals m c D hD t 2
  v3 := blk_vals m c D hD t 3

theorem rows_of (D : Data) (hD : Host m c D) (t : Fin cfg0.N) :
    Rows (D.hd t.val) (ms0_0 t) (ms0_3 t) (ms0_4 t) (ms0_5 t) ((hs0_0 t).unread (iblk m c 0 t)) ((hs0_3 t).unread (iblk m c 3 t)) ((hs0_4 t).unread (iblk m c 4 t)) ((hs0_5 t).unread (iblk m c 5 t)) where
  q n ρ x := (congrFun ((hs0_0 t).read_unread _) _).trans (blk_quer m c D hD t n ρ x)
  o n ρ x := (congrFun ((hs0_3 t).read_unread _) _).trans (blk_outs m c D hD t n ρ x)
  l n ρ := (congrFun ((hs0_4 t).read_unread _) _).trans (blk_lse m c D hD t n ρ)
  d n ρ := (congrFun ((hs0_5 t).read_unread _) _).trans (blk_cap m c D hD t n ρ)

/-- What a point leaves, over the accumulator it finds. -/
theorem point_spec (D : Data) (hD : Host m c D) (t : Fin cfg0.N) (A : Fin 4 → Fin 128 → ℕ → ℝ) (xs : Vec Ideal S512x4096 .f32) (h0 : t.val % 8 = 0 → ∀ n x ρ, A n x ρ = 0)
    (hs : ¬t.val % 8 = 0 → ∀ (n : Fin 4) (x : Fin 128) (ρ : Fin 4096), xs (ix2 ⟨128 * n.val + x.val, by omega⟩ ρ) = ((A n x ρ.val : ℝ) : EReal)) :
    (∀ (n : Fin 4) (r : Fin 512) (x : Fin 128), ((point m c t xs).2.1 : FVec Ideal S512x512 .bf16) (ix2 r ⟨128 * n.val + x.val, by omega⟩)
        = (((if x.val < 64 then (D.hd t.val).dk n 4096 r x * ln2 else (D.hd t.val).dv n 4096 r x) : ℝ) : EReal))
    ∧ (∀ (r : Fin 512) (x : Fin 128), ((point m c t xs).2.2.1 : FVec Ideal S1x512x128 .f32) (ix3 0 r x) = (((if 64 ≤ x.val ∧ x.val < 96 then ∑ n, (D.hd t.val).dk n 4096 r x * ln2 else 0) : ℝ) : EReal))
    ∧ (∀ (n : Fin 4) (x : Fin 128) (ρ : Fin 4096), ((point m c t xs).2.2.2 : FVec Ideal S512x4096 .f32) (ix2 ⟨128 * n.val + x.val, by omega⟩ ρ) = ((A n x ρ.val + (D.hd t.val).dq n 4096 x ρ.val : ℝ) : EReal))
    ∧ (t.val % 8 = 7 → ∀ (n : Fin 4) (x : Fin 128) (ρ : Fin 4096), ((point m c t xs).1 : FVec Ideal S4096x512 .bf16) (ix2 ρ ⟨128 * n.val + x.val, by omega⟩) = (((A n x ρ.val + (D.hd t.val).dq n 4096 x ρ.val) * w : ℝ) : EReal)) := by
  have h64 : 64 ∣ (D.hd t.val).e0 := ⟨8 * (t.val % 8), by show 512 * (t.val % 8) = _; omega⟩
  have hT : (D.hd t.val).e0 + 512 + 512 * (k0_t1_loop (grid0.coords t)).trips = 4096 := by
    rw [k0_trips]; show 512 * (t.val % 8) + 512 + 512 * (7 - t.val % 8) = 4096; omega
  have hk := keys_of m c D hD t
  have hR := rows_of m c D hD t
  by_cases z : t.val % 8 = 0
  · obtain ⟨acc, e7, e8, hI⟩ := runA_inv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) ((hcond0_0 t).mpr z) (fun h => absurd ((hcond0_1 t).mp h) (by omega)) (D.hd t.val) h64 hk hR (first_offs t) (loop_offs t) hT
    rw [point_A m c t xs z (by omega)]
    refine ⟨fun n r x => ?_, fun r x => ?_, fun n x ρ => ?_, fun h => absurd h (by omega)⟩
    · dsimp only
      rw [e7]
      exact L7_read _ _ _ _ _ _ _ hI n r x
    · dsimp only
      rw [e8]
      exact L8_read _ _ _ _ _ _ _ hI r x
    · dsimp only
      rw [h0 z]
      exact hI.m n x ρ
  by_cases z1 : t.val % 8 = 7
  · obtain ⟨acc, e7, e8, hI, e6⟩ := runC_inv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) (fun h => z ((hcond0_0 t).mp h)) ((hcond0_1 t).mpr z1) (D.hd t.val) A h64 hk hR (first_offs t) (loop_offs t) hT xs (hs z)
    rw [point_C m c t xs z z1]
    refine ⟨fun n r x => ?_, fun r x => ?_, fun n x ρ => ?_, fun _ n x ρ => ?_⟩
    · dsimp only
      rw [e7]
      exact L7_read _ _ _ _ _ _ _ hI n r x
    · dsimp only
      rw [e8]
      exact L8_read _ _ _ _ _ _ _ hI r x
    · dsimp only
      exact hI.m n x ρ
    · dsimp only
      rw [e6]
      exact (L6_read _ _ _ _ (fun n x ρ => A n x ρ + (D.hd t.val).dq n 4096 x ρ) hI.m n x ρ)
  · obtain ⟨acc, e7, e8, hI⟩ := runB_inv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _)
      (iblk m c 0 t) (iblk m c 1 t) (iblk m c 2 t) (iblk m c 3 t) (iblk m c 4 t) (iblk m c 5 t) (fun h => z ((hcond0_0 t).mp h)) (fun h => z1 ((hcond0_1 t).mp h)) (D.hd t.val) A h64 hk hR (first_offs t) (loop_offs t) hT xs (hs z)
    rw [point_B m c t xs z z1]
    refine ⟨fun n r x => ?_, fun r x => ?_, fun n x ρ => ?_, fun h => absurd h z1⟩
    · dsimp only
      rw [e7]
      exact L7_read _ _ _ _ _ _ _ hI n r x
    · dsimp only
      rw [e8]
      exact L8_read _ _ _ _ _ _ _ hI r x
    · dsimp only
      exact hI.m n x ρ

/-- The queries' gradient over the key blocks up to point `t`'s. -/
def Data.acc (D : Data) (t : ℕ) (n : Fin 4) (x : Fin 128) (ρ : ℕ) : ℝ := ∑ j ∈ Finset.range (t % 8), (D.hd (8 * (t / 8) + j)).dq n 4096 x ρ

theorem acc_next (D : Data) (t : ℕ) (n : Fin 4) (x : Fin 128) (ρ : ℕ) (h : ¬(t + 1) % 8 = 0) : D.acc (t + 1) n x ρ = D.acc t n x ρ + (D.hd t).dq n 4096 x ρ := by
  unfold Data.acc
  rw [show (t + 1) % 8 = t % 8 + 1 by omega, show (t + 1) / 8 = t / 8 by omega, Finset.sum_range_succ, show 8 * (t / 8) + t % 8 = t by omega]
theorem acc_zero (D : Data) (t : ℕ) (h : t % 8 = 0) (n : Fin 4) (x : Fin 128) (ρ : ℕ) : D.acc t n x ρ = 0 := by
  rw [Data.acc, h, Finset.range_zero, Finset.sum_empty]

theorem scr_spec (D : Data) (hD : Host m c D) : ∀ (t : ℕ) (ht : t < cfg0.N) (n : Fin 4) (x : Fin 128) (ρ : Fin 4096),
    ((outsAt0 m c t ht).2.2.2 : FVec Ideal S512x4096 .f32) (ix2 ⟨128 * n.val + x.val, by omega⟩ ρ) = ((D.acc t n x ρ.val + (D.hd t).dq n 4096 x ρ.val : ℝ) : EReal) := by
  intro t
  induction t with
  | zero => exact fun ht => (point_spec m c D hD ⟨0, ht⟩ (D.acc 0) _ (fun _ => acc_zero D 0 rfl) (fun h => absurd rfl h)).2.2.1
  | succ t ih => exact fun ht => (point_spec m c D hD ⟨t + 1, ht⟩ (D.acc (t + 1)) _ (fun h => acc_zero D (t + 1) h) (fun h n x ρ => (ih (Nat.lt_of_succ_lt ht) n x ρ).trans (congrArg _ (acc_next D t n x ρ.val h).symm))).2.2.1

theorem scr_found (D : Data) (hD : Host m c D) (t : Fin cfg0.N) (h : ¬t.val % 8 = 0) (n : Fin 4) (x : Fin 128) (ρ : Fin 4096) :
    (scrAt m c t : FVec Ideal S512x4096 .f32) (ix2 ⟨128 * n.val + x.val, by omega⟩ ρ) = ((D.acc t.val n x ρ.val : ℝ) : EReal) := by
  obtain ⟨s, hs⟩ : ∃ s, t.val = s + 1 := ⟨t.val - 1, by omega⟩
  obtain ⟨t, ht⟩ := t
  subst hs
  exact (scr_spec m c D hD s (Nat.lt_of_succ_lt ht) n x ρ).trans (congrArg _ (acc_next D s n x ρ.val h).symm)

/-- The three results, of the reals the arrays hold. -/
def DQ (D : Data) : FVec Ideal S4096x1024 .bf16 := fun y => (((∑ j ∈ Finset.range 8, (D.hd (8 * ((y 1).val / 512) + j)).dq ⟨(y 1).val / 128 % 4, by omega⟩ 4096 ⟨(y 1).val % 128, by omega⟩ (y 0).val) * w : ℝ) : EReal)
def DKV (D : Data) : FVec Ideal S4096x1024 .bf16 := fun y => (((if (y 1).val % 128 < 64 then
    (D.hd (8 * ((y 1).val / 512) + (y 0).val / 512)).dk ⟨(y 1).val / 128 % 4, by omega⟩ 4096 ⟨(y 0).val % 512, by omega⟩ ⟨(y 1).val % 128, by omega⟩ * ln2
    else (D.hd (8 * ((y 1).val / 512) + (y 0).val / 512)).dv ⟨(y 1).val / 128 % 4, by omega⟩ 4096 ⟨(y 0).val % 512, by omega⟩ ⟨(y 1).val % 128, by omega⟩ : ℝ)) : EReal)
def DKR (D : Data) : FVec Ideal S2x4096x128 .f32 := fun y => (((if 64 ≤ (y 2).val ∧ (y 2).val < 96 then
    ∑ n, (D.hd (8 * (y 0).val + (y 1).val / 512)).dk n 4096 ⟨(y 1).val % 512, by omega⟩ ⟨(y 2).val, (y 2).isLt⟩ * ln2 else 0 : ℝ)) : EReal)

theorem dkv_point (D : Data) (hD : Host m c D) (t : Fin cfg0.N) (r k : Fin 512) :
    ((outsAt0 m c t.val t.isLt).2.1 : FVec Ideal S512x512 .bf16) (ix2 r k) = DKV D (ix2 ⟨512 * (t.val % 8) + r.val, by omega⟩ ⟨512 * (t.val / 8) + k.val, by have := lt16 t; omega⟩) := by
  have ht := lt16 t
  obtain ⟨n, x, rfl⟩ : ∃ (n : Fin 4) (x : Fin 128), k = ⟨128 * n.val + x.val, by omega⟩ := ⟨⟨k.val / 128, by omega⟩, ⟨k.val % 128, by omega⟩, Fin.ext (by dsimp only; omega)⟩
  rw [outsAt0_eq]
  refine ((point_spec m c D hD t (D.acc t.val) (scrAt m c t) (fun h => acc_zero D t.val h) (scr_found m c D hD t)).1 n r x).trans (congrArg _ ?_)
  have e1 : 8 * ((512 * (t.val / 8) + (128 * n.val + x.val)) / 512) + (512 * (t.val % 8) + r.val) / 512 = t.val := by omega
  have e2 : (512 * (t.val / 8) + (128 * n.val + x.val)) / 128 % 4 = n.val := by omega
  have e3 : (512 * (t.val / 8) + (128 * n.val + x.val)) % 128 = x.val := by omega
  have e4 : (512 * (t.val % 8) + r.val) % 512 = r.val := by omega
  show _ = (if (512 * (t.val / 8) + (128 * n.val + x.val)) % 128 < 64 then
    (D.hd (8 * ((512 * (t.val / 8) + (128 * n.val + x.val)) / 512) + (512 * (t.val % 8) + r.val) / 512)).dk ⟨(512 * (t.val / 8) + (128 * n.val + x.val)) / 128 % 4, _⟩ 4096 ⟨(512 * (t.val % 8) + r.val) % 512, _⟩ ⟨(512 * (t.val / 8) + (128 * n.val + x.val)) % 128, _⟩ * ln2
    else (D.hd (8 * ((512 * (t.val / 8) + (128 * n.val + x.val)) / 512) + (512 * (t.val % 8) + r.val) / 512)).dv ⟨(512 * (t.val / 8) + (128 * n.val + x.val)) / 128 % 4, _⟩ 4096 ⟨(512 * (t.val % 8) + r.val) % 512, _⟩ ⟨(512 * (t.val / 8) + (128 * n.val + x.val)) % 128, _⟩)
  simp only [e1, e2, e3, e4]

theorem final_dkv (D : Data) (hD : Host m c D) : (dats m 0 c).arrAt 7 (cfgs 0).N = DKV D := by
  refine (dats m 0 c).arrAt_eq_of_covers 7 _ (by decide +kernel) fun t _ y => ?_
  have key : ∀ y : S512x512.Idx, ((outsAt0 m c t.val t.isLt).2.1 : FVec Ideal S512x512 .bf16) y = DKV D ((win0_7.blk t).view.emb y) := fun y => by
    idx_vars y
    refine (dkv_point m c D hD t _ _).trans (congrArg (DKV D) ?_)
    blk_ext [idx t]
  blk_simp
  rw [after0_7]
  exact key y

theorem dkr_point (D : Data) (hD : Host m c D) (t : Fin cfg0.N) (r : Fin 512) (x : Fin 128) :
    ((outsAt0 m c t.val t.isLt).2.2.1 : FVec Ideal S1x512x128 .f32) (ix3 0 r x) = DKR D (ix3 ⟨t.val / 8, by have := lt16 t; omega⟩ ⟨512 * (t.val % 8) + r.val, by omega⟩ x) := by
  have ht := lt16 t
  rw [outsAt0_eq]
  refine ((point_spec m c D hD t (D.acc t.val) (scrAt m c t) (fun h => acc_zero D t.val h) (scr_found m c D hD t)).2.1 r x).trans (congrArg _ ?_)
  have e1 : 8 * (t.val / 8) + (512 * (t.val % 8) + r.val) / 512 = t.val := by omega
  have e4 : (512 * (t.val % 8) + r.val) % 512 = r.val := by omega
  show _ = (if 64 ≤ x.val ∧ x.val < 96 then ∑ n, (D.hd (8 * (t.val / 8) + (512 * (t.val % 8) + r.val) / 512)).dk n 4096 ⟨(512 * (t.val % 8) + r.val) % 512, _⟩ ⟨x.val, _⟩ * ln2 else 0)
  simp only [e1, e4]

theorem final_dkr (D : Data) (hD : Host m c D) : (dats m 0 c).arrAt 8 (cfgs 0).N = DKR D := by
  refine (dats m 0 c).arrAt_eq_of_covers 8 _ (by decide +kernel) fun t _ y => ?_
  have key : ∀ y : S1x512x128.Idx, ((outsAt0 m c t.val t.isLt).2.2.1 : FVec Ideal S1x512x128 .f32) y = DKR D ((win0_8.blk t).view.emb y) := fun y => by
    idx_vars y
    obtain rfl : y0 = 0 := Subsingleton.elim (α := Fin 1) _ _
    refine (dkr_point m c D hD t _ _).trans (congrArg (DKR D) ?_)
    blk_ext [idx t]
  blk_simp
  rw [after0_8]
  exact key y

theorem dq_point (D : Data) (hD : Host m c D) (t : Fin cfg0.N) (h7 : t.val % 8 = 7) (ρ : Fin 4096) (k : Fin 512) :
    ((outsAt0 m c t.val t.isLt).1 : FVec Ideal S4096x512 .bf16) (ix2 ρ k) = DQ D (ix2 ρ ⟨512 * (t.val / 8) + k.val, by have := lt16 t; omega⟩) := by
  have ht := lt16 t
  obtain ⟨n, x, rfl⟩ : ∃ (n : Fin 4) (x : Fin 128), k = ⟨128 * n.val + x.val, by omega⟩ := ⟨⟨k.val / 128, by omega⟩, ⟨k.val % 128, by omega⟩, Fin.ext (by dsimp only; omega)⟩
  rw [outsAt0_eq]
  refine ((point_spec m c D hD t (D.acc t.val) (scrAt m c t) (fun h => acc_zero D t.val h) (scr_found m c D hD t)).2.2.2 h7 n x ρ).trans (congrArg _ ?_)
  have e1 : 8 * ((512 * (t.val / 8) + (128 * n.val + x.val)) / 512) = 8 * (t.val / 8) := by omega
  have e2 : (512 * (t.val / 8) + (128 * n.val + x.val)) / 128 % 4 = n.val := by omega
  have e3 : (512 * (t.val / 8) + (128 * n.val + x.val)) % 128 = x.val := by omega
  show _ = (∑ j ∈ Finset.range 8, (D.hd (8 * ((512 * (t.val / 8) + (128 * n.val + x.val)) / 512) + j)).dq ⟨(512 * (t.val / 8) + (128 * n.val + x.val)) / 128 % 4, _⟩ 4096 ⟨(512 * (t.val / 8) + (128 * n.val + x.val)) % 128, _⟩ ρ.val) * w
  simp only [e1, e2, e3]
  rw [Finset.sum_range_succ, Data.acc, h7, show 8 * (t.val / 8) + 7 = t.val by omega]

theorem final_dq (D : Data) (hD : Host m c D) : (dats m 0 c).arrAt 6 (cfgs 0).N = DQ D := by
  refine (dats m 0 c).arrAt_eq_of_covers 6 _ (by decide +kernel) fun t hf y => ?_
  have h7 : t.val % 8 = 7 := (by decide +kernel : ∀ t : Fin grid0.N, (cfg0.win 6).flush t = true → t.val % 8 = 7) t hf
  have key : ∀ y : S4096x512.Idx, ((outsAt0 m c t.val t.isLt).1 : FVec Ideal S4096x512 .bf16) y = DQ D ((win0_6.blk t).view.emb y) := fun y => by
    idx_vars y
    refine (dq_point m c D hD t h7 _ _).trans (congrArg (DQ D) ?_)
    blk_ext [idx t]
  blk_simp
  rw [after0_6]
  exact key y
end Grid

end Cert.AttnBwdIdeal.Gen
-- ==== Proof.AttnPlain.lean ====
module

public import proofs.«01_k».proof.Proof.Lift
public import Idealize.ShloMosaic.Lib.WordCmp

@[expose] public section

set_option maxRecDepth 16384

noncomputable section

namespace Cert.Attn

open Idealize.ShloMosaic
open Cert.Lift
open scoped BigOperators

/-! Attention's gradients as plain formulas over the reals. -/

/-- The inputs, the output's cotangent, and the scores' scale. -/
structure Inp where
  qn : Fin 4096 → Fin 8 → Fin 64 → ℝ
  qr : Fin 4096 → Fin 8 → Fin 32 → ℝ
  kn : Fin 4096 → Fin 8 → Fin 64 → ℝ
  kr : Fin 4096 → Fin 32 → ℝ
  v : Fin 4096 → Fin 8 → Fin 64 → ℝ
  o : Fin 4096 → Fin 8 → Fin 64 → ℝ
  w : ℝ

/-- 64 lanes, the 32 rotary ones, and zeros. -/
def pad3 (f : Fin 64 → ℝ) (g : Fin 32 → ℝ) (x : Fin 128) : ℝ :=
  if h : x.val < 64 then f ⟨x.val, h⟩ else if h : x.val < 96 then g ⟨x.val - 64, by omega⟩ else 0
/-- 64 lanes of `c`, then the others. -/
def pad1 (c : ℝ) (f : Fin 64 → ℝ) (x : Fin 128) : ℝ := if h : x.val < 64 then c else f ⟨x.val - 64, by omega⟩

theorem sum_pad3 (f f' : Fin 64 → ℝ) (g g' : Fin 32 → ℝ) : ∑ x, pad3 f g x * pad3 f' g' x = ∑ d, f d * f' d + ∑ d, g d * g' d := by
  rw [sum_split 96 32 (rfl : 128 = 96 + 32), sum_split 64 32 (rfl : 96 = 64 + 32)]
  have e0 : ∀ d : Fin 64, pad3 f g ⟨d.val, by omega⟩ * pad3 f' g' ⟨d.val, by omega⟩ = f d * f' d := fun d => by simp [pad3]
  have e1 : ∀ d : Fin 32, pad3 f g ⟨64 + d.val, by omega⟩ * pad3 f' g' ⟨64 + d.val, by omega⟩ = g d * g' d := fun d => by
    have h : 64 + d.val < 96 := by omega
    simp [pad3, h]
  have e2 : ∀ d : Fin 32, pad3 f g ⟨96 + d.val, by omega⟩ * pad3 f' g' ⟨96 + d.val, by omega⟩ = 0 := fun d => by
    have h : ¬ 96 + d.val < 96 := by omega
    have h' : ¬ 96 + d.val < 64 := by omega
    simp [pad3, h, h']
  have s0 := Finset.sum_congr rfl fun d (_ : d ∈ Finset.univ) => e0 d
  have s1 := Finset.sum_congr rfl fun d (_ : d ∈ Finset.univ) => e1 d
  have s2 := Finset.sum_congr rfl fun d (_ : d ∈ Finset.univ) => e2 d
  refine (congrArg₂ _ (congrArg₂ _ s0 s1) s2).trans ?_
  simp

theorem sum_pad1 (c : ℝ) (f g : Fin 64 → ℝ) : ∑ x, pad1 c f x * pad1 0 g x = ∑ d, f d * g d := by
  rw [sum_split 64 64 rfl]
  have e0 : ∀ d : Fin 64, pad1 c f ⟨d.val, by omega⟩ * pad1 0 g ⟨d.val, by omega⟩ = 0 := fun d => by simp [pad1]
  have e1 : ∀ d : Fin 64, pad1 c f ⟨64 + d.val, by omega⟩ * pad1 0 g ⟨64 + d.val, by omega⟩ = f d * g d := fun d => by simp [pad1]
  have s0 := Finset.sum_congr rfl fun d (_ : d ∈ Finset.univ) => e0 d
  have s1 := Finset.sum_congr rfl fun d (_ : d ∈ Finset.univ) => e1 d
  refine (congrArg₂ _ s0 s1).trans ?_
  simp

namespace Inp
variable (I : Inp) (h : Fin 8) (q k : Fin 4096)
/-- The score of key `k` for query `q`. -/
def sc : ℝ := (∑ d, I.qn q h d * I.kn k h d + ∑ d, I.qr q h d * I.kr k d) * I.w
/-- Its exponential, zero out of reach. -/
def E : ℝ := if k.val / 64 ≤ q.val / 64 then Real.exp (I.sc h q k) else 0
def Z : ℝ := ∑ k, I.E h q k
/-- The probability. -/
def P : ℝ := I.E h q k / I.Z h q
/-- The probability's gradient. -/
def D : ℝ := ∑ d, I.o q h d * I.v k h d
def cap : ℝ := ∑ k, I.P h q k * I.D h q k
/-- The score's gradient. -/
def G : ℝ := I.P h q k * (I.D h q k - I.cap h q)
/-- The queries' gradient. -/
def gq (x : Fin 128) : ℝ := (∑ k, I.G h q k * pad3 (I.kn k h) (I.kr k) x) * I.w
/-- The keys' gradient, lanes and rotary lanes. -/
def gk (x : Fin 128) : ℝ := (∑ q, I.G h q k * pad3 (I.qn q h) (I.qr q h) x) * I.w
/-- The values' gradient. -/
def gv (d : Fin 64) : ℝ := ∑ q, I.P h q k * I.o q h d

theorem E_nonneg : 0 ≤ I.E h q k := by unfold E; split <;> positivity
theorem Z_pos : 0 < I.Z h q :=
  lt_of_lt_of_le (show 0 < I.E h q q by rw [E, if_pos le_rfl]; positivity) (Finset.single_le_sum (f := fun k => I.E h q k) (fun k _ => I.E_nonneg h q k) (Finset.mem_univ q))
theorem Z_ne : I.Z h q ≠ 0 := (I.Z_pos h q).ne'
end Inp

/-! A row's maximum, where some entry is finite and the others are finite or minus infinity. -/

theorem fold_max_real {n : ℕ} (f : Fin n → EReal) (hf : ∀ i, f i ≠ ⊤) (i : Fin n) (hi : f i ≠ ⊥) :
    ∃ M : ℝ, (Finset.univ : Finset (Fin n)).fold max ⊥ f = (M : EReal) := by
  have top : ∀ s : Finset (Fin n), s.fold max ⊥ f ≠ ⊤ := fun s => by
    induction s using Finset.induction_on with
    | empty => simp
    | insert a s ha ih => rw [Finset.fold_insert ha]; rcases max_choice (f a) (s.fold max ⊥ f) with e | e <;> rw [e]; exacts [hf a, ih]
  have bot : (Finset.univ : Finset (Fin n)).fold max ⊥ f ≠ ⊥ := fun e =>
    hi (le_bot_iff.mp (e ▸ (Finset.le_fold_max (f := f) (b := ⊥) (s := Finset.univ) (f i)).mpr (Or.inr ⟨i, Finset.mem_univ i, le_rfl⟩)))
  exact ⟨_, (EReal.coe_toReal (top _) bot).symm⟩

theorem lit_bot : Ideal.ofBits .f32 0xFF800000#32 = ⊥ := by
  show Ideal.ieee 8 23 (0xFF800000#32) = _
  simp [Ideal.ieee]

theorem lit_one : Ideal.ofBits .f32 0x3F800000#32 = ((1 : ℝ) : EReal) := by
  show Ideal.ieee 8 23 (0x3F800000#32) = _
  simp [Ideal.ieee]
  rw [← EReal.coe_mul]
  norm_num

theorem lit_two : Ideal.ofBits .f32 0x40000000#32 = ((2 : ℝ) : EReal) := by
  show Ideal.ieee 8 23 (0x40000000#32) = _
  simp [Ideal.ieee]
  rw [← EReal.coe_mul]
  norm_num

end Cert.Attn

end
-- ==== Proof.AttnMath.lean ====
module

public import proofs.«01_k».proof.Proof.AttnGrid
public import proofs.«01_k».proof.Proof.AttnPlain

@[expose] public section

set_option maxRecDepth 16384

noncomputable section

namespace Cert.AttnBwdIdeal.Gen

open Idealize.ShloMosaic Idealize.ShloMosaic.TcCoe Idealize.SL.Sem
open Cert.Lift Cert.Attn
open scoped BigOperators

/-! The kernel's sums are the plain formulas. -/

/-- Head `h` and position `ρ`, as the inputs' indices. -/
def hh (h : ℕ) : Fin 8 := ⟨h % 8, by omega⟩
def pp (ρ : ℕ) : Fin 4096 := ⟨ρ % 4096, by omega⟩
theorem hh_of (h : ℕ) (H : h < 8) : hh h = ⟨h, H⟩ := Fin.ext (Nat.mod_eq_of_lt H)
theorem pp_of (ρ : ℕ) (H : ρ < 4096) : pp ρ = ⟨ρ, H⟩ := Fin.ext (Nat.mod_eq_of_lt H)

/-- What the host prepares from the inputs. -/
def dataOf (I : Inp) : Data where
  k h ρ x := pad3 (I.kn (pp ρ) (hh h)) (I.kr (pp ρ)) x
  v h ρ x := pad1 1 (I.v (pp ρ) (hh h)) x
  q h ρ x := pad3 (I.qn (pp ρ) (hh h)) (I.qr (pp ρ) (hh h)) x * (I.w / ln2)
  o h ρ x := pad1 0 (I.o (pp ρ) (hh h)) x
  l h ρ := Real.log (I.Z (hh h) (pp ρ)) / ln2
  d h ρ := I.cap (hh h) (pp ρ)

theorem ln2_pos : 0 < ln2 := Real.log_pos (by norm_num)

theorem rpow_two (x : ℝ) : Real.rpow 2 x = Real.exp (ln2 * x) := Real.rpow_def_of_pos (by norm_num) x

variable (I : Inp)

theorem p_of (t : ℕ) (n : Fin 4) (r : Fin 512) (ρ : ℕ) (hρ : ρ < 4096) :
    ((dataOf I).hd t).p n r ρ = I.P (hh (4 * (t / 8) + n.val)) (pp ρ) (pp (512 * (t % 8) + r.val)) := by
  have hκ : 512 * (t % 8) + r.val < 4096 := by omega
  have e := Inp.Z_ne I (hh (4 * (t / 8) + n.val)) (pp ρ)
  have l := ln2_pos.ne'
  rw [HD.p, Inp.P, Inp.E, pp_of _ hρ, pp_of _ hκ]
  show (if (512 * (t % 8) + r.val) / 64 ≤ ρ / 64 then _ else _) = _
  by_cases hc : (512 * (t % 8) + r.val) / 64 ≤ ρ / 64
  · rw [if_pos hc, if_pos hc, rpow_two]
    have e1 : ∑ x, ((dataOf I).hd t).k n r x * ((dataOf I).hd t).q n ρ x = I.sc (hh (4 * (t / 8) + n.val)) ⟨ρ, hρ⟩ ⟨512 * (t % 8) + r.val, hκ⟩ / ln2 := by
      rw [Inp.sc, mul_div_assoc, ← sum_pad3, Finset.sum_mul]
      refine Finset.sum_congr rfl fun x _ => ?_
      show pad3 (I.kn (pp (512 * (t % 8) + r.val)) _) (I.kr (pp (512 * (t % 8) + r.val))) x * (pad3 (I.qn (pp ρ) _) (I.qr (pp ρ) _) x * (I.w / ln2)) = _
      rw [pp_of _ hρ, pp_of _ hκ]
      ring
    rw [e1]
    show Real.exp (ln2 * (_ - Real.log (I.Z _ (pp ρ)) / ln2)) = _
    rw [mul_sub, mul_div_cancel₀ _ l, mul_div_cancel₀ _ l, Real.exp_sub, Real.exp_log (I.Z_pos _ _), pp_of _ hρ]
  · rw [if_neg hc, if_neg hc, zero_div]

theorem s_of (t : ℕ) (n : Fin 4) (r : Fin 512) (ρ : ℕ) (hρ : ρ < 4096) :
    ((dataOf I).hd t).s n r ρ = I.G (hh (4 * (t / 8) + n.val)) (pp ρ) (pp (512 * (t % 8) + r.val)) := by
  rw [HD.s, p_of I t n r ρ hρ, Inp.G, Inp.D]
  refine congrArg₂ _ rfl (congrArg₂ _ ?_ rfl)
  show ∑ x, pad1 1 _ x * pad1 0 _ x = _
  rw [sum_pad1]
  exact Finset.sum_congr rfl fun d _ => mul_comm _ _

/-- No query before the block reaches it. -/
theorem p_before (t : ℕ) (n : Fin 4) (r : Fin 512) (ρ : ℕ) (hρ : ρ < 512 * (t % 8)) : ((dataOf I).hd t).p n r ρ = 0 := by
  have : ¬ (512 * (t % 8) + r.val) / 64 ≤ ρ / 64 := by omega
  exact if_neg this

theorem ico_all (f : ℕ → ℝ) (e : ℕ) (he : e ≤ 4096) (hf : ∀ ρ < e, f ρ = 0) : ∑ ρ ∈ Finset.Ico e 4096, f ρ = ∑ ρ : Fin 4096, f ρ.val := by
  rw [Fin.sum_univ_eq_sum_range f 4096, Finset.range_eq_Ico, ← Finset.sum_Ico_consecutive f (Nat.zero_le e) he,
    Finset.sum_eq_zero (fun ρ h => hf ρ (Finset.mem_Ico.mp h).2), zero_add]

theorem sum_blocks (f : ℕ → ℝ) : ∑ j ∈ Finset.range 8, ∑ r : Fin 512, f (512 * j + r.val) = ∑ k : Fin 4096, f k.val := by
  rw [Finset.sum_range, ← Fintype.sum_prod_type']
  refine Fintype.sum_equiv finProdFinEquiv _ (fun k : Fin (8 * 512) => f k.val) fun x => ?_
  exact congrArg f (Nat.add_comm _ _)

theorem dk_of (t : ℕ) (n : Fin 4) (r : Fin 512) (x : Fin 128) :
    ((dataOf I).hd t).dk n 4096 r x * ln2 = I.gk (hh (4 * (t / 8) + n.val)) (pp (512 * (t % 8) + r.val)) x := by
  rw [HD.dk, Inp.gk]
  refine (congrArg (· * ln2) (ico_all (fun ρ => ((dataOf I).hd t).s n r ρ * ((dataOf I).hd t).q n ρ x) (512 * (t % 8)) (by omega) fun ρ h => ?_)).trans ?_
  · rw [HD.s, p_before I t n r ρ h, zero_mul, zero_mul]
  · rw [Finset.sum_mul, Finset.sum_mul]
    refine Finset.sum_congr rfl fun ρ _ => ?_
    rw [s_of I t n r ρ.val ρ.isLt]
    show _ * (pad3 (I.qn (pp ρ.val) _) (I.qr (pp ρ.val) _) x * (I.w / ln2)) * ln2 = _
    rw [pp_of _ ρ.isLt]
    have l := ln2_pos.ne'
    field_simp

theorem dv_of (t : ℕ) (n : Fin 4) (r : Fin 512) (x : Fin 128) (hx : ¬ x.val < 64) :
    ((dataOf I).hd t).dv n 4096 r x = I.gv (hh (4 * (t / 8) + n.val)) (pp (512 * (t % 8) + r.val)) ⟨x.val - 64, by omega⟩ := by
  rw [HD.dv, Inp.gv]
  refine (ico_all (fun ρ => ((dataOf I).hd t).p n r ρ * ((dataOf I).hd t).o n ρ x) (512 * (t % 8)) (by omega) fun ρ h => ?_).trans ?_
  · rw [p_before I t n r ρ h, zero_mul]
  · refine Finset.sum_congr rfl fun ρ _ => ?_
    rw [p_of I t n r ρ.val ρ.isLt]
    show _ * pad1 0 (I.o (pp ρ.val) _) x = _
    rw [pad1, dif_neg hx, pp_of _ ρ.isLt]

theorem dq_of (g : ℕ) (n : Fin 4) (x : Fin 128) (ρ : ℕ) (hρ : ρ < 4096) :
    (∑ j ∈ Finset.range 8, ((dataOf I).hd (8 * g + j)).dq n 4096 x ρ) * I.w = I.gq (hh (4 * g + n.val)) (pp ρ) x := by
  rw [Inp.gq]
  refine congrArg (· * I.w) ?_
  refine Eq.trans (Finset.sum_congr rfl fun j hj => ?_) ((sum_blocks fun κ => I.G (hh (4 * g + n.val)) (pp ρ) (pp κ) * pad3 (I.kn (pp κ) (hh (4 * g + n.val))) (I.kr (pp κ)) x).trans
    (Finset.sum_congr rfl fun k _ => by rw [pp_of _ k.isLt]))
  have hj8 : j < 8 := Finset.mem_range.mp hj
  have e1 : (8 * g + j) / 8 = g := by omega
  have e2 : (8 * g + j) % 8 = j := by omega
  have es : ∀ r : Fin 512, ((dataOf I).hd (8 * g + j)).k n r x * ((dataOf I).hd (8 * g + j)).s n r ρ
      = I.G (hh (4 * g + n.val)) (pp ρ) (pp (512 * j + r.val)) * pad3 (I.kn (pp (512 * j + r.val)) (hh (4 * g + n.val))) (I.kr (pp (512 * j + r.val))) x := fun r => by
    rw [s_of I (8 * g + j) n r ρ hρ, e1, e2, mul_comm]
    show _ * pad3 (I.kn (pp (512 * ((8 * g + j) % 8) + r.val)) (hh (4 * ((8 * g + j) / 8) + n.val))) (I.kr (pp (512 * ((8 * g + j) % 8) + r.val))) x = _
    rw [e1, e2]
  have e0 : ((dataOf I).hd (8 * g + j)).e0 = 512 * j := by show 512 * ((8 * g + j) % 8) = _; rw [e2]
  rw [HD.dq, e0]
  by_cases hc : 512 * j ≤ ρ
  · rw [if_pos ⟨hc, hρ⟩]
    exact Finset.sum_congr rfl fun r _ => es r
  · rw [if_neg (fun h => hc h.1)]
    refine (Finset.sum_eq_zero fun r _ => ?_).symm
    rw [← es r, HD.s, p_before I (8 * g + j) n r ρ (by rw [e2]; omega), zero_mul, mul_zero]

end Cert.AttnBwdIdeal.Gen

end
-- ==== Proof.AttnHost.lean ====
module

public import proofs.«01_k».proof.Proof.AttnMath
public import Idealize.ShloMosaic.Lib.StableHlo.ReadAt

@[expose] public section

set_option maxRecDepth 16384

noncomputable section

namespace Cert.AttnBwdIdeal.Gen

open Idealize.ShloMosaic Idealize.ShloMosaic.TcCoe Idealize.SL.Sem
open Cert.Lift Cert.Attn
open scoped BigOperators

/-! What the host prepares, as functions of the arguments. -/

/-- Queries or keys: 64 lanes, the 32 rotary ones, and zeros. -/
def hpad (a : FVec Ideal S4096x8x64 .f32) (b : FVec Ideal S4096x8x32 .f32) : FVec Ideal S4096x8x128 .f32 :=
  concatenate S4096x8x128 2 [⟨S4096x8x64, a⟩, ⟨S4096x8x32, b⟩, ⟨S4096x8x32, broadcastInDim S4096x8x32 ![] bcast_S_S4096x8x32 (constant (F := Ideal) S_ .f32 0x00000000#32)⟩] concatenates_S4096x8x64_S4096x8x32_S4096x8x32_S4096x8x128_d2
/-- The rotary key, the same for every head. -/
def hrot (a : FVec Ideal S4096x32 .f32) : FVec Ideal S4096x8x32 .f32 :=
  broadcastInDim S4096x8x32 ![0, 1, 2] bcast_S4096x1x32_S4096x8x32_0_1_2 (broadcastInDim S4096x1x32 ![0, 2] bcast_S4096x32_S4096x1x32_0_2 a)
/-- 64 lanes of a constant, then `a`. -/
def hcat (z : BitVec 32) (a : FVec Ideal S4096x8x64 .f32) : FVec Ideal S4096x8x128 .f32 :=
  concatenate S4096x8x128 2 [⟨S4096x8x64, broadcastInDim S4096x8x64 ![] bcast_S_S4096x8x64 (constant (F := Ideal) S_ .f32 z)⟩, ⟨S4096x8x64, a⟩] concatenates_S4096x8x64_S4096x8x64_S4096x8x128_d2
/-- The logarithm of two. -/
def hln : FVec Ideal S_ .f32 := Host.log (constant (F := Ideal) S_ .f32 0x40000000#32)
def hq (a : FVec Ideal S4096x8x64 .f32) (b : FVec Ideal S4096x8x32 .f32) : FVec Ideal S4096x8x128 .bf16 :=
  truncf .bf16 (mulf (hpad a b) (broadcastInDim S4096x8x128 ![] bcast_S_S4096x8x128 (Host.divf (constant (F := Ideal) S_ .f32 0x3DD105EC#32) hln))) bitsLt_bf16_f32
def hk (a : FVec Ideal S4096x8x64 .f32) (b : FVec Ideal S4096x32 .f32) : FVec Ideal S4096x8x128 .bf16 :=
  truncf .bf16 (hpad a (hrot b)) bitsLt_bf16_f32
def hv (z : BitVec 32) (a : FVec Ideal S4096x8x64 .f32) : FVec Ideal S4096x8x128 .bf16 :=
  truncf .bf16 (hcat z a) bitsLt_bf16_f32
/-- The chunk of a position. -/
def hchunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))
/-- Whether a key is in a query's reach. -/
def hmask : IVec S1x4096x4096 1 :=
  broadcastInDim S1x4096x4096 ![1, 2] bcast_S4096x4096_S1x4096x4096_1_2
    (cmpi .sle (broadcastInDim S4096x4096 ![0, 1] bcast_S4096x1_S4096x4096_0_1 (broadcastInDim S4096x1 ![0] bcast_S4096_S4096x1_0 hchunk))
      (broadcastInDim S4096x4096 ![0, 1] bcast_S1x4096_S4096x4096_0_1 (broadcastInDim S1x4096 ![1] bcast_S4096_S1x4096_1 hchunk)))
variable (q k : FVec Ideal S4096x8x128 .bf16) (v : FVec Ideal S4096x8x128 .bf16)
def hs : FVec Ideal S8x4096x4096 .f32 :=
  select (broadcastInDim S8x4096x4096 ![0, 1, 2] bcast_S1x4096x4096_S8x4096x4096_0_1_2 hmask)
    (Host.dotGeneral dot_S4096x8x128_S4096x8x128_S8x4096x4096_2_2_0_0_1_1 none k q)
    (broadcastInDim S8x4096x4096 ![] bcast_S_S8x4096x4096 (id (constant (F := Ideal) S_ .f32 0xFF800000#32)))
def htop (s : FVec Ideal S8x4096x4096 .f32) : FVec Ideal S8x4096 .f32 :=
  Host.reduce FloatOps.maximumf s (constant (F := Ideal) S_ .f32 0xFF800000#32) reducesTo_S8x4096x4096_S8x4096_d1 h_S_
def hm (s : FVec Ideal S8x4096x4096 .f32) : FVec Ideal S8x1x4096 .f32 :=
  broadcastInDim S8x1x4096 ![0, 2] bcast_S8x4096_S8x1x4096_0_2 (htop s)
def he (s : FVec Ideal S8x4096x4096 .f32) : FVec Ideal S8x4096x4096 .bf16 :=
  truncf .bf16 (Host.exp (mulf (subf s (broadcastInDim S8x4096x4096 ![0, 1, 2] bcast_S8x1x4096_S8x4096x4096_0_1_2 (hm s))) (broadcastInDim S8x4096x4096 ![] bcast_S_S8x4096x4096 hln))) bitsLt_bf16_f32
def hacc (s : FVec Ideal S8x4096x4096 .f32) : FVec Ideal S8x128x4096 .f32 :=
  Host.dotGeneral dot_S4096x8x128_S8x4096x4096_S8x128x4096_0_1_2_2_1_0 none v (he s)
def hl (a : FVec Ideal S8x128x4096 .f32) : FVec Ideal S8x1x4096 .f32 :=
  extractStridedSlice S8x1x4096 ![0, 0, 0] a slices_S8x128x4096_S8x1x4096_0_0_0
def hlse (s : FVec Ideal S8x4096x4096 .f32) (l : FVec Ideal S8x1x4096 .f32) : FVec Ideal S8x1x4096 .f32 :=
  addf (hm s) (Host.divf (Host.log l) (broadcastInDim S8x1x4096 ![] bcast_S_S8x1x4096 hln))
def hcap (o : FVec Ideal S4096x8x64 .f32) (a : FVec Ideal S8x128x4096 .f32) : FVec Ideal S8x4096 .f32 :=
  Host.reduceAdd (mulf (transpose S8x64x4096 [1, 2, 0] o transposes_S4096x8x64_S8x64x4096_1_2_0)
    (extractStridedSlice S8x64x4096 ![0, 64, 0] (Host.divf a (broadcastInDim S8x128x4096 ![0, 1, 2] bcast_S8x1x4096_S8x128x4096_0_1_2 (hl a))) slices_S8x128x4096_S8x64x4096_0_64_0))
    (constant (F := Ideal) S_ .f32 0x00000000#32) reducesTo_S8x64x4096_S8x4096_d1 h_S_

variable (m : (l : Loc nD τ sig) → l.ty.Contents (Elt Ideal)) (c : Dev nD)

abbrev iq : FVec Ideal S4096x8x64 .f32 := m ((c : Thread nD τ).loc main_arg0)
abbrev iqr : FVec Ideal S4096x8x32 .f32 := m ((c : Thread nD τ).loc main_arg1)
abbrev ik : FVec Ideal S4096x8x64 .f32 := m ((c : Thread nD τ).loc main_arg2)
abbrev ikr : FVec Ideal S4096x32 .f32 := m ((c : Thread nD τ).loc main_arg3)
abbrev iv : FVec Ideal S4096x8x64 .f32 := m ((c : Thread nD τ).loc main_arg4)
abbrev io : FVec Ideal S4096x8x64 .f32 := m ((c : Thread nD τ).loc main_arg5)

theorem V48 : (V m c main_v48 : FVec Ideal S4096x1024 .bf16) = shapeCast S4096x1024 (hq (iq m c) (iqr m c)) shapeCasts_S4096x8x128_S4096x1024 := rfl
theorem V49 : (V m c main_v49 : FVec Ideal S4096x1024 .bf16) = shapeCast S4096x1024 (hk (ik m c) (ikr m c)) shapeCasts_S4096x8x128_S4096x1024 := rfl
theorem V50 : (V m c main_v50 : FVec Ideal S4096x1024 .bf16) = shapeCast S4096x1024 (hv 0x3F800000#32 (iv m c)) shapeCasts_S4096x8x128_S4096x1024 := rfl
theorem V51 : (V m c main_v51 : FVec Ideal S4096x1024 .bf16) = shapeCast S4096x1024 (hv 0x00000000#32 (io m c)) shapeCasts_S4096x8x128_S4096x1024 := rfl
abbrev is : FVec Ideal S8x4096x4096 .f32 := hs (hq (iq m c) (iqr m c)) (hk (ik m c) (ikr m c))
abbrev ia : FVec Ideal S8x128x4096 .f32 := hacc (hv 0x3F800000#32 (iv m c)) (is m c)
set_option maxHeartbeats 4000000 in
theorem V52 : (V m c main_v52 : FVec Ideal S4x2x4096 .f32) = shapeCast S4x2x4096 (hlse (is m c) (hl (ia m c))) shapeCasts_S8x1x4096_S4x2x4096 := by
  unfold V
  after_reads_simp
  simp -implicitDefEqProofs only [StableHlo.TRef.toBuf, StableHlo.TRef.ofBuf, cast_cast, cast_eq]
  clean_types
  rfl
set_option maxHeartbeats 4000000 in
theorem V53 : (V m c main_v53 : FVec Ideal S4x2x4096 .f32) = shapeCast S4x2x4096 (hcap (io m c) (ia m c)) shapeCasts_S8x4096_S4x2x4096 := by
  unfold V
  after_reads_simp
  simp -implicitDefEqProofs only [StableHlo.TRef.toBuf, StableHlo.TRef.ofBuf, cast_cast, cast_eq]
  clean_types
  rfl

/-! What they hold, for real arguments. -/

theorem hln_at : hln ix0 = ((ln2 : ℝ) : EReal) := by
  show Ideal.log (Ideal.ofBits .f32 0x40000000#32) = _
  rw [lit_two, log_coe (by norm_num)]
  rfl

theorem hpad_real (a : FVec Ideal S4096x8x64 .f32) (b : FVec Ideal S4096x8x32 .f32) (A : Fin 4096 → Fin 8 → Fin 64 → ℝ) (B : Fin 4096 → Fin 8 → Fin 32 → ℝ)
    (ha : ∀ ρ h d, a (ix3 ρ h d) = ((A ρ h d : ℝ) : EReal)) (hb : ∀ ρ h d, b (ix3 ρ h d) = ((B ρ h d : ℝ) : EReal)) (ρ : Fin 4096) (h : Fin 8) (x : Fin 128) :
    hpad a b (ix3 ρ h x) = ((pad3 (A ρ h) (B ρ h) x : ℝ) : EReal) := by
  pointwise [hpad]
  rw [pad3]
  by_cases h0 : x.val < 64
  · rw [dif_pos h0, dif_pos h0, ha]
  by_cases h1 : x.val < 96
  · rw [dif_neg h0, dif_neg h0, dif_pos h1, dif_pos (by omega), hb]
  · rw [dif_neg h0, dif_neg h0, dif_neg h1, dif_neg (by omega), EReal.coe_zero]

theorem hcat_real (z : BitVec 32) (a : FVec Ideal S4096x8x64 .f32) (A : Fin 4096 → Fin 8 → Fin 64 → ℝ) (ζ : ℝ) (hz : Ideal.ofBits .f32 z = ((ζ : ℝ) : EReal))
    (ha : ∀ ρ h d, a (ix3 ρ h d) = ((A ρ h d : ℝ) : EReal)) (ρ : Fin 4096) (h : Fin 8) (x : Fin 128) :
    hcat z a (ix3 ρ h x) = ((pad1 ζ (A ρ h) x : ℝ) : EReal) := by
  pointwise [hcat]
  rw [pad1]
  by_cases h0 : x.val < 64
  · rw [dif_pos h0, dif_pos h0, hz]
  · rw [dif_neg h0, dif_neg h0, ha]

theorem hq_real (a : FVec Ideal S4096x8x64 .f32) (b : FVec Ideal S4096x8x32 .f32) (A : Fin 4096 → Fin 8 → Fin 64 → ℝ) (B : Fin 4096 → Fin 8 → Fin 32 → ℝ)
    (ha : ∀ ρ h d, a (ix3 ρ h d) = ((A ρ h d : ℝ) : EReal)) (hb : ∀ ρ h d, b (ix3 ρ h d) = ((B ρ h d : ℝ) : EReal)) (ρ : Fin 4096) (h : Fin 8) (x : Fin 128) :
    hq a b (ix3 ρ h x) = ((pad3 (A ρ h) (B ρ h) x * (w / ln2) : ℝ) : EReal) := by
  pointwise [hq]
  rw [hpad_real a b A B ha hb, hln_at, lit_w, div_coe _ ln2_pos.ne', ← EReal.coe_mul]

theorem hk_real (a : FVec Ideal S4096x8x64 .f32) (b : FVec Ideal S4096x32 .f32) (A : Fin 4096 → Fin 8 → Fin 64 → ℝ) (B : Fin 4096 → Fin 32 → ℝ)
    (ha : ∀ ρ h d, a (ix3 ρ h d) = ((A ρ h d : ℝ) : EReal)) (hb : ∀ ρ d, b (ix2 ρ d) = ((B ρ d : ℝ) : EReal)) (ρ : Fin 4096) (h : Fin 8) (x : Fin 128) :
    hk a b (ix3 ρ h x) = ((pad3 (A ρ h) (B ρ) x : ℝ) : EReal) :=
  hpad_real a (hrot b) A (fun ρ _ => B ρ) ha (fun ρ h d => by pointwise [hrot]; exact hb ρ d) ρ h x

theorem hv_real (z : BitVec 32) (a : FVec Ideal S4096x8x64 .f32) (A : Fin 4096 → Fin 8 → Fin 64 → ℝ) (ζ : ℝ) (hz : Ideal.ofBits .f32 z = ((ζ : ℝ) : EReal))
    (ha : ∀ ρ h d, a (ix3 ρ h d) = ((A ρ h d : ℝ) : EReal)) (ρ : Fin 4096) (h : Fin 8) (x : Fin 128) :
    hv z a (ix3 ρ h x) = ((pad1 ζ (A ρ h) x : ℝ) : EReal) := hcat_real z a A ζ hz ha ρ h x

theorem hchunk_at (i : Fin 4096) : hchunk (ix1 i) = BitVec.ofNat 32 (i.val / 64) := by
  pointwise [hchunk]
  revert i
  decide +kernel

theorem hmask_at (k q : Fin 4096) : hmask (ix3 0 k q) = 1 ↔ k.val / 64 ≤ q.val / 64 := by
  pointwise [hmask]
  rw [hchunk_at, hchunk_at]
  exact WordCmp.cmpi_sle_ofNat_eq_one_iff (by omega) (by omega)

theorem hs_real (q k : FVec Ideal S4096x8x128 .bf16) (Q K : Fin 4096 → Fin 8 → Fin 128 → ℝ) (hQ : ∀ ρ h x, q (ix3 ρ h x) = ((Q ρ h x : ℝ) : EReal)) (hK : ∀ ρ h x, k (ix3 ρ h x) = ((K ρ h x : ℝ) : EReal))
    (h : Fin 8) (κ ρ : Fin 4096) : hs q k (ix3 h κ ρ) = if κ.val / 64 ≤ ρ.val / 64 then ((∑ x, K κ h x * Q ρ h x : ℝ) : EReal) else ⊥ := by
  pointwise [hs]
  by_cases hc : κ.val / 64 ≤ ρ.val / 64
  · refine (if_pos ((hmask_at κ ρ).mpr hc)).trans ?_
    simp only [if_pos hc, hQ, hK, ← EReal.coe_mul, coe_sum]
  · refine (if_neg (fun e => hc ((hmask_at κ ρ).mp e))).trans ?_
    rw [if_neg hc]
    exact lit_bot

theorem htop_real (s : FVec Ideal S8x4096x4096 .f32) (S : Fin 8 → Fin 4096 → Fin 4096 → ℝ) (hS : ∀ h κ ρ, s (ix3 h κ ρ) = if κ.val / 64 ≤ ρ.val / 64 then ((S h κ ρ : ℝ) : EReal) else ⊥)
    (h : Fin 8) (ρ : Fin 4096) : ∃ M : ℝ, htop s (ix2 h ρ) = ((M : ℝ) : EReal) := by
  pointwise [htop]
  rw [lit_bot]
  refine fold_max_real (fun κ => s (ix3 h κ ρ)) (fun κ => ?_) ρ ?_
  · rw [hS]; split
    · exact EReal.coe_ne_top _
    · exact bot_ne_top
  · rw [hS, if_pos le_rfl]; exact EReal.coe_ne_bot _

theorem hm_at (s : FVec Ideal S8x4096x4096 .f32) (h : Fin 8) (ρ : Fin 4096) : hm s (ix3 h 0 ρ) = htop s (ix2 h ρ) := by
  pointwise [hm]

theorem he_real (s : FVec Ideal S8x4096x4096 .f32) (S : Fin 8 → Fin 4096 → Fin 4096 → ℝ) (hS : ∀ h κ ρ, s (ix3 h κ ρ) = if κ.val / 64 ≤ ρ.val / 64 then ((S h κ ρ : ℝ) : EReal) else ⊥)
    (M : Fin 8 → Fin 4096 → ℝ) (hM : ∀ h ρ, htop s (ix2 h ρ) = ((M h ρ : ℝ) : EReal)) (h : Fin 8) (κ ρ : Fin 4096) :
    he s (ix3 h κ ρ) = (((if κ.val / 64 ≤ ρ.val / 64 then Real.exp (S h κ ρ * ln2) else 0) * Real.exp (-(M h ρ * ln2)) : ℝ) : EReal) := by
  pointwise [he, hm]
  rw [hM, hS, hln_at]
  by_cases hc : κ.val / 64 ≤ ρ.val / 64
  · rw [if_pos hc, if_pos hc, ← EReal.coe_sub, ← EReal.coe_mul, exp_coe, ← Real.exp_add]
    congr 2
    ring
  · rw [if_neg hc, if_neg hc, zero_mul, EReal.bot_sub, EReal.bot_mul_coe_of_pos ln2_pos]
    rfl

theorem hacc_real (v : FVec Ideal S4096x8x128 .bf16) (s : FVec Ideal S8x4096x4096 .f32) (W : Fin 4096 → Fin 8 → Fin 128 → ℝ) (hW : ∀ ρ h x, v (ix3 ρ h x) = ((W ρ h x : ℝ) : EReal))
    (E : Fin 8 → Fin 4096 → Fin 4096 → ℝ) (hE : ∀ h κ ρ, he s (ix3 h κ ρ) = ((E h κ ρ : ℝ) : EReal)) (h : Fin 8) (x : Fin 128) (ρ : Fin 4096) :
    hacc v s (ix3 h x ρ) = ((∑ κ, W κ h x * E h κ ρ : ℝ) : EReal) := by
  pointwise [hacc]
  simp only [hW, hE, ← EReal.coe_mul, coe_sum]

theorem hl_at (a : FVec Ideal S8x128x4096 .f32) (h : Fin 8) (ρ : Fin 4096) : hl a (ix3 h 0 ρ) = a (ix3 h 0 ρ) := by
  pointwise [hl]

theorem scalar_at (X : FVec Ideal S_ .f32) (i : S8x1x4096.Idx) : broadcastInDim S8x1x4096 ![] bcast_S_S8x1x4096 X i = X ix0 := congrArg X (funext fun a => a.elim0)

theorem lse_at (X l : FVec Ideal S8x1x4096 .f32) (Y : FVec Ideal S_ .f32) (i : S8x1x4096.Idx) :
    addf X (Host.divf (Host.log l) (broadcastInDim S8x1x4096 ![] bcast_S_S8x1x4096 Y)) i = X i + Ideal.div (Ideal.log (l i)) (Y ix0) :=
  congrArg (fun z => X i + Ideal.div (Ideal.log (l i)) z) (scalar_at Y i)

theorem hlse_at (s : FVec Ideal S8x4096x4096 .f32) (l : FVec Ideal S8x1x4096 .f32) (i : S8x1x4096.Idx) : hlse s l i = hm s i + Ideal.div (Ideal.log (l i)) (hln ix0) := by
  unfold hlse
  exact lse_at (hm s) l hln i

theorem sum_mid (X : FVec Ideal S8x64x4096 .f32) (h : Fin 8) (ρ : Fin 4096) :
    Host.reduceAdd X (constant (F := Ideal) S_ .f32 0x00000000#32) reducesTo_S8x64x4096_S8x4096_d1 h_S_ (ix2 h ρ) = ∑ x : Fin 64, X (ix3 h x ρ) := by
  simp only [Host.reduceAdd, Ideal.hostReduceAdd_def]
  rw [Ideal.hostReduceAdd_single reducesTo_S8x64x4096_S8x4096_d1 (by decide)]
  refine (congrArg (· + _) (show (constant (F := Ideal) S_ .f32 0x00000000#32) _ = (0 : EReal) from Ideal.ofBits_zero .f32)).trans ((zero_add _).trans (Finset.sum_congr rfl fun k _ => ?_))
  exact congrArg X (funext fun a => Fin.ext (by match a with | ⟨0, _⟩ => rfl | ⟨1, _⟩ => rfl | ⟨2, _⟩ => rfl))

theorem hmul_at (o : FVec Ideal S4096x8x64 .f32) (a : FVec Ideal S8x128x4096 .f32) (h : Fin 8) (x : Fin 64) (ρ : Fin 4096) :
    mulf (transpose S8x64x4096 [1, 2, 0] o transposes_S4096x8x64_S8x64x4096_1_2_0)
      (extractStridedSlice S8x64x4096 ![0, 64, 0] (Host.divf a (broadcastInDim S8x128x4096 ![0, 1, 2] bcast_S8x1x4096_S8x128x4096_0_1_2 (hl a))) slices_S8x128x4096_S8x64x4096_0_64_0) (ix3 h x ρ)
      = o (ix3 ρ h x) * Ideal.div (a (ix3 h ⟨64 + x.val, by omega⟩ ρ)) (a (ix3 h 0 ρ)) := by
  pointwise [hl]

theorem hcap_at (o : FVec Ideal S4096x8x64 .f32) (a : FVec Ideal S8x128x4096 .f32) (h : Fin 8) (ρ : Fin 4096) :
    hcap o a (ix2 h ρ) = ∑ x : Fin 64, o (ix3 ρ h x) * Ideal.div (a (ix3 h ⟨64 + x.val, by omega⟩ ρ)) (a (ix3 h 0 ρ)) :=
  (sum_mid _ h ρ).trans (Finset.sum_congr rfl fun x _ => hmul_at o a h x ρ)

/-! The host's arrays, for real arguments. -/

theorem lane_cast (A : FVec Ideal S4096x8x128 .bf16) (ρ : Fin 4096) (h : ℕ) (x : Fin 128) (H : h < 8) :
    (shapeCast S4096x1024 A shapeCasts_S4096x8x128_S4096x1024) (ix2 ρ ⟨128 * h + x.val, by omega⟩) = A (ix3 ρ ⟨h, H⟩ x) := by
  pointwise
  exact congrArg (fun z => A (ix3 ρ z x)) (Fin.ext (by dsimp only; omega))
theorem head_cast3 (A : FVec Ideal S8x1x4096 .f32) (ρ : Fin 4096) (h : ℕ) (H : h < 8) :
    (shapeCast S4x2x4096 A shapeCasts_S8x1x4096_S4x2x4096) (ix3 ⟨h / 2, by omega⟩ ⟨h % 2, by omega⟩ ρ) = A (ix3 ⟨h, H⟩ 0 ρ) := by
  pointwise
  exact congrArg (fun z => A (ix3 z 0 ρ)) (Fin.ext (by dsimp only; omega))
theorem head_cast2 (A : FVec Ideal S8x4096 .f32) (ρ : Fin 4096) (h : ℕ) (H : h < 8) :
    (shapeCast S4x2x4096 A shapeCasts_S8x4096_S4x2x4096) (ix3 ⟨h / 2, by omega⟩ ⟨h % 2, by omega⟩ ρ) = A (ix2 ⟨h, H⟩ ρ) := by
  pointwise
  exact congrArg (fun z => A (ix2 z ρ)) (Fin.ext (by dsimp only; omega))

variable (I : Inp)

/-- The arguments hold the inputs. -/
structure Args : Prop where
  qn : ∀ ρ h d, iq m c (ix3 ρ h d) = ((I.qn ρ h d : ℝ) : EReal)
  qr : ∀ ρ h d, iqr m c (ix3 ρ h d) = ((I.qr ρ h d : ℝ) : EReal)
  kn : ∀ ρ h d, ik m c (ix3 ρ h d) = ((I.kn ρ h d : ℝ) : EReal)
  kr : ∀ ρ d, ikr m c (ix2 ρ d) = ((I.kr ρ d : ℝ) : EReal)
  v : ∀ ρ h d, iv m c (ix3 ρ h d) = ((I.v ρ h d : ℝ) : EReal)
  o : ∀ ρ h d, io m c (ix3 ρ h d) = ((I.o ρ h d : ℝ) : EReal)
  w : I.w = w

variable (hA : Args m c I)
include hA

theorem is_real (h : Fin 8) (κ ρ : Fin 4096) : is m c (ix3 h κ ρ) = if κ.val / 64 ≤ ρ.val / 64 then ((I.sc h ρ κ / ln2 : ℝ) : EReal) else ⊥ := by
  refine (hs_real _ _ (fun ρ h x => pad3 (I.qn ρ h) (I.qr ρ h) x * (w / ln2)) (fun ρ h x => pad3 (I.kn ρ h) (I.kr ρ) x)
    (hq_real _ _ I.qn I.qr hA.qn hA.qr) (hk_real _ _ I.kn I.kr hA.kn hA.kr) h κ ρ).trans ?_
  refine congrArg (fun z : ℝ => if κ.val / 64 ≤ ρ.val / 64 then (z : EReal) else ⊥) ?_
  rw [Inp.sc, mul_div_assoc, ← sum_pad3, Finset.sum_mul, hA.w]
  exact Finset.sum_congr rfl fun x _ => by ring

/-- The row maximum `M`, the saved exponentials, their sum, and the probabilities' gradient, in one place. -/
theorem saved : ∃ M : Fin 8 → Fin 4096 → ℝ, (∀ h ρ, htop (is m c) (ix2 h ρ) = ((M h ρ : ℝ) : EReal)) ∧
    (∀ h ρ, ia m c (ix3 h 0 ρ) = ((I.Z h ρ * Real.exp (-(M h ρ * ln2)) : ℝ) : EReal)) ∧
    ∀ h ρ (d : Fin 64), ia m c (ix3 h ⟨64 + d.val, by omega⟩ ρ) = (((∑ κ, I.v κ h d * I.E h ρ κ) * Real.exp (-(M h ρ * ln2)) : ℝ) : EReal) := by
  have hS := is_real m c I hA
  have ht := fun h ρ => htop_real (is m c) (fun h κ ρ => I.sc h ρ κ / ln2) hS h ρ
  choose M hM using ht
  have hE : ∀ h κ ρ, he (is m c) (ix3 h κ ρ) = ((I.E h ρ κ * Real.exp (-(M h ρ * ln2)) : ℝ) : EReal) := fun h κ ρ => by
    rw [he_real (is m c) (fun h κ ρ => I.sc h ρ κ / ln2) hS M hM h κ ρ, div_mul_cancel₀ _ ln2_pos.ne']
    rfl
  have ha := hacc_real (hv 0x3F800000#32 (iv m c)) (is m c) (fun ρ h x => pad1 1 (I.v ρ h) x) (hv_real _ _ I.v 1 lit_one hA.v) _ hE
  refine ⟨M, hM, fun h ρ => (ha h 0 ρ).trans (congrArg _ ?_), fun h ρ d => (ha h _ ρ).trans (congrArg _ ?_)⟩
  · rw [Inp.Z, Finset.sum_mul]
    exact Finset.sum_congr rfl fun κ _ => one_mul _
  · rw [Finset.sum_mul]
    refine Finset.sum_congr rfl fun κ _ => ?_
    have e : pad1 1 (I.v κ h) ⟨64 + d.val, by omega⟩ = I.v κ h d := by simp [pad1]
    rw [e, mul_assoc]

theorem lse_real (h : Fin 8) (ρ : Fin 4096) : hlse (is m c) (hl (ia m c)) (ix3 h 0 ρ) = ((Real.log (I.Z h ρ) / ln2 : ℝ) : EReal) := by
  obtain ⟨M, hM, hZ, -⟩ := saved m c I hA
  have hp : 0 < I.Z h ρ * Real.exp (-(M h ρ * ln2)) := mul_pos (I.Z_pos h ρ) (Real.exp_pos _)
  rw [hlse_at, hm_at, hM, hl_at, hZ, hln_at, log_coe hp, div_coe _ ln2_pos.ne', ← EReal.coe_add, Real.log_mul (I.Z_ne h ρ) (Real.exp_pos _).ne', Real.log_exp]
  have l := ln2_pos.ne'
  refine congrArg _ ?_
  field_simp
  ring

theorem cap_real (h : Fin 8) (ρ : Fin 4096) : hcap (io m c) (ia m c) (ix2 h ρ) = ((I.cap h ρ : ℝ) : EReal) := by
  obtain ⟨M, -, hZ, hO⟩ := saved m c I hA
  have hp : I.Z h ρ * Real.exp (-(M h ρ * ln2)) ≠ 0 := (mul_pos (I.Z_pos h ρ) (Real.exp_pos _)).ne'
  rw [hcap_at]
  simp only [hZ, hO, hA.o, div_coe _ hp, ← EReal.coe_mul, coe_sum]
  refine congrArg _ ?_
  simp only [mul_div_mul_right _ _ (Real.exp_pos (-(M h ρ * ln2))).ne', Inp.cap, Inp.D, Inp.P, Finset.sum_div, Finset.mul_sum]
  rw [Finset.sum_comm]
  exact Finset.sum_congr rfl fun κ _ => Finset.sum_congr rfl fun d _ => by ring

theorem host_of : Host m c (dataOf I) where
  q ρ h x H := by
    rw [V48, lane_cast _ ρ h x H, hq_real _ _ I.qn I.qr hA.qn hA.qr, ← hA.w]
    show _ = ((pad3 (I.qn (pp ρ.val) (hh h)) (I.qr (pp ρ.val) (hh h)) x * (I.w / ln2) : ℝ) : EReal)
    rw [pp_of _ ρ.isLt, hh_of h H]
  k ρ h x H := by
    rw [V49, lane_cast _ ρ h x H, hk_real _ _ I.kn I.kr hA.kn hA.kr]
    show _ = ((pad3 (I.kn (pp ρ.val) (hh h)) (I.kr (pp ρ.val)) x : ℝ) : EReal)
    rw [pp_of _ ρ.isLt, hh_of h H]
  v ρ h x H := by
    rw [V50, lane_cast _ ρ h x H, hv_real _ _ I.v 1 lit_one hA.v]
    show _ = ((pad1 1 (I.v (pp ρ.val) (hh h)) x : ℝ) : EReal)
    rw [pp_of _ ρ.isLt, hh_of h H]
  o ρ h x H := by
    rw [V51, lane_cast _ ρ h x H, hv_real _ _ I.o 0 (Ideal.ofBits_zero .f32) hA.o]
    show _ = ((pad1 0 (I.o (pp ρ.val) (hh h)) x : ℝ) : EReal)
    rw [pp_of _ ρ.isLt, hh_of h H]
  l ρ h H := by
    rw [V52, head_cast3 _ ρ h H, lse_real m c I hA]
    show _ = ((Real.log (I.Z (hh h) (pp ρ.val)) / ln2 : ℝ) : EReal)
    rw [pp_of _ ρ.isLt, hh_of h H]
  d ρ h H := by
    rw [V53, head_cast2 _ ρ h H, cap_real m c I hA]
    show _ = ((I.cap (hh h) (pp ρ.val) : ℝ) : EReal)
    rw [pp_of _ ρ.isLt, hh_of h H]

end Cert.AttnBwdIdeal.Gen

end
-- ==== Proof.AttnRef.lean ====
module

public import proofs.«01_k».proof.Proof.AttnPlain
public import proofs.«01_k».proof.Proof.Gen.AttnRefIdeal.Read
public import Idealize.ShloMosaic.Lib.Pipeline.ValueKit
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open scoped BigOperators

namespace Cert.AttnRef
open Cert.AttnRefIdeal Cert.AttnRefIdeal.Gen Cert.AttnRefIdeal.Read
open Cert.Lift Cert.Attn

/-! The reference, read as reals. -/

theorem chunk_at (i : Fin 4096) : (val_main_v8 (F := Ideal) : IVec S4096 32) (ix1 i) = BitVec.ofNat 32 (i.val / 64) := by
  pointwise [val_main_v8, val_main_call0_v13, val_main_call0_v12, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_c, val_main_v7, val_main_call0_c, val_main_call0_c_0]
  revert i
  decide +kernel

theorem mask_at (h : Fin 8) (q k : Fin 4096) : (val_main_v15_1 (F := Ideal) : IVec S8x4096x4096 1) (ix3 h q k) = 1 ↔ k.val / 64 ≤ q.val / 64 := by
  pointwise [val_main_v15_1, val_main_v14, val_main_v13, val_main_v12, val_main_v11, val_main_v10, val_main_v9]
  rw [chunk_at, chunk_at]
  exact WordCmp.cmpi_sle_ofNat_eq_one_iff (by omega) (by omega)

/-! The sums of the reference. -/

theorem sum_last (X : FVec Ideal S8x4096x4096 .f32) (h : Fin 8) (q : Fin 4096) :
    (Host.reduceAdd X (constant (F := Ideal) S_ .f32 0x00000000#32) reducesTo_S8x4096x4096_S8x4096_d2 h_S_ : FVec Ideal S8x4096 .f32) (ix2 h q) = ∑ k : Fin 4096, X (ix3 h q k) := by
  simp only [Host.reduceAdd, Ideal.hostReduceAdd_def]
  rw [Ideal.hostReduceAdd_single reducesTo_S8x4096x4096_S8x4096_d2 (by decide)]
  refine (congrArg (· + _) (show (constant (F := Ideal) S_ .f32 0x00000000#32) _ = (0 : EReal) from Ideal.ofBits_zero .f32)).trans ((zero_add _).trans (Finset.sum_congr rfl fun k _ => ?_))
  exact congrArg X (funext fun a => Fin.ext (by match a with | ⟨0, _⟩ => rfl | ⟨1, _⟩ => rfl | ⟨2, _⟩ => rfl))

theorem sum_unit (X : FVec Ideal S8x4096x1 .f32) (h : Fin 8) (q : Fin 4096) :
    (Host.reduceAdd X (constant (F := Ideal) S_ .f32 0x00000000#32) reducesTo_S8x4096x1_S8x4096_d2 h_S_ : FVec Ideal S8x4096 .f32) (ix2 h q) = X (ix3 h q 0) := by
  simp only [Host.reduceAdd, Ideal.hostReduceAdd_def]
  rw [Ideal.hostReduceAdd_single reducesTo_S8x4096x1_S8x4096_d2 (by decide)]
  refine (congrArg (· + _) (show (constant (F := Ideal) S_ .f32 0x00000000#32) _ = (0 : EReal) from Ideal.ofBits_zero .f32)).trans ((zero_add _).trans ?_)
  refine (Fin.sum_univ_one _).trans ?_
  exact congrArg X (funext fun a => Fin.ext (by match a with | ⟨0, _⟩ => rfl | ⟨1, _⟩ => rfl | ⟨2, _⟩ => rfl))

theorem sum_heads (X : FVec Ideal S2x4x4096x32 .f32) (g : Fin 2) (k : Fin 4096) (d : Fin 32) :
    (Host.reduceAdd X (constant (F := Ideal) S_ .f32 0x00000000#32) reducesTo_S2x4x4096x32_S2x4096x32_d1 h_S_ : FVec Ideal S2x4096x32 .f32) (ix3 g k d) = ∑ n : Fin 4, X (ix4 g n k d) := by
  simp only [Host.reduceAdd, Ideal.hostReduceAdd_def]
  rw [Ideal.hostReduceAdd_single reducesTo_S2x4x4096x32_S2x4096x32_d1 (by decide)]
  refine (congrArg (· + _) (show (constant (F := Ideal) S_ .f32 0x00000000#32) _ = (0 : EReal) from Ideal.ofBits_zero .f32)).trans ((zero_add _).trans (Finset.sum_congr rfl fun k _ => ?_))
  exact congrArg X (funext fun a => Fin.ext (by match a with | ⟨0, _⟩ => rfl | ⟨1, _⟩ => rfl | ⟨2, _⟩ => rfl | ⟨3, _⟩ => rfl))

variable (x0 : FVec Ideal S4096x8x64 .f32) (x1 : FVec Ideal S4096x8x32 .f32) (x2 : FVec Ideal S4096x8x64 .f32) (x3 : FVec Ideal S4096x32 .f32) (x4 x5 : FVec Ideal S4096x8x64 .f32)

/-- The arguments hold the inputs, and the scale is the program's. -/
structure Args (I : Inp) : Prop where
  qn : ∀ ρ h d, x0 (ix3 ρ h d) = ((I.qn ρ h d : ℝ) : EReal)
  qr : ∀ ρ h d, x1 (ix3 ρ h d) = ((I.qr ρ h d : ℝ) : EReal)
  kn : ∀ ρ h d, x2 (ix3 ρ h d) = ((I.kn ρ h d : ℝ) : EReal)
  kr : ∀ ρ d, x3 (ix2 ρ d) = ((I.kr ρ d : ℝ) : EReal)
  v : ∀ ρ h d, x4 (ix3 ρ h d) = ((I.v ρ h d : ℝ) : EReal)
  o : ∀ ρ h d, x5 (ix3 ρ h d) = ((I.o ρ h d : ℝ) : EReal)
  w : Ideal.ofBits .f32 0x3DD105EC#32 = ((I.w : ℝ) : EReal)

variable (I : Inp) (hA : Args x0 x1 x2 x3 x4 x5 I)
include hA

theorem sc_real (h : Fin 8) (q k : Fin 4096) :
    (val_main_v15_0 (F := Ideal) x0 x1 x2 x3 : FVec Ideal S8x4096x4096 .f32) (ix3 h q k) = if k.val / 64 ≤ q.val / 64 then ((I.sc h q k : ℝ) : EReal) else ⊥ := by
  pointwise [val_main_v15_0, val_main_v6, val_main_v5, val_main_v4, val_main_v3, val_main_v2, val_main_v1, val_main_v0, val_main_cst, val_main_call1_v2, val_main_call1_v0, val_main_cst_0]
  by_cases hc : k.val / 64 ≤ q.val / 64
  · refine (if_pos ((mask_at h q k).mpr hc)).trans ?_
    simp only [if_pos hc, hA.qn, hA.qr, hA.kn, hA.kr, hA.w, ← EReal.coe_mul, coe_sum, ← EReal.coe_add]
    rfl
  · refine (if_neg (fun e => hc ((mask_at h q k).mp e))).trans ?_
    rw [if_neg hc]
    exact lit_bot

theorem top_real (h : Fin 8) (q : Fin 4096) : ∃ M : ℝ, (val_main_v16 (F := Ideal) x0 x1 x2 x3 : FVec Ideal S8x4096 .f32) (ix2 h q) = ((M : ℝ) : EReal) := by
  have hS := sc_real x0 x1 x2 x3 x4 x5 I hA
  unfold val_main_v16
  generalize (val_main_v15_0 (F := Ideal) x0 x1 x2 x3 : FVec Ideal S8x4096x4096 .f32) = s at hS ⊢
  pointwise [val_main_cst_1]
  rw [lit_bot]
  refine fold_max_real (fun k => s (ix3 h q k)) (fun k => ?_) q ?_
  · rw [hS]; split
    · exact EReal.coe_ne_top _
    · exact bot_ne_top
  · rw [hS, if_pos le_rfl]; exact EReal.coe_ne_bot _

omit hA in
theorem exp_at (s : FVec Ideal S8x4096x4096 .f32) (t : FVec Ideal S8x4096 .f32) (h : Fin 8) (q k : Fin 4096) :
    Host.exp (subf s (broadcastInDim S8x4096x4096 ![0, 1, 2] bcast_S8x4096x1_S8x4096x4096_0_1_2 (broadcastInDim S8x4096x1 ![0, 1] bcast_S8x4096_S8x4096x1_0_1 (maximumf (val_main_v22 (F := Ideal)) t)))) (ix3 h q k) =
      Ideal.exp (s (ix3 h q k) - max ⊥ (t (ix2 h q))) := by
  pointwise [val_main_v22, val_main_cst_3]
  rw [lit_bot]

omit hA in
theorem shift_real (h : Fin 8) (q k : Fin 4096) (M : ℝ) :
    Ideal.exp ((if k.val / 64 ≤ q.val / 64 then ((I.sc h q k : ℝ) : EReal) else ⊥) - max ⊥ (M : EReal)) = ((I.E h q k * Real.exp (-M) : ℝ) : EReal) := by
  rw [max_eq_right bot_le, Inp.E]
  by_cases hc : k.val / 64 ≤ q.val / 64
  · rw [if_pos hc, if_pos hc, ← EReal.coe_sub, exp_coe, ← Real.exp_add, sub_eq_add_neg]
  · rw [if_neg hc, if_neg hc, zero_mul, EReal.bot_sub]
    rfl

/-- The shifted exponentials and their sum. -/
theorem exp_real : ∃ C : Fin 8 → Fin 4096 → ℝ, (∀ h q, 0 < C h q) ∧
    (∀ h q k, (val_main_v36 (F := Ideal) x0 x1 x2 x3 : FVec Ideal S8x4096x4096 .f32) (ix3 h q k) = ((I.E h q k * C h q : ℝ) : EReal)) ∧
    ∀ h q, (val_main_v37 (F := Ideal) x0 x1 x2 x3 : FVec Ideal S8x4096 .f32) (ix2 h q) = ((I.Z h q * C h q : ℝ) : EReal) := by
  have hS := sc_real x0 x1 x2 x3 x4 x5 I hA
  have ht := top_real x0 x1 x2 x3 x4 x5 I hA
  choose M hM using ht
  have he : ∀ h q k, (val_main_v36 (F := Ideal) x0 x1 x2 x3 : FVec Ideal S8x4096x4096 .f32) (ix3 h q k) = ((I.E h q k * Real.exp (-M h q) : ℝ) : EReal) := fun h q k => by
    refine (exp_at _ _ h q k).trans ?_
    rw [hS, hM]
    exact shift_real I h q k _
  refine ⟨fun h q => Real.exp (-M h q), fun h q => Real.exp_pos _, he, fun h q => ?_⟩
  unfold val_main_v37 val_main_cst_9
  generalize (val_main_v36 (F := Ideal) x0 x1 x2 x3 : FVec Ideal S8x4096x4096 .f32) = e at he ⊢
  rw [sum_last]
  simp only [he, coe_sum, Inp.Z, Finset.sum_mul]

/-- The products of the cotangent with the values. -/
theorem d_real (h : Fin 8) (q k : Fin 4096) : (val_main_v47 (F := Ideal) x4 x5 : FVec Ideal S8x4096x4096 .f32) (ix3 h q k) = ((I.D h q k : ℝ) : EReal) := by
  pointwise [val_main_v47, val_main_v46]
  simp only [hA.o, hA.v, ← EReal.coe_mul, coe_sum, Inp.D]

theorem v51_real (C : Fin 8 → Fin 4096 → ℝ) (hC : ∀ h q, 0 < C h q)
    (hs : ∀ h q, (val_main_v37 (F := Ideal) x0 x1 x2 x3 : FVec Ideal S8x4096 .f32) (ix2 h q) = ((I.Z h q * C h q : ℝ) : EReal)) (h : Fin 8) (q k : Fin 4096) :
    (val_main_v51 (F := Ideal) x0 x1 x2 x3 x4 x5 : FVec Ideal S8x4096x4096 .f32) (ix3 h q k) = ((I.D h q k * (1 / (I.Z h q * C h q * (I.Z h q * C h q))) : ℝ) : EReal) := by
  have hd := d_real x0 x1 x2 x3 x4 x5 I hA
  have hn : I.Z h q * C h q ≠ 0 := mul_ne_zero (I.Z_ne h q) (hC h q).ne'
  unfold val_main_v51 val_main_v50 val_main_v43 val_main_v41 val_main_v38
  generalize (val_main_v37 (F := Ideal) x0 x1 x2 x3 : FVec Ideal S8x4096 .f32) = s at hs ⊢
  generalize (val_main_v47 (F := Ideal) x4 x5 : FVec Ideal S8x4096x4096 .f32) = d at hd ⊢
  pointwise [val_main_v42, val_main_cst_10]
  rw [hd, hs, ← EReal.coe_mul, ← EReal.coe_one, div_coe _ (mul_ne_zero hn hn), ← EReal.coe_mul]

theorem v57_real (C : Fin 8 → Fin 4096 → ℝ) (hC : ∀ h q, 0 < C h q)
    (hs : ∀ h q, (val_main_v37 (F := Ideal) x0 x1 x2 x3 : FVec Ideal S8x4096 .f32) (ix2 h q) = ((I.Z h q * C h q : ℝ) : EReal)) (h : Fin 8) (q k : Fin 4096) :
    (val_main_v57 (F := Ideal) x0 x1 x2 x3 x4 x5 : FVec Ideal S8x4096x4096 .f32) (ix3 h q k) = ((I.D h q k / (I.Z h q * C h q) : ℝ) : EReal) := by
  have hd := d_real x0 x1 x2 x3 x4 x5 I hA
  unfold val_main_v57 val_main_v56 val_main_v38
  generalize (val_main_v37 (F := Ideal) x0 x1 x2 x3 : FVec Ideal S8x4096 .f32) = s at hs ⊢
  generalize (val_main_v47 (F := Ideal) x4 x5 : FVec Ideal S8x4096x4096 .f32) = d at hd ⊢
  pointwise
  rw [hd, hs, div_coe _ (mul_ne_zero (I.Z_ne h q) (hC h q).ne')]

/-- The softmax's backward sum, with its sign. -/
theorem v58_real (C : Fin 8 → Fin 4096 → ℝ) (hC : ∀ h q, 0 < C h q)
    (he : ∀ h q k, (val_main_v36 (F := Ideal) x0 x1 x2 x3 : FVec Ideal S8x4096x4096 .f32) (ix3 h q k) = ((I.E h q k * C h q : ℝ) : EReal))
    (hs : ∀ h q, (val_main_v37 (F := Ideal) x0 x1 x2 x3 : FVec Ideal S8x4096 .f32) (ix2 h q) = ((I.Z h q * C h q : ℝ) : EReal)) (h : Fin 8) (q : Fin 4096) :
    (val_main_v58 (F := Ideal) x0 x1 x2 x3 x4 x5 : FVec Ideal S8x4096 .f32) (ix2 h q) = ((-(I.cap h q / (I.Z h q * C h q)) : ℝ) : EReal) := by
  have h51 := v51_real x0 x1 x2 x3 x4 x5 I hA C hC hs
  have h53 : (val_main_v53 (F := Ideal) x0 x1 x2 x3 x4 x5 : FVec Ideal S8x4096 .f32) (ix2 h q) = ((I.cap h q / (I.Z h q * C h q) : ℝ) : EReal) := by
    unfold val_main_v53 val_main_cst_11 val_main_v52
    generalize (val_main_v36 (F := Ideal) x0 x1 x2 x3 : FVec Ideal S8x4096x4096 .f32) = e at he ⊢
    generalize (val_main_v51 (F := Ideal) x0 x1 x2 x3 x4 x5 : FVec Ideal S8x4096x4096 .f32) = d at h51 ⊢
    rw [sum_last]
    refine (Finset.sum_congr rfl fun k _ => (congrArg₂ (· * ·) (h51 h q k) (he h q k)).trans (EReal.coe_mul _ _).symm).trans ?_
    rw [coe_sum, Inp.cap, Finset.sum_div]
    refine congrArg _ (Finset.sum_congr rfl fun k _ => ?_)
    have hz := I.Z_ne h q
    have hc := (hC h q).ne'
    rw [Inp.P]
    field_simp
  unfold val_main_v58 val_main_cst_12 val_main_v55 val_main_v54
  generalize (val_main_v53 (F := Ideal) x0 x1 x2 x3 x4 x5 : FVec Ideal S8x4096 .f32) = t at h53 ⊢
  rw [sum_unit]
  pointwise
  rw [h53]
  rfl

theorem v64_real (h : Fin 8) (q k : Fin 4096) :
    (val_main_v64 (F := Ideal) x0 x1 x2 x3 x4 x5 : FVec Ideal S8x4096x4096 .f32) (ix3 h q k) = ((I.G h q k * I.w : ℝ) : EReal) := by
  obtain ⟨C, hC, he, hs⟩ := exp_real x0 x1 x2 x3 x4 x5 I hA
  have h57 := v57_real x0 x1 x2 x3 x4 x5 I hA C hC hs
  have h58 := v58_real x0 x1 x2 x3 x4 x5 I hA C hC he hs
  have hm := mask_at h q k
  unfold val_main_v64 val_main_v62 val_main_v61 val_main_v60 val_main_v59
  generalize (val_main_v36 (F := Ideal) x0 x1 x2 x3 : FVec Ideal S8x4096x4096 .f32) = e at he ⊢
  generalize (val_main_v57 (F := Ideal) x0 x1 x2 x3 x4 x5 : FVec Ideal S8x4096x4096 .f32) = d at h57 ⊢
  generalize (val_main_v58 (F := Ideal) x0 x1 x2 x3 x4 x5 : FVec Ideal S8x4096 .f32) = t at h58 ⊢
  generalize (val_main_v15_1 (F := Ideal) : IVec S8x4096x4096 1) = b at hm ⊢
  pointwise [val_main_v63, val_main_cst_13]
  by_cases hc : k.val / 64 ≤ q.val / 64
  · refine (congrArg₂ (· * ·) (if_pos (hm.mpr hc)) hA.w).trans ?_
    rw [h57, h58, he, ← EReal.coe_add, ← EReal.coe_mul, ← EReal.coe_mul]
    have hz := I.Z_ne h q
    have hc := (hC h q).ne'
    refine congrArg _ ?_
    rw [Inp.G, Inp.P]
    field_simp
    ring
  · refine (congrArg₂ (· * ·) (if_neg (fun e => hc (hm.mp e))) hA.w).trans ?_
    rw [Inp.G, Inp.P, Inp.E, if_neg hc, zero_div, zero_mul, zero_mul]
    refine (congrArg (· * _) (show val_main_call2_v0 (F := Ideal) (ix3 h q k) = (0 : EReal) from ?_)).trans (zero_mul _)
    pointwise [val_main_call2_v0, val_main_call2_cst]

theorem p_real (h : Fin 8) (q k : Fin 4096) :
    (val_main_v40 (F := Ideal) x0 x1 x2 x3 : FVec Ideal S8x4096x4096 .f32) (ix3 h q k) = ((I.P h q k : ℝ) : EReal) := by
  obtain ⟨C, hC, he, hs⟩ := exp_real x0 x1 x2 x3 x4 x5 I hA
  have hz := I.Z_ne h q
  have hc := (hC h q).ne'
  unfold val_main_v40 val_main_v39 val_main_v38
  generalize (val_main_v36 (F := Ideal) x0 x1 x2 x3 : FVec Ideal S8x4096x4096 .f32) = e at he ⊢
  generalize (val_main_v37 (F := Ideal) x0 x1 x2 x3 : FVec Ideal S8x4096 .f32) = s at hs ⊢
  pointwise
  rw [he, hs, div_coe _ (mul_ne_zero hz hc), Inp.P, mul_div_mul_right _ _ hc]

/-! The three gradients. -/

theorem dq_real (ρ : Fin 4096) (h : Fin 8) (x : Fin 128) :
    (val_main_v73 (F := Ideal) x0 x1 x2 x3 x4 x5 : FVec Ideal S4096x8x128 .f32) (ix3 ρ h x) = ((I.gq h ρ x : ℝ) : EReal) := by
  have hg := v64_real x0 x1 x2 x3 x4 x5 I hA
  unfold val_main_v73 val_main_v71 val_main_v70 val_main_v67 val_main_v66
  generalize (val_main_v64 (F := Ideal) x0 x1 x2 x3 x4 x5 : FVec Ideal S8x4096x4096 .f32) = g at hg ⊢
  pointwise [val_main_v72, val_main_v1, val_main_v0]
  rw [Inp.gq, Finset.sum_mul]
  by_cases h0 : x.val < 64
  · rw [dif_pos h0]
    simp only [hg, hA.kn, ← EReal.coe_mul, coe_sum, pad3, dif_pos h0]
    exact congrArg _ (Finset.sum_congr rfl fun k _ => by ring)
  by_cases h1 : x.val < 96
  · rw [dif_neg h0, dif_pos (by omega)]
    simp only [hg, hA.kr, ← EReal.coe_mul, coe_sum, pad3, dif_neg h0, dif_pos h1]
    exact congrArg _ (Finset.sum_congr rfl fun k _ => by ring)
  · rw [dif_neg h0, dif_neg (by omega)]
    simp only [pad3, dif_neg h0, dif_neg h1, mul_zero, zero_mul, Finset.sum_const_zero]
    exact Ideal.ofBits_zero .f32

theorem dkv_real (ρ : Fin 4096) (h : Fin 8) (x : Fin 128) :
    (val_main_v75 (F := Ideal) x0 x1 x2 x3 x4 x5 : FVec Ideal S4096x8x128 .f32) (ix3 ρ h x) =
      ((if hx : x.val < 64 then I.gk h ρ x else I.gv h ρ ⟨x.val - 64, by omega⟩ : ℝ) : EReal) := by
  have hg := v64_real x0 x1 x2 x3 x4 x5 I hA
  have hp := p_real x0 x1 x2 x3 x4 x5 I hA
  unfold val_main_v75 val_main_v69 val_main_v68 val_main_v49 val_main_v48
  generalize (val_main_v64 (F := Ideal) x0 x1 x2 x3 x4 x5 : FVec Ideal S8x4096x4096 .f32) = g at hg ⊢
  generalize (val_main_v40 (F := Ideal) x0 x1 x2 x3 : FVec Ideal S8x4096x4096 .f32) = p at hp ⊢
  pointwise [val_main_v46]
  by_cases h0 : x.val < 64
  · rw [dif_pos h0, dif_pos h0, Inp.gk, Finset.sum_mul]
    simp only [hg, hA.qn, ← EReal.coe_mul, coe_sum, pad3, dif_pos h0]
    exact congrArg _ (Finset.sum_congr rfl fun k _ => by ring)
  · rw [dif_neg h0, dif_neg h0, Inp.gv]
    simp only [hp, hA.o, ← EReal.coe_mul, coe_sum]
    exact congrArg _ (Finset.sum_congr rfl fun k _ => mul_comm _ _)

theorem dkr_real (g : Fin 2) (k : Fin 4096) (x : Fin 128) :
    (val_main_v81 (F := Ideal) x0 x1 x2 x3 x4 x5 : FVec Ideal S2x4096x128 .f32) (ix3 g k x) =
      ((if 64 ≤ x.val ∧ x.val < 96 then ∑ n : Fin 4, I.gk ⟨4 * g.val + n.val, by omega⟩ k x else 0 : ℝ) : EReal) := by
  have hg := v64_real x0 x1 x2 x3 x4 x5 I hA
  have h65 : ∀ (h : Fin 8) (k : Fin 4096) (d : Fin 32), (val_main_v65 (F := Ideal) x0 x1 x2 x3 x4 x5 : FVec Ideal S8x4096x32 .f32) (ix3 h k d) =
      ((I.gk h k ⟨64 + d.val, by omega⟩ : ℝ) : EReal) := fun h k d => by
    unfold val_main_v65
    generalize (val_main_v64 (F := Ideal) x0 x1 x2 x3 x4 x5 : FVec Ideal S8x4096x4096 .f32) = g at hg ⊢
    pointwise
    have h0 : ¬ 64 + d.val < 64 := by omega
    have h1 : 64 + d.val < 96 := by omega
    rw [Inp.gk, Finset.sum_mul]
    simp only [hg, hA.qr, ← EReal.coe_mul, coe_sum, pad3, dif_neg h0, dif_pos h1]
    refine congrArg _ (Finset.sum_congr rfl fun q _ => ?_)
    rw [mul_right_comm]
    exact congrArg (fun z => I.G h q k * I.qr q h z * I.w) (Fin.ext (by dsimp only; omega))
  have h79 : ∀ (g : Fin 2) (k : Fin 4096) (d : Fin 32), (val_main_v79 (F := Ideal) x0 x1 x2 x3 x4 x5 : FVec Ideal S2x4096x32 .f32) (ix3 g k d) =
      ((∑ n : Fin 4, I.gk ⟨4 * g.val + n.val, by omega⟩ k ⟨64 + d.val, by omega⟩ : ℝ) : EReal) := fun g k d => by
    unfold val_main_v79 val_main_v78 val_main_cst_16
    generalize (val_main_v65 (F := Ideal) x0 x1 x2 x3 x4 x5 : FVec Ideal S8x4096x32 .f32) = u at h65 ⊢
    rw [sum_heads]
    pointwise
    simp only [h65, coe_sum]
    exact congrArg _ (Finset.sum_congr rfl fun n _ => congrArg (fun z => I.gk z k ⟨64 + d.val, by omega⟩) (Fin.ext (by dsimp only; omega)))
  unfold val_main_v81
  generalize (val_main_v79 (F := Ideal) x0 x1 x2 x3 x4 x5 : FVec Ideal S2x4096x32 .f32) = u at h79 ⊢
  pointwise [val_main_v77, val_main_v80]
  by_cases h0 : x.val < 64
  · rw [dif_pos h0, if_neg (by omega)]
    exact Ideal.ofBits_zero .f32
  by_cases h1 : x.val < 96
  · rw [dif_neg h0, dif_pos (by omega)]
    refine (h79 g k ⟨x.val - 64, by omega⟩).trans ?_
    rw [if_pos ⟨by omega, h1⟩]
    have hx : (⟨64 + (x.val - 64), by omega⟩ : Fin 128) = x := Fin.ext (by dsimp only; omega)
    exact congrArg _ (Finset.sum_congr rfl fun n _ => congrArg _ hx)
  · rw [dif_neg h0, dif_neg (by omega), if_neg (by omega)]
    exact Ideal.ofBits_zero .f32

/-! The first two results, their heads side by side. -/

omit hA in
theorem cast_heads (A : FVec Ideal S4096x8x128 .f32) (ρ : Fin 4096) (b : Fin 1024) :
    (shapeCast S4096x1024 A shapeCasts_S4096x8x128_S4096x1024) (ix2 ρ b) = A (ix3 ρ ⟨b.val / 128, by omega⟩ ⟨b.val % 128, by omega⟩) := by
  pointwise

theorem res_dq (a : Fin 4096) (b : Fin 1024) : (val_main_v82 (F := Ideal) x0 x1 x2 x3 x4 x5 : FVec Ideal S4096x1024 .bf16) (ix2 a b) =
    ((I.gq ⟨b.val / 128, by omega⟩ a ⟨b.val % 128, by omega⟩ : ℝ) : EReal) := by
  have hr := dq_real x0 x1 x2 x3 x4 x5 I hA
  unfold val_main_v82 val_main_v74
  generalize (val_main_v73 (F := Ideal) x0 x1 x2 x3 x4 x5 : FVec Ideal S4096x8x128 .f32) = u at hr ⊢
  exact (cast_heads u a b).trans (hr _ _ _)

theorem res_dkv (a : Fin 4096) (b : Fin 1024) : (val_main_v83 (F := Ideal) x0 x1 x2 x3 x4 x5 : FVec Ideal S4096x1024 .bf16) (ix2 a b) =
    ((if hx : b.val % 128 < 64 then I.gk ⟨b.val / 128, by omega⟩ a ⟨b.val % 128, by omega⟩ else I.gv ⟨b.val / 128, by omega⟩ a ⟨b.val % 128 - 64, by omega⟩ : ℝ) : EReal) := by
  have hr := dkv_real x0 x1 x2 x3 x4 x5 I hA
  unfold val_main_v83 val_main_v76
  generalize (val_main_v75 (F := Ideal) x0 x1 x2 x3 x4 x5 : FVec Ideal S4096x8x128 .f32) = u at hr ⊢
  exact (cast_heads u a b).trans (hr _ _ _)

end Cert.AttnRef

end
-- ==== Proof.AttnClaim.lean ====
/- The claim on the attention's gradient: finite arguments give both programs the same three results. -/
module

public import proofs.«01_k».proof.Defs
public import proofs.«01_k».proof.Proof.AttnMath
public import proofs.«01_k».proof.Proof.AttnHost
public import proofs.«01_k».proof.Proof.AttnRef
public import proofs.«01_k».proof.Proof.Gen.AttnRefIdeal.Run
public import proofs.«01_k».proof.Proof.Gen.Pre_attn_finite
public import Idealize.ShloMosaic.Lib.Claim

@[expose] public section

set_option maxRecDepth 16384

noncomputable section

open Idealize.ShloMosaic Idealize.ShloMosaic.TcCoe Idealize.SL.Sem
open Cert.Lift

namespace Cert.Attn

open Cert.AttnBwdIdeal Cert.AttnBwdIdeal.Gen

/-! The kernel's results in the inputs' own terms. -/

/-- Arrays that agree at every index are equal. -/
theorem at2 {A B : FVec Ideal S4096x1024 .bf16} (h : ∀ a b, A (ix2 a b) = B (ix2 a b)) : A = B := funext fun y => by
  idx_vars y
  exact h _ _
theorem at3 {A B : FVec Ideal S2x4096x128 .f32} (h : ∀ g a x, A (ix3 g a x) = B (ix3 g a x)) : A = B := funext fun y => by
  idx_vars y
  exact h _ _ _

theorem head_at (b : ℕ) (hb : b < 1024) (a : ℕ) (ha : a < 4096) : hh (4 * ((8 * (b / 512) + a / 512) / 8) + b / 128 % 4) = ⟨b / 128, by omega⟩ := by
  rw [hh_of _ (by omega)]
  exact Fin.ext (by dsimp only; omega)
theorem pos_at (s : ℕ) (a : ℕ) (ha : a < 4096) : pp (512 * ((8 * s + a / 512) % 8) + a % 512) = ⟨a, ha⟩ := by
  rw [pp_of _ (by omega)]
  exact Fin.ext (by dsimp only; omega)

theorem dq_plain (I : Inp) (hw : I.w = w) (a : Fin 4096) (b : Fin 1024) :
    (∑ j ∈ Finset.range 8, ((dataOf I).hd (8 * (b.val / 512) + j)).dq ⟨b.val / 128 % 4, by omega⟩ 4096 ⟨b.val % 128, by omega⟩ a.val) * w =
      I.gq ⟨b.val / 128, by omega⟩ a ⟨b.val % 128, by omega⟩ := by
  rw [← hw]
  refine (dq_of I (b.val / 512) _ _ a.val a.isLt).trans ?_
  rw [pp_of _ a.isLt, hh_of _ (by dsimp only; omega)]
  exact congrArg (fun z => I.gq z a ⟨b.val % 128, by omega⟩) (Fin.ext (by dsimp only; omega))

theorem dkv_plain (I : Inp) (a : Fin 4096) (b : Fin 1024) :
    (if b.val % 128 < 64 then
      ((dataOf I).hd (8 * (b.val / 512) + a.val / 512)).dk ⟨b.val / 128 % 4, by omega⟩ 4096 ⟨a.val % 512, by omega⟩ ⟨b.val % 128, by omega⟩ * ln2
      else ((dataOf I).hd (8 * (b.val / 512) + a.val / 512)).dv ⟨b.val / 128 % 4, by omega⟩ 4096 ⟨a.val % 512, by omega⟩ ⟨b.val % 128, by omega⟩) =
    if hx : b.val % 128 < 64 then I.gk ⟨b.val / 128, by omega⟩ a ⟨b.val % 128, by omega⟩ else I.gv ⟨b.val / 128, by omega⟩ a ⟨b.val % 128 - 64, by omega⟩ := by
  by_cases hx : b.val % 128 < 64
  · rw [if_pos hx, dif_pos hx]
    refine (dk_of I _ _ _ _).trans ?_
    rw [pos_at _ _ a.isLt, head_at _ b.isLt _ a.isLt]
  · rw [if_neg hx, dif_neg hx]
    refine (dv_of I _ _ _ _ hx).trans ?_
    rw [pos_at _ _ a.isLt, head_at _ b.isLt _ a.isLt]

theorem dkr_plain (I : Inp) (g : Fin 2) (a : Fin 4096) (x : Fin 128) :
    (if 64 ≤ x.val ∧ x.val < 96 then ∑ n : Fin 4, ((dataOf I).hd (8 * g.val + a.val / 512)).dk n 4096 ⟨a.val % 512, by omega⟩ x * ln2 else 0) =
    if 64 ≤ x.val ∧ x.val < 96 then ∑ n : Fin 4, I.gk ⟨4 * g.val + n.val, by omega⟩ a x else 0 := by
  split
  · refine Finset.sum_congr rfl fun n _ => (dk_of I _ n _ _).trans ?_
    rw [pos_at _ _ a.isLt, show 4 * ((8 * g.val + a.val / 512) / 8) + n.val = 4 * g.val + n.val by omega, hh_of _ (by omega)]
  · rfl

/-- Finite arguments are an input of reals. -/
theorem inp_of_pre {m : (ℓ : Loc nD τ sig) → Buf (Elt Ideal) ℓ} (h : Cert.Pre_AttnBwdIdeal_attn_finite m) (c : Dev nD) : ∃ I : Inp, Cert.AttnBwdIdeal.Gen.Args m c I := by
  obtain ⟨h0, h1, h2, h3, h4, h5⟩ := h c
  obtain ⟨X0, e0⟩ := isReal_of_olt _ lit_inf _ _ h0
  obtain ⟨X1, e1⟩ := isReal_of_olt _ lit_inf _ _ h1
  obtain ⟨X2, e2⟩ := isReal_of_olt _ lit_inf _ _ h2
  obtain ⟨X3, e3⟩ := isReal_of_olt _ lit_inf _ _ h3
  obtain ⟨X4, e4⟩ := isReal_of_olt _ lit_inf _ _ h4
  obtain ⟨X5, e5⟩ := isReal_of_olt _ lit_inf _ _ h5
  exact ⟨⟨fun ρ h d => X0 (ix3 ρ h d), fun ρ h d => X1 (ix3 ρ h d), fun ρ h d => X2 (ix3 ρ h d), fun ρ d => X3 (ix2 ρ d), fun ρ h d => X4 (ix3 ρ h d), fun ρ h d => X5 (ix3 ρ h d), w⟩,
    ⟨fun _ _ _ => e0 _, fun _ _ _ => e1 _, fun _ _ _ => e2 _, fun _ _ => e3 _, fun _ _ _ => e4 _, fun _ _ _ => e5 _, rfl⟩⟩

set_option maxHeartbeats 2000000 in
theorem algebraic : Cert.algebraic_AttnBwdIdeal_AttnRefIdeal_pre_attn_finite := by
  pair_intro
  · run_from Cert.AttnBwdIdeal.Gen.run_main m g
    · exact V_main_arg0 m c
    · exact V_main_arg1 m c
    · exact V_main_arg2 m c
    · exact V_main_arg3 m c
    · exact V_main_arg4 m c
    · exact V_main_arg5 m c
  · refine (θ_run _ _ _).mono (fun r h c => ?_) (Cert.AttnRefIdeal.Value.run m' g')
    obtain ⟨a0, a1, a2, a3, a4, a5⟩ := hagree c
    obtain ⟨I, hA⟩ := inp_of_pre hpre c
    have hR : Cert.AttnRef.Args (m' ((c.tc : Thread Cert.AttnRefIdeal.nD Cert.AttnRefIdeal.τ).loc Cert.AttnRefIdeal.main_arg0)) (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2)) (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) (m' ((c.tc : Thread Cert.AttnRefIdeal.nD Cert.AttnRefIdeal.τ).loc Cert.AttnRefIdeal.main_arg5)) I :=
      ⟨fun ρ h d => (congrFun a0 _).trans (hA.qn ρ h d), fun ρ h d => (congrFun a1 _).trans (hA.qr ρ h d), fun ρ h d => (congrFun a2 _).trans (hA.kn ρ h d), fun ρ d => (congrFun a3 _).trans (hA.kr ρ d),
        fun ρ h d => (congrFun a4 _).trans (hA.v ρ h d), fun ρ h d => (congrFun a5 _).trans (hA.o ρ h d), hA.w ▸ lit_w⟩
    refine ⟨(h c).1.trans ?_, (h c).2.1.trans ?_, (h c).2.2.1.trans ?_, (h c).2.2.2⟩
    · refine (Cert.AttnRefIdeal.Read.val_main_v82_eq m' c).trans (Eq.trans ?_ (final_dq m c _ (host_of m c I hA)).symm)
      exact at2 fun a b => (Cert.AttnRef.res_dq _ _ _ _ _ _ I hR a b).trans (congrArg _ (dq_plain I hA.w a b).symm)
    · refine (Cert.AttnRefIdeal.Read.val_main_v83_eq m' c).trans (Eq.trans ?_ (final_dkv m c _ (host_of m c I hA)).symm)
      exact at2 fun a b => (Cert.AttnRef.res_dkv _ _ _ _ _ _ I hR a b).trans (congrArg _ (dkv_plain I a b).symm)
    · refine (Cert.AttnRefIdeal.Read.val_main_v81_eq m' c).trans (Eq.trans ?_ (final_dkr m c _ (host_of m c I hA)).symm)
      exact at3 fun g a x => (Cert.AttnRef.dkr_real _ _ _ _ _ _ I hR g a x).trans (congrArg _ (dkr_plain I g a x).symm)

end Cert.Attn
end
-- ==== Proof.MlaRef.lean ====
module

public import proofs.«01_k».proof.Proof.Lift
public import proofs.«01_k».proof.Proof.Gen.MlaRefIdeal.Read
public import Idealize.ShloMosaic.Lib.Pipeline.ValueKit
public import Idealize.ShloMosaic.Lib.Pipeline.ReadBack
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open scoped BigOperators

namespace Cert.Mla
open Cert.MlaRefIdeal Cert.MlaRefIdeal.Gen Cert.MlaRefIdeal.Read
open Cert.Lift

/-- The rotary gradient of one head's 32 lanes: the two halves turned back by the angle. -/
def rot (u : Fin 32 → EReal) (C S : Fin 16 → EReal) (d : Fin 32) : EReal :=
  if h : d.val < 16 then u ⟨16 + d.val, by omega⟩ * S ⟨d.val, h⟩ + u ⟨d.val, by omega⟩ * C ⟨d.val, h⟩
  else u ⟨16 + (d.val - 16), by omega⟩ * C ⟨d.val - 16, by omega⟩ + -u ⟨d.val - 16, by omega⟩ * S ⟨d.val - 16, by omega⟩

/-- The queries' cotangent before the rotary turn: 64 plain lanes, 32 turned ones. -/
def dq0 (n : FVec Ideal S4096x8x64 .bf16) (r : FVec Ideal S4096x8x32 .bf16) (C S : FVec Ideal S4096x16 .f32) (a : Fin 4096) (h : Fin 8) (d : Fin 96) : EReal :=
  if hd : d.val < 64 then n (ix3 a h ⟨d.val, hd⟩)
  else rot (fun d => r (ix3 a h d)) (fun j => C (ix2 a j)) (fun j => S (ix2 a j)) ⟨d.val - 64, by omega⟩

/-- The same with a head to 128 lanes, the last 32 of zeros. -/
def dqP (n : FVec Ideal S4096x8x64 .bf16) (r : FVec Ideal S4096x8x32 .bf16) (C S : FVec Ideal S4096x16 .f32) (a : Fin 4096) (l : Fin 1024) : EReal :=
  if h : l.val % 128 < 96 then dq0 n r C S a ⟨l.val / 128, by omega⟩ ⟨l.val % 128, h⟩ else 0

/-- The keys' and values' cotangents of one head side by side. -/
def dkv0 (k v : FVec Ideal S4096x8x64 .bf16) (a : Fin 4096) (h : Fin 8) (d : Fin 128) : EReal :=
  if hd : d.val < 64 then k (ix3 a h ⟨d.val, hd⟩) else v (ix3 a h ⟨d.val - 64, by omega⟩)

/-- The same, a head to 128 lanes. -/
def dkvP (k v : FVec Ideal S4096x8x64 .bf16) (a : Fin 4096) (l : Fin 1024) : EReal := dkv0 k v a ⟨l.val / 128, by omega⟩ ⟨l.val % 128, by omega⟩

/-- The queries' weight, a head to 128 lanes with zeros in the last 32. -/
def wuqP (w : FVec Ideal S384x8x96 .f32) (k : Fin 384) (l : Fin 1024) : EReal :=
  if h : l.val % 128 < 96 then w (ix3 k ⟨l.val / 128, by omega⟩ ⟨l.val % 128, h⟩) else 0

/-- The keys' and values' weight, a head to 128 lanes. -/
def wukvP (w : FVec Ideal S256x8x128 .f32) (k : Fin 256) (l : Fin 1024) : EReal := w (ix3 k ⟨l.val / 128, by omega⟩ ⟨l.val % 128, by omega⟩)

/-- The reciprocal root of a row's mean square, `N` the word of the row's length. -/
def nrm {n : ℕ} (N : BitVec 32) (x : Fin n → EReal) : EReal :=
  Ideal.rsqrt (Ideal.div (∑ i, x i * x i) (Ideal.ofBits .f32 N) + Ideal.ofBits .f32 0x358637BD#32)

theorem sum_lanes (f : Fin 1024 → EReal) : ∑ l, f l = ∑ h : Fin 8, ∑ d : Fin 128, f ⟨h.val * 128 + d.val, by omega⟩ :=
  (Fin.sum_mul_add_congr (S := 8) (n := 128) (L := 1024) (F := fun h d => f ⟨h.val * 128 + d.val, by omega⟩) (f := f) (fun t r hl => rfl) rfl).symm

theorem lit_384 : Ideal.ofBits .f32 0x43C00000#32 = ((384 : ℝ) : EReal) := by
  show Ideal.ieee 8 23 (0x43C00000#32) = _
  simp [Ideal.ieee]
  rw [← EReal.coe_mul]
  norm_num
theorem lit_256 : Ideal.ofBits .f32 0x43800000#32 = ((256 : ℝ) : EReal) := by
  show Ideal.ieee 8 23 (0x43800000#32) = _
  simp [Ideal.ieee]
  rw [← EReal.coe_mul]
  norm_num

section Ref
variable (x0 : FVec Ideal S4096x8x64 .bf16) (x1 : FVec Ideal S4096x8x32 .bf16) (x2 x3 : FVec Ideal S4096x8x64 .bf16)
  (x4 : FVec Ideal S2x4096x32 .f32) (x5 : FVec Ideal S4096x384 .f32) (x6 : FVec Ideal S4096x256 .f32) (x8 : FVec Ideal S384 .f32)
  (x9 : FVec Ideal S384x8x96 .f32) (x10 : FVec Ideal S256 .f32) (x11 : FVec Ideal S256x8x128 .f32)

/-- The cosines. -/
abbrev CT : FVec Ideal S4096x16 .f32 := val_main_v29 (F := Ideal)
/-- The sines. -/
abbrev ST : FVec Ideal S4096x16 .f32 := val_main_v30 (F := Ideal)

theorem ref_dq (a : Fin 4096) (h : Fin 8) (d : Fin 96) :
    (val_main_v148 (F := Ideal) x0 x1 : FVec Ideal S1x4096x8x96 .f32) (ix4 0 a h d) = dq0 x0 x1 CT ST a h d := by
  pointwise [val_main_v148, val_main_v147, val_main_v146, val_main_v145, val_main_v144, val_main_v143, val_main_v142, val_main_v141, val_main_v140, val_main_v139, val_main_v138, val_main_v137, val_main_v136, val_main_v135, val_main_v134, val_main_v133, val_main_v132, val_main_v50, val_main_v51, val_main_v3, val_main_v2, val_main_v1, val_main_v0, val_main_cst_16, val_main_cst_17]
  unfold dq0 rot
  by_cases hd : d.val < 64
  · rw [dif_neg (by omega), dif_pos hd, dif_pos hd, zero_add]
  · rw [dif_pos (by omega)]
    refine (congrArg (_ + ·) (dif_neg hd)).trans ((add_zero _).trans ?_)
    refine Eq.trans ?_ (dif_neg hd).symm
    rfl

theorem ref_dkv (a : Fin 4096) (h : Fin 8) (d : Fin 128) :
    (val_main_v107 (F := Ideal) x2 x3 : FVec Ideal S1x4096x8x128 .f32) (ix4 0 a h d) = dkv0 x2 x3 a h d := by
  pointwise [val_main_v107, val_main_v106, val_main_v105, val_main_v4, val_main_v5, val_main_v6, val_main_v7, val_main_cst_9, val_main_cst_10]
  unfold dkv0
  by_cases hd : d.val < 64
  · rw [dif_neg (by omega), dif_pos hd, dif_pos hd, zero_add]
  · rw [dif_pos (by omega), dif_neg hd, dif_neg hd, add_zero]

theorem ref_dcq (a : Fin 4096) (k : Fin 384) :
    (val_main_v151 (F := Ideal) x0 x1 x9 : FVec Ideal S1x4096x384 .f32) (ix3 0 a k) = ∑ l, dqP x0 x1 CT ST a l * wuqP x9 k l := by
  pointwise [val_main_v151]
  refine Eq.trans ?_ (sum_lanes _).symm
  refine Finset.sum_congr rfl fun h _ => ?_
  rw [sum_split 96 32 (n := 128) rfl]
  refine Eq.trans ?_ (congrArg₂ _ rfl (Finset.sum_eq_zero fun x _ => ?_)).symm
  · refine Eq.trans (Finset.sum_congr rfl fun d _ => ?_) (add_zero _).symm
    have e1 : (h.val * 128 + d.val) / 128 = h.val := by omega
    have e2 : (h.val * 128 + d.val) % 128 = d.val := by omega
    rw [ref_dq]
    simp only [dqP, wuqP, e1, e2, dif_pos d.isLt]
  · unfold wuqP
    rw [dif_neg (by dsimp only; omega), mul_zero]

theorem ref_dckv (a : Fin 4096) (k : Fin 256) :
    (val_main_v110 (F := Ideal) x2 x3 x11 : FVec Ideal S1x4096x256 .f32) (ix3 0 a k) = ∑ l, dkvP x2 x3 a l * wukvP x11 k l := by
  pointwise [val_main_v110]
  refine Eq.trans ?_ (sum_lanes _).symm
  refine Finset.sum_congr rfl fun h _ => Finset.sum_congr rfl fun d _ => ?_
  have e1 : (h.val * 128 + d.val) / 128 = h.val := by omega
  have e2 : (h.val * 128 + d.val) % 128 = d.val := by omega
  rw [ref_dkv]
  simp only [dkvP, wukvP, e1, e2]

theorem ref_cq (a : Fin 4096) (k : Fin 384) :
    (val_main_v46 (F := Ideal) x5 x8 : FVec Ideal S1x4096x384 .f32) (ix3 0 a k) = x5 (ix2 a k) * nrm 0x43C00000#32 (fun i => x5 (ix2 a i)) * x8 (ix1 k) := by
  pointwise [val_main_v46, val_main_v45, val_main_v44, val_main_v43, val_main_v42, val_main_v38, val_main_v37, val_main_v36, val_main_v35, val_main_v34, val_main_v33, val_main_v32]
  pointwise [val_main_v31, val_main_v14, val_main_cst_1, val_main_cst_2, val_main_cst_3]
  rfl

theorem ref_ckv (a : Fin 4096) (k : Fin 256) :
    (val_main_v80 (F := Ideal) x6 x10 : FVec Ideal S1x4096x256 .f32) (ix3 0 a k) = x6 (ix2 a k) * nrm 0x43800000#32 (fun i => x6 (ix2 a i)) * x10 (ix1 k) := by
  pointwise [val_main_v80, val_main_v79, val_main_v78, val_main_v77, val_main_v76, val_main_v72, val_main_v71, val_main_v70, val_main_v69, val_main_v68, val_main_v67, val_main_v66]
  pointwise [val_main_v65, val_main_v15, val_main_cst_5, val_main_cst_6, val_main_cst_7]
  rfl

theorem ref_guq (k : Fin 384) (l : Fin 1024) :
    (val_main_v183 (F := Ideal) x0 x1 x5 x8 : FVec Ideal S384x1024 .bf16) (ix2 k l) =
      ∑ a, x5 (ix2 a k) * nrm 0x43C00000#32 (fun i => x5 (ix2 a i)) * x8 (ix1 k) * dqP x0 x1 CT ST a l := by
  pointwise [val_main_v183, val_main_v182, val_main_v181, val_main_v180, val_main_v150, val_main_v149, val_main_cst_25]
  by_cases h : l.val % 128 < 96
  · rw [dif_pos h]
    refine (Fin.sum_univ_one _).trans (Finset.sum_congr rfl fun a _ => ?_)
    rw [ref_cq, ref_dq, mul_comm]
    unfold dqP
    rw [dif_pos h]
  · rw [dif_neg h]
    refine (Finset.sum_eq_zero fun a _ => ?_).symm
    unfold dqP
    rw [dif_neg h, mul_zero]

theorem ref_gukv (k : Fin 256) (l : Fin 1024) :
    (val_main_v185 (F := Ideal) x2 x3 x6 x10 : FVec Ideal S256x1024 .bf16) (ix2 k l) =
      ∑ a, x6 (ix2 a k) * nrm 0x43800000#32 (fun i => x6 (ix2 a i)) * x10 (ix1 k) * dkvP x2 x3 a l := by
  pointwise [val_main_v185, val_main_v184, val_main_v109, val_main_v108]
  refine (Fin.sum_univ_one _).trans (Finset.sum_congr rfl fun a _ => ?_)
  rw [ref_ckv, ref_dkv, mul_comm]
  rfl

theorem ref_gqn (k : Fin 384) :
    (val_main_v186 (F := Ideal) x0 x1 x5 x9 : FVec Ideal S1x384 .f32) (ix2 0 k) =
      ∑ a, x5 (ix2 a k) * nrm 0x43C00000#32 (fun i => x5 (ix2 a i)) * ∑ l, dqP x0 x1 CT ST a l * wuqP x9 k l := by
  simp only [← ref_dcq]
  pointwise [val_main_v186, val_main_v157, val_main_v154, val_main_v153, val_main_cst_18, val_main_cst_19]
  simp only [hostReduceAdd_last]
  pointwise [val_main_v152, val_main_v43, val_main_v42, val_main_v38, val_main_v37, val_main_v36, val_main_v35, val_main_v34, val_main_v33, val_main_v32, val_main_v31, val_main_v14, val_main_cst_1, val_main_cst_2, val_main_cst_3]
  rfl

theorem ref_gkvn (k : Fin 256) :
    (val_main_v187 (F := Ideal) x2 x3 x6 x11 : FVec Ideal S1x256 .f32) (ix2 0 k) =
      ∑ a, x6 (ix2 a k) * nrm 0x43800000#32 (fun i => x6 (ix2 a i)) * ∑ l, dkvP x2 x3 a l * wukvP x11 k l := by
  simp only [← ref_dckv]
  pointwise [val_main_v187, val_main_v116, val_main_v113, val_main_v112, val_main_cst_11, val_main_cst_12]
  simp only [hostReduceAdd_last]
  pointwise [val_main_v111, val_main_v77, val_main_v76, val_main_v72, val_main_v71, val_main_v70, val_main_v69, val_main_v68, val_main_v67, val_main_v66, val_main_v65, val_main_v15, val_main_cst_5, val_main_cst_6, val_main_cst_7]
  rfl

theorem ref_dfr_q (X U : Fin 4096 → Fin 384 → ℝ) (N : Fin 384 → ℝ) (hx : ∀ a k, x5 (ix2 a k) = ((X a k : ℝ) : EReal))
    (hu : ∀ a k, (val_main_v151 (F := Ideal) x0 x1 x9 : FVec Ideal S1x4096x384 .f32) (ix3 0 a k) = ((U a k : ℝ) : EReal)) (hn : ∀ k, x8 (ix1 k) = ((N k : ℝ) : EReal))
    (a : Fin 4096) (k : Fin 384) :
    (val_main_v172 (F := Ideal) x0 x1 x5 x8 x9 : FVec Ideal S1x4096x384 .f32) (ix3 0 a k) = ((
      (fun j => U a j * N j) k * rinv (X a) 384 + X a k * ((∑ i, X a i * (fun j => U a j * N j) i) * (-(1 / 2) * (rinv (X a) 384 / ((∑ i, X a i * X a i) / 384 + eps))) / 384)
       + (∑ i, X a i * (fun j => U a j * N j) i) * (-(1 / 2) * (rinv (X a) 384 / ((∑ i, X a i * X a i) / 384 + eps))) / 384 * X a k : ℝ) : EReal) := by
  pointwise [val_main_v172, val_main_v171, val_main_v170, val_main_v169, val_main_v168, val_main_v167, val_main_v166, val_main_cst_22]
  simp only [hostReduceAdd_mid]
  pointwise [val_main_v165, val_main_v164, val_main_v163, val_main_v162, val_main_v161, val_main_v160, val_main_v159, val_main_v158, val_main_v156, val_main_v155, val_main_v44, val_main_cst_20, val_main_cst_21,
    val_main_v41, val_main_v40, val_main_v39, val_main_cst_4, val_main_v38, val_main_v37, val_main_v36, val_main_v35, val_main_v34, val_main_v33, val_main_v32, val_main_v31, val_main_v14, val_main_cst_1, val_main_cst_2, val_main_cst_3]
  simp only [hx, hu, hn, lit_384, lit_eps, lit_neg_half, ← EReal.coe_mul, coe_sum, ← EReal.coe_add,
    div_coe _ (by norm_num : (384 : ℝ) ≠ 0), rsqrt_row (X a) (by norm_num : (0 : ℝ) < 384),
    div_coe _ (ms_pos (X a) (by norm_num : (0 : ℝ) < 384)).ne']

theorem ref_dfr_kv (X U : Fin 4096 → Fin 256 → ℝ) (N : Fin 256 → ℝ) (hx : ∀ a k, x6 (ix2 a k) = ((X a k : ℝ) : EReal))
    (hu : ∀ a k, (val_main_v110 (F := Ideal) x2 x3 x11 : FVec Ideal S1x4096x256 .f32) (ix3 0 a k) = ((U a k : ℝ) : EReal)) (hn : ∀ k, x10 (ix1 k) = ((N k : ℝ) : EReal))
    (a : Fin 4096) (k : Fin 256) :
    (val_main_v131 (F := Ideal) x2 x3 x6 x10 x11 : FVec Ideal S1x4096x256 .f32) (ix3 0 a k) = ((
      (fun j => U a j * N j) k * rinv (X a) 256 + X a k * ((∑ i, X a i * (fun j => U a j * N j) i) * (-(1 / 2) * (rinv (X a) 256 / ((∑ i, X a i * X a i) / 256 + eps))) / 256)
       + (∑ i, X a i * (fun j => U a j * N j) i) * (-(1 / 2) * (rinv (X a) 256 / ((∑ i, X a i * X a i) / 256 + eps))) / 256 * X a k : ℝ) : EReal) := by
  pointwise [val_main_v131, val_main_v130, val_main_v129, val_main_v128, val_main_v127, val_main_v126, val_main_v125, val_main_cst_15]
  simp only [hostReduceAdd_mid]
  pointwise [val_main_v124, val_main_v123, val_main_v122, val_main_v121, val_main_v120, val_main_v119, val_main_v118, val_main_v117, val_main_v115, val_main_v114, val_main_v78, val_main_cst_13, val_main_cst_14,
    val_main_v75, val_main_v74, val_main_v73, val_main_cst_8, val_main_v72, val_main_v71, val_main_v70, val_main_v69, val_main_v68, val_main_v67, val_main_v66, val_main_v65, val_main_v15, val_main_cst_5, val_main_cst_6, val_main_cst_7]
  simp only [hx, hu, hn, lit_256, lit_eps, lit_neg_half, ← EReal.coe_mul, coe_sum, ← EReal.coe_add,
    div_coe _ (by norm_num : (256 : ℝ) ≠ 0), rsqrt_row (X a) (by norm_num : (0 : ℝ) < 256),
    div_coe _ (ms_pos (X a) (by norm_num : (0 : ℝ) < 256)).ne']

theorem ref_dfr_kr (a : Fin 4096) (d : Fin 32) :
    (val_main_v104 (F := Ideal) x4 : FVec Ideal S1x4096x32 .f32) (ix3 0 a d) = rot (fun d => x4 (ix3 0 a d) + x4 (ix3 1 a d)) (fun j => CT (ix2 a j)) (fun j => ST (ix2 a j)) d := by
  pointwise [val_main_v104, val_main_v103, val_main_v102, val_main_v101, val_main_v100, val_main_v99, val_main_v98, val_main_v97, val_main_v96, val_main_v95, val_main_v85, val_main_v84, val_main_v13, val_main_v12, val_main_v11, val_main_v10, val_main_v9, val_main_v8]
  rfl

theorem ref_dfr (a : Fin 4096) (k : Fin 768) :
    (val_main_v179 (F := Ideal) x0 x1 x2 x3 x4 x5 x6 x8 x9 x10 x11 : FVec Ideal S4096x768 .bf16) (ix2 a k) =
      if h : k.val < 384 then (val_main_v172 (F := Ideal) x0 x1 x5 x8 x9 : FVec Ideal S1x4096x384 .f32) (ix3 0 a ⟨k.val, h⟩)
      else if h : k.val - 384 < 256 then (val_main_v131 (F := Ideal) x2 x3 x6 x10 x11 : FVec Ideal S1x4096x256 .f32) (ix3 0 a ⟨k.val - 384, h⟩)
      else if h : k.val - 384 - 256 < 64 then 0
      else if h : k.val - 384 - 256 - 64 < 32 then (val_main_v104 (F := Ideal) x4 : FVec Ideal S1x4096x32 .f32) (ix3 0 a ⟨k.val - 384 - 256 - 64, h⟩) else 0 := by
  pointwise [val_main_v179, val_main_v178, val_main_v177, val_main_v176, val_main_v175, val_main_v174, val_main_v173, val_main_cst_23, val_main_cst_24]
end Ref
end Cert.Mla
end
-- ==== Proof.MlaKer.lean ====
module

public import proofs.«01_k».proof.Proof.Lift
public import proofs.«01_k».proof.Proof.Gen.MlaBwdIdeal.Value
public import proofs.«01_k».proof.Proof.MlaRef
public import Idealize.ShloMosaic.Lib.Pipeline.ValueKit
public import Idealize.ShloMosaic.Lib.Pipeline.ReadBack
public import Idealize.ShloMosaic.Lib.StableHlo.ReadAt
public import Idealize.ShloMosaic.Lib.Tactic.CleanTypes

@[expose] public section

set_option maxRecDepth 16384

noncomputable section

open Idealize.ShloMosaic Idealize.ShloMosaic.TcCoe Idealize.SL.Sem
open scoped BigOperators

namespace Cert.Mla
open Cert.MlaBwdIdeal Cert.MlaBwdIdeal.Gen Cert.Lift

/-- Lane `j` of the table beside the lane itself: ones, the cosines twice, zeros. -/
def cN (C : Fin 16 → EReal) (j : ℕ) : EReal := if j < 64 then 1 else if h : j - 64 < 16 then C ⟨j - 64, h⟩ else if h : j - 64 - 16 < 16 then C ⟨j - 64 - 16, h⟩ else 0
/-- Lane `j` of the table beside the lane sixteen above: minus the sines on the first half. -/
def saN (S : Fin 16 → EReal) (j : ℕ) : EReal := if j < 64 then 0 else if h : j - 64 < 16 then -S ⟨j - 64, h⟩ else 0
/-- Lane `j` of the table beside the lane sixteen below: the sines on the second half. -/
def sbN (S : Fin 16 → EReal) (j : ℕ) : EReal := if j < 64 then 0 else if j - 64 < 16 then 0 else if h : j - 64 - 16 < 16 then S ⟨j - 64 - 16, h⟩ else 0

theorem lit_neg_one : Ideal.ofBits .f32 0xBF800000#32 = -1 := by
  show Ideal.ieee 8 23 (0xBF800000#32) = _
  simp [Ideal.ieee]
  rw [← EReal.coe_mul]
  norm_num

theorem rope_lo (C S : Fin 16 → EReal) (j : ℕ) (h : j < 64) (u p q : EReal) : u * cN C j + -1 * (p * saN S j + q * sbN S j) = u := by
  simp only [cN, saN, sbN, if_pos h, mul_one, mul_zero, add_zero]
theorem rope_first (C S : Fin 16 → EReal) (j : ℕ) (h : 64 ≤ j) (h' : j - 64 < 16) (u p q : EReal) :
    u * cN C j + -1 * (p * saN S j + q * sbN S j) = p * S ⟨j - 64, h'⟩ + u * C ⟨j - 64, h'⟩ := by
  simp only [cN, saN, sbN, if_neg (Nat.not_lt.mpr h), dif_pos h', if_pos h', mul_zero, add_zero]
  rw [neg_one_mul, mul_neg, neg_neg, add_comm]
theorem rope_second (C S : Fin 16 → EReal) (j : ℕ) (h : ¬ j < 64) (h' : ¬ j - 64 < 16) (h2 : j - 64 - 16 < 16) (u p q : EReal) :
    u * cN C j + -1 * (p * saN S j + q * sbN S j) = u * C ⟨j - 64 - 16, h2⟩ + -q * S ⟨j - 64 - 16, h2⟩ := by
  simp only [cN, saN, sbN, if_neg h, dif_neg h', if_neg h', dif_pos h2, mul_zero, zero_add]
  rw [neg_one_mul, neg_mul]
theorem rope_hi (C S : Fin 16 → EReal) (j : ℕ) (h : 96 ≤ j) (u p q : EReal) : u * cN C j + -1 * (p * saN S j + q * sbN S j) = 0 := by
  simp only [cN, saN, sbN, if_neg (show ¬ j < 64 by omega), dif_neg (show ¬ j - 64 < 16 by omega), if_neg (show ¬ j - 64 < 16 by omega),
    dif_neg (show ¬ j - 64 - 16 < 16 by omega), mul_zero, add_zero]

theorem tile8 (g : ℕ → EReal) (l : Fin 1024) : (if _ : l.val < 128 then g l.val else if _ : l.val - 128 < 128 then g (l.val - 128)
    else if _ : l.val - 128 - 128 < 128 then g (l.val - 128 - 128) else if _ : l.val - 128 - 128 - 128 < 128 then g (l.val - 128 - 128 - 128)
    else if _ : l.val - 128 - 128 - 128 - 128 < 128 then g (l.val - 128 - 128 - 128 - 128)
    else if _ : l.val - 128 - 128 - 128 - 128 - 128 < 128 then g (l.val - 128 - 128 - 128 - 128 - 128)
    else if _ : l.val - 128 - 128 - 128 - 128 - 128 - 128 < 128 then g (l.val - 128 - 128 - 128 - 128 - 128 - 128)
    else g (l.val - 128 - 128 - 128 - 128 - 128 - 128 - 128)) = g (l.val % 128) := by
  have := l.isLt
  split_ifs <;> congr 1 <;> omega

theorem k_rope (v4 v6 v8 : FVec Ideal S512x128 .f32) (v54 : FVec Ideal S512x1024 .bf16) (r : Fin 512) (c sa sb : ℕ → EReal)
    (h4 : ∀ j, v4 (ix2 r j) = c j.val) (h6 : ∀ j, v6 (ix2 r j) = sa j.val) (h8 : ∀ j, v8 (ix2 r j) = sb j.val) (l : Fin 1024) :
    k0_pay20 (F := Ideal) v4 v6 v8 v54 (ix2 r l) = v54 (ix2 r l) * c (l.val % 128) +
      -1 * (v54 (ix2 r ⟨(l.val + 1024 - 1008) % 1024, by omega⟩) * sa (l.val % 128) + v54 (ix2 r ⟨(l.val + 1024 - 16) % 1024, by omega⟩) * sb (l.val % 128)) := by
  pointwise [k0_pay20]
  simp only [h4, h6, h8, tile8, lit_neg_one]

/-- The queries' cotangent in packed lanes, before the turn. -/
def dqA (n : FVec Ideal S4096x8x64 .bf16) (r : FVec Ideal S4096x8x32 .bf16) (a : Fin 4096) (l : Fin 1024) : EReal :=
  if h : l.val % 128 < 64 then n (ix3 a ⟨l.val / 128, by omega⟩ ⟨l.val % 128, h⟩)
  else if h : l.val % 128 - 64 < 32 then r (ix3 a ⟨l.val / 128, by omega⟩ ⟨l.val % 128 - 64, h⟩) else 0

theorem k_dq (v4 v6 v8 : FVec Ideal S512x128 .f32) (v54 : FVec Ideal S512x1024 .bf16) (r : Fin 512) (a : Fin 4096) (C S : FVec Ideal S4096x16 .f32)
    (n : FVec Ideal S4096x8x64 .bf16) (w : FVec Ideal S4096x8x32 .bf16)
    (h4 : ∀ j, v4 (ix2 r j) = cN (fun i => C (ix2 a i)) j.val) (h6 : ∀ j, v6 (ix2 r j) = saN (fun i => S (ix2 a i)) j.val) (h8 : ∀ j, v8 (ix2 r j) = sbN (fun i => S (ix2 a i)) j.val)
    (hv : ∀ l, v54 (ix2 r l) = dqA n w a l) (l : Fin 1024) :
    k0_pay20 (F := Ideal) v4 v6 v8 v54 (ix2 r l) = dqP n w C S a l := by
  rw [k_rope v4 v6 v8 v54 r _ _ _ h4 h6 h8, hv, hv, hv]
  by_cases h1 : l.val % 128 < 64
  · rw [rope_lo _ _ _ h1]
    unfold dqA dqP dq0
    rw [dif_pos h1, dif_pos (by omega)]
    exact Eq.symm (dif_pos (show (⟨l.val % 128, by omega⟩ : Fin 96).val < 64 from h1))
  by_cases h2 : l.val % 128 < 96
  · refine Eq.trans ?_ ((dif_pos h2).trans (dif_neg h1)).symm
    unfold rot
    by_cases h3 : l.val % 128 - 64 < 16
    · rw [rope_first _ _ _ (by omega) h3]
      refine Eq.trans ?_ (dif_pos h3).symm
      have e1 : (l.val + 1024 - 1008) % 1024 / 128 = l.val / 128 := by omega
      have e2 : (l.val + 1024 - 1008) % 1024 % 128 = l.val % 128 + 16 := by omega
      have e3 : l.val % 128 + 16 - 64 = 16 + (l.val % 128 - 64) := by omega
      unfold dqA
      simp only [e1, e2, e3, dif_neg h1, dif_neg (show ¬ l.val % 128 + 16 < 64 by omega), dif_pos (show 16 + (l.val % 128 - 64) < 32 by omega), dif_pos (show l.val % 128 - 64 < 32 by omega)]
    · rw [rope_second _ _ _ h1 h3 (by omega)]
      refine Eq.trans ?_ (dif_neg h3).symm
      have e1 : (l.val + 1024 - 16) % 1024 / 128 = l.val / 128 := by omega
      have e2 : (l.val + 1024 - 16) % 1024 % 128 = l.val % 128 - 16 := by omega
      have e3 : l.val % 128 - 16 - 64 = l.val % 128 - 64 - 16 := by omega
      have e4 : 16 + (l.val % 128 - 64 - 16) = l.val % 128 - 64 := by omega
      unfold dqA
      simp only [e1, e2, e3, e4, dif_neg h1, dif_neg (show ¬ l.val % 128 - 16 < 64 by omega), dif_pos (show l.val % 128 - 64 - 16 < 32 by omega), dif_pos (show l.val % 128 - 64 < 32 by omega)]
  · rw [rope_hi _ _ _ (by omega)]
    simp only [dqP, dif_neg h2]

theorem k_dkr (v4 v6 v8 : FVec Ideal S512x128 .f32) (v1 v2 : FVec Ideal S1x512x128 .f32) (r : Fin 512) (C S : Fin 16 → EReal) (u : Fin 32 → EReal)
    (h4 : ∀ j, v4 (ix2 r j) = cN C j.val) (h6 : ∀ j, v6 (ix2 r j) = saN S j.val) (h8 : ∀ j, v8 (ix2 r j) = sbN S j.val)
    (hlo : ∀ l : Fin 128, l.val < 64 → v1 (ix3 0 r l) + v2 (ix3 0 r l) = 0)
    (hu : ∀ d : Fin 32, v1 (ix3 0 r ⟨64 + d.val, by omega⟩) + v2 (ix3 0 r ⟨64 + d.val, by omega⟩) = u d) (l : Fin 128) :
    k0_pay32 (F := Ideal) v4 v6 v8 v1 v2 (ix2 r l) = if l.val < 64 then 0 else if h : l.val - 64 < 32 then rot u C S ⟨l.val - 64, h⟩ else 0 := by
  pointwise [k0_pay32]
  simp only [h4, h6, h8, lit_neg_one]
  by_cases h1 : l.val < 64
  · rw [if_pos h1, rope_lo _ _ _ h1, hlo l h1]
  rw [if_neg h1]
  by_cases h2 : l.val - 64 < 32
  · rw [dif_pos h2]
    unfold rot
    have hl : v1 (ix3 0 r l) + v2 (ix3 0 r l) = u ⟨l.val - 64, h2⟩ := by
      rw [← hu]
      have : l = ⟨64 + (l.val - 64), by omega⟩ := Fin.ext (by dsimp only; omega)
      rw [← this]
    by_cases h3 : l.val - 64 < 16
    · rw [rope_first _ _ _ (by omega) h3]
      refine Eq.trans ?_ (dif_pos h3).symm
      refine congrArg₂ _ (congrArg (· * _) ?_) (congrArg (· * _) hl)
      rw [← hu]
      have : (⟨(l.val + 128 - 112) % 128, by omega⟩ : Fin 128) = ⟨64 + (16 + (l.val - 64)), by omega⟩ := Fin.ext (by dsimp only; omega)
      rw [this]
    · rw [rope_second _ _ _ h1 h3 (by omega)]
      refine Eq.trans ?_ (dif_neg h3).symm
      refine congrArg₂ _ (congrArg (· * _) ?_) (congrArg (- · * _) ?_)
      · rw [hl]
        exact congrArg u (Fin.ext (by dsimp only; omega))
      · rw [← hu]
        have : (⟨(l.val + 128 - 16) % 128, by omega⟩ : Fin 128) = ⟨64 + (l.val - 64 - 16), by omega⟩ := Fin.ext (by dsimp only; omega)
        rw [this]
  · rw [rope_hi _ _ _ (by omega), dif_neg h2]

theorem k_cq (v9 : FVec Ideal S512x384 .f32) (v13 : FVec Ideal S384 .f32) (r : Fin 512) (k : Fin 384) :
    k0_pay19 (F := Ideal) (k0_pay11 v9) (k0_pay13 v13) (ix2 r k) = v9 (ix2 r k) * nrm 0x43C00000#32 (fun i => v9 (ix2 r i)) * v13 (ix1 k) := by
  pointwise [k0_pay19, k0_pay11, k0_pay13]
  rfl
theorem k_ckv (v11 : FVec Ideal S512x256 .f32) (v15 : FVec Ideal S1x256 .f32) (r : Fin 512) (k : Fin 256) :
    k0_pay17 (F := Ideal) v11 v15 (ix2 r k) = v11 (ix2 r k) * nrm 0x43800000#32 (fun i => v11 (ix2 r i)) * v15 (ix2 0 k) := by
  pointwise [k0_pay17, k0_pay12, k0_pay14]
  rfl
theorem k_guq (v53 : FVec Ideal S512x384 .bf16) (v69 : FVec Ideal S512x1024 .bf16) (v99 : FVec Ideal S384x1024 .f32) (k : Fin 384) (l : Fin 1024) :
    k0_pay25 (F := Ideal) v53 v69 v99 (ix2 k l) = v99 (ix2 k l) + ∑ r, v53 (ix2 r k) * v69 (ix2 r l) := by
  pointwise [k0_pay25]
theorem k_gukv (v17 : FVec Ideal S512x1024 .bf16) (v34 : FVec Ideal S512x256 .bf16) (v35 : FVec Ideal S256x1024 .f32) (k : Fin 256) (l : Fin 1024) :
    k0_pay18 (F := Ideal) (k0_pay15 v17) v34 v35 (ix2 k l) = v35 (ix2 k l) + ∑ r, v34 (ix2 r k) * v17 (ix2 r l) := by
  pointwise [k0_pay18, k0_pay15]
theorem k_dcq (v69 : FVec Ideal S512x1024 .bf16) (v105 : FVec Ideal S384x1024 .bf16) (r : Fin 512) (k : Fin 384) :
    k0_pay26 (F := Ideal) v69 v105 (ix2 r k) = ∑ l, v69 (ix2 r l) * v105 (ix2 k l) := by
  pointwise [k0_pay26]
theorem k_dckv (v17 : FVec Ideal S512x1024 .bf16) (v19 : FVec Ideal S256x1024 .bf16) (r : Fin 512) (k : Fin 256) :
    k0_pay16 (F := Ideal) v17 v19 (ix2 r k) = ∑ l, v17 (ix2 r l) * v19 (ix2 k l) := by
  pointwise [k0_pay16, k0_pay15]
theorem k_gqn (v107 : FVec Ideal S512x384 .f32) (v9 : FVec Ideal S512x384 .f32) (v133 : FVec Ideal S1x384 .f32) (k : Fin 384) :
    k0_pay29 (F := Ideal) v107 (k0_pay28 (k0_pay11 v9)) v133 (ix2 0 k) = v133 (ix2 0 k) + ∑ r, v9 (ix2 r k) * nrm 0x43C00000#32 (fun i => v9 (ix2 r i)) * v107 (ix2 r k) := by
  pointwise [k0_pay29, k0_pay28, k0_pay27, k0_pay11]
  exact congrArg _ (Finset.sum_congr rfl fun r _ => mul_comm _ _)
theorem k_gkvn (v21 : FVec Ideal S512x256 .f32) (v11 : FVec Ideal S512x256 .f32) (v95 : FVec Ideal S1x256 .f32) (k : Fin 256) :
    k0_pay24 (F := Ideal) (k0_pay12 v11) v21 (k0_pay21 (k0_pay12 v11)) v95 (ix2 0 k) = v95 (ix2 0 k) + ∑ r, v11 (ix2 r k) * nrm 0x43800000#32 (fun i => v11 (ix2 r i)) * v21 (ix2 r k) := by
  pointwise [k0_pay24, k0_pay22, k0_pay21, k0_pay12]
  exact congrArg _ (Finset.sum_congr rfl fun r _ => mul_comm _ _)

theorem k_dzq (v13 : FVec Ideal S384 .f32) (v107 v9 : FVec Ideal S512x384 .f32) (r : Fin 512) (x u n : Fin 384 → ℝ)
    (hx : ∀ k, v9 (ix2 r k) = ((x k : ℝ) : EReal)) (hu : ∀ k, v107 (ix2 r k) = ((u k : ℝ) : EReal)) (hn : ∀ k, v13 (ix1 k) = ((n k : ℝ) : EReal)) (k : Fin 384) :
    k0_pay30 (F := Ideal) (k0_pay13 v13) v107 (k0_pay27 (k0_pay11 v9)) (k0_pay28 (k0_pay11 v9)) (ix2 r k) =
      ((rinv x 384 * ((fun j => u j * n j) k - x k * rinv x 384 * ((∑ i, (fun j => u j * n j) i * (x i * rinv x 384)) / 384)) : ℝ) : EReal) := by
  pointwise [k0_pay30, k0_pay28, k0_pay27, k0_pay13, k0_pay11]
  simp only [hx, hu, hn, lit_384, lit_eps, ← EReal.coe_mul, coe_sum, ← EReal.coe_add, ← EReal.coe_sub, div_coe _ (by norm_num : (384 : ℝ) ≠ 0),
    rsqrt_row x (by norm_num : (0 : ℝ) < 384)]
theorem k_dzkv (v15 : FVec Ideal S1x256 .f32) (v21 v11 : FVec Ideal S512x256 .f32) (r : Fin 512) (x u n : Fin 256 → ℝ)
    (hx : ∀ k, v11 (ix2 r k) = ((x k : ℝ) : EReal)) (hu : ∀ k, v21 (ix2 r k) = ((u k : ℝ) : EReal)) (hn : ∀ k, v15 (ix2 0 k) = ((n k : ℝ) : EReal)) (k : Fin 256) :
    k0_pay31 (F := Ideal) (k0_pay23 (k0_pay12 v11) (k0_pay14 v15) v21 (k0_pay21 (k0_pay12 v11))) (ix2 r k) =
      ((rinv x 256 * ((fun j => u j * n j) k - x k * rinv x 256 * ((∑ i, (fun j => u j * n j) i * (x i * rinv x 256)) / 256)) : ℝ) : EReal) := by
  pointwise [k0_pay31, k0_pay23, k0_pay22, k0_pay21, k0_pay14, k0_pay12]
  simp only [hx, hu, hn, lit_256, lit_eps, ← EReal.coe_mul, coe_sum, ← EReal.coe_add, ← EReal.coe_sub, div_coe _ (by norm_num : (256 : ℝ) ≠ 0),
    rsqrt_row x (by norm_num : (0 : ℝ) < 256)]
end Cert.Mla
end
-- ==== Proof.MlaHost.lean ====
module

public import proofs.«01_k».proof.Proof.MlaKer

@[expose] public section

set_option maxRecDepth 16384

noncomputable section

open Idealize.ShloMosaic Idealize.ShloMosaic.TcCoe Idealize.SL.Sem
open scoped BigOperators

namespace Cert.Mla
open Cert.MlaBwdIdeal Cert.MlaBwdIdeal.Gen Cert.Lift

/-- The version's packed query cotangent. -/
def hq (x0 : FVec Ideal S4096x8x64 .bf16) (x1 : FVec Ideal S4096x8x32 .bf16) : FVec Ideal S4096x1024 .bf16 :=
  shapeCast S4096x1024 (concatenate S4096x8x128 2 [⟨S4096x8x64, x0⟩, ⟨S4096x8x32, x1⟩, ⟨S4096x8x32, broadcastInDim S4096x8x32 ![] bcast_S_S4096x8x32 (constant S_ .bf16 0x0000#16)⟩]
    concatenates_S4096x8x64_S4096x8x32_S4096x8x32_S4096x8x128_d2 : FVec Ideal S4096x8x128 .bf16) shapeCasts_S4096x8x128_S4096x1024
/-- The version's packed cotangent of keys and values. -/
def hkv (x2 x3 : FVec Ideal S4096x8x64 .bf16) : FVec Ideal S4096x1024 .bf16 :=
  shapeCast S4096x1024 (concatenate S4096x8x128 2 [⟨S4096x8x64, x2⟩, ⟨S4096x8x64, x3⟩] concatenates_S4096x8x64_S4096x8x64_S4096x8x128_d2 : FVec Ideal S4096x8x128 .bf16) shapeCasts_S4096x8x128_S4096x1024
/-- The version's rotated-key cotangents, in lanes 64 to 96. -/
def hkr (x4 : FVec Ideal S2x4096x32 .f32) : FVec Ideal S2x4096x128 .f32 :=
  concatenate S2x4096x128 2 [⟨S2x4096x64, broadcastInDim S2x4096x64 ![] bcast_S_S2x4096x64 (constant S_ .f32 0x00000000#32)⟩, ⟨S2x4096x32, x4⟩,
    ⟨S2x4096x32, broadcastInDim S2x4096x32 ![] bcast_S_S2x4096x32 (constant S_ .f32 0x00000000#32)⟩] concatenates_S2x4096x64_S2x4096x32_S2x4096x32_S2x4096x128_d2
/-- The version's row of projections. -/
def hz (x5 : FVec Ideal S4096x384 .f32) (x6 : FVec Ideal S4096x256 .f32) (x7 : FVec Ideal S4096x32 .f32) : FVec Ideal S4096x768 .f32 :=
  concatenate S4096x768 1 [⟨S4096x384, x5⟩, ⟨S4096x256, x6⟩, ⟨S4096x64, broadcastInDim S4096x64 ![] bcast_S_S4096x64 (constant S_ .f32 0x00000000#32)⟩, ⟨S4096x32, x7⟩,
    ⟨S4096x32, broadcastInDim S4096x32 ![] bcast_S_S4096x32 (constant S_ .f32 0x00000000#32)⟩] concatenates_S4096x384_S4096x256_S4096x64_S4096x32_S4096x32_S4096x768_d1
/-- The version's padded query up-projection. -/
def hwq (x9 : FVec Ideal S384x8x96 .f32) : FVec Ideal S384x1024 .bf16 :=
  shapeCast S384x1024 (concatenate S384x8x128 2 [⟨S384x8x96, truncf .bf16 x9 bitsLt_bf16_f32⟩, ⟨S384x8x32, broadcastInDim S384x8x32 ![] bcast_S_S384x8x32 (constant S_ .bf16 0x0000#16)⟩]
    concatenates_S384x8x96_S384x8x32_S384x8x128_d2 : FVec Ideal S384x8x128 .bf16) shapeCasts_S384x8x128_S384x1024
def hwkv (x11 : FVec Ideal S256x8x128 .f32) : FVec Ideal S256x1024 .bf16 := shapeCast S256x1024 (truncf .bf16 x11 bitsLt_bf16_f32 : FVec Ideal S256x8x128 .bf16) shapeCasts_S256x8x128_S256x1024
def hn (x10 : FVec Ideal S256 .f32) : FVec Ideal S1x256 .f32 := shapeCast S1x256 x10 shapeCasts_S256_S1x256
/-- The version's table of cosines over 128 lanes. -/
def hc (C : FVec Ideal S4096x16 .f32) : FVec Ideal S4096x128 .f32 :=
  concatenate S4096x128 1 [⟨S4096x64, broadcastInDim S4096x64 ![] bcast_S_S4096x64 (constant S_ .f32 0x3F800000#32)⟩, ⟨S4096x16, C⟩, ⟨S4096x16, C⟩,
    ⟨S4096x32, broadcastInDim S4096x32 ![] bcast_S_S4096x32 (constant S_ .f32 0x00000000#32)⟩] concatenates_S4096x64_S4096x16_S4096x16_S4096x32_S4096x128_d1
/-- Its table of sines for the upper partner. -/
def hsa (S : FVec Ideal S4096x16 .f32) : FVec Ideal S4096x128 .f32 :=
  concatenate S4096x128 1 [⟨S4096x64, broadcastInDim S4096x64 ![] bcast_S_S4096x64 (constant S_ .f32 0x00000000#32)⟩, ⟨S4096x16, Host.negf S⟩,
    ⟨S4096x16, broadcastInDim S4096x16 ![] bcast_S_S4096x16 (constant S_ .f32 0x00000000#32)⟩,
    ⟨S4096x32, broadcastInDim S4096x32 ![] bcast_S_S4096x32 (constant S_ .f32 0x00000000#32)⟩] concatenates_S4096x64_S4096x16_S4096x16_S4096x32_S4096x128_d1
/-- Its table of sines for the lower partner. -/
def hsb (S : FVec Ideal S4096x16 .f32) : FVec Ideal S4096x128 .f32 :=
  concatenate S4096x128 1 [⟨S4096x64, broadcastInDim S4096x64 ![] bcast_S_S4096x64 (constant S_ .f32 0x00000000#32)⟩,
    ⟨S4096x16, broadcastInDim S4096x16 ![] bcast_S_S4096x16 (constant S_ .f32 0x00000000#32)⟩, ⟨S4096x16, S⟩,
    ⟨S4096x32, broadcastInDim S4096x32 ![] bcast_S_S4096x32 (constant S_ .f32 0x00000000#32)⟩] concatenates_S4096x64_S4096x16_S4096x16_S4096x32_S4096x128_d1

variable (m : (ℓ : Loc nD τ sig) → Buf (Elt Ideal) ℓ)

abbrev X0 (c : Dev nD) : FVec Ideal S4096x8x64 .bf16 := m ((c : Thread nD τ).loc main_arg0)
abbrev X1 (c : Dev nD) : FVec Ideal S4096x8x32 .bf16 := m ((c : Thread nD τ).loc main_arg1)
abbrev X2 (c : Dev nD) : FVec Ideal S4096x8x64 .bf16 := m ((c : Thread nD τ).loc main_arg2)
abbrev X3 (c : Dev nD) : FVec Ideal S4096x8x64 .bf16 := m ((c : Thread nD τ).loc main_arg3)
abbrev X4 (c : Dev nD) : FVec Ideal S2x4096x32 .f32 := m ((c : Thread nD τ).loc main_arg4)
abbrev X5 (c : Dev nD) : FVec Ideal S4096x384 .f32 := m ((c : Thread nD τ).loc main_arg5)
abbrev X6 (c : Dev nD) : FVec Ideal S4096x256 .f32 := m ((c : Thread nD τ).loc main_arg6)
abbrev X7 (c : Dev nD) : FVec Ideal S4096x32 .f32 := m ((c : Thread nD τ).loc main_arg7)
abbrev X8 (c : Dev nD) : FVec Ideal S384 .f32 := m ((c : Thread nD τ).loc main_arg8)
abbrev X9 (c : Dev nD) : FVec Ideal S384x8x96 .f32 := m ((c : Thread nD τ).loc main_arg9)
abbrev X10 (c : Dev nD) : FVec Ideal S256 .f32 := m ((c : Thread nD τ).loc main_arg10)
abbrev X11 (c : Dev nD) : FVec Ideal S256x8x128 .f32 := m ((c : Thread nD τ).loc main_arg11)

theorem V_q (c : Dev nD) : V m c main_v2 = hq (X0 m c) (X1 m c) := rfl
theorem V_kv (c : Dev nD) : V m c main_v4 = hkv (X2 m c) (X3 m c) := rfl
theorem V_kr (c : Dev nD) : V m c main_v7 = hkr (X4 m c) := rfl
theorem V_z (c : Dev nD) : V m c main_v10 = hz (X5 m c) (X6 m c) (X7 m c) := rfl
theorem V_wq (c : Dev nD) : V m c main_v14 = hwq (X9 m c) := rfl
theorem V_wkv (c : Dev nD) : V m c main_v16 = hwkv (X11 m c) := rfl
theorem V_n (c : Dev nD) : V m c main_v17 = hn (X10 m c) := rfl
theorem V_c (c : Dev nD) : V m c main_v34 = hc CT := rfl
theorem V_sa (c : Dev nD) : V m c main_v39 = hsa ST := rfl
theorem V_sb (c : Dev nD) : V m c main_v43 = hsb ST := rfl

theorem hq_apply (x0 : FVec Ideal S4096x8x64 .bf16) (x1 : FVec Ideal S4096x8x32 .bf16) (a : Fin 4096) (l : Fin 1024) : hq x0 x1 (ix2 a l) = dqA x0 x1 a l := by
  pointwise [hq, dqA]
theorem hkv_apply (x2 x3 : FVec Ideal S4096x8x64 .bf16) (a : Fin 4096) (l : Fin 1024) : hkv x2 x3 (ix2 a l) = dkvP x2 x3 a l := by
  pointwise [hkv, dkvP, dkv0]
theorem hwq_apply (x9 : FVec Ideal S384x8x96 .f32) (k : Fin 384) (l : Fin 1024) : hwq x9 (ix2 k l) = wuqP x9 k l := by
  pointwise [hwq, wuqP]
theorem hwkv_apply (x11 : FVec Ideal S256x8x128 .f32) (k : Fin 256) (l : Fin 1024) : hwkv x11 (ix2 k l) = wukvP x11 k l := by
  pointwise [hwkv, wukvP]
theorem hn_apply (x10 : FVec Ideal S256 .f32) (k : Fin 256) : hn x10 (ix2 0 k) = x10 (ix1 k) := by
  pointwise [hn]
theorem hz_q (x5 : FVec Ideal S4096x384 .f32) (x6 : FVec Ideal S4096x256 .f32) (x7 : FVec Ideal S4096x32 .f32) (a : Fin 4096) (k : Fin 384) :
    hz x5 x6 x7 (ix2 a ⟨k.val, by omega⟩) = x5 (ix2 a k) := by
  pointwise [hz]
theorem hz_kv (x5 : FVec Ideal S4096x384 .f32) (x6 : FVec Ideal S4096x256 .f32) (x7 : FVec Ideal S4096x32 .f32) (a : Fin 4096) (k : Fin 256) :
    hz x5 x6 x7 (ix2 a ⟨384 + k.val, by omega⟩) = x6 (ix2 a k) := by
  pointwise [hz]
  blk_ext
theorem hkr_apply (x4 : FVec Ideal S2x4096x32 .f32) (j : Fin 2) (a : Fin 4096) (d : Fin 32) : hkr x4 (ix3 j a ⟨64 + d.val, by omega⟩) = x4 (ix3 j a d) := by
  pointwise [hkr]
  blk_ext
theorem hkr_lo (x4 : FVec Ideal S2x4096x32 .f32) (j : Fin 2) (a : Fin 4096) (l : Fin 128) (h : l.val < 64) : hkr x4 (ix3 j a l) = 0 := by
  pointwise [hkr]
  exact dif_pos h
theorem hc_apply (C : FVec Ideal S4096x16 .f32) (a : Fin 4096) (j : Fin 128) : hc C (ix2 a j) = cN (fun i => C (ix2 a i)) j.val := by
  pointwise [hc, cN]
  split_ifs <;> rfl
theorem hsa_apply (S : FVec Ideal S4096x16 .f32) (a : Fin 4096) (j : Fin 128) : hsa S (ix2 a j) = saN (fun i => S (ix2 a i)) j.val := by
  pointwise [hsa, saN]
  split_ifs <;> rfl
theorem hsb_apply (S : FVec Ideal S4096x16 .f32) (a : Fin 4096) (j : Fin 128) : hsb S (ix2 a j) = sbN (fun i => S (ix2 a i)) j.val := by
  pointwise [hsb, sbN]
  split_ifs <;> rfl

theorem idx : ∀ t : Fin cfg0.N, win0_0.index t = ![t.val, 0] ∧ win0_1.index t = ![t.val, 0] ∧ win0_2.index t = ![0, t.val, 0]
    ∧ win0_3.index t = ![t.val, 0] ∧ win0_4.index t = ![0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] ∧ win0_14.index t = ![0, 0] ∧ win0_15.index t = ![0, 0] :=
  (by decide +kernel : ∀ t : Fin grid0.N, _)

/-- Row `r` of grid point `t`'s block, in the whole array. -/
def row (t : Fin cfg0.N) (r : Fin 512) : Fin 4096 := ⟨t.val * 512 + r.val, by have := t.isLt; have h : cfg0.N = 8 := N_0; omega⟩

theorem blk_q (c : Dev nD) (t : Fin cfg0.N) (r : Fin 512) (l : Fin 1024) : (iblk m c 0 t : FVec Ideal S512x1024 .bf16) (ix2 r l) = dqA (X0 m c) (X1 m c) (row t r) l := by
  refine Eq.trans (b := (V m c main_v2 : FVec Ideal S4096x1024 .bf16) (ix2 (row t r) l)) ?_ ((congrFun (V_q m c) _).trans (hq_apply _ _ _ _))
  blk_point [iblk, idx t, row]
theorem blk_kv (c : Dev nD) (t : Fin cfg0.N) (r : Fin 512) (l : Fin 1024) : (iblk m c 1 t : FVec Ideal S512x1024 .bf16) (ix2 r l) = dkvP (X2 m c) (X3 m c) (row t r) l := by
  refine Eq.trans (b := (V m c main_v4 : FVec Ideal S4096x1024 .bf16) (ix2 (row t r) l)) ?_ ((congrFun (V_kv m c) _).trans (hkv_apply _ _ _ _))
  blk_point [iblk, idx t, row]
theorem blk_kr (c : Dev nD) (t : Fin cfg0.N) (j : Fin 2) (r : Fin 512) (l : Fin 128) : (iblk m c 2 t : FVec Ideal S2x512x128 .f32) (ix3 j r l) = hkr (X4 m c) (ix3 j (row t r) l) := by
  refine Eq.trans (b := (V m c main_v7 : FVec Ideal S2x4096x128 .f32) (ix3 j (row t r) l)) ?_ (congrFun (V_kr m c) _)
  blk_point [iblk, idx t, row]
theorem blk_z (c : Dev nD) (t : Fin cfg0.N) (r : Fin 512) (k : Fin 768) : (iblk m c 3 t : FVec Ideal S512x768 .f32) (ix2 r k) = hz (X5 m c) (X6 m c) (X7 m c) (ix2 (row t r) k) := by
  refine Eq.trans (b := (V m c main_v10 : FVec Ideal S4096x768 .f32) (ix2 (row t r) k)) ?_ (congrFun (V_z m c) _)
  blk_point [iblk, idx t, row]
theorem blk_qn (c : Dev nD) (t : Fin cfg0.N) (k : Fin 384) : (iblk m c 4 t : FVec Ideal S384 .f32) (ix1 k) = X8 m c (ix1 k) := by
  blk_point [iblk, V, idx t]
theorem blk_wq (c : Dev nD) (t : Fin cfg0.N) (k : Fin 384) (l : Fin 1024) : (iblk m c 5 t : FVec Ideal S384x1024 .bf16) (ix2 k l) = wuqP (X9 m c) k l := by
  refine Eq.trans (b := (V m c main_v14 : FVec Ideal S384x1024 .bf16) (ix2 k l)) ?_ ((congrFun (V_wq m c) _).trans (hwq_apply _ _ _))
  blk_point [iblk, idx t]
theorem blk_kn (c : Dev nD) (t : Fin cfg0.N) (k : Fin 256) : (iblk m c 6 t : FVec Ideal S1x256 .f32) (ix2 0 k) = X10 m c (ix1 k) := by
  refine Eq.trans (b := (V m c main_v17 : FVec Ideal S1x256 .f32) (ix2 0 k)) ?_ ((congrFun (V_n m c) _).trans (hn_apply _ _))
  blk_point [iblk, idx t]
theorem blk_wkv (c : Dev nD) (t : Fin cfg0.N) (k : Fin 256) (l : Fin 1024) : (iblk m c 7 t : FVec Ideal S256x1024 .bf16) (ix2 k l) = wukvP (X11 m c) k l := by
  refine Eq.trans (b := (V m c main_v16 : FVec Ideal S256x1024 .bf16) (ix2 k l)) ?_ ((congrFun (V_wkv m c) _).trans (hwkv_apply _ _ _))
  blk_point [iblk, idx t]
theorem blk_c (c : Dev nD) (t : Fin cfg0.N) (r : Fin 512) (j : Fin 128) : (iblk m c 8 t : FVec Ideal S512x128 .f32) (ix2 r j) = cN (fun i => CT (ix2 (row t r) i)) j.val := by
  refine Eq.trans (b := (V m c main_v34 : FVec Ideal S4096x128 .f32) (ix2 (row t r) j)) ?_ ((congrFun (V_c m c) _).trans (hc_apply _ _ _))
  blk_point [iblk, idx t, row]
theorem blk_sa (c : Dev nD) (t : Fin cfg0.N) (r : Fin 512) (j : Fin 128) : (iblk m c 9 t : FVec Ideal S512x128 .f32) (ix2 r j) = saN (fun i => ST (ix2 (row t r) i)) j.val := by
  refine Eq.trans (b := (V m c main_v39 : FVec Ideal S4096x128 .f32) (ix2 (row t r) j)) ?_ ((congrFun (V_sa m c) _).trans (hsa_apply _ _ _))
  blk_point [iblk, idx t, row]
theorem blk_sb (c : Dev nD) (t : Fin cfg0.N) (r : Fin 512) (j : Fin 128) : (iblk m c 10 t : FVec Ideal S512x128 .f32) (ix2 r j) = sbN (fun i => ST (ix2 (row t r) i)) j.val := by
  refine Eq.trans (b := (V m c main_v43 : FVec Ideal S4096x128 .f32) (ix2 (row t r) j)) ?_ ((congrFun (V_sb m c) _).trans (hsb_apply _ _ _))
  blk_point [iblk, idx t, row]

/-- The two halves of a block of projections, as the body loads them. -/
abbrev zq (c : Dev nD) (t : Fin cfg0.N) : FVec Ideal S512x384 .f32 :=
  View.ld (iblk m c 3 t) (Rect.unit (s := S512x768) ![0, 0] ![512, 384] inb_S512x768_S512x384_0_0)
abbrev zkv (c : Dev nD) (t : Fin cfg0.N) : FVec Ideal S512x256 .f32 :=
  View.ld (iblk m c 3 t) (Rect.unit (s := S512x768) ![0, 384] ![512, 256] inb_S512x768_S512x256_0_384)
theorem ld_zq (c : Dev nD) (t : Fin cfg0.N) (r : Fin 512) (k : Fin 384) : zq m c t (ix2 r k) = X5 m c (ix2 (row t r) k) := by
  refine (View.ld_unit_apply_of (Val := Elt Ideal) (S := S512x768) (e := .f32) (iblk m c 3 t) ![0, 0] ![512, 384] _ (ix2 r k) (ix2 r ⟨k.val, by omega⟩) fun a => ?_).trans
    ((blk_z m c t _ _).trans (hz_q _ _ _ _ _))
  fin_cases a <;> exact (Nat.zero_add _).symm
theorem ld_zkv (c : Dev nD) (t : Fin cfg0.N) (r : Fin 512) (k : Fin 256) : zkv m c t (ix2 r k) = X6 m c (ix2 (row t r) k) := by
  refine (View.ld_unit_apply_of (Val := Elt Ideal) (S := S512x768) (e := .f32) (iblk m c 3 t) ![0, 384] ![512, 256] _ (ix2 r k) (ix2 r ⟨384 + k.val, by omega⟩) fun a => ?_).trans
    ((blk_z m c t _ _).trans (hz_kv _ _ _ _ _))
  fin_cases a
  · exact (Nat.zero_add _).symm
  · rfl

theorem ld_kr (c : Dev nD) (t : Fin cfg0.N) (j : Fin 2) (o : ℕ) (ho : o = j.val) (inb) (r : Fin 512) (l : Fin 128) :
    (View.ld (Val := Elt Ideal) (S := S2x512x128) (e' := .f32) (iblk m c 2 t) (Rect.unit ![o, 0, 0] ![1, 512, 128] inb) : FVec Ideal S1x512x128 .f32) (ix3 0 r l) =
      hkr (X4 m c) (ix3 j (row t r) l) := by
  refine (View.ld_unit_apply_of (Val := Elt Ideal) (S := S2x512x128) (e := .f32) (iblk m c 2 t) ![o, 0, 0] ![1, 512, 128] inb (ix3 0 r l) (ix3 j r l) fun a => ?_).trans (blk_kr m c t _ _ _)
  fin_cases a
  · exact ho.symm
  · exact (Nat.zero_add _).symm
  · exact (Nat.zero_add _).symm

theorem pay8 (v : FVec Ideal S512x128 .f32) : k0_pay8 (F := Ideal) v = v := by
  funext y
  idx_vars y
  pointwise [k0_pay8]
theorem pay9 (v : FVec Ideal S512x128 .f32) : k0_pay9 (F := Ideal) v = v := by
  funext y
  idx_vars y
  pointwise [k0_pay9]
theorem pay10 (v : FVec Ideal S512x128 .f32) : k0_pay10 (F := Ideal) v = v := by
  funext y
  idx_vars y
  pointwise [k0_pay10]

/-- The turned cotangent of a block of queries, as the body computes it. -/
abbrev DQ (c : Dev nD) (t : Fin cfg0.N) : FVec Ideal S512x1024 .bf16 :=
  k0_pay20 (F := Ideal) (k0_pay8 (iblk m c 8 t)) (k0_pay9 (iblk m c 9 t)) (k0_pay10 (iblk m c 10 t)) (iblk m c 0 t)
theorem DQ_eq (c : Dev nD) (t : Fin cfg0.N) (r : Fin 512) (l : Fin 1024) : DQ m c t (ix2 r l) = dqP (X0 m c) (X1 m c) CT ST (row t r) l := by
  unfold DQ
  rw [pay8, pay9, pay10]
  exact k_dq _ _ _ _ r (row t r) CT ST _ _ (blk_c m c t r) (blk_sa m c t r) (blk_sb m c t r) (blk_q m c t r) l
/-- The cotangents of the two normed latents. -/
abbrev DC (c : Dev nD) (t : Fin cfg0.N) : FVec Ideal S512x384 .f32 := k0_pay26 (F := Ideal) (DQ m c t) (iblk m c 5 t)
abbrev DK (c : Dev nD) (t : Fin cfg0.N) : FVec Ideal S512x256 .f32 := k0_pay16 (F := Ideal) (iblk m c 1 t) (iblk m c 7 t)
theorem DC_eq (c : Dev nD) (t : Fin cfg0.N) (r : Fin 512) (k : Fin 384) : DC m c t (ix2 r k) = ∑ l, dqP (X0 m c) (X1 m c) CT ST (row t r) l * wuqP (X9 m c) k l := by
  refine (k_dcq _ _ _ _).trans (Finset.sum_congr rfl fun l _ => ?_)
  rw [DQ_eq, blk_wq]
theorem DK_eq (c : Dev nD) (t : Fin cfg0.N) (r : Fin 512) (k : Fin 256) : DK m c t (ix2 r k) = ∑ l, dkvP (X2 m c) (X3 m c) (row t r) l * wukvP (X11 m c) k l := by
  refine (k_dckv _ _ _ _).trans (Finset.sum_congr rfl fun l _ => ?_)
  rw [blk_kv, blk_wkv]

/-- Row `a`'s contributions to the four sums over the rows. -/
def tUq (c : Dev nD) (a : Fin 4096) (k : Fin 384) (l : Fin 1024) : EReal :=
  X5 m c (ix2 a k) * nrm 0x43C00000#32 (fun i => X5 m c (ix2 a i)) * X8 m c (ix1 k) * dqP (X0 m c) (X1 m c) CT ST a l
def tUkv (c : Dev nD) (a : Fin 4096) (k : Fin 256) (l : Fin 1024) : EReal :=
  X6 m c (ix2 a k) * nrm 0x43800000#32 (fun i => X6 m c (ix2 a i)) * X10 m c (ix1 k) * dkvP (X2 m c) (X3 m c) a l
def tQn (c : Dev nD) (a : Fin 4096) (k : Fin 384) : EReal :=
  X5 m c (ix2 a k) * nrm 0x43C00000#32 (fun i => X5 m c (ix2 a i)) * ∑ l, dqP (X0 m c) (X1 m c) CT ST a l * wuqP (X9 m c) k l
def tKn (c : Dev nD) (a : Fin 4096) (k : Fin 256) : EReal :=
  X6 m c (ix2 a k) * nrm 0x43800000#32 (fun i => X6 m c (ix2 a i)) * ∑ l, dkvP (X2 m c) (X3 m c) a l * wukvP (X11 m c) k l

theorem acc_uq (c : Dev nD) (t : Fin cfg0.N) (v : FVec Ideal S384x1024 .f32) (k : Fin 384) (l : Fin 1024) :
    (k0_pay25 (F := Ideal) (k0_pay19 (k0_pay11 (zq m c t)) (k0_pay13 (iblk m c 4 t))) (DQ m c t) v : FVec Ideal S384x1024 .f32) (ix2 k l) =
      v (ix2 k l) + ∑ r, tUq m c (row t r) k l := by
  refine (k_guq _ _ _ _ _).trans (congrArg _ (Finset.sum_congr rfl fun r _ => ?_))
  rw [k_cq, DQ_eq, blk_qn]
  simp only [ld_zq, tUq]
theorem acc_ukv (c : Dev nD) (t : Fin cfg0.N) (v : FVec Ideal S256x1024 .f32) (k : Fin 256) (l : Fin 1024) :
    (k0_pay18 (F := Ideal) (k0_pay15 (iblk m c 1 t)) (k0_pay17 (zkv m c t) (iblk m c 6 t)) v : FVec Ideal S256x1024 .f32) (ix2 k l) =
      v (ix2 k l) + ∑ r, tUkv m c (row t r) k l := by
  refine (k_gukv _ _ _ _ _).trans (congrArg _ (Finset.sum_congr rfl fun r _ => ?_))
  rw [k_ckv, blk_kv, blk_kn]
  simp only [ld_zkv, tUkv]
theorem acc_qn (c : Dev nD) (t : Fin cfg0.N) (v : FVec Ideal S1x384 .f32) (k : Fin 384) :
    (k0_pay29 (F := Ideal) (DC m c t) (k0_pay28 (k0_pay11 (zq m c t))) v : FVec Ideal S1x384 .f32) (ix2 0 k) = v (ix2 0 k) + ∑ r, tQn m c (row t r) k := by
  refine (k_gqn _ _ _ _).trans (congrArg _ (Finset.sum_congr rfl fun r _ => ?_))
  rw [DC_eq]
  simp only [ld_zq, tQn]
theorem acc_kn (c : Dev nD) (t : Fin cfg0.N) (v : FVec Ideal S1x256 .f32) (k : Fin 256) :
    (k0_pay24 (F := Ideal) (k0_pay12 (zkv m c t)) (DK m c t) (k0_pay21 (k0_pay12 (zkv m c t))) v : FVec Ideal S1x256 .f32) (ix2 0 k) = v (ix2 0 k) + ∑ r, tKn m c (row t r) k := by
  refine (k_gkvn _ _ _ _).trans (congrArg _ (Finset.sum_congr rfl fun r _ => ?_))
  rw [DK_eq]
  simp only [ld_zkv, tKn]

theorem sum_rows (f : Fin 4096 → EReal) : 0 + ∑ t : Fin cfg0.N, ∑ r : Fin 512, f (row t r) = ∑ a, f a :=
  (zero_add _).trans (Fin.sum_mul_add_congr (S := cfg0.N) (n := 512) (L := 4096) (F := fun t r => f (row t r)) (f := f) (fun t r hl => rfl) (congrArg (· * 512) N_0).symm)
end Cert.Mla
end
-- ==== Proof.MlaAcc.lean ====
module

public import proofs.«01_k».proof.Proof.MlaHost

@[expose] public section

set_option maxRecDepth 16384

noncomputable section

open Idealize.ShloMosaic Idealize.ShloMosaic.TcCoe Idealize.SL.Sem
open scoped BigOperators

namespace Cert.Mla
open Cert.MlaBwdIdeal Cert.MlaBwdIdeal.Gen Cert.Lift

variable (m : (ℓ : Loc nD τ sig) → Buf (Elt Ideal) ℓ)

set_option maxHeartbeats 4000000 in
theorem last_uq (c : Dev nD) (t : Fin cfg0.N) (ht : t.val + 1 = cfg0.N) (k : Fin 384) (l : Fin 1024) :
    ((outsAt0 m c t.val t.isLt).2.2.2.2.2.1 : FVec Ideal S384x1024 .f32) (ix2 k l) = ∑ a, tUq m c a k l := by
  refine (Pipeline.eq_sum_fin_of_reset_step_apply_last (fun n h (_ : Unit) => ((outsAt0 m c n h).2.2.2.2.2.1 : FVec Ideal S384x1024 .f32) (ix2 k l)) 8 (fun _ => 0)
    (fun t _ => ∑ r : Fin 512, tUq m c (row t r) k l) (fun t h0 _ => ?_) (fun t h0 _ => ?_) (le_of_eq N_0) t ht ()).trans ?_
  · rw [outsAt0_A m c t h0 (by omega)]
    frame_out
    refine (acc_uq m c t _ k l).trans ?_
    pointwise [k0_pay4, k0_pay5, k0_pay6, k0_pay7]
  · by_cases h1 : t.val % 8 = 7
    · rw [outsAt0_C m c t h0 h1]
      frame_out
      refine (acc_uq m c t _ k l).trans ?_
      rw [read_unread_whole]
    · rw [outsAt0_B m c t h0 h1]
      frame_out
      refine (acc_uq m c t _ k l).trans ?_
      rw [read_unread_whole]
  · exact sum_rows fun a => tUq m c a k l
set_option maxHeartbeats 4000000 in
theorem last_ukv (c : Dev nD) (t : Fin cfg0.N) (ht : t.val + 1 = cfg0.N) (k : Fin 256) (l : Fin 1024) :
    ((outsAt0 m c t.val t.isLt).2.2.2.2.2.2 : FVec Ideal S256x1024 .f32) (ix2 k l) = ∑ a, tUkv m c a k l := by
  refine (Pipeline.eq_sum_fin_of_reset_step_apply_last (fun n h (_ : Unit) => ((outsAt0 m c n h).2.2.2.2.2.2 : FVec Ideal S256x1024 .f32) (ix2 k l)) 8 (fun _ => 0)
    (fun t _ => ∑ r : Fin 512, tUkv m c (row t r) k l) (fun t h0 _ => ?_) (fun t h0 _ => ?_) (le_of_eq N_0) t ht ()).trans ?_
  · rw [outsAt0_A m c t h0 (by omega)]
    frame_out
    refine (acc_ukv m c t _ k l).trans ?_
    pointwise [k0_pay4, k0_pay5, k0_pay6, k0_pay7]
  · by_cases h1 : t.val % 8 = 7
    · rw [outsAt0_C m c t h0 h1]
      frame_out
      refine (acc_ukv m c t _ k l).trans ?_
      rw [read_unread_whole]
    · rw [outsAt0_B m c t h0 h1]
      frame_out
      refine (acc_ukv m c t _ k l).trans ?_
      rw [read_unread_whole]
  · exact sum_rows fun a => tUkv m c a k l
set_option maxHeartbeats 4000000 in
theorem last_qn (c : Dev nD) (t : Fin cfg0.N) (ht : t.val + 1 = cfg0.N) (k : Fin 384) :
    ((outsAt0 m c t.val t.isLt).2.2.2.1 : FVec Ideal S1x384 .f32) (ix2 0 k) = ∑ a, tQn m c a k := by
  refine (Pipeline.eq_sum_fin_of_reset_step_apply_last (fun n h (_ : Unit) => ((outsAt0 m c n h).2.2.2.1 : FVec Ideal S1x384 .f32) (ix2 0 k)) 8 (fun _ => 0)
    (fun t _ => ∑ r : Fin 512, tQn m c (row t r) k) (fun t h0 _ => ?_) (fun t h0 _ => ?_) (le_of_eq N_0) t ht ()).trans ?_
  · rw [outsAt0_A m c t h0 (by omega)]
    frame_out
    refine (acc_qn m c t _ k).trans ?_
    pointwise [k0_pay4, k0_pay5, k0_pay6, k0_pay7]
  · by_cases h1 : t.val % 8 = 7
    · rw [outsAt0_C m c t h0 h1]
      frame_out
      exact acc_qn m c t _ k
    · rw [outsAt0_B m c t h0 h1]
      frame_out
      exact acc_qn m c t _ k
  · exact sum_rows fun a => tQn m c a k
set_option maxHeartbeats 4000000 in
theorem last_kn (c : Dev nD) (t : Fin cfg0.N) (ht : t.val + 1 = cfg0.N) (k : Fin 256) :
    ((outsAt0 m c t.val t.isLt).2.2.2.2.1 : FVec Ideal S1x256 .f32) (ix2 0 k) = ∑ a, tKn m c a k := by
  refine (Pipeline.eq_sum_fin_of_reset_step_apply_last (fun n h (_ : Unit) => ((outsAt0 m c n h).2.2.2.2.1 : FVec Ideal S1x256 .f32) (ix2 0 k)) 8 (fun _ => 0)
    (fun t _ => ∑ r : Fin 512, tKn m c (row t r) k) (fun t h0 _ => ?_) (fun t h0 _ => ?_) (le_of_eq N_0) t ht ()).trans ?_
  · rw [outsAt0_A m c t h0 (by omega)]
    frame_out
    refine (acc_kn m c t _ k).trans ?_
    pointwise [k0_pay4, k0_pay5, k0_pay6, k0_pay7]
  · by_cases h1 : t.val % 8 = 7
    · rw [outsAt0_C m c t h0 h1]
      frame_out
      exact acc_kn m c t _ k
    · rw [outsAt0_B m c t h0 h1]
      frame_out
      exact acc_kn m c t _ k
  · exact sum_rows fun a => tKn m c a k
end Cert.Mla
end
-- ==== Proof.Mla.lean ====
module

public import proofs.«01_k».proof.Proof.MlaAcc

@[expose] public section

set_option maxRecDepth 16384

noncomputable section

open Idealize.ShloMosaic Idealize.ShloMosaic.TcCoe Idealize.SL.Sem
open scoped BigOperators

namespace Cert.Mla
open Cert.MlaBwdIdeal Cert.MlaBwdIdeal.Gen Cert.Lift

variable (m : (ℓ : Loc nD τ sig) → Buf (Elt Ideal) ℓ)

/-- One store of columns `o` to `o + n` of a block, read back at the block's own indices. -/
theorem piece {o n : ℕ} (P : FVec Ideal ⟨2, ![512, n]⟩ .bf16) (inb : ∀ a, (![0, o] : Fin 2 → ℕ) a + (![512, n] : Fin 2 → ℕ) a ≤ S512x768.size a) (G : Fin 512 → Fin 768 → EReal)
    (h : ∀ (r : Fin 512) (l : Fin n), P (ix2 r l) = G r ⟨o + l.val, by have h1 : o + n ≤ 768 := inb 1; have := l.isLt; omega⟩) (x : (Rect.unit (s := S512x768) ![0, o] ![512, n] inb).shape.Idx) :
    P x = G ((Rect.unit (s := S512x768) ![0, o] ![512, n] inb).emb x 0) ((Rect.unit (s := S512x768) ![0, o] ![512, n] inb).emb x 1) := by
  have e0 := Rect.idx_unit_val (s := S512x768) ![0, o] ![512, n] inb x 0
  have e1 := Rect.idx_unit_val (s := S512x768) ![0, o] ![512, n] inb x 1
  have hx : x = ix2 (x 0) (x 1) := by
    funext a
    fin_cases a <;> rfl
  refine (congrArg P hx).trans ((h (x 0) (x 1)).trans (congrArg₂ G (Fin.ext ?_) (Fin.ext ?_)))
  · exact (e0.trans (Nat.zero_add _)).symm
  · exact e1.symm

section Final
open Cert.MlaRefIdeal.Read (val_main_v179 val_main_v183 val_main_v185 val_main_v186 val_main_v187)

/-- The five results, as the reference has them. -/
abbrev GD (c : Dev nD) : FVec Ideal S4096x768 .bf16 :=
  val_main_v179 (F := Ideal) (X0 m c) (X1 m c) (X2 m c) (X3 m c) (X4 m c) (X5 m c) (X6 m c) (X8 m c) (X9 m c) (X10 m c) (X11 m c)
abbrev GUQ (c : Dev nD) : FVec Ideal S384x1024 .bf16 := val_main_v183 (F := Ideal) (X0 m c) (X1 m c) (X5 m c) (X8 m c)
abbrev GUKV (c : Dev nD) : FVec Ideal S256x1024 .bf16 := val_main_v185 (F := Ideal) (X2 m c) (X3 m c) (X6 m c) (X10 m c)
abbrev GQN (c : Dev nD) : FVec Ideal S1x384 .f32 := val_main_v186 (F := Ideal) (X0 m c) (X1 m c) (X5 m c) (X9 m c)
abbrev GKN (c : Dev nD) : FVec Ideal S1x256 .f32 := val_main_v187 (F := Ideal) (X2 m c) (X3 m c) (X6 m c) (X11 m c)

theorem final_uq (c : Dev nD) : (dats m 0 c).arrAt 12 (cfgs 0).N = GUQ m c := by
  refine (dats m 0 c).arrAt_eq_of_covers 12 _ (by decide +kernel) fun t hf y => ?_
  have ht : t.val = 7 := (by decide +kernel : ∀ t : Fin grid0.N, (cfg0.win 12).flush t = true → t.val = 7) t hf
  have key : ∀ (k : Fin 384) (l : Fin 1024), ((outsAt0 m c t.val t.isLt).2.1 : FVec Ideal S384x1024 .bf16) (ix2 k l) = GUQ m c (ix2 k l) := fun k l => by
    refine Eq.trans ?_ ((last_uq m c t (by rw [ht]; rfl) k l).trans (ref_guq _ _ _ _ k l).symm)
    rw [outsAt0_C m c t (by omega) (by omega)]
    frame_out
    pointwise [k0_pay2, k0_pay3]
  have key' : ∀ y : S384x1024.Idx, ((outsAt0 m c t.val t.isLt).2.1 : FVec Ideal S384x1024 .bf16) y = GUQ m c ((win0_12.blk t).view.emb y) := fun y => by
    idx_vars y
    refine (key _ _).trans ?_
    blk_ext [idx t]
  blk_simp
  rw [after0_12]
  exact key' y
theorem final_ukv (c : Dev nD) : (dats m 0 c).arrAt 13 (cfgs 0).N = GUKV m c := by
  refine (dats m 0 c).arrAt_eq_of_covers 13 _ (by decide +kernel) fun t hf y => ?_
  have ht : t.val = 7 := (by decide +kernel : ∀ t : Fin grid0.N, (cfg0.win 13).flush t = true → t.val = 7) t hf
  have key : ∀ (k : Fin 256) (l : Fin 1024), ((outsAt0 m c t.val t.isLt).2.2.1 : FVec Ideal S256x1024 .bf16) (ix2 k l) = GUKV m c (ix2 k l) := fun k l => by
    refine Eq.trans ?_ ((last_ukv m c t (by rw [ht]; rfl) k l).trans (ref_gukv _ _ _ _ k l).symm)
    rw [outsAt0_C m c t (by omega) (by omega)]
    frame_out
    pointwise [k0_pay2, k0_pay3]
  have key' : ∀ y : S256x1024.Idx, ((outsAt0 m c t.val t.isLt).2.2.1 : FVec Ideal S256x1024 .bf16) y = GUKV m c ((win0_13.blk t).view.emb y) := fun y => by
    idx_vars y
    refine (key _ _).trans ?_
    blk_ext [idx t]
  blk_simp
  rw [after0_13]
  exact key' y
theorem final_qn (c : Dev nD) : (dats m 0 c).arrAt 14 (cfgs 0).N = GQN m c := by
  refine (dats m 0 c).arrAt_eq_of_covers 14 _ (by decide +kernel) fun t hf y => ?_
  have ht : t.val = 7 := (by decide +kernel : ∀ t : Fin grid0.N, (cfg0.win 14).flush t = true → t.val = 7) t hf
  have key' : ∀ y : S1x384.Idx, ((outsAt0 m c t.val t.isLt).2.2.2.1 : FVec Ideal S1x384 .f32) y = GQN m c ((win0_14.blk t).view.emb y) := fun y => by
    idx_vars y
    obtain rfl : y0 = 0 := Subsingleton.elim _ _
    refine ((last_qn m c t (by rw [ht]; rfl) y1).trans (ref_gqn _ _ _ _ y1).symm).trans ?_
    blk_ext [idx t]
  blk_simp
  rw [after0_14]
  exact key' y
theorem final_kn (c : Dev nD) : (dats m 0 c).arrAt 15 (cfgs 0).N = GKN m c := by
  refine (dats m 0 c).arrAt_eq_of_covers 15 _ (by decide +kernel) fun t hf y => ?_
  have ht : t.val = 7 := (by decide +kernel : ∀ t : Fin grid0.N, (cfg0.win 15).flush t = true → t.val = 7) t hf
  have key' : ∀ y : S1x256.Idx, ((outsAt0 m c t.val t.isLt).2.2.2.2.1 : FVec Ideal S1x256 .f32) y = GKN m c ((win0_15.blk t).view.emb y) := fun y => by
    idx_vars y
    obtain rfl : y0 = 0 := Subsingleton.elim _ _
    refine ((last_kn m c t (by rw [ht]; rfl) y1).trans (ref_gkvn _ _ _ _ y1).symm).trans ?_
    blk_ext [idx t]
  blk_simp
  rw [after0_15]
  exact key' y

variable (Xq Uq : Fin 4096 → Fin 384 → ℝ) (Nq : Fin 384 → ℝ) (Xk Uk : Fin 4096 → Fin 256 → ℝ) (Nk : Fin 256 → ℝ)

theorem dzq_point (c : Dev nD) (t : Fin cfg0.N) (hx : ∀ a k, X5 m c (ix2 a k) = ((Xq a k : ℝ) : EReal))
    (hu : ∀ a k, ∑ l, dqP (X0 m c) (X1 m c) CT ST a l * wuqP (X9 m c) k l = ((Uq a k : ℝ) : EReal)) (hn : ∀ k, X8 m c (ix1 k) = ((Nq k : ℝ) : EReal)) (r : Fin 512) (k : Fin 384) :
    (k0_pay30 (F := Ideal) (k0_pay13 (iblk m c 4 t)) (DC m c t) (k0_pay27 (k0_pay11 (zq m c t))) (k0_pay28 (k0_pay11 (zq m c t))) : FVec Ideal S512x384 .bf16) (ix2 r k) =
      GD m c (ix2 (row t r) ⟨k.val, by omega⟩) := by
  refine (k_dzq _ _ _ r (Xq (row t r)) (Uq (row t r)) Nq (fun k => (ld_zq m c t r k).trans (hx _ _)) (fun k => (DC_eq m c t r k).trans (hu _ _))
    (fun k => (blk_qn m c t k).trans (hn k)) k).trans ?_
  refine Eq.trans ?_ ((ref_dfr _ _ _ _ _ _ _ _ _ _ _ (row t r) ⟨k.val, by omega⟩).trans (dif_pos k.isLt)).symm
  refine Eq.trans ?_ (ref_dfr_q _ _ _ _ _ Xq Uq Nq hx (fun a k => (ref_dcq _ _ _ a k).trans (hu a k)) hn (row t r) k).symm
  rw [rms_row (Xq (row t r)) (fun j => Uq (row t r) j * Nq j) (by norm_num : (0 : ℝ) < 384) k]

theorem dzkv_point (c : Dev nD) (t : Fin cfg0.N) (hx : ∀ a k, X6 m c (ix2 a k) = ((Xk a k : ℝ) : EReal))
    (hu : ∀ a k, ∑ l, dkvP (X2 m c) (X3 m c) a l * wukvP (X11 m c) k l = ((Uk a k : ℝ) : EReal)) (hn : ∀ k, X10 m c (ix1 k) = ((Nk k : ℝ) : EReal)) (r : Fin 512) (k : Fin 256) :
    (k0_pay31 (F := Ideal) (k0_pay23 (k0_pay12 (zkv m c t)) (k0_pay14 (iblk m c 6 t)) (DK m c t) (k0_pay21 (k0_pay12 (zkv m c t)))) : FVec Ideal S512x256 .bf16) (ix2 r k) =
      GD m c (ix2 (row t r) ⟨384 + k.val, by omega⟩) := by
  refine (k_dzkv _ _ _ r (Xk (row t r)) (Uk (row t r)) Nk (fun k => (ld_zkv m c t r k).trans (hx _ _)) (fun k => (DK_eq m c t r k).trans (hu _ _))
    (fun k => (blk_kn m c t k).trans (hn k)) k).trans ?_
  refine Eq.trans ?_ ((ref_dfr _ _ _ _ _ _ _ _ _ _ _ (row t r) ⟨384 + k.val, by omega⟩).trans ((dif_neg (by dsimp only; omega)).trans (dif_pos (by dsimp only; omega)))).symm
  have e : (⟨384 + k.val - 384, by omega⟩ : Fin 256) = k := Fin.ext (by dsimp only; omega)
  refine Eq.trans ?_ (congrArg (fun i : Fin 256 => (Cert.MlaRefIdeal.Read.val_main_v131 (F := Ideal) (X2 m c) (X3 m c) (X6 m c) (X10 m c) (X11 m c) : FVec Ideal ⟨3, ![1, 4096, 256]⟩ .f32) (ix3 0 (row t r) i)) e).symm
  refine Eq.trans ?_ (ref_dfr_kv _ _ _ _ _ Xk Uk Nk hx (fun a k => (ref_dckv _ _ _ a k).trans (hu a k)) hn (row t r) k).symm
  rw [rms_row (Xk (row t r)) (fun j => Uk (row t r) j * Nk j) (by norm_num : (0 : ℝ) < 256) k]

theorem dkr_point (c : Dev nD) (t : Fin cfg0.N) (r : Fin 512) (l : Fin 128) :
    (k0_pay1 (F := Ideal) (k0_pay32 (k0_pay8 (iblk m c 8 t)) (k0_pay9 (iblk m c 9 t)) (k0_pay10 (iblk m c 10 t))
      (View.ld (iblk m c 2 t) (Rect.unit (s := S2x512x128) ![0, 0, 0] ![1, 512, 128] inb_S2x512x128_S1x512x128_0_0_0))
      (View.ld (iblk m c 2 t) (Rect.unit (s := S2x512x128) ![1, 0, 0] ![1, 512, 128] inb_S2x512x128_S1x512x128_1_0_0))) : FVec Ideal S512x128 .bf16) (ix2 r l) =
      GD m c (ix2 (row t r) ⟨640 + l.val, by omega⟩) := by
  rw [pay8, pay9, pay10]
  refine (k_dkr _ _ _ _ _ r (fun i => CT (ix2 (row t r) i)) (fun i => ST (ix2 (row t r) i)) (fun d => X4 m c (ix3 0 (row t r) d) + X4 m c (ix3 1 (row t r) d))
    (blk_c m c t r) (blk_sa m c t r) (blk_sb m c t r) (fun l h => ?_) (fun d => ?_) l).trans ?_
  · refine (congrArg₂ _ (ld_kr m c t 0 0 rfl _ r l) (ld_kr m c t 1 1 rfl _ r l)).trans ?_
    rw [hkr_lo _ _ _ _ h, hkr_lo _ _ _ _ h, add_zero]
  · refine (congrArg₂ _ (ld_kr m c t 0 0 rfl _ r _) (ld_kr m c t 1 1 rfl _ r _)).trans ?_
    rw [hkr_apply, hkr_apply]
  have n1 : ¬ 640 + l.val < 384 := by omega
  have n2 : ¬ 640 + l.val - 384 < 256 := by omega
  refine Eq.trans ?_ ((ref_dfr _ _ _ _ _ _ _ _ _ _ _ (row t r) ⟨640 + l.val, by omega⟩).trans ((dif_neg n1).trans (dif_neg n2))).symm
  by_cases h1 : l.val < 64
  · rw [if_pos h1]
    refine Eq.trans ?_ (dif_pos (show 640 + l.val - 384 - 256 < 64 by omega)).symm
    rfl
  rw [if_neg h1]
  refine Eq.trans ?_ (dif_neg (show ¬ 640 + l.val - 384 - 256 < 64 by omega)).symm
  by_cases h2 : l.val - 64 < 32
  · rw [dif_pos h2]
    refine Eq.trans ?_ (dif_pos (show 640 + l.val - 384 - 256 - 64 < 32 by omega)).symm
    refine (ref_dfr_kr _ _ _).symm.trans ?_
    exact congrArg (fun i : Fin 32 => (Cert.MlaRefIdeal.Read.val_main_v104 (F := Ideal) (X4 m c) : FVec Ideal ⟨3, ![1, 4096, 32]⟩ .f32) (ix3 0 (row t r) i)) (Fin.ext (show l.val - 64 = 640 + l.val - 384 - 256 - 64 by omega))
  · rw [dif_neg h2]
    refine Eq.trans ?_ (dif_neg (show ¬ 640 + l.val - 384 - 256 - 64 < 32 by omega)).symm
    rfl

theorem final_dfr (c : Dev nD) (hxq : ∀ a k, X5 m c (ix2 a k) = ((Xq a k : ℝ) : EReal))
    (huq : ∀ a k, ∑ l, dqP (X0 m c) (X1 m c) CT ST a l * wuqP (X9 m c) k l = ((Uq a k : ℝ) : EReal)) (hnq : ∀ k, X8 m c (ix1 k) = ((Nq k : ℝ) : EReal))
    (hxk : ∀ a k, X6 m c (ix2 a k) = ((Xk a k : ℝ) : EReal))
    (huk : ∀ a k, ∑ l, dkvP (X2 m c) (X3 m c) a l * wukvP (X11 m c) k l = ((Uk a k : ℝ) : EReal)) (hnk : ∀ k, X10 m c (ix1 k) = ((Nk k : ℝ) : EReal)) :
    (dats m 0 c).arrAt 11 (cfgs 0).N = GD m c := by
  refine (dats m 0 c).arrAt_eq_of_covers 11 _ (by decide +kernel) fun t _ y => ?_
  have packed : ∀ y : S512x768.Idx, (View.canon (Val := Elt Ideal) (s := S512x768) (e := .bf16)
      [⟨Rect.unit ![0, 640] ![512, 128] inb_S512x768_S512x128_0_640,
          k0_pay1
            (k0_pay32 (k0_pay8 (iblk m c 8 t)) (k0_pay9 (iblk m c 9 t)) (k0_pay10 (iblk m c 10 t))
              (View.ld (iblk m c 2 t) (Rect.unit ![0, 0, 0] ![1, 512, 128] inb_S2x512x128_S1x512x128_0_0_0))
              (View.ld (iblk m c 2 t) (Rect.unit ![1, 0, 0] ![1, 512, 128] inb_S2x512x128_S1x512x128_1_0_0)))⟩,
        ⟨Rect.unit ![0, 384] ![512, 256] inb_S512x768_S512x256_0_384,
          k0_pay31 (k0_pay23 (k0_pay12 (zkv m c t)) (k0_pay14 (iblk m c 6 t)) (DK m c t) (k0_pay21 (k0_pay12 (zkv m c t))))⟩,
        ⟨Rect.unit ![0, 0] ![512, 384] inb_S512x768_S512x384_0_0,
          k0_pay30 (k0_pay13 (iblk m c 4 t)) (DC m c t) (k0_pay27 (k0_pay11 (zq m c t))) (k0_pay28 (k0_pay11 (zq m c t)))⟩] : FVec Ideal S512x768 .bf16) y =
      GD m c (((View.whole main_v44_0).slice (win0_11.rect t)).emb y) := fun y => by
    have e : ∀ y : S512x768.Idx, GD m c (((View.whole main_v44_0).slice (win0_11.rect t)).emb y) = GD m c (ix2 (row t (y 0)) (y 1)) := fun y => by
      idx_vars y
      blk_ext [idx t, row]
    rw [e]
    refine View.canon_append_of_piecesOf (Val := Elt Ideal) (s := S512x768) (e := .bf16) (fun y => GD m c (ix2 (row t (y 0)) (y 1))) [] [_, _, _] ?_ y ?_
    · refine ⟨fun x => ?_, fun x => ?_, fun x => ?_, trivial⟩
      · exact piece (o := 640) (n := 128) (k0_pay1 _) inb_S512x768_S512x128_0_640 (fun r k => GD m c (ix2 (row t r) k)) (fun r l => dkr_point m c t r l) x
      · exact piece (o := 384) (n := 256) (k0_pay31 _) inb_S512x768_S512x256_0_384 (fun r k => GD m c (ix2 (row t r) k)) (fun r l => dzkv_point m Xk Uk Nk c t hxk huk hnk r l) x
      · refine piece (o := 0) (n := 384) (k0_pay30 _ _ _ _) inb_S512x768_S512x384_0_0 (fun r k => GD m c (ix2 (row t r) k)) (fun r l => ?_) x
        refine (dzq_point m Xq Uq Nq c t hxq huq hnq r l).trans ?_
        exact congrArg (fun i => GD m c (ix2 (row t r) i)) (Fin.ext (Nat.zero_add _).symm)
    · simp only [List.mem_cons, List.not_mem_nil, or_false, exists_eq_or_imp, exists_eq_left, Rect.mem_set_unit]
      simp only [Fin.forall_fin_two]
      have h0 : (y 0).val < 512 := (y 0).isLt
      have h1 : (y 1).val < 768 := (y 1).isLt
      simp
      omega
  blk_simp
  rw [after0_11]
  by_cases h0 : t.val % 8 = 0
  · rw [outsAt0_A m c t h0 (by omega)]
    frame_out
    exact packed y
  by_cases h1 : t.val % 8 = 7
  · rw [outsAt0_C m c t h0 h1]
    frame_out
    exact packed y
  · rw [outsAt0_B m c t h0 h1]
    frame_out
    exact packed y
end Final
end Cert.Mla
end
-- ==== Proof.MlaClaim.lean ====
/- The claim on the latent projections' gradient: finite arguments give both programs the same five results. -/
module

public import proofs.«01_k».proof.Defs
public import proofs.«01_k».proof.Proof.Mla
public import proofs.«01_k».proof.Proof.Gen.MlaRefIdeal.Run
public import proofs.«01_k».proof.Proof.Gen.Pre_mla_finite
public import Idealize.ShloMosaic.Lib.Claim

@[expose] public section

set_option maxRecDepth 16384

noncomputable section

open Idealize.ShloMosaic Idealize.ShloMosaic.TcCoe Idealize.SL.Sem
open scoped BigOperators
open Cert.Lift

namespace Cert.Mla

open Cert.MlaBwdIdeal Cert.MlaBwdIdeal.Gen

/-- An extended real that is a real number. -/
def Re (x : EReal) : Prop := ∃ r : ℝ, x = (r : EReal)
theorem Re.mul {x y : EReal} (hx : Re x) (hy : Re y) : Re (x * y) := by
  obtain ⟨a, rfl⟩ := hx
  obtain ⟨b, rfl⟩ := hy
  exact ⟨a * b, (EReal.coe_mul a b).symm⟩
theorem Re.add {x y : EReal} (hx : Re x) (hy : Re y) : Re (x + y) := by
  obtain ⟨a, rfl⟩ := hx
  obtain ⟨b, rfl⟩ := hy
  exact ⟨a + b, (EReal.coe_add a b).symm⟩
theorem Re.neg {x : EReal} (hx : Re x) : Re (-x) := by
  obtain ⟨a, rfl⟩ := hx
  exact ⟨-a, (EReal.coe_neg a).symm⟩
theorem Re.zero : Re 0 := ⟨0, EReal.coe_zero.symm⟩
theorem Re.sum {n : ℕ} {f : Fin n → EReal} (h : ∀ i, Re (f i)) : Re (∑ i, f i) := by
  choose g hg using h
  exact ⟨∑ i, g i, by simp only [hg, coe_sum]⟩
theorem re_of {S : Shape} {e} {x : FVec Ideal S e} (h : IsReal x) (i : S.Idx) : Re (x i) := by
  obtain ⟨f, hf⟩ := h
  exact ⟨f i, hf i⟩

theorem lit_16 : Ideal.ofBits .f32 0x41800000#32 = ((16 : ℝ) : EReal) := by
  show Ideal.ieee 8 23 (0x41800000#32) = _
  simp [Ideal.ieee]
  rw [← EReal.coe_mul]
  norm_num
theorem lit_10000 : Ideal.ofBits .f32 0x461C4000#32 = ((10000 : ℝ) : EReal) := by
  show Ideal.ieee 8 23 (0x461C4000#32) = _
  simp [Ideal.ieee]
  rw [← EReal.coe_mul]
  norm_num

section Tables
open Cert.MlaRefIdeal.Read

theorem angle_real (a : Fin 4096) (i : Fin 16) : Re ((val_main_v28 (F := Ideal) : FVec Ideal S4096x16 .f32) (ix2 a i)) := by
  pointwise [val_main_v17, val_main_v18, val_main_cst, val_main_v19, val_main_v20, val_main_cst_0, val_main_v21, val_main_v22, val_main_v23, val_main_v24, val_main_v25, val_main_v26, val_main_v27, val_main_v28]
  refine Re.mul ⟨_, rfl⟩ ?_
  rw [lit_16, lit_10000]
  have h : Re (-(FloatOps.sitofp (F := Ideal) FTy.f32 (BitVec.ofNat 32 i.val) : EReal)) := Re.neg ⟨_, rfl⟩
  obtain ⟨r, hr⟩ := h
  refine ⟨Real.rpow 10000 (r / 16), ?_⟩
  refine (congrArg (fun e => Ideal.pow _ (Ideal.div e _)) hr).trans ?_
  rw [div_coe _ (by norm_num : (16 : ℝ) ≠ 0)]
  exact Ideal.pow_coe_coe _ _
theorem ct_real (a : Fin 4096) (i : Fin 16) : Re (CT (ix2 a i)) := by
  obtain ⟨r, hr⟩ := angle_real a i
  refine ⟨Real.cos r, ?_⟩
  show Ideal.cos ((val_main_v28 (F := Ideal) : FVec Ideal S4096x16 .f32) (ix2 a i)) = _
  rw [hr]
  rfl
theorem st_real (a : Fin 4096) (i : Fin 16) : Re (ST (ix2 a i)) := by
  obtain ⟨r, hr⟩ := angle_real a i
  refine ⟨Real.sin r, ?_⟩
  show Ideal.sin ((val_main_v28 (F := Ideal) : FVec Ideal S4096x16 .f32) (ix2 a i)) = _
  rw [hr]
  rfl
end Tables

theorem rot_real {u : Fin 32 → EReal} {C S : Fin 16 → EReal} (hu : ∀ d, Re (u d)) (hC : ∀ d, Re (C d)) (hS : ∀ d, Re (S d)) (d : Fin 32) : Re (rot u C S d) := by
  unfold rot
  split_ifs
  · exact ((hu _).mul (hS _)).add ((hu _).mul (hC _))
  · exact ((hu _).mul (hC _)).add ((hu _).neg.mul (hS _))

theorem dcq_real (x0 : FVec Ideal S4096x8x64 .bf16) (x1 : FVec Ideal S4096x8x32 .bf16) (x9 : FVec Ideal S384x8x96 .f32) (h0 : IsReal x0) (h1 : IsReal x1) (h9 : IsReal x9) :
    ∃ U : Fin 4096 → Fin 384 → ℝ, ∀ a k, ∑ l, dqP x0 x1 CT ST a l * wuqP x9 k l = ((U a k : ℝ) : EReal) := by
  have h : ∀ (a : Fin 4096) (k : Fin 384), Re (∑ l, dqP x0 x1 CT ST a l * wuqP x9 k l) := fun a k => Re.sum fun l => by
    refine Re.mul ?_ ?_
    · unfold dqP dq0
      split_ifs
      · exact re_of h0 _
      · exact rot_real (fun _ => re_of h1 _) (fun _ => ct_real _ _) (fun _ => st_real _ _) _
      · exact Re.zero
    · unfold wuqP
      split_ifs
      · exact re_of h9 _
      · exact Re.zero
  choose U hU using h
  exact ⟨U, hU⟩

theorem dckv_real (x2 x3 : FVec Ideal S4096x8x64 .bf16) (x11 : FVec Ideal S256x8x128 .f32) (h2 : IsReal x2) (h3 : IsReal x3) (h11 : IsReal x11) :
    ∃ U : Fin 4096 → Fin 256 → ℝ, ∀ a k, ∑ l, dkvP x2 x3 a l * wukvP x11 k l = ((U a k : ℝ) : EReal) := by
  have h : ∀ (a : Fin 4096) (k : Fin 256), Re (∑ l, dkvP x2 x3 a l * wukvP x11 k l) := fun a k => Re.sum fun l => by
    refine Re.mul ?_ (re_of h11 _)
    unfold dkvP dkv0
    split_ifs
    · exact re_of h2 _
    · exact re_of h3 _
  choose U hU using h
  exact ⟨U, hU⟩

theorem dfr_of_pre {m : (ℓ : Loc nD τ sig) → Buf (Elt Ideal) ℓ} (h : Cert.Pre_MlaBwdIdeal_mla_finite m) (c : Dev nD) :
    (dats m 0 c).arrAt 11 (cfgs 0).N = GD m c := by
  obtain ⟨h0, h1, h2, h3, h4, h5, h6, h8, h9, h10, h11⟩ := h c
  obtain ⟨Xq, hXq⟩ := isReal_of_olt _ lit_inf _ _ h5
  obtain ⟨Xk, hXk⟩ := isReal_of_olt _ lit_inf _ _ h6
  obtain ⟨Nq, hNq⟩ := isReal_of_olt _ lit_inf _ _ h8
  obtain ⟨Nk, hNk⟩ := isReal_of_olt _ lit_inf _ _ h10
  obtain ⟨Uq, hUq⟩ := dcq_real _ _ _ (isReal_of_olt _ lit_inf16 _ _ h0) (isReal_of_olt _ lit_inf16 _ _ h1) (isReal_of_olt _ lit_inf _ _ h9)
  obtain ⟨Uk, hUk⟩ := dckv_real _ _ _ (isReal_of_olt _ lit_inf16 _ _ h2) (isReal_of_olt _ lit_inf16 _ _ h3) (isReal_of_olt _ lit_inf _ _ h11)
  exact final_dfr m (fun a k => Xq (ix2 a k)) Uq (fun k => Nq (ix1 k)) (fun a k => Xk (ix2 a k)) Uk (fun k => Nk (ix1 k)) c (fun a k => hXq _) hUq (fun k => hNq _) (fun a k => hXk _) hUk (fun k => hNk _)

set_option maxHeartbeats 2000000 in
theorem algebraic : Cert.algebraic_MlaBwdIdeal_MlaRefIdeal_pre_mla_finite := by
  pair_intro
  · run_from Cert.MlaBwdIdeal.Gen.run_main m g
  · refine (θ_run _ _ _).mono (fun r h c => ?_) (Cert.MlaRefIdeal.Value.run m' g')
    obtain ⟨a0, a1, a2, a3, a4, a5, a6, a7, a8, a9, a10, a11⟩ := hagree c
    refine ⟨(h c).1.trans ?_, (h c).2.1.trans ?_, (h c).2.2.1.trans ?_, (h c).2.2.2.1.trans ?_, (h c).2.2.2.2.1.trans ?_, (h c).2.2.2.2.2⟩
    · refine (Cert.MlaRefIdeal.Read.val_main_v179_eq _).trans (Eq.trans ?_ (dfr_of_pre hpre c).symm)
      unfold GD
      congr 1
    · refine (Cert.MlaRefIdeal.Read.val_main_v183_eq _).trans (Eq.trans ?_ (final_uq m c).symm)
      unfold GUQ
      congr 1
    · refine (Cert.MlaRefIdeal.Read.val_main_v185_eq _).trans (Eq.trans ?_ (final_ukv m c).symm)
      unfold GUKV
      congr 1
    · refine (Cert.MlaRefIdeal.Read.val_main_v186_eq _).trans (Eq.trans ?_ (final_qn m c).symm)
      unfold GQN
      congr 1
    · refine (Cert.MlaRefIdeal.Read.val_main_v187_eq _).trans (Eq.trans ?_ (final_kn m c).symm)
      unfold GKN
      congr 1

end Cert.Mla
end
-- ==== Proof.PoolKer.lean ====
/- The pooling branch's gradient, payload by payload: trailing and leading window sums, and the formulas of the kernel's body. -/
module

public import proofs.«01_k».proof.Proof.Lift
public import proofs.«01_k».proof.Proof.Gen.PoolBwdIdeal.Value
public import Idealize.ShloMosaic.Lib.Pipeline.ValueKit
public import Idealize.ShloMosaic.Lib.Pipeline.ReadBack
public import Idealize.ShloMosaic.Lib.StableHlo.ReadAt
public import Idealize.ShloMosaic.Lib.Tactic.CleanTypes

@[expose] public section

set_option maxRecDepth 65536

noncomputable section

open Idealize.ShloMosaic Idealize.ShloMosaic.TcCoe Idealize.SL.Sem
open scoped BigOperators

namespace Cert.Pool
open Cert.PoolBwdIdeal Cert.PoolBwdIdeal.Gen Cert.Lift

/-- The sum of the `w` values up to row `r`, those before row 0 left out. -/
def SW (f : ℕ → EReal) (w r : ℕ) : EReal := ∑ j ∈ Finset.range w, if j ≤ r then f (r - j) else 0
/-- The sum of the `w` values from row `r` on, those past the last row left out. -/
def BW (f : ℕ → EReal) (w r : ℕ) : EReal := ∑ j ∈ Finset.range w, if r + j < 4096 then f (r + j) else 0

theorem SW_one (f : ℕ → EReal) (r : ℕ) : SW f 1 r = f r := by simp [SW]
theorem BW_one (f : ℕ → EReal) (r : ℕ) (h : r < 4096) : BW f 1 r = f r := by simp [BW, h]
theorem SW_two (f : ℕ → EReal) (w r : ℕ) : SW f (w + w) r = SW f w r + (if w ≤ r then SW f w (r - w) else 0) := by
  unfold SW
  rw [Finset.sum_range_add]
  congr 1
  split_ifs with h
  · refine Finset.sum_congr rfl fun j _ => ?_
    rw [show r - (w + j) = r - w - j by omega]
    exact if_congr (by omega) rfl rfl
  · exact Finset.sum_eq_zero fun j _ => if_neg (by omega)
theorem BW_two (f : ℕ → EReal) (w r : ℕ) : BW f (w + w) r = BW f w r + (if r + w < 4096 then BW f w (r + w) else 0) := by
  unfold BW
  rw [Finset.sum_range_add]
  congr 1
  split_ifs with h
  · refine Finset.sum_congr rfl fun j _ => ?_
    rw [show r + (w + j) = r + w + j by omega]
  · exact Finset.sum_eq_zero fun j _ => if_neg (by omega)

/-- Column `j` of a block, by row number. -/
def col (v : FVec Ideal S4096x128 .f32) (j : Fin 128) (n : ℕ) : EReal := if h : n < 4096 then v (ix2 ⟨n, h⟩ j) else 0
theorem col_val (v : FVec Ideal S4096x128 .f32) (j : Fin 128) (r : Fin 4096) : col v j r.val = v (ix2 r j) := dif_pos r.isLt

/-- The window of group `g`. -/
def win (g : ℕ) : ℕ := 2 ^ (g + 1)
/-- One over the number of rows in the window that ends at row `r`. -/
def cinv (w r : ℕ) : EReal := ((1 / ((min (r + 1) w : ℕ) : ℝ) : ℝ) : EReal)

theorem toInt_small (n : ℕ) (h : n < 2 ^ 31) : (BitVec.ofNat 32 n).toInt = (n : ℤ) := by
  have e : (BitVec.ofNat 32 n).toNat = n := by rw [BitVec.toNat_ofNat]; omega
  rw [BitVec.toInt_eq_toNat_of_lt (by rw [e]; omega), e]

theorem fsel (G : ℕ → EReal) (k r : ℕ) (hk : k < 4096) (hr : r < 4096) {x : EReal} (hx : x = G ((r + 4096 - k) % 4096)) :
    Scalar.select (IntOp.cmpi .sge (BitVec.ofNat 32 r) (BitVec.ofNat 32 k)) x 0 = if k ≤ r then G (r - k) else 0 := by
  have h : IntOp.cmpi .sge (BitVec.ofNat 32 r) (BitVec.ofNat 32 k) = if k ≤ r then 1#1 else 0#1 := by
    simp only [IntOp.cmpi, BitVec.sle, toInt_small r (by omega), toInt_small k (by omega)]
    by_cases h : k ≤ r <;> simp [h]
  rw [h, hx]
  split_ifs with h
  · show G _ = _
    congr 1
    omega
  · rfl
theorem bsel (G : ℕ → EReal) (k r : ℕ) (hk : 0 < k) (hk' : k < 4096) (hr : r < 4096) {x : EReal} (hx : x = G ((r + 4096 - (4096 - k)) % 4096)) :
    Scalar.select (IntOp.cmpi .slt (BitVec.ofNat 32 r) (BitVec.ofNat 32 (4096 - k))) x 0 = if r + k < 4096 then G (r + k) else 0 := by
  have h : IntOp.cmpi .slt (BitVec.ofNat 32 r) (BitVec.ofNat 32 (4096 - k)) = if r + k < 4096 then 1#1 else 0#1 := by
    simp only [IntOp.cmpi, BitVec.slt, toInt_small r (by omega), toInt_small (4096 - k) (by omega)]
    by_cases h : r + k < 4096
    · have : (r : ℤ) < ((4096 - k : ℕ) : ℤ) := by omega
      simp [h, this]
    · have : ¬ (r : ℤ) < ((4096 - k : ℕ) : ℤ) := by omega
      simp [h, this]
  rw [h, hx]
  split_ifs with h
  · show G _ = _
    congr 1
    omega
  · rfl
theorem pick {α : Type} (g : ℕ) (hg : g < 4) (a b c d : α) : Scalar.select (Scalar.cmpi .eq (BitVec.ofNat 32 g) 0#32) a
    (Scalar.select (Scalar.cmpi .eq (BitVec.ofNat 32 g) 1#32) b (Scalar.select (Scalar.cmpi .eq (BitVec.ofNat 32 g) 2#32) c d))
      = if g = 0 then a else if g = 1 then b else if g = 2 then c else d := by
  interval_cases g <;> rfl
theorem count (w r : ℕ) (hw : w ≤ 16) (hr : r < 4096) :
    (FloatOps.sitofp (F := Ideal) .f32 (IntOp.minsi (IntOp.addi (BitVec.ofNat 32 r) 1#32) (BitVec.ofNat 32 w)) : EReal) = (((min (r + 1) w : ℕ) : ℝ) : EReal) := by
  have h : (IntOp.minsi (IntOp.addi (BitVec.ofNat 32 r) 1#32) (BitVec.ofNat 32 w)).toInt = ((min (r + 1) w : ℕ) : ℤ) := by
    rw [show IntOp.addi (BitVec.ofNat 32 r) 1#32 = BitVec.ofNat 32 (r + 1) from (BitVec.ofNat_add r 1).symm]
    simp only [IntOp.minsi, BitVec.slt, toInt_small (r + 1) (by omega), toInt_small w (by omega)]
    by_cases h : ((r + 1 : ℕ) : ℤ) < (w : ℤ)
    · simp only [h, decide_true, if_true, toInt_small (r + 1) (by omega)]
      omega
    · simp only [h, decide_false, Bool.false_eq_true, if_false, toInt_small w (by omega)]
      omega
  show (((IntOp.minsi (IntOp.addi (BitVec.ofNat 32 r) 1#32) (BitVec.ofNat 32 w)).toInt : ℝ) : EReal) = _
  rw [h]
  norm_cast
theorem win_le (g : ℕ) (hg : g < 4) : win g ≤ 16 := by interval_cases g <;> decide
theorem win_pos (g : ℕ) : 0 < win g := Nat.pos_of_ne_zero (by unfold win; positivity)

theorem pay3 (v : FVec Ideal S4096x128 .f32) (r : Fin 4096) (j : Fin 128) : (k0_pay3 (F := Ideal) v : FVec Ideal S4096x128 .f32) (ix2 r j) = SW (col v j) 2 r.val := by
  rw [SW_two _ 1, SW_one, SW_one, col_val]
  pointwise [k0_pay3]
  exact congrArg (v (ix2 r j) + ·) (fsel (col v j) 1 r.val (by omega) r.isLt (col_val v j ⟨_, _⟩).symm)
theorem pay4 (v : FVec Ideal S4096x128 .f32) (r : Fin 4096) (j : Fin 128) : (k0_pay4 (F := Ideal) v : FVec Ideal S4096x128 .f32) (ix2 r j) = SW (col v j) 4 r.val := by
  rw [SW_two _ 2]
  pointwise [k0_pay4]
  exact congrArg₂ (· + ·) (pay3 v r j) (fsel (SW (col v j) 2) 2 r.val (by omega) r.isLt (pay3 v ⟨_, _⟩ j))
theorem pay5 (v : FVec Ideal S4096x128 .f32) (r : Fin 4096) (j : Fin 128) : (k0_pay5 (F := Ideal) v : FVec Ideal S4096x128 .f32) (ix2 r j) = SW (col v j) 8 r.val := by
  rw [SW_two _ 4]
  pointwise [k0_pay5]
  exact congrArg₂ (· + ·) (pay4 v r j) (fsel (SW (col v j) 4) 4 r.val (by omega) r.isLt (pay4 v ⟨_, _⟩ j))
theorem pay2 (i : grid0.Coords) (g : ℕ) (hi : (i 0).val = g) (hg : g < 4) (r : Fin 4096) (j : Fin 128) :
    (k0_pay2 (F := Ideal) i : FVec Ideal S4096x128 .f32) (ix2 r j) = cinv (win g) r.val := by
  pointwise [k0_pay2]
  rw [hi]
  have hw := win_le g hg
  have hp := win_pos g
  split_ifs with h
  · have e : Scalar.shli (2#32) (BitVec.ofNat 32 g) = BitVec.ofNat 32 (win g) := by interval_cases g <;> rfl
    rw [e, count _ _ hw r.isLt]
    exact div_coe 1 (by have : 0 < min (r.val + 1) (win g) := by omega
                        exact_mod_cast this.ne')
  · rw [pick g hg]
    rw [cinv, show min (r.val + 1) (win g) = win g by omega]
    interval_cases g
    · show Ideal.ieee 8 23 (1056964608#32) = _
      simp [Ideal.ieee, win]
      rw [← EReal.coe_mul]
      norm_num
    · show Ideal.ieee 8 23 (1048576000#32) = _
      simp [Ideal.ieee, win]
      rw [← EReal.coe_mul]
      norm_num
    · show Ideal.ieee 8 23 (1040187392#32) = _
      simp [Ideal.ieee, win]
      rw [← EReal.coe_mul]
      norm_num
    · show Ideal.ieee 8 23 (1031798784#32) = _
      simp [Ideal.ieee, win]
      rw [← EReal.coe_mul]
      norm_num
theorem pay6 (v : FVec Ideal S4096x128 .f32) (c : FVec Ideal S4096x128 .f32) (g : ℕ) (hg : g < 4) (r : Fin 4096) (k : Fin 128) :
    (k0_pay6 (F := Ideal) (BitVec.ofNat 32 g) v c (iota .tc S4096x128 32 [0] iota_S4096x128_d0_w32) (k0_pay3 v) (k0_pay4 v) (k0_pay5 v) 8#32 : FVec Ideal S4096x128 .bf16) (ix2 r k)
      = SW (col v k) (win g) r.val * c (ix2 r k) - v (ix2 r k) := by
  pointwise [k0_pay6]
  refine congrArg (fun s => s * c (ix2 r k) - v (ix2 r k)) ((pick g hg _ _ _ _).trans ?_)
  refine Eq.trans (b := if g = 0 then SW (col v k) 2 r.val else if g = 1 then SW (col v k) 4 r.val else if g = 2 then SW (col v k) 8 r.val else SW (col v k) 16 r.val) ?_ (by interval_cases g <;> rfl)
  refine congrArg₂ (ite (g = 0)) (pay3 v r k) (congrArg₂ (ite (g = 1)) (pay4 v r k) (congrArg₂ (ite (g = 2)) (pay5 v r k) ?_))
  rw [SW_two _ 8]
  exact congrArg₂ (· + ·) (pay5 v r k) (fsel (SW (col v k) 8) 8 r.val (by omega) r.isLt (pay5 v ⟨_, _⟩ k))

/-- A head's block of the branch: the pooled rows minus the rows themselves. -/
def kd (g : ℕ) (u : FVec Ideal S4096x128 .f32) (r : Fin 4096) (k : Fin 128) : EReal := SW (col u k) (win g) r.val * cinv (win g) r.val - u (ix2 r k)
/-- Those rows through the group's linear map. -/
def klin (g : ℕ) (u : FVec Ideal S4096x128 .f32) (w : FVec Ideal S1x128x128 .f32) (r : Fin 4096) (j : Fin 128) : EReal := ∑ k, kd g u r k * w (ix3 0 k j)
/-- The cotangent before the scale: the branch's cotangent through the gate. -/
def kpre (z dy : FVec Ideal S4096x128 .f32) (r : Fin 4096) (j : Fin 128) : EReal := dy (ix2 r j) * (z (ix2 r j) * Ideal.logistic (z (ix2 r j)))
def kdl (z dy : FVec Ideal S4096x128 .f32) (s : FVec Ideal S1x128 .f32) (r : Fin 4096) (j : Fin 128) : EReal := kpre z dy r j * s (ix2 0 j)
/-- The cotangent of the pooled rows. -/
def kdd (z dy : FVec Ideal S4096x128 .f32) (w : FVec Ideal S1x128x128 .f32) (s : FVec Ideal S1x128 .f32) (r : Fin 4096) (k : Fin 128) : EReal := ∑ j, kdl z dy s r j * w (ix3 0 k j)
/-- Divided by the counts, by row number. -/
def kq (g : ℕ) (z dy : FVec Ideal S4096x128 .f32) (w : FVec Ideal S1x128x128 .f32) (s : FVec Ideal S1x128 .f32) (k : Fin 128) (n : ℕ) : EReal :=
  if h : n < 4096 then kdd z dy w s ⟨n, h⟩ k * cinv (win g) n else 0

theorem kq_val (g : ℕ) (z dy : FVec Ideal S4096x128 .f32) (w : FVec Ideal S1x128x128 .f32) (s : FVec Ideal S1x128 .f32) (r : Fin 4096) (k : Fin 128) :
    kq g z dy w s k r.val = kdd z dy w s r k * cinv (win g) r.val := by
  unfold kq
  exact dif_pos r.isLt

theorem pay12 (z dy : FVec Ideal S4096x128 .f32) (r : Fin 4096) (j : Fin 128) : (k0_pay12 (F := Ideal) z dy : FVec Ideal S4096x128 .f32) (ix2 r j) = kpre z dy r j := by
  pointwise [k0_pay12, k0_pay10, kpre]
theorem pay16 (z dy : FVec Ideal S4096x128 .f32) (w : FVec Ideal S1x128x128 .f32) (s : FVec Ideal S1x128 .f32) (r : Fin 4096) (k : Fin 128) :
    (k0_pay16 (F := Ideal) (k0_pay7 w) (k0_pay9 s) (k0_pay12 z dy) : FVec Ideal S4096x128 .f32) (ix2 r k) = kdd z dy w s r k := by
  pointwise [k0_pay16, k0_pay14, k0_pay7, k0_pay9]
  exact Finset.sum_congr rfl fun j _ => congrArg (fun e => e * s (ix2 0 j) * w (ix3 0 k j)) (pay12 z dy r j)
theorem pay8 (i : grid0.Coords) (g : ℕ) (hi : (i 0).val = g) (hg : g < 4) (u : FVec Ideal S4096x128 .f32) (w : FVec Ideal S1x128x128 .f32) (r : Fin 4096) (j : Fin 128) :
    (k0_pay8 (F := Ideal) (BitVec.ofNat 32 g) u (k0_pay2 i) (iota .tc S4096x128 32 [0] iota_S4096x128_d0_w32) (k0_pay3 u) (k0_pay4 u) (k0_pay5 u) 8#32 w : FVec Ideal S4096x128 .f32) (ix2 r j)
      = klin g u w r j := by
  pointwise [k0_pay8, k0_pay7]
  exact Finset.sum_congr rfl fun k _ => congrArg (· * w (ix3 0 k j)) ((pay6 u _ g hg r k).trans (congrArg (fun c => SW (col u k) (win g) r.val * c - u (ix2 r k)) (pay2 i g hi hg r k)))

section Out
variable (i : grid0.Coords) (g : ℕ) (hi : (i 0).val = g) (hg : g < 4) (u z dy : FVec Ideal S4096x128 .f32) (w : FVec Ideal S1x128x128 .f32) (s : FVec Ideal S1x128 .f32)
include hi hg

theorem pay17 (r : Fin 4096) (k : Fin 128) :
    (k0_pay17 (F := Ideal) (k0_pay2 i) (k0_pay7 w) (k0_pay9 s) (k0_pay12 z dy) : FVec Ideal S4096x128 .f32) (ix2 r k) = BW (kq g z dy w s k) 2 r.val := by
  have e : ∀ r : Fin 4096, (k0_pay16 (F := Ideal) (k0_pay7 w) (k0_pay9 s) (k0_pay12 z dy) : FVec Ideal S4096x128 .f32) (ix2 r k) * (k0_pay2 (F := Ideal) i : FVec Ideal S4096x128 .f32) (ix2 r k)
      = kq g z dy w s k r.val := fun r =>
    (congrArg₂ (· * ·) (pay16 z dy w s r k) (pay2 i g hi hg r k)).trans (kq_val g z dy w s r k).symm
  rw [BW_two _ 1, BW_one _ _ r.isLt]
  pointwise [k0_pay17]
  refine congrArg₂ (· + ·) (e r) ((bsel (kq g z dy w s k) 1 r.val (by omega) (by omega) r.isLt (e ⟨_, _⟩)).trans ?_)
  split_ifs with h
  · exact (BW_one _ _ h).symm
  · rfl
theorem pay18 (r : Fin 4096) (k : Fin 128) :
    (k0_pay18 (F := Ideal) (k0_pay2 i) (k0_pay7 w) (k0_pay9 s) (k0_pay12 z dy) : FVec Ideal S4096x128 .f32) (ix2 r k) = BW (kq g z dy w s k) 4 r.val := by
  rw [BW_two _ 2]
  pointwise [k0_pay18]
  exact congrArg₂ (· + ·) (pay17 i g hi hg z dy w s r k) (bsel (BW (kq g z dy w s k) 2) 2 r.val (by omega) (by omega) r.isLt (pay17 i g hi hg z dy w s ⟨_, _⟩ k))
theorem pay1 (r : Fin 4096) (k : Fin 128) :
    (k0_pay1 (F := Ideal) (BitVec.ofNat 32 g) (k0_pay16 (k0_pay7 w) (k0_pay9 s) (k0_pay12 z dy)) (k0_pay17 (k0_pay2 i) (k0_pay7 w) (k0_pay9 s) (k0_pay12 z dy))
      (k0_pay18 (k0_pay2 i) (k0_pay7 w) (k0_pay9 s) (k0_pay12 z dy)) (k0_pay19 (BitVec.ofNat 32 g) (k0_pay2 i) (k0_pay7 w) (k0_pay9 s) (k0_pay12 z dy)) 1#32 : FVec Ideal S4096x128 .bf16) (ix2 r k)
      = BW (kq g z dy w s k) (win g) r.val - kdd z dy w s r k := by
  have e8 : ∀ r : Fin 4096, (k0_pay18 (F := Ideal) (k0_pay2 i) (k0_pay7 w) (k0_pay9 s) (k0_pay12 z dy) : FVec Ideal S4096x128 .f32) (ix2 r k)
      + Scalar.select (IntOp.cmpi .slt (BitVec.ofNat 32 r.val) 4092#32) ((k0_pay18 (F := Ideal) (k0_pay2 i) (k0_pay7 w) (k0_pay9 s) (k0_pay12 z dy) : FVec Ideal S4096x128 .f32)
        (ix2 ⟨(r.val + 4096 - 4092) % 4096, Nat.mod_lt _ (by omega)⟩ k)) 0 = BW (kq g z dy w s k) 8 r.val := fun r => by
    rw [BW_two _ 4]
    exact congrArg₂ (· + ·) (pay18 i g hi hg z dy w s r k) (bsel (BW (kq g z dy w s k) 4) 4 r.val (by omega) (by omega) r.isLt (pay18 i g hi hg z dy w s ⟨_, _⟩ k))
  pointwise [k0_pay1, k0_pay19]
  refine congrArg₂ (· - ·) ((pick g hg _ _ _ _).trans ?_) (pay16 z dy w s r k)
  refine Eq.trans (b := if g = 0 then BW (kq g z dy w s k) 2 r.val else if g = 1 then BW (kq g z dy w s k) 4 r.val else if g = 2 then BW (kq g z dy w s k) 8 r.val else BW (kq g z dy w s k) 16 r.val) ?_ (by interval_cases g <;> rfl)
  refine congrArg₂ (ite (g = 0)) (pay17 i g hi hg z dy w s r k) (congrArg₂ (ite (g = 1)) (pay18 i g hi hg z dy w s r k) (congrArg₂ (ite (g = 2)) (e8 r) ?_))
  rw [BW_two _ 8]
  exact congrArg₂ (· + ·) (e8 r) (bsel (BW (kq g z dy w s k) 8) 8 r.val (by omega) (by omega) r.isLt (e8 ⟨_, _⟩))
theorem pay11 (r : Fin 4096) (j : Fin 128) :
    (k0_pay11 (F := Ideal) (BitVec.ofNat 32 g) u (k0_pay2 i) (iota .tc S4096x128 32 [0] iota_S4096x128_d0_w32) (k0_pay3 u) (k0_pay4 u) (k0_pay5 u) 8#32 w s z dy : FVec Ideal S4096x128 .bf16) (ix2 r j)
      = dy (ix2 r j) * klin g u w r j * s (ix2 0 j) * (Ideal.logistic (z (ix2 r j)) + z (ix2 r j) * Ideal.logistic (z (ix2 r j)) * (1 - Ideal.logistic (z (ix2 r j)))) := by
  pointwise [k0_pay11, k0_pay9, k0_pay10]
  exact congrArg (fun e => dy (ix2 r j) * e * s (ix2 0 j) * (Ideal.logistic (z (ix2 r j)) + z (ix2 r j) * Ideal.logistic (z (ix2 r j)) * (1 - Ideal.logistic (z (ix2 r j))))) (pay8 i g hi hg u w r j)
theorem pay13 (j : Fin 128) :
    (k0_pay13 (F := Ideal) (BitVec.ofNat 32 g) u (k0_pay2 i) (iota .tc S4096x128 32 [0] iota_S4096x128_d0_w32) (k0_pay3 u) (k0_pay4 u) (k0_pay5 u) 8#32 w z dy : FVec Ideal S1x128 .f32) (ix2 0 j)
      = ∑ r, kpre z dy r j * klin g u w r j := by
  pointwise [k0_pay13]
  exact Finset.sum_congr rfl fun r _ => congrArg₂ (· * ·) (pay12 z dy r j) (pay8 i g hi hg u w r j)
theorem pay15 (k j : Fin 128) :
    (k0_pay15 (F := Ideal) (k0_pay6 (BitVec.ofNat 32 g) u (k0_pay2 i) (iota .tc S4096x128 32 [0] iota_S4096x128_d0_w32) (k0_pay3 u) (k0_pay4 u) (k0_pay5 u) 8#32) (k0_pay9 s) (k0_pay12 z dy)
      : FVec Ideal S1x128x128 .f32) (ix3 0 k j) = ∑ r, kd g u r k * kdl z dy s r j := by
  pointwise [k0_pay15, k0_pay14, k0_pay9]
  exact Finset.sum_congr rfl fun r _ => congrArg₂ (· * ·)
    ((pay6 u _ g hg r k).trans (congrArg (fun c => SW (col u k) (win g) r.val * c - u (ix2 r k)) (pay2 i g hi hg r k)))
    (congrArg (· * s (ix2 0 j)) (pay12 z dy r j))
end Out
end Cert.Pool
end
-- ==== Proof.PoolRef.lean ====
/- The reference's pooling branch at an index: running sums as window sums, and each result as a formula. -/
module

public import proofs.«01_k».proof.Proof.PoolKer
public import proofs.«01_k».proof.Proof.Gen.PoolRefIdeal.Read

@[expose] public section

set_option maxRecDepth 65536

noncomputable section

open Idealize.ShloMosaic Idealize.ShloMosaic.TcCoe Idealize.SL.Sem
open scoped BigOperators

namespace Cert.Pool
open Cert.PoolBwdIdeal (S4096x128 S1x128)
open Cert.PoolRefIdeal Cert.PoolRefIdeal.Read Cert.Lift

theorem foldl_add {α : Type*} (l : List α) (f : α → EReal) (a : EReal) : l.foldl (fun r n => r + f n) a = a + (l.map f).sum := by
  induction l generalizing a with
  | nil => simp
  | cons x l ih => simp only [List.foldl_cons, ih, List.map_cons, List.sum_cons, add_assoc]

theorem window_sum {s t : Shape} (window strides lo hi : Fin s.rank → Nat) (h : s.ReduceWindows window strides lo hi t) (x : s.Idx → EReal) (c : EReal) (hc : c = 0) (j : t.Idx) :
    Ideal.hostReduceWindowAdd window strides lo hi h x c j
      = ∑ q : (⟨s.rank, window⟩ : Shape).Idx, if hin : ∀ a, lo a ≤ (j (a.cast h.1.symm)).val * strides a + (q a).val ∧ (j (a.cast h.1.symm)).val * strides a + (q a).val - lo a < s.size a
          then x (fun a => ⟨(j (a.cast h.1.symm)).val * strides a + (q a).val - lo a, (hin a).2⟩) else 0 := by
  subst hc
  refine (foldl_add _ _ _).trans ?_
  rw [zero_add, ← Fin.sum_univ_def]
  refine (Finset.sum_congr rfl fun n _ => dite_congr rfl (fun _ => rfl) fun _ => rfl).trans (Equiv.sum_comp (⟨s.rank, window⟩ : Shape).rowMajor.symm (fun q => if hin : ∀ a, lo a ≤ (j (a.cast h.1.symm)).val * strides a + (q a).val ∧ (j (a.cast h.1.symm)).val * strides a + (q a).val - lo a < s.size a
          then x (fun a => ⟨(j (a.cast h.1.symm)).val * strides a + (q a).val - lo a, (hin a).2⟩) else 0))

/-- The indices of a window that spans the rows only are the rows. -/
def rows (n : ℕ) : (⟨3, ![1, n, 1]⟩ : Shape).Idx ≃ Fin n where
  toFun q := q 1
  invFun a := ix3 0 a 0
  left_inv q := by
    funext b; apply Fin.ext
    match b with
    | ⟨0, _⟩ => have : (q 0).val < 1 := (q 0).isLt; show 0 = (q 0).val; omega
    | ⟨1, _⟩ => rfl
    | ⟨2, _⟩ => have : (q 2).val < 1 := (q 2).isLt; show 0 = (q 2).val; omega
  right_inv a := rfl

/-- Column `l` by row number, zero past the last row. -/
def colN {n m : ℕ} (x : (⟨3, ![1, n, m]⟩ : Shape).Idx → EReal) (l : Fin m) (k : ℕ) : EReal := if h : k < n then x (ix3 0 ⟨k, h⟩ l) else 0

theorem cum_lo {n m p : ℕ} (hp : p + 1 = n) (h : (⟨3, ![1, n, m]⟩ : Shape).ReduceWindows ![1, n, 1] ![1, 1, 1] ![0, p, 0] ![0, 0, 0] ⟨3, ![1, n, m]⟩)
    (x : (⟨3, ![1, n, m]⟩ : Shape).Idx → EReal) (c : EReal) (hc : c = 0) (r : Fin n) (l : Fin m) :
    Ideal.hostReduceWindowAdd ![1, n, 1] ![1, 1, 1] ![0, p, 0] ![0, 0, 0] h x c (ix3 0 r l) = ∑ k ∈ Finset.range (r.val + 1), colN x l k := by
  refine (window_sum _ _ _ _ h x c hc _).trans ?_
  refine (Equiv.sum_comp (rows n).symm _).symm.trans ?_
  refine (Finset.sum_congr rfl fun (a : Fin n) _ => (?_ : _ = if p ≤ r.val + a.val then colN x l (r.val + a.val - p) else 0)).trans ?_
  · by_cases hp' : p ≤ r.val + a.val
    · have hv : r.val + a.val - p < n := by omega
      rw [if_pos hp']
      unfold colN
      rw [dif_pos hv]
      refine (dif_pos ?_).trans (congrArg x ?_)
      · intro b
        match b with
        | ⟨0, _⟩ => exact ⟨Nat.zero_le _, by show 0 * 1 + 0 - 0 < 1; omega⟩
        | ⟨1, _⟩ => exact ⟨by show p ≤ r.val * 1 + a.val; omega, by show r.val * 1 + a.val - p < n; omega⟩
        | ⟨2, _⟩ => exact ⟨Nat.zero_le _, by show l.val * 1 + 0 - 0 < m; have := l.isLt; omega⟩
      · funext b
        apply Fin.ext
        match b with
        | ⟨0, _⟩ => rfl
        | ⟨1, _⟩ => show r.val * 1 + a.val - p = r.val + a.val - p; omega
        | ⟨2, _⟩ => show l.val * 1 + 0 - 0 = l.val; omega
    · rw [if_neg hp']
      refine dif_neg fun h => hp' ?_
      have := (h 1).1
      change p ≤ r.val * 1 + a.val at this
      omega
  · rw [Fin.sum_univ_eq_sum_range (fun a => if p ≤ r.val + a then colN x l (r.val + a - p) else 0) n, ← Finset.sum_range_reflect, ← Finset.sum_range_reflect (fun k => colN x l k)]
    have hr := r.isLt
    refine ((Finset.sum_subset (Finset.range_subset_range.2 (show r.val + 1 ≤ n by omega)) fun k _ hk => ?_).symm.trans (Finset.sum_congr rfl fun k hk => ?_))
    · have : ¬ k < r.val + 1 := fun h => hk (Finset.mem_range.2 h)
      have := Finset.mem_range.1 ‹k ∈ Finset.range n›
      exact if_neg (by omega)
    · have := Finset.mem_range.1 hk
      refine (if_pos (by omega)).trans ?_
      congr 1; omega
/-- The host's windowed sum, on the ideal values. -/
theorem host_window {s t u : Shape} (window strides lo hi : Fin s.rank → Nat) (x : FVec Ideal s .f32) (v : FVec Ideal u .f32) (h : s.ReduceWindows window strides lo hi t) (hu : 0 < u.numel) (j : t.Idx) :
    (Host.reduceWindowAdd (F := Ideal) window strides lo hi x v h hu : FVec Ideal t .f32) j = Ideal.hostReduceWindowAdd window strides lo hi h x (v (Shape.Idx.first hu)) j := rfl
theorem cum_hi {n m p : ℕ} (hp : p + 1 = n) (h : (⟨3, ![1, n, m]⟩ : Shape).ReduceWindows ![1, n, 1] ![1, 1, 1] ![0, 0, 0] ![0, p, 0] ⟨3, ![1, n, m]⟩)
    (x : (⟨3, ![1, n, m]⟩ : Shape).Idx → EReal) (c : EReal) (hc : c = 0) (r : Fin n) (l : Fin m) :
    Ideal.hostReduceWindowAdd ![1, n, 1] ![1, 1, 1] ![0, 0, 0] ![0, p, 0] h x c (ix3 0 r l) = ∑ k ∈ Finset.range n, colN x l (r.val + k) := by
  refine (window_sum _ _ _ _ h x c hc _).trans ?_
  refine (Equiv.sum_comp (rows n).symm _).symm.trans ?_
  refine (Finset.sum_congr rfl fun (a : Fin n) _ => (?_ : _ = colN x l (r.val + a.val))).trans (Fin.sum_univ_eq_sum_range (fun a => colN x l (r.val + a)) n)
  by_cases hv : r.val + a.val < n
  · unfold colN
    rw [dif_pos hv]
    refine (dif_pos ?_).trans (congrArg x ?_)
    · intro b
      match b with
      | ⟨0, _⟩ => exact ⟨Nat.zero_le _, by show 0 * 1 + 0 - 0 < 1; omega⟩
      | ⟨1, _⟩ => exact ⟨Nat.zero_le _, by show r.val * 1 + a.val - 0 < n; omega⟩
      | ⟨2, _⟩ => exact ⟨Nat.zero_le _, by show l.val * 1 + 0 - 0 < m; have := l.isLt; omega⟩
    · funext b
      apply Fin.ext
      match b with
      | ⟨0, _⟩ => rfl
      | ⟨1, _⟩ => show r.val * 1 + a.val - 0 = r.val + a.val; omega
      | ⟨2, _⟩ => show l.val * 1 + 0 - 0 = l.val; omega
  · unfold colN
    rw [dif_neg hv]
    refine dif_neg fun h => hv ?_
    have := (h 1).2
    change r.val * 1 + a.val - 0 < n at this
    omega

/-! ### Running sums and windows -/

/-- A difference of running sums, over the count, is the window's mean. -/
theorem mean (f : ℕ → ℝ) (w r : ℕ) (hw : 0 < w) {a b n : EReal} (ha : a = ∑ k ∈ Finset.range (r + 1), (f k : EReal)) (hb : r < w → b = 0)
    (hb' : ¬ r < w → b = ∑ k ∈ Finset.range (r - w + 1), (f k : EReal)) (hn : n = (((min (r + 1) w : ℕ) : ℝ) : EReal)) :
    Ideal.div (a - b) n = SW (fun k => (f k : EReal)) w r * cinv w r := by
  have hS : SW (fun k => (f k : EReal)) w r = ((∑ j ∈ Finset.range w, if j ≤ r then f (r - j) else 0 : ℝ) : EReal) := by
    unfold SW
    rw [← coe_sum]
    exact Finset.sum_congr rfl fun j _ => by split_ifs <;> rfl
  have hm : (((min (r + 1) w : ℕ) : ℝ)) ≠ 0 := Nat.cast_ne_zero.2 (by omega)
  have e : a - b = ((∑ j ∈ Finset.range w, if j ≤ r then f (r - j) else 0 : ℝ) : EReal) := by
    by_cases h : r < w
    · rw [ha, hb h, sub_zero, coe_sum, ← Finset.sum_range_reflect f (r + 1)]
      refine congrArg _ ((Finset.sum_congr rfl fun j hj => ?_).trans (Finset.sum_subset (Finset.range_subset_range.2 (show r + 1 ≤ w by omega)) fun k _ hk => ?_))
      · have := Finset.mem_range.1 hj
        rw [if_pos (by omega)]
        congr 1
      · have : ¬ k < r + 1 := fun h => hk (Finset.mem_range.2 h)
        exact if_neg (by omega)
    · rw [ha, hb' h, coe_sum, coe_sum, ← EReal.coe_sub, show r + 1 = (r - w + 1) + w by omega, Finset.sum_range_add, add_sub_cancel_left,
        ← Finset.sum_range_reflect (fun x => f (r - w + 1 + x)) w]
      refine congrArg _ (Finset.sum_congr rfl fun j hj => ?_)
      have := Finset.mem_range.1 hj
      rw [if_pos (by omega)]
      congr 1; omega
  rw [e, hS, hn, div_coe _ hm, cinv, ← EReal.coe_mul, mul_one_div]

theorem tele_real (Q : ℕ → ℝ) (N w r : ℕ) (hQ : ∀ n, N ≤ n → Q n = 0) : ∑ k ∈ Finset.range N, (Q (r + k) - Q (r + k + w)) = ∑ j ∈ Finset.range w, Q (r + j) := by
  have h1 := Finset.sum_range_add (fun k => Q (r + k)) N w
  have h2 := Finset.sum_range_add (fun k => Q (r + k)) w N
  have h3 : ∑ x ∈ Finset.range w, Q (r + (N + x)) = 0 := Finset.sum_eq_zero fun x _ => hQ _ (by omega)
  have h4 : ∑ x ∈ Finset.range N, Q (r + (w + x)) = ∑ x ∈ Finset.range N, Q (r + x + w) := Finset.sum_congr rfl fun x _ => by congr 1; omega
  rw [add_comm w N] at h2
  rw [h3, add_zero] at h1
  rw [h4] at h2
  rw [Finset.sum_sub_distrib]
  linarith
/-- A reverse running sum of differences is a window's sum. -/
theorem tele (Q : ℕ → ℝ) (hQ : ∀ n, 4096 ≤ n → Q n = 0) (w r : ℕ) (z : ℕ → EReal) (hz : ∀ n, z n = ((Q n - Q (n + w) : ℝ) : EReal)) :
    ∑ k ∈ Finset.range 4096, z (r + k) = BW (fun n => (Q n : EReal)) w r := by
  have hB : BW (fun n => (Q n : EReal)) w r = ((∑ j ∈ Finset.range w, Q (r + j) : ℝ) : EReal) := by
    unfold BW
    rw [← coe_sum]
    refine Finset.sum_congr rfl fun j _ => ?_
    split_ifs with h
    · rfl
    · rw [hQ _ (by omega)]; rfl
  rw [hB, Finset.sum_congr rfl fun k _ => hz (r + k), coe_sum, tele_real Q 4096 w r hQ]

/-! ### Real values -/

/-- The value is a real number. -/
def R (x : EReal) : Prop := ∃ a : ℝ, x = (a : EReal)
theorem R.mul {x y : EReal} : R x → R y → R (x * y) := fun ⟨a, ha⟩ ⟨b, hb⟩ => ⟨a * b, by rw [ha, hb, EReal.coe_mul]⟩
theorem R.sub {x y : EReal} : R x → R y → R (x - y) := fun ⟨a, ha⟩ ⟨b, hb⟩ => ⟨a - b, by rw [ha, hb, EReal.coe_sub]⟩
theorem R.sum {ι : Type*} (s : Finset ι) {f : ι → EReal} (h : ∀ i, R (f i)) : R (∑ i ∈ s, f i) := by
  choose g hg using h
  exact ⟨∑ i ∈ s, g i, by rw [← coe_sum]; exact Finset.sum_congr rfl fun i _ => hg i⟩
theorem R.logistic {x : EReal} : R x → R (Ideal.logistic x) := fun ⟨a, ha⟩ => ⟨_, by rw [ha, logistic_coe]⟩
theorem R.zero : R 0 := ⟨0, rfl⟩
theorem R.fn {f : ℕ → EReal} (h : ∀ n, R (f n)) : ∃ F : ℕ → ℝ, f = fun n => (F n : EReal) := by
  choose F hF using h
  exact ⟨F, funext hF⟩

/-! ### The four groups -/

/-- Lane `j` of group `g`. -/
def lane (g : Fin 4) (j : Fin 128) : Fin 512 := ⟨128 * g.val + j.val, by omega⟩
/-- The group's columns. -/
def cb (x : FVec Ideal S4096x512 .f32) (g : Fin 4) : FVec Ideal S4096x128 .f32 := fun i => x (ix2 (i 0) (lane g (i 1)))
/-- The group's linear map. -/
def wb (x : FVec Ideal S4x128x128 .f32) (g : Fin 4) : FVec Ideal S1x128x128 .f32 := fun i => x (ix3 g (i 1) (i 2))
/-- The group's scales. -/
def sb (x : FVec Ideal S512 .f32) (g : Fin 4) : FVec Ideal S1x128 .f32 := fun i => x (ix1 (lane g (i 1)))

theorem pads (a0 a1 a2 a3 : Fin 128 → EReal) (g : Fin 4) (j : Fin 128) (l : Fin 512) (hl : l = lane g j) :
    ((((if h : 384 ≤ l.val ∧ l.val - 384 < 128 then a3 ⟨l.val - 384, h.2⟩ else 0) + if h : 256 ≤ l.val ∧ l.val - 256 < 128 then a2 ⟨l.val - 256, h.2⟩ else 0)
      + if h : 128 ≤ l.val ∧ l.val - 128 < 128 then a1 ⟨l.val - 128, h.2⟩ else 0) + if h : l.val < 128 then a0 ⟨l.val, h⟩ else 0) = (![a0, a1, a2, a3] g) j := by
  subst hl
  have hv : (lane g j).val = 128 * g.val + j.val := rfl
  match g with
  | 0 => rw [dif_neg (by omega), dif_neg (by omega), dif_neg (by omega), dif_pos (by omega), zero_add, zero_add, zero_add]; exact congrArg a0 (Fin.ext (by show 128 * 0 + j.val = j.val; omega))
  | 1 => rw [dif_neg (by omega), dif_neg (by omega), dif_pos (by omega), dif_neg (by omega), zero_add, zero_add, add_zero]; exact congrArg a1 (Fin.ext (by show 128 * 1 + j.val - 128 = j.val; omega))
  | 2 => rw [dif_neg (by omega), dif_pos (by omega), dif_neg (by omega), dif_neg (by omega), zero_add, add_zero, add_zero]; exact congrArg a2 (Fin.ext (by show 128 * 2 + j.val - 256 = j.val; omega))
  | 3 => rw [dif_pos (by omega), dif_neg (by omega), dif_neg (by omega), dif_neg (by omega), add_zero, add_zero, add_zero]; exact congrArg a3 (Fin.ext (by show 128 * 3 + j.val - 384 = j.val; omega))

section V
variable (x0 x1 x2 : FVec Ideal S4096x512 .f32) (x3 : FVec Ideal S4x128x128 .f32) (x4 : FVec Ideal S512 .f32)

theorem cs (r : Fin 4096) (l : Fin 512) : (val_main_v2 (F := Ideal) x0 : FVec Ideal S1x4096x512 .f32) (ix3 0 r l) = ∑ k ∈ Finset.range (r.val + 1), colN (val_main_v0 (F := Ideal) x0) l k := by
  have h0 : val_main_call0_call0_v0 (F := Ideal) (Shape.Idx.first Gen.h_S_) = 0 := by pointwise [val_main_call0_call0_v0, val_main_call0_call0_cst]
  unfold val_main_v2
  exact (host_window _ _ _ _ _ _ _ _ _).trans (cum_lo (n := 4096) (m := 512) (p := 4095) rfl _ (val_main_v0 (F := Ideal) x0) _ h0 r l)
theorem rcs (r : Fin 4096) (l : Fin 512) : (val_main_v169 (F := Ideal) x1 x2 x3 x4 : FVec Ideal S1x4096x512 .f32) (ix3 0 r l) = ∑ k ∈ Finset.range 4096, colN (val_main_v168 (F := Ideal) x1 x2 x3 x4) l (r.val + k) := by
  have h0 : val_main_call3_call0_v0 (F := Ideal) (Shape.Idx.first Gen.h_S_) = 0 := by pointwise [val_main_call3_call0_v0, val_main_call3_call0_cst]
  unfold val_main_v169
  exact (host_window _ _ _ _ _ _ _ _ _).trans (cum_hi (n := 4096) (m := 512) (p := 4095) rfl _ (val_main_v168 (F := Ideal) x1 x2 x3 x4) _ h0 r l)
theorem colN_v0 (g : Fin 4) (j : Fin 128) : colN (val_main_v0 (F := Ideal) x0) (lane g j) = col (cb x0 g) j := by
  funext k
  unfold colN col
  refine dite_congr rfl (fun h => ?_) fun _ => rfl
  pointwise [val_main_v0]
  rfl
theorem cs' (g : Fin 4) (r : Fin 4096) (j : Fin 128) : (val_main_v2 (F := Ideal) x0 : FVec Ideal S1x4096x512 .f32) (ix3 0 r (lane g j)) = ∑ k ∈ Finset.range (r.val + 1), col (cb x0 g) j k :=
  (cs x0 r _).trans (by rw [colN_v0])

theorem col_real (hx : ∀ i, R (x0 i)) (g : Fin 4) (j : Fin 128) : ∃ f : ℕ → ℝ, col (cb x0 g) j = fun n => (f n : EReal) :=
  R.fn fun n => by unfold col; split_ifs; exacts [hx _, R.zero]

theorem mean_cs (hx : ∀ i, R (x0 i)) (g : Fin 4) (r : Fin 4096) (j : Fin 128) {a b n u : EReal} (ha : a = (val_main_v2 (F := Ideal) x0 : FVec Ideal S1x4096x512 .f32) (ix3 0 r (lane g j)))
    (hb : r.val < win g → b = 0) (hb' : ¬ r.val < win g → b = (val_main_v2 (F := Ideal) x0 : FVec Ideal S1x4096x512 .f32) (ix3 0 ⟨r.val - win g, by omega⟩ (lane g j)))
    (hn : n = (((min (r.val + 1) (win g) : ℕ) : ℝ) : EReal)) (hu : u = x0 (ix2 r (lane g j))) : Ideal.div (a - b) n - u = kd g (cb x0 g) r j := by
  obtain ⟨f, hf⟩ := col_real x0 hx g j
  have e : ∀ r : Fin 4096, (val_main_v2 (F := Ideal) x0 : FVec Ideal S1x4096x512 .f32) (ix3 0 r (lane g j)) = ∑ k ∈ Finset.range (r.val + 1), (f k : EReal) := fun r => (cs' x0 g r j).trans (by rw [hf])
  rw [mean f (win g) r.val (win_pos g) (ha.trans (e r)) hb (fun h => (hb' h).trans (e _)) hn, hu]
  unfold kd
  rw [hf]
  rfl

theorem v19 (hx : ∀ i, R (x0 i)) (r : Fin 4096) (j : Fin 128) : (val_main_v19 (F := Ideal) x0 : FVec Ideal S1x4096x128 .f32) (ix3 0 r j) = kd 0 (cb x0 0) r j := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0, val_main_c, val_main_c_1]
  exact mean_cs x0 hx 0 r j (congrArg (fun l => (val_main_v2 (F := Ideal) x0 : FVec Ideal S1x4096x512 .f32) (ix3 0 r l)) (Fin.ext (show j.val = 128 * 0 + j.val by omega)))
     (fun h => dif_pos h)
    (fun h => (dif_neg h).trans (congrArg (fun l => (val_main_v2 (F := Ideal) x0 : FVec Ideal S1x4096x512 .f32) (ix3 0 ⟨r.val - win (0 : Fin 4), by omega⟩ l)) (Fin.ext (show j.val = 128 * 0 + j.val by omega))))
     (count 2 r.val (by omega) r.isLt) (congrArg (fun l => x0 (ix2 r l)) (Fin.ext (show j.val = 128 * 0 + j.val by omega)))
theorem v38 (hx : ∀ i, R (x0 i)) (r : Fin 4096) (j : Fin 128) : (val_main_v38 (F := Ideal) x0 : FVec Ideal S1x4096x128 .f32) (ix3 0 r j) = kd 1 (cb x0 1) r j := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v3, val_main_v0, val_main_cst_2, val_main_cst_3, val_main_c_4, val_main_c_5]
  exact mean_cs x0 hx 1 r j rfl (fun h => dif_pos h) (fun h => dif_neg h) (count 4 r.val (by omega) r.isLt) rfl
theorem v57 (hx : ∀ i, R (x0 i)) (r : Fin 4096) (j : Fin 128) : (val_main_v57 (F := Ideal) x0 : FVec Ideal S1x4096x128 .f32) (ix3 0 r j) = kd 2 (cb x0 2) r j := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v3, val_main_v0, val_main_cst_6, val_main_cst_7, val_main_c_8, val_main_c_9]
  exact mean_cs x0 hx 2 r j rfl (fun h => dif_pos h) (fun h => dif_neg h) (count 8 r.val (by omega) r.isLt) rfl
theorem v76 (hx : ∀ i, R (x0 i)) (r : Fin 4096) (j : Fin 128) : (val_main_v76 (F := Ideal) x0 : FVec Ideal S1x4096x128 .f32) (ix3 0 r j) = kd 3 (cb x0 3) r j := by
  pointwise [val_main_v76, val_main_v75, val_main_v74, val_main_v73, val_main_v72, val_main_v71, val_main_v70, val_main_v69, val_main_v68, val_main_v67, val_main_v66, val_main_v65, val_main_v64, val_main_v63, val_main_v62, val_main_v61, val_main_v3, val_main_v0, val_main_cst_10, val_main_cst_11, val_main_c_12, val_main_c_13]
  exact mean_cs x0 hx 3 r j rfl (fun h => dif_pos h) (fun h => dif_neg h) (count 16 r.val (by omega) r.isLt) rfl
/-- The pooled rows through the linear maps. -/
theorem v80 (hx : ∀ i, R (x0 i)) (g : Fin 4) (r : Fin 4096) (j : Fin 128) : (val_main_v80 (F := Ideal) x0 x3 : FVec Ideal S1x4096x512 .f32) (ix3 0 r (lane g j)) = klin g (cb x0 g) (wb x3 g) r j := by
  pointwise [val_main_v80, val_main_v79, val_main_v78, val_main_v77, val_main_v60, val_main_v59, val_main_v58, val_main_v41, val_main_v40, val_main_v39, val_main_v22, val_main_v21, val_main_v20]
  match g with
  | 0 => exact (dif_pos (by have := j.isLt; show 128 * 0 + j.val < 128; omega)).trans (Finset.sum_congr rfl fun k _ => congrArg₂ (· * ·) (v19 x0 hx r k) (congrArg (fun l => x3 (ix3 0 k l)) (Fin.ext (by show 128 * 0 + j.val = j.val; omega))))
  | 1 => exact (dif_neg (by have := j.isLt; show ¬ 128 * 1 + j.val < 128; omega)).trans ((dif_pos (by have := j.isLt; show 128 * 1 + j.val - 128 < 128; omega)).trans (Finset.sum_congr rfl fun k _ => congrArg₂ (· * ·) (v38 x0 hx r k) (congrArg (fun l => x3 (ix3 1 k l)) (Fin.ext (by show 128 * 1 + j.val - 128 = j.val; omega)))))
  | 2 => exact (dif_neg (by have := j.isLt; show ¬ 128 * 2 + j.val < 128; omega)).trans ((dif_neg (by have := j.isLt; show ¬ 128 * 2 + j.val - 128 < 128; omega)).trans ((dif_pos (by have := j.isLt; show 128 * 2 + j.val - 128 - 128 < 128; omega)).trans (Finset.sum_congr rfl fun k _ => congrArg₂ (· * ·) (v57 x0 hx r k) (congrArg (fun l => x3 (ix3 2 k l)) (Fin.ext (by show 128 * 2 + j.val - 128 - 128 = j.val; omega))))))
  | 3 => exact (dif_neg (by have := j.isLt; show ¬ 128 * 3 + j.val < 128; omega)).trans ((dif_neg (by have := j.isLt; show ¬ 128 * 3 + j.val - 128 < 128; omega)).trans ((dif_neg (by have := j.isLt; show ¬ 128 * 3 + j.val - 128 - 128 < 128; omega)).trans (Finset.sum_congr rfl fun k _ => congrArg₂ (· * ·) (v76 x0 hx r k) (congrArg (fun l => x3 (ix3 3 k l)) (Fin.ext (by show 128 * 3 + j.val - 128 - 128 - 128 = j.val; omega))))))
/-- The gate's logistic. -/
theorem v84_2 (r : Fin 4096) (l : Fin 512) : (val_main_v84_2 (F := Ideal) x1 : FVec Ideal S1x4096x512 .f32) (ix3 0 r l) = Ideal.logistic (x1 (ix2 r l)) := by
  pointwise [val_main_v84_2, val_main_v1, val_main_call1_v0, val_main_call1_v1, val_main_call1_v2, val_main_call1_v3, val_main_call1_v4, val_main_call1_cst, val_main_call1_cst_0]
  rfl
theorem v88 (g : Fin 4) (r : Fin 4096) (j : Fin 128) : (val_main_v88 (F := Ideal) x1 x2 : FVec Ideal S1x4096x512 .f32) (ix3 0 r (lane g j)) = kpre (cb x1 g) (cb x2 g) r j := by
  pointwise [val_main_v88, val_main_v86, val_main_v84_0, val_main_v1]
  exact congrArg (fun e => x2 (ix2 r (lane g j)) * (x1 (ix2 r (lane g j)) * e)) (v84_2 x1 r _)
theorem v94 (g : Fin 4) (r : Fin 4096) (j : Fin 128) : (val_main_v94 (F := Ideal) x1 x2 x4 : FVec Ideal S1x4096x512 .f32) (ix3 0 r (lane g j)) = kdl (cb x1 g) (cb x2 g) (sb x4 g) r j := by
  pointwise [val_main_v94, val_main_v93, val_main_v81]
  exact congrArg (fun e => e * x4 (ix1 (lane g j))) (v88 x1 x2 g r j)
theorem lane0 (j : Fin 128) (h : j.val < 512) : (⟨j.val, h⟩ : Fin 512) = lane 0 j := Fin.ext (by show j.val = 128 * 0 + j.val; omega)
theorem v153 (r : Fin 4096) (k : Fin 128) : (val_main_v153 (F := Ideal) x1 x2 x3 x4 : FVec Ideal S1x4096x128 .f32) (ix3 0 r k) = kdd (cb x1 0) (cb x2 0) (wb x3 0) (sb x4 0) r k := by
  pointwise [val_main_v153, val_main_v96, val_main_v21, val_main_v20]
  exact Finset.sum_congr rfl fun j _ => congrArg (· * x3 (ix3 0 k j)) ((congrArg (fun l => (val_main_v94 (F := Ideal) x1 x2 x4 : FVec Ideal S1x4096x512 .f32) (ix3 0 r l)) (lane0 j _)).trans (v94 x1 x2 x4 0 r j))
theorem v135 (r : Fin 4096) (k : Fin 128) : (val_main_v135 (F := Ideal) x1 x2 x3 x4 : FVec Ideal S1x4096x128 .f32) (ix3 0 r k) = kdd (cb x1 1) (cb x2 1) (wb x3 1) (sb x4 1) r k := by
  pointwise [val_main_v135, val_main_v97, val_main_v40, val_main_v39]
  exact Finset.sum_congr rfl fun j _ => congrArg (· * x3 (ix3 1 k j)) (v94 x1 x2 x4 1 r j)
theorem v117 (r : Fin 4096) (k : Fin 128) : (val_main_v117 (F := Ideal) x1 x2 x3 x4 : FVec Ideal S1x4096x128 .f32) (ix3 0 r k) = kdd (cb x1 2) (cb x2 2) (wb x3 2) (sb x4 2) r k := by
  pointwise [val_main_v117, val_main_v98, val_main_v59, val_main_v58]
  exact Finset.sum_congr rfl fun j _ => congrArg (· * x3 (ix3 2 k j)) (v94 x1 x2 x4 2 r j)
theorem v102 (r : Fin 4096) (k : Fin 128) : (val_main_v102 (F := Ideal) x1 x2 x3 x4 : FVec Ideal S1x4096x128 .f32) (ix3 0 r k) = kdd (cb x1 3) (cb x2 3) (wb x3 3) (sb x4 3) r k := by
  pointwise [val_main_v102, val_main_v99, val_main_v78, val_main_v77]
  exact Finset.sum_congr rfl fun j _ => congrArg (· * x3 (ix3 3 k j)) (v94 x1 x2 x4 3 r j)

theorem div_count (a : EReal) (ha : R a) (w : ℕ) (hw : 0 < w) (r : ℕ) {n : EReal} (hn : n = (((min (r + 1) w : ℕ) : ℝ) : EReal)) : Ideal.div a n = a * cinv w r := by
  obtain ⟨b, rfl⟩ := ha
  have hm : (((min (r + 1) w : ℕ) : ℝ)) ≠ 0 := Nat.cast_ne_zero.2 (by omega)
  rw [hn, div_coe _ hm, cinv, ← EReal.coe_mul, mul_one_div]
theorem kdd_real (h1 : ∀ i, R (x1 i)) (h2 : ∀ i, R (x2 i)) (h3 : ∀ i, R (x3 i)) (h4 : ∀ i, R (x4 i)) (g : Fin 4) (r : Fin 4096) (k : Fin 128) :
    R (kdd (cb x1 g) (cb x2 g) (wb x3 g) (sb x4 g) r k) :=
  R.sum _ fun _ => (((h2 _).mul ((h1 _).mul (h1 _).logistic)).mul (h4 _)).mul (h3 _)
theorem kq_real (h1 : ∀ i, R (x1 i)) (h2 : ∀ i, R (x2 i)) (h3 : ∀ i, R (x3 i)) (h4 : ∀ i, R (x4 i)) (g : Fin 4) (k : Fin 128) (n : ℕ) :
    R (kq g (cb x1 g) (cb x2 g) (wb x3 g) (sb x4 g) k n) := by
  unfold kq
  split_ifs
  · exact (kdd_real x1 x2 x3 x4 h1 h2 h3 h4 g _ k).mul ⟨_, rfl⟩
  · exact R.zero
/-- The value and, where its window's end is in the array, the value a window later taken away. -/
theorem kq_pair (h1 : ∀ i, R (x1 i)) (h2 : ∀ i, R (x2 i)) (h3 : ∀ i, R (x3 i)) (h4 : ∀ i, R (x4 i)) (g : Fin 4) (r : Fin 4096) (k : Fin 128) {a b n : EReal}
    (ha : a = kdd (cb x1 g) (cb x2 g) (wb x3 g) (sb x4 g) r k) (hn : n = (((min (r.val + 1) (win g) : ℕ) : ℝ) : EReal))
    (hb : ∀ h : r.val < 4096 - win g, b = -kq g (cb x1 g) (cb x2 g) (wb x3 g) (sb x4 g) k (win g + r.val)) (hb' : ¬ r.val < 4096 - win g → b = 0) :
    Ideal.div a n + b = kq g (cb x1 g) (cb x2 g) (wb x3 g) (sb x4 g) k r.val - kq g (cb x1 g) (cb x2 g) (wb x3 g) (sb x4 g) k (r.val + win g) := by
  rw [ha, div_count _ (kdd_real x1 x2 x3 x4 h1 h2 h3 h4 g r k) _ (win_pos g) r.val hn, kq_val, sub_eq_add_neg]
  refine congrArg _ ?_
  by_cases h : r.val < 4096 - win g
  · rw [hb h, add_comm]
  · rw [hb' h]
    have := win_le g g.isLt
    unfold kq
    rw [dif_neg (by omega), neg_zero]
/-- A quotient a window later, negated. -/
theorem kq_at (h1 : ∀ i, R (x1 i)) (h2 : ∀ i, R (x2 i)) (h3 : ∀ i, R (x3 i)) (h4 : ∀ i, R (x4 i)) (g : Fin 4) (n : ℕ) (hn : n < 4096) (k : Fin 128) {a c : EReal}
    (ha : a = kdd (cb x1 g) (cb x2 g) (wb x3 g) (sb x4 g) ⟨n, hn⟩ k) (hc : c = (((min (n + 1) (win g) : ℕ) : ℝ) : EReal)) :
    -Ideal.div a c = -kq g (cb x1 g) (cb x2 g) (wb x3 g) (sb x4 g) k n := by
  rw [ha, div_count _ (kdd_real x1 x2 x3 x4 h1 h2 h3 h4 g ⟨n, hn⟩ k) _ (win_pos g) n hc]
  exact congrArg _ (kq_val g _ _ _ _ ⟨n, hn⟩ k).symm
theorem v166 (h1 : ∀ i, R (x1 i)) (h2 : ∀ i, R (x2 i)) (h3 : ∀ i, R (x3 i)) (h4 : ∀ i, R (x4 i)) (r : Fin 4096) (k : Fin 128) : (val_main_v166 (F := Ideal) x1 x2 x3 x4 : FVec Ideal S1x4096x128 .f32) (ix3 0 r k)
    = kq 0 (cb x1 0) (cb x2 0) (wb x3 0) (sb x4 0) k r.val - kq 0 (cb x1 0) (cb x2 0) (wb x3 0) (sb x4 0) k (r.val + win 0) := by
  pointwise [val_main_v166, val_main_v165, val_main_v164, val_main_v162, val_main_v160, val_main_v161, val_main_v14, val_main_v13, val_main_v12, val_main_v11, val_main_v10, val_main_v9, val_main_v3, val_main_cst_30, val_main_c, val_main_c_1]
  exact kq_pair x1 x2 x3 x4 h1 h2 h3 h4 0 r k (v153 x1 x2 x3 x4 r k) (count 2 r.val (by omega) r.isLt)
    (fun h => (dif_pos h).trans (kq_at x1 x2 x3 x4 h1 h2 h3 h4 0 (2 + r.val) (by change r.val < 4096 - 2 at h; omega) k (v153 x1 x2 x3 x4 _ k) (count 2 (2 + r.val) (by omega) (by change r.val < 4096 - 2 at h; omega)))) (fun h => dif_neg h)
theorem v148 (h1 : ∀ i, R (x1 i)) (h2 : ∀ i, R (x2 i)) (h3 : ∀ i, R (x3 i)) (h4 : ∀ i, R (x4 i)) (r : Fin 4096) (k : Fin 128) : (val_main_v148 (F := Ideal) x1 x2 x3 x4 : FVec Ideal S1x4096x128 .f32) (ix3 0 r k)
    = kq 1 (cb x1 1) (cb x2 1) (wb x3 1) (sb x4 1) k r.val - kq 1 (cb x1 1) (cb x2 1) (wb x3 1) (sb x4 1) k (r.val + win 1) := by
  pointwise [val_main_v148, val_main_v147, val_main_v146, val_main_v144, val_main_v142, val_main_v143, val_main_v33, val_main_v32, val_main_v31, val_main_v30, val_main_v29, val_main_v28, val_main_v3, val_main_cst_26, val_main_c_4, val_main_c_5]
  exact kq_pair x1 x2 x3 x4 h1 h2 h3 h4 1 r k (v135 x1 x2 x3 x4 r k) (count 4 r.val (by omega) r.isLt)
    (fun h => (dif_pos h).trans (kq_at x1 x2 x3 x4 h1 h2 h3 h4 1 (4 + r.val) (by change r.val < 4096 - 4 at h; omega) k (v135 x1 x2 x3 x4 _ k) (count 4 (4 + r.val) (by omega) (by change r.val < 4096 - 4 at h; omega)))) (fun h => dif_neg h)
theorem v130 (h1 : ∀ i, R (x1 i)) (h2 : ∀ i, R (x2 i)) (h3 : ∀ i, R (x3 i)) (h4 : ∀ i, R (x4 i)) (r : Fin 4096) (k : Fin 128) : (val_main_v130 (F := Ideal) x1 x2 x3 x4 : FVec Ideal S1x4096x128 .f32) (ix3 0 r k)
    = kq 2 (cb x1 2) (cb x2 2) (wb x3 2) (sb x4 2) k r.val - kq 2 (cb x1 2) (cb x2 2) (wb x3 2) (sb x4 2) k (r.val + win 2) := by
  pointwise [val_main_v130, val_main_v129, val_main_v128, val_main_v126, val_main_v124, val_main_v125, val_main_v52, val_main_v51, val_main_v50, val_main_v49, val_main_v48, val_main_v47, val_main_v3, val_main_cst_22, val_main_c_8, val_main_c_9]
  exact kq_pair x1 x2 x3 x4 h1 h2 h3 h4 2 r k (v117 x1 x2 x3 x4 r k) (count 8 r.val (by omega) r.isLt)
    (fun h => (dif_pos h).trans (kq_at x1 x2 x3 x4 h1 h2 h3 h4 2 (8 + r.val) (by change r.val < 4096 - 8 at h; omega) k (v117 x1 x2 x3 x4 _ k) (count 8 (8 + r.val) (by omega) (by change r.val < 4096 - 8 at h; omega)))) (fun h => dif_neg h)
theorem v113 (h1 : ∀ i, R (x1 i)) (h2 : ∀ i, R (x2 i)) (h3 : ∀ i, R (x3 i)) (h4 : ∀ i, R (x4 i)) (r : Fin 4096) (k : Fin 128) : (val_main_v113 (F := Ideal) x1 x2 x3 x4 : FVec Ideal S1x4096x128 .f32) (ix3 0 r k)
    = kq 3 (cb x1 3) (cb x2 3) (wb x3 3) (sb x4 3) k r.val - kq 3 (cb x1 3) (cb x2 3) (wb x3 3) (sb x4 3) k (r.val + win 3) := by
  pointwise [val_main_v113, val_main_v112, val_main_v111, val_main_v109, val_main_v107, val_main_v108, val_main_v71, val_main_v70, val_main_v69, val_main_v68, val_main_v67, val_main_v66, val_main_v3, val_main_cst_18, val_main_c_12, val_main_c_13]
  exact kq_pair x1 x2 x3 x4 h1 h2 h3 h4 3 r k (v102 x1 x2 x3 x4 r k) (count 16 r.val (by omega) r.isLt)
    (fun h => (dif_pos h).trans (kq_at x1 x2 x3 x4 h1 h2 h3 h4 3 (16 + r.val) (by change r.val < 4096 - 16 at h; omega) k (v102 x1 x2 x3 x4 _ k) (count 16 (16 + r.val) (by omega) (by change r.val < 4096 - 16 at h; omega)))) (fun h => dif_neg h)

theorem v168 (h1 : ∀ i, R (x1 i)) (h2 : ∀ i, R (x2 i)) (h3 : ∀ i, R (x3 i)) (h4 : ∀ i, R (x4 i)) (g : Fin 4) (r : Fin 4096) (k : Fin 128) : (val_main_v168 (F := Ideal) x1 x2 x3 x4 : FVec Ideal S1x4096x512 .f32) (ix3 0 r (lane g k))
    = kq g (cb x1 g) (cb x2 g) (wb x3 g) (sb x4 g) k r.val - kq g (cb x1 g) (cb x2 g) (wb x3 g) (sb x4 g) k (r.val + win g) := by
  pointwise [val_main_v168, val_main_v150, val_main_v132, val_main_v167, val_main_v114, val_main_v131, val_main_v149, val_main_cst_19, val_main_cst_23, val_main_cst_27, val_main_cst_31]
  refine (pads (fun k => (val_main_v166 (F := Ideal) x1 x2 x3 x4 : FVec Ideal S1x4096x128 .f32) (ix3 0 r k)) (fun k => (val_main_v148 (F := Ideal) x1 x2 x3 x4 : FVec Ideal S1x4096x128 .f32) (ix3 0 r k))
    (fun k => (val_main_v130 (F := Ideal) x1 x2 x3 x4 : FVec Ideal S1x4096x128 .f32) (ix3 0 r k)) (fun k => (val_main_v113 (F := Ideal) x1 x2 x3 x4 : FVec Ideal S1x4096x128 .f32) (ix3 0 r k)) g k _ rfl).trans ?_
  match g with
  | 0 => exact v166 x1 x2 x3 x4 h1 h2 h3 h4 r k
  | 1 => exact v148 x1 x2 x3 x4 h1 h2 h3 h4 r k
  | 2 => exact v130 x1 x2 x3 x4 h1 h2 h3 h4 r k
  | 3 => exact v113 x1 x2 x3 x4 h1 h2 h3 h4 r k
theorem v159 (g : Fin 4) (r : Fin 4096) (k : Fin 128) : (val_main_v159 (F := Ideal) x1 x2 x3 x4 : FVec Ideal S1x4096x512 .f32) (ix3 0 r (lane g k)) = -kdd (cb x1 g) (cb x2 g) (wb x3 g) (sb x4 g) r k := by
  pointwise [val_main_v159, val_main_v158, val_main_v157, val_main_v141, val_main_v140, val_main_v139, val_main_v123, val_main_v122, val_main_v121, val_main_v106, val_main_v105, val_main_cst_17, val_main_cst_21, val_main_cst_25, val_main_cst_29]
  refine (pads (fun k => -(val_main_v153 (F := Ideal) x1 x2 x3 x4 : FVec Ideal S1x4096x128 .f32) (ix3 0 r k)) (fun k => -(val_main_v135 (F := Ideal) x1 x2 x3 x4 : FVec Ideal S1x4096x128 .f32) (ix3 0 r k))
    (fun k => -(val_main_v117 (F := Ideal) x1 x2 x3 x4 : FVec Ideal S1x4096x128 .f32) (ix3 0 r k)) (fun k => -(val_main_v102 (F := Ideal) x1 x2 x3 x4 : FVec Ideal S1x4096x128 .f32) (ix3 0 r k)) g k _ rfl).trans ?_
  match g with
  | 0 => exact congrArg (- ·) (v153 x1 x2 x3 x4 r k)
  | 1 => exact congrArg (- ·) (v135 x1 x2 x3 x4 r k)
  | 2 => exact congrArg (- ·) (v117 x1 x2 x3 x4 r k)
  | 3 => exact congrArg (- ·) (v102 x1 x2 x3 x4 r k)
/-- The pooling input's gradient. -/
theorem v172 (h1 : ∀ i, R (x1 i)) (h2 : ∀ i, R (x2 i)) (h3 : ∀ i, R (x3 i)) (h4 : ∀ i, R (x4 i)) (g : Fin 4) (r : Fin 4096) (k : Fin 128) : (val_main_v172 (F := Ideal) x1 x2 x3 x4 : FVec Ideal S4096x512 .bf16) (ix2 r (lane g k))
    = BW (kq g (cb x1 g) (cb x2 g) (wb x3 g) (sb x4 g) k) (win g) r.val - kdd (cb x1 g) (cb x2 g) (wb x3 g) (sb x4 g) r k := by
  pointwise [val_main_v172, val_main_v171, val_main_v170]
  rw [sub_eq_add_neg, add_comm]
  refine congrArg₂ (· + ·) ((rcs x1 x2 x3 x4 r (lane g k)).trans ?_) (v159 x1 x2 x3 x4 g r k)
  obtain ⟨Q, hQ⟩ := R.fn (kq_real x1 x2 x3 x4 h1 h2 h3 h4 g k)
  have hz : ∀ n, 4096 ≤ n → kq g (cb x1 g) (cb x2 g) (wb x3 g) (sb x4 g) k n = 0 := fun n hn => by unfold kq; exact dif_neg (by omega)
  rw [hQ]
  refine tele Q (fun n hn => ?_) (win g) r.val (colN (val_main_v168 (F := Ideal) x1 x2 x3 x4) (lane g k)) fun n => ?_
  · exact EReal.coe_eq_zero.1 ((congrFun hQ n).symm.trans (hz n hn))
  · rw [EReal.coe_sub, ← congrFun hQ n, ← congrFun hQ (n + win g)]
    unfold colN
    split_ifs with h
    · exact v168 x1 x2 x3 x4 h1 h2 h3 h4 g ⟨n, h⟩ k
    · rw [hz n (by omega), hz (n + win g) (by omega), sub_zero]
/-- The gate's gradient. -/
theorem v174 (h0 : ∀ i, R (x0 i)) (h1 : ∀ i, R (x1 i)) (h2 : ∀ i, R (x2 i)) (h3 : ∀ i, R (x3 i)) (h4 : ∀ i, R (x4 i)) (g : Fin 4) (r : Fin 4096) (j : Fin 128) : (val_main_v174 (F := Ideal) x0 x1 x2 x3 x4 : FVec Ideal S4096x512 .bf16) (ix2 r (lane g j))
    = cb x2 g (ix2 r j) * klin g (cb x0 g) (wb x3 g) r j * sb x4 g (ix2 0 j) * (Ideal.logistic (cb x1 g (ix2 r j)) + cb x1 g (ix2 r j) * Ideal.logistic (cb x1 g (ix2 r j)) * (1 - Ideal.logistic (cb x1 g (ix2 r j)))) := by
  have e : (val_main_v174 (F := Ideal) x0 x1 x2 x3 x4 : FVec Ideal S4096x512 .bf16) (ix2 r (lane g j))
      = klin g (cb x0 g) (wb x3 g) r j * sb x4 g (ix2 0 j) * cb x2 g (ix2 r j) * Ideal.logistic (cb x1 g (ix2 r j))
        + cb x1 g (ix2 r j) * (klin g (cb x0 g) (wb x3 g) r j * sb x4 g (ix2 0 j) * cb x2 g (ix2 r j)) * (Ideal.logistic (cb x1 g (ix2 r j)) * (1 - Ideal.logistic (cb x1 g (ix2 r j)))) := by
    pointwise [val_main_v174, val_main_v173, val_main_v89, val_main_call2_v0, val_main_call2_v1, val_main_call2_v2, val_main_v87, val_main_v86, val_main_v84_1, val_main_v84_0, val_main_v83, val_main_v82, val_main_v81, val_main_v1, val_main_call1_v6, val_main_call1_v7, val_main_call1_cst_1]
    rw [v80 x0 x3 h0 g r j, v84_2 x1 r (lane g j)]
    rfl
  rw [e]
  obtain ⟨k, hk⟩ : R (klin g (cb x0 g) (wb x3 g) r j) := by
    have : ∀ k, R (kd g (cb x0 g) r k) := fun k => by
      unfold kd
      refine R.sub (R.mul ?_ ⟨_, rfl⟩) (h0 _)
      refine R.sum _ fun i => ?_
      split_ifs
      · unfold col; split_ifs; exacts [h0 _, R.zero]
      · exact R.zero
    exact R.sum _ fun k => (this k).mul (h3 _)
  obtain ⟨s, hs⟩ : R (sb x4 g (ix2 0 j)) := h4 _
  obtain ⟨d, hd⟩ : R (cb x2 g (ix2 r j)) := h2 _
  obtain ⟨z, hz⟩ : R (cb x1 g (ix2 r j)) := h1 _
  obtain ⟨t, ht⟩ : R (Ideal.logistic (cb x1 g (ix2 r j))) := (h1 _).logistic
  rw [hk, hs, hd, ht, hz, ← EReal.coe_one]
  simp only [← EReal.coe_mul, ← EReal.coe_sub, ← EReal.coe_add]
  exact congrArg _ (by ring)
theorem v91 (l : Fin 512) : (val_main_v91 (F := Ideal) x0 x1 x2 x3 : FVec Ideal S1x512 .f32) (ix2 0 l) = ∑ r, (val_main_v80 (F := Ideal) x0 x3 : FVec Ideal S1x4096x512 .f32) (ix3 0 r l) * (val_main_v88 (F := Ideal) x1 x2 : FVec Ideal S1x4096x512 .f32) (ix3 0 r l) := by
  pointwise [val_main_v91, val_main_v90, val_main_cst_14]
theorem v92 (l : Fin 512) : (val_main_v92 (F := Ideal) x0 x1 x2 x3 : FVec Ideal S1x1x512 .f32) (ix3 0 0 l) = (val_main_v91 (F := Ideal) x0 x1 x2 x3 : FVec Ideal S1x512 .f32) (ix2 0 l) := by
  pointwise [val_main_v92]
theorem v95 (l : Fin 512) : (val_main_v95 (F := Ideal) x0 x1 x2 x3 : FVec Ideal S512 .f32) (ix1 l) = (val_main_v92 (F := Ideal) x0 x1 x2 x3 : FVec Ideal S1x1x512 .f32) (ix3 0 0 l) := by
  pointwise [val_main_v95, val_main_cst_15]
  exact (hostReduceAdd_last _ _ _ _).trans (zero_add _)
/-- The scale's gradient. -/
theorem v175 (h0 : ∀ i, R (x0 i)) (g : Fin 4) (j : Fin 128) : (val_main_v175 (F := Ideal) x0 x1 x2 x3 : FVec Ideal S1x512 .f32) (ix2 0 (lane g j)) = ∑ r, kpre (cb x1 g) (cb x2 g) r j * klin g (cb x0 g) (wb x3 g) r j := by
  pointwise [val_main_v175]
  refine (v95 x0 x1 x2 x3 _).trans ((v92 x0 x1 x2 x3 _).trans ((v91 x0 x1 x2 x3 _).trans (Finset.sum_congr rfl fun r _ => ?_)))
  exact (congrArg₂ (· * ·) (v80 x0 x3 h0 g r j) (v88 x1 x2 g r j)).trans (mul_comm _ _)
theorem v151 (h0 : ∀ i, R (x0 i)) (j k : Fin 128) : (val_main_v151 (F := Ideal) x0 x1 x2 x4 : FVec Ideal S128x128 .f32) (ix2 j k) = ∑ r, kd 0 (cb x0 0) r k * kdl (cb x1 0) (cb x2 0) (sb x4 0) r j := by
  pointwise [val_main_v151, val_main_v96]
  refine (Fin.sum_univ_one _).trans (Finset.sum_congr rfl fun r _ => ?_)
  exact (congrArg₂ (· * ·) ((congrArg (fun l => (val_main_v94 (F := Ideal) x1 x2 x4 : FVec Ideal S1x4096x512 .f32) (ix3 0 r l)) (lane0 j _)).trans (v94 x1 x2 x4 0 r j)) (v19 x0 h0 r k)).trans (mul_comm _ _)
theorem v133 (h0 : ∀ i, R (x0 i)) (j k : Fin 128) : (val_main_v133 (F := Ideal) x0 x1 x2 x4 : FVec Ideal S128x128 .f32) (ix2 j k) = ∑ r, kd 1 (cb x0 1) r k * kdl (cb x1 1) (cb x2 1) (sb x4 1) r j := by
  pointwise [val_main_v133, val_main_v97]
  refine (Fin.sum_univ_one _).trans (Finset.sum_congr rfl fun r _ => ?_)
  exact (congrArg₂ (· * ·) (v94 x1 x2 x4 1 r j) (v38 x0 h0 r k)).trans (mul_comm _ _)
theorem v115 (h0 : ∀ i, R (x0 i)) (j k : Fin 128) : (val_main_v115 (F := Ideal) x0 x1 x2 x4 : FVec Ideal S128x128 .f32) (ix2 j k) = ∑ r, kd 2 (cb x0 2) r k * kdl (cb x1 2) (cb x2 2) (sb x4 2) r j := by
  pointwise [val_main_v115, val_main_v98]
  refine (Fin.sum_univ_one _).trans (Finset.sum_congr rfl fun r _ => ?_)
  exact (congrArg₂ (· * ·) (v94 x1 x2 x4 2 r j) (v57 x0 h0 r k)).trans (mul_comm _ _)
theorem v100 (h0 : ∀ i, R (x0 i)) (j k : Fin 128) : (val_main_v100 (F := Ideal) x0 x1 x2 x4 : FVec Ideal S128x128 .f32) (ix2 j k) = ∑ r, kd 3 (cb x0 3) r k * kdl (cb x1 3) (cb x2 3) (sb x4 3) r j := by
  pointwise [val_main_v100, val_main_v99]
  refine (Fin.sum_univ_one _).trans (Finset.sum_congr rfl fun r _ => ?_)
  exact (congrArg₂ (· * ·) (v94 x1 x2 x4 3 r j) (v76 x0 h0 r k)).trans (mul_comm _ _)
theorem pads4 (a0 a1 a2 a3 : EReal) (g : Fin 4) :
    ((((if _h : 3 ≤ g.val ∧ g.val - 3 < 1 then a3 else 0) + if _h : 2 ≤ g.val ∧ g.val - 2 < 1 then a2 else 0) + if _h : 1 ≤ g.val ∧ g.val - 1 < 1 then a1 else 0) + if _h : g.val < 1 then a0 else 0) = ![a0, a1, a2, a3] g := by
  fin_cases g <;> simp
/-- The linear maps' gradient. -/
theorem v156 (h0 : ∀ i, R (x0 i)) (g : Fin 4) (k j : Fin 128) : (val_main_v156 (F := Ideal) x0 x1 x2 x4 : FVec Ideal S4x128x128 .f32) (ix3 g k j) = ∑ r, kd g (cb x0 g) r k * kdl (cb x1 g) (cb x2 g) (sb x4 g) r j := by
  pointwise [val_main_v156, val_main_v155, val_main_v154, val_main_v152, val_main_v138, val_main_v137, val_main_v136, val_main_v134, val_main_v120, val_main_v119, val_main_v118, val_main_v116, val_main_v104, val_main_v103, val_main_v101, val_main_cst_16, val_main_cst_20, val_main_cst_24, val_main_cst_28]
  refine (pads4 _ _ _ _ g).trans ?_
  match g with
  | 0 => exact v151 x0 x1 x2 x4 h0 j k
  | 1 => exact v133 x0 x1 x2 x4 h0 j k
  | 2 => exact v115 x0 x1 x2 x4 h0 j k
  | 3 => exact v100 x0 x1 x2 x4 h0 j k
end V
end Cert.Pool
end
-- ==== Proof.Pool.lean ====
/- The pooling branch's gradients: the kernel's four result arrays are the reference's. -/
module

public import proofs.«01_k».proof.Proof.PoolRef

@[expose] public section

set_option maxRecDepth 65536

noncomputable section

open Idealize.ShloMosaic Idealize.ShloMosaic.TcCoe Idealize.SL.Sem
open scoped BigOperators

namespace Cert.Pool
open Cert.PoolBwdIdeal Cert.PoolBwdIdeal.Gen Cert.Lift

variable (m : (ℓ : Loc nD τ sig) → Buf (Elt Ideal) ℓ)

abbrev X0 (c : Dev nD) : FVec Ideal S4096x512 .f32 := m ((c : Thread nD τ).loc main_arg0)
abbrev X1 (c : Dev nD) : FVec Ideal S4096x512 .f32 := m ((c : Thread nD τ).loc main_arg1)
abbrev X2 (c : Dev nD) : FVec Ideal S4096x512 .f32 := m ((c : Thread nD τ).loc main_arg2)
abbrev X3 (c : Dev nD) : FVec Ideal S4x128x128 .f32 := m ((c : Thread nD τ).loc main_arg3)
abbrev X4 (c : Dev nD) : FVec Ideal S512 .f32 := m ((c : Thread nD τ).loc main_arg4)

theorem idx : ∀ t : Fin cfg0.N, win0_0.index t = ![0, t.val] ∧ win0_1.index t = ![0, t.val] ∧ win0_2.index t = ![0, t.val]
    ∧ win0_3.index t = ![t.val, 0, 0] ∧ win0_4.index t = ![0, t.val] ∧ win0_5.index t = ![0, t.val] ∧ win0_6.index t = ![0, t.val]
    ∧ win0_7.index t = ![t.val, 0, 0] ∧ win0_8.index t = ![0, t.val] ∧ (grid0.coords t 0).val = t.val :=
  (by decide +kernel : ∀ t : Fin grid0.N, _)

/-- The group of a grid point. -/
def gr (t : Fin cfg0.N) : Fin 4 := ⟨t.val, by have := t.isLt; have h : cfg0.N = 4 := N_0; omega⟩
theorem coord (t : Fin cfg0.N) : (grid0.coords t 0).val = (gr t).val := (idx t).2.2.2.2.2.2.2.2.2

theorem blk0 (c : Dev nD) (t : Fin cfg0.N) : (iblk m c 0 t : FVec Ideal S4096x128 .f32) = cb (X0 m c) (gr t) := by
  funext y
  idx_vars y
  show _ = X0 m c (ix2 y0 (lane (gr t) y1))
  blk_point [iblk, V, idx t, lane, gr]
theorem blk1 (c : Dev nD) (t : Fin cfg0.N) : (iblk m c 1 t : FVec Ideal S4096x128 .f32) = cb (X1 m c) (gr t) := by
  funext y
  idx_vars y
  show _ = X1 m c (ix2 y0 (lane (gr t) y1))
  blk_point [iblk, V, idx t, lane, gr]
theorem blk2 (c : Dev nD) (t : Fin cfg0.N) : (iblk m c 2 t : FVec Ideal S4096x128 .f32) = cb (X2 m c) (gr t) := by
  funext y
  idx_vars y
  show _ = X2 m c (ix2 y0 (lane (gr t) y1))
  blk_point [iblk, V, idx t, lane, gr]
theorem blk3 (c : Dev nD) (t : Fin cfg0.N) : (iblk m c 3 t : FVec Ideal S1x128x128 .f32) = wb (X3 m c) (gr t) := by
  funext y
  idx_vars y
  show _ = X3 m c (ix3 (gr t) y1 y2)
  blk_point [iblk, V, idx t, gr]
theorem V_s (c : Dev nD) (l : Fin 512) : (V m c main_v0 : FVec Ideal S1x512 .f32) (ix2 0 l) = X4 m c (ix1 l) := by
  have e : V m c main_v0 = shapeCast S1x512 (X4 m c) shapeCasts_S512_S1x512 := rfl
  rw [e]
  pointwise [X4]
theorem blk4 (c : Dev nD) (t : Fin cfg0.N) : (iblk m c 4 t : FVec Ideal S1x128 .f32) = sb (X4 m c) (gr t) := by
  funext y
  idx_vars y
  show _ = X4 m c (ix1 (lane (gr t) y1))
  refine Eq.trans (b := (V m c main_v0 : FVec Ideal S1x512 .f32) (ix2 0 (lane (gr t) y1))) ?_ (V_s m c _)
  blk_point [iblk, idx t, lane, gr]

section Final
open Cert.PoolRefIdeal.Read (val_main_v172 val_main_v174 val_main_v156 val_main_v175)

/-- The pooling input's gradient. -/
theorem final_du (c : Dev nD) (h1 : ∀ i, R (X1 m c i)) (h2 : ∀ i, R (X2 m c i)) (h3 : ∀ i, R (X3 m c i)) (h4 : ∀ i, R (X4 m c i)) :
    (dats m 0 c).arrAt 5 (cfgs 0).N = (val_main_v172 (F := Ideal) (X1 m c) (X2 m c) (X3 m c) (X4 m c) : FVec Ideal S4096x512 .bf16) := by
  refine (dats m 0 c).arrAt_eq_of_covers 5 _ (by decide +kernel) fun t _ y => ?_
  have key : ∀ y : S4096x128.Idx, (out0_5 (F := Ideal) (grid0.coords t) (iblk m c 0 t) (iblk m c 1 t) (iblk m c 2 t) (iblk m c 3 t) (iblk m c 4 t) : FVec Ideal S4096x128 .bf16) y
      = (val_main_v172 (F := Ideal) (X1 m c) (X2 m c) (X3 m c) (X4 m c) : FVec Ideal S4096x512 .bf16) (((View.whole main_v1_0).slice (win0_5.rect t)).emb y) := fun y => by
    idx_vars y
    rw [blk0, blk1, blk2, blk3, blk4]
    unfold_out out0_5
    frame_out
    refine Eq.trans ?_ ((v172 (X1 m c) (X2 m c) (X3 m c) (X4 m c) h1 h2 h3 h4 (gr t) y0 y1).symm.trans ?_)
    · rw [coord t]
      exact pay1 (grid0.coords t) (gr t).val (coord t) (gr t).isLt _ _ _ _ y0 y1
    · blk_ext [idx t, lane, gr]
  blk_simp
  rw [after0_5]
  exact key y
/-- The gate's gradient. -/
theorem final_dg (c : Dev nD) (h0 : ∀ i, R (X0 m c i)) (h1 : ∀ i, R (X1 m c i)) (h2 : ∀ i, R (X2 m c i)) (h3 : ∀ i, R (X3 m c i)) (h4 : ∀ i, R (X4 m c i)) :
    (dats m 0 c).arrAt 6 (cfgs 0).N = (val_main_v174 (F := Ideal) (X0 m c) (X1 m c) (X2 m c) (X3 m c) (X4 m c) : FVec Ideal S4096x512 .bf16) := by
  refine (dats m 0 c).arrAt_eq_of_covers 6 _ (by decide +kernel) fun t _ y => ?_
  have key : ∀ y : S4096x128.Idx, (out0_6 (F := Ideal) (grid0.coords t) (iblk m c 0 t) (iblk m c 1 t) (iblk m c 2 t) (iblk m c 3 t) (iblk m c 4 t) : FVec Ideal S4096x128 .bf16) y
      = (val_main_v174 (F := Ideal) (X0 m c) (X1 m c) (X2 m c) (X3 m c) (X4 m c) : FVec Ideal S4096x512 .bf16) (((View.whole main_v1_1).slice (win0_6.rect t)).emb y) := fun y => by
    idx_vars y
    rw [blk0, blk1, blk2, blk3, blk4]
    unfold_out out0_6
    frame_out
    refine Eq.trans ?_ ((v174 (X0 m c) (X1 m c) (X2 m c) (X3 m c) (X4 m c) h0 h1 h2 h3 h4 (gr t) y0 y1).symm.trans ?_)
    · rw [coord t]
      exact pay11 (grid0.coords t) (gr t).val (coord t) (gr t).isLt _ _ _ _ _ y0 y1
    · blk_ext [idx t, lane, gr]
  blk_simp
  rw [after0_6]
  exact key y
/-- The linear maps' gradient. -/
theorem final_gw (c : Dev nD) (h0 : ∀ i, R (X0 m c i)) :
    (dats m 0 c).arrAt 7 (cfgs 0).N = (val_main_v156 (F := Ideal) (X0 m c) (X1 m c) (X2 m c) (X4 m c) : FVec Ideal S4x128x128 .f32) := by
  refine (dats m 0 c).arrAt_eq_of_covers 7 _ (by decide +kernel) fun t _ y => ?_
  have key : ∀ y : S1x128x128.Idx, (out0_7 (F := Ideal) (grid0.coords t) (iblk m c 0 t) (iblk m c 1 t) (iblk m c 2 t) (iblk m c 3 t) (iblk m c 4 t) : FVec Ideal S1x128x128 .f32) y
      = (val_main_v156 (F := Ideal) (X0 m c) (X1 m c) (X2 m c) (X4 m c) : FVec Ideal S4x128x128 .f32) (((View.whole main_v1_2).slice (win0_7.rect t)).emb y) := fun y => by
    idx_vars y
    obtain rfl : y0 = 0 := Subsingleton.elim _ _
    rw [blk0, blk1, blk2, blk3, blk4]
    unfold_out out0_7
    frame_out
    refine Eq.trans ?_ ((v156 (X0 m c) (X1 m c) (X2 m c) (X4 m c) h0 (gr t) y1 y2).symm.trans ?_)
    · rw [coord t]
      exact pay15 (grid0.coords t) (gr t).val (coord t) (gr t).isLt _ _ _ _ y1 y2
    · blk_ext [idx t, lane, gr]
  blk_simp
  rw [after0_7]
  exact key y
/-- The scale's gradient. -/
theorem final_gsc (c : Dev nD) (h0 : ∀ i, R (X0 m c i)) :
    (dats m 0 c).arrAt 8 (cfgs 0).N = (val_main_v175 (F := Ideal) (X0 m c) (X1 m c) (X2 m c) (X3 m c) : FVec Ideal S1x512 .f32) := by
  refine (dats m 0 c).arrAt_eq_of_covers 8 _ (by decide +kernel) fun t _ y => ?_
  have key : ∀ y : S1x128.Idx, (out0_8 (F := Ideal) (grid0.coords t) (iblk m c 0 t) (iblk m c 1 t) (iblk m c 2 t) (iblk m c 3 t) (iblk m c 4 t) : FVec Ideal S1x128 .f32) y
      = (val_main_v175 (F := Ideal) (X0 m c) (X1 m c) (X2 m c) (X3 m c) : FVec Ideal S1x512 .f32) (((View.whole main_v1_3).slice (win0_8.rect t)).emb y) := fun y => by
    idx_vars y
    obtain rfl : y0 = 0 := Subsingleton.elim _ _
    rw [blk0, blk1, blk2, blk3, blk4]
    unfold_out out0_8
    frame_out
    refine Eq.trans ?_ ((v175 (X0 m c) (X1 m c) (X2 m c) (X3 m c) h0 (gr t) y1).symm.trans ?_)
    · rw [coord t]
      exact pay13 (grid0.coords t) (gr t).val (coord t) (gr t).isLt _ _ _ _ y1
    · blk_ext [idx t, lane, gr]
  blk_simp
  rw [after0_8]
  exact key y
end Final
end Cert.Pool
end
-- ==== Proof.PoolClaim.lean ====
/- The claim on the pooling branch's gradients: finite arguments give both programs the same four results. -/
module

public import proofs.«01_k».proof.Defs
public import proofs.«01_k».proof.Proof.Pool
public import proofs.«01_k».proof.Proof.Gen.PoolRefIdeal.Run
public import proofs.«01_k».proof.Proof.Gen.Pre_pool_finite
public import Idealize.ShloMosaic.Lib.Claim

@[expose] public section

set_option maxRecDepth 65536

noncomputable section

open Idealize.ShloMosaic Idealize.ShloMosaic.TcCoe Idealize.SL.Sem
open Cert.Lift

namespace Cert.Pool

open Cert.PoolBwdIdeal Cert.PoolBwdIdeal.Gen

theorem r_of {S : Shape} {e} {x : FVec Ideal S e} (h : IsReal x) (i : S.Idx) : R (x i) := by
  obtain ⟨f, hf⟩ := h
  exact ⟨f i, hf i⟩

set_option maxHeartbeats 2000000 in
theorem algebraic : Cert.algebraic_PoolBwdIdeal_PoolRefIdeal_pre_pool_finite := by
  pair_intro
  · run_from Cert.PoolBwdIdeal.Gen.run_main m g
  · refine (θ_run _ _ _).mono (fun r h c => ?_) (Cert.PoolRefIdeal.Value.run m' g')
    obtain ⟨a0, a1, a2, a3, a4⟩ := hagree c
    obtain ⟨p0, p1, p2, p3, p4⟩ := hpre c
    have h0 := r_of (isReal_of_olt _ lit_inf _ _ p0)
    have h1 := r_of (isReal_of_olt _ lit_inf _ _ p1)
    have h2 := r_of (isReal_of_olt _ lit_inf _ _ p2)
    have h3 := r_of (isReal_of_olt _ lit_inf _ _ p3)
    have h4 := r_of (isReal_of_olt _ lit_inf _ _ p4)
    refine ⟨(h c).1.trans ?_, (h c).2.1.trans ?_, (h c).2.2.1.trans ?_, (h c).2.2.2.1.trans ?_, (h c).2.2.2.2⟩
    · refine (Cert.PoolRefIdeal.Read.val_main_v172_eq _).trans (Eq.trans ?_ (final_du m c h1 h2 h3 h4).symm)
      congr 1
    · refine (Cert.PoolRefIdeal.Read.val_main_v174_eq _).trans (Eq.trans ?_ (final_dg m c h0 h1 h2 h3 h4).symm)
      congr 1
    · refine (Cert.PoolRefIdeal.Read.val_main_v156_eq _).trans (Eq.trans ?_ (final_gw m c h0).symm)
      congr 1
    · refine (Cert.PoolRefIdeal.Read.val_main_v175_eq _).trans (Eq.trans ?_ (final_gsc m c h0).symm)
      congr 1

end Cert.Pool
end
-- ==== Proof.TailRow.lean ====
/- One position's row through the merge, the output projection, the final norm and the loss, and back: the formulas both programs share. -/
module

public import proofs.«01_k».proof.Proof.PoolRef

@[expose] public section

noncomputable section

open Idealize.ShloMosaic
open scoped BigOperators

namespace Cert.TailV
open Cert.Lift Cert.Pool

/-- One position's arguments: the input, the target, the attention's output, its gate, the pooling branch's output, the merge gates. -/
structure Row where
  x : Fin 1024 → EReal
  t : Fin 1024 → EReal
  o : Fin 512 → EReal
  g : Fin 512 → EReal
  y : Fin 512 → EReal
  z : Fin 2048 → EReal

/-- The weights: the two branches' projections, the output projection, the final norm. -/
structure Wts where
  a : Fin 512 → Fin 1024 → EReal
  p : Fin 512 → Fin 1024 → EReal
  o : Fin 1024 → Fin 1024 → EReal
  n : Fin 1024 → EReal

namespace Row
variable (R : Row) (W : Wts)

def sil (k : Fin 512) : EReal := R.g k * Ideal.logistic (R.g k)
/-- The gated attention output. -/
def ya (k : Fin 512) : EReal := R.o k * R.sil k
def a (j : Fin 1024) : EReal := ∑ k, R.ya k * W.a k j
def p (j : Fin 1024) : EReal := ∑ k, R.y k * W.p k j
def ga (j : Fin 1024) : EReal := Ideal.logistic (R.z ⟨j.val, by omega⟩)
def gp (j : Fin 1024) : EReal := Ideal.logistic (R.z ⟨1024 + j.val, by omega⟩)
/-- The merged branches. -/
def mg (j : Fin 1024) : EReal := R.ga j * R.a W j + R.gp j * R.p W j
def h (j : Fin 1024) : EReal := R.x j + ∑ k, R.mg W k * W.o k j
/-- The reciprocal root of the mean square. -/
def r : EReal := Ideal.rsqrt (Ideal.div (∑ j, R.h W j * R.h W j) (Ideal.ofBits .f32 0x44800000#32) + Ideal.ofBits .f32 0x358637BD#32)
def hr (j : Fin 1024) : EReal := R.h W j * R.r W
/-- The error. -/
def e (j : Fin 1024) : EReal := R.hr W j * W.n j - R.t j
def dy (j : Fin 1024) : EReal := R.e W j * Ideal.ofBits .f32 0x3A800000#32
def u (j : Fin 1024) : EReal := R.dy W j * W.n j
def dh (j : Fin 1024) : EReal := R.r W * (R.u W j - R.hr W j * Ideal.div (∑ i, R.u W i * R.hr W i) (Ideal.ofBits .f32 0x44800000#32))
def dmg (k : Fin 1024) : EReal := ∑ j, R.dh W j * W.o k j
def da (j : Fin 1024) : EReal := R.dmg W j * R.ga j
def dp (j : Fin 1024) : EReal := R.dmg W j * R.gp j
def dya (k : Fin 512) : EReal := ∑ j, R.da W j * W.a k j
def dyp (k : Fin 512) : EReal := ∑ j, R.dp W j * W.p k j
/-- The cotangent of the attention's output. -/
def dO (k : Fin 512) : EReal := R.dya W k * R.sil k
def dga (k : Fin 512) : EReal := R.dya W k * R.o k * (Ideal.logistic (R.g k) + R.g k * Ideal.logistic (R.g k) * (1 - Ideal.logistic (R.g k)))
def dza (j : Fin 1024) : EReal := R.dmg W j * R.a W j * R.ga j * (1 - R.ga j)
def dzp (j : Fin 1024) : EReal := R.dmg W j * R.p W j * R.gp j * (1 - R.gp j)

/-- All entries are real numbers. -/
structure Fin' : Prop where
  x : ∀ i, Pool.R (R.x i)
  t : ∀ i, Pool.R (R.t i)
  o : ∀ i, Pool.R (R.o i)
  g : ∀ i, Pool.R (R.g i)
  y : ∀ i, Pool.R (R.y i)
  z : ∀ i, Pool.R (R.z i)
  wa : ∀ i j, Pool.R (W.a i j)
  wp : ∀ i j, Pool.R (W.p i j)
  wo : ∀ i j, Pool.R (W.o i j)
  wn : ∀ i, Pool.R (W.n i)

theorem _root_.Cert.Pool.R.add' {x y : EReal} : Pool.R x → Pool.R y → Pool.R (x + y) := fun ⟨a, ha⟩ ⟨b, hb⟩ => ⟨a + b, by rw [ha, hb, EReal.coe_add]⟩

variable {R W}
theorem R_a (H : Fin' R W) (j : Fin 1024) : Pool.R (R.a W j) := Pool.R.sum _ fun k => ((H.o k).mul ((H.g k).mul (H.g k).logistic)).mul (H.wa k j)
theorem R_p (H : Fin' R W) (j : Fin 1024) : Pool.R (R.p W j) := Pool.R.sum _ fun k => (H.y k).mul (H.wp k j)
theorem R_mg (H : Fin' R W) (j : Fin 1024) : Pool.R (R.mg W j) := ((H.z _).logistic.mul (R_a H j)).add' ((H.z _).logistic.mul (R_p H j))
theorem R_h (H : Fin' R W) (j : Fin 1024) : Pool.R (R.h W j) := (H.x j).add' (Pool.R.sum _ fun k => (R_mg H k).mul (H.wo k j))
theorem r_eq {X : Fin 1024 → ℝ} (hX : ∀ j, R.h W j = ((X j : ℝ) : EReal)) : R.r W = ((rinv X 1024 : ℝ) : EReal) := by
  unfold r
  simp only [hX, lit_1024, lit_eps, ← EReal.coe_mul, coe_sum, ← EReal.coe_add, div_coe _ (by norm_num : (1024 : ℝ) ≠ 0), rsqrt_row X (by norm_num : (0 : ℝ) < 1024)]
theorem R_r (H : Fin' R W) : Pool.R (R.r W) := by
  choose X hX using R_h H
  exact ⟨_, r_eq hX⟩
theorem R_hr (H : Fin' R W) (j : Fin 1024) : Pool.R (R.hr W j) := (R_h H j).mul (R_r H)
theorem R_e (H : Fin' R W) (j : Fin 1024) : Pool.R (R.e W j) := ((R_hr H j).mul (H.wn j)).sub (H.t j)

theorem lit_r1024 : Ideal.ofBits .f32 0x3A800000#32 = ((1 / 1024 : ℝ) : EReal) := by
  show Ideal.ieee 8 23 (0x3A800000#32) = _
  simp [Ideal.ieee]
  rw [← EReal.coe_mul]
  norm_num
theorem lit_r2048 : Ideal.ofBits .f32 0x3A000000#32 = ((1 / 2048 : ℝ) : EReal) := by
  show Ideal.ieee 8 23 (0x3A000000#32) = _
  simp [Ideal.ieee]
  rw [← EReal.coe_mul]
  norm_num
theorem lit_half : Ideal.ofBits .f32 0x3F000000#32 = ((1 / 2 : ℝ) : EReal) := by
  show Ideal.ieee 8 23 (0x3F000000#32) = _
  simp [Ideal.ieee]
  rw [← EReal.coe_mul]
  norm_num
theorem lit_two : Ideal.ofBits .f32 0x40000000#32 = ((2 : ℝ) : EReal) := by
  show Ideal.ieee 8 23 (0x40000000#32) = _
  simp [Ideal.ieee]
  rw [← EReal.coe_mul]
  norm_num

theorem R_u (H : Fin' R W) (j : Fin 1024) : Pool.R (R.u W j) := ((R_e H j).mul ⟨_, lit_r1024⟩).mul (H.wn j)
theorem R_dh (H : Fin' R W) (j : Fin 1024) : Pool.R (R.dh W j) := by
  choose X hX using R_h H
  choose U hU using R_u H
  refine (R_r H).mul ((R_u H j).sub ((R_hr H j).mul ?_))
  simp only [hr, r_eq hX, hX, hU, lit_1024, ← EReal.coe_mul, coe_sum, div_coe _ (by norm_num : (1024 : ℝ) ≠ 0)]
  exact ⟨_, rfl⟩
theorem R_dmg (H : Fin' R W) (j : Fin 1024) : Pool.R (R.dmg W j) := Pool.R.sum _ fun k => (R_dh H k).mul (H.wo j k)
theorem R_dya (H : Fin' R W) (k : Fin 512) : Pool.R (R.dya W k) := Pool.R.sum _ fun j => ((R_dmg H j).mul (H.z _).logistic).mul (H.wa k j)

/-- The norm's gradient by the chain rule, as the reference takes it. -/
theorem dh_eq (H : Fin' R W) (k : Fin 1024) :
    R.u W k * R.r W + R.h W k * (Ideal.div ((∑ i, R.h W i * R.u W i) * (Ideal.ofBits .f32 0xBF000000#32 * Ideal.div (R.r W)
        (Ideal.div (∑ j, R.h W j * R.h W j) (Ideal.ofBits .f32 0x44800000#32) + Ideal.ofBits .f32 0x358637BD#32))) (Ideal.ofBits .f32 0x44800000#32))
      + Ideal.div ((∑ i, R.h W i * R.u W i) * (Ideal.ofBits .f32 0xBF000000#32 * Ideal.div (R.r W)
        (Ideal.div (∑ j, R.h W j * R.h W j) (Ideal.ofBits .f32 0x44800000#32) + Ideal.ofBits .f32 0x358637BD#32))) (Ideal.ofBits .f32 0x44800000#32) * R.h W k = R.dh W k := by
  choose X hX using R_h H
  choose U hU using R_u H
  have e := rms_row X U (by norm_num : (0 : ℝ) < 1024) k
  simp only [dh, hr, r_eq hX, hX, hU, lit_1024, lit_eps, lit_neg_half, ← EReal.coe_mul, coe_sum, ← EReal.coe_add, ← EReal.coe_sub,
    div_coe _ (by norm_num : (1024 : ℝ) ≠ 0), div_coe _ (ms_pos X (by norm_num : (0 : ℝ) < 1024)).ne']
  exact congrArg _ e.symm

theorem dga_eq (H : Fin' R W) (k : Fin 512) :
    R.o k * R.dya W k * Ideal.logistic (R.g k) + R.g k * (R.o k * R.dya W k) * (Ideal.logistic (R.g k) * (1 - Ideal.logistic (R.g k))) = R.dga W k := by
  obtain ⟨d, hd⟩ := R_dya H k
  obtain ⟨o, ho⟩ := H.o k
  obtain ⟨g, hg⟩ := H.g k
  simp only [dga, hd, ho, hg, logistic_coe, ← EReal.coe_one, ← EReal.coe_mul, ← EReal.coe_add, ← EReal.coe_sub]
  exact congrArg _ (by ring)
end Row
end Cert.TailV
end
-- ==== Proof.TailRef.lean ====
/- The reference's merge and loss at an index, and its gradients, row by row. -/
module

public import proofs.«01_k».proof.Proof.TailRow
public import proofs.«01_k».proof.Proof.Gen.TailRefIdeal.Read

@[expose] public section

set_option maxRecDepth 65536

noncomputable section

open Idealize.ShloMosaic Idealize.ShloMosaic.TcCoe Idealize.SL.Sem
open scoped BigOperators

namespace Cert.TailV
open Cert.TailRefIdeal Cert.TailRefIdeal.Gen Cert.TailRefIdeal.Read Cert.Lift

variable (x0 x1 : FVec Ideal S4096x1024 .f32) (x2 x3 : FVec Ideal S4096x512 .f32) (x4 : FVec Ideal S4096x512 .bf16) (x5 : FVec Ideal S4096x2048 .f32)
  (x6 x7 : FVec Ideal S512x1024 .f32) (x8 : FVec Ideal S1024x1024 .f32) (x9 : FVec Ideal S1024 .f32)

/-- Position `a`'s row of the arguments. -/
def rowAt (a : Fin 4096) : Row :=
  ⟨fun i => x0 (ix2 a i), fun i => x1 (ix2 a i), fun i => x2 (ix2 a i), fun i => x3 (ix2 a i), fun i => x4 (ix2 a i), fun i => x5 (ix2 a i)⟩
/-- The weights among the arguments. -/
def wts : Wts := ⟨fun i j => x6 (ix2 i j), fun i j => x7 (ix2 i j), fun i j => x8 (ix2 i j), fun i => x9 (ix1 i)⟩

theorem ref_sil (a : Fin 4096) (k : Fin 512) :
    (val_main_v7_0 (F := Ideal) x3 : FVec Ideal S1x4096x512 .f32) (ix3 0 a k) = (rowAt x0 x1 x2 x3 x4 x5 a).sil k := by
  pointwise [val_main_v7_0, val_main_v7_2, val_main_call0_v4, val_main_call0_cst_0, val_main_call0_v3, val_main_call0_v2, val_main_call0_cst, val_main_call0_v1, val_main_call0_v0, val_main_v2]
  rfl
theorem ref_ya (a : Fin 4096) (k : Fin 512) :
    (val_main_v8 (F := Ideal) x2 x3 : FVec Ideal S1x4096x512 .f32) (ix3 0 a k) = (rowAt x0 x1 x2 x3 x4 x5 a).ya k := by
  pointwise [val_main_v8, val_main_v1]
  exact congrArg _ (ref_sil x0 x1 x2 x3 x4 x5 a k)
theorem ref_a (a : Fin 4096) (j : Fin 1024) :
    (val_main_v9 (F := Ideal) x2 x3 x6 : FVec Ideal S1x4096x1024 .f32) (ix3 0 a j) = (rowAt x0 x1 x2 x3 x4 x5 a).a (wts x6 x7 x8 x9) j := by
  pointwise [val_main_v9]
  exact Finset.sum_congr rfl fun k _ => congrArg (· * _) (ref_ya x0 x1 x2 x3 x4 x5 a k)
theorem ref_p (a : Fin 4096) (j : Fin 1024) :
    (val_main_v10 (F := Ideal) x4 x7 : FVec Ideal S1x4096x1024 .f32) (ix3 0 a j) = (rowAt x0 x1 x2 x3 x4 x5 a).p (wts x6 x7 x8 x9) j := by
  pointwise [val_main_v10, val_main_v4, val_main_v3]
  rfl
theorem ref_ga (a : Fin 4096) (j : Fin 1024) :
    (val_main_v20 (F := Ideal) x5 : FVec Ideal S1x4096x1024 .f32) (ix3 0 a j) = (rowAt x0 x1 x2 x3 x4 x5 a).ga j := by
  pointwise [val_main_v20, val_main_v16, val_main_v15, val_main_cst_0, val_main_v14, val_main_v13, val_main_cst, val_main_v12, val_main_v11, val_main_v5]
  rfl
theorem ref_gp (a : Fin 4096) (j : Fin 1024) :
    (val_main_v21 (F := Ideal) x5 : FVec Ideal S1x4096x1024 .f32) (ix3 0 a j) = (rowAt x0 x1 x2 x3 x4 x5 a).gp j := by
  pointwise [val_main_v21, val_main_v16, val_main_v15, val_main_cst_0, val_main_v14, val_main_v13, val_main_cst, val_main_v12, val_main_v11, val_main_v5]
  rfl
theorem ref_mg (a : Fin 4096) (j : Fin 1024) :
    (val_main_v24 (F := Ideal) x2 x3 x4 x5 x6 x7 : FVec Ideal S1x4096x1024 .f32) (ix3 0 a j) = (rowAt x0 x1 x2 x3 x4 x5 a).mg (wts x6 x7 x8 x9) j := by
  pointwise [val_main_v24, val_main_v23, val_main_v22]
  rw [ref_ga x0 x1 x2 x3 x4, ref_gp x0 x1 x2 x3 x4, ref_a x0 x1 x2 x3 x4 x5 x6 x7 x8 x9, ref_p x0 x1 x2 x3 x4 x5 x6 x7 x8 x9]
  rfl
theorem ref_h (a : Fin 4096) (j : Fin 1024) :
    (val_main_v26 (F := Ideal) x0 x2 x3 x4 x5 x6 x7 x8 : FVec Ideal S1x4096x1024 .f32) (ix3 0 a j) = (rowAt x0 x1 x2 x3 x4 x5 a).h (wts x6 x7 x8 x9) j := by
  pointwise [val_main_v26, val_main_v25, val_main_v0]
  exact congrArg _ (Finset.sum_congr rfl fun k _ => congrArg (· * _) (ref_mg x0 x1 x2 x3 x4 x5 x6 x7 x8 x9 a k))
theorem ref_ms (a : Fin 4096) :
    (val_main_v33 (F := Ideal) x0 x2 x3 x4 x5 x6 x7 x8 : FVec Ideal S1x4096x1 .f32) (ix3 0 a 0) =
      Ideal.div (∑ j, (rowAt x0 x1 x2 x3 x4 x5 a).h (wts x6 x7 x8 x9) j * (rowAt x0 x1 x2 x3 x4 x5 a).h (wts x6 x7 x8 x9) j) (Ideal.ofBits .f32 0x44800000#32) + Ideal.ofBits .f32 0x358637BD#32 := by
  pointwise [val_main_v33, val_main_v32, val_main_cst_4, val_main_v31, val_main_v30, val_main_cst_3, val_main_v29, val_main_v28, val_main_v27, val_main_cst_2]
  simp only [ref_h x0 x1 x2 x3 x4 x5 x6 x7 x8 x9]
theorem ref_r (a : Fin 4096) :
    (val_main_v34 (F := Ideal) x0 x2 x3 x4 x5 x6 x7 x8 : FVec Ideal S1x4096x1 .f32) (ix3 0 a 0) = (rowAt x0 x1 x2 x3 x4 x5 a).r (wts x6 x7 x8 x9) := by
  pointwise [val_main_v34]
  exact congrArg Ideal.rsqrt (ref_ms x0 x1 x2 x3 x4 x5 x6 x7 x8 x9 a)
theorem ref_hr (a : Fin 4096) (j : Fin 1024) :
    (val_main_v39 (F := Ideal) x0 x2 x3 x4 x5 x6 x7 x8 : FVec Ideal S1x4096x1024 .f32) (ix3 0 a j) = (rowAt x0 x1 x2 x3 x4 x5 a).hr (wts x6 x7 x8 x9) j := by
  pointwise [val_main_v39, val_main_v38]
  exact congrArg₂ _ (ref_h x0 x1 x2 x3 x4 x5 x6 x7 x8 x9 a j) (ref_r x0 x1 x2 x3 x4 x5 x6 x7 x8 x9 a)
theorem ref_e (a : Fin 4096) (j : Fin 1024) :
    (val_main_v43 (F := Ideal) x0 x1 x2 x3 x4 x5 x6 x7 x8 x9 : FVec Ideal S1x4096x1024 .f32) (ix3 0 a j) = (rowAt x0 x1 x2 x3 x4 x5 a).e (wts x6 x7 x8 x9) j := by
  pointwise [val_main_v43, val_main_v42, val_main_v41, val_main_v40, val_main_v6]
  exact congrArg (· * _ - _) (ref_hr x0 x1 x2 x3 x4 x5 x6 x7 x8 x9 a j)
theorem ref_dy (a : Fin 4096) (j : Fin 1024) :
    (val_main_v57 (F := Ideal) x0 x1 x2 x3 x4 x5 x6 x7 x8 x9 : FVec Ideal S1x4096x1024 .f32) (ix3 0 a j) = (rowAt x0 x1 x2 x3 x4 x5 a).dy (wts x6 x7 x8 x9) j := by
  pointwise [val_main_v57, val_main_v56, val_main_v55, val_main_v54, val_main_cst_13, val_main_v53, val_main_v52, val_main_cst_11, val_main_cst_12, val_main_v46, val_main_v45, val_main_cst_6]
  rw [ref_e]
  simp only [Row.lit_half, Row.lit_two, lit_1024, mul_one, div_coe _ (by norm_num : (1024 : ℝ) ≠ 0)]
  unfold Row.dy
  rw [Row.lit_r1024, ← mul_assoc, ← EReal.coe_mul, mul_comm]
  exact congrArg _ (congrArg _ (by norm_num))
theorem ref_u (a : Fin 4096) (j : Fin 1024) :
    (val_main_v62 (F := Ideal) x0 x1 x2 x3 x4 x5 x6 x7 x8 x9 : FVec Ideal S1x4096x1024 .f32) (ix3 0 a j) = (rowAt x0 x1 x2 x3 x4 x5 a).u (wts x6 x7 x8 x9) j := by
  pointwise [val_main_v62, val_main_v61, val_main_v40]
  exact congrArg (· * _) (ref_dy x0 x1 x2 x3 x4 x5 x6 x7 x8 x9 a j)
theorem ref_dh (a : Fin 4096) (H : Row.Fin' (rowAt x0 x1 x2 x3 x4 x5 a) (wts x6 x7 x8 x9)) (j : Fin 1024) :
    (val_main_v78 (F := Ideal) x0 x1 x2 x3 x4 x5 x6 x7 x8 x9 : FVec Ideal S1x4096x1024 .f32) (ix3 0 a j) = (rowAt x0 x1 x2 x3 x4 x5 a).dh (wts x6 x7 x8 x9) j := by
  refine Eq.trans ?_ (Row.dh_eq H j)
  pointwise [val_main_v78, val_main_v77, val_main_v76, val_main_v75, val_main_v74, val_main_v73, val_main_v72, val_main_cst_18]
  simp only [hostReduceAdd_mid]
  pointwise [val_main_v71, val_main_v70, val_main_cst_17, val_main_v69, val_main_v68, val_main_v67, val_main_v66, val_main_v65, val_main_v64, val_main_cst_16, val_main_v37, val_main_v36, val_main_cst_5, val_main_v35]
  simp only [ref_u, ref_h x0 x1 x2 x3 x4 x5 x6 x7 x8 x9, ref_r x0 x1 x2 x3 x4 x5 x6 x7 x8 x9, ref_ms x0 x1 x2 x3 x4 x5 x6 x7 x8 x9]
theorem ref_dmg (a : Fin 4096) (H : Row.Fin' (rowAt x0 x1 x2 x3 x4 x5 a) (wts x6 x7 x8 x9)) (j : Fin 1024) :
    (val_main_v81 (F := Ideal) x0 x1 x2 x3 x4 x5 x6 x7 x8 x9 : FVec Ideal S1x4096x1024 .f32) (ix3 0 a j) = (rowAt x0 x1 x2 x3 x4 x5 a).dmg (wts x6 x7 x8 x9) j := by
  pointwise [val_main_v81]
  exact Finset.sum_congr rfl fun k _ => congrArg (· * _) (ref_dh x0 x1 x2 x3 x4 x5 x6 x7 x8 x9 a H k)
theorem ref_da (a : Fin 4096) (H : Row.Fin' (rowAt x0 x1 x2 x3 x4 x5 a) (wts x6 x7 x8 x9)) (j : Fin 1024) :
    (val_main_v84 (F := Ideal) x0 x1 x2 x3 x4 x5 x6 x7 x8 x9 : FVec Ideal S1x4096x1024 .f32) (ix3 0 a j) = (rowAt x0 x1 x2 x3 x4 x5 a).da (wts x6 x7 x8 x9) j := by
  pointwise [val_main_v84]
  rw [ref_dmg x0 x1 x2 x3 x4 x5 x6 x7 x8 x9 a H, ref_ga x0 x1 x2 x3 x4, mul_comm]
  rfl
theorem ref_dp (a : Fin 4096) (H : Row.Fin' (rowAt x0 x1 x2 x3 x4 x5 a) (wts x6 x7 x8 x9)) (j : Fin 1024) :
    (val_main_v82 (F := Ideal) x0 x1 x2 x3 x4 x5 x6 x7 x8 x9 : FVec Ideal S1x4096x1024 .f32) (ix3 0 a j) = (rowAt x0 x1 x2 x3 x4 x5 a).dp (wts x6 x7 x8 x9) j := by
  pointwise [val_main_v82]
  rw [ref_dmg x0 x1 x2 x3 x4 x5 x6 x7 x8 x9 a H, ref_gp x0 x1 x2 x3 x4, mul_comm]
  rfl
theorem ref_dya (a : Fin 4096) (H : Row.Fin' (rowAt x0 x1 x2 x3 x4 x5 a) (wts x6 x7 x8 x9)) (k : Fin 512) :
    (val_main_v93 (F := Ideal) x0 x1 x2 x3 x4 x5 x6 x7 x8 x9 : FVec Ideal S1x4096x512 .f32) (ix3 0 a k) = (rowAt x0 x1 x2 x3 x4 x5 a).dya (wts x6 x7 x8 x9) k := by
  pointwise [val_main_v93]
  exact Finset.sum_congr rfl fun j _ => congrArg (· * _) (ref_da x0 x1 x2 x3 x4 x5 x6 x7 x8 x9 a H j)

/-! ### The eleven results -/

variable (H : ∀ a, Row.Fin' (rowAt x0 x1 x2 x3 x4 x5 a) (wts x6 x7 x8 x9))
include H

theorem out_dh (a : Fin 4096) (j : Fin 1024) :
    (val_main_v106 (F := Ideal) x0 x1 x2 x3 x4 x5 x6 x7 x8 x9 : FVec Ideal S4096x1024 .f32) (ix2 a j) = (rowAt x0 x1 x2 x3 x4 x5 a).dh (wts x6 x7 x8 x9) j := by
  pointwise [val_main_v106]
  exact ref_dh x0 x1 x2 x3 x4 x5 x6 x7 x8 x9 a (H a) j
theorem out_dyp (a : Fin 4096) (k : Fin 512) :
    (val_main_v114 (F := Ideal) x0 x1 x2 x3 x4 x5 x6 x7 x8 x9 : FVec Ideal S4096x512 .f32) (ix2 a k) = (rowAt x0 x1 x2 x3 x4 x5 a).dyp (wts x6 x7 x8 x9) k := by
  pointwise [val_main_v114, val_main_v90]
  exact Finset.sum_congr rfl fun j _ => congrArg (· * _) (ref_dp x0 x1 x2 x3 x4 x5 x6 x7 x8 x9 a (H a) j)
theorem out_dga (a : Fin 4096) (k : Fin 512) :
    (val_main_v111 (F := Ideal) x0 x1 x2 x3 x4 x5 x6 x7 x8 x9 : FVec Ideal S4096x512 .bf16) (ix2 a k) = (rowAt x0 x1 x2 x3 x4 x5 a).dga (wts x6 x7 x8 x9) k := by
  refine Eq.trans ?_ (Row.dga_eq (H a) k)
  pointwise [val_main_v111, val_main_v110, val_main_v96, val_main_call1_v2, val_main_call1_v1, val_main_call1_v0, val_main_v94, val_main_v1, val_main_v2,
    val_main_v7_1, val_main_call0_v7, val_main_call0_v6, val_main_call0_cst_1, val_main_v7_2, val_main_call0_v4, val_main_call0_cst_0, val_main_call0_v3, val_main_call0_v2, val_main_call0_cst, val_main_call0_v1, val_main_call0_v0]
  rw [ref_dya x0 x1 x2 x3 x4 x5 x6 x7 x8 x9 a (H a)]
  rfl
theorem out_dgm (a : Fin 4096) (k : Fin 2048) :
    (val_main_v108 (F := Ideal) x0 x1 x2 x3 x4 x5 x6 x7 x8 x9 : FVec Ideal S4096x2048 .bf16) (ix2 a k) =
      if h : k.val < 1024 then (rowAt x0 x1 x2 x3 x4 x5 a).dza (wts x6 x7 x8 x9) ⟨k.val, h⟩ else (rowAt x0 x1 x2 x3 x4 x5 a).dzp (wts x6 x7 x8 x9) ⟨k.val - 1024, by omega⟩ := by
  pointwise [val_main_v108, val_main_v107, val_main_v87, val_main_v86, val_main_v85, val_main_v83, val_main_v19, val_main_v18, val_main_v17, val_main_cst_1,
    val_main_v16, val_main_v15, val_main_cst_0, val_main_v14, val_main_v13, val_main_cst, val_main_v12, val_main_v11, val_main_v5]
  by_cases h : k.val < 1024
  · rw [dif_pos h, dif_pos h, ref_dmg x0 x1 x2 x3 x4 x5 x6 x7 x8 x9 a (H a), ref_a x0 x1 x2 x3 x4 x5 x6 x7 x8 x9, ← mul_assoc]
    rfl
  · rw [dif_neg h, dif_neg h, ref_dmg x0 x1 x2 x3 x4 x5 x6 x7 x8 x9 a (H a), ref_p x0 x1 x2 x3 x4 x5 x6 x7 x8 x9, ← mul_assoc]
    have e : (⟨1024 + (k.val - 1024), by omega⟩ : Fin 2048) = k := Fin.ext (by dsimp only; omega)
    simp only [Row.dzp, Row.gp, rowAt, e]
    rfl
theorem ref_do (a : Fin 4096) (k : Fin 512) :
    (val_main_v95 (F := Ideal) x0 x1 x2 x3 x4 x5 x6 x7 x8 x9 : FVec Ideal S1x4096x512 .f32) (ix3 0 a k) = (rowAt x0 x1 x2 x3 x4 x5 a).dO (wts x6 x7 x8 x9) k := by
  pointwise [val_main_v95]
  exact congrArg₂ _ (ref_dya x0 x1 x2 x3 x4 x5 x6 x7 x8 x9 a (H a) k) (ref_sil x0 x1 x2 x3 x4 x5 a k)
theorem out_wo (s : Fin 8) (i : Fin 128) (j : Fin 1024) :
    (val_main_v116 (F := Ideal) x0 x1 x2 x3 x4 x5 x6 x7 x8 x9 : FVec Ideal S8x128x1024 .bf16) (ix3 s i j) =
      ∑ a, (rowAt x0 x1 x2 x3 x4 x5 a).mg (wts x6 x7 x8 x9) ⟨s.val * 128 + i.val, by omega⟩ * (rowAt x0 x1 x2 x3 x4 x5 a).dh (wts x6 x7 x8 x9) j := by
  pointwise [val_main_v116, val_main_v115, val_main_v80, val_main_v79]
  refine (Fin.sum_univ_one _).trans (Finset.sum_congr rfl fun a _ => ?_)
  rw [ref_dh x0 x1 x2 x3 x4 x5 x6 x7 x8 x9 a (H a), ref_mg x0 x1 x2 x3 x4 x5 x6 x7 x8 x9, mul_comm]
theorem out_wa (s : Fin 8) (k : Fin 512) (j : Fin 128) :
    (val_main_v119 (F := Ideal) x0 x1 x2 x3 x4 x5 x6 x7 x8 x9 : FVec Ideal S8x512x128 .bf16) (ix3 s k j) =
      ∑ a, (rowAt x0 x1 x2 x3 x4 x5 a).ya k * (rowAt x0 x1 x2 x3 x4 x5 a).da (wts x6 x7 x8 x9) ⟨s.val * 128 + j.val, by omega⟩ := by
  pointwise [val_main_v119, val_main_v118, val_main_v117, val_main_v92, val_main_v91]
  refine (Fin.sum_univ_one _).trans (Finset.sum_congr rfl fun a _ => ?_)
  rw [ref_da x0 x1 x2 x3 x4 x5 x6 x7 x8 x9 a (H a), ref_ya x0 x1 x2 x3 x4 x5, mul_comm]
theorem out_wp (s : Fin 8) (k : Fin 512) (j : Fin 128) :
    (val_main_v122 (F := Ideal) x0 x1 x2 x3 x4 x5 x6 x7 x8 x9 : FVec Ideal S8x512x128 .bf16) (ix3 s k j) =
      ∑ a, (rowAt x0 x1 x2 x3 x4 x5 a).y k * (rowAt x0 x1 x2 x3 x4 x5 a).dp (wts x6 x7 x8 x9) ⟨s.val * 128 + j.val, by omega⟩ := by
  pointwise [val_main_v122, val_main_v121, val_main_v120, val_main_v89, val_main_v88, val_main_v4, val_main_v3]
  refine (Fin.sum_univ_one _).trans (Finset.sum_congr rfl fun a _ => ?_)
  rw [ref_dp x0 x1 x2 x3 x4 x5 x6 x7 x8 x9 a (H a), mul_comm]
  rfl
omit H in
theorem out_nf (j : Fin 1024) :
    (val_main_v123 (F := Ideal) x0 x1 x2 x3 x4 x5 x6 x7 x8 x9 : FVec Ideal S1x1024 .f32) (ix2 0 j) =
      ∑ a, (rowAt x0 x1 x2 x3 x4 x5 a).dy (wts x6 x7 x8 x9) j * (rowAt x0 x1 x2 x3 x4 x5 a).hr (wts x6 x7 x8 x9) j := by
  pointwise [val_main_v123, val_main_v63, val_main_cst_15]
  simp only [hostReduceAdd_last]
  pointwise [val_main_v60, val_main_v59, val_main_v58, val_main_cst_14]
  refine Finset.sum_congr rfl fun a _ => ?_
  rw [ref_dy, ref_hr x0 x1 x2 x3 x4 x5 x6 x7 x8 x9, mul_comm]
theorem out_doop (a : Fin 4096) (l : Fin 1024) :
    (val_main_v109 (F := Ideal) x0 x1 x2 x3 x4 x5 x6 x7 x8 x9 : FVec Ideal S4096x1024 .bf16) (ix2 a l) =
      if h : l.val % 128 < 64 then 0 else (rowAt x0 x1 x2 x3 x4 x5 a).dO (wts x6 x7 x8 x9) ⟨l.val / 128 * 64 + (l.val % 128 - 64), by omega⟩ := by
  pointwise [val_main_v109, val_main_v101, val_main_v100, val_main_v99, val_main_cst_19, val_main_v98, val_main_v97]
  by_cases h : l.val % 128 < 64
  · rw [dif_pos h, dif_pos h]
  · rw [dif_neg h, dif_neg h]
    exact ref_do x0 x1 x2 x3 x4 x5 x6 x7 x8 x9 H a _
theorem out_dcap (i : Fin 4) (b : Fin 2) (a : Fin 4096) :
    (val_main_v113 (F := Ideal) x0 x1 x2 x3 x4 x5 x6 x7 x8 x9 : FVec Ideal S4x2x4096 .f32) (ix3 i b a) =
      ∑ d : Fin 64, (rowAt x0 x1 x2 x3 x4 x5 a).dO (wts x6 x7 x8 x9) ⟨(i.val * 2 + b.val) * 64 + d.val, by omega⟩ * (rowAt x0 x1 x2 x3 x4 x5 a).o ⟨(i.val * 2 + b.val) * 64 + d.val, by omega⟩ := by
  pointwise [val_main_v113, val_main_v112, val_main_v104, val_main_cst_20, val_main_v103, val_main_v102, val_main_v98, val_main_v97]
  refine Finset.sum_congr rfl fun d _ => ?_
  rw [ref_do x0 x1 x2 x3 x4 x5 x6 x7 x8 x9 H]
  rfl
omit H in
theorem out_loss (i : Fin 8) (l : Fin 128) :
    (val_main_v105 (F := Ideal) x0 x1 x2 x3 x4 x5 x6 x7 x8 x9 : FVec Ideal S8x128 .f32) (ix2 i l) =
      Ideal.ofBits .f32 0x3F000000#32 * ∑ a, Ideal.div (∑ j, (rowAt x0 x1 x2 x3 x4 x5 a).e (wts x6 x7 x8 x9) j * (rowAt x0 x1 x2 x3 x4 x5 a).e (wts x6 x7 x8 x9) j) (Ideal.ofBits .f32 0x44800000#32) := by
  pointwise [val_main_v105, val_main_v51, val_main_cst_10, val_main_v50, val_main_cst_9, val_main_v49, val_main_v48, val_main_cst_8, val_main_v47, val_main_v44, val_main_cst_7]
  simp only [ref_e]
  exact congrArg _ (Fin.sum_univ_one _)
end Cert.TailV
end
-- ==== Proof.TailKer.lean ====
/- The kernel's values at an index: each of the body's expressions over the values before it. -/
module

public import proofs.«01_k».proof.Proof.TailRef
public import proofs.«01_k».proof.Proof.Gen.TailIdeal.Skeleton

@[expose] public section

set_option maxRecDepth 65536

noncomputable section

open Idealize.ShloMosaic Idealize.ShloMosaic.TcCoe Idealize.SL.Sem
open scoped BigOperators

namespace Cert.TailV
open Cert.TailIdeal Cert.TailIdeal.Gen Cert.Lift

section Ker
variable (v3 v4 : FVec Ideal S256x512 .f32) (v14 : FVec Ideal S256x512 .bf16) (v53 : FVec Ideal S256x2048 .f32) (v61 v78 : FVec Ideal S256x1024 .f32) (v72 : FVec Ideal S1x1024 .f32)

theorem k_sil (r : Fin 256) (k : Fin 512) : (k0_pay38 (F := Ideal) v4 : FVec Ideal S256x512 .f32) (ix2 r k) = v4 (ix2 r k) * Ideal.logistic (v4 (ix2 r k)) := by
  pointwise [k0_pay38, k0_pay37]
theorem k_dsil (r : Fin 256) (k : Fin 512) : (k0_pay39 (F := Ideal) v4 : FVec Ideal S256x512 .f32) (ix2 r k) =
    Ideal.logistic (v4 (ix2 r k)) + v4 (ix2 r k) * Ideal.logistic (v4 (ix2 r k)) * (1 - Ideal.logistic (v4 (ix2 r k))) := by
  pointwise [k0_pay39, k0_pay37]
theorem k_ya (r : Fin 256) (k : Fin 512) : (k0_pay40 (F := Ideal) v3 v4 : FVec Ideal S256x512 .bf16) (ix2 r k) = v3 (ix2 r k) * (v4 (ix2 r k) * Ideal.logistic (v4 (ix2 r k))) := by
  pointwise [k0_pay40, k0_pay38, k0_pay37]

/-- Column `l` of part `i` of a branch's projection. -/
def col (i : Fin 8) (l : Fin 128) : Fin 1024 := ⟨i.val * 128 + l.val, by omega⟩
section Cat
variable (q : Fin 8 → FVec Ideal S1x512x128 .bf16) (w : Fin 512 → Fin 1024 → EReal) (hq : ∀ i k l, q i (ix3 0 k l) = w k (col i l))
include hq

theorem lanes (k : Fin 512) (j : Fin 1024) :
    (if h : j.val < 128 then q 0 (ix3 0 k ⟨j.val, h⟩) else if h : j.val - 128 < 128 then q 1 (ix3 0 k ⟨j.val - 128, h⟩)
      else if h : j.val - 128 - 128 < 128 then q 2 (ix3 0 k ⟨j.val - 128 - 128, h⟩) else if h : j.val - 128 - 128 - 128 < 128 then q 3 (ix3 0 k ⟨j.val - 128 - 128 - 128, h⟩)
      else if h : j.val - 128 - 128 - 128 - 128 < 128 then q 4 (ix3 0 k ⟨j.val - 128 - 128 - 128 - 128, h⟩)
      else if h : j.val - 128 - 128 - 128 - 128 - 128 < 128 then q 5 (ix3 0 k ⟨j.val - 128 - 128 - 128 - 128 - 128, h⟩)
      else if h : j.val - 128 - 128 - 128 - 128 - 128 - 128 < 128 then q 6 (ix3 0 k ⟨j.val - 128 - 128 - 128 - 128 - 128 - 128, h⟩)
      else q 7 (ix3 0 k ⟨j.val - 128 - 128 - 128 - 128 - 128 - 128 - 128, by omega⟩)) = w k j := by
  have hj := j.isLt
  split_ifs <;> refine (hq _ _ _).trans (congrArg (w k) (Fin.ext ?_)) <;> simp [col] <;> omega
theorem k_cat_a (k : Fin 512) (j : Fin 1024) :
    (k0_pay47 (F := Ideal) (k0_pay41 (q 0)) (k0_pay42 (q 1)) (k0_pay43 (q 2)) (k0_pay44 (q 3)) (k0_pay45 (q 4)) (k0_pay46 (q 5)) (q 6) (q 7) : FVec Ideal S512x1024 .bf16) (ix2 k j) = w k j := by
  refine Eq.trans ?_ (lanes q w hq k j)
  pointwise [k0_pay47, k0_pay41, k0_pay42, k0_pay43, k0_pay44, k0_pay45, k0_pay46]
theorem k_cat_p (k : Fin 512) (j : Fin 1024) :
    (k0_pay48 (F := Ideal) (q 0) (q 1) (q 2) (q 3) (q 4) (q 5) (q 6) (q 7) : FVec Ideal S512x1024 .bf16) (ix2 k j) = w k j := by
  refine Eq.trans ?_ (lanes q w hq k j)
  pointwise [k0_pay48]
end Cat

theorem k_a (v13 : FVec Ideal S256x512 .bf16) (v16 v18 v20 v22 v24 v26 : FVec Ideal S512x128 .bf16) (v27 v29 : FVec Ideal S1x512x128 .bf16) (r : Fin 256) (j : Fin 1024) :
    (k0_pay50 (F := Ideal) v13 v16 v18 v20 v22 v24 v26 v27 v29 : FVec Ideal S256x1024 .f32) (ix2 r j) =
      ∑ k, v13 (ix2 r k) * (k0_pay47 (F := Ideal) v16 v18 v20 v22 v24 v26 v27 v29 : FVec Ideal S512x1024 .bf16) (ix2 k j) := by
  pointwise [k0_pay50]
theorem k_p (v32 v34 v36 v38 v40 v42 v44 v46 : FVec Ideal S1x512x128 .bf16) (r : Fin 256) (j : Fin 1024) :
    (k0_pay51 (F := Ideal) v14 v32 v34 v36 v38 v40 v42 v44 v46 : FVec Ideal S256x1024 .f32) (ix2 r j) =
      ∑ k, v14 (ix2 r k) * (k0_pay48 (F := Ideal) v32 v34 v36 v38 v40 v42 v44 v46 : FVec Ideal S512x1024 .bf16) (ix2 k j) := by
  pointwise [k0_pay51]
theorem k_ga (r : Fin 256) (j : Fin 1024) : (k0_pay53 (F := Ideal) (k0_pay52 v53) : FVec Ideal S256x1024 .f32) (ix2 r j) = Ideal.logistic (v53 (ix2 r ⟨j.val, by omega⟩)) := by
  pointwise [k0_pay53, k0_pay52]
theorem k_gp (r : Fin 256) (j : Fin 1024) : (k0_pay54 (F := Ideal) (k0_pay52 v53) : FVec Ideal S256x1024 .f32) (ix2 r j) = Ideal.logistic (v53 (ix2 r ⟨1024 + j.val, by omega⟩)) := by
  pointwise [k0_pay54, k0_pay52]
theorem k_wo (v49 : FVec Ideal S1024x1024 .bf16) (i j : Fin 1024) : (k0_pay49 (F := Ideal) v49 : FVec Ideal S1024x1024 .bf16) (ix2 i j) = v49 (ix2 i j) := by
  pointwise [k0_pay49]
theorem k_nf (j : Fin 1024) : (k0_pay58 (F := Ideal) v72 : FVec Ideal S1x1024 .f32) (ix2 0 j) = v72 (ix2 0 j) := by
  pointwise [k0_pay58]

variable (v50 : FVec Ideal S1024x1024 .bf16) (v51 v52 : FVec Ideal S256x1024 .f32) (v54 : FVec Ideal S256x2048 .f32)
theorem k_mg (r : Fin 256) (j : Fin 1024) : (k0_pay55 (F := Ideal) v51 v52 v54 : FVec Ideal S256x1024 .bf16) (ix2 r j) =
    (k0_pay53 (F := Ideal) v54 : FVec Ideal S256x1024 .f32) (ix2 r j) * v51 (ix2 r j) + (k0_pay54 (F := Ideal) v54 : FVec Ideal S256x1024 .f32) (ix2 r j) * v52 (ix2 r j) := by
  pointwise [k0_pay55]
theorem k_h (r : Fin 256) (j : Fin 1024) : (k0_pay56 (F := Ideal) v50 v51 v52 v54 v61 : FVec Ideal S256x1024 .f32) (ix2 r j) =
    v61 (ix2 r j) + ∑ k, (k0_pay55 (F := Ideal) v51 v52 v54 : FVec Ideal S256x1024 .bf16) (ix2 r k) * v50 (ix2 k j) := by
  pointwise [k0_pay56]
theorem k_r (r : Fin 256) : (k0_pay57 (F := Ideal) v50 v51 v52 v54 v61 : FVec Ideal S256x1 .f32) (ix2 r 0) =
    Ideal.rsqrt (Ideal.div (∑ j, (k0_pay56 (F := Ideal) v50 v51 v52 v54 v61 : FVec Ideal S256x1024 .f32) (ix2 r j) * (k0_pay56 (F := Ideal) v50 v51 v52 v54 v61 : FVec Ideal S256x1024 .f32) (ix2 r j))
      (Ideal.ofBits .f32 0x44800000#32) + Ideal.ofBits .f32 0x358637BD#32) := by
  pointwise [k0_pay57]
theorem k_hr (r : Fin 256) (j : Fin 1024) : (k0_pay59 (F := Ideal) v50 v51 v52 v54 v61 : FVec Ideal S256x1024 .f32) (ix2 r j) =
    (k0_pay56 (F := Ideal) v50 v51 v52 v54 v61 : FVec Ideal S256x1024 .f32) (ix2 r j) * (k0_pay57 (F := Ideal) v50 v51 v52 v54 v61 : FVec Ideal S256x1 .f32) (ix2 r 0) := by
  pointwise [k0_pay59]
theorem k_e (r : Fin 256) (j : Fin 1024) : (k0_pay60 (F := Ideal) v50 v51 v52 v54 v61 v72 v78 : FVec Ideal S256x1024 .f32) (ix2 r j) =
    (k0_pay59 (F := Ideal) v50 v51 v52 v54 v61 : FVec Ideal S256x1024 .f32) (ix2 r j) * v72 (ix2 0 j) - v78 (ix2 r j) := by
  pointwise [k0_pay60, k0_pay58]
theorem k_dy (r : Fin 256) (j : Fin 1024) : (k0_pay62 (F := Ideal) v50 v51 v52 v54 v61 v72 v78 : FVec Ideal S256x1024 .f32) (ix2 r j) =
    (k0_pay60 (F := Ideal) v50 v51 v52 v54 v61 v72 v78 : FVec Ideal S256x1024 .f32) (ix2 r j) * Ideal.ofBits .f32 0x3A800000#32 := by
  pointwise [k0_pay62]
theorem k_loss (v80 : FVec Ideal S8x128 .f32) (i : Fin 8) (l : Fin 128) : (k0_pay61 (F := Ideal) v50 v51 v52 v54 v61 v72 v78 v80 : FVec Ideal S8x128 .f32) (ix2 i l) =
    v80 (ix2 i l) + Ideal.ofBits .f32 0x3A000000#32 * ∑ r : Fin 256, ∑ j : Fin 1024,
      (k0_pay60 (F := Ideal) v50 v51 v52 v54 v61 v72 v78 : FVec Ideal S256x1024 .f32) (ix2 r j) * (k0_pay60 (F := Ideal) v50 v51 v52 v54 v61 v72 v78 : FVec Ideal S256x1024 .f32) (ix2 r j) := by
  pointwise [k0_pay61]

variable (v71 : FVec Ideal S256x1 .f32) (v73 : FVec Ideal S1x1024 .f32) (v75 v92 : FVec Ideal S256x1024 .f32)
theorem k_gnf (v93 : FVec Ideal S1x1024 .f32) (j : Fin 1024) : (k0_pay64 (F := Ideal) v75 v92 (k0_pay63 v93) : FVec Ideal S1x1024 .f32) (ix2 0 j) =
    v93 (ix2 0 j) + ∑ r, v92 (ix2 r j) * v75 (ix2 r j) := by
  pointwise [k0_pay64, k0_pay63]
theorem k_dh (r : Fin 256) (j : Fin 1024) : (k0_pay65 (F := Ideal) v71 v73 v75 v92 : FVec Ideal S256x1024 .f32) (ix2 r j) =
    v71 (ix2 r 0) * (v92 (ix2 r j) * v73 (ix2 0 j) - v75 (ix2 r j) * Ideal.div (∑ i, v92 (ix2 r i) * v73 (ix2 0 i) * v75 (ix2 r i)) (Ideal.ofBits .f32 0x44800000#32)) := by
  pointwise [k0_pay65]
theorem k_dmg (r : Fin 256) (k : Fin 1024) : (k0_pay67 (F := Ideal) v50 v71 v73 v75 v92 : FVec Ideal S256x1024 .f32) (ix2 r k) =
    ∑ j, (k0_pay65 (F := Ideal) v71 v73 v75 v92 : FVec Ideal S256x1024 .f32) (ix2 r j) * v50 (ix2 k j) := by
  pointwise [k0_pay67, k0_pay66]
variable (v55 v56 : FVec Ideal S256x1024 .f32) (v31 v48 : FVec Ideal S512x1024 .bf16)
theorem k_da (r : Fin 256) (j : Fin 1024) : (k0_pay68 (F := Ideal) v50 v55 v71 v73 v75 v92 : FVec Ideal S256x1024 .bf16) (ix2 r j) =
    (k0_pay67 (F := Ideal) v50 v71 v73 v75 v92 : FVec Ideal S256x1024 .f32) (ix2 r j) * v55 (ix2 r j) := by
  pointwise [k0_pay68]
theorem k_dp (r : Fin 256) (j : Fin 1024) : (k0_pay69 (F := Ideal) v50 v56 v71 v73 v75 v92 : FVec Ideal S256x1024 .bf16) (ix2 r j) =
    (k0_pay67 (F := Ideal) v50 v71 v73 v75 v92 : FVec Ideal S256x1024 .f32) (ix2 r j) * v56 (ix2 r j) := by
  pointwise [k0_pay69]
theorem k_dya (r : Fin 256) (k : Fin 512) : (k0_pay70 (F := Ideal) v31 v50 v55 v71 v73 v75 v92 : FVec Ideal S256x512 .f32) (ix2 r k) =
    ∑ j, (k0_pay68 (F := Ideal) v50 v55 v71 v73 v75 v92 : FVec Ideal S256x1024 .bf16) (ix2 r j) * v31 (ix2 k j) := by
  pointwise [k0_pay70]
theorem k_dyp (r : Fin 256) (k : Fin 512) : (k0_pay71 (F := Ideal) v48 v50 v56 v71 v73 v75 v92 : FVec Ideal S256x512 .f32) (ix2 r k) =
    ∑ j, (k0_pay69 (F := Ideal) v50 v56 v71 v73 v75 v92 : FVec Ideal S256x1024 .bf16) (ix2 r j) * v48 (ix2 k j) := by
  pointwise [k0_pay71]
theorem k_gwo (v60 : FVec Ideal S256x1024 .bf16) (v122 : FVec Ideal S1024x1024 .f32) (i j : Fin 1024) : (k0_pay72 (F := Ideal) v60 v71 v73 v75 v92 v122 : FVec Ideal S1024x1024 .f32) (ix2 i j) =
    v122 (ix2 i j) + ∑ r, v60 (ix2 r i) * (k0_pay65 (F := Ideal) v71 v73 v75 v92 : FVec Ideal S256x1024 .f32) (ix2 r j) := by
  pointwise [k0_pay72, k0_pay66]
theorem k_gwa (v13 : FVec Ideal S256x512 .bf16) (v128 : FVec Ideal S512x1024 .f32) (k : Fin 512) (j : Fin 1024) :
    (k0_pay74 (F := Ideal) (k0_pay73 v13 v50 v55 v71 v73 v75 v92 v128) : FVec Ideal S512x1024 .f32) (ix2 k j) =
      v128 (ix2 k j) + ∑ r, v13 (ix2 r k) * (k0_pay68 (F := Ideal) v50 v55 v71 v73 v75 v92 : FVec Ideal S256x1024 .bf16) (ix2 r j) := by
  pointwise [k0_pay74, k0_pay73]
theorem k_gwp (v118 : FVec Ideal S256x1024 .bf16) (v134 : FVec Ideal S512x1024 .f32) (k : Fin 512) (j : Fin 1024) :
    (k0_pay75 (F := Ideal) v14 v118 v134 : FVec Ideal S512x1024 .f32) (ix2 k j) = v134 (ix2 k j) + ∑ r, v14 (ix2 r k) * v118 (ix2 r j) := by
  pointwise [k0_pay75]
theorem k_dza (v114 : FVec Ideal S256x1024 .f32) (r : Fin 256) (j : Fin 1024) : (k0_pay76 (F := Ideal) v51 v55 v114 : FVec Ideal S256x1024 .bf16) (ix2 r j) =
    v114 (ix2 r j) * v51 (ix2 r j) * v55 (ix2 r j) * (1 - v55 (ix2 r j)) := by
  pointwise [k0_pay76]
theorem k_dzp (v114 : FVec Ideal S256x1024 .f32) (r : Fin 256) (j : Fin 1024) : (k0_pay77 (F := Ideal) v52 v56 v114 : FVec Ideal S256x1024 .bf16) (ix2 r j) =
    v114 (ix2 r j) * v52 (ix2 r j) * v56 (ix2 r j) * (1 - v56 (ix2 r j)) := by
  pointwise [k0_pay77]
variable (v6 v11 v119 : FVec Ideal S256x512 .f32)
theorem k_do (r : Fin 256) (k : Fin 512) : (k0_pay78 (F := Ideal) v6 v119 : FVec Ideal S256x512 .f32) (ix2 r k) = v119 (ix2 r k) * v6 (ix2 r k) := by
  pointwise [k0_pay78]
theorem k_dga (r : Fin 256) (k : Fin 512) : (k0_pay79 (F := Ideal) v3 v11 v119 : FVec Ideal S256x512 .bf16) (ix2 r k) = v119 (ix2 r k) * v3 (ix2 r k) * v11 (ix2 r k) := by
  pointwise [k0_pay79]
theorem k_prod (r : Fin 256) (k : Fin 512) : (k0_pay80 (F := Ideal) v3 v6 v119 : FVec Ideal S256x512 .f32) (ix2 r k) = v119 (ix2 r k) * v6 (ix2 r k) * v3 (ix2 r k) := by
  pointwise [k0_pay80, k0_pay78]

/-! ### Pairs of heads -/

/-- The mask of the first 64 lanes. -/
theorem k_lo (r : Fin 256) (l : Fin 128) : (k0_pay81 : IVec S256x128 1) (ix2 r l) = if l.val < 64 then 1#1 else 0#1 := by
  pointwise [k0_pay81]
  exact (by decide +kernel : ∀ l : Fin 128, IntOp.cmpi .slt (BitVec.ofNat 32 l.val) 64#32 = if l.val < 64 then 1#1 else 0#1) l
theorem sel (r : Fin 256) (l : Fin 128) (a b : EReal) : Scalar.select (k0_pay81 (ix2 r l)) a b = if l.val < 64 then a else b := by
  rw [k_lo]
  by_cases h : l.val < 64
  · rw [if_pos h, if_pos h]; rfl
  · rw [if_neg h, if_neg h]; rfl
theorem sum_lo (r : Fin 256) (f : Fin 128 → EReal) : ∑ x, Scalar.select (k0_pay81 (ix2 r x)) (f x) 0 = ∑ d : Fin 64, f ⟨d.val, by omega⟩ := by
  simp only [sel]
  rw [sum_split 64 64 (n := 128) rfl]
  refine (congrArg₂ _ (Finset.sum_congr rfl fun d _ => if_pos d.isLt) (Finset.sum_eq_zero fun d _ => if_neg (by dsimp only; omega))).trans (add_zero _)
theorem sum_hi (r : Fin 256) (f : Fin 128 → EReal) : ∑ x, Scalar.select (k0_pay81 (ix2 r x)) 0 (f x) = ∑ d : Fin 64, f ⟨64 + d.val, by omega⟩ := by
  simp only [sel]
  rw [sum_split 64 64 (n := 128) rfl]
  refine (congrArg₂ _ (Finset.sum_eq_zero fun d _ => if_pos d.isLt) (Finset.sum_congr rfl fun d _ => if_neg (by dsimp only; omega))).trans (zero_add _)

/-- Lanes `o + d` of a row summed over `d` below 64. -/
def half (P : FVec Ideal S256x512 .f32) (r : Fin 256) (o : ℕ) (h : o + 64 ≤ 512) : EReal := ∑ d : Fin 64, P (ix2 r ⟨o + d.val, by omega⟩)

theorem half_lo (P : FVec Ideal S256x512 .f32) (r : Fin 256) (o : ℕ) (ho : o + 128 ≤ 512) (a : EReal) :
    Scalar.select (k0_pay81 (ix2 r 0)) (∑ x : Fin 128, Scalar.select (k0_pay81 (ix2 r x)) (P (ix2 r ⟨o + x.val, by omega⟩)) 0) a = half P r o (by omega) :=
  (sel r 0 _ _).trans ((if_pos (by decide)).trans (sum_lo r fun x => P (ix2 r ⟨o + x.val, by omega⟩)))
theorem half_hi (P : FVec Ideal S256x512 .f32) (r : Fin 256) (o : ℕ) (ho : o + 128 ≤ 512) (a : EReal) :
    Scalar.select (k0_pay81 (ix2 r 64)) a (∑ x : Fin 128, Scalar.select (k0_pay81 (ix2 r x)) 0 (P (ix2 r ⟨o + x.val, by omega⟩))) = half P r (o + 64) (by omega) := by
  refine (sel r 64 _ _).trans ((if_neg (by decide)).trans ((sum_hi r fun x => P (ix2 r ⟨o + x.val, by omega⟩)).trans ?_))
  exact Finset.sum_congr rfl fun d _ => congrArg (fun i => P (ix2 r i)) (Fin.ext (Nat.add_assoc _ _ _).symm)
theorem fin_zero_add {r : Fin 256} (P : FVec Ideal S256x512 .f32) (x : Fin 128) : P (ix2 r ⟨x.val, by omega⟩) = P (ix2 r ⟨0 + x.val, by omega⟩) :=
  congrArg (fun i => P (ix2 r i)) (Fin.ext (Nat.zero_add _).symm)

theorem k_c0 (r : Fin 256) : (k0_pay86 (F := Ideal) k0_pay81 (k0_pay83 v3 v6 v119) (k0_pay84 v3 v6 v119) : FVec Ideal S1x1x256 .f32) (ix3 0 0 r) = half (k0_pay80 (F := Ideal) v3 v6 v119) r 0 (by omega) := by
  pointwise [k0_pay86, k0_pay85, k0_pay83, k0_pay84]
  simp only [fin_zero_add]
  exact half_lo _ r 0 (by omega) _
theorem k_c1 (r : Fin 256) : (k0_pay87 (F := Ideal) k0_pay81 (k0_pay83 v3 v6 v119) (k0_pay84 v3 v6 v119) : FVec Ideal S1x1x256 .f32) (ix3 0 0 r) = half (k0_pay80 (F := Ideal) v3 v6 v119) r 64 (by omega) := by
  pointwise [k0_pay87, k0_pay85, k0_pay83, k0_pay84]
  simp only [fin_zero_add]
  exact half_hi _ r 0 (by omega) _
variable (v159 : FVec Ideal S256x512 .f32)
theorem k_c2 (r : Fin 256) : (k0_pay95 (F := Ideal) k0_pay81 (k0_pay92 v159 k0_pay81) (k0_pay93 v159 k0_pay81) : FVec Ideal S1x1x256 .f32) (ix3 0 0 r) = half v159 r 128 (by omega) := by
  pointwise [k0_pay95, k0_pay94, k0_pay92, k0_pay93, k0_pay91]
  exact half_lo _ r 128 (by omega) _
theorem k_c3 (r : Fin 256) : (k0_pay96 (F := Ideal) k0_pay81 (k0_pay92 v159 k0_pay81) (k0_pay93 v159 k0_pay81) : FVec Ideal S1x1x256 .f32) (ix3 0 0 r) = half v159 r 192 (by omega) := by
  pointwise [k0_pay96, k0_pay94, k0_pay92, k0_pay93, k0_pay91]
  exact half_hi _ r 128 (by omega) _
theorem k_c4 (r : Fin 256) : (k0_pay102 (F := Ideal) (k0_pay100 v159 k0_pay81) : FVec Ideal S1x1x256 .f32) (ix3 0 0 r) = half v159 r 256 (by omega) := by
  pointwise [k0_pay102, k0_pay101, k0_pay100]
  exact half_lo _ r 256 (by omega) _
theorem k_c5 (r : Fin 256) : (k0_pay103 (F := Ideal) (k0_pay100 v159 k0_pay81) : FVec Ideal S1x1x256 .f32) (ix3 0 0 r) = half v159 r 320 (by omega) := by
  pointwise [k0_pay103, k0_pay101, k0_pay100]
  exact half_hi _ r 256 (by omega) _
theorem k_c6 (r : Fin 256) : (k0_pay1 (F := Ideal) (k0_pay108 v159 k0_pay81) : FVec Ideal S1x1x256 .f32) (ix3 0 0 r) = half v159 r 384 (by omega) := by
  pointwise [k0_pay1, k0_pay108, k0_pay107]
  exact half_lo _ r 384 (by omega) _
theorem k_c7 (r : Fin 256) : (k0_pay2 (F := Ideal) (k0_pay107 v159 k0_pay81) : FVec Ideal S1x1x256 .f32) (ix3 0 0 r) = half v159 r 448 (by omega) := by
  pointwise [k0_pay2, k0_pay107]
  exact half_hi _ r 384 (by omega) _

/-- Lanes of one head among 128: zeros, then the head's 64 from `o` on. -/
def head (P : FVec Ideal S256x512 .f32) (o : ℕ) (ho : o + 64 ≤ 512) (r : Fin 256) (l : Fin 128) : EReal := if h : l.val < 64 then 0 else P (ix2 r ⟨o + (l.val - 64), by omega⟩)

theorem head_lo (P : FVec Ideal S256x512 .f32) (o : ℕ) (ho : o + 128 ≤ 512) (r : Fin 256) (l : Fin 128) :
    Scalar.select (k0_pay81 (ix2 r l)) 0 (P (ix2 r ⟨o + (l.val + 128 - 64) % 128, by omega⟩)) = head P o (by omega) r l := by
  unfold head
  refine (sel r l _ _).trans ?_
  by_cases h : l.val < 64
  · rw [if_pos h, dif_pos h]
  · rw [if_neg h, dif_neg h]
    exact congrArg (fun i => P (ix2 r i)) (Fin.ext (by dsimp only; omega))
theorem head_hi (P : FVec Ideal S256x512 .f32) (o : ℕ) (ho : o + 128 ≤ 512) (r : Fin 256) (l : Fin 128) :
    Scalar.select (k0_pay81 (ix2 r l)) 0 (P (ix2 r ⟨o + l.val, by omega⟩)) = head P (o + 64) (by omega) r l := by
  unfold head
  refine (sel r l _ _).trans ?_
  by_cases h : l.val < 64
  · rw [if_pos h, dif_pos h]
  · rw [if_neg h, dif_neg h]
    exact congrArg (fun i => P (ix2 r i)) (Fin.ext (by dsimp only; omega))

variable (v154 : FVec Ideal S256x512 .f32)
theorem k_o0 (r : Fin 256) (l : Fin 128) : (k0_pay88 (F := Ideal) k0_pay81 (k0_pay82 v6 v119) : FVec Ideal S256x128 .bf16) (ix2 r l) = head (k0_pay78 (F := Ideal) v6 v119) 0 (by omega) r l := by
  pointwise [k0_pay88, k0_pay82]
  refine Eq.trans ?_ (head_lo _ 0 (by omega) r l)
  exact congrArg (fun i => Scalar.select _ _ ((k0_pay78 (F := Ideal) v6 v119 : FVec Ideal S256x512 .f32) (ix2 r i))) (Fin.ext (Nat.zero_add _).symm)
theorem k_o1 (r : Fin 256) (l : Fin 128) : (k0_pay89 (F := Ideal) k0_pay81 (k0_pay82 v6 v119) : FVec Ideal S256x128 .bf16) (ix2 r l) = head (k0_pay78 (F := Ideal) v6 v119) 64 (by omega) r l := by
  pointwise [k0_pay89, k0_pay82]
  refine Eq.trans ?_ (head_hi _ 0 (by omega) r l)
  exact congrArg (fun i => Scalar.select _ _ ((k0_pay78 (F := Ideal) v6 v119 : FVec Ideal S256x512 .f32) (ix2 r i))) (Fin.ext (Nat.zero_add _).symm)
theorem k_o2 (r : Fin 256) (l : Fin 128) : (k0_pay97 (F := Ideal) k0_pay81 (k0_pay90 v154) : FVec Ideal S256x128 .bf16) (ix2 r l) = head v154 128 (by omega) r l := by
  pointwise [k0_pay97, k0_pay90]
  exact head_lo _ 128 (by omega) r l
theorem k_o3 (r : Fin 256) (l : Fin 128) : (k0_pay98 (F := Ideal) k0_pay81 (k0_pay90 v154) : FVec Ideal S256x128 .bf16) (ix2 r l) = head v154 192 (by omega) r l := by
  pointwise [k0_pay98, k0_pay90]
  exact head_hi _ 128 (by omega) r l
theorem k_o4 (r : Fin 256) (l : Fin 128) : (k0_pay104 (F := Ideal) k0_pay81 (k0_pay99 v154) : FVec Ideal S256x128 .bf16) (ix2 r l) = head v154 256 (by omega) r l := by
  pointwise [k0_pay104, k0_pay99]
  exact head_lo _ 256 (by omega) r l
theorem k_o5 (r : Fin 256) (l : Fin 128) : (k0_pay105 (F := Ideal) k0_pay81 (k0_pay99 v154) : FVec Ideal S256x128 .bf16) (ix2 r l) = head v154 320 (by omega) r l := by
  pointwise [k0_pay105, k0_pay99]
  exact head_hi _ 256 (by omega) r l
theorem k_o6 (r : Fin 256) (l : Fin 128) : (k0_pay3 (F := Ideal) k0_pay81 (k0_pay106 v154) : FVec Ideal S256x128 .bf16) (ix2 r l) = head v154 384 (by omega) r l := by
  pointwise [k0_pay3, k0_pay106]
  exact head_lo _ 384 (by omega) r l
theorem k_o7 (r : Fin 256) (l : Fin 128) : (k0_pay4 (F := Ideal) k0_pay81 (k0_pay106 v154) : FVec Ideal S256x128 .bf16) (ix2 r l) = head v154 448 (by omega) r l := by
  pointwise [k0_pay4, k0_pay106]
  exact head_hi _ 384 (by omega) r l
end Ker
end Cert.TailV
end
-- ==== Proof.TailHost.lean ====
/- The kernel's blocks: what each grid point reads, and its rows' values. -/
module

public import proofs.«01_k».proof.Proof.TailKer
public import proofs.«01_k».proof.Proof.Gen.TailIdeal.Value

@[expose] public section

set_option maxRecDepth 16384

noncomputable section

open Idealize.ShloMosaic Idealize.ShloMosaic.TcCoe Idealize.SL.Sem
open scoped BigOperators

namespace Cert.TailV
open Cert.TailIdeal Cert.TailIdeal.Gen Cert.Lift

/-- The version's copy of a branch's projection, by blocks of 128 columns. -/
def hg (w : FVec Ideal S512x1024 .f32) : FVec Ideal S8x512x128 .bf16 :=
  transpose S8x512x128 [1, 0, 2] (shapeCast S512x8x128 (truncf .bf16 w bitsLt_bf16_f32 : FVec Ideal S512x1024 .bf16) shapeCasts_S512x1024_S512x8x128) transposes_S512x8x128_S8x512x128_1_0_2
def hn (w : FVec Ideal S1024 .f32) : FVec Ideal S1x1024 .f32 := shapeCast S1x1024 w shapeCasts_S1024_S1x1024

variable (m : (ℓ : Loc nD τ sig) → Buf (Elt Ideal) ℓ)

abbrev X0 (c : Dev nD) : FVec Ideal S4096x1024 .f32 := m ((c : Thread nD τ).loc main_arg0)
abbrev X1 (c : Dev nD) : FVec Ideal S4096x1024 .f32 := m ((c : Thread nD τ).loc main_arg1)
abbrev X2 (c : Dev nD) : FVec Ideal S4096x512 .f32 := m ((c : Thread nD τ).loc main_arg2)
abbrev X3 (c : Dev nD) : FVec Ideal S4096x512 .f32 := m ((c : Thread nD τ).loc main_arg3)
abbrev X4 (c : Dev nD) : FVec Ideal S4096x512 .bf16 := m ((c : Thread nD τ).loc main_arg4)
abbrev X5 (c : Dev nD) : FVec Ideal S4096x2048 .f32 := m ((c : Thread nD τ).loc main_arg5)
abbrev X6 (c : Dev nD) : FVec Ideal S512x1024 .f32 := m ((c : Thread nD τ).loc main_arg6)
abbrev X7 (c : Dev nD) : FVec Ideal S512x1024 .f32 := m ((c : Thread nD τ).loc main_arg7)
abbrev X8 (c : Dev nD) : FVec Ideal S1024x1024 .f32 := m ((c : Thread nD τ).loc main_arg8)
abbrev X9 (c : Dev nD) : FVec Ideal S1024 .f32 := m ((c : Thread nD τ).loc main_arg9)

theorem V_a (c : Dev nD) : V m c main_v2 = hg (X6 m c) := rfl
theorem V_p (c : Dev nD) : V m c main_v5 = hg (X7 m c) := rfl
theorem V_o (c : Dev nD) : V m c main_v6 = (truncf .bf16 (X8 m c) bitsLt_bf16_f32 : FVec Ideal S1024x1024 .bf16) := rfl
theorem V_n (c : Dev nD) : V m c main_v7 = hn (X9 m c) := rfl

theorem hg_apply (w : FVec Ideal S512x1024 .f32) (i : Fin 8) (k : Fin 512) (l : Fin 128) : hg w (ix3 i k l) = w (ix2 k ⟨i.val * 128 + l.val, by omega⟩) := by
  pointwise [hg]
theorem hn_apply (w : FVec Ideal S1024 .f32) (j : Fin 1024) : hn w (ix2 0 j) = w (ix1 j) := by
  pointwise [hn]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0] ∧ win0_15.index t = ![0, 0, t.val]
    ∧ win0_16.index t = ![t.val, 0] ∧ win0_17.index t = ![0, 0, 0] ∧ win0_18.index t = ![0, 0, 0] ∧ win0_19.index t = ![0, 0, 0] ∧ win0_20.index t = ![0, 0] :=
  (by decide +kernel : ∀ t : Fin grid0.N, _)

/-- Row `r` of grid point `t`'s block, in the whole array. -/
def row (t : Fin cfg0.N) (r : Fin 256) : Fin 4096 := ⟨t.val * 256 + r.val, by have := t.isLt; have h : cfg0.N = 16 := N_0; omega⟩
/-- Position `a`'s row of the arguments, and the weights. -/
abbrev Rw (c : Dev nD) (a : Fin 4096) : Row := rowAt (X0 m c) (X1 m c) (X2 m c) (X3 m c) (X4 m c) (X5 m c) a
abbrev Wt (c : Dev nD) : Wts := wts (X6 m c) (X7 m c) (X8 m c) (X9 m c)

theorem blk_x (c : Dev nD) (t : Fin cfg0.N) (r : Fin 256) (l : Fin 1024) : (iblk m c 0 t : FVec Ideal S256x1024 .f32) (ix2 r l) = X0 m c (ix2 (row t r) l) := by
  blk_point [iblk, V, idx t, row]
theorem blk_t (c : Dev nD) (t : Fin cfg0.N) (r : Fin 256) (l : Fin 1024) : (iblk m c 1 t : FVec Ideal S256x1024 .f32) (ix2 r l) = X1 m c (ix2 (row t r) l) := by
  blk_point [iblk, V, idx t, row]
theorem blk_o (c : Dev nD) (t : Fin cfg0.N) (r : Fin 256) (l : Fin 512) : (iblk m c 2 t : FVec Ideal S256x512 .f32) (ix2 r l) = X2 m c (ix2 (row t r) l) := by
  blk_point [iblk, V, idx t, row]
theorem blk_g (c : Dev nD) (t : Fin cfg0.N) (r : Fin 256) (l : Fin 512) : (iblk m c 3 t : FVec Ideal S256x512 .f32) (ix2 r l) = X3 m c (ix2 (row t r) l) := by
  blk_point [iblk, V, idx t, row]
theorem blk_y (c : Dev nD) (t : Fin cfg0.N) (r : Fin 256) (l : Fin 512) : (iblk m c 4 t : FVec Ideal S256x512 .bf16) (ix2 r l) = X4 m c (ix2 (row t r) l) := by
  blk_point [iblk, V, idx t, row]
theorem blk_z (c : Dev nD) (t : Fin cfg0.N) (r : Fin 256) (l : Fin 2048) : (iblk m c 5 t : FVec Ideal S256x2048 .f32) (ix2 r l) = X5 m c (ix2 (row t r) l) := by
  blk_point [iblk, V, idx t, row]
theorem blk_wa (c : Dev nD) (t : Fin cfg0.N) (i : Fin 8) (k : Fin 512) (l : Fin 128) : (iblk m c 6 t : FVec Ideal S8x512x128 .bf16) (ix3 i k l) = X6 m c (ix2 k ⟨i.val * 128 + l.val, by omega⟩) := by
  refine Eq.trans (b := (V m c main_v2 : FVec Ideal S8x512x128 .bf16) (ix3 i k l)) ?_ ((congrFun (V_a m c) _).trans (hg_apply _ _ _ _))
  blk_point [iblk, idx t]
theorem blk_wp (c : Dev nD) (t : Fin cfg0.N) (i : Fin 8) (k : Fin 512) (l : Fin 128) : (iblk m c 7 t : FVec Ideal S8x512x128 .bf16) (ix3 i k l) = X7 m c (ix2 k ⟨i.val * 128 + l.val, by omega⟩) := by
  refine Eq.trans (b := (V m c main_v5 : FVec Ideal S8x512x128 .bf16) (ix3 i k l)) ?_ ((congrFun (V_p m c) _).trans (hg_apply _ _ _ _))
  blk_point [iblk, idx t]
theorem blk_wo (c : Dev nD) (t : Fin cfg0.N) (i j : Fin 1024) : (iblk m c 8 t : FVec Ideal S1024x1024 .bf16) (ix2 i j) = X8 m c (ix2 i j) := by
  refine Eq.trans (b := (V m c main_v6 : FVec Ideal S1024x1024 .bf16) (ix2 i j)) ?_ (congrFun (V_o m c) _)
  blk_point [iblk, idx t]
theorem blk_n (c : Dev nD) (t : Fin cfg0.N) (j : Fin 1024) : (iblk m c 9 t : FVec Ideal S1x1024 .f32) (ix2 0 j) = X9 m c (ix1 j) := by
  refine Eq.trans (b := (V m c main_v7 : FVec Ideal S1x1024 .f32) (ix2 0 j)) ?_ ((congrFun (V_n m c) _).trans (hn_apply _ _))
  blk_point [iblk, idx t]

theorem inbq (i : Fin 8) : ∀ a, (![i.val, 0, 0] : Fin 3 → ℕ) a + (![1, 512, 128] : Fin 3 → ℕ) a ≤ S8x512x128.size a := (by decide +kernel : ∀ i : Fin 8, ∀ a, (![i.val, 0, 0] : Fin 3 → ℕ) a + (![1, 512, 128] : Fin 3 → ℕ) a ≤ S8x512x128.size a) i
/-- A block's part `i` of the two branches' projections, as the body loads it. -/
abbrev qa (c : Dev nD) (t : Fin cfg0.N) (i : Fin 8) : FVec Ideal S1x512x128 .bf16 := View.ld (iblk m c 6 t) (Rect.unit (s := S8x512x128) ![i.val, 0, 0] ![1, 512, 128] (inbq i))
abbrev qp (c : Dev nD) (t : Fin cfg0.N) (i : Fin 8) : FVec Ideal S1x512x128 .bf16 := View.ld (iblk m c 7 t) (Rect.unit (s := S8x512x128) ![i.val, 0, 0] ![1, 512, 128] (inbq i))
theorem qa_eq (c : Dev nD) (t : Fin cfg0.N) (i : Fin 8) (k : Fin 512) (l : Fin 128) : qa m c t i (ix3 0 k l) = (Wt m c).a k (col i l) := by
  refine (View.ld_unit_apply_of (Val := Elt Ideal) (S := S8x512x128) (e := .bf16) (iblk m c 6 t) ![i.val, 0, 0] ![1, 512, 128] _ (ix3 0 k l) (ix3 i k l) fun a => ?_).trans (blk_wa m c t _ _ _)
  fin_cases a
  · rfl
  · exact (Nat.zero_add _).symm
  · exact (Nat.zero_add _).symm
theorem qp_eq (c : Dev nD) (t : Fin cfg0.N) (i : Fin 8) (k : Fin 512) (l : Fin 128) : qp m c t i (ix3 0 k l) = (Wt m c).p k (col i l) := by
  refine (View.ld_unit_apply_of (Val := Elt Ideal) (S := S8x512x128) (e := .bf16) (iblk m c 7 t) ![i.val, 0, 0] ![1, 512, 128] _ (ix3 0 k l) (ix3 i k l) fun a => ?_).trans (blk_wp m c t _ _ _)
  fin_cases a
  · rfl
  · exact (Nat.zero_add _).symm
  · exact (Nat.zero_add _).symm

section Vals
variable (c : Dev nD) (t : Fin cfg0.N)

/-! The body's values at a grid point. -/
abbrev v13 : FVec Ideal S256x512 .bf16 := k0_pay40 (F := Ideal) (iblk m c 2 t) (iblk m c 3 t)
abbrev v31 : FVec Ideal S512x1024 .bf16 := k0_pay47 (F := Ideal) (k0_pay41 (qa m c t 0)) (k0_pay42 (qa m c t 1)) (k0_pay43 (qa m c t 2)) (k0_pay44 (qa m c t 3)) (k0_pay45 (qa m c t 4)) (k0_pay46 (qa m c t 5)) (qa m c t 6) (qa m c t 7)
abbrev v48 : FVec Ideal S512x1024 .bf16 := k0_pay48 (F := Ideal) (qp m c t 0) (qp m c t 1) (qp m c t 2) (qp m c t 3) (qp m c t 4) (qp m c t 5) (qp m c t 6) (qp m c t 7)
abbrev v50 : FVec Ideal S1024x1024 .bf16 := k0_pay49 (F := Ideal) (iblk m c 8 t)
abbrev v51 : FVec Ideal S256x1024 .f32 := k0_pay50 (F := Ideal) (v13 m c t) (k0_pay41 (qa m c t 0)) (k0_pay42 (qa m c t 1)) (k0_pay43 (qa m c t 2)) (k0_pay44 (qa m c t 3)) (k0_pay45 (qa m c t 4)) (k0_pay46 (qa m c t 5)) (qa m c t 6) (qa m c t 7)
abbrev v52 : FVec Ideal S256x1024 .f32 := k0_pay51 (F := Ideal) (iblk m c 4 t) (qp m c t 0) (qp m c t 1) (qp m c t 2) (qp m c t 3) (qp m c t 4) (qp m c t 5) (qp m c t 6) (qp m c t 7)
abbrev v54 : FVec Ideal S256x2048 .f32 := k0_pay52 (F := Ideal) (iblk m c 5 t)
abbrev v55 : FVec Ideal S256x1024 .f32 := k0_pay53 (F := Ideal) (v54 m c t)
abbrev v56 : FVec Ideal S256x1024 .f32 := k0_pay54 (F := Ideal) (v54 m c t)
abbrev v60 : FVec Ideal S256x1024 .bf16 := k0_pay55 (F := Ideal) (v51 m c t) (v52 m c t) (v54 m c t)
abbrev v71 : FVec Ideal S256x1 .f32 := k0_pay57 (F := Ideal) (v50 m c t) (v51 m c t) (v52 m c t) (v54 m c t) (iblk m c 0 t)
abbrev v73 : FVec Ideal S1x1024 .f32 := k0_pay58 (F := Ideal) (iblk m c 9 t)
abbrev v75 : FVec Ideal S256x1024 .f32 := k0_pay59 (F := Ideal) (v50 m c t) (v51 m c t) (v52 m c t) (v54 m c t) (iblk m c 0 t)
abbrev v92 : FVec Ideal S256x1024 .f32 := k0_pay62 (F := Ideal) (v50 m c t) (v51 m c t) (v52 m c t) (v54 m c t) (iblk m c 0 t) (iblk m c 9 t) (iblk m c 1 t)
abbrev v114 : FVec Ideal S256x1024 .f32 := k0_pay67 (F := Ideal) (v50 m c t) (v71 m c t) (v73 m c t) (v75 m c t) (v92 m c t)
abbrev v118 : FVec Ideal S256x1024 .bf16 := k0_pay69 (F := Ideal) (v50 m c t) (v56 m c t) (v71 m c t) (v73 m c t) (v75 m c t) (v92 m c t)
abbrev v119 : FVec Ideal S256x512 .f32 := k0_pay70 (F := Ideal) (v31 m c t) (v50 m c t) (v55 m c t) (v71 m c t) (v73 m c t) (v75 m c t) (v92 m c t)

theorem v13_eq (r : Fin 256) (k : Fin 512) : v13 m c t (ix2 r k) = (Rw m c (row t r)).ya k := by
  refine (k_ya _ _ _ _).trans ?_
  rw [blk_o, blk_g]
  rfl
theorem v31_eq (k : Fin 512) (j : Fin 1024) : v31 m c t (ix2 k j) = (Wt m c).a k j := k_cat_a (qa m c t) _ (qa_eq m c t) k j
theorem v48_eq (k : Fin 512) (j : Fin 1024) : v48 m c t (ix2 k j) = (Wt m c).p k j := k_cat_p (qp m c t) _ (qp_eq m c t) k j
theorem v50_eq (i j : Fin 1024) : v50 m c t (ix2 i j) = (Wt m c).o i j := (k_wo _ _ _).trans (blk_wo m c t i j)
theorem v51_eq (r : Fin 256) (j : Fin 1024) : v51 m c t (ix2 r j) = (Rw m c (row t r)).a (Wt m c) j :=
  (k_a _ _ _ _ _ _ _ _ _ r j).trans (Finset.sum_congr rfl fun k _ => congrArg₂ _ (v13_eq m c t r k) (v31_eq m c t k j))
theorem v52_eq (r : Fin 256) (j : Fin 1024) : v52 m c t (ix2 r j) = (Rw m c (row t r)).p (Wt m c) j :=
  (k_p _ _ _ _ _ _ _ _ _ r j).trans (Finset.sum_congr rfl fun k _ => congrArg₂ _ (blk_y m c t r k) (v48_eq m c t k j))
theorem v55_eq (r : Fin 256) (j : Fin 1024) : v55 m c t (ix2 r j) = (Rw m c (row t r)).ga j := (k_ga _ r j).trans (congrArg _ (blk_z m c t r _))
theorem v56_eq (r : Fin 256) (j : Fin 1024) : v56 m c t (ix2 r j) = (Rw m c (row t r)).gp j := (k_gp _ r j).trans (congrArg _ (blk_z m c t r _))
theorem v60_eq (r : Fin 256) (j : Fin 1024) : v60 m c t (ix2 r j) = (Rw m c (row t r)).mg (Wt m c) j := by
  refine (k_mg _ _ _ r j).trans ?_
  exact congrArg₂ _ (congrArg₂ _ (v55_eq m c t r j) (v51_eq m c t r j)) (congrArg₂ _ (v56_eq m c t r j) (v52_eq m c t r j))
theorem h_eq (r : Fin 256) (j : Fin 1024) : (k0_pay56 (F := Ideal) (v50 m c t) (v51 m c t) (v52 m c t) (v54 m c t) (iblk m c 0 t) : FVec Ideal S256x1024 .f32) (ix2 r j) = (Rw m c (row t r)).h (Wt m c) j :=
  (k_h _ _ _ _ _ r j).trans (congrArg₂ _ (blk_x m c t r j) (Finset.sum_congr rfl fun k _ => congrArg₂ _ (v60_eq m c t r k) (v50_eq m c t k j)))
theorem v71_eq (r : Fin 256) : v71 m c t (ix2 r 0) = (Rw m c (row t r)).r (Wt m c) := by
  refine (k_r _ _ _ _ _ r).trans ?_
  simp only [h_eq]
  rfl
theorem v73_eq (j : Fin 1024) : v73 m c t (ix2 0 j) = (Wt m c).n j := (k_nf _ j).trans (blk_n m c t j)
theorem v75_eq (r : Fin 256) (j : Fin 1024) : v75 m c t (ix2 r j) = (Rw m c (row t r)).hr (Wt m c) j :=
  (k_hr _ _ _ _ _ r j).trans (congrArg₂ _ (h_eq m c t r j) (v71_eq m c t r))
theorem e_eq (r : Fin 256) (j : Fin 1024) : (k0_pay60 (F := Ideal) (v50 m c t) (v51 m c t) (v52 m c t) (v54 m c t) (iblk m c 0 t) (iblk m c 9 t) (iblk m c 1 t) : FVec Ideal S256x1024 .f32) (ix2 r j) =
    (Rw m c (row t r)).e (Wt m c) j := by
  refine (k_e _ _ _ _ _ _ _ r j).trans ?_
  exact congrArg₂ _ (congrArg₂ _ (v75_eq m c t r j) (blk_n m c t j)) (blk_t m c t r j)
theorem v92_eq (r : Fin 256) (j : Fin 1024) : v92 m c t (ix2 r j) = (Rw m c (row t r)).dy (Wt m c) j :=
  (k_dy _ _ _ _ _ _ _ r j).trans (congrArg (· * _) (e_eq m c t r j))
theorem dh_eq (r : Fin 256) (j : Fin 1024) : (k0_pay65 (F := Ideal) (v71 m c t) (v73 m c t) (v75 m c t) (v92 m c t) : FVec Ideal S256x1024 .f32) (ix2 r j) = (Rw m c (row t r)).dh (Wt m c) j := by
  refine (k_dh _ _ _ _ r j).trans ?_
  simp only [v71_eq, v73_eq, v75_eq, v92_eq]
  rfl
theorem v114_eq (r : Fin 256) (k : Fin 1024) : v114 m c t (ix2 r k) = (Rw m c (row t r)).dmg (Wt m c) k :=
  (k_dmg _ _ _ _ _ r k).trans (Finset.sum_congr rfl fun j _ => congrArg₂ _ (dh_eq m c t r j) (v50_eq m c t k j))
theorem da_eq (r : Fin 256) (j : Fin 1024) : (k0_pay68 (F := Ideal) (v50 m c t) (v55 m c t) (v71 m c t) (v73 m c t) (v75 m c t) (v92 m c t) : FVec Ideal S256x1024 .bf16) (ix2 r j) =
    (Rw m c (row t r)).da (Wt m c) j :=
  (k_da _ _ _ _ _ _ r j).trans (congrArg₂ _ (v114_eq m c t r j) (v55_eq m c t r j))
theorem v118_eq (r : Fin 256) (j : Fin 1024) : v118 m c t (ix2 r j) = (Rw m c (row t r)).dp (Wt m c) j :=
  (k_dp _ _ _ _ _ _ r j).trans (congrArg₂ _ (v114_eq m c t r j) (v56_eq m c t r j))
theorem v119_eq (r : Fin 256) (k : Fin 512) : v119 m c t (ix2 r k) = (Rw m c (row t r)).dya (Wt m c) k :=
  (k_dya _ _ _ _ _ _ _ r k).trans (Finset.sum_congr rfl fun j _ => congrArg₂ _ (da_eq m c t r j) (v31_eq m c t k j))
theorem dyp_eq (r : Fin 256) (k : Fin 512) : (k0_pay71 (F := Ideal) (v48 m c t) (v50 m c t) (v56 m c t) (v71 m c t) (v73 m c t) (v75 m c t) (v92 m c t) : FVec Ideal S256x512 .f32) (ix2 r k) =
    (Rw m c (row t r)).dyp (Wt m c) k :=
  (k_dyp _ _ _ _ _ _ _ r k).trans (Finset.sum_congr rfl fun j _ => congrArg₂ _ (v118_eq m c t r j) (v48_eq m c t k j))
theorem do_eq (r : Fin 256) (k : Fin 512) : (k0_pay78 (F := Ideal) (k0_pay38 (iblk m c 3 t)) (v119 m c t) : FVec Ideal S256x512 .f32) (ix2 r k) = (Rw m c (row t r)).dO (Wt m c) k := by
  refine (k_do _ _ r k).trans (congrArg₂ _ (v119_eq m c t r k) ?_)
  rw [k_sil, blk_g]
  rfl
theorem dga_eq (r : Fin 256) (k : Fin 512) : (k0_pay79 (F := Ideal) (iblk m c 2 t) (k0_pay39 (iblk m c 3 t)) (v119 m c t) : FVec Ideal S256x512 .bf16) (ix2 r k) = (Rw m c (row t r)).dga (Wt m c) k := by
  refine (k_dga _ _ _ r k).trans (congrArg₂ _ (congrArg₂ _ (v119_eq m c t r k) (blk_o m c t r k)) ?_)
  rw [k_dsil, blk_g]
  rfl
theorem prod_eq (r : Fin 256) (k : Fin 512) : (k0_pay80 (F := Ideal) (iblk m c 2 t) (k0_pay38 (iblk m c 3 t)) (v119 m c t) : FVec Ideal S256x512 .f32) (ix2 r k) =
    (Rw m c (row t r)).dO (Wt m c) k * (Rw m c (row t r)).o k := by
  refine (k_prod _ _ _ r k).trans (congrArg₂ _ (congrArg₂ _ (v119_eq m c t r k) ?_) (blk_o m c t r k))
  rw [k_sil, blk_g]
  rfl
theorem dza_eq (r : Fin 256) (j : Fin 1024) : (k0_pay76 (F := Ideal) (v51 m c t) (v55 m c t) (v114 m c t) : FVec Ideal S256x1024 .bf16) (ix2 r j) = (Rw m c (row t r)).dza (Wt m c) j := by
  refine (k_dza _ _ _ r j).trans ?_
  rw [v114_eq, v51_eq, v55_eq]
  rfl
theorem dzp_eq (r : Fin 256) (j : Fin 1024) : (k0_pay77 (F := Ideal) (v52 m c t) (v56 m c t) (v114 m c t) : FVec Ideal S256x1024 .bf16) (ix2 r j) = (Rw m c (row t r)).dzp (Wt m c) j := by
  refine (k_dzp _ _ _ r j).trans ?_
  rw [v114_eq, v52_eq, v56_eq]
  rfl

/-! The sums over the rows, a block at a time. -/
theorem acc_wo (v : FVec Ideal S1024x1024 .f32) (i j : Fin 1024) : (k0_pay72 (F := Ideal) (v60 m c t) (v71 m c t) (v73 m c t) (v75 m c t) (v92 m c t) v : FVec Ideal S1024x1024 .f32) (ix2 i j) =
    v (ix2 i j) + ∑ r, (Rw m c (row t r)).mg (Wt m c) i * (Rw m c (row t r)).dh (Wt m c) j :=
  (k_gwo _ _ _ _ _ _ i j).trans (congrArg _ (Finset.sum_congr rfl fun r _ => congrArg₂ _ (v60_eq m c t r i) (dh_eq m c t r j)))
theorem acc_wa (v : FVec Ideal S512x1024 .f32) (k : Fin 512) (j : Fin 1024) :
    (k0_pay74 (F := Ideal) (k0_pay73 (v13 m c t) (v50 m c t) (v55 m c t) (v71 m c t) (v73 m c t) (v75 m c t) (v92 m c t) v) : FVec Ideal S512x1024 .f32) (ix2 k j) =
      v (ix2 k j) + ∑ r, (Rw m c (row t r)).ya k * (Rw m c (row t r)).da (Wt m c) j :=
  (k_gwa _ _ _ _ _ _ _ _ k j).trans (congrArg _ (Finset.sum_congr rfl fun r _ => congrArg₂ _ (v13_eq m c t r k) (da_eq m c t r j)))
theorem acc_wp (v : FVec Ideal S512x1024 .f32) (k : Fin 512) (j : Fin 1024) : (k0_pay75 (F := Ideal) (iblk m c 4 t) (v118 m c t) v : FVec Ideal S512x1024 .f32) (ix2 k j) =
    v (ix2 k j) + ∑ r, (Rw m c (row t r)).y k * (Rw m c (row t r)).dp (Wt m c) j :=
  (k_gwp _ _ _ k j).trans (congrArg _ (Finset.sum_congr rfl fun r _ => congrArg₂ _ (blk_y m c t r k) (v118_eq m c t r j)))
theorem acc_nf (v : FVec Ideal S1x1024 .f32) (j : Fin 1024) : (k0_pay64 (F := Ideal) (v75 m c t) (v92 m c t) (k0_pay63 v) : FVec Ideal S1x1024 .f32) (ix2 0 j) =
    v (ix2 0 j) + ∑ r, (Rw m c (row t r)).dy (Wt m c) j * (Rw m c (row t r)).hr (Wt m c) j :=
  (k_gnf _ _ _ j).trans (congrArg _ (Finset.sum_congr rfl fun r _ => congrArg₂ _ (v92_eq m c t r j) (v75_eq m c t r j)))
theorem acc_loss (v : FVec Ideal S8x128 .f32) (i : Fin 8) (l : Fin 128) :
    (k0_pay61 (F := Ideal) (v50 m c t) (v51 m c t) (v52 m c t) (v54 m c t) (iblk m c 0 t) (iblk m c 9 t) (iblk m c 1 t) v : FVec Ideal S8x128 .f32) (ix2 i l) =
      v (ix2 i l) + Ideal.ofBits .f32 0x3A000000#32 * ∑ r : Fin 256, ∑ j, (Rw m c (row t r)).e (Wt m c) j * (Rw m c (row t r)).e (Wt m c) j :=
  (k_loss _ _ _ _ _ _ _ _ i l).trans (congrArg _ (congrArg _ (Finset.sum_congr rfl fun r _ => Finset.sum_congr rfl fun j _ => congrArg₂ _ (e_eq m c t r j) (e_eq m c t r j))))
end Vals

theorem sum_rows (f : Fin 4096 → EReal) : 0 + ∑ t : Fin cfg0.N, ∑ r : Fin 256, f (row t r) = ∑ a, f a :=
  (zero_add _).trans (Fin.sum_mul_add_congr (S := cfg0.N) (n := 256) (L := 4096) (F := fun t r => f (row t r)) (f := f) (fun t r hl => rfl) (congrArg (· * 256) N_0).symm)
end Cert.TailV
end
-- ==== Proof.TailAcc.lean ====
/- The kernel's sums over the grid: what the accumulators hold after the last point. -/
module

public import proofs.«01_k».proof.Proof.TailHost

@[expose] public section

set_option maxRecDepth 16384

noncomputable section

open Idealize.ShloMosaic Idealize.ShloMosaic.TcCoe Idealize.SL.Sem
open scoped BigOperators

namespace Cert.TailV
open Cert.TailIdeal Cert.TailIdeal.Gen Cert.Lift

variable (m : (ℓ : Loc nD τ sig) → Buf (Elt Ideal) ℓ)

set_option maxHeartbeats 4000000 in
theorem last_wo (c : Dev nD) (t : Fin cfg0.N) (ht : t.val + 1 = cfg0.N) (i j : Fin 1024) :
    ((outsAt0 m c t.val t.isLt).2.2.2.2.2.2.2.2.2.2.2.1 : FVec Ideal S1024x1024 .f32) (ix2 i j) = ∑ a, (Rw m c a).mg (Wt m c) i * (Rw m c a).dh (Wt m c) j := by
  refine (Pipeline.eq_sum_fin_of_reset_step_apply_last (fun n h (_ : Unit) => ((outsAt0 m c n h).2.2.2.2.2.2.2.2.2.2.2.1 : FVec Ideal S1024x1024 .f32) (ix2 i j)) 16 (fun _ => 0)
    (fun t _ => ∑ r : Fin 256, (Rw m c (row t r)).mg (Wt m c) i * (Rw m c (row t r)).dh (Wt m c) j) (fun t h0 _ => ?_) (fun t h0 _ => ?_) (le_of_eq N_0) t ht ()).trans ?_
  · rw [outsAt0_A m c t h0 (by omega)]
    frame_out
    refine (acc_wo m c t _ i j).trans ?_
    pointwise [k0_pay33]
  · by_cases h1 : t.val % 16 = 15
    · rw [outsAt0_C m c t h0 h1]
      frame_out
      refine (acc_wo m c t _ i j).trans ?_
      rw [read_unread_whole]
    · rw [outsAt0_B m c t h0 h1]
      frame_out
      refine (acc_wo m c t _ i j).trans ?_
      rw [read_unread_whole]
  · exact sum_rows fun a => (Rw m c a).mg (Wt m c) i * (Rw m c a).dh (Wt m c) j
set_option maxHeartbeats 4000000 in
theorem last_wa (c : Dev nD) (t : Fin cfg0.N) (ht : t.val + 1 = cfg0.N) (k : Fin 512) (j : Fin 1024) :
    ((outsAt0 m c t.val t.isLt).2.2.2.2.2.2.2.2.2.2.2.2.1 : FVec Ideal S512x1024 .f32) (ix2 k j) = ∑ a, (Rw m c a).ya k * (Rw m c a).da (Wt m c) j := by
  refine (Pipeline.eq_sum_fin_of_reset_step_apply_last (fun n h (_ : Unit) => ((outsAt0 m c n h).2.2.2.2.2.2.2.2.2.2.2.2.1 : FVec Ideal S512x1024 .f32) (ix2 k j)) 16 (fun _ => 0)
    (fun t _ => ∑ r : Fin 256, (Rw m c (row t r)).ya k * (Rw m c (row t r)).da (Wt m c) j) (fun t h0 _ => ?_) (fun t h0 _ => ?_) (le_of_eq N_0) t ht ()).trans ?_
  · rw [outsAt0_A m c t h0 (by omega)]
    frame_out
    refine (acc_wa m c t _ k j).trans ?_
    pointwise [k0_pay34]
  · by_cases h1 : t.val % 16 = 15
    · rw [outsAt0_C m c t h0 h1]
      frame_out
      refine (acc_wa m c t _ k j).trans ?_
      rw [read_unread_whole]
    · rw [outsAt0_B m c t h0 h1]
      frame_out
      refine (acc_wa m c t _ k j).trans ?_
      rw [read_unread_whole]
  · exact sum_rows fun a => (Rw m c a).ya k * (Rw m c a).da (Wt m c) j
set_option maxHeartbeats 4000000 in
theorem last_wp (c : Dev nD) (t : Fin cfg0.N) (ht : t.val + 1 = cfg0.N) (k : Fin 512) (j : Fin 1024) :
    ((outsAt0 m c t.val t.isLt).2.2.2.2.2.2.2.2.2.2.2.2.2 : FVec Ideal S512x1024 .f32) (ix2 k j) = ∑ a, (Rw m c a).y k * (Rw m c a).dp (Wt m c) j := by
  refine (Pipeline.eq_sum_fin_of_reset_step_apply_last (fun n h (_ : Unit) => ((outsAt0 m c n h).2.2.2.2.2.2.2.2.2.2.2.2.2 : FVec Ideal S512x1024 .f32) (ix2 k j)) 16 (fun _ => 0)
    (fun t _ => ∑ r : Fin 256, (Rw m c (row t r)).y k * (Rw m c (row t r)).dp (Wt m c) j) (fun t h0 _ => ?_) (fun t h0 _ => ?_) (le_of_eq N_0) t ht ()).trans ?_
  · rw [outsAt0_A m c t h0 (by omega)]
    frame_out
    refine (acc_wp m c t _ k j).trans ?_
    pointwise [k0_pay35]
  · by_cases h1 : t.val % 16 = 15
    · rw [outsAt0_C m c t h0 h1]
      frame_out
      refine (acc_wp m c t _ k j).trans ?_
      rw [read_unread_whole]
    · rw [outsAt0_B m c t h0 h1]
      frame_out
      refine (acc_wp m c t _ k j).trans ?_
      rw [read_unread_whole]
  · exact sum_rows fun a => (Rw m c a).y k * (Rw m c a).dp (Wt m c) j
set_option maxHeartbeats 4000000 in
theorem last_nf (c : Dev nD) (t : Fin cfg0.N) (ht : t.val + 1 = cfg0.N) (j : Fin 1024) :
    ((outsAt0 m c t.val t.isLt).2.2.2.2.2.2.2.2.2.2.1 : FVec Ideal S1x1024 .f32) (ix2 0 j) = ∑ a, (Rw m c a).dy (Wt m c) j * (Rw m c a).hr (Wt m c) j := by
  refine (Pipeline.eq_sum_fin_of_reset_step_apply_last (fun n h (_ : Unit) => ((outsAt0 m c n h).2.2.2.2.2.2.2.2.2.2.1 : FVec Ideal S1x1024 .f32) (ix2 0 j)) 16 (fun _ => 0)
    (fun t _ => ∑ r : Fin 256, (Rw m c (row t r)).dy (Wt m c) j * (Rw m c (row t r)).hr (Wt m c) j) (fun t h0 _ => ?_) (fun t h0 _ => ?_) (le_of_eq N_0) t ht ()).trans ?_
  · rw [outsAt0_A m c t h0 (by omega)]
    frame_out
    refine (acc_nf m c t _ j).trans ?_
    pointwise [k0_pay36]
  · by_cases h1 : t.val % 16 = 15
    · rw [outsAt0_C m c t h0 h1]
      frame_out
      exact acc_nf m c t _ j
    · rw [outsAt0_B m c t h0 h1]
      frame_out
      exact acc_nf m c t _ j
  · exact sum_rows fun a => (Rw m c a).dy (Wt m c) j * (Rw m c a).hr (Wt m c) j

/-- The row's share of the loss is a real number. -/
theorem err_real (c : Dev nD) (H : ∀ a, Row.Fin' (Rw m c a) (Wt m c)) (a : Fin 4096) : Pool.R (∑ j, (Rw m c a).e (Wt m c) j * (Rw m c a).e (Wt m c) j) :=
  Pool.R.sum _ fun j => (Row.R_e (H a) j).mul (Row.R_e (H a) j)
/-- A block's share of the loss, row by row. -/
theorem half_mean (f : Fin 256 → EReal) (hf : ∀ r, Pool.R (f r)) :
    Ideal.ofBits .f32 0x3A000000#32 * ∑ r, f r = ∑ r, Ideal.ofBits .f32 0x3F000000#32 * Ideal.div (f r) (Ideal.ofBits .f32 0x44800000#32) := by
  choose T hT using hf
  simp only [hT, Row.lit_r2048, Row.lit_half, lit_1024, div_coe _ (by norm_num : (1024 : ℝ) ≠ 0), ← EReal.coe_mul, coe_sum]
  refine congrArg _ ((Finset.mul_sum _ _ _).trans (Finset.sum_congr rfl fun r _ => ?_))
  ring
theorem half_mul_sum (f : Fin 4096 → EReal) (hf : ∀ a, Pool.R (f a)) :
    ∑ a, Ideal.ofBits .f32 0x3F000000#32 * Ideal.div (f a) (Ideal.ofBits .f32 0x44800000#32) = Ideal.ofBits .f32 0x3F000000#32 * ∑ a, Ideal.div (f a) (Ideal.ofBits .f32 0x44800000#32) := by
  choose T hT using hf
  simp only [hT, Row.lit_half, lit_1024, div_coe _ (by norm_num : (1024 : ℝ) ≠ 0), ← EReal.coe_mul, coe_sum]
  exact congrArg _ (Finset.mul_sum _ _ _).symm
set_option maxHeartbeats 4000000 in
theorem last_loss (c : Dev nD) (t : Fin cfg0.N) (ht : t.val + 1 = cfg0.N) (H : ∀ a, Row.Fin' (Rw m c a) (Wt m c)) (i : Fin 8) (l : Fin 128) :
    ((outsAt0 m c t.val t.isLt).1 : FVec Ideal S8x128 .f32) (ix2 i l) = ∑ a, Ideal.ofBits .f32 0x3F000000#32 * Ideal.div (∑ j, (Rw m c a).e (Wt m c) j * (Rw m c a).e (Wt m c) j) (Ideal.ofBits .f32 0x44800000#32) := by
  refine (Pipeline.eq_sum_fin_of_reset_step_apply_last (fun n h (_ : Unit) => ((outsAt0 m c n h).1 : FVec Ideal S8x128 .f32) (ix2 i l)) 16 (fun _ => 0)
    (fun t _ => ∑ r : Fin 256, Ideal.ofBits .f32 0x3F000000#32 * Ideal.div (∑ j, (Rw m c (row t r)).e (Wt m c) j * (Rw m c (row t r)).e (Wt m c) j) (Ideal.ofBits .f32 0x44800000#32)) (fun t h0 _ => ?_) (fun t h0 _ => ?_) (le_of_eq N_0) t ht ()).trans ?_
  · rw [outsAt0_A m c t h0 (by omega)]
    frame_out
    refine (acc_loss m c t _ i l).trans ?_
    rw [half_mean _ fun r => err_real m c H (row t r)]
    pointwise [k0_pay32]
  · by_cases h1 : t.val % 16 = 15
    · rw [outsAt0_C m c t h0 h1]
      frame_out
      exact (acc_loss m c t _ i l).trans (congrArg _ (half_mean _ fun r => err_real m c H (row t r)))
    · rw [outsAt0_B m c t h0 h1]
      frame_out
      exact (acc_loss m c t _ i l).trans (congrArg _ (half_mean _ fun r => err_real m c H (row t r)))
  · exact sum_rows fun a => Ideal.ofBits .f32 0x3F000000#32 * Ideal.div (∑ j, (Rw m c a).e (Wt m c) j * (Rw m c a).e (Wt m c) j) (Ideal.ofBits .f32 0x44800000#32)
end Cert.TailV
end
-- ==== Proof.TailFin.lean ====
/- What the kernel leaves in its results, against the reference's. -/
module

public import proofs.«01_k».proof.Proof.TailAcc

@[expose] public section

set_option maxRecDepth 16384

noncomputable section

open Idealize.ShloMosaic Idealize.ShloMosaic.TcCoe Idealize.SL.Sem
open scoped BigOperators

namespace Cert.TailV
open Cert.TailIdeal Cert.TailIdeal.Gen Cert.Lift

variable (m : (ℓ : Loc nD τ sig) → Buf (Elt Ideal) ℓ)

/-- One store of columns `o` to `o + n` of a block, read back at the block's own indices. -/
theorem piece {o n W : ℕ} (P : FVec Ideal ⟨2, ![256, n]⟩ .bf16) (inb : ∀ a, (![0, o] : Fin 2 → ℕ) a + (![256, n] : Fin 2 → ℕ) a ≤ (⟨2, ![256, W]⟩ : Shape).size a) (G : Fin 256 → Fin W → EReal)
    (h : ∀ (r : Fin 256) (l : Fin n), P (ix2 r l) = G r ⟨o + l.val, by have h1 : o + n ≤ W := inb 1; have := l.isLt; omega⟩) (x : (Rect.unit (s := ⟨2, ![256, W]⟩) ![0, o] ![256, n] inb).shape.Idx) :
    P x = G ((Rect.unit (s := ⟨2, ![256, W]⟩) ![0, o] ![256, n] inb).emb x 0) ((Rect.unit (s := ⟨2, ![256, W]⟩) ![0, o] ![256, n] inb).emb x 1) := by
  have e0 := Rect.idx_unit_val (s := ⟨2, ![256, W]⟩) ![0, o] ![256, n] inb x 0
  have e1 := Rect.idx_unit_val (s := ⟨2, ![256, W]⟩) ![0, o] ![256, n] inb x 1
  have hx : x = ix2 (x 0) (x 1) := by
    funext a
    fin_cases a <;> rfl
  refine (congrArg P hx).trans ((h (x 0) (x 1)).trans (congrArg₂ G (Fin.ext ?_) (Fin.ext ?_)))
  · exact (e0.trans (Nat.zero_add _)).symm
  · exact e1.symm
/-- One store of a row of the first two axes. -/
theorem piece3 {A B C i b q : ℕ} {e : FTy} (P : FVec Ideal ⟨3, ![1, q, C]⟩ e) (inb : ∀ a, (![i, b, 0] : Fin 3 → ℕ) a + (![1, q, C] : Fin 3 → ℕ) a ≤ (⟨3, ![A, B, C]⟩ : Shape).size a)
    (G : Fin A → Fin B → Fin C → EReal)
    (h : ∀ (k : Fin q) (l : Fin C), P (ix3 0 k l) = G ⟨i, by have h1 : i + 1 ≤ A := inb 0; omega⟩ ⟨b + k.val, by have h1 : b + q ≤ B := inb 1; have := k.isLt; omega⟩ l)
    (x : (Rect.unit (s := ⟨3, ![A, B, C]⟩) ![i, b, 0] ![1, q, C] inb).shape.Idx) :
    P x = G ((Rect.unit (s := ⟨3, ![A, B, C]⟩) ![i, b, 0] ![1, q, C] inb).emb x 0) ((Rect.unit (s := ⟨3, ![A, B, C]⟩) ![i, b, 0] ![1, q, C] inb).emb x 1)
      ((Rect.unit (s := ⟨3, ![A, B, C]⟩) ![i, b, 0] ![1, q, C] inb).emb x 2) := by
  have e0 := Rect.idx_unit_val (s := ⟨3, ![A, B, C]⟩) ![i, b, 0] ![1, q, C] inb x 0
  have e1 := Rect.idx_unit_val (s := ⟨3, ![A, B, C]⟩) ![i, b, 0] ![1, q, C] inb x 1
  have e2 := Rect.idx_unit_val (s := ⟨3, ![A, B, C]⟩) ![i, b, 0] ![1, q, C] inb x 2
  have x0 : (x 0).val < 1 := (x 0).isLt
  have hx : x = ix3 0 (x 1) (x 2) := by
    funext a
    fin_cases a
    · exact Fin.ext (Nat.lt_one_iff.mp x0)
    · rfl
    · rfl
  have g0 : (⟨i, by have h1 : i + 1 ≤ A := inb 0; omega⟩ : Fin A) = (Rect.unit (s := ⟨3, ![A, B, C]⟩) ![i, b, 0] ![1, q, C] inb).emb x 0 :=
    Fin.ext (by refine Eq.trans ?_ e0.symm; show i = i + (x 0).val; omega)
  have g1 : (⟨b + (x 1).val, by have h1 : b + q ≤ B := inb 1; have h2 : (x 1).val < q := (x 1).isLt; omega⟩ : Fin B) = (Rect.unit (s := ⟨3, ![A, B, C]⟩) ![i, b, 0] ![1, q, C] inb).emb x 1 :=
    Fin.ext e1.symm
  have g2 : (x 2 : Fin C) = (Rect.unit (s := ⟨3, ![A, B, C]⟩) ![i, b, 0] ![1, q, C] inb).emb x 2 := Fin.ext (e2.trans (Nat.zero_add _)).symm
  refine (congrArg P hx).trans ((h (x 1) (x 2)).trans ?_)
  exact congr (congr (congrArg G g0) g1) g2

/-- Rows `j * 128` to `j * 128 + 128` of a sum, stored as part `j` of the output projection's gradient. -/
theorem part_o {κ : Kind} {sp : Space} (v : View sig κ sp S1024x1024 .f32) (S : FVec Ideal S1024x1024 .f32) (j o : ℕ) (ho : o = j * 128) (P : FVec Ideal S128x1024 .f32 → FVec Ideal S1x128x1024 .bf16)
    (hP : ∀ w i l, P w (ix3 0 i l) = w (ix2 i l)) (inb : ∀ a, (![j, 0, 0] : Fin 3 → ℕ) a + (![1, 128, 1024] : Fin 3 → ℕ) a ≤ S8x128x1024.size a)
    (inb' : ∀ a, (![o, 0] : Fin 2 → ℕ) a + (![128, 1024] : Fin 2 → ℕ) a ≤ S1024x1024.size a) (x : (Rect.unit (s := S8x128x1024) ![j, 0, 0] ![1, 128, 1024] inb).shape.Idx) :
    P (v.readCov (Val := Elt Ideal) [⟨Rect.unit ![0, 0] ![1024, 1024] inb_S1024x1024_S1024x1024_0_0, S⟩] (Rect.unit (s := S1024x1024) ![o, 0] ![128, 1024] inb').toLoadRect) x =
      (fun (s : Fin 8) (i : Fin 128) (l : Fin 1024) => S (ix2 ⟨s.val * 128 + i.val, by omega⟩ l)) ((Rect.unit (s := S8x128x1024) ![j, 0, 0] ![1, 128, 1024] inb).emb x 0)
        ((Rect.unit (s := S8x128x1024) ![j, 0, 0] ![1, 128, 1024] inb).emb x 1) ((Rect.unit (s := S8x128x1024) ![j, 0, 0] ![1, 128, 1024] inb).emb x 2) := by
  refine piece3 (A := 8) (B := 128) (C := 1024) (q := 128) (b := 0) _ inb (fun (s : Fin 8) (i : Fin 128) (l : Fin 1024) => S (ix2 ⟨s.val * 128 + i.val, by omega⟩ l)) (fun k l => ?_) x
  refine (hP _ k l).trans ?_
  have e := View.readCov_fill (Val := Elt Ideal) (s := S1024x1024) (e := .f32) v (off := ![0, 0]) inb_S1024x1024_S1024x1024_0_0 S [] (Rect.unit ![o, 0] ![128, 1024] inb') (by decide)
  refine (congrFun e (ix2 k l)).trans ?_
  refine View.ld_unit_apply_of (Val := Elt Ideal) (S := S1024x1024) (e := .f32) S ![o, 0] ![128, 1024] inb' (ix2 k l) _ fun a => ?_
  fin_cases a
  · show j * 128 + (0 + k.val) = o + k.val
    omega
  · exact (Nat.zero_add _).symm
/-- Columns `j * 128` to `j * 128 + 128` of a sum, stored as part `j` of a branch's projection's gradient. -/
theorem part_c {κ : Kind} {sp : Space} (v : View sig κ sp S512x1024 .f32) (S : FVec Ideal S512x1024 .f32) (j o : ℕ) (ho : o = j * 128) (P : FVec Ideal S512x128 .f32 → FVec Ideal S1x512x128 .bf16)
    (hP : ∀ w i l, P w (ix3 0 i l) = w (ix2 i l)) (inb : ∀ a, (![j, 0, 0] : Fin 3 → ℕ) a + (![1, 512, 128] : Fin 3 → ℕ) a ≤ S8x512x128.size a)
    (inb' : ∀ a, (![0, o] : Fin 2 → ℕ) a + (![512, 128] : Fin 2 → ℕ) a ≤ S512x1024.size a) (x : (Rect.unit (s := S8x512x128) ![j, 0, 0] ![1, 512, 128] inb).shape.Idx) :
    P (v.readCov (Val := Elt Ideal) [⟨Rect.unit ![0, 0] ![512, 1024] inb_S512x1024_S512x1024_0_0, S⟩] (Rect.unit (s := S512x1024) ![0, o] ![512, 128] inb').toLoadRect) x =
      (fun (s : Fin 8) (k : Fin 512) (l : Fin 128) => S (ix2 k (col s l))) ((Rect.unit (s := S8x512x128) ![j, 0, 0] ![1, 512, 128] inb).emb x 0)
        ((Rect.unit (s := S8x512x128) ![j, 0, 0] ![1, 512, 128] inb).emb x 1) ((Rect.unit (s := S8x512x128) ![j, 0, 0] ![1, 512, 128] inb).emb x 2) := by
  refine piece3 (A := 8) (B := 512) (C := 128) (q := 512) (b := 0) _ inb (fun (s : Fin 8) (k : Fin 512) (l : Fin 128) => S (ix2 k (col s l))) (fun k l => ?_) x
  refine (hP _ k l).trans ?_
  have e := View.readCov_fill (Val := Elt Ideal) (s := S512x1024) (e := .f32) v (off := ![0, 0]) inb_S512x1024_S512x1024_0_0 S [] (Rect.unit ![0, o] ![512, 128] inb') (by decide)
  refine (congrFun e (ix2 k l)).trans ?_
  refine View.ld_unit_apply_of (Val := Elt Ideal) (S := S512x1024) (e := .f32) S ![0, o] ![512, 128] inb' (ix2 k l) _ fun a => ?_
  fin_cases a
  · show 0 + k.val = 0 + k.val
    rfl
  · show j * 128 + l.val = o + l.val
    omega

section Final
open Cert.TailRefIdeal.Read (val_main_v105 val_main_v106 val_main_v108 val_main_v109 val_main_v111 val_main_v113 val_main_v114 val_main_v116 val_main_v119 val_main_v122 val_main_v123)

/-! The eleven results, as the reference has them. -/
abbrev GLoss (c : Dev nD) : FVec Ideal S8x128 .f32 := val_main_v105 (F := Ideal) (X0 m c) (X1 m c) (X2 m c) (X3 m c) (X4 m c) (X5 m c) (X6 m c) (X7 m c) (X8 m c) (X9 m c)
abbrev GDh (c : Dev nD) : FVec Ideal S4096x1024 .f32 := val_main_v106 (F := Ideal) (X0 m c) (X1 m c) (X2 m c) (X3 m c) (X4 m c) (X5 m c) (X6 m c) (X7 m c) (X8 m c) (X9 m c)
abbrev GDgm (c : Dev nD) : FVec Ideal S4096x2048 .bf16 := val_main_v108 (F := Ideal) (X0 m c) (X1 m c) (X2 m c) (X3 m c) (X4 m c) (X5 m c) (X6 m c) (X7 m c) (X8 m c) (X9 m c)
abbrev GDo (c : Dev nD) : FVec Ideal S4096x1024 .bf16 := val_main_v109 (F := Ideal) (X0 m c) (X1 m c) (X2 m c) (X3 m c) (X4 m c) (X5 m c) (X6 m c) (X7 m c) (X8 m c) (X9 m c)
abbrev GDga (c : Dev nD) : FVec Ideal S4096x512 .bf16 := val_main_v111 (F := Ideal) (X0 m c) (X1 m c) (X2 m c) (X3 m c) (X4 m c) (X5 m c) (X6 m c) (X7 m c) (X8 m c) (X9 m c)
abbrev GDc (c : Dev nD) : FVec Ideal S4x2x4096 .f32 := val_main_v113 (F := Ideal) (X0 m c) (X1 m c) (X2 m c) (X3 m c) (X4 m c) (X5 m c) (X6 m c) (X7 m c) (X8 m c) (X9 m c)
abbrev GDyp (c : Dev nD) : FVec Ideal S4096x512 .f32 := val_main_v114 (F := Ideal) (X0 m c) (X1 m c) (X2 m c) (X3 m c) (X4 m c) (X5 m c) (X6 m c) (X7 m c) (X8 m c) (X9 m c)
abbrev GWo (c : Dev nD) : FVec Ideal S8x128x1024 .bf16 := val_main_v116 (F := Ideal) (X0 m c) (X1 m c) (X2 m c) (X3 m c) (X4 m c) (X5 m c) (X6 m c) (X7 m c) (X8 m c) (X9 m c)
abbrev GWa (c : Dev nD) : FVec Ideal S8x512x128 .bf16 := val_main_v119 (F := Ideal) (X0 m c) (X1 m c) (X2 m c) (X3 m c) (X4 m c) (X5 m c) (X6 m c) (X7 m c) (X8 m c) (X9 m c)
abbrev GWp (c : Dev nD) : FVec Ideal S8x512x128 .bf16 := val_main_v122 (F := Ideal) (X0 m c) (X1 m c) (X2 m c) (X3 m c) (X4 m c) (X5 m c) (X6 m c) (X7 m c) (X8 m c) (X9 m c)
abbrev GNf (c : Dev nD) : FVec Ideal S1x1024 .f32 := val_main_v123 (F := Ideal) (X0 m c) (X1 m c) (X2 m c) (X3 m c) (X4 m c) (X5 m c) (X6 m c) (X7 m c) (X8 m c) (X9 m c)

/-- The rows and the weights are real. -/
abbrev Real (c : Dev nD) : Prop := ∀ a, Row.Fin' (Rw m c a) (Wt m c)

theorem final_dh (c : Dev nD) (H : Real m c) : (dats m 0 c).arrAt 11 (cfgs 0).N = GDh m c := by
  refine (dats m 0 c).arrAt_eq_of_covers 11 _ (by decide +kernel) fun t _ y => ?_
  have key : ∀ y : S256x1024.Idx, (k0_pay65 (F := Ideal) (v71 m c t) (v73 m c t) (v75 m c t) (v92 m c t) : FVec Ideal S256x1024 .f32) y = GDh m c ((win0_11.blk t).view.emb y) := fun y => by
    idx_vars y
    refine (dh_eq m c t _ _).trans ((out_dh (X0 m c) (X1 m c) (X2 m c) (X3 m c) (X4 m c) (X5 m c) (X6 m c) (X7 m c) (X8 m c) (X9 m c) H _ _).symm.trans ?_)
    blk_ext [idx t, row]
  blk_simp
  rw [after0_11]
  by_cases h0 : t.val % 16 = 0
  · rw [outsAt0_A m c t h0 (by omega)]
    frame_out
    exact key y
  by_cases h1 : t.val % 16 = 15
  · rw [outsAt0_C m c t h0 h1]
    frame_out
    exact key y
  · rw [outsAt0_B m c t h0 h1]
    frame_out
    exact key y
theorem final_dga (c : Dev nD) (H : Real m c) : (dats m 0 c).arrAt 14 (cfgs 0).N = GDga m c := by
  refine (dats m 0 c).arrAt_eq_of_covers 14 _ (by decide +kernel) fun t _ y => ?_
  have key : ∀ y : S256x512.Idx, (k0_pay79 (F := Ideal) (iblk m c 2 t) (k0_pay39 (iblk m c 3 t)) (v119 m c t) : FVec Ideal S256x512 .bf16) y = GDga m c ((win0_14.blk t).view.emb y) := fun y => by
    idx_vars y
    refine (dga_eq m c t _ _).trans ((out_dga (X0 m c) (X1 m c) (X2 m c) (X3 m c) (X4 m c) (X5 m c) (X6 m c) (X7 m c) (X8 m c) (X9 m c) H _ _).symm.trans ?_)
    blk_ext [idx t, row]
  blk_simp
  rw [after0_14]
  by_cases h0 : t.val % 16 = 0
  · rw [outsAt0_A m c t h0 (by omega)]
    frame_out
    exact key y
  by_cases h1 : t.val % 16 = 15
  · rw [outsAt0_C m c t h0 h1]
    frame_out
    exact key y
  · rw [outsAt0_B m c t h0 h1]
    frame_out
    exact key y
theorem final_dyp (c : Dev nD) (H : Real m c) : (dats m 0 c).arrAt 16 (cfgs 0).N = GDyp m c := by
  refine (dats m 0 c).arrAt_eq_of_covers 16 _ (by decide +kernel) fun t _ y => ?_
  have key : ∀ y : S256x512.Idx, (k0_pay71 (F := Ideal) (v48 m c t) (v50 m c t) (v56 m c t) (v71 m c t) (v73 m c t) (v75 m c t) (v92 m c t) : FVec Ideal S256x512 .f32) y = GDyp m c ((win0_16.blk t).view.emb y) := fun y => by
    idx_vars y
    refine (dyp_eq m c t _ _).trans ((out_dyp (X0 m c) (X1 m c) (X2 m c) (X3 m c) (X4 m c) (X5 m c) (X6 m c) (X7 m c) (X8 m c) (X9 m c) H _ _).symm.trans ?_)
    blk_ext [idx t, row]
  blk_simp
  rw [after0_16]
  by_cases h0 : t.val % 16 = 0
  · rw [outsAt0_A m c t h0 (by omega)]
    frame_out
    exact key y
  by_cases h1 : t.val % 16 = 15
  · rw [outsAt0_C m c t h0 h1]
    frame_out
    exact key y
  · rw [outsAt0_B m c t h0 h1]
    frame_out
    exact key y
end Final
end Cert.TailV
end
-- ==== Proof.TailPack.lean ====
/- The results the kernel writes by columns or by heads, against the reference's. -/
module

public import proofs.«01_k».proof.Proof.TailFin

@[expose] public section

set_option maxRecDepth 16384

noncomputable section

open Idealize.ShloMosaic Idealize.ShloMosaic.TcCoe Idealize.SL.Sem
open scoped BigOperators

namespace Cert.TailV
open Cert.TailIdeal Cert.TailIdeal.Gen Cert.Lift

variable (m : (ℓ : Loc nD τ sig) → Buf (Elt Ideal) ℓ)

section Final

theorem dc_point (c : Dev nD) (H : Real m c) (t : Fin cfg0.N) (i : Fin 4) (b : Fin 2) (o : ℕ) (ho : o = (i.val * 2 + b.val) * 64) (h : o + 64 ≤ 512) (r : Fin 256) :
    half (k0_pay80 (F := Ideal) (iblk m c 2 t) (k0_pay38 (iblk m c 3 t)) (v119 m c t)) r o h = GDc m c (ix3 i b (row t r)) := by
  subst ho
  exact (Finset.sum_congr rfl fun d _ => prod_eq m c t r _).trans (out_dcap (X0 m c) (X1 m c) (X2 m c) (X3 m c) (X4 m c) (X5 m c) (X6 m c) (X7 m c) (X8 m c) (X9 m c) H i b (row t r)).symm
theorem do_point (c : Dev nD) (H : Real m c) (t : Fin cfg0.N) (q p o : ℕ) (hp : p = q * 128) (ho : o = q * 64) (h : o + 64 ≤ 512) (r : Fin 256) (l : Fin 128) :
    head (k0_pay78 (F := Ideal) (k0_pay38 (iblk m c 3 t)) (v119 m c t)) o h r l = GDo m c (ix2 (row t r) ⟨p + l.val, by omega⟩) := by
  refine Eq.trans ?_ (out_doop (X0 m c) (X1 m c) (X2 m c) (X3 m c) (X4 m c) (X5 m c) (X6 m c) (X7 m c) (X8 m c) (X9 m c) H (row t r) ⟨p + l.val, by omega⟩).symm
  unfold head
  by_cases hl : l.val < 64
  · rw [dif_pos hl, dif_pos (by dsimp only; omega)]
  · rw [dif_neg hl, dif_neg (by dsimp only; omega)]
    exact (do_eq m c t r _).trans (congrArg _ (Fin.ext (by dsimp only; omega)))
set_option maxHeartbeats 4000000 in
theorem final_dgm (c : Dev nD) (H : Real m c) : (dats m 0 c).arrAt 12 (cfgs 0).N = GDgm m c := by
  refine (dats m 0 c).arrAt_eq_of_covers 12 _ (by decide +kernel) fun t _ y => ?_
  have e : ∀ y : S256x2048.Idx, GDgm m c ((win0_12.blk t).view.emb y) = GDgm m c (ix2 (row t (y 0)) (y 1)) := fun y => by
    idx_vars y
    blk_ext [idx t, row]
  have key : ∀ y : S256x2048.Idx, (View.canon (Val := Elt Ideal) (s := S256x2048) (e := .bf16) [⟨Rect.unit ![0, 1024] ![256, 1024] inb_S256x2048_S256x1024_0_1024, k0_pay77 (v52 m c t) (v56 m c t) (v114 m c t)⟩,
      ⟨Rect.unit ![0, 0] ![256, 1024] inb_S256x2048_S256x1024_0_0, k0_pay76 (v51 m c t) (v55 m c t) (v114 m c t)⟩] : FVec Ideal S256x2048 .bf16) y = GDgm m c ((win0_12.blk t).view.emb y) := fun y => by
    rw [e]
    refine View.canon_append_of_piecesOf (Val := Elt Ideal) (s := S256x2048) (e := .bf16) (fun y => GDgm m c (ix2 (row t (y 0)) (y 1))) [] [_, _] ?_ y ?_
    · refine ⟨fun x => ?_, fun x => ?_, trivial⟩
      · refine piece (o := 1024) (n := 1024) (W := 2048) (k0_pay77 _ _ _) inb_S256x2048_S256x1024_0_1024 (fun r k => GDgm m c (ix2 (row t r) k)) (fun r l => ?_) x
        refine (dzp_eq m c t r l).trans (Eq.trans ?_ (out_dgm (X0 m c) (X1 m c) (X2 m c) (X3 m c) (X4 m c) (X5 m c) (X6 m c) (X7 m c) (X8 m c) (X9 m c) H (row t r) ⟨1024 + l.val, by omega⟩).symm)
        rw [dif_neg (by dsimp only; omega)]
        exact congrArg _ (Fin.ext (by dsimp only; omega))
      · refine piece (o := 0) (n := 1024) (W := 2048) (k0_pay76 _ _ _) inb_S256x2048_S256x1024_0_0 (fun r k => GDgm m c (ix2 (row t r) k)) (fun r l => ?_) x
        refine (dza_eq m c t r l).trans (Eq.trans ?_ (out_dgm (X0 m c) (X1 m c) (X2 m c) (X3 m c) (X4 m c) (X5 m c) (X6 m c) (X7 m c) (X8 m c) (X9 m c) H (row t r) ⟨0 + l.val, by omega⟩).symm)
        rw [dif_pos (by dsimp only; omega)]
        exact congrArg _ (Fin.ext (by dsimp only; omega))
    · simp only [List.mem_cons, List.not_mem_nil, or_false, exists_eq_or_imp, exists_eq_left, Rect.mem_set_unit]
      simp only [Fin.forall_fin_two]
      have h0 : (y 0).val < 256 := (y 0).isLt
      have h1 : (y 1).val < 2048 := (y 1).isLt
      simp
      omega
  blk_simp
  rw [after0_12]
  by_cases h0 : t.val % 16 = 0
  · rw [outsAt0_A m c t h0 (by omega)]
    frame_out
    exact key y
  by_cases h1 : t.val % 16 = 15
  · rw [outsAt0_C m c t h0 h1]
    frame_out
    exact key y
  · rw [outsAt0_B m c t h0 h1]
    frame_out
    exact key y
set_option maxHeartbeats 4000000 in
theorem final_do (c : Dev nD) (H : Real m c) : (dats m 0 c).arrAt 13 (cfgs 0).N = GDo m c := by
  refine (dats m 0 c).arrAt_eq_of_covers 13 _ (by decide +kernel) fun t _ y => ?_
  have e : ∀ y : S256x1024.Idx, GDo m c ((win0_13.blk t).view.emb y) = GDo m c (ix2 (row t (y 0)) (y 1)) := fun y => by
    idx_vars y
    blk_ext [idx t, row]
  have key : ∀ y : S256x1024.Idx, (View.canon (Val := Elt Ideal) (s := S256x1024) (e := .bf16) [⟨Rect.unit ![0, 896] ![256, 128] inb_S256x1024_S256x128_0_896, k0_pay4 k0_pay81 (k0_pay106 (k0_pay78 (F := Ideal) (k0_pay38 (iblk m c 3 t)) (v119 m c t)))⟩,
      ⟨Rect.unit ![0, 768] ![256, 128] inb_S256x1024_S256x128_0_768, k0_pay3 k0_pay81 (k0_pay106 (k0_pay78 (F := Ideal) (k0_pay38 (iblk m c 3 t)) (v119 m c t)))⟩,
      ⟨Rect.unit ![0, 640] ![256, 128] inb_S256x1024_S256x128_0_640, k0_pay105 k0_pay81 (k0_pay99 (k0_pay78 (F := Ideal) (k0_pay38 (iblk m c 3 t)) (v119 m c t)))⟩,
      ⟨Rect.unit ![0, 512] ![256, 128] inb_S256x1024_S256x128_0_512, k0_pay104 k0_pay81 (k0_pay99 (k0_pay78 (F := Ideal) (k0_pay38 (iblk m c 3 t)) (v119 m c t)))⟩,
      ⟨Rect.unit ![0, 384] ![256, 128] inb_S256x1024_S256x128_0_384, k0_pay98 k0_pay81 (k0_pay90 (k0_pay78 (F := Ideal) (k0_pay38 (iblk m c 3 t)) (v119 m c t)))⟩,
      ⟨Rect.unit ![0, 256] ![256, 128] inb_S256x1024_S256x128_0_256, k0_pay97 k0_pay81 (k0_pay90 (k0_pay78 (F := Ideal) (k0_pay38 (iblk m c 3 t)) (v119 m c t)))⟩,
      ⟨Rect.unit ![0, 128] ![256, 128] inb_S256x1024_S256x128_0_128, k0_pay89 k0_pay81 (k0_pay82 (k0_pay38 (iblk m c 3 t)) (v119 m c t))⟩,
      ⟨Rect.unit ![0, 0] ![256, 128] inb_S256x1024_S256x128_0_0, k0_pay88 k0_pay81 (k0_pay82 (k0_pay38 (iblk m c 3 t)) (v119 m c t))⟩] : FVec Ideal S256x1024 .bf16) y = GDo m c ((win0_13.blk t).view.emb y) := fun y => by
    rw [e]
    refine View.canon_append_of_piecesOf (Val := Elt Ideal) (s := S256x1024) (e := .bf16) (fun y => GDo m c (ix2 (row t (y 0)) (y 1))) [] [_, _, _, _, _, _, _, _] ?_ y ?_
    · refine ⟨fun x => ?_, fun x => ?_, fun x => ?_, fun x => ?_, fun x => ?_, fun x => ?_, fun x => ?_, fun x => ?_, trivial⟩
      · exact piece (o := 896) (n := 128) (W := 1024) (k0_pay4 _ _) inb_S256x1024_S256x128_0_896 (fun r k => GDo m c (ix2 (row t r) k)) (fun r l => (k_o7 _ r l).trans (do_point m c H t 7 896 448 rfl rfl _ r l)) x
      · exact piece (o := 768) (n := 128) (W := 1024) (k0_pay3 _ _) inb_S256x1024_S256x128_0_768 (fun r k => GDo m c (ix2 (row t r) k)) (fun r l => (k_o6 _ r l).trans (do_point m c H t 6 768 384 rfl rfl _ r l)) x
      · exact piece (o := 640) (n := 128) (W := 1024) (k0_pay105 _ _) inb_S256x1024_S256x128_0_640 (fun r k => GDo m c (ix2 (row t r) k)) (fun r l => (k_o5 _ r l).trans (do_point m c H t 5 640 320 rfl rfl _ r l)) x
      · exact piece (o := 512) (n := 128) (W := 1024) (k0_pay104 _ _) inb_S256x1024_S256x128_0_512 (fun r k => GDo m c (ix2 (row t r) k)) (fun r l => (k_o4 _ r l).trans (do_point m c H t 4 512 256 rfl rfl _ r l)) x
      · exact piece (o := 384) (n := 128) (W := 1024) (k0_pay98 _ _) inb_S256x1024_S256x128_0_384 (fun r k => GDo m c (ix2 (row t r) k)) (fun r l => (k_o3 _ r l).trans (do_point m c H t 3 384 192 rfl rfl _ r l)) x
      · exact piece (o := 256) (n := 128) (W := 1024) (k0_pay97 _ _) inb_S256x1024_S256x128_0_256 (fun r k => GDo m c (ix2 (row t r) k)) (fun r l => (k_o2 _ r l).trans (do_point m c H t 2 256 128 rfl rfl _ r l)) x
      · exact piece (o := 128) (n := 128) (W := 1024) (k0_pay89 _ _) inb_S256x1024_S256x128_0_128 (fun r k => GDo m c (ix2 (row t r) k)) (fun r l => (k_o1 _ _ r l).trans (do_point m c H t 1 128 64 rfl rfl _ r l)) x
      · exact piece (o := 0) (n := 128) (W := 1024) (k0_pay88 _ _) inb_S256x1024_S256x128_0_0 (fun r k => GDo m c (ix2 (row t r) k)) (fun r l => (k_o0 _ _ r l).trans (do_point m c H t 0 0 0 rfl rfl _ r l)) x
    · simp only [List.mem_cons, List.not_mem_nil, or_false, exists_eq_or_imp, exists_eq_left, Rect.mem_set_unit]
      simp only [Fin.forall_fin_two]
      have h0 : (y 0).val < 256 := (y 0).isLt
      have h1 : (y 1).val < 1024 := (y 1).isLt
      simp
      omega
  blk_simp
  rw [after0_13]
  by_cases h0 : t.val % 16 = 0
  · rw [outsAt0_A m c t h0 (by omega)]
    frame_out
    exact key y
  by_cases h1 : t.val % 16 = 15
  · rw [outsAt0_C m c t h0 h1]
    frame_out
    exact key y
  · rw [outsAt0_B m c t h0 h1]
    frame_out
    exact key y
set_option maxHeartbeats 4000000 in
theorem final_dc (c : Dev nD) (H : Real m c) : (dats m 0 c).arrAt 15 (cfgs 0).N = GDc m c := by
  refine (dats m 0 c).arrAt_eq_of_covers 15 _ (by decide +kernel) fun t _ y => ?_
  have e : ∀ y : S4x2x256.Idx, GDc m c ((win0_15.blk t).view.emb y) = GDc m c (ix3 (y 0) (y 1) (row t (y 2))) := fun y => by
    idx_vars y
    blk_ext [idx t, row]
  have key : ∀ y : S4x2x256.Idx, (View.canon (Val := Elt Ideal) (s := S4x2x256) (e := .f32) [⟨Rect.unit ![3, 1, 0] ![1, 1, 256] inb_S4x2x256_S1x1x256_3_1_0, k0_pay2 (k0_pay107 (k0_pay80 (F := Ideal) (iblk m c 2 t) (k0_pay38 (iblk m c 3 t)) (v119 m c t)) k0_pay81)⟩,
      ⟨Rect.unit ![3, 0, 0] ![1, 1, 256] inb_S4x2x256_S1x1x256_3_0_0, k0_pay1 (k0_pay108 (k0_pay80 (F := Ideal) (iblk m c 2 t) (k0_pay38 (iblk m c 3 t)) (v119 m c t)) k0_pay81)⟩,
      ⟨Rect.unit ![2, 1, 0] ![1, 1, 256] inb_S4x2x256_S1x1x256_2_1_0, k0_pay103 (k0_pay100 (k0_pay80 (F := Ideal) (iblk m c 2 t) (k0_pay38 (iblk m c 3 t)) (v119 m c t)) k0_pay81)⟩,
      ⟨Rect.unit ![2, 0, 0] ![1, 1, 256] inb_S4x2x256_S1x1x256_2_0_0, k0_pay102 (k0_pay100 (k0_pay80 (F := Ideal) (iblk m c 2 t) (k0_pay38 (iblk m c 3 t)) (v119 m c t)) k0_pay81)⟩,
      ⟨Rect.unit ![1, 1, 0] ![1, 1, 256] inb_S4x2x256_S1x1x256_1_1_0, k0_pay96 k0_pay81 (k0_pay92 (k0_pay80 (F := Ideal) (iblk m c 2 t) (k0_pay38 (iblk m c 3 t)) (v119 m c t)) k0_pay81) (k0_pay93 (k0_pay80 (F := Ideal) (iblk m c 2 t) (k0_pay38 (iblk m c 3 t)) (v119 m c t)) k0_pay81)⟩,
      ⟨Rect.unit ![1, 0, 0] ![1, 1, 256] inb_S4x2x256_S1x1x256_1_0_0, k0_pay95 k0_pay81 (k0_pay92 (k0_pay80 (F := Ideal) (iblk m c 2 t) (k0_pay38 (iblk m c 3 t)) (v119 m c t)) k0_pay81) (k0_pay93 (k0_pay80 (F := Ideal) (iblk m c 2 t) (k0_pay38 (iblk m c 3 t)) (v119 m c t)) k0_pay81)⟩,
      ⟨Rect.unit ![0, 1, 0] ![1, 1, 256] inb_S4x2x256_S1x1x256_0_1_0, k0_pay87 k0_pay81 (k0_pay83 (iblk m c 2 t) (k0_pay38 (iblk m c 3 t)) (v119 m c t)) (k0_pay84 (iblk m c 2 t) (k0_pay38 (iblk m c 3 t)) (v119 m c t))⟩,
      ⟨Rect.unit ![0, 0, 0] ![1, 1, 256] inb_S4x2x256_S1x1x256_0_0_0, k0_pay86 k0_pay81 (k0_pay83 (iblk m c 2 t) (k0_pay38 (iblk m c 3 t)) (v119 m c t)) (k0_pay84 (iblk m c 2 t) (k0_pay38 (iblk m c 3 t)) (v119 m c t))⟩] : FVec Ideal S4x2x256 .f32) y = GDc m c ((win0_15.blk t).view.emb y) := fun y => by
    rw [e]
    refine View.canon_append_of_piecesOf (Val := Elt Ideal) (s := S4x2x256) (e := .f32) (fun y => GDc m c (ix3 (y 0) (y 1) (row t (y 2)))) [] [_, _, _, _, _, _, _, _] ?_ y ?_
    · refine ⟨fun x => ?_, fun x => ?_, fun x => ?_, fun x => ?_, fun x => ?_, fun x => ?_, fun x => ?_, fun x => ?_, trivial⟩
      · refine piece3 (A := 4) (B := 2) (C := 256) (i := 3) (b := 1) (q := 1) (k0_pay2 (k0_pay107 (k0_pay80 (F := Ideal) (iblk m c 2 t) (k0_pay38 (iblk m c 3 t)) (v119 m c t)) k0_pay81)) inb_S4x2x256_S1x1x256_3_1_0 (fun i b r => GDc m c (ix3 i b (row t r))) (fun k r => ?_) x
        obtain rfl : k = 0 := Subsingleton.elim _ _
        exact (k_c7 _ r).trans (dc_point m c H t 3 1 448 rfl _ r)
      · refine piece3 (A := 4) (B := 2) (C := 256) (i := 3) (b := 0) (q := 1) (k0_pay1 (k0_pay108 (k0_pay80 (F := Ideal) (iblk m c 2 t) (k0_pay38 (iblk m c 3 t)) (v119 m c t)) k0_pay81)) inb_S4x2x256_S1x1x256_3_0_0 (fun i b r => GDc m c (ix3 i b (row t r))) (fun k r => ?_) x
        obtain rfl : k = 0 := Subsingleton.elim _ _
        exact (k_c6 _ r).trans (dc_point m c H t 3 0 384 rfl _ r)
      · refine piece3 (A := 4) (B := 2) (C := 256) (i := 2) (b := 1) (q := 1) (k0_pay103 (F := Ideal) (k0_pay100 (k0_pay80 (F := Ideal) (iblk m c 2 t) (k0_pay38 (iblk m c 3 t)) (v119 m c t)) k0_pay81)) inb_S4x2x256_S1x1x256_2_1_0 (fun i b r => GDc m c (ix3 i b (row t r))) (fun k r => ?_) x
        obtain rfl : k = 0 := Subsingleton.elim _ _
        exact (k_c5 _ r).trans (dc_point m c H t 2 1 320 rfl _ r)
      · refine piece3 (A := 4) (B := 2) (C := 256) (i := 2) (b := 0) (q := 1) (k0_pay102 (F := Ideal) (k0_pay100 (k0_pay80 (F := Ideal) (iblk m c 2 t) (k0_pay38 (iblk m c 3 t)) (v119 m c t)) k0_pay81)) inb_S4x2x256_S1x1x256_2_0_0 (fun i b r => GDc m c (ix3 i b (row t r))) (fun k r => ?_) x
        obtain rfl : k = 0 := Subsingleton.elim _ _
        exact (k_c4 _ r).trans (dc_point m c H t 2 0 256 rfl _ r)
      · refine piece3 (A := 4) (B := 2) (C := 256) (i := 1) (b := 1) (q := 1) (k0_pay96 _ _ _) inb_S4x2x256_S1x1x256_1_1_0 (fun i b r => GDc m c (ix3 i b (row t r))) (fun k r => ?_) x
        obtain rfl : k = 0 := Subsingleton.elim _ _
        exact (k_c3 _ r).trans (dc_point m c H t 1 1 192 rfl _ r)
      · refine piece3 (A := 4) (B := 2) (C := 256) (i := 1) (b := 0) (q := 1) (k0_pay95 _ _ _) inb_S4x2x256_S1x1x256_1_0_0 (fun i b r => GDc m c (ix3 i b (row t r))) (fun k r => ?_) x
        obtain rfl : k = 0 := Subsingleton.elim _ _
        exact (k_c2 _ r).trans (dc_point m c H t 1 0 128 rfl _ r)
      · refine piece3 (A := 4) (B := 2) (C := 256) (i := 0) (b := 1) (q := 1) (k0_pay87 _ _ _) inb_S4x2x256_S1x1x256_0_1_0 (fun i b r => GDc m c (ix3 i b (row t r))) (fun k r => ?_) x
        obtain rfl : k = 0 := Subsingleton.elim _ _
        exact (k_c1 _ _ _ r).trans (dc_point m c H t 0 1 64 rfl _ r)
      · refine piece3 (A := 4) (B := 2) (C := 256) (i := 0) (b := 0) (q := 1) (k0_pay86 _ _ _) inb_S4x2x256_S1x1x256_0_0_0 (fun i b r => GDc m c (ix3 i b (row t r))) (fun k r => ?_) x
        obtain rfl : k = 0 := Subsingleton.elim _ _
        exact (k_c0 _ _ _ r).trans (dc_point m c H t 0 0 0 rfl _ r)
    · simp only [List.mem_cons, List.not_mem_nil, or_false, exists_eq_or_imp, exists_eq_left, Rect.mem_set_unit]
      have h0 : (y 0).val < 4 := (y 0).isLt
      have h1 : (y 1).val < 2 := (y 1).isLt
      have h2 : (y 2).val < 256 := (y 2).isLt
      simp [Fin.forall_fin_succ]
      omega
  blk_simp
  rw [after0_15]
  by_cases h0 : t.val % 16 = 0
  · rw [outsAt0_A m c t h0 (by omega)]
    frame_out
    exact key y
  by_cases h1 : t.val % 16 = 15
  · rw [outsAt0_C m c t h0 h1]
    frame_out
    exact key y
  · rw [outsAt0_B m c t h0 h1]
    frame_out
    exact key y
end Final
end Cert.TailV
end
-- ==== Proof.TailLast.lean ====
/- What the kernel's last grid point leaves: the loss and the weights' gradients, against the reference's. -/
module

public import proofs.«01_k».proof.Proof.TailFin

@[expose] public section

set_option maxRecDepth 16384

noncomputable section

open Idealize.ShloMosaic Idealize.ShloMosaic.TcCoe Idealize.SL.Sem
open scoped BigOperators

namespace Cert.TailV
open Cert.TailIdeal Cert.TailIdeal.Gen Cert.Lift

variable (m : (ℓ : Loc nD τ sig) → Buf (Elt Ideal) ℓ)

section Final

theorem final_loss (c : Dev nD) (H : Real m c) : (dats m 0 c).arrAt 10 (cfgs 0).N = GLoss m c := by
  refine (dats m 0 c).arrAt_eq_of_covers 10 _ (by decide +kernel) fun t hf y => ?_
  have ht : t.val = 15 := (by decide +kernel : ∀ t : Fin grid0.N, (cfg0.win 10).flush t = true → t.val = 15) t hf
  have key : ∀ y : S8x128.Idx, ((outsAt0 m c t.val t.isLt).1 : FVec Ideal S8x128 .f32) y = GLoss m c ((win0_10.blk t).view.emb y) := fun y => by
    idx_vars y
    refine ((last_loss m c t (by rw [ht]; rfl) H y0 y1).trans ((half_mul_sum _ (err_real m c H)).trans (out_loss (X0 m c) (X1 m c) (X2 m c) (X3 m c) (X4 m c) (X5 m c) (X6 m c) (X7 m c) (X8 m c) (X9 m c) y0 y1).symm)).trans ?_
    blk_ext [idx t]
  blk_simp
  rw [after0_10]
  exact key y
theorem final_nf (c : Dev nD) : (dats m 0 c).arrAt 20 (cfgs 0).N = GNf m c := by
  refine (dats m 0 c).arrAt_eq_of_covers 20 _ (by decide +kernel) fun t hf y => ?_
  have ht : t.val = 15 := (by decide +kernel : ∀ t : Fin grid0.N, (cfg0.win 20).flush t = true → t.val = 15) t hf
  have key : ∀ y : S1x1024.Idx, ((outsAt0 m c t.val t.isLt).2.2.2.2.2.2.2.2.2.2.1 : FVec Ideal S1x1024 .f32) y = GNf m c ((win0_20.blk t).view.emb y) := fun y => by
    idx_vars y
    obtain rfl : y0 = 0 := Subsingleton.elim _ _
    refine ((last_nf m c t (by rw [ht]; rfl) y1).trans (out_nf (X0 m c) (X1 m c) (X2 m c) (X3 m c) (X4 m c) (X5 m c) (X6 m c) (X7 m c) (X8 m c) (X9 m c) y1).symm).trans ?_
    blk_ext [idx t]
  blk_simp
  rw [after0_20]
  exact key y

set_option maxHeartbeats 4000000 in
/-- What the last grid point stores is its running sum, cut up. -/
theorem wo_cut (c : Dev nD) (t : Fin cfg0.N) (ht : t.val = 15) (y : S8x128x1024.Idx) :
    ((outsAt0 m c t.val t.isLt).2.2.2.2.2.2.2.1 : FVec Ideal S8x128x1024 .bf16) y = ((outsAt0 m c t.val t.isLt).2.2.2.2.2.2.2.2.2.2.2.1 : FVec Ideal S1024x1024 .f32) (ix2 ⟨(y 0).val * 128 + (y 1).val, by have h0 : (y 0).val < 8 := (y 0).isLt; have h1 : (y 1).val < 128 := (y 1).isLt; omega⟩ (y 2)) := by
  rw [outsAt0_C m c t (by omega) (by omega)]
  frame_out
  generalize k0_pay72 (F := Ideal) _ _ _ _ _ _ = S
  refine View.canon_append_of_piecesOf (Val := Elt Ideal) (s := S8x128x1024) (e := .bf16) (fun y => S (ix2 ⟨(y 0).val * 128 + (y 1).val, by have h0 : (y 0).val < 8 := (y 0).isLt; have h1 : (y 1).val < 128 := (y 1).isLt; omega⟩ (y 2))) [] [_, _, _, _, _, _, _, _] ?_ y ?_
  · refine ⟨fun x => ?_, fun x => ?_, fun x => ?_, fun x => ?_, fun x => ?_, fun x => ?_, fun x => ?_, fun x => ?_, trivial⟩
    · exact part_o (View.whole cc0_scratch0) S 7 896 rfl (fun w => k0_pay5 (k0_pay31 w)) (fun w i l => by pointwise [k0_pay5, k0_pay31]) inb_S8x128x1024_S1x128x1024_7_0_0 inb_S1024x1024_S128x1024_896_0 x
    · exact part_o (View.whole cc0_scratch0) S 6 768 rfl (fun w => k0_pay28 w) (fun w i l => by pointwise [k0_pay28]) inb_S8x128x1024_S1x128x1024_6_0_0 inb_S1024x1024_S128x1024_768_0 x
    · exact part_o (View.whole cc0_scratch0) S 5 640 rfl (fun w => k0_pay24 w) (fun w i l => by pointwise [k0_pay24]) inb_S8x128x1024_S1x128x1024_5_0_0 inb_S1024x1024_S128x1024_640_0 x
    · exact part_o (View.whole cc0_scratch0) S 4 512 rfl (fun w => k0_pay21 w) (fun w i l => by pointwise [k0_pay21]) inb_S8x128x1024_S1x128x1024_4_0_0 inb_S1024x1024_S128x1024_512_0 x
    · exact part_o (View.whole cc0_scratch0) S 3 384 rfl (fun w => k0_pay18 w) (fun w i l => by pointwise [k0_pay18]) inb_S8x128x1024_S1x128x1024_3_0_0 inb_S1024x1024_S128x1024_384_0 x
    · exact part_o (View.whole cc0_scratch0) S 2 256 rfl (fun w => k0_pay15 w) (fun w i l => by pointwise [k0_pay15]) inb_S8x128x1024_S1x128x1024_2_0_0 inb_S1024x1024_S128x1024_256_0 x
    · exact part_o (View.whole cc0_scratch0) S 1 128 rfl (fun w => k0_pay11 w) (fun w i l => by pointwise [k0_pay11]) inb_S8x128x1024_S1x128x1024_1_0_0 inb_S1024x1024_S128x1024_128_0 x
    · exact part_o (View.whole cc0_scratch0) S 0 0 rfl (fun w => k0_pay8 w) (fun w i l => by pointwise [k0_pay8]) inb_S8x128x1024_S1x128x1024_0_0_0 inb_S1024x1024_S128x1024_0_0 x
  · simp only [List.mem_cons, List.not_mem_nil, or_false, exists_eq_or_imp, exists_eq_left, Rect.mem_set_unit]
    have h0 : (y 0).val < 8 := (y 0).isLt
    have h1 : (y 1).val < 128 := (y 1).isLt
    have h2 : (y 2).val < 1024 := (y 2).isLt
    simp [Fin.forall_fin_succ]
    omega
theorem final_wo (c : Dev nD) (H : Real m c) : (dats m 0 c).arrAt 17 (cfgs 0).N = GWo m c := by
  refine (dats m 0 c).arrAt_eq_of_covers 17 _ (by decide +kernel) fun t hf y => ?_
  have ht : t.val = 15 := (by decide +kernel : ∀ t : Fin grid0.N, (cfg0.win 17).flush t = true → t.val = 15) t hf
  have key : ∀ y : S8x128x1024.Idx, ((outsAt0 m c t.val t.isLt).2.2.2.2.2.2.2.1 : FVec Ideal S8x128x1024 .bf16) y = GWo m c ((win0_17.blk t).view.emb y) := fun y => by
    refine (wo_cut m c t ht y).trans ((last_wo m c t (by rw [ht]; rfl) _ _).trans ?_)
    idx_vars y
    refine (out_wo (X0 m c) (X1 m c) (X2 m c) (X3 m c) (X4 m c) (X5 m c) (X6 m c) (X7 m c) (X8 m c) (X9 m c) H y0 y1 y2).symm.trans ?_
    blk_ext [idx t]
  blk_simp
  rw [after0_17]
  exact key y

set_option maxHeartbeats 4000000 in
/-- What the last grid point stores is its running sum, cut up. -/
theorem wa_cut (c : Dev nD) (t : Fin cfg0.N) (ht : t.val = 15) (y : S8x512x128.Idx) :
    ((outsAt0 m c t.val t.isLt).2.2.2.2.2.2.2.2.1 : FVec Ideal S8x512x128 .bf16) y = ((outsAt0 m c t.val t.isLt).2.2.2.2.2.2.2.2.2.2.2.2.1 : FVec Ideal S512x1024 .f32) (ix2 (y 1) (col (y 0) (y 2))) := by
  rw [outsAt0_C m c t (by omega) (by omega)]
  frame_out
  generalize k0_pay74 (F := Ideal) _ = S
  refine View.canon_append_of_piecesOf (Val := Elt Ideal) (s := S8x512x128) (e := .bf16) (fun y => S (ix2 (y 1) (col (y 0) (y 2)))) [] [_, _, _, _, _, _, _, _] ?_ y ?_
  · refine ⟨fun x => ?_, fun x => ?_, fun x => ?_, fun x => ?_, fun x => ?_, fun x => ?_, fun x => ?_, fun x => ?_, trivial⟩
    · exact part_c (View.whole cc0_scratch1) S 7 896 rfl (fun w => k0_pay6 w) (fun w i l => by pointwise [k0_pay6]) inb_S8x512x128_S1x512x128_7_0_0 inb_S512x1024_S512x128_0_896 x
    · exact part_c (View.whole cc0_scratch1) S 6 768 rfl (fun w => k0_pay29 w) (fun w i l => by pointwise [k0_pay29]) inb_S8x512x128_S1x512x128_6_0_0 inb_S512x1024_S512x128_0_768 x
    · exact part_c (View.whole cc0_scratch1) S 5 640 rfl (fun w => k0_pay26 (k0_pay25 w)) (fun w i l => by pointwise [k0_pay26, k0_pay25]) inb_S8x512x128_S1x512x128_5_0_0 inb_S512x1024_S512x128_0_640 x
    · exact part_c (View.whole cc0_scratch1) S 4 512 rfl (fun w => k0_pay22 w) (fun w i l => by pointwise [k0_pay22]) inb_S8x512x128_S1x512x128_4_0_0 inb_S512x1024_S512x128_0_512 x
    · exact part_c (View.whole cc0_scratch1) S 3 384 rfl (fun w => k0_pay19 w) (fun w i l => by pointwise [k0_pay19]) inb_S8x512x128_S1x512x128_3_0_0 inb_S512x1024_S512x128_0_384 x
    · exact part_c (View.whole cc0_scratch1) S 2 256 rfl (fun w => k0_pay16 w) (fun w i l => by pointwise [k0_pay16]) inb_S8x512x128_S1x512x128_2_0_0 inb_S512x1024_S512x128_0_256 x
    · exact part_c (View.whole cc0_scratch1) S 1 128 rfl (fun w => k0_pay12 w) (fun w i l => by pointwise [k0_pay12]) inb_S8x512x128_S1x512x128_1_0_0 inb_S512x1024_S512x128_0_128 x
    · exact part_c (View.whole cc0_scratch1) S 0 0 rfl (fun w => k0_pay9 w) (fun w i l => by pointwise [k0_pay9]) inb_S8x512x128_S1x512x128_0_0_0 inb_S512x1024_S512x128_0_0 x
  · simp only [List.mem_cons, List.not_mem_nil, or_false, exists_eq_or_imp, exists_eq_left, Rect.mem_set_unit]
    have h0 : (y 0).val < 8 := (y 0).isLt
    have h1 : (y 1).val < 512 := (y 1).isLt
    have h2 : (y 2).val < 128 := (y 2).isLt
    simp [Fin.forall_fin_succ]
    omega
theorem final_wa (c : Dev nD) (H : Real m c) : (dats m 0 c).arrAt 18 (cfgs 0).N = GWa m c := by
  refine (dats m 0 c).arrAt_eq_of_covers 18 _ (by decide +kernel) fun t hf y => ?_
  have ht : t.val = 15 := (by decide +kernel : ∀ t : Fin grid0.N, (cfg0.win 18).flush t = true → t.val = 15) t hf
  have key : ∀ y : S8x512x128.Idx, ((outsAt0 m c t.val t.isLt).2.2.2.2.2.2.2.2.1 : FVec Ideal S8x512x128 .bf16) y = GWa m c ((win0_18.blk t).view.emb y) := fun y => by
    refine (wa_cut m c t ht y).trans ((last_wa m c t (by rw [ht]; rfl) _ _).trans ?_)
    idx_vars y
    refine (out_wa (X0 m c) (X1 m c) (X2 m c) (X3 m c) (X4 m c) (X5 m c) (X6 m c) (X7 m c) (X8 m c) (X9 m c) H y0 y1 y2).symm.trans ?_
    blk_ext [idx t]
  blk_simp
  rw [after0_18]
  exact key y

set_option maxHeartbeats 4000000 in
/-- What the last grid point stores is its running sum, cut up. -/
theorem wp_cut (c : Dev nD) (t : Fin cfg0.N) (ht : t.val = 15) (y : S8x512x128.Idx) :
    ((outsAt0 m c t.val t.isLt).2.2.2.2.2.2.2.2.2.1 : FVec Ideal S8x512x128 .bf16) y = ((outsAt0 m c t.val t.isLt).2.2.2.2.2.2.2.2.2.2.2.2.2 : FVec Ideal S512x1024 .f32) (ix2 (y 1) (col (y 0) (y 2))) := by
  rw [outsAt0_C m c t (by omega) (by omega)]
  frame_out
  generalize k0_pay75 (F := Ideal) _ _ _ = S
  refine View.canon_append_of_piecesOf (Val := Elt Ideal) (s := S8x512x128) (e := .bf16) (fun y => S (ix2 (y 1) (col (y 0) (y 2)))) [] [_, _, _, _, _, _, _, _] ?_ y ?_
  · refine ⟨fun x => ?_, fun x => ?_, fun x => ?_, fun x => ?_, fun x => ?_, fun x => ?_, fun x => ?_, fun x => ?_, trivial⟩
    · exact part_c (View.whole cc0_scratch2) S 7 896 rfl (fun w => k0_pay7 w) (fun w i l => by pointwise [k0_pay7]) inb_S8x512x128_S1x512x128_7_0_0 inb_S512x1024_S512x128_0_896 x
    · exact part_c (View.whole cc0_scratch2) S 6 768 rfl (fun w => k0_pay30 w) (fun w i l => by pointwise [k0_pay30]) inb_S8x512x128_S1x512x128_6_0_0 inb_S512x1024_S512x128_0_768 x
    · exact part_c (View.whole cc0_scratch2) S 5 640 rfl (fun w => k0_pay27 w) (fun w i l => by pointwise [k0_pay27]) inb_S8x512x128_S1x512x128_5_0_0 inb_S512x1024_S512x128_0_640 x
    · exact part_c (View.whole cc0_scratch2) S 4 512 rfl (fun w => k0_pay23 w) (fun w i l => by pointwise [k0_pay23]) inb_S8x512x128_S1x512x128_4_0_0 inb_S512x1024_S512x128_0_512 x
    · exact part_c (View.whole cc0_scratch2) S 3 384 rfl (fun w => k0_pay20 w) (fun w i l => by pointwise [k0_pay20]) inb_S8x512x128_S1x512x128_3_0_0 inb_S512x1024_S512x128_0_384 x
    · exact part_c (View.whole cc0_scratch2) S 2 256 rfl (fun w => k0_pay17 w) (fun w i l => by pointwise [k0_pay17]) inb_S8x512x128_S1x512x128_2_0_0 inb_S512x1024_S512x128_0_256 x
    · exact part_c (View.whole cc0_scratch2) S 1 128 rfl (fun w => k0_pay14 (k0_pay13 w)) (fun w i l => by pointwise [k0_pay14, k0_pay13]) inb_S8x512x128_S1x512x128_1_0_0 inb_S512x1024_S512x128_0_128 x
    · exact part_c (View.whole cc0_scratch2) S 0 0 rfl (fun w => k0_pay10 w) (fun w i l => by pointwise [k0_pay10]) inb_S8x512x128_S1x512x128_0_0_0 inb_S512x1024_S512x128_0_0 x
  · simp only [List.mem_cons, List.not_mem_nil, or_false, exists_eq_or_imp, exists_eq_left, Rect.mem_set_unit]
    have h0 : (y 0).val < 8 := (y 0).isLt
    have h1 : (y 1).val < 512 := (y 1).isLt
    have h2 : (y 2).val < 128 := (y 2).isLt
    simp [Fin.forall_fin_succ]
    omega
theorem final_wp (c : Dev nD) (H : Real m c) : (dats m 0 c).arrAt 19 (cfgs 0).N = GWp m c := by
  refine (dats m 0 c).arrAt_eq_of_covers 19 _ (by decide +kernel) fun t hf y => ?_
  have ht : t.val = 15 := (by decide +kernel : ∀ t : Fin grid0.N, (cfg0.win 19).flush t = true → t.val = 15) t hf
  have key : ∀ y : S8x512x128.Idx, ((outsAt0 m c t.val t.isLt).2.2.2.2.2.2.2.2.2.1 : FVec Ideal S8x512x128 .bf16) y = GWp m c ((win0_19.blk t).view.emb y) := fun y => by
    refine (wp_cut m c t ht y).trans ((last_wp m c t (by rw [ht]; rfl) _ _).trans ?_)
    idx_vars y
    refine (out_wp (X0 m c) (X1 m c) (X2 m c) (X3 m c) (X4 m c) (X5 m c) (X6 m c) (X7 m c) (X8 m c) (X9 m c) H y0 y1 y2).symm.trans ?_
    blk_ext [idx t]
  blk_simp
  rw [after0_19]
  exact key y
end Final
end Cert.TailV
end
-- ==== Proof.TailClaim.lean ====
/- The claim on the merge and the loss: finite arguments give both programs the same eleven results. -/
module

public import proofs.«01_k».proof.Defs
public import proofs.«01_k».proof.Proof.PoolClaim
public import proofs.«01_k».proof.Proof.TailPack
public import proofs.«01_k».proof.Proof.TailLast
public import proofs.«01_k».proof.Proof.Gen.TailRefIdeal.Run
public import proofs.«01_k».proof.Proof.Gen.Pre_tail_finite
public import Idealize.ShloMosaic.Lib.Claim

@[expose] public section

set_option maxRecDepth 65536

noncomputable section

open Idealize.ShloMosaic Idealize.ShloMosaic.TcCoe Idealize.SL.Sem
open Cert.Lift

namespace Cert.TailV

open Cert.TailIdeal Cert.TailIdeal.Gen

set_option maxHeartbeats 4000000 in
theorem algebraic : Cert.algebraic_TailIdeal_TailRefIdeal_pre_tail_finite := by
  intro m g m' g' hpre hagree
  refine ⟨fun c => (dats m 0 c).arrAt 10 (cfgs 0).N, fun c => (dats m 0 c).arrAt 11 (cfgs 0).N, fun c => (dats m 0 c).arrAt 12 (cfgs 0).N, fun c => (dats m 0 c).arrAt 13 (cfgs 0).N, fun c => (dats m 0 c).arrAt 14 (cfgs 0).N, fun c => (dats m 0 c).arrAt 15 (cfgs 0).N, fun c => (dats m 0 c).arrAt 16 (cfgs 0).N, fun c => (dats m 0 c).arrAt 17 (cfgs 0).N, fun c => (dats m 0 c).arrAt 18 (cfgs 0).N, fun c => (dats m 0 c).arrAt 19 (cfgs 0).N, fun c => (dats m 0 c).arrAt 20 (cfgs 0).N, ?_, ?_⟩
  · run_from Cert.TailIdeal.Gen.run_main m g
    · exact hc.1 16
    · exact hc.1 17
    · exact hc.1 18
    · exact hc.1 19
    · exact hc.1 20
  · refine (θ_run _ _ _).mono (fun r h c => ?_) (Cert.TailRefIdeal.Value.run m' g')
    obtain ⟨a0, a1, a2, a3, a4, a5, a6, a7, a8, a9⟩ := hagree c
    obtain ⟨p0, p1, p2, p3, p4, p5, p6, p7, p8, p9⟩ := hpre c
    have h0 := Pool.r_of (isReal_of_olt _ lit_inf _ _ p0)
    have h1 := Pool.r_of (isReal_of_olt _ lit_inf _ _ p1)
    have h2 := Pool.r_of (isReal_of_olt _ lit_inf _ _ p2)
    have h3 := Pool.r_of (isReal_of_olt _ lit_inf _ _ p3)
    have h4 := Pool.r_of (isReal_of_olt _ lit_inf16 _ _ p4)
    have h5 := Pool.r_of (isReal_of_olt _ lit_inf _ _ p5)
    have h6 := Pool.r_of (isReal_of_olt _ lit_inf _ _ p6)
    have h7 := Pool.r_of (isReal_of_olt _ lit_inf _ _ p7)
    have h8 := Pool.r_of (isReal_of_olt _ lit_inf _ _ p8)
    have h9 := Pool.r_of (isReal_of_olt _ lit_inf _ _ p9)
    have H : Real m c := fun a => ⟨fun i => h0 _, fun i => h1 _, fun i => h2 _, fun i => h3 _, fun i => h4 _, fun i => h5 _, fun i j => h6 _, fun i j => h7 _, fun i j => h8 _, fun i => h9 _⟩
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩
    · refine (Cert.TailRefIdeal.Read.val_main_v105_eq _).trans (Eq.trans ?_ (final_loss m c H).symm)
      congr 1
    · refine (Cert.TailRefIdeal.Read.val_main_v106_eq _).trans (Eq.trans ?_ (final_dh m c H).symm)
      congr 1
    · refine (Cert.TailRefIdeal.Read.val_main_v108_eq _).trans (Eq.trans ?_ (final_dgm m c H).symm)
      congr 1
    · refine (Cert.TailRefIdeal.Read.val_main_v109_eq _).trans (Eq.trans ?_ (final_do m c H).symm)
      congr 1
    · refine (Cert.TailRefIdeal.Read.val_main_v111_eq _).trans (Eq.trans ?_ (final_dga m c H).symm)
      congr 1
    · refine (Cert.TailRefIdeal.Read.val_main_v113_eq _).trans (Eq.trans ?_ (final_dc m c H).symm)
      congr 1
    · refine (Cert.TailRefIdeal.Read.val_main_v114_eq _).trans (Eq.trans ?_ (final_dyp m c H).symm)
      congr 1
    · refine (Cert.TailRefIdeal.Read.val_main_v116_eq _).trans (Eq.trans ?_ (final_wo m c H).symm)
      congr 1
    · refine (Cert.TailRefIdeal.Read.val_main_v119_eq _).trans (Eq.trans ?_ (final_wa m c H).symm)
      congr 1
    · refine (Cert.TailRefIdeal.Read.val_main_v122_eq _).trans (Eq.trans ?_ (final_wp m c H).symm)
      congr 1
    · refine (Cert.TailRefIdeal.Read.val_main_v123_eq _).trans (Eq.trans ?_ (final_nf m c).symm)
      congr 1

end Cert.TailV
end
-- ==== Proof.lean ====
/- The claims of the certificate: each program's frame, and the results of each pair of programs. -/
module

public import proofs.«01_k».proof.Defs
public import Idealize.ShloMosaic.Lib.Quiescent
public import proofs.«01_k».proof.Proof.Gen.InxBwd.Frame
public import proofs.«01_k».proof.Proof.Gen.InxBwdIdeal.Frame
public import proofs.«01_k».proof.Proof.Gen.InxBwdIdeal.Value
public import proofs.«01_k».proof.Proof.Gen.InxRefIdeal.Run
public import proofs.«01_k».proof.Proof.Gen.InxRefIdeal.Read
public import proofs.«01_k».proof.Proof.Gen.Pre_inx_finite
public import proofs.«01_k».proof.Proof.InxClaim
public import proofs.«01_k».proof.Proof.AttnFrame
public import proofs.«01_k».proof.Proof.AttnFrameIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.AttnClaim
public import proofs.«01_k».proof.Proof.Gen.MlaBwd.Frame
public import proofs.«01_k».proof.Proof.Gen.MlaBwdIdeal.Frame
public import proofs.«01_k».proof.Proof.Gen.MlaBwdIdeal.Value
public import proofs.«01_k».proof.Proof.Gen.MlaRefIdeal.Run
public import proofs.«01_k».proof.Proof.Gen.MlaRefIdeal.Read
public import proofs.«01_k».proof.Proof.Gen.Pre_mla_finite
public import proofs.«01_k».proof.Proof.MlaClaim
public import proofs.«01_k».proof.Proof.Gen.PoolBwd.Frame
public import proofs.«01_k».proof.Proof.Gen.PoolBwdIdeal.Frame
public import proofs.«01_k».proof.Proof.Gen.PoolBwdIdeal.Value
public import proofs.«01_k».proof.Proof.Gen.PoolRefIdeal.Run
public import proofs.«01_k».proof.Proof.Gen.PoolRefIdeal.Read
public import proofs.«01_k».proof.Proof.Gen.Pre_pool_finite
public import proofs.«01_k».proof.Proof.PoolClaim
public import proofs.«01_k».proof.Proof.Gen.Tail.Frame
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import proofs.«01_k».proof.Proof.Gen.Pre_tail_finite
public import proofs.«01_k».proof.Proof.TailClaim

@[expose] public section

noncomputable section

namespace Cert.Proof

open Idealize.ShloMosaic Idealize.SL.Sem

theorem inx_ref_frame : Cert.quiescent_InxRefIdeal := fun m g _ =>
  (θ_run _ _ _).mono (fun r h => ⟨fun c => (h c).2.2, sem_eq_zero_of_no_sems (by decide) _⟩) (Cert.InxRefIdeal.Value.run m g)

theorem attn_ref_frame : Cert.quiescent_AttnRefIdeal := fun m g _ =>
  (θ_run _ _ _).mono (fun r h => ⟨fun c => (h c).2.2.2, sem_eq_zero_of_no_sems (by decide) _⟩) (Cert.AttnRefIdeal.Value.run m g)

theorem mla_ref_frame : Cert.quiescent_MlaRefIdeal := fun m g _ =>
  (θ_run _ _ _).mono (fun r h => ⟨fun c => (h c).2.2.2.2.2, sem_eq_zero_of_no_sems (by decide) _⟩) (Cert.MlaRefIdeal.Value.run m g)

theorem pool_ref_frame : Cert.quiescent_PoolRefIdeal := fun m g _ =>
  (θ_run _ _ _).mono (fun r h => ⟨fun c => (h c).2.2.2.2, sem_eq_zero_of_no_sems (by decide) _⟩) (Cert.PoolRefIdeal.Value.run m g)

theorem tail_ref_frame : Cert.quiescent_TailRefIdeal := fun m g _ =>
  (θ_run _ _ _).mono (fun r h => ⟨fun c => (h c).2.2.2.2.2.2.2.2.2.2.2, sem_eq_zero_of_no_sems (by decide) _⟩) (Cert.TailRefIdeal.Value.run m g)

theorem claim : Cert.Claim :=
  ⟨Cert.InxBwd.Gen.facts,
   Cert.InxBwdIdeal.Gen.facts,
   Cert.InxRefIdeal.Gen.facts,
   Cert.AttnBwd.Gen.facts,
   Cert.AttnBwdIdeal.Gen.facts,
   Cert.AttnRefIdeal.Gen.facts,
   Cert.MlaBwd.Gen.facts,
   Cert.MlaBwdIdeal.Gen.facts,
   Cert.MlaRefIdeal.Gen.facts,
   Cert.PoolBwd.Gen.facts,
   Cert.PoolBwdIdeal.Gen.facts,
   Cert.PoolRefIdeal.Gen.facts,
   Cert.Tail.Gen.facts,
   Cert.TailIdeal.Gen.facts,
   Cert.TailRefIdeal.Gen.facts,
   Cert.Pre_inx_finite.Gen.facts,
   Cert.Pre_attn_finite.Gen.facts,
   Cert.Pre_mla_finite.Gen.facts,
   Cert.Pre_pool_finite.Gen.facts,
   Cert.Pre_tail_finite.Gen.facts,
   fun m g _ => Cert.InxBwd.Gen.frame m g,
   fun m g _ => Cert.InxBwdIdeal.Gen.frame m g,
   fun m g _ => Cert.InxBwdIdeal.Gen.frame m g,
   inx_ref_frame,
   fun m g _ => inx_ref_frame m g trivial,
   fun m g _ => Cert.AttnBwd.Gen.frame m g,
   fun m g _ => Cert.AttnBwdIdeal.Gen.frame m g,
   fun m g _ => Cert.AttnBwdIdeal.Gen.frame m g,
   attn_ref_frame,
   fun m g _ => attn_ref_frame m g trivial,
   fun m g _ => Cert.MlaBwd.Gen.frame m g,
   fun m g _ => Cert.MlaBwdIdeal.Gen.frame m g,
   fun m g _ => Cert.MlaBwdIdeal.Gen.frame m g,
   mla_ref_frame,
   fun m g _ => mla_ref_frame m g trivial,
   fun m g _ => Cert.PoolBwd.Gen.frame m g,
   fun m g _ => Cert.PoolBwdIdeal.Gen.frame m g,
   fun m g _ => Cert.PoolBwdIdeal.Gen.frame m g,
   pool_ref_frame,
   fun m g _ => pool_ref_frame m g trivial,
   fun m g _ => Cert.Tail.Gen.frame m g,
   fun m g _ => Cert.TailIdeal.Gen.frame m g,
   fun m g _ => Cert.TailIdeal.Gen.frame m g,
   tail_ref_frame,
   fun m g _ => tail_ref_frame m g trivial,
   trivial,
   Cert.Inx.algebraic,
   IdealRules.named_const.statement Cert.AttnBwdIdeal.κ "ln2" .f32 0x3F317218#32 ((Real.log 2 : ℝ) : EReal) rfl,
   Cert.Attn.algebraic,
   trivial,
   Cert.Mla.algebraic,
   trivial,
   Cert.Pool.algebraic,
   trivial,
   Cert.TailV.algebraic⟩

end Cert.Proof

end
